-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_down_finite [hPre_down_finite : Cert.Pre_down_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_down_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_down_finite [hPre_down_finite : Cert.Pre_down_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_down_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_gate_norm_finite [hPre_gate_norm_finite : Cert.Pre_gate_norm_finite.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_gate_norm_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).1 = (fun _ => 1#1)
    ∧ (Cert.Pre_gate_norm_finite.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_gate_norm_finite [hPre_gate_norm_finite : Cert.Pre_gate_norm_finite.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_gate_norm_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).1 = (fun _ => 1#1)
    ∧ (Cert.Pre_gate_norm_finite.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_gates_finite [hPre_gates_finite : Cert.Pre_gates_finite.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_gates_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).1 = (fun _ => 1#1)
    ∧ (Cert.Pre_gates_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.1 = (fun _ => 1#1)
    ∧ (Cert.Pre_gates_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.1 = (fun _ => 1#1)
    ∧ (Cert.Pre_gates_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))).2.2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_gates_finite [hPre_gates_finite : Cert.Pre_gates_finite.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_gates_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).1 = (fun _ => 1#1)
    ∧ (Cert.Pre_gates_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).2.1 = (fun _ => 1#1)
    ∧ (Cert.Pre_gates_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).2.2.1 = (fun _ => 1#1)
    ∧ (Cert.Pre_gates_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_down_finite [hKernel2Ideal : Cert.Kernel2Ideal.Facts] [hPre_down_finite : Cert.Pre_down_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_down_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_down_finite [hReference2Ideal : Cert.Reference2Ideal.Facts] [hPre_down_finite : Cert.Pre_down_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_down_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_gate_norm_finite [hKernel19Ideal : Cert.Kernel19Ideal.Facts] [hPre_gate_norm_finite : Cert.Pre_gate_norm_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_gate_norm_finite m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_gate_norm_finite [hReference19Ideal : Cert.Reference19Ideal.Facts] [hPre_gate_norm_finite : Cert.Pre_gate_norm_finite.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_gate_norm_finite m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_gates_finite [hKernel20Ideal : Cert.Kernel20Ideal.Facts] [hPre_gates_finite : Cert.Pre_gates_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_gates_finite m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_gates_finite [hReference20Ideal : Cert.Reference20Ideal.Facts] [hPre_gates_finite : Cert.Pre_gates_finite.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_gates_finite m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_down_finite [hKernel2Ideal : Cert.Kernel2Ideal.Facts] [hReference2Ideal : Cert.Reference2Ideal.Facts] [hPre_down_finite : Cert.Pre_down_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_down_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v23) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v39) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v11) = v0 c
          ∧ r.2.mem ((c.tc : Thread Cert.Reference14Ideal.nD Cert.Reference14Ideal.τ).loc Cert.Reference14Ideal.main_v12) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_gate_norm_finite [hKernel19Ideal : Cert.Kernel19Ideal.Facts] [hReference19Ideal : Cert.Reference19Ideal.Facts] [hPre_gate_norm_finite : Cert.Pre_gate_norm_finite.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_gate_norm_finite m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v49) = v0 c
          ∧ r.2.mem ((c.tc : Thread Cert.Reference19Ideal.nD Cert.Reference19Ideal.τ).loc Cert.Reference19Ideal.main_v50) = v1 c
          ∧ r.2.mem ((c.tc : Thread Cert.Reference19Ideal.nD Cert.Reference19Ideal.τ).loc Cert.Reference19Ideal.main_v51) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_gates_finite [hKernel20Ideal : Cert.Kernel20Ideal.Facts] [hReference20Ideal : Cert.Reference20Ideal.Facts] [hPre_gates_finite : Cert.Pre_gates_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_gates_finite m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)) (v2 : (c : Dev Cert.Kernel20Ideal.nD) → Buf (Elt Ideal) ((c.tc : Thread Cert.Kernel20Ideal.nD Cert.Kernel20Ideal.τ).loc Cert.Kernel20Ideal.main_v2_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_v2_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v39) = v0 c
          ∧ r.2.mem ((c.tc : Thread Cert.Reference20Ideal.nD Cert.Reference20Ideal.τ).loc Cert.Reference20Ideal.main_v41) = v1 c
          ∧ r.2.mem ((c.tc : Thread Cert.Reference20Ideal.nD Cert.Reference20Ideal.τ).loc Cert.Reference20Ideal.main_v43) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hPre_down_finite : Cert.Pre_down_finite.Facts) (hPre_gate_norm_finite : Cert.Pre_gate_norm_finite.Facts) (hPre_gates_finite : Cert.Pre_gates_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_down_finite (hKernel2Ideal := hKernel2Ideal) (hPre_down_finite := hPre_down_finite)
    ∧ quiescent_Reference2Ideal (hReference2Ideal := hReference2Ideal)
    ∧ quiescent_Reference2Ideal_pre_down_finite (hReference2Ideal := hReference2Ideal) (hPre_down_finite := hPre_down_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_gate_norm_finite (hKernel19Ideal := hKernel19Ideal) (hPre_gate_norm_finite := hPre_gate_norm_finite)
    ∧ quiescent_Reference19Ideal (hReference19Ideal := hReference19Ideal)
    ∧ quiescent_Reference19Ideal_pre_gate_norm_finite (hReference19Ideal := hReference19Ideal) (hPre_gate_norm_finite := hPre_gate_norm_finite)
    ∧ quiescent_Kernel20 (hKernel20 := hKernel20)
    ∧ quiescent_Kernel20Ideal (hKernel20Ideal := hKernel20Ideal)
    ∧ quiescent_Kernel20Ideal_pre_gates_finite (hKernel20Ideal := hKernel20Ideal) (hPre_gates_finite := hPre_gates_finite)
    ∧ quiescent_Reference20Ideal (hReference20Ideal := hReference20Ideal)
    ∧ quiescent_Reference20Ideal_pre_gates_finite (hReference20Ideal := hReference20Ideal) (hPre_gates_finite := hPre_gates_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_down_finite (hKernel2Ideal := hKernel2Ideal) (hReference2Ideal := hReference2Ideal) (hPre_down_finite := hPre_down_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_gate_norm_finite (hKernel19Ideal := hKernel19Ideal) (hReference19Ideal := hReference19Ideal) (hPre_gate_norm_finite := hPre_gate_norm_finite)
    ∧ preserves_Kernel20_Kernel20Ideal
    ∧ algebraic_Kernel20Ideal_Reference20Ideal_pre_gates_finite (hKernel20Ideal := hKernel20Ideal) (hReference20Ideal := hReference20Ideal) (hPre_gates_finite := hPre_gates_finite)
-- ==== Pre_down_finite.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  bitsLt_bf16_f32 : FTy.bits .bf16 < FTy.bits .f32
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .f32) (main_arg1 : FVec F S5632x2048 .bf16) (main_arg2 : FVec F S4096x5632 .bf16) (main_arg3 : FVec F S4096x5632 .bf16) : IVec S4096x2048 1 × IVec S5632x2048 1 × IVec S4096x5632 1 × IVec S4096x5632 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S5632x2048 .f32 := (extf .f32 · bitsLt_bf16_f32) main_arg1
  let main_v4 : FVec F S5632x2048 .f32 := Host.absf main_v3
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_v7 : FVec F S4096x5632 .f32 := (extf .f32 · bitsLt_bf16_f32) main_arg2
  let main_v8 : FVec F S4096x5632 .f32 := Host.absf main_v7
  let main_cst_1 : FVec F S_ .f32 := constant S_ .f32 0x7F800000#32
  let main_v9 : FVec F S4096x5632 .f32 := broadcastInDim S4096x5632 ![] bcast_S_S4096x5632 main_cst_1
  let main_v10 : IVec S4096x5632 1 := cmpf .olt main_v8 main_v9
  let main_v11 : FVec F S4096x5632 .f32 := (extf .f32 · bitsLt_bf16_f32) main_arg3
  let main_v12 : FVec F S4096x5632 .f32 := Host.absf main_v11
  let main_cst_2 : FVec F S_ .f32 := constant S_ .f32 0x7F800000#32
  let main_v13 : FVec F S4096x5632 .f32 := broadcastInDim S4096x5632 ![] bcast_S_S4096x5632 main_cst_2
  let main_v14 : IVec S4096x5632 1 := cmpf .olt main_v12 main_v13
  (main_v2, main_v6, main_v10, main_v14)
-- ==== Pre_finite.lean ====
abbrev S4096x4096 : Shape := ⟨2, ![4096, 4096]⟩
abbrev S4096x2048 : Shape := ⟨2, ![4096, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩

class Facts : Prop where
  bcast_S_S4096x4096 : S_.BroadcastsInDim S4096x4096 (![] : Fin 0 → Fin S4096x4096.rank)
  bitsLt_bf16_f32 : FTy.bits .bf16 < FTy.bits .f32
  bcast_S_S4096x2048 : S_.BroadcastsInDim S4096x2048 (![] : Fin 0 → Fin S4096x2048.rank)
  bcast_S_S1x2048 : S_.BroadcastsInDim S1x2048 (![] : Fin 0 → Fin S1x2048.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn_part1 {F : FTy → Type} [FloatOps F] (main_v2 : IVec S4096x4096 1) (main_v6 : IVec S4096x2048 1) (main_v9 : IVec S1x2048 1) (main_v12 : IVec S1x2048 1) (main_v15 : IVec S8x128x128 1) (main_v16 : FVec F S8x128 .f32) (main_v17 : FVec F S8x128 .f32) : IVec S4096x4096 1 × IVec S4096x2048 1 × IVec S1x2048 1 × IVec S1x2048 1 × IVec S8x128x128 1 × IVec S8x128 1 :=
  let main_v18 : IVec S8x128 1 := cmpf .olt main_v16 main_v17
  (main_v2, main_v6, main_v9, main_v12, main_v15, main_v18)

def fn {F : FTy → Type} [FloatOps F] (main_arg0 : FVec F S4096x4096 .f32) (main_arg1 : FVec F S4096x2048 .bf16) (main_arg2 : FVec F S1x2048 .f32) (main_arg3 : FVec F S1x2048 .f32) (main_arg4 : FVec F S8x128x128 .f32) (main_arg5 : FVec F S8x128 .f32) : IVec S4096x4096 1 × IVec S4096x2048 1 × IVec S1x2048 1 × IVec S1x2048 1 × IVec S8x128x128 1 × IVec S8x128 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x2048 .f32 := (extf .f32 · bitsLt_bf16_f32) main_arg1
  let main_v4 : FVec F S4096x2048 .f32 := Host.absf main_v3
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_v7 : FVec F S1x2048 .f32 := Host.absf main_arg2
  let main_cst_1 : FVec F S_ .f32 := constant S_ .f32 0x7F800000#32
  let main_v8 : FVec F S1x2048 .f32 := broadcastInDim S1x2048 ![] bcast_S_S1x2048 main_cst_1
  let main_v9 : IVec S1x2048 1 := cmpf .olt main_v7 main_v8
  let main_v10 : FVec F S1x2048 .f32 := Host.absf main_arg3
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  let main_v13 : FVec F S8x128x128 .f32 := Host.absf main_arg4
  let main_cst_3 : FVec F S_ .f32 := constant S_ .f32 0x7F800000#32
  let main_v14 : FVec F S8x128x128 .f32 := broadcastInDim S8x128x128 ![] bcast_S_S8x128x128 main_cst_3
  let main_v15 : IVec S8x128x128 1 := cmpf .olt main_v13 main_v14
  let main_v16 : FVec F S8x128 .f32 := Host.absf main_arg5
  let main_cst_4 : FVec F S_ .f32 := constant S_ .f32 0x7F800000#32
  let main_v17 : FVec F S8x128 .f32 := broadcastInDim S8x128 ![] bcast_S_S8x128 main_cst_4
  fn_part1 (F := F) main_v2 main_v6 main_v9 main_v12 main_v15 main_v16 main_v17
-- ==== Pre_gate_norm_finite.lean ====
abbrev S4096x1024 : Shape := ⟨2, ![4096, 1024]⟩
abbrev S4096x5632 : Shape := ⟨2, ![4096, 5632]⟩
abbrev S1x128 : Shape := ⟨2, ![1, 128]⟩
abbrev S4096x2048 : Shape := ⟨2, ![4096, 2048]⟩
abbrev S_ : Shape := ⟨0, ![]⟩

class Facts : Prop where
  bcast_S_S1x128 : S_.BroadcastsInDim S1x128 (![] : Fin 0 → Fin S1x128.rank)
  slices_S4096x2048_S4096x1024_0_1024 : S4096x2048.Slices ![0, 1024] S4096x1024
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x5632 .f32) (main_arg2 : FVec F S1x128 .f32) (main_arg3 : FVec F S4096x2048 .f32) : IVec S1x128 1 × IVec S4096x1024 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S4096x1024 .f32 := (extractStridedSlice S4096x1024 ![0, 1024] · slices_S4096x2048_S4096x1024_0_1024) main_arg3
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  (main_v2, main_v6)
-- ==== Pre_gates_finite.lean ====
abbrev S4096x5632 : Shape := ⟨2, ![4096, 5632]⟩
abbrev S1x8 : Shape := ⟨2, ![1, 8]⟩
abbrev S4096x128 : Shape := ⟨2, ![4096, 128]⟩
abbrev S4096x8 : Shape := ⟨2, ![4096, 8]⟩
abbrev S_ : Shape := ⟨0, ![]⟩

class Facts : Prop where
  slices_S4096x5632_S4096x8_0_5384 : S4096x5632.Slices ![0, 5384] S4096x8
  bcast_S_S4096x8 : S_.BroadcastsInDim S4096x8 (![] : Fin 0 → Fin S4096x8.rank)
  bcast_S_S1x8 : S_.BroadcastsInDim S1x8 (![] : Fin 0 → Fin S1x8.rank)
  slices_S4096x128_S4096x8_0_8 : S4096x128.Slices ![0, 8] S4096x8

variable [Facts]

def fn {F : FTy → Type} [FloatOps F] (main_arg0 : FVec F S4096x5632 .f32) (main_arg1 : FVec F S1x8 .f32) (main_arg2 : FVec F S1x8 .f32) (main_arg3 : FVec F S4096x128 .f32) : IVec S4096x8 1 × IVec S1x8 1 × IVec S1x8 1 × IVec S4096x8 1 :=
  let main_v0 : FVec F S4096x8 .f32 := (extractStridedSlice S4096x8 ![0, 5384] · slices_S4096x5632_S4096x8_0_5384) main_arg0
  let main_v1 : FVec F S4096x8 .f32 := Host.absf main_v0
  let main_cst : FVec F S_ .f32 := constant S_ .f32 0x7F800000#32
  let main_v2 : FVec F S4096x8 .f32 := broadcastInDim S4096x8 ![] bcast_S_S4096x8 main_cst
  let main_v3 : IVec S4096x8 1 := cmpf .olt main_v1 main_v2
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_v7 : FVec F S1x8 .f32 := Host.absf main_arg2
  let main_cst_1 : FVec F S_ .f32 := constant S_ .f32 0x7F800000#32
  let main_v8 : FVec F S1x8 .f32 := broadcastInDim S1x8 ![] bcast_S_S1x8 main_cst_1
  let main_v9 : IVec S1x8 1 := cmpf .olt main_v7 main_v8
  let main_v10 : FVec F S4096x8 .f32 := (extractStridedSlice S4096x8 ![0, 8] · slices_S4096x128_S4096x8_0_8) main_arg3
  let main_v11 : FVec F S4096x8 .f32 := Host.absf main_v10
  let main_cst_2 : FVec F S_ .f32 := constant S_ .f32 0x7F800000#32
  let main_v12 : FVec F S4096x8 .f32 := broadcastInDim S4096x8 ![] bcast_S_S4096x8 main_cst_2
  let main_v13 : IVec S4096x8 1 := cmpf .olt main_v11 main_v12
  (main_v3, main_v6, main_v9, main_v13)
-- ==== Kernel.lean ====
abbrev S4096x4096 : Shape := ⟨2, ![4096, 4096]⟩
abbrev S4096x2048 : Shape := ⟨2, ![4096, 2048]⟩
abbrev S1x2048 : Shape := ⟨2, ![1, 2048]⟩
abbrev S8x128x128 : Shape := ⟨3, ![8, 128, 128]⟩
abbrev S8x128 : Shape := ⟨2, ![8, 128]⟩
abbrev S128x8 : Shape := ⟨2, ![128, 8]⟩
abbrev S_ : Shape := ⟨0, ![]⟩
abbrev S128x128 : Shape := ⟨2, ![128, 128]⟩
abbrev S128x2048 : Shape := ⟨2, ![128, 2048]⟩
abbrev S128x4096 : Shape := ⟨2, ![128, 4096]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S2048 : Shape := ⟨1, ![2048]⟩

abbrev nBuf : Space → Nat
  | .hbm => 15
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x2048, .bf16⟩
  | .hbm, ⟨2, _⟩ => ⟨S1x2048, .f32⟩
  | .hbm, ⟨3, _⟩ => ⟨S1x2048, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S4096x4096, .bf16⟩
  | .hbm, ⟨11, _⟩ => ⟨S8x128x128, .f32⟩
  | .hbm, ⟨12, _⟩ => ⟨S128x128, .f32⟩
  | .hbm, ⟨13, _⟩ => ⟨S1x2048, .f32⟩
  | .hbm, ⟨14, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S8x128x128, .f32⟩
  | .local _ .vmem, ⟨9, _⟩ => ⟨S128x128, .f32⟩
  | .local _ .vmem, ⟨10, _⟩ => ⟨S128x4096, .bf16⟩
  | .local _ .vmem, ⟨11, _⟩ => ⟨S128x4096, .bf16⟩
  | .local _ .vmem, ⟨12, _⟩ => ⟨S8x128x128, .f32⟩
  | .local _ .vmem, ⟨13, _⟩ => ⟨S128x128, .f32⟩
  | .local _ .vmem, ⟨14, _⟩ => ⟨S1x2048, .f32⟩
  | .local _ .vmem, ⟨15, _⟩ => ⟨S1x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S4096x4096 : Shape := ⟨2, ![4096, 4096]⟩
abbrev S4096x2048 : Shape := ⟨2, ![4096, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S32x128x8x256 : Shape := ⟨4, ![32, 128, 8, 256]⟩
abbrev S128x128 : Shape := ⟨2, ![128, 128]⟩
abbrev S8x32x256x128 : Shape := ⟨4, ![8, 32, 256, 128]⟩
abbrev S128x8 : Shape := ⟨2, ![128, 8]⟩
abbrev S1x128x8x1 : Shape := ⟨4, ![1, 128, 8, 1]⟩
abbrev S2048 : Shape := ⟨1, ![2048]⟩

abbrev nBuf : Space → Nat
  | .hbm => 160
  | .vmem => 0
  | .smem => 0
  | _ => 0

abbrev hbmTy0_0 (i : Nat) : BufTy := match i % 128 with
  | 0 => ⟨S4096x4096, .f32⟩
  | 1 => ⟨S4096x2048, .bf16⟩
  | 2 => ⟨S1x2048, .f32⟩
  | 3 => ⟨S1x2048, .f32⟩
  | 4 => ⟨S8x128x128, .f32⟩
  | 5 => ⟨S8x128, .f32⟩
  | 6 => ⟨S_, .f32⟩
  | 7 => ⟨S4096x4096, .f32⟩
  | 8 => ⟨S4096x4096, .f32⟩
  | 9 => ⟨S_, .f32⟩
  | 10 => ⟨S_, .f32⟩
  | 11 => ⟨S4096x4096, .f32⟩
  | 12 => ⟨S4096x4096, .f32⟩
  | 13 => ⟨S_, .f32⟩
  | 14 => ⟨S_, .f32⟩
  | 15 => ⟨S_, .f32⟩
  | 16 => ⟨S_, .f32⟩
  | 17 => ⟨S4096x4096, .f32⟩
  | 18 => ⟨S_, .f32⟩
  | 19 => ⟨S_, .f32⟩
  | 20 => ⟨S_, .f32⟩
  | 21 => ⟨S4096x4096, .f32⟩
  | 22 => ⟨S4096x4096, .f32⟩
  | 23 => ⟨S4096x4096, .f32⟩
  | 24 => ⟨S_, .f32⟩
  | 25 => ⟨S4096x4096, .f32⟩
  | 26 => ⟨S4096x4096, .f32⟩
  | 27 => ⟨S4096x4096, .f32⟩
  | 28 => ⟨S4096x2048, .f32⟩
  | 29 => ⟨S4096x2048, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x2048, .f32⟩
  | 37 => ⟨S4096x2048, .f32⟩
  | 38 => ⟨S4096x2048, .f32⟩
  | 39 => ⟨S_, .f32⟩
  | 40 => ⟨S4096x2048, .f32⟩
  | 41 => ⟨S4096x2048, .f32⟩
  | 42 => ⟨S_, .f32⟩
  | 43 => ⟨S4096, .f32⟩
  | 44 => ⟨S4096x1, .f32⟩
  | 45 => ⟨S_, .f32⟩
  | 46 => ⟨S4096x1, .f32⟩
  | 47 => ⟨S4096x1, .f32⟩
  | 48 => ⟨S4096x2048, .f32⟩
  | 49 => ⟨S4096x2048, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x2048, .f32⟩
  | 59 => ⟨S4096x2048, .f32⟩
  | 60 => ⟨S4096x2048, .f32⟩
  | 61 => ⟨S4096x2048, .f32⟩
  | 62 => ⟨S4096x2048, .f32⟩
  | 63 => ⟨S4096x2048, .f32⟩
  | 64 => ⟨S32x128x8x256, .f32⟩
  | 65 => ⟨S128x128, .i32⟩
  | 66 => ⟨S_, .i32⟩
  | 67 => ⟨S128x128, .i32⟩
  | 68 => ⟨S128x128, .i32⟩
  | 69 => ⟨S128x128, .i32⟩
  | 70 => ⟨S128x128, .i1⟩
  | 71 => ⟨S8x128x128, .i1⟩
  | 72 => ⟨S_, .f32⟩
  | 73 => ⟨S8x128x128, .f32⟩
  | 74 => ⟨S8x128x128, .f32⟩
  | 75 => ⟨S_, .f32⟩
  | 76 => ⟨S8x128x128, .f32⟩
  | 77 => ⟨S8x32x256x128, .f32⟩
  | 78 => ⟨S32x128x8x256, .f32⟩
  | 79 => ⟨S128x8, .f32⟩
  | 80 => ⟨S1x128x8x1, .f32⟩
  | 81 => ⟨S32x128x8x256, .f32⟩
  | 82 => ⟨S32x128x8x256, .f32⟩
  | 83 => ⟨S4096x2048, .f32⟩
  | 84 => ⟨S4096x2048, .f32⟩
  | 85 => ⟨S4096x2048, .f32⟩
  | 86 => ⟨S4096x2048, .f32⟩
  | 87 => ⟨S4096x2048, .f32⟩
  | 88 => ⟨S32x128x8x256, .f32⟩
  | 89 => ⟨S_, .f32⟩
  | 90 => ⟨S128x8, .f32⟩
  | 91 => ⟨S1x128x8x1, .f32⟩
  | 92 => ⟨S_, .f32⟩
  | 93 => ⟨S128x8, .f32⟩
  | 94 => ⟨S8x128, .f32⟩
  | 95 => ⟨S8x32x256x128, .f32⟩
  | 96 => ⟨S8x128x128, .f32⟩
  | 97 => ⟨S8x32x256x128, .f32⟩
  | 98 => ⟨S32x128x8x256, .f32⟩
  | 99 => ⟨S_, .f32⟩
  | 100 => ⟨S8x128x128, .f32⟩
  | 101 => ⟨S8x128x128, .f32⟩
  | 102 => ⟨S4096x2048, .f32⟩
  | 103 => ⟨S_, .f32⟩
  | 104 => ⟨S2048, .f32⟩
  | 105 => ⟨S1x2048, .f32⟩
  | 106 => ⟨S4096x2048, .f32⟩
  | 107 => ⟨S_, .f32⟩
  | 108 => ⟨S2048, .f32⟩
  | 109 => ⟨S1x2048, .f32⟩
  | 110 => ⟨S4096x2048, .f32⟩
  | 111 => ⟨S4096x2048, .f32⟩
  | 112 => ⟨S4096x2048, .f32⟩
  | 113 => ⟨S_, .f32⟩
  | 114 => ⟨S4096, .f32⟩
  | 115 => ⟨S4096x1, .f32⟩
  | 116 => ⟨S4096x2048, .f32⟩
  | 117 => ⟨S4096x2048, .f32⟩
  | 118 => ⟨S4096x1, .f32⟩
  | 119 => ⟨S4096x2048, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S4096x4096, .f32⟩

abbrev hbmTy0_1 (i : Nat) : BufTy := match i % 128 with
  | 0 => ⟨S4096x2048, .f32⟩
  | 1 => ⟨S4096x2048, .f32⟩
  | 2 => ⟨S4096x2048, .f32⟩
  | 3 => ⟨S_, .f32⟩
  | 4 => ⟨S4096, .f32⟩
  | 5 => ⟨S4096x1, .f32⟩
  | 6 => ⟨S4096x2048, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x2048, .f32⟩
  | 14 => ⟨S4096x2048, .f32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S4096x4096, .f32⟩
  | 21 => ⟨S4096x4096, .f32⟩
  | 22 => ⟨S4096x4096, .f32⟩
  | 23 => ⟨S_, .f32⟩
  | 24 => ⟨S4096x4096, .f32⟩
  | 25 => ⟨S4096x4096, .f32⟩
  | 26 => ⟨S4096x4096, .f32⟩
  | 27 => ⟨S4096x4096, .bf16⟩
  | 28 => ⟨S128x8, .f32⟩
  | 29 => ⟨S_, .i32⟩
  | 30 => ⟨S_, .f32⟩
  | 31 => ⟨S128x128, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v46_1 : Ref sig .tc := ⟨.hbm, 71, rfl⟩
abbrev main_call0_cst : Ref sig .tc := ⟨.hbm, 72, rfl⟩
abbrev main_call0_v6 : Ref sig .tc := ⟨.hbm, 73, rfl⟩
abbrev main_v46_0 : Ref sig .tc := ⟨.hbm, 74, rfl⟩
abbrev main_call0_cst_0 : Ref sig .tc := ⟨.hbm, 75, rfl⟩
abbrev main_v46_2 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_cst : Ref sig .tc := ⟨.hbm, 99, rfl⟩
abbrev main_call1_v0 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_15 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_16 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_17 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_v85 : Ref sig .tc := ⟨.hbm, 124, rfl⟩
abbrev main_v86 : Ref sig .tc := ⟨.hbm, 125, rfl⟩
abbrev main_cst_19 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_23 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_c : Ref sig .tc := ⟨.hbm, 157, rfl⟩
abbrev main_call2_v0 : Ref sig .tc := ⟨.hbm, 158, rfl⟩
abbrev main_v113 : Ref sig .tc := ⟨.hbm, 159, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .f32⟩
  | .local _ .vmem, ⟨1, _⟩ => ⟨S1024x2048, .f32⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .bf16⟩
  | .hbm, ⟨30, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== Kernel3.lean ====
abbrev S4096x2048 : Shape := ⟨2, ![4096, 2048]⟩
abbrev S4096x5632 : Shape := ⟨2, ![4096, 5632]⟩
abbrev S4x2048x1408 : Shape := ⟨3, ![4, 2048, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S1x5632x2048 : Shape := ⟨3, ![1, 5632, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S1x5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S2048x5632, .f32⟩
  | .hbm, ⟨7, _⟩ => ⟨S5632x2048, .f32⟩
  | .hbm, ⟨8, _⟩ => ⟨S1x5632x2048, .f32⟩
  | .hbm, ⟨9, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x5632 : Shape := ⟨2, ![4096, 5632]⟩
abbrev S4x2048x1408 : Shape := ⟨3, ![4, 2048, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5632 : Shape := ⟨2, ![4096, 5632]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4x2048x1408, .f32⟩
  | .hbm, ⟨3, _⟩ => ⟨S2048x4x1408, .f32⟩
  | .hbm, ⟨4, _⟩ => ⟨S2048x5632, .f32⟩
  | .hbm, ⟨5, _⟩ => ⟨S_, .f32⟩
  | .hbm, ⟨6, _⟩ => ⟨S4096x2048, .f32⟩
  | .hbm, ⟨7, _⟩ => ⟨S4096x5632, .f32⟩
  | .hbm, ⟨8, _⟩ => ⟨S4096x5632, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S4x2048x1408 : Shape := ⟨3, ![4, 2048, 1408]⟩
abbrev S4096x2048 : Shape := ⟨2, ![4096, 2048]⟩
abbrev S1x2048 : Shape := ⟨2, ![1, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩
abbrev S512 : Shape := ⟨1, ![512]⟩
abbrev S512x1 : Shape := ⟨2, ![512, 1]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S1x2048, .f32⟩
  | .local _ .vmem, ⟨0, _⟩ => ⟨S512x1408, .bf16⟩
  | .local _ .vmem, ⟨1, _⟩ => ⟨S512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference5Ideal.lean ====
abbrev S4096x5632 : Shape := ⟨2, ![4096, 5632]⟩
abbrev S4x2048x1408 : Shape := ⟨3, ![4, 2048, 1408]⟩
abbrev S4096x2048 : Shape := ⟨2, ![4096, 2048]⟩
abbrev S1x2048 : Shape := ⟨2, ![1, 2048]⟩
abbrev S2048x4x1408 : Shape := ⟨3, ![2048, 4, 1408]⟩
abbrev S2048x5632 : Shape := ⟨2, ![2048, 5632]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 56
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4x2048x1408, .f32⟩
  | .hbm, ⟨7, _⟩ => ⟨S2048x4x1408, .f32⟩
  | .hbm, ⟨8, _⟩ => ⟨S2048x5632, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S4096x2048 : Shape := ⟨2, ![4096, 2048]⟩
abbrev S4096x4096 : Shape := ⟨2, ![4096, 4096]⟩
abbrev S4x2048x1024 : Shape := ⟨3, ![4, 2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4x2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x2048 : Shape := ⟨2, ![4096, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S1x2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S1x2048x2048, .f32⟩
  | .hbm, ⟨9, _⟩ => ⟨S1x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x5632 : Shape := ⟨2, ![4096, 5632]⟩
abbrev S4096x2048 : Shape := ⟨2, ![4096, 2048]⟩
abbrev S1x5632x2048 : Shape := ⟨3, ![1, 5632, 2048]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S5632x2048, .f32⟩
  | .hbm, ⟨9, _⟩ => ⟨S2048x5632, .f32⟩
  | .hbm, ⟨10, _⟩ => ⟨S5632x2048, .f32⟩
  | .hbm, ⟨11, _⟩ => ⟨S1x5632x2048, .f32⟩
  | .hbm, ⟨12, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S1x2048x2048, .bf16⟩
  | .hbm, ⟨3, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S1x2048x2048, .bf16⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x4096 : Shape := ⟨2, ![4096, 4096]⟩
abbrev S4x2048x1024 : Shape := ⟨3, ![4, 2048, 1024]⟩
abbrev S4096x2048 : Shape := ⟨2, ![4096, 2048]⟩
abbrev S1x2048 : Shape := ⟨2, ![1, 2048]⟩
abbrev S512x1024 : Shape := ⟨2, ![512, 1024]⟩
abbrev S1x2048x1024 : Shape := ⟨3, ![1, 2048, 1024]⟩
abbrev S512x2048 : Shape := ⟨2, ![512, 2048]⟩
abbrev S2048x1024 : Shape := ⟨2, ![2048, 1024]⟩
abbrev S512 : Shape := ⟨1, ![512]⟩
abbrev S512x1 : Shape := ⟨2, ![512, 1]⟩
abbrev S2048 : Shape := ⟨1, ![2048]⟩

abbrev nBuf : Space → Nat
  | .hbm => 7
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x2048, .f32⟩
  | .local _ .vmem, ⟨0, _⟩ => ⟨S512x1024, .bf16⟩
  | .local _ .vmem, ⟨1, _⟩ => ⟨S512x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32_6 : BitVec 32 := 3#32
  let v13 : BitVec 1 := Scalar.cmpi .eq arg1 c3_i32_6
  let v14 : BitVec 32 := Scalar.extui v13
  let c0_i32_7 : BitVec 32 := 0#32
  let v15 : BitVec 1 := Scalar.cmpi .ne v14 c0_i32_7
  v15

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference12Ideal.lean ====
abbrev S4096x4096 : Shape := ⟨2, ![4096, 4096]⟩
abbrev S4x2048x1024 : Shape := ⟨3, ![4, 2048, 1024]⟩
abbrev S4096x2048 : Shape := ⟨2, ![4096, 2048]⟩
abbrev S1x2048 : Shape := ⟨2, ![1, 2048]⟩
abbrev S2048x4x1024 : Shape := ⟨3, ![2048, 4, 1024]⟩
abbrev S2048x4096 : Shape := ⟨2, ![2048, 4096]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x2048x1024, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4x2048x1024, .f32⟩
  | .hbm, ⟨6, _⟩ => ⟨S2048x4x1024, .f32⟩
  | .hbm, ⟨7, _⟩ => ⟨S2048x4096, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x4096, .f32⟩
  | .hbm, ⟨28, _⟩ => ⟨S4096x4096, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel13.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1x5632x2048 : Shape := ⟨3, ![1, 5632, 2048]⟩
abbrev S512x512 : Shape := ⟨2, ![512, 512]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x5632x2048, .bf16⟩
  | .hbm, ⟨6, _⟩ => ⟨S4096x2048, .f32⟩
  | .hbm, ⟨7, _⟩ => ⟨S1x2048, .f32⟩
  | .local _ .vmem, ⟨0, _⟩ => ⟨S512x512, .bf16⟩
  | .local _ .vmem, ⟨1, _⟩ => ⟨S512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 11], ![false, false]⟩

def k0_cond4 (i : grid0.Coords) : BitVec 1 :=
  let arg1 : BitVec 32 := BitVec.ofNat 32 (i 1).val
  let c10_i32_6 : BitVec 32 := 10#32
  let v13 : BitVec 1 := Scalar.cmpi .eq arg1 c10_i32_6
  let v14 : BitVec 32 := Scalar.extui v13
  let c0_i32_7 : BitVec 32 := 0#32
  let v15 : BitVec 1 := Scalar.cmpi .ne v14 c0_i32_7
  v15

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference13Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S2048x5632 : Shape := ⟨2, ![2048, 5632]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S5632x2048, .f32⟩
  | .hbm, ⟨6, _⟩ => ⟨S2048x5632, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x5632, .f32⟩
  | .hbm, ⟨27, _⟩ => ⟨S4096x5632, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel14.lean ====
abbrev S4096x2048 : Shape := ⟨2, ![4096, 2048]⟩
abbrev S4x2048x1408 : Shape := ⟨3, ![4, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S8x128 : Shape := ⟨2, ![8, 128]⟩
abbrev S2048x1408 : Shape := ⟨2, ![2048, 1408]⟩

abbrev nBuf : Space → Nat
  | .hbm => 6
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S8x128, .f32⟩
  | .local _ .vmem, ⟨13, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x2048, .f32⟩
  | .hbm, ⟨4, _⟩ => ⟨S4x2048x1408, .f32⟩
  | .hbm, ⟨5, _⟩ => ⟨S2048x4x1408, .f32⟩
  | .hbm, ⟨6, _⟩ => ⟨S2048x5632, .f32⟩
  | .hbm, ⟨7, _⟩ => ⟨S4096x5632, .f32⟩
  | .hbm, ⟨8, _⟩ => ⟨S4x2048x1408, .f32⟩
  | .hbm, ⟨9, _⟩ => ⟨S2048x4x1408, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | .hbm, ⟨23, _⟩ => ⟨S4096x5632, .bf16⟩
  | .hbm, ⟨24, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel15.lean ====
abbrev S4096x5632 : Shape := ⟨2, ![4096, 5632]⟩
abbrev S5632x2048 : Shape := ⟨2, ![5632, 2048]⟩
abbrev S4096x2048 : Shape := ⟨2, ![4096, 2048]⟩
abbrev S1x5632x2048 : Shape := ⟨3, ![1, 5632, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x5632x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 11], ![false, false, false]⟩

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S5632x2048 : Shape := ⟨2, ![5632, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S1x5632x2048, .bf16⟩
  | .hbm, ⟨3, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S5632x2048 : Shape := ⟨2, ![5632, 2048]⟩
abbrev S2048x5632 : Shape := ⟨2, ![2048, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x2048, .f32⟩
  | .hbm, ⟨3, _⟩ => ⟨S5632x2048, .f32⟩
  | .hbm, ⟨4, _⟩ => ⟨S2048x5632, .f32⟩
  | .hbm, ⟨5, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S4x2048x1024 : Shape := ⟨3, ![4, 2048, 1024]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x2048 : Shape := ⟨2, ![4096, 2048]⟩
abbrev S4x2048x1024 : Shape := ⟨3, ![4, 2048, 1024]⟩
abbrev S2048x4x1024 : Shape := ⟨3, ![2048, 4, 1024]⟩
abbrev S2048x4096 : Shape := ⟨2, ![2048, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1024, .bf16⟩
  | .hbm, ⟨2, _⟩ => ⟨S4096x2048, .f32⟩
  | .hbm, ⟨3, _⟩ => ⟨S4x2048x1024, .f32⟩
  | .hbm, ⟨4, _⟩ => ⟨S2048x4x1024, .f32⟩
  | .hbm, ⟨5, _⟩ => ⟨S2048x4096, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S4096x1024 : Shape := ⟨2, ![4096, 1024]⟩
abbrev S4096x5632 : Shape := ⟨2, ![4096, 5632]⟩
abbrev S1x128 : Shape := ⟨2, ![1, 128]⟩
abbrev S4096x2048 : Shape := ⟨2, ![4096, 2048]⟩
abbrev S2048x128 : Shape := ⟨2, ![2048, 128]⟩
abbrev S2048 : Shape := ⟨1, ![2048]⟩
abbrev S2048x1 : Shape := ⟨2, ![2048, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1x128, .f32⟩
  | .hbm, ⟨3, _⟩ => ⟨S4096x2048, .f32⟩
  | .hbm, ⟨4, _⟩ => ⟨S4096x1024, .f32⟩
  | .hbm, ⟨5, _⟩ => ⟨S4096x1024, .bf16⟩
  | .hbm, ⟨6, _⟩ => ⟨S1x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .bf16⟩
  | .local _ .vmem, ⟨10, _⟩ => ⟨S2048x128, .bf16⟩
  | .local _ .vmem, ⟨11, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference19Ideal.lean ====
abbrev S4096x1024 : Shape := ⟨2, ![4096, 1024]⟩
abbrev S4096x5632 : Shape := ⟨2, ![4096, 5632]⟩
abbrev S1x128 : Shape := ⟨2, ![1, 128]⟩
abbrev S4096x2048 : Shape := ⟨2, ![4096, 2048]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1x128, .f32⟩
  | .hbm, ⟨3, _⟩ => ⟨S4096x2048, .f32⟩
  | .hbm, ⟨4, _⟩ => ⟨S4096x1024, .f32⟩
  | .hbm, ⟨5, _⟩ => ⟨S128, .f32⟩
  | .hbm, ⟨6, _⟩ => ⟨S4096x8x128, .f32⟩
  | .hbm, ⟨7, _⟩ => ⟨S4096x8x128, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S_, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S4096x8x1, .f32⟩
  | .hbm, ⟨19, _⟩ => ⟨S_, .f32⟩
  | .hbm, ⟨20, _⟩ => ⟨S4096x8x1, .f32⟩
  | .hbm, ⟨21, _⟩ => ⟨S4096x8x1, .f32⟩
  | .hbm, ⟨22, _⟩ => ⟨S4096x8x128, .f32⟩
  | .hbm, ⟨23, _⟩ => ⟨S4096x8x128, .f32⟩
  | .hbm, ⟨24, _⟩ => ⟨S1x1x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S4096x8x128, .f32⟩
  | .hbm, ⟨30, _⟩ => ⟨S_, .f32⟩
  | .hbm, ⟨31, _⟩ => ⟨S4096x8x128, .f32⟩
  | .hbm, ⟨32, _⟩ => ⟨S4096x8x128, .f32⟩
  | .hbm, ⟨33, _⟩ => ⟨S_, .f32⟩
  | .hbm, ⟨34, _⟩ => ⟨S4096x8x128, .f32⟩
  | .hbm, ⟨35, _⟩ => ⟨S4096x8x128, .f32⟩
  | .hbm, ⟨36, _⟩ => ⟨S_, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x8x128, .f32⟩
  | .hbm, ⟨42, _⟩ => ⟨S4096x1024, .f32⟩
  | .hbm, ⟨43, _⟩ => ⟨S4096x1024, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S4096x8x128, .f32⟩
  | .hbm, ⟨50, _⟩ => ⟨S4096x8x128, .f32⟩
  | .hbm, ⟨51, _⟩ => ⟨S4096x1024, .f32⟩
  | .hbm, ⟨52, _⟩ => ⟨S4096x8x128, .f32⟩
  | .hbm, ⟨53, _⟩ => ⟨S_, .f32⟩
  | .hbm, ⟨54, _⟩ => ⟨S128, .f32⟩
  | .hbm, ⟨55, _⟩ => ⟨S1x1x128, .f32⟩
  | .hbm, ⟨56, _⟩ => ⟨S4096x8x128, .f32⟩
  | .hbm, ⟨57, _⟩ => ⟨S4096x8x128, .f32⟩
  | .hbm, ⟨58, _⟩ => ⟨S_, .f32⟩
  | .hbm, ⟨59, _⟩ => ⟨S128, .f32⟩
  | .hbm, ⟨60, _⟩ => ⟨S4096x8x128, .f32⟩
  | .hbm, ⟨61, _⟩ => ⟨S_, .f32⟩
  | .hbm, ⟨62, _⟩ => ⟨S4096x8, .f32⟩
  | .hbm, ⟨63, _⟩ => ⟨S4096x8x1, .f32⟩
  | .hbm, ⟨64, _⟩ => ⟨S4096x8x128, .f32⟩
  | .hbm, ⟨65, _⟩ => ⟨S4096x8x128, .f32⟩
  | .hbm, ⟨66, _⟩ => ⟨S4096x8x1, .f32⟩
  | .hbm, ⟨67, _⟩ => ⟨S_, .f32⟩
  | .hbm, ⟨68, _⟩ => ⟨S4096x8x1, .f32⟩
  | .hbm, ⟨69, _⟩ => ⟨S4096x8x1, .f32⟩
  | .hbm, ⟨70, _⟩ => ⟨S_, .f32⟩
  | .hbm, ⟨71, _⟩ => ⟨S4096x8, .f32⟩
  | .hbm, ⟨72, _⟩ => ⟨S4096x8x128, .f32⟩
  | .hbm, ⟨73, _⟩ => ⟨S4096x8x128, .f32⟩
  | .hbm, ⟨74, _⟩ => ⟨S4096x8x128, .f32⟩
  | .hbm, ⟨75, _⟩ => ⟨S4096x8x128, .f32⟩
  | .hbm, ⟨76, _⟩ => ⟨S4096x8x128, .f32⟩
  | .hbm, ⟨77, _⟩ => ⟨S4096x1024, .f32⟩
  | .hbm, ⟨78, _⟩ => ⟨S4096x1024, .bf16⟩
  | .hbm, ⟨79, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_cst_5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== Kernel20.lean ====
abbrev S4096x5632 : Shape := ⟨2, ![4096, 5632]⟩
abbrev S1x8 : Shape := ⟨2, ![1, 8]⟩
abbrev S4096x128 : Shape := ⟨2, ![4096, 128]⟩
abbrev S_ : Shape := ⟨0, ![]⟩
abbrev S1x128 : Shape := ⟨2, ![1, 128]⟩
abbrev S512x128 : Shape := ⟨2, ![512, 128]⟩
abbrev S128 : Shape := ⟨1, ![128]⟩

abbrev nBuf : Space → Nat
  | .hbm => 13
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S1x8, .f32⟩
  | .hbm, ⟨2, _⟩ => ⟨S1x8, .f32⟩
  | .hbm, ⟨3, _⟩ => ⟨S4096x128, .f32⟩
  | .hbm, ⟨4, _⟩ => ⟨S_, .i32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S4096x128, .bf16⟩
  | .hbm, ⟨11, _⟩ => ⟨S1x128, .f32⟩
  | .hbm, ⟨12, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S512x128, .bf16⟩
  | .local _ .vmem, ⟨8, _⟩ => ⟨S1x128, .f32⟩
  | .local _ .vmem, ⟨9, _⟩ => ⟨S1x128, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c42_i32 : BitVec 32 := 42#32
  let c0_i32 : BitVec 32 := 0#32
  ![arg0.toNat, c42_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S4096x5632 : Shape := ⟨2, ![4096, 5632]⟩
abbrev S1x8 : Shape := ⟨2, ![1, 8]⟩
abbrev S4096x128 : Shape := ⟨2, ![4096, 128]⟩
abbrev S4096x8 : Shape := ⟨2, ![4096, 8]⟩
abbrev S8 : Shape := ⟨1, ![8]⟩
abbrev S_ : Shape := ⟨0, ![]⟩
abbrev S4096x112 : Shape := ⟨2, ![4096, 112]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1x8, .f32⟩
  | .hbm, ⟨2, _⟩ => ⟨S1x8, .f32⟩
  | .hbm, ⟨3, _⟩ => ⟨S4096x128, .f32⟩
  | .hbm, ⟨4, _⟩ => ⟨S4096x8, .f32⟩
  | .hbm, ⟨5, _⟩ => ⟨S4096x8, .f32⟩
  | .hbm, ⟨6, _⟩ => ⟨S8, .f32⟩
  | .hbm, ⟨7, _⟩ => ⟨S8, .f32⟩
  | .hbm, ⟨8, _⟩ => ⟨S4096x8, .f32⟩
  | .hbm, ⟨9, _⟩ => ⟨S4096x8, .f32⟩
  | .hbm, ⟨10, _⟩ => ⟨S_, .f32⟩
  | .hbm, ⟨11, _⟩ => ⟨S4096x8, .f32⟩
  | .hbm, ⟨12, _⟩ => ⟨S4096x8, .f32⟩
  | .hbm, ⟨13, _⟩ => ⟨S_, .f32⟩
  | .hbm, ⟨14, _⟩ => ⟨S4096x8, .f32⟩
  | .hbm, ⟨15, _⟩ => ⟨S4096x8, .f32⟩
  | .hbm, ⟨16, _⟩ => ⟨S_, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S8, .f32⟩
  | .hbm, ⟨21, _⟩ => ⟨S8, .f32⟩
  | .hbm, ⟨22, _⟩ => ⟨S1x8, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .i1⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S4096x8, .f32⟩
  | .hbm, ⟨36, _⟩ => ⟨S4096x8, .f32⟩
  | .hbm, ⟨37, _⟩ => ⟨S4096x8, .f32⟩
  | .hbm, ⟨38, _⟩ => ⟨S4096x8, .f32⟩
  | .hbm, ⟨39, _⟩ => ⟨S_, .f32⟩
  | .hbm, ⟨40, _⟩ => ⟨S4096x8, .f32⟩
  | .hbm, ⟨41, _⟩ => ⟨S4096x8, .i1⟩
  | .hbm, ⟨42, _⟩ => ⟨S_, .f32⟩
  | .hbm, ⟨43, _⟩ => ⟨S4096x8, .f32⟩
  | .hbm, ⟨44, _⟩ => ⟨S4096x8, .f32⟩
  | .hbm, ⟨45, _⟩ => ⟨S_, .f32⟩
  | .hbm, ⟨46, _⟩ => ⟨S4096x8, .f32⟩
  | .hbm, ⟨47, _⟩ => ⟨S4096x8, .i1⟩
  | .hbm, ⟨48, _⟩ => ⟨S_, .f32⟩
  | .hbm, ⟨49, _⟩ => ⟨S4096x8, .f32⟩
  | .hbm, ⟨50, _⟩ => ⟨S4096x8, .f32⟩
  | .hbm, ⟨51, _⟩ => ⟨S4096x8, .f32⟩
  | .hbm, ⟨52, _⟩ => ⟨S4096x8, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096x8, .f32⟩
  | .hbm, ⟨61, _⟩ => ⟨S4096x8, .i1⟩
  | .hbm, ⟨62, _⟩ => ⟨S_, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S4096x8, .f32⟩
  | .hbm, ⟨68, _⟩ => ⟨S_, .f32⟩
  | .hbm, ⟨69, _⟩ => ⟨S4096x8, .f32⟩
  | .hbm, ⟨70, _⟩ => ⟨S4096x8, .f32⟩
  | .hbm, ⟨71, _⟩ => ⟨S1x8, .f32⟩
  | .hbm, ⟨72, _⟩ => ⟨S4096x8, .f32⟩
  | .hbm, ⟨73, _⟩ => ⟨S4096x8, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S4096x8, .f32⟩
  | .hbm, ⟨78, _⟩ => ⟨S4096x8, .f32⟩
  | .hbm, ⟨79, _⟩ => ⟨S_, .f32⟩
  | .hbm, ⟨80, _⟩ => ⟨S8, .f32⟩
  | .hbm, ⟨81, _⟩ => ⟨S1x8, .f32⟩
  | .hbm, ⟨82, _⟩ => ⟨S_, .f32⟩
  | .hbm, ⟨83, _⟩ => ⟨S8, .f32⟩
  | .hbm, ⟨84, _⟩ => ⟨S4096x8, .f32⟩
  | .hbm, ⟨85, _⟩ => ⟨S_, .f32⟩
  | .hbm, ⟨86, _⟩ => ⟨S8, .f32⟩
  | .hbm, ⟨87, _⟩ => ⟨S1x8, .f32⟩
  | .hbm, ⟨88, _⟩ => ⟨S_, .f32⟩
  | .hbm, ⟨89, _⟩ => ⟨S8, .f32⟩
  | .hbm, ⟨90, _⟩ => ⟨S8, .f32⟩
  | .hbm, ⟨91, _⟩ => ⟨S8, .f32⟩
  | .hbm, ⟨92, _⟩ => ⟨S4096x8, .f32⟩
  | .hbm, ⟨93, _⟩ => ⟨S_, .f32⟩
  | .hbm, ⟨94, _⟩ => ⟨S4096x112, .f32⟩
  | .hbm, ⟨95, _⟩ => ⟨S4096x128, .f32⟩
  | .hbm, ⟨96, _⟩ => ⟨S4096x128, .bf16⟩
  | .hbm, ⟨97, _⟩ => ⟨S1x8, .f32⟩
  | .hbm, ⟨98, _⟩ => ⟨S_, .i32⟩
  | .hbm, ⟨99, _⟩ => ⟨S_, .f32⟩
  | .hbm, ⟨100, _⟩ => ⟨S1x128, .f32⟩
  | .hbm, ⟨101, _⟩ => ⟨S1x8, .f32⟩
  | .hbm, ⟨102, _⟩ => ⟨S_, .i32⟩
  | .hbm, ⟨103, _⟩ => ⟨S_, .f32⟩
  | .hbm, ⟨104, _⟩ => ⟨S1x128, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v18_0 : Ref sig .tc := ⟨.hbm, 38, rfl⟩
abbrev main_call0_cst_0 : Ref sig .tc := ⟨.hbm, 39, rfl⟩
abbrev main_call0_v13 : Ref sig .tc := ⟨.hbm, 40, rfl⟩
abbrev main_call0_v14 : Ref sig .tc := ⟨.hbm, 41, rfl⟩
abbrev main_call0_cst_1 : Ref sig .tc := ⟨.hbm, 42, rfl⟩
abbrev main_call0_v15 : Ref sig .tc := ⟨.hbm, 43, rfl⟩
abbrev main_call0_v16 : Ref sig .tc := ⟨.hbm, 44, rfl⟩
abbrev main_call0_cst_2 : Ref sig .tc := ⟨.hbm, 45, rfl⟩
abbrev main_call0_v17 : Ref sig .tc := ⟨.hbm, 46, rfl⟩
abbrev main_call0_v18 : Ref sig .tc := ⟨.hbm, 47, rfl⟩
abbrev main_call0_cst_3 : Ref sig .tc := ⟨.hbm, 48, rfl⟩
abbrev main_call0_v19 : Ref sig .tc := ⟨.hbm, 49, rfl⟩
abbrev main_call0_v20 : Ref sig .tc := ⟨.hbm, 50, rfl⟩
abbrev main_call0_v21 : Ref sig .tc := ⟨.hbm, 51, rfl⟩
abbrev main_v18_1 : Ref sig .tc := ⟨.hbm, 52, rfl⟩
abbrev main_call0_cst_4 : Ref sig .tc := ⟨.hbm, 53, rfl⟩
abbrev main_call0_cst_5 : Ref sig .tc := ⟨.hbm, 54, rfl⟩
abbrev main_call0_v23 : Ref sig .tc := ⟨.hbm, 55, rfl⟩
abbrev main_call0_cst_6 : Ref sig .tc := ⟨.hbm, 56, rfl⟩
abbrev main_call0_cst_7 : Ref sig .tc := ⟨.hbm, 57, rfl⟩
abbrev main_call0_v24 : Ref sig .tc := ⟨.hbm, 58, rfl⟩
abbrev main_call0_cst_8 : Ref sig .tc := ⟨.hbm, 59, rfl⟩
abbrev main_call0_v25 : Ref sig .tc := ⟨.hbm, 60, rfl⟩
abbrev main_call0_v26 : Ref sig .tc := ⟨.hbm, 61, rfl⟩
abbrev main_call0_cst_9 : Ref sig .tc := ⟨.hbm, 62, rfl⟩
abbrev main_call0_v27 : Ref sig .tc := ⟨.hbm, 63, rfl⟩
abbrev main_call0_v28 : Ref sig .tc := ⟨.hbm, 64, rfl⟩
abbrev main_call0_v29 : Ref sig .tc := ⟨.hbm, 65, rfl⟩
abbrev main_call0_v30 : Ref sig .tc := ⟨.hbm, 66, rfl⟩
abbrev main_call0_v31 : Ref sig .tc := ⟨.hbm, 67, rfl⟩
abbrev main_call0_cst_10 : Ref sig .tc := ⟨.hbm, 68, rfl⟩
abbrev main_call0_v32 : Ref sig .tc := ⟨.hbm, 69, rfl⟩
abbrev main_v18_2 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_cst_2 : Ref sig .tc := ⟨.hbm, 79, rfl⟩
abbrev main_v27 : Ref sig .tc := ⟨.hbm, 80, rfl⟩
abbrev main_v28 : Ref sig .tc := ⟨.hbm, 81, rfl⟩
abbrev main_cst_3 : Ref sig .tc := ⟨.hbm, 82, rfl⟩
abbrev main_v29 : Ref sig .tc := ⟨.hbm, 83, rfl⟩
abbrev main_v30 : Ref sig .tc := ⟨.hbm, 84, rfl⟩
abbrev main_cst_4 : Ref sig .tc := ⟨.hbm, 85, rfl⟩
abbrev main_v31 : Ref sig .tc := ⟨.hbm, 86, rfl⟩
abbrev main_v32 : Ref sig .tc := ⟨.hbm, 87, rfl⟩
abbrev main_cst_5 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_cst_6 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_c : Ref sig .tc := ⟨.hbm, 98, rfl⟩
abbrev main_call2_v0 : Ref sig .tc := ⟨.hbm, 99, rfl⟩
abbrev main_v41 : Ref sig .tc := ⟨.hbm, 100, rfl⟩
abbrev main_v42 : Ref sig .tc := ⟨.hbm, 101, rfl⟩
abbrev main_c_7 : Ref sig .tc := ⟨.hbm, 102, rfl⟩
abbrev main_call3_v0 : Ref sig .tc := ⟨.hbm, 103, rfl⟩
abbrev main_v43 : Ref sig .tc := ⟨.hbm, 104, rfl⟩

abbrev nD : Nat := 1
abbrev τ : Topo := Topo.v7x

variable {F : FTy → Type} [FloatOps F]
-- ==== Proof.Consts.lean ====
/- The float constants that the kernel and the reference spell, as the real numbers they denote. -/
module

public import Idealize.ShloMosaic.PureOps.Ideal

@[expose] public section

noncomputable section

namespace Cert

open Idealize.ShloMosaic

/-- Arrays of the ideal instance: extended reals, at the float type that the program gives them. -/
abbrev F32 (S : Shape) := FVec Ideal S .f32
abbrev BF16 (S : Shape) := FVec Ideal S .bf16

/-- The point before one of the grid's is one of them. -/
theorem before {n : ℕ} (t : Fin n) : t.1 - 1 < n := Nat.lt_of_le_of_lt (Nat.sub_le _ _) t.isLt

end Cert

namespace Cert.Gmlp

open Idealize.ShloMosaic

/-- The small number added to a variance: the value of the single precision pattern of 1e-6. -/
def eps : ℝ := 8796093 / 8796093022208

theorem eps_pos : 0 < eps := by unfold eps; norm_num

theorem ofBits_zero : Ideal.ofBits .f32 0x00000000#32 = ((0 : ℝ) : EReal) := by
  simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_four : Ideal.ofBits .f32 0x40800000#32 = ((4 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

theorem ofBits_eps : Ideal.ofBits .f32 0x358637BD#32 = ((eps : ℝ) : EReal) := by
  simp [Ideal.ofBits, Ideal.ieee, -EReal.coe_mul, eps]; norm_num

end Cert.Gmlp

end
-- ==== Proof.Ops.lean ====
/- Vectors whose entries are real numbers, and what each operation of the kernel makes of them: over the ideal
   values an operation on such vectors is the operation of the reals at each index, so a whole computation can be
   read as a real formula. A vector is given by a function of natural numbers; only its values below the extents count. -/
module

public import proofs.«01_k».proof.Proof.Gen.KernelIdeal
public import proofs.«01_k».proof.Proof.Consts
public import Idealize.ShloMosaic.Lib.Pointwise

@[expose] public section

noncomputable section

namespace Cert.Gmlp

open Idealize.ShloMosaic
open Finset (range)

variable {a b c : ℕ} {φ ψ : FTy}

/-- The vector of the reals `f 0, f 1, …`. -/
def vec (f : ℕ → ℝ) : FVec Ideal ⟨1, ![a]⟩ φ := fun i => ((f (i 0).1 : ℝ) : EReal)
/-- The matrix of the reals `f i j`. -/
def mat (f : ℕ → ℕ → ℝ) : FVec Ideal ⟨2, ![a, b]⟩ φ := fun i => ((f (i 0).1 (i 1).1 : ℝ) : EReal)
/-- The three-axis array of the reals `f i j k`. -/
def cube (f : ℕ → ℕ → ℕ → ℝ) : FVec Ideal ⟨3, ![a, b, c]⟩ φ :=
  fun i => ((f (i 0).1 (i 1).1 (i 2).1 : ℝ) : EReal)

/-- Two matrices of reals are equal when the reals are, below the extents. -/
theorem mat_congr {f g : ℕ → ℕ → ℝ} (h : ∀ i < a, ∀ j < b, f i j = g i j) :
    (mat f : FVec Ideal ⟨2, ![a, b]⟩ φ) = mat g :=
  funext fun i => congrArg Real.toEReal (h _ (i 0).isLt _ (i 1).isLt)

theorem vec_congr {f g : ℕ → ℝ} (h : ∀ i < a, f i = g i) : (vec f : FVec Ideal ⟨1, ![a]⟩ φ) = vec g :=
  funext fun i => congrArg Real.toEReal (h _ (i 0).isLt)

theorem cube_congr {f g : ℕ → ℕ → ℕ → ℝ} (h : ∀ i < a, ∀ j < b, ∀ k < c, f i j k = g i j k) :
    (cube f : FVec Ideal ⟨3, ![a, b, c]⟩ φ) = cube g :=
  funext fun i => congrArg Real.toEReal (h _ (i 0).isLt _ (i 1).isLt _ (i 2).isLt)

/-- A finite sum of reals, read in the extended reals. -/
theorem coe_sum (n : ℕ) (f : ℕ → ℝ) :
    ∑ k : Fin n, ((f k.1 : ℝ) : EReal) = ((∑ k ∈ range n, f k : ℝ) : EReal) := by
  induction n with
  | zero => simp
  | succ n ih => rw [Fin.sum_univ_castSucc, Finset.sum_range_succ, EReal.coe_add, ← ih]; rfl

/-- The error function of the reals, as the ideal values have it. -/
def rerf (x : ℝ) : ℝ := 2 / Real.sqrt Real.pi * ∫ t in (0 : ℝ)..x, Real.exp (-(t ^ 2))

/-! ### Operations entry by entry -/

theorem addf_mat (f g : ℕ → ℕ → ℝ) :
    addf (mat f : FVec Ideal ⟨2, ![a, b]⟩ φ) (mat g) = mat fun i j => f i j + g i j := funext fun _ => rfl
theorem subf_mat (f g : ℕ → ℕ → ℝ) :
    subf (mat f : FVec Ideal ⟨2, ![a, b]⟩ φ) (mat g) = mat fun i j => f i j - g i j := funext fun _ => rfl
theorem mulf_mat (f g : ℕ → ℕ → ℝ) :
    mulf (mat f : FVec Ideal ⟨2, ![a, b]⟩ φ) (mat g) = mat fun i j => f i j * g i j := funext fun _ => rfl
theorem exp_mat (f : ℕ → ℕ → ℝ) :
    exp (mat f : FVec Ideal ⟨2, ![a, b]⟩ φ) = mat fun i j => Real.exp (f i j) := funext fun _ => rfl
theorem erf_mat (f : ℕ → ℕ → ℝ) :
    erf (mat f : FVec Ideal ⟨2, ![a, b]⟩ φ) = mat fun i j => rerf (f i j) := funext fun _ => rfl
theorem rsqrt_mat (f : ℕ → ℕ → ℝ) (h : ∀ i j, 0 < f i j) :
    rsqrt (mat f : FVec Ideal ⟨2, ![a, b]⟩ φ) = mat fun i j => (Real.sqrt (f i j))⁻¹ := by
  funext i
  show Ideal.rsqrt ((f (i 0).1 (i 1).1 : ℝ) : EReal) = _
  rw [Ideal.rsqrt_coe, if_neg (not_lt.mpr (h _ _).le), if_neg (h _ _).ne']; rfl
/-- Division by the row length 2048. -/
theorem divf_mat (f : ℕ → ℕ → ℝ) :
    divf (mat f : FVec Ideal ⟨2, ![a, b]⟩ φ) (mat fun _ _ => 2048) = mat fun i j => f i j / 2048 := by
  funext i
  show Ideal.div ((f (i 0).1 (i 1).1 : ℝ) : EReal) ((2048 : ℝ) : EReal) = _
  rw [Ideal.div_coe (by norm_num), ← EReal.coe_mul, mul_one_div]; rfl
theorem truncf_mat (f : ℕ → ℕ → ℝ) (h : ψ.bits < φ.bits) :
    truncf ψ (mat f : FVec Ideal ⟨2, ![a, b]⟩ φ) h = mat f := rfl
theorem extf_mat (f : ℕ → ℕ → ℝ) (h : φ.bits < ψ.bits) :
    extf ψ (mat f : FVec Ideal ⟨2, ![a, b]⟩ φ) h = mat f := rfl

/-! ### Constants -/

theorem splat_mat (x : ℝ) : broadcast ⟨2, ![a, b]⟩ ((x : ℝ) : EReal) = (mat (fun _ _ => x) : FVec Ideal ⟨2, ![a, b]⟩ φ) := rfl
theorem splat_cube (x : ℝ) :
    broadcast ⟨3, ![a, b, c]⟩ ((x : ℝ) : EReal) = (cube (fun _ _ _ => x) : FVec Ideal ⟨3, ![a, b, c]⟩ φ) := rfl
theorem constant_zero : constant (F := Ideal) ⟨2, ![a, b]⟩ .f32 0x00000000#32 = mat fun _ _ => 0 :=
  funext fun _ => ofBits_zero
theorem scalar_zero : (Scalar.ofBits .f32 0x00000000#32 : Ideal .f32) = ((0 : ℝ) : EReal) := ofBits_zero
theorem scalar_half : (Scalar.ofBits .f32 0x3F000000#32 : Ideal .f32) = ((1 / 2 : ℝ) : EReal) := ofBits_half
theorem scalar_neg_half : (Scalar.ofBits .f32 0xBF000000#32 : Ideal .f32) = ((-(1 / 2) : ℝ) : EReal) := ofBits_neg_half
theorem scalar_one : (Scalar.ofBits .f32 0x3F800000#32 : Ideal .f32) = ((1 : ℝ) : EReal) := ofBits_one
theorem scalar_2048 : (Scalar.ofBits .f32 0x45000000#32 : Ideal .f32) = ((2048 : ℝ) : EReal) := ofBits_2048
theorem scalar_eps : (Scalar.ofBits .f32 0x358637BD#32 : Ideal .f32) = ((eps : ℝ) : EReal) := ofBits_eps

/-- 1/√2, the first named constant. -/
def c1 : ℝ := (Real.sqrt 2)⁻¹
/-- 1/√(2π), the second named constant. -/
def c2 : ℝ := (Real.sqrt (2 * Real.pi))⁻¹

theorem named_c1 : Named.named (F := Ideal) KernelIdeal.κ "inv_sqrt2" (φ := .f32) 0x3F3504F3#32 = ((c1 : ℝ) : EReal) :=
  IdealRules.named_const.ideal_named_scalar _ _ _ _ rfl
theorem named_c2 : Named.named (F := Ideal) KernelIdeal.κ "inv_sqrt2pi" (φ := .f32) 0x3ECC422A#32 = ((c2 : ℝ) : EReal) :=
  IdealRules.named_const.ideal_named_scalar _ _ _ _ rfl

/-! ### Operations on the layout -/

/-- A column repeated along the rows. -/
theorem broadcastTo_col (f : ℕ → ℕ → ℝ) (h : (⟨2, ![a, 1]⟩ : Shape).Broadcasts ⟨2, ![a, b]⟩) :
    broadcastTo ⟨2, ![a, b]⟩ (mat f : FVec Ideal ⟨2, ![a, 1]⟩ φ) h = (mat fun i _ => f i 0 : FVec Ideal ⟨2, ![a, b]⟩ φ) := by
  funext i
  rw [broadcastTo_apply _ h i (ix2 ⟨(i 0).1, (i 0).isLt⟩ ⟨0, Nat.one_pos⟩)]
  · rfl
  · intro d
    match d with
    | ⟨0, _⟩ =>
      have h0 : (i 0).1 < a := (i 0).isLt
      show (i 0).1 = if a = 1 then 0 else (i 0).1
      split <;> omega
    | ⟨1, _⟩ => rfl
/-- A row repeated along the columns. -/
theorem broadcastTo_row (f : ℕ → ℕ → ℝ) (h : (⟨2, ![1, b]⟩ : Shape).Broadcasts ⟨2, ![a, b]⟩) :
    broadcastTo ⟨2, ![a, b]⟩ (mat f : FVec Ideal ⟨2, ![1, b]⟩ φ) h = (mat fun _ j => f 0 j : FVec Ideal ⟨2, ![a, b]⟩ φ) := by
  funext i
  rw [broadcastTo_apply _ h i (ix2 ⟨0, Nat.one_pos⟩ ⟨(i 1).1, (i 1).isLt⟩)]
  · rfl
  · intro d
    match d with
    | ⟨0, _⟩ => rfl
    | ⟨1, _⟩ =>
      have h0 : (i 1).1 < b := (i 1).isLt
      show (i 1).1 = if b = 1 then 0 else (i 1).1
      split <;> omega

theorem shapeCast_same {s : Shape} (x : FVec Ideal s φ) (h : s.ShapeCasts s) : shapeCast s x h = x := shapeCast_self x h
/-- A vector as a column. -/
theorem shapeCast_vec_col (f : ℕ → ℝ) (h : (⟨1, ![a]⟩ : Shape).ShapeCasts ⟨2, ![a, 1]⟩) :
    shapeCast ⟨2, ![a, 1]⟩ (vec f : FVec Ideal ⟨1, ![a]⟩ φ) h = (mat fun i _ => f i : FVec Ideal ⟨2, ![a, 1]⟩ φ) := by
  funext i
  rw [shapeCast_apply _ h i (ix1 ⟨(i 0).1, (i 0).isLt⟩)]
  · rfl
  · have h1 : (i 1).1 = 0 := by have : (i 1).1 < 1 := (i 1).isLt; omega
    simp [Shape.rowMajor_val_one, Shape.rowMajor_val_two, h1]
/-- A vector as a row. -/
theorem shapeCast_vec_row (f : ℕ → ℝ) (h : (⟨1, ![a]⟩ : Shape).ShapeCasts ⟨2, ![1, a]⟩) :
    shapeCast ⟨2, ![1, a]⟩ (vec f : FVec Ideal ⟨1, ![a]⟩ φ) h = (mat fun _ j => f j : FVec Ideal ⟨2, ![1, a]⟩ φ) := by
  funext i
  rw [shapeCast_apply _ h i (ix1 ⟨(i 1).1, (i 1).isLt⟩)]
  · rfl
  · have h1 : (i 0).1 = 0 := by have : (i 0).1 < 1 := (i 0).isLt; omega
    simp [Shape.rowMajor_val_one, Shape.rowMajor_val_two, h1]
/-- A stack of one matrix as that matrix. -/
theorem shapeCast_cube_mat (f : ℕ → ℕ → ℕ → ℝ) (h : (⟨3, ![1, a, b]⟩ : Shape).ShapeCasts ⟨2, ![a, b]⟩) :
    shapeCast ⟨2, ![a, b]⟩ (cube f : FVec Ideal ⟨3, ![1, a, b]⟩ φ) h = (mat fun i j => f 0 i j : FVec Ideal ⟨2, ![a, b]⟩ φ) := by
  funext i
  rw [shapeCast_apply _ h i (ix3 ⟨0, Nat.one_pos⟩ ⟨(i 0).1, (i 0).isLt⟩ ⟨(i 1).1, (i 1).isLt⟩)]
  · rfl
  · simp [Shape.rowMajor_val_two, Shape.rowMajor_val_three]
/-- A matrix as a stack of one. -/
theorem shapeCast_mat_cube (f : ℕ → ℕ → ℝ) (h : (⟨2, ![a, b]⟩ : Shape).ShapeCasts ⟨3, ![1, a, b]⟩) :
    shapeCast ⟨3, ![1, a, b]⟩ (mat f : FVec Ideal ⟨2, ![a, b]⟩ φ) h = (cube fun _ i j => f i j : FVec Ideal ⟨3, ![1, a, b]⟩ φ) := by
  funext i
  rw [shapeCast_apply _ h i (ix2 ⟨(i 1).1, (i 1).isLt⟩ ⟨(i 2).1, (i 2).isLt⟩)]
  · rfl
  · have h1 : (i 0).1 = 0 := by have : (i 0).1 < 1 := (i 0).isLt; omega
    simp [Shape.rowMajor_val_two, Shape.rowMajor_val_three, h1]

/-- A block of columns, `o` the first of them. -/
theorem slice_mat (o : ℕ) (f : ℕ → ℕ → ℝ) (h : (⟨2, ![a, b]⟩ : Shape).Slices ![0, o] ⟨2, ![a, c]⟩) :
    extractStridedSlice ⟨2, ![a, c]⟩ ![0, o] (mat f : FVec Ideal ⟨2, ![a, b]⟩ φ) h
      = (mat fun i j => f i (o + j) : FVec Ideal ⟨2, ![a, c]⟩ φ) := by
  funext i
  show ((f (0 + (i 0).1) (o + (i 1).1) : ℝ) : EReal) = _
  rw [Nat.zero_add]; rfl

/-! ### Sums and products -/

theorem rowSum_mat (f : ℕ → ℕ → ℝ) (h : (⟨2, ![a, b]⟩ : Shape).Reduces [1] ⟨1, ![a]⟩) :
    multiReduction .add [1] ⟨1, ![a]⟩ (mat f : FVec Ideal ⟨2, ![a, b]⟩ .f32) 0x00000000#32 h (.inl rfl) rfl
      = (vec fun i => ∑ k ∈ range b, f i k : FVec Ideal ⟨1, ![a]⟩ .f32) := by
  funext i
  pointwise
  exact coe_sum b fun k => f (i 0).1 k
theorem colSum_mat (f : ℕ → ℕ → ℝ) (h : (⟨2, ![a, b]⟩ : Shape).Reduces [0] ⟨1, ![b]⟩) :
    multiReduction .add [0] ⟨1, ![b]⟩ (mat f : FVec Ideal ⟨2, ![a, b]⟩ .f32) 0x00000000#32 h (.inl rfl) rfl
      = (vec fun j => ∑ k ∈ range a, f k j : FVec Ideal ⟨1, ![b]⟩ .f32) := by
  funext i
  pointwise
  exact coe_sum a fun k => f k (i 0).1

/-- A product of matrices: rows of the first, columns of the second. -/
theorem matmul_NN (f g : ℕ → ℕ → ℝ) :
    matmul KernelIdeal.dot_S128x128_S128x256_S128x256_1_0_0_1_n_n none (mat f : FVec Ideal ⟨2, ![128, 128]⟩ .bf16)
        (mat g : FVec Ideal ⟨2, ![128, 256]⟩ .bf16) (mat fun _ _ => 0)
      = mat fun i j => ∑ k ∈ range 128, f i k * g k j := by
  funext i
  pointwise
  exact (congrArg₂ (· + ·) rfl (coe_sum 128 fun k => f (i 0).1 k * g k (i 1).1)).trans (zero_add _)
/-- A product of matrices: columns of the first, columns of the second. -/
theorem matmul_TN (f g : ℕ → ℕ → ℝ) :
    matmul KernelIdeal.dot_S128x128_S128x256_S128x256_0_0_1_1_n_n none (mat f : FVec Ideal ⟨2, ![128, 128]⟩ .bf16)
        (mat g : FVec Ideal ⟨2, ![128, 256]⟩ .bf16) (mat fun _ _ => 0)
      = mat fun i j => ∑ k ∈ range 128, f k i * g k j := by
  funext i
  pointwise
  exact (congrArg₂ (· + ·) rfl (coe_sum 128 fun k => f k (i 0).1 * g k (i 1).1)).trans (zero_add _)
/-- A product of matrices: rows of the first, rows of the second. -/
theorem matmul_NT (f g : ℕ → ℕ → ℝ) :
    matmul KernelIdeal.dot_S128x256_S128x256_S128x128_1_1_0_0_n_n none (mat f : FVec Ideal ⟨2, ![128, 256]⟩ .bf16)
        (mat g : FVec Ideal ⟨2, ![128, 256]⟩ .bf16) (mat fun _ _ => 0)
      = mat fun i j => ∑ k ∈ range 256, f i k * g j k := by
  funext i
  pointwise
  exact (congrArg₂ (· + ·) rfl (coe_sum 256 fun k => f (i 0).1 k * g (i 1).1 k)).trans (zero_add _)

/-! ### The triangle and the lane masks -/

/-- Keeping a matrix on and below the diagonal. -/
theorem select_tril (f g : ℕ → ℕ → ℝ) (h0 : KernelIdeal.S128x128.Iotas .tc 32 [0])
    (h1 : KernelIdeal.S128x128.Iotas .tc 32 [1]) :
    select (cmpi .sge (iota .tc KernelIdeal.S128x128 32 [0] h0) (iota .tc KernelIdeal.S128x128 32 [1] h1))
        (mat f : FVec Ideal KernelIdeal.S128x128 φ) (mat g)
      = mat fun i j => if j ≤ i then f i j else g i j := by
  funext i
  have hi : (i 0).1 < 128 := (i 0).isLt
  have hj : (i 1).1 < 128 := (i 1).isLt
  have key : ∀ x < 128, ∀ y < 128, ((BitVec.ofNat 32 y).sle (BitVec.ofNat 32 x)) = decide (y ≤ x) := by
    intro x hx y hy
    have toInt : ∀ z < 128, (BitVec.ofNat 32 z).toInt = (z : ℤ) := by
      intro z hz
      have hz' : (BitVec.ofNat 32 z).toNat = z := by rw [BitVec.toNat_ofNat]; omega
      rw [BitVec.toInt_eq_toNat_of_lt (by omega), hz']
    rw [BitVec.sle_eq_decide, toInt y hy, toInt x hx]
    exact decide_eq_decide.mpr Nat.cast_le
  show Scalar.select (BitVec.ofBool ((BitVec.ofNat 32 (0 * 128 + (i 1).1)).sle (BitVec.ofNat 32 (0 * 128 + (i 0).1)))) _ _ = _
  rw [Nat.zero_mul, Nat.zero_add, Nat.zero_add, key _ hi _ hj]
  by_cases h : (i 1).1 ≤ (i 0).1
  · simp [Scalar.select, mat, h]
  · simp [Scalar.select, mat, h]

/-- Keeping one lane of a matrix. -/
theorem select_lane (l : ℕ) (hl : l < 128) (f g : ℕ → ℕ → ℝ) (h1 : KernelIdeal.S128x128.Iotas .tc 32 [1]) :
    select (cmpi .eq (iota .tc KernelIdeal.S128x128 32 [1] h1) (broadcast KernelIdeal.S128x128 (BitVec.ofNat 32 l)))
        (mat f : FVec Ideal KernelIdeal.S128x128 φ) (mat g)
      = mat fun i j => if j = l then f i j else g i j := by
  funext i
  have hj : (i 1).1 < 128 := (i 1).isLt
  show Scalar.select (BitVec.ofBool (BitVec.ofNat 32 (0 * 128 + (i 1).1) == BitVec.ofNat 32 l)) _ _ = _
  rw [Nat.zero_mul, Nat.zero_add]
  have key : (BitVec.ofNat 32 (i 1).1 == BitVec.ofNat 32 l) = decide ((i 1).1 = l) := by
    rw [Bool.eq_iff_iff, beq_iff_eq, decide_eq_true_iff]
    constructor
    · intro h
      have := congrArg BitVec.toNat h
      rw [BitVec.toNat_ofNat, BitVec.toNat_ofNat] at this
      omega
    · intro h; rw [h]
  rw [key]
  by_cases h : (i 1).1 = l
  · simp [Scalar.select, mat, h]
  · simp [Scalar.select, mat, h]

/-- Eight blocks of 256 columns side by side. -/
theorem concat_mat (f : ℕ → ℕ → ℕ → ℝ)
    (h : Shape.Concatenates [⟨2, ![128, 256]⟩, ⟨2, ![128, 256]⟩, ⟨2, ![128, 256]⟩, ⟨2, ![128, 256]⟩, ⟨2, ![128, 256]⟩,
      ⟨2, ![128, 256]⟩, ⟨2, ![128, 256]⟩, ⟨2, ![128, 256]⟩] (⟨2, ![128, 2048]⟩ : Shape) 1) :
    concatenate ⟨2, ![128, 2048]⟩ 1 [⟨⟨2, ![128, 256]⟩, (mat (f 0) : FVec Ideal ⟨2, ![128, 256]⟩ .f32)⟩,
        ⟨⟨2, ![128, 256]⟩, (mat (f 1) : FVec Ideal ⟨2, ![128, 256]⟩ .f32)⟩,
        ⟨⟨2, ![128, 256]⟩, (mat (f 2) : FVec Ideal ⟨2, ![128, 256]⟩ .f32)⟩,
        ⟨⟨2, ![128, 256]⟩, (mat (f 3) : FVec Ideal ⟨2, ![128, 256]⟩ .f32)⟩,
        ⟨⟨2, ![128, 256]⟩, (mat (f 4) : FVec Ideal ⟨2, ![128, 256]⟩ .f32)⟩,
        ⟨⟨2, ![128, 256]⟩, (mat (f 5) : FVec Ideal ⟨2, ![128, 256]⟩ .f32)⟩,
        ⟨⟨2, ![128, 256]⟩, (mat (f 6) : FVec Ideal ⟨2, ![128, 256]⟩ .f32)⟩,
        ⟨⟨2, ![128, 256]⟩, (mat (f 7) : FVec Ideal ⟨2, ![128, 256]⟩ .f32)⟩] h
      = (mat fun i j => f (j / 256) i (j % 256) : FVec Ideal ⟨2, ![128, 2048]⟩ .f32) := by
  funext i
  have hj : (i 1).1 < 2048 := (i 1).isLt
  have hn : (i 1).1 / 256 < 8 := by omega
  exact concatenate_ofFn_apply (t := ⟨2, ![128, 2048]⟩) (s₁ := ⟨2, ![128, 256]⟩) 1
    (fun n : Fin 8 => (mat (f n.1) : FVec Ideal ⟨2, ![128, 256]⟩ .f32)) h rfl 256 rfl i ⟨(i 1).1 / 256, hn⟩ rfl
    (ix2 ⟨(i 0).1, (i 0).isLt⟩ ⟨(i 1).1 % 256, Nat.mod_lt _ (by norm_num)⟩) rfl (fun d hd => by
      match d with
      | ⟨0, _⟩ => rfl
      | ⟨1, _⟩ => exact absurd rfl hd)

end Cert.Gmlp

end
-- ==== Proof.Entries.lean ====
/- Arrays of extended reals read by natural indices, and the sums a product of matrices makes of them. No entry need be
   finite: a sum in the extended reals may be regrouped whatever its terms are. -/
module

public import Idealize.ShloMosaic.Lib.Pointwise
public import proofs.«01_k».proof.Proof.Consts

@[expose] public section

noncomputable section

namespace Cert.Ffn

open Idealize.ShloMosaic
open Finset (range)

variable {a b c : ℕ} {φ ψ : FTy}

/-- The matrix of the extended reals `f i j`. -/
def emat (f : ℕ → ℕ → EReal) : FVec Ideal ⟨2, ![a, b]⟩ φ := fun i => f (i 0).1 (i 1).1
/-- The stack of matrices of the extended reals `f q i j`. -/
def ecube (f : ℕ → ℕ → ℕ → EReal) : FVec Ideal ⟨3, ![a, b, c]⟩ φ := fun i => f (i 0).1 (i 1).1 (i 2).1

theorem emat_congr {f g : ℕ → ℕ → EReal} (h : ∀ i < a, ∀ j < b, f i j = g i j) :
    (emat f : FVec Ideal ⟨2, ![a, b]⟩ φ) = emat g :=
  funext fun i => h _ (i 0).isLt _ (i 1).isLt
theorem ecube_congr {f g : ℕ → ℕ → ℕ → EReal} (h : ∀ q < a, ∀ i < b, ∀ j < c, f q i j = g q i j) :
    (ecube f : FVec Ideal ⟨3, ![a, b, c]⟩ φ) = ecube g :=
  funext fun i => h _ (i 0).isLt _ (i 1).isLt _ (i 2).isLt

/-- The entry of a matrix at two natural numbers, zero outside. -/
def entry (x : FVec Ideal ⟨2, ![a, b]⟩ φ) (i j : ℕ) : EReal :=
  if hi : i < a then if hj : j < b then x (ix2 ⟨i, hi⟩ ⟨j, hj⟩) else 0 else 0
/-- The entry of a stack of matrices at three natural numbers, zero outside. -/
def entry3 (x : FVec Ideal ⟨3, ![a, b, c]⟩ φ) (q i j : ℕ) : EReal :=
  if hq : q < a then if hi : i < b then if hj : j < c then x (ix3 ⟨q, hq⟩ ⟨i, hi⟩ ⟨j, hj⟩) else 0 else 0 else 0

theorem entry_apply (x : FVec Ideal ⟨2, ![a, b]⟩ φ) (y : (⟨2, ![a, b]⟩ : Shape).Idx) :
    entry x (y 0).1 (y 1).1 = x y := by
  unfold entry
  rw [dif_pos (show (y 0).1 < a from (y 0).isLt), dif_pos (show (y 1).1 < b from (y 1).isLt)]
  exact congrArg x (funext fun q => match q with | ⟨0, _⟩ => rfl | ⟨1, _⟩ => rfl)
theorem entry3_apply (x : FVec Ideal ⟨3, ![a, b, c]⟩ φ) (y : (⟨3, ![a, b, c]⟩ : Shape).Idx) :
    entry3 x (y 0).1 (y 1).1 (y 2).1 = x y := by
  unfold entry3
  rw [dif_pos (show (y 0).1 < a from (y 0).isLt), dif_pos (show (y 1).1 < b from (y 1).isLt),
    dif_pos (show (y 2).1 < c from (y 2).isLt)]
  exact congrArg x (funext fun q => match q with | ⟨0, _⟩ => rfl | ⟨1, _⟩ => rfl | ⟨2, _⟩ => rfl)
theorem emat_entry (x : FVec Ideal ⟨2, ![a, b]⟩ φ) : emat (entry x) = x := funext (entry_apply x)
theorem ecube_entry (x : FVec Ideal ⟨3, ![a, b, c]⟩ φ) : ecube (entry3 x) = x := funext (entry3_apply x)

/-- A sum over `n` indices as a sum over the naturals below `n`. -/
theorem sum_below (n : ℕ) (f : ℕ → EReal) : ∑ k : Fin n, f k.1 = ∑ k ∈ range n, f k :=
  Fin.sum_univ_eq_sum_range f n

/-- Four sums over consecutive stretches of `n` indices are one sum over all of them. -/
theorem four_stretches (n : ℕ) (f : ℕ → EReal) :
    ((∑ k ∈ range n, f (n * 0 + k) + ∑ k ∈ range n, f (n * 1 + k)) + ∑ k ∈ range n, f (n * 2 + k))
      + ∑ k ∈ range n, f (n * 3 + k) = ∑ k ∈ range (4 * n), f k := by
  rw [show 4 * n = n + n + n + n by omega, Finset.sum_range_add, Finset.sum_range_add, Finset.sum_range_add]
  simp only [Nat.mul_zero, Nat.zero_add, Nat.mul_one, show n * 2 = n + n by omega, show n * 3 = n + n + n by omega]

theorem constant_zero : constant (F := Ideal) ⟨2, ![a, b]⟩ .f32 0x00000000#32 = emat fun _ _ => 0 :=
  funext fun _ => Gmlp.ofBits_zero
theorem addf_emat (f g : ℕ → ℕ → EReal) :
    addf (emat f : FVec Ideal ⟨2, ![a, b]⟩ φ) (emat g) = emat fun i j => f i j + g i j := rfl
theorem truncf_emat (f : ℕ → ℕ → EReal) (h : ψ.bits < φ.bits) :
    truncf ψ (emat f : FVec Ideal ⟨2, ![a, b]⟩ φ) h = emat f := rfl

/-- A matrix as a stack of one. -/
theorem stack_one (f : ℕ → ℕ → EReal) (h : (⟨2, ![b, c]⟩ : Shape).ShapeCasts ⟨3, ![1, b, c]⟩) :
    shapeCast ⟨3, ![1, b, c]⟩ (emat f : FVec Ideal ⟨2, ![b, c]⟩ φ) h = (ecube fun _ => f : FVec Ideal ⟨3, ![1, b, c]⟩ φ) := by
  funext i
  rw [shapeCast_apply _ h i (ix2 ⟨(i 1).1, (i 1).isLt⟩ ⟨(i 2).1, (i 2).isLt⟩)]
  · rfl
  · have h1 : (i 0).1 = 0 := by have : (i 0).1 < 1 := (i 0).isLt; omega
    simp [Shape.rowMajor_val_two, Shape.rowMajor_val_three, h1]

/-- A stack of one as a matrix. -/
theorem unstack_one (f : ℕ → ℕ → EReal) (h : (⟨3, ![1, b, c]⟩ : Shape).ShapeCasts ⟨2, ![b, c]⟩) :
    shapeCast ⟨2, ![b, c]⟩ (ecube fun _ => f : FVec Ideal ⟨3, ![1, b, c]⟩ φ) h = (emat f : FVec Ideal ⟨2, ![b, c]⟩ φ) := by
  funext i
  rw [shapeCast_apply _ h i (ix3 ⟨0, Nat.one_pos⟩ ⟨(i 0).1, (i 0).isLt⟩ ⟨(i 1).1, (i 1).isLt⟩)]
  · rfl
  · simp [Shape.rowMajor_val_two, Shape.rowMajor_val_three]

/-- The offsets of a whole block. -/
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Ffn

end
-- ==== Proof.EntryOps.lean ====
/- Operations of a block on arrays of extended reals read by natural indices: rows and columns repeated, summed, and turned
   into columns and rows. -/
module

public import proofs.«01_k».proof.Proof.Ops
public import proofs.«01_k».proof.Proof.Entries

@[expose] public section

noncomputable section

namespace Cert.Ffn

open Idealize.ShloMosaic Idealize.ShloMosaic.TcCoe Idealize.ShloMosaic.Tactic

variable {a b : ℕ} {φ : FTy}

/-- The vector of the extended reals `f i`. -/
def evec (f : ℕ → EReal) : FVec Ideal ⟨1, ![a]⟩ φ := fun i => f (i 0).1

theorem subf_emat (f g : ℕ → ℕ → EReal) :
    subf (emat f : FVec Ideal ⟨2, ![a, b]⟩ φ) (emat g) = emat fun i j => f i j - g i j := rfl
theorem mulf_emat (f g : ℕ → ℕ → EReal) :
    mulf (emat f : FVec Ideal ⟨2, ![a, b]⟩ φ) (emat g) = emat fun i j => f i j * g i j := rfl
theorem divf_emat (f g : ℕ → ℕ → EReal) :
    divf (emat f : FVec Ideal ⟨2, ![a, b]⟩ φ) (emat g) = emat fun i j => Ideal.div (f i j) (g i j) := rfl
theorem rsqrt_emat (f : ℕ → ℕ → EReal) :
    rsqrt (emat f : FVec Ideal ⟨2, ![a, b]⟩ φ) = emat fun i j => Ideal.rsqrt (f i j) := rfl
theorem splat_emat (x : EReal) : broadcast ⟨2, ![a, b]⟩ x = (emat (fun _ _ => x) : FVec Ideal ⟨2, ![a, b]⟩ φ) := rfl

/-- A column repeated. -/
theorem repeat_col (f : ℕ → ℕ → EReal) (h : (⟨2, ![a, 1]⟩ : Shape).Broadcasts ⟨2, ![a, b]⟩) :
    broadcastTo ⟨2, ![a, b]⟩ (emat f : FVec Ideal ⟨2, ![a, 1]⟩ φ) h = (emat fun i _ => f i 0 : FVec Ideal ⟨2, ![a, b]⟩ φ) := by
  funext i
  rw [broadcastTo_apply _ h i (ix2 ⟨(i 0).1, (i 0).isLt⟩ ⟨0, Nat.one_pos⟩)]
  · rfl
  · intro d
    match d with
    | ⟨0, _⟩ =>
      have h0 : (i 0).1 < a := (i 0).isLt
      show (i 0).1 = if a = 1 then 0 else (i 0).1
      split <;> omega
    | ⟨1, _⟩ => rfl
/-- A row repeated. -/
theorem repeat_row (f : ℕ → ℕ → EReal) (h : (⟨2, ![1, b]⟩ : Shape).Broadcasts ⟨2, ![a, b]⟩) :
    broadcastTo ⟨2, ![a, b]⟩ (emat f : FVec Ideal ⟨2, ![1, b]⟩ φ) h = (emat fun _ j => f 0 j : FVec Ideal ⟨2, ![a, b]⟩ φ) := by
  funext i
  rw [broadcastTo_apply _ h i (ix2 ⟨0, Nat.one_pos⟩ ⟨(i 1).1, (i 1).isLt⟩)]
  · rfl
  · intro d
    match d with
    | ⟨0, _⟩ => rfl
    | ⟨1, _⟩ =>
      have h0 : (i 1).1 < b := (i 1).isLt
      show (i 1).1 = if b = 1 then 0 else (i 1).1
      split <;> omega

/-- A vector as a column. -/
theorem column_of (f : ℕ → EReal) (h : (⟨1, ![a]⟩ : Shape).ShapeCasts ⟨2, ![a, 1]⟩) :
    shapeCast ⟨2, ![a, 1]⟩ (evec f : FVec Ideal ⟨1, ![a]⟩ φ) h = (emat fun i _ => f i : FVec Ideal ⟨2, ![a, 1]⟩ φ) := by
  funext i
  rw [shapeCast_apply _ h i (ix1 ⟨(i 0).1, (i 0).isLt⟩)]
  · rfl
  · have h1 : (i 1).1 = 0 := by have : (i 1).1 < 1 := (i 1).isLt; omega
    simp [Shape.rowMajor_val_one, Shape.rowMajor_val_two, h1]
/-- A vector as a row. -/
theorem row_of (f : ℕ → EReal) (h : (⟨1, ![a]⟩ : Shape).ShapeCasts ⟨2, ![1, a]⟩) :
    shapeCast ⟨2, ![1, a]⟩ (evec f : FVec Ideal ⟨1, ![a]⟩ φ) h = (emat fun _ j => f j : FVec Ideal ⟨2, ![1, a]⟩ φ) := by
  funext i
  rw [shapeCast_apply _ h i (ix1 ⟨(i 1).1, (i 1).isLt⟩)]
  · rfl
  · have h1 : (i 0).1 = 0 := by have : (i 0).1 < 1 := (i 0).isLt; omega
    simp [Shape.rowMajor_val_one, Shape.rowMajor_val_two, h1]

/-- The sums of the rows. -/
theorem sum_rows (f : ℕ → ℕ → EReal) (h : (⟨2, ![a, b]⟩ : Shape).Reduces [1] ⟨1, ![a]⟩) :
    multiReduction .add [1] ⟨1, ![a]⟩ (emat f : FVec Ideal ⟨2, ![a, b]⟩ .f32) 0x00000000#32 h (.inl rfl) rfl
      = (evec fun i => ∑ k ∈ Finset.range b, f i k : FVec Ideal ⟨1, ![a]⟩ .f32) := by
  funext i
  pointwise
  exact sum_below b fun k => f (i 0).1 k
/-- The sums of the columns. -/
theorem sum_cols (f : ℕ → ℕ → EReal) (h : (⟨2, ![a, b]⟩ : Shape).Reduces [0] ⟨1, ![b]⟩) :
    multiReduction .add [0] ⟨1, ![b]⟩ (emat f : FVec Ideal ⟨2, ![a, b]⟩ .f32) 0x00000000#32 h (.inl rfl) rfl
      = (evec fun j => ∑ k ∈ Finset.range a, f k j : FVec Ideal ⟨1, ![b]⟩ .f32) := by
  funext i
  pointwise
  exact sum_below a fun k => f k (i 0).1

end Cert.Ffn

end
-- ==== Proof.ActBlock.lean ====
/- What one grid point of the activation's gradient computes: its block of cotangent rows against its block of weight
   rows, in two halves of 256 columns, each multiplied by the derivative of the activation. -/
module

public import proofs.«01_k».proof.Proof.Entries
public import proofs.«01_k».proof.Proof.Gen.Kernel2Ideal.Value
public import Idealize.ShloMosaic.Lib.Pipeline.ReadBack
public import Idealize.ShloMosaic.Lib.Pipeline.ValueKit.Tiles

@[expose] public section

set_option maxRecDepth 16384

noncomputable section

namespace Cert.Ffn.Act

open Idealize.ShloMosaic TcCoe Tactic Cert.Kernel2Ideal Cert.Kernel2Ideal.Gen

/-- The logistic function of an extended real. -/
def logistic (x : EReal) : EReal := Ideal.div 1 (1 + Ideal.exp (0 - x))
/-- The gate's gradient, from the cotangent `d` of the product, the gate `g` and the factor `u`. -/
def gateGrad (d g u : EReal) : EReal := (d * u) * (logistic g * (1 + g * (1 - logistic g)))
/-- The factor's gradient. -/
def upGrad (d g : EReal) : EReal := d * (g * logistic g)

/-- Row `i` of the cotangents against row `j` of the weights. -/
abbrev rowDot (f w : ℕ → ℕ → EReal) (i j : ℕ) : EReal := ∑ k ∈ Finset.range 2048, f i k * w j k

/-! ### Loads -/

theorem ld_cot (f : ℕ → ℕ → EReal) (h) :
    View.ld (Val := Elt Ideal) (e' := .f32) (emat f : F32 S1024x2048) (Rect.unit ![0, 0] ![1024, 2048] h)
      = (emat f : F32 S1024x2048) :=
  View.ld_unit_zero (S := S1024x2048) zeros2 h _
/-- 256 rows of the weights. -/
theorem ld_weights (w : ℕ → ℕ → EReal) (o : ℕ) (h) :
    View.ld (Val := Elt Ideal) (e' := .bf16) (emat w : BF16 S512x2048) (Rect.unit ![o, 0] ![256, 2048] h)
      = (emat fun i j => w (o + i) j : BF16 S256x2048) := by
  have ho : o + 256 ≤ 512 := by have := h 0; simpa using this
  funext x
  have hx : (x 0).1 < 256 := (x 0).isLt
  rw [View.ld_unit_apply_of _ _ _ _ x (ix2 ⟨o + (x 0).1, by omega⟩ ⟨(x 1).1, (x 1).isLt⟩)]
  · rfl
  · intro a
    match a with
    | ⟨0, _⟩ => rfl
    | ⟨1, _⟩ => show (x 1).1 = 0 + (x 1).1; omega
/-- 256 columns of a block. -/
theorem ld_columns (g : ℕ → ℕ → EReal) (o : ℕ) (h) :
    View.ld (Val := Elt Ideal) (e' := .bf16) (emat g : BF16 S1024x512) (Rect.unit ![0, o] ![1024, 256] h)
      = (emat fun i j => g i (o + j) : BF16 S1024x256) := by
  have ho : o + 256 ≤ 512 := by have := h 1; simpa using this
  funext x
  have hx : (x 1).1 < 256 := (x 1).isLt
  rw [View.ld_unit_apply_of _ _ _ _ x (ix2 ⟨(x 0).1, (x 0).isLt⟩ ⟨o + (x 1).1, by omega⟩)]
  · rfl
  · intro a
    match a with
    | ⟨0, _⟩ => show (x 0).1 = 0 + (x 0).1; omega
    | ⟨1, _⟩ => rfl

/-! ### Two stores side by side -/

theorem canon_halves (f : ℕ → ℕ → EReal) (h0 h1) :
    View.canon [(⟨Rect.unit ![0, 256] ![1024, 256] h1, (emat fun i j => f i (256 + j) : BF16 S1024x256)⟩ : View.Piece (Elt Ideal) S1024x512 .bf16),
      ⟨Rect.unit ![0, 0] ![1024, 256] h0, (emat fun i j => f i (0 + j) : BF16 S1024x256)⟩]
      = (emat f : BF16 S1024x512) := by
  funext y
  have h5 : (y 1).1 < 512 := (y 1).isLt
  by_cases hq : (y 1).1 < 256
  · rw [View.canon_cons_of_not_mem]
    · have hy : y = (Rect.unit (s := S1024x512) ![0, 0] ![1024, 256] h0).emb
          (ix2 ⟨(y 0).1, (y 0).isLt⟩ ⟨(y 1).1, hq⟩) := by
        funext a
        apply Fin.ext
        match a with
        | ⟨0, _⟩ => show (y 0).1 = 0 + 1 * (y 0).1; omega
        | ⟨1, _⟩ => show (y 1).1 = 0 + 1 * (y 1).1; omega
      conv_lhs => rw [hy]
      rw [View.canon_cons_emb]
      show f (y 0).1 (0 + (y 1).1) = f (y 0).1 (y 1).1
      rw [Nat.zero_add]
    · intro hm
      have hm' : y ∈ (Rect.unit (s := S1024x512) ![0, 256] ![1024, 256] h1).set := hm
      rw [Rect.mem_set_unit] at hm'
      have h0 := (hm' 1).1
      have h3 : ((![0, 256] : Fin 2 → ℕ) 1) = 256 := rfl
      rw [h3] at h0
      omega
  · have hy : y = (Rect.unit (s := S1024x512) ![0, 256] ![1024, 256] h1).emb
        (ix2 ⟨(y 0).1, (y 0).isLt⟩ ⟨(y 1).1 - 256, by show _ < 256; omega⟩) := by
      funext a
      apply Fin.ext
      match a with
      | ⟨0, _⟩ => show (y 0).1 = 0 + 1 * (y 0).1; omega
      | ⟨1, _⟩ => show (y 1).1 = 256 + 1 * ((y 1).1 - 256); omega
    conv_lhs => rw [hy]
    rw [View.canon_cons_emb]
    show f (y 0).1 (256 + ((y 1).1 - 256)) = f (y 0).1 (y 1).1
    rw [show 256 + ((y 1).1 - 256) = (y 1).1 by omega]

/-! ### The values stored -/

theorem product (f w : ℕ → ℕ → EReal) :
    matmul dot_S1024x2048_S256x2048_S1024x256_1_1_0_0_n_n none (emat f : BF16 S1024x2048)
        (emat w : BF16 S256x2048) (emat fun _ _ => 0)
      = emat (rowDot f w) := by
  funext i
  pointwise
  exact (congrArg₂ (· + ·) rfl (sum_below 2048 fun k => f (i 0).1 k * w (i 1).1 k)).trans (zero_add _)

theorem dot_eq (f w : ℕ → ℕ → EReal) :
    k0_pay5 (F := Ideal) (emat f : F32 S1024x2048) (emat w : BF16 S256x2048) = (emat (rowDot f w) : F32 S1024x256) := by
  unfold k0_pay5 k0_pay4
  dsimp only
  rw [constant_zero]
  exact product f w
theorem dot_eq' (f w : ℕ → ℕ → EReal) :
    k0_pay10 (F := Ideal) (emat f : F32 S1024x2048) (emat w : BF16 S256x2048) = (emat (rowDot f w) : F32 S1024x256) := by
  unfold k0_pay10 k0_pay4
  dsimp only
  rw [constant_zero]
  exact product f w

theorem splat_one : broadcast S1024x256 (Scalar.ofBits .f32 0x3F800000#32 : Ideal .f32) = (emat fun _ _ => 1 : F32 S1024x256) :=
  funext fun _ => Gmlp.ofBits_one
theorem splat_zero : broadcast S1024x256 (Scalar.ofBits .f32 0x00000000#32 : Ideal .f32) = (emat fun _ _ => 0 : F32 S1024x256) :=
  funext fun _ => Gmlp.ofBits_zero

theorem logistic_eq (g : ℕ → ℕ → EReal) :
    k0_pay7 (F := Ideal) (emat g : BF16 S1024x256) = (emat fun i j => logistic (g i j) : F32 S1024x256) := by
  unfold k0_pay7 k0_pay6
  dsimp only
  rw [splat_one, splat_zero]
  rfl
theorem logistic_eq' (g : ℕ → ℕ → EReal) :
    k0_pay1 (F := Ideal) (emat g : F32 S1024x256) = (emat fun i j => logistic (g i j) : F32 S1024x256) := by
  unfold k0_pay1
  dsimp only
  rw [splat_one, splat_zero]
  rfl

theorem gate_eq (f w g u : ℕ → ℕ → EReal) :
    k0_pay8 (F := Ideal) (emat f : F32 S1024x2048) (emat w : BF16 S256x2048) (emat g : BF16 S1024x256) (emat u : BF16 S1024x256)
      = (emat fun i j => gateGrad (rowDot f w i j) (g i j) (u i j) : BF16 S1024x256) := by
  unfold k0_pay8
  dsimp only
  rw [dot_eq, logistic_eq, splat_one]
  rfl
theorem gate_eq' (d g u : ℕ → ℕ → EReal) :
    k0_pay2 (F := Ideal) (emat d : F32 S1024x256) (emat g : F32 S1024x256) (emat u : BF16 S1024x256)
      = (emat fun i j => gateGrad (d i j) (g i j) (u i j) : BF16 S1024x256) := by
  unfold k0_pay2
  dsimp only
  rw [logistic_eq', splat_one]
  rfl
theorem up_eq (f w g : ℕ → ℕ → EReal) :
    k0_pay9 (F := Ideal) (emat f : F32 S1024x2048) (emat w : BF16 S256x2048) (emat g : BF16 S1024x256)
      = (emat fun i j => upGrad (rowDot f w i j) (g i j) : BF16 S1024x256) := by
  unfold k0_pay9
  dsimp only
  rw [dot_eq, logistic_eq]
  rfl
theorem up_eq' (d g : ℕ → ℕ → EReal) :
    k0_pay3 (F := Ideal) (emat d : F32 S1024x256) (emat g : F32 S1024x256)
      = (emat fun i j => upGrad (d i j) (g i j) : BF16 S1024x256) := by
  unfold k0_pay3
  dsimp only
  rw [logistic_eq']
  rfl

theorem second_dot (f w g u : ℕ → ℕ → EReal) :
    k0_pay12 (F := Ideal) (emat f : F32 S1024x2048) (emat w : BF16 S512x2048) (emat g : BF16 S1024x512) (emat u : BF16 S1024x512)
      = (emat fun i j => rowDot f w i (256 + j) : F32 S1024x256) := by
  unfold k0_pay12
  rw [show View.ld (Val := Elt Ideal) (e' := .f32) (emat f : F32 S1024x2048) r0_0 = (emat f : F32 S1024x2048) from ld_cot f _,
    show View.ld (Val := Elt Ideal) (e' := .bf16) (emat w : BF16 S512x2048) r0_3 = (emat fun i j => w (256 + i) j : BF16 S256x2048) from ld_weights w 256 _]
  exact dot_eq' f _
theorem second_gate (f w g u : ℕ → ℕ → EReal) :
    k0_pay13 (F := Ideal) (emat f : F32 S1024x2048) (emat w : BF16 S512x2048) (emat g : BF16 S1024x512) (emat u : BF16 S1024x512)
      = (emat fun i j => g i (256 + j) : F32 S1024x256) := by
  unfold k0_pay13
  rw [show View.ld (Val := Elt Ideal) (e' := .bf16) (emat g : BF16 S1024x512) r0_4 = (emat fun i j => g i (256 + j) : BF16 S1024x256) from ld_columns g 256 _]
  rfl

/-- The block of the gate's gradient. -/
theorem out_gate (f w g u : ℕ → ℕ → EReal) :
    out0_4 (F := Ideal) (emat f : F32 S1024x2048) (emat w : BF16 S512x2048) (emat g : BF16 S1024x512) (emat u : BF16 S1024x512)
      = (emat fun i j => gateGrad (rowDot f w i j) (g i j) (u i j) : BF16 S1024x512) := by
  unfold out0_4
  rw [second_dot, second_gate,
    show View.ld (Val := Elt Ideal) (e' := .bf16) (emat u : BF16 S1024x512) r0_4 = (emat fun i j => u i (256 + j) : BF16 S1024x256) from ld_columns u 256 _,
    show View.ld (Val := Elt Ideal) (e' := .f32) (emat f : F32 S1024x2048) r0_0 = (emat f : F32 S1024x2048) from ld_cot f _,
    show View.ld (Val := Elt Ideal) (e' := .bf16) (emat w : BF16 S512x2048) r0_1 = (emat fun i j => w (0 + i) j : BF16 S256x2048) from ld_weights w 0 _,
    show View.ld (Val := Elt Ideal) (e' := .bf16) (emat g : BF16 S1024x512) r0_2 = (emat fun i j => g i (0 + j) : BF16 S1024x256) from ld_columns g 0 _,
    show View.ld (Val := Elt Ideal) (e' := .bf16) (emat u : BF16 S1024x512) r0_2 = (emat fun i j => u i (0 + j) : BF16 S1024x256) from ld_columns u 0 _,
    gate_eq, gate_eq']
  exact canon_halves (fun i j => gateGrad (rowDot f w i j) (g i j) (u i j)) _ _

/-- The block of the factor's gradient. -/
theorem out_up (f w g u : ℕ → ℕ → EReal) :
    out0_5 (F := Ideal) (emat f : F32 S1024x2048) (emat w : BF16 S512x2048) (emat g : BF16 S1024x512) (emat u : BF16 S1024x512)
      = (emat fun i j => upGrad (rowDot f w i j) (g i j) : BF16 S1024x512) := by
  unfold out0_5
  rw [second_dot, second_gate,
    show View.ld (Val := Elt Ideal) (e' := .f32) (emat f : F32 S1024x2048) r0_0 = (emat f : F32 S1024x2048) from ld_cot f _,
    show View.ld (Val := Elt Ideal) (e' := .bf16) (emat w : BF16 S512x2048) r0_1 = (emat fun i j => w (0 + i) j : BF16 S256x2048) from ld_weights w 0 _,
    show View.ld (Val := Elt Ideal) (e' := .bf16) (emat g : BF16 S1024x512) r0_2 = (emat fun i j => g i (0 + j) : BF16 S1024x256) from ld_columns g 0 _,
    up_eq, up_eq']
  exact canon_halves (fun i j => upGrad (rowDot f w i j) (g i j)) _ _

end Cert.Ffn.Act

end
-- ==== Proof.GateNormBlock.lean ====
/- What one grid point of the gated norm's gradient computes, of its blocks' entries: 2048 rows of one head, 128 wide. The
   rows' gradient and the gate's are stored; the gain's is added up. -/
module

public import proofs.«01_k».proof.Proof.EntryOps
public import proofs.«01_k».proof.Proof.ActBlock
public import proofs.«01_k».proof.Proof.Gen.Kernel19Ideal.Value

@[expose] public section

set_option maxRecDepth 16384

noncomputable section

namespace Cert.Ffn.GateNorm

open Idealize.ShloMosaic TcCoe Tactic Cert.Kernel19Ideal Cert.Kernel19Ideal.Gen
open Cert.Ffn.Act (logistic)

/-- The mean square of a head's row, plus the small number. -/
def meanSq (x : ℕ → EReal) : EReal := Ideal.div (∑ k ∈ Finset.range 128, x k * x k) ((128 : ℝ) : EReal) + ((Gmlp.eps : ℝ) : EReal)
/-- The reciprocal root of the mean square of a row. -/
def rinv (x : ℕ → EReal) : EReal := Ideal.rsqrt (meanSq x)
/-- The cotangent of the scaled row: that of the product, `d`, times the gate's activation. -/
abbrev cot (d z : ℕ → EReal) (j : ℕ) : EReal := d j * (z j * logistic (z j))
/-- The gradient of a row `x`, from the gain `w` and the cotangent `y` of the scaled row. -/
def rowGrad (x w y : ℕ → EReal) (j : ℕ) : EReal :=
  rinv x * (y j * w j) - x j * (rinv x * rinv x * rinv x) * Ideal.div (∑ k ∈ Finset.range 128, y k * w k * x k) ((128 : ℝ) : EReal)
/-- The gate's gradient. -/
def gateGrad (x w d z : ℕ → EReal) (j : ℕ) : EReal :=
  d j * (x j * rinv x) * w j * (logistic (z j) * (1 + z j * (1 - logistic (z j))))
/-- One row's part of the gain's gradient. -/
def gainGrad (x y : ℕ → EReal) (j : ℕ) : EReal := y j * (x j * rinv x)

theorem ofBits_128 : Ideal.ofBits .f32 0x43000000#32 = ((128 : ℝ) : EReal) := by
  simp [Ideal.ofBits, Ideal.ieee, -EReal.coe_mul]; norm_num
theorem scalar_128 : (Scalar.ofBits .f32 0x43000000#32 : Ideal .f32) = ((128 : ℝ) : EReal) := ofBits_128

variable (o z w d : ℕ → ℕ → EReal)

theorem zero_eq : k0_pay4 (F := Ideal) = (emat fun _ _ => 0 : F32 S1x128) :=
  funext fun _ => Gmlp.ofBits_zero
theorem cot_eq :
    k0_pay1 (F := Ideal) (emat z : F32 S2048x128) (emat d : F32 S2048x128)
      = (emat fun i => cot (d i) (z i) : F32 S2048x128) := by
  funext i
  show d (i 0).1 (i 1).1 * (z (i 0).1 (i 1).1 * Ideal.div (Ideal.ofBits .f32 0x3F800000#32)
    (Ideal.ofBits .f32 0x3F800000#32 + Ideal.exp (Ideal.ofBits .f32 0x00000000#32 - z (i 0).1 (i 1).1))) = _
  rw [Gmlp.ofBits_one, Gmlp.ofBits_zero]
  rfl
theorem rinv_eq : k0_pay5 (F := Ideal) (emat o : F32 S2048x128) = (emat fun i _ => rinv (o i) : F32 S2048x1) := by
  unfold k0_pay5
  dsimp only
  rw [mulf_emat, sum_rows, column_of, scalar_128, Gmlp.scalar_eps, splat_emat, splat_emat, divf_emat, addf_emat, rsqrt_emat]
  rfl
theorem normed_eq :
    k0_pay6 (F := Ideal) (emat o : F32 S2048x128) = (emat fun i j => o i j * rinv (o i) : F32 S2048x128) := by
  unfold k0_pay6
  dsimp only
  rw [rinv_eq, repeat_col, mulf_emat]
theorem row_eq :
    k0_pay3 (F := Ideal) (emat o : F32 S2048x128) (emat z : F32 S2048x128) (emat w : F32 S1x128)
        (emat d : F32 S2048x128) (k0_pay5 (emat o : F32 S2048x128))
      = (emat fun i => rowGrad (o i) (w 0) (cot (d i) (z i)) : F32 S2048x128) := by
  unfold k0_pay3
  dsimp only
  rw [cot_eq, rinv_eq, repeat_row, repeat_col, mulf_emat, mulf_emat, mulf_emat, mulf_emat, repeat_col, mulf_emat, mulf_emat,
    sum_rows, column_of, scalar_128, splat_emat, divf_emat, repeat_col, mulf_emat, subf_emat]
  rfl
theorem gate_eq :
    k0_pay7 (F := Ideal) (emat o : F32 S2048x128) (emat z : F32 S2048x128) (emat w : F32 S1x128)
        (emat d : F32 S2048x128)
      = (emat fun i => gateGrad (o i) (w 0) (d i) (z i) : BF16 S2048x128) := by
  unfold k0_pay7
  dsimp only
  rw [normed_eq, repeat_row, mulf_emat, mulf_emat]
  funext i
  show d (i 0).1 (i 1).1 * (o (i 0).1 (i 1).1 * rinv (o (i 0).1)) * w 0 (i 1).1
    * (Ideal.div (Ideal.ofBits .f32 0x3F800000#32)
        (Ideal.ofBits .f32 0x3F800000#32 + Ideal.exp (Ideal.ofBits .f32 0x00000000#32 - z (i 0).1 (i 1).1))
      * (Ideal.ofBits .f32 0x3F800000#32 + z (i 0).1 (i 1).1 * (Ideal.ofBits .f32 0x3F800000#32
        - Ideal.div (Ideal.ofBits .f32 0x3F800000#32)
          (Ideal.ofBits .f32 0x3F800000#32 + Ideal.exp (Ideal.ofBits .f32 0x00000000#32 - z (i 0).1 (i 1).1))))) = _
  rw [Gmlp.ofBits_one, Gmlp.ofBits_zero]
  rfl
theorem gain_eq (s : ℕ → ℕ → EReal) :
    k0_pay2 (F := Ideal) (emat z : F32 S2048x128) (emat d : F32 S2048x128)
        (k0_pay6 (emat o : F32 S2048x128)) (emat s : F32 S1x128)
      = (emat fun i j => s i j + ∑ k ∈ Finset.range 2048, gainGrad (o k) (cot (d k) (z k)) j : F32 S1x128) := by
  unfold k0_pay2
  dsimp only
  rw [cot_eq, normed_eq, mulf_emat, sum_cols, row_of, shapeCast_self, addf_emat]
  rfl

variable (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .bf16) (harg7 : arg7.IsWhole) (arg8 : Memref sig .tc .vmem S1x128 .f32) (harg8 : arg8.IsWhole)
variable (x0 x1 : Vec Ideal S2048x128 .f32) (x2 : Vec Ideal S1x128 .f32) (x3 : Vec Ideal S2048x128 .f32) (xo : Vec Ideal S1x128 .f32)

/-- The rows' gradient, at the first point … -/
theorem rows_A (hc0 : cond0_0 i) :
    out0_A_4 (F := Ideal) c i arg2 harg2 arg3 harg3 arg4 harg4 arg5 harg5 arg6 harg6 arg7 harg7 arg8 harg8 hc0 x0 x1 x2 x3 = k0_pay3 x0 x1 x2 x3 (k0_pay5 x0) := by
  unfold out0_A_4
  rw [View.read_writes_eq_canon _ _ _ (fun y => cover0_A_4 (y := y) ..)]
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6]
  rw [View.canon_unit_zero zeros2]
  simp only [View.readAt_eq_ld, harg2.read_unread, harg3.read_unread, harg4.read_unread, harg5.read_unread, View.ld_unit_zero (S := S2048x128) zeros2, View.ld_unit_zero (S := S1x128) zeros2]
/-- … and at the others. -/
theorem rows_B (hc0 : ¬cond0_0 i) :
    out0_B_4 (F := Ideal) c i arg2 harg2 arg3 harg3 arg4 harg4 arg5 harg5 arg6 harg6 arg7 harg7 arg8 harg8 hc0 x0 x1 x2 x3 xo = k0_pay3 x0 x1 x2 x3 (k0_pay5 x0) := by
  unfold out0_B_4
  rw [View.read_writes_eq_canon _ _ _ (fun y => cover0_B_4 (y := y) ..)]
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6]
  rw [View.canon_unit_zero zeros2]
  simp only [View.readAt_eq_ld, harg2.read_unread, harg3.read_unread, harg4.read_unread, harg5.read_unread, View.ld_unit_zero (S := S2048x128) zeros2, View.ld_unit_zero (S := S1x128) zeros2]
/-- The gate's gradient, at the first point … -/
theorem gate_A (hc0 : cond0_0 i) :
    out0_A_5 (F := Ideal) c i arg2 harg2 arg3 harg3 arg4 harg4 arg5 harg5 arg6 harg6 arg7 harg7 arg8 harg8 hc0 x0 x1 x2 x3 = k0_pay7 x0 x1 x2 x3 := by
  unfold out0_A_5
  rw [View.read_writes_eq_canon _ _ _ (fun y => cover0_A_5 (y := y) ..)]
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6]
  rw [View.canon_unit_zero zeros2]
  simp only [View.readAt_eq_ld, harg2.read_unread, harg3.read_unread, harg4.read_unread, harg5.read_unread, View.ld_unit_zero (S := S2048x128) zeros2, View.ld_unit_zero (S := S1x128) zeros2]
/-- … and at the others. -/
theorem gate_B (hc0 : ¬cond0_0 i) :
    out0_B_5 (F := Ideal) c i arg2 harg2 arg3 harg3 arg4 harg4 arg5 harg5 arg6 harg6 arg7 harg7 arg8 harg8 hc0 x0 x1 x2 x3 xo = k0_pay7 x0 x1 x2 x3 := by
  unfold out0_B_5
  rw [View.read_writes_eq_canon _ _ _ (fun y => cover0_B_5 (y := y) ..)]
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6]
  rw [View.canon_unit_zero zeros2]
  simp only [View.readAt_eq_ld, harg2.read_unread, harg3.read_unread, harg4.read_unread, harg5.read_unread, View.ld_unit_zero (S := S2048x128) zeros2, View.ld_unit_zero (S := S1x128) zeros2]
/-- The first point clears the gain's gradient before it adds its rows … -/
theorem gain_A (hc0 : cond0_0 i) :
    out0_A_6 (F := Ideal) c i arg2 harg2 arg3 harg3 arg4 harg4 arg5 harg5 arg6 harg6 arg7 harg7 arg8 harg8 hc0 x0 x1 x2 x3 = k0_pay2 x1 x3 (k0_pay6 x0) (k0_pay4 (F := Ideal)) := by
  unfold out0_A_6
  rw [View.read_writes_eq_canon _ _ _ (fun y => cover0_A_6 (y := y) ..)]
  unfold kernelRun0_A
  dsimp only [kernelRun0_A.sl.r, kernelRun0_A.sl.r_1, kernelRun0_A.sl.r_2, kernelRun0_A.sl.r_3, kernelRun0_A.sl.r_4, kernelRun0_A.sl.r_5, kernelRun0_A.sl.r_6]
  rw [View.canon_cons_unit_zero (S := S1x128) zeros2]
  unfold kernelRun0_A.sl.v47 kernelRun0_A.sl.H6_1
  rw [View.readCov_fill _ _ _ _ _ (fun a => by fin_cases a <;> rfl)]
  simp only [View.readAt_eq_ld, harg2.read_unread, harg3.read_unread, harg5.read_unread, harg8.read_unread, View.ld_unit_zero (S := S2048x128) zeros2, View.ld_unit_zero (S := S1x128) zeros2]
/-- … and the others add theirs to what is there. -/
theorem gain_B (hc0 : ¬cond0_0 i) :
    out0_B_6 (F := Ideal) c i arg2 harg2 arg3 harg3 arg4 harg4 arg5 harg5 arg6 harg6 arg7 harg7 arg8 harg8 hc0 x0 x1 x2 x3 xo = k0_pay2 x1 x3 (k0_pay6 x0) xo := by
  unfold out0_B_6
  rw [View.read_writes_eq_canon _ _ _ (fun y => cover0_B_6 (y := y) ..)]
  unfold kernelRun0_B
  dsimp only [kernelRun0_B.sl.r, kernelRun0_B.sl.r_1, kernelRun0_B.sl.r_2, kernelRun0_B.sl.r_3, kernelRun0_B.sl.r_4, kernelRun0_B.sl.r_5, kernelRun0_B.sl.r_6]
  rw [View.canon_unit_zero zeros2]
  simp only [View.readAt_eq_ld, harg2.read_unread, harg3.read_unread, harg5.read_unread, harg8.read_unread, View.ld_unit_zero (S := S2048x128) zeros2, View.ld_unit_zero (S := S1x128) zeros2]

end Cert.Ffn.GateNorm

end
-- ==== Proof.GateNormArray.lean ====
/- What the three arrays of the gated norm's gradient hold after the last grid point, in terms of its arguments' entries.
   Each point has 2048 rows of one of eight heads; the gate's columns begin at 4352 of their array, the cotangent's at
   1024 of theirs. The gain's gradient stays in place from the first point to the last. -/
module

public import proofs.«01_k».proof.Proof.GateNormBlock

@[expose] public section

set_option maxRecDepth 16384

noncomputable section

namespace Cert.Ffn.GateNorm

open Idealize.ShloMosaic TcCoe Tactic Cert.Kernel19Ideal Cert.Kernel19Ideal.Gen
open Finset (range)

variable (m : (ℓ : Loc nD τ sig) → Buf (Elt Ideal) ℓ) (c : Dev nD)
variable (O Z W D : ℕ → ℕ → EReal)

/-- The arguments have these entries: the rows, the projection whose columns hold the gate, the gain, the cotangent. -/
structure Holds : Prop where
  rows : (m ((c : Thread nD τ).loc main_arg0) : F32 S4096x1024) = (emat O : F32 S4096x1024)
  gate : (m ((c : Thread nD τ).loc main_arg1) : F32 S4096x5632) = (emat Z : F32 S4096x5632)
  gain : (m ((c : Thread nD τ).loc main_arg2) : F32 S1x128) = (emat W : F32 S1x128)
  cotangent : (m ((c : Thread nD τ).loc main_arg3) : F32 S4096x2048) = (emat D : F32 S4096x2048)

theorem index_0 : ∀ t : Fin cfg0.N, win0_0.index t 0 = t.1 / 8 ∧ win0_0.index t 1 = t.1 % 8 := by decide +kernel
theorem index_1 : ∀ t : Fin cfg0.N, win0_1.index t 0 = t.1 / 8 ∧ win0_1.index t 1 = 34 + t.1 % 8 := by decide +kernel
theorem index_2 : ∀ t : Fin cfg0.N, win0_2.index t 0 = 0 ∧ win0_2.index t 1 = 0 := by decide +kernel
theorem index_3 : ∀ t : Fin cfg0.N, win0_3.index t 0 = t.1 / 8 ∧ win0_3.index t 1 = 8 + t.1 % 8 := by decide +kernel
theorem index_4 : ∀ t : Fin cfg0.N, win0_4.index t 0 = t.1 / 8 ∧ win0_4.index t 1 = t.1 % 8 := by decide +kernel
theorem index_5 : ∀ t : Fin cfg0.N, win0_5.index t 0 = t.1 / 8 ∧ win0_5.index t 1 = t.1 % 8 := by decide +kernel
theorem index_6 : ∀ t : Fin cfg0.N, win0_6.index t 0 = 0 ∧ win0_6.index t 1 = 0 := by decide +kernel

/-- Head `h` of row `p`, of an array whose heads begin at column `e`. -/
abbrev head (Y : ℕ → ℕ → EReal) (e p h : ℕ) : ℕ → EReal := fun k => Y p (e + 128 * h + k)
/-- The gradient of a head's row, … -/
abbrev rowsAt (p h : ℕ) : ℕ → EReal := rowGrad (head O 0 p h) (W 0) (cot (head D 1024 p h) (head Z 4352 p h))
/-- … the gate's, … -/
abbrev gateAt (p h : ℕ) : ℕ → EReal := gateGrad (head O 0 p h) (W 0) (head D 1024 p h) (head Z 4352 p h)
/-- … and its part of the gain's. -/
abbrev gainAt (p h : ℕ) : ℕ → EReal := gainGrad (head O 0 p h) (cot (head D 1024 p h) (head Z 4352 p h))

variable {m c O Z W D} (H : Holds m c O Z W D)
include H

theorem iblk_0 (t : Fin cfg0.N) :
    iblk m c 0 t = (emat fun i => head O 0 (2048 * (t.1 / 8) + i) (t.1 % 8) : F32 S2048x128) := by
  funext y
  unfold iblk
  rw [View.read_apply]
  show V m c main_arg0 _ = _
  rw [V_main_arg0]
  refine (congrFun H.rows _).trans (congrArg₂ (fun p q => O p q) ?_ ?_)
  · show win0_0.index t 0 * 2048 + 1 * (y 0).1 = 2048 * (t.1 / 8) + (y 0).1; rw [(index_0 t).1]; omega
  · show win0_0.index t 1 * 128 + 1 * (y 1).1 = 0 + 128 * (t.1 % 8) + (y 1).1; rw [(index_0 t).2]; omega
theorem iblk_1 (t : Fin cfg0.N) :
    iblk m c 1 t = (emat fun i => head Z 4352 (2048 * (t.1 / 8) + i) (t.1 % 8) : F32 S2048x128) := by
  funext y
  unfold iblk
  rw [View.read_apply]
  show V m c main_arg1 _ = _
  rw [V_main_arg1]
  refine (congrFun H.gate _).trans (congrArg₂ (fun p q => Z p q) ?_ ?_)
  · show win0_1.index t 0 * 2048 + 1 * (y 0).1 = 2048 * (t.1 / 8) + (y 0).1; rw [(index_1 t).1]; omega
  · show win0_1.index t 1 * 128 + 1 * (y 1).1 = 4352 + 128 * (t.1 % 8) + (y 1).1; rw [(index_1 t).2]; omega
theorem iblk_3 (t : Fin cfg0.N) :
    iblk m c 3 t = (emat fun i => head D 1024 (2048 * (t.1 / 8) + i) (t.1 % 8) : F32 S2048x128) := by
  funext y
  unfold iblk
  rw [View.read_apply]
  show V m c main_arg3 _ = _
  rw [V_main_arg3]
  refine (congrFun H.cotangent _).trans (congrArg₂ (fun p q => D p q) ?_ ?_)
  · show win0_3.index t 0 * 2048 + 1 * (y 0).1 = 2048 * (t.1 / 8) + (y 0).1; rw [(index_3 t).1]; omega
  · show win0_3.index t 1 * 128 + 1 * (y 1).1 = 1024 + 128 * (t.1 % 8) + (y 1).1; rw [(index_3 t).2]; omega
theorem iblk_2 (t : Fin cfg0.N) : iblk m c 2 t = (emat W : F32 S1x128) := by
  funext y
  unfold iblk
  rw [View.read_apply]
  show V m c main_arg2 _ = _
  rw [V_main_arg2]
  refine (congrFun H.gain _).trans (congrArg₂ (fun p q => W p q) ?_ ?_)
  · show win0_2.index t 0 * 1 + 1 * (y 0).1 = (y 0).1; rw [(index_2 t).1]; omega
  · show win0_2.index t 1 * 128 + 1 * (y 1).1 = (y 1).1; rw [(index_2 t).2]; omega

/-- What each point writes for its rows … -/
theorem rows_at (t : Fin cfg0.N) :
    (outsAt0 m c t.1 t.isLt).1
      = (emat fun i => rowsAt O Z W D (2048 * (t.1 / 8) + i) (t.1 % 8) : F32 S2048x128) := by
  by_cases h : t.1 % 16 = 0
  · rw [outsAt0_A m c t h]
    dsimp only
    rw [rows_A, iblk_0 H, iblk_1 H, iblk_2 H, iblk_3 H]
    exact row_eq _ _ _ _
  · rw [outsAt0_B m c t h]
    dsimp only
    rw [rows_B, iblk_0 H, iblk_1 H, iblk_2 H, iblk_3 H]
    exact row_eq _ _ _ _
/-- … and for its gate. -/
theorem gate_at (t : Fin cfg0.N) :
    (outsAt0 m c t.1 t.isLt).2.1
      = (emat fun i => gateAt O Z W D (2048 * (t.1 / 8) + i) (t.1 % 8) : BF16 S2048x128) := by
  by_cases h : t.1 % 16 = 0
  · rw [outsAt0_A m c t h]
    dsimp only
    rw [gate_A, iblk_0 H, iblk_1 H, iblk_2 H, iblk_3 H]
    exact gate_eq _ _ _ _
  · rw [outsAt0_B m c t h]
    dsimp only
    rw [gate_B, iblk_0 H, iblk_1 H, iblk_2 H, iblk_3 H]
    exact gate_eq _ _ _ _

/-- The gain's gradient after point `n`: the sum over the points so far. -/
theorem gain_state (n : ℕ) : ∀ hn : n < cfg0.N,
    (outsAt0 m c n hn).2.2
      = (emat fun _ j => ∑ q ∈ range (n + 1), ∑ k ∈ range 2048, gainAt O Z D (2048 * (q / 8) + k) (q % 8) j
          : F32 S1x128) := by
  induction n with
  | zero =>
    intro hn
    rw [outsAt0_A m c ⟨0, hn⟩ rfl]
    dsimp only
    rw [gain_A, iblk_0 H, iblk_1 H, iblk_3 H, zero_eq, gain_eq]
    refine emat_congr fun i _ j _ => ?_
    rw [Finset.sum_range_one, zero_add]
  | succ n ih =>
    intro hn
    have hN : cfg0.N = 16 := N_0
    rw [outsAt0_B m c ⟨n + 1, hn⟩ (by show ¬(n + 1) % 16 = 0; omega)]
    dsimp only
    rw [gain_B, iblk_0 H, iblk_1 H, iblk_3 H]
    refine (congrArg (k0_pay2 (F := Ideal) _ _ _) (ih (by omega))).trans ((gain_eq _ _ _ _).trans ?_)
    refine emat_congr fun i _ j _ => ?_
    rw [Finset.sum_range_succ _ (n + 1)]

omit H in
/-- The points in order go through all rows of each head. -/
theorem regroup (F : ℕ → ℕ → EReal) :
    ∑ q ∈ range 16, ∑ k ∈ range 2048, F (2048 * (q / 8) + k) (q % 8)
      = ∑ p ∈ range 4096, ∑ h ∈ range 8, F p h := by
  rw [show 16 = 8 + 8 from rfl, Finset.sum_range_add, show 4096 = 2048 + 2048 from rfl, Finset.sum_range_add]
  refine congrArg₂ (· + ·) ((Finset.sum_congr rfl fun q hq => ?_).trans Finset.sum_comm)
    ((Finset.sum_congr rfl fun q hq => ?_).trans Finset.sum_comm)
  · have hq := Finset.mem_range.mp hq
    refine Finset.sum_congr rfl fun k _ => ?_
    rw [show 2048 * (q / 8) + k = k by omega, show q % 8 = q by omega]
  · have hq := Finset.mem_range.mp hq
    refine Finset.sum_congr rfl fun k _ => ?_
    rw [show 2048 * ((8 + q) / 8) + k = 2048 + k by omega, show (8 + q) % 8 = q by omega]

omit H in
theorem cover_4 (i : S4096x1024.Idx) : ∃ t : Fin cfg0.N, i ∈ ((View.whole main_v0_0).slice (win0_4.rect t)).set := by
  have hN : cfg0.N = 16 := N_0
  have h0 : (i 0 : Nat) < 4096 := (i 0).isLt
  have h1 : (i 1 : Nat) < 1024 := (i 1).isLt
  have hl : 8 * ((i 0).1 / 2048) + (i 1).1 / 128 < cfg0.N := by omega
  refine ⟨⟨_, hl⟩, ?_⟩
  rw [View.set_slice_whole, Rect.mem_set_unit]
  intro a
  match a with
  | ⟨0, _⟩ =>
    show win0_4.index (⟨_, hl⟩ : Fin cfg0.N) 0 * 2048 ≤ (i 0 : Nat) ∧ (i 0 : Nat) < win0_4.index (⟨_, hl⟩ : Fin cfg0.N) 0 * 2048 + 2048
    rw [(index_4 _).1]; dsimp only; omega
  | ⟨1, _⟩ =>
    show win0_4.index (⟨_, hl⟩ : Fin cfg0.N) 1 * 128 ≤ (i 1 : Nat) ∧ (i 1 : Nat) < win0_4.index (⟨_, hl⟩ : Fin cfg0.N) 1 * 128 + 128
    rw [(index_4 _).2]; dsimp only; omega
/-- The array of the rows' gradient, … -/
theorem rows_array :
    (dats m 0 c).arrAt 4 cfg0.N = (emat fun i j => rowsAt O Z W D i (j / 128) (j % 128) : F32 S4096x1024) := by
  have hN : cfg0.N = 16 := N_0
  refine (dats m 0 c).arrAt_eq_of_cover 4 (emat fun i j => rowsAt O Z W D i (j / 128) (j % 128) : F32 S4096x1024)
    (fun t hf => ?_) fun i => (cover_4 i).imp fun t ht => ⟨flush0_4 t, ht⟩
  rw [Kernel19Ideal.Value.flushed4, rows_at H t]
  funext y
  have h1 : (y 1).1 < 128 := (y 1).isLt
  rw [View.read_apply]
  show rowsAt O Z W D (2048 * (t.1 / 8) + (y 0).1) (t.1 % 8) (y 1).1
      = rowsAt O Z W D (win0_4.index t 0 * 2048 + 1 * (y 0).1) ((win0_4.index t 1 * 128 + 1 * (y 1).1) / 128)
          ((win0_4.index t 1 * 128 + 1 * (y 1).1) % 128)
  rw [(index_4 t).1, (index_4 t).2, show t.1 / 8 * 2048 + 1 * (y 0).1 = 2048 * (t.1 / 8) + (y 0).1 by omega,
      show (t.1 % 8 * 128 + 1 * (y 1).1) / 128 = t.1 % 8 by omega, show (t.1 % 8 * 128 + 1 * (y 1).1) % 128 = (y 1).1 by omega]
omit H in
theorem cover_5 (i : S4096x1024.Idx) : ∃ t : Fin cfg0.N, i ∈ ((View.whole main_v0_1).slice (win0_5.rect t)).set := by
  have hN : cfg0.N = 16 := N_0
  have h0 : (i 0 : Nat) < 4096 := (i 0).isLt
  have h1 : (i 1 : Nat) < 1024 := (i 1).isLt
  have hl : 8 * ((i 0).1 / 2048) + (i 1).1 / 128 < cfg0.N := by omega
  refine ⟨⟨_, hl⟩, ?_⟩
  rw [View.set_slice_whole, Rect.mem_set_unit]
  intro a
  match a with
  | ⟨0, _⟩ =>
    show win0_5.index (⟨_, hl⟩ : Fin cfg0.N) 0 * 2048 ≤ (i 0 : Nat) ∧ (i 0 : Nat) < win0_5.index (⟨_, hl⟩ : Fin cfg0.N) 0 * 2048 + 2048
    rw [(index_5 _).1]; dsimp only; omega
  | ⟨1, _⟩ =>
    show win0_5.index (⟨_, hl⟩ : Fin cfg0.N) 1 * 128 ≤ (i 1 : Nat) ∧ (i 1 : Nat) < win0_5.index (⟨_, hl⟩ : Fin cfg0.N) 1 * 128 + 128
    rw [(index_5 _).2]; dsimp only; omega
/-- … and that of the gate's. -/
theorem gate_array :
    (dats m 0 c).arrAt 5 cfg0.N = (emat fun i j => gateAt O Z W D i (j / 128) (j % 128) : BF16 S4096x1024) := by
  have hN : cfg0.N = 16 := N_0
  refine (dats m 0 c).arrAt_eq_of_cover 5 (emat fun i j => gateAt O Z W D i (j / 128) (j % 128) : BF16 S4096x1024)
    (fun t hf => ?_) fun i => (cover_5 i).imp fun t ht => ⟨flush0_5 t, ht⟩
  rw [Kernel19Ideal.Value.flushed5, gate_at H t]
  funext y
  have h1 : (y 1).1 < 128 := (y 1).isLt
  rw [View.read_apply]
  show gateAt O Z W D (2048 * (t.1 / 8) + (y 0).1) (t.1 % 8) (y 1).1
      = gateAt O Z W D (win0_5.index t 0 * 2048 + 1 * (y 0).1) ((win0_5.index t 1 * 128 + 1 * (y 1).1) / 128)
          ((win0_5.index t 1 * 128 + 1 * (y 1).1) % 128)
  rw [(index_5 t).1, (index_5 t).2, show t.1 / 8 * 2048 + 1 * (y 0).1 = 2048 * (t.1 / 8) + (y 0).1 by omega,
      show (t.1 % 8 * 128 + 1 * (y 1).1) / 128 = t.1 % 8 by omega, show (t.1 % 8 * 128 + 1 * (y 1).1) % 128 = (y 1).1 by omega]
omit H in
theorem cover_6 (i : S1x128.Idx) (hl : 15 < cfg0.N) : i ∈ ((View.whole main_v0_2).slice (win0_6.rect ⟨15, hl⟩)).set := by
  have h0 : (i 0 : Nat) < 1 := (i 0).isLt
  have h1 : (i 1 : Nat) < 128 := (i 1).isLt
  rw [View.set_slice_whole, Rect.mem_set_unit]
  intro a
  match a with
  | ⟨0, _⟩ =>
    show win0_6.index (⟨15, hl⟩ : Fin cfg0.N) 0 * 1 ≤ (i 0 : Nat) ∧ (i 0 : Nat) < win0_6.index (⟨15, hl⟩ : Fin cfg0.N) 0 * 1 + 1
    rw [(index_6 _).1]; omega
  | ⟨1, _⟩ =>
    show win0_6.index (⟨15, hl⟩ : Fin cfg0.N) 1 * 128 ≤ (i 1 : Nat) ∧ (i 1 : Nat) < win0_6.index (⟨15, hl⟩ : Fin cfg0.N) 1 * 128 + 128
    rw [(index_6 _).2]; omega
/-- The array of the gain's gradient. -/
theorem gain_array :
    (dats m 0 c).arrAt 6 cfg0.N
      = (emat fun _ j => ∑ p ∈ range 4096, ∑ h ∈ range 8, gainAt O Z D p h j : F32 S1x128) := by
  have hN : cfg0.N = 16 := N_0
  refine (dats m 0 c).arrAt_eq_of_cover 6 (emat fun _ j => ∑ p ∈ range 4096, ∑ h ∈ range 8, gainAt O Z D p h j : F32 S1x128)
    (fun t hf => ?_) fun i => ⟨⟨15, by omega⟩, (flush0_6 _).mpr rfl, cover_6 i _⟩
  · have ht : t.1 % 16 = 15 := (flush0_6 t).mp hf
    have hl : t.1 < 16 := lt_of_lt_of_eq t.isLt N_0
    have hs := gain_state H t.1 t.isLt
    rw [show t.1 + 1 = 16 by omega] at hs
    rw [Kernel19Ideal.Value.flushed6, hs]
    funext y
    rw [View.read_apply]
    refine (regroup fun p h => gainAt O Z D p h (y 1).1).trans ?_
    show _ = (∑ p ∈ range 4096, ∑ h ∈ range 8, gainAt O Z D p h (win0_6.index t 1 * 128 + 1 * (y 1).1))
    rw [(index_6 t).2, show 0 * 128 + 1 * (y 1).1 = (y 1).1 by omega]

end Cert.Ffn.GateNorm

end
-- ==== Proof.NormBlock.lean ====
/- What one grid point of the norm's gradient computes, of its blocks' entries: its product is stored, then
   added up; the last of four points adds the other gradient of the hidden rows, goes back through the norm, and adds its
   rows to the gain's gradient. -/
module

public import proofs.«01_k».proof.Proof.EntryOps
public import proofs.«01_k».proof.Proof.Gen.Kernel5Ideal.Value
public import Idealize.ShloMosaic.Lib.Pipeline.ReadBack
public import Idealize.ShloMosaic.Lib.Pipeline.ValueKit.Tiles

@[expose] public section

set_option maxRecDepth 16384

noncomputable section

namespace Cert.Ffn.Norm

open Idealize.ShloMosaic TcCoe Tactic Cert.Kernel5Ideal Cert.Kernel5Ideal.Gen
open Finset (range)

/-- Row `i` of the first block against row `j` of the second. -/
abbrev rlines (f g : ℕ → ℕ → EReal) (i j : ℕ) : EReal := ∑ k ∈ range 1408, f i k * g j k
/-- The mean square of a row, plus the small number. -/
def meanSq (x : ℕ → EReal) : EReal := Ideal.div (∑ k ∈ range 2048, x k * x k) ((2048 : ℝ) : EReal) + ((Gmlp.eps : ℝ) : EReal)
/-- The reciprocal root of the mean square of a row. -/
def rinv (x : ℕ → EReal) : EReal := Ideal.rsqrt (meanSq x)
/-- The gradient of a row before the norm, from the row `x`, the gain `g`, and the cotangents `y` of the normalised row and
    `d` of the row itself. -/
def rowGrad (x g y d : ℕ → EReal) (j : ℕ) : EReal :=
  (rinv x * (y j * g j) - x j * (rinv x * rinv x * rinv x) * Ideal.div (∑ k ∈ range 2048, y k * g k * x k) ((2048 : ℝ) : EReal)) + d j
/-- One row's part of the gain's gradient. -/
def gainGrad (x y : ℕ → EReal) (j : ℕ) : EReal := y j * x j * rinv x

theorem product (f g : ℕ → ℕ → EReal) :
    matmul dot_S512x1408_S2048x1408_S512x2048_1_1_0_0_n_n none (emat f : BF16 S512x1408)
        (emat g : BF16 S2048x1408) (emat fun _ _ => 0)
      = emat (rlines f g) := by
  funext i
  pointwise
  exact (congrArg₂ (· + ·) rfl (sum_below 1408 fun k => f (i 0).1 k * g (i 1).1 k)).trans (zero_add _)

theorem unstack (g : ℕ → ℕ → EReal) :
    shapeCast S2048x1408 (ecube fun _ => g : BF16 S1x2048x1408) shapeCasts_S1x2048x1408_S2048x1408 = (emat g : BF16 S2048x1408) :=
  unstack_one _ _

theorem zero_eq : k0_pay1 (F := Ideal) = (emat fun _ _ => 0 : F32 S1x2048) := by
  unfold k0_pay1
  exact funext fun _ => Gmlp.ofBits_zero
theorem first_eq (f g : ℕ → ℕ → EReal) :
    k0_pay2 (F := Ideal) (emat f : BF16 S512x1408) (ecube fun _ => g : BF16 S1x2048x1408) = (emat (rlines f g) : F32 S512x2048) := by
  unfold k0_pay2
  dsimp only
  rw [unstack, constant_zero, product]
  exact shapeCast_self _ _
theorem next_eq (f g s : ℕ → ℕ → EReal) :
    k0_pay3 (F := Ideal) (emat f : BF16 S512x1408) (ecube fun _ => g : BF16 S1x2048x1408) (emat s : F32 S512x2048)
      = (emat fun i j => s i j + rlines f g i j : F32 S512x2048) := by
  unfold k0_pay3
  dsimp only
  rw [unstack, constant_zero, product, addf_emat]
  exact shapeCast_self _ _
/-- The whole cotangent of the normalised rows. -/
theorem cot_eq (f g s r : ℕ → ℕ → EReal) :
    k0_pay5 (F := Ideal) (emat f : BF16 S512x1408) (ecube fun _ => g : BF16 S1x2048x1408) (emat s : F32 S512x2048) (emat r : F32 S512x2048)
      = (emat fun i j => s i j + rlines f g i j + r i j : F32 S512x2048) := by
  unfold k0_pay5
  dsimp only
  rw [unstack, constant_zero, product, addf_emat]
  exact addf_emat _ _
theorem rinv_eq (x : ℕ → ℕ → EReal) :
    k0_pay6 (F := Ideal) (emat x : F32 S512x2048) = (emat fun i _ => rinv (x i) : F32 S512x1) := by
  unfold k0_pay6
  dsimp only
  rw [mulf_emat, sum_rows, column_of, Gmlp.scalar_2048, Gmlp.scalar_eps, splat_emat, splat_emat, divf_emat, addf_emat, rsqrt_emat]
  rfl
theorem row_eq (f w s r x g d : ℕ → ℕ → EReal) :
    k0_pay7 (F := Ideal) (emat f : BF16 S512x1408) (ecube fun _ => w : BF16 S1x2048x1408) (emat s : F32 S512x2048) (emat r : F32 S512x2048)
        (emat x : F32 S512x2048) (emat g : F32 S1x2048) (emat d : F32 S512x2048)
      = (emat fun i j => rowGrad (x i) (g 0) (fun j => s i j + rlines f w i j + r i j) (d i) j : F32 S512x2048) := by
  unfold k0_pay7
  dsimp only
  rw [cot_eq, rinv_eq, repeat_row, repeat_col, mulf_emat, mulf_emat, mulf_emat, mulf_emat, repeat_col, mulf_emat, mulf_emat,
    sum_rows, column_of, Gmlp.scalar_2048, splat_emat, divf_emat, repeat_col, mulf_emat, subf_emat, addf_emat]
  rfl
theorem gain_eq (y x o : ℕ → ℕ → EReal) :
    k0_pay4 (F := Ideal) (emat y : F32 S512x2048) (emat x : F32 S512x2048) (emat fun i _ => rinv (x i) : F32 S512x1) (emat o : F32 S1x2048)
      = (emat fun i j => o i j + ∑ k ∈ range 512, gainGrad (x k) (y k) j : F32 S1x2048) := by
  unfold k0_pay4
  dsimp only
  rw [mulf_emat, repeat_col, mulf_emat, sum_cols, row_of, shapeCast_self]
  exact addf_emat _ _

variable (c : Dev nD) (i : grid0.Coords) (arg2 : Memref sig .tc .vmem S512x1408 .bf16) (harg2 : arg2.IsWhole) (arg3 : Memref sig .tc .vmem S1x2048x1408 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .f32) (harg8 : arg8.IsWhole) (arg9 : Memref sig .tc .vmem S1x2048 .f32) (harg9 : arg9.IsWhole) (arg10 : Memref sig .tc .vmem S512x2048 .f32) (harg10 : arg10.IsWhole)
variable (x0 : Vec Ideal S512x1408 .bf16) (x1 : Vec Ideal S1x2048x1408 .bf16) (x2 x3 : Vec Ideal S512x2048 .f32) (x4 : Vec Ideal S1x2048 .f32) (x5 : Vec Ideal S512x2048 .f32) (xo : Vec Ideal S1x2048 .f32) (xs : Vec Ideal S512x2048 .f32)

/-- The very first point clears the gain's gradient … -/
theorem gain_A (hc0 : cond0_0 i) (hc1 : cond0_1 i) (hc2 : ¬cond0_2 i) (hc3 : ¬cond0_3 i) :
    out0_A_7 (F := Ideal) c i arg2 harg2 arg3 harg3 arg4 harg4 arg5 harg5 arg6 harg6 arg7 harg7 arg8 harg8 arg9 harg9 arg10 harg10 hc0 hc1 hc2 hc3 x0 x1 x2 x3 x4 x5 = k0_pay1 (F := Ideal) := by
  unfold out0_A_7
  rw [View.read_writes_eq_canon _ _ _ (fun y => cover0_A_7 (y := y) ..)]
  unfold kernelRun0_A
  dsimp only
  rw [View.canon_unit_zero zeros2]
/-- … and stores its product. -/
theorem kept_A (hc0 : cond0_0 i) (hc1 : cond0_1 i) (hc2 : ¬cond0_2 i) (hc3 : ¬cond0_3 i) :
    sout0_A_0 (F := Ideal) c i arg2 harg2 arg3 harg3 arg4 harg4 arg5 harg5 arg6 harg6 arg7 harg7 arg8 harg8 arg9 harg9 arg10 harg10 hc0 hc1 hc2 hc3 x0 x1 x2 x3 x4 x5 = k0_pay2 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg2.read_unread, harg3.read_unread, View.ld_unit_zero (S := S512x2048) zeros2, View.ld_unit_zero (S := S512x1408) zeros2, View.ld_unit_zero (S := S1x2048x1408) zeros3]
/-- The other first points store their product. -/
theorem kept_D (hc0 : ¬cond0_0 i) (hc1 : cond0_1 i) (hc2 : ¬cond0_2 i) (hc3 : ¬cond0_3 i) :
    sout0_D_0 (F := Ideal) c i arg2 harg2 arg3 harg3 arg4 harg4 arg5 harg5 arg6 harg6 arg7 harg7 arg8 harg8 arg9 harg9 arg10 harg10 hc0 hc1 hc2 hc3 x0 x1 x2 x3 x4 x5 = k0_pay2 x0 x1 := by
  unfold sout0_D_0
  rw [View.read_writes_eq_canon _ _ _ (fun y => scover0_D_0 (y := y) ..)]
  unfold kernelRun0_D
  dsimp only
  rw [View.canon_unit_zero zeros2]
  simp only [View.readAt_eq_ld, harg2.read_unread, harg3.read_unread, View.ld_unit_zero (S := S512x2048) zeros2, View.ld_unit_zero (S := S512x1408) zeros2, View.ld_unit_zero (S := S1x2048x1408) zeros3]
/-- The points in between add theirs. -/
theorem kept_B (hc0 : ¬cond0_0 i) (hc1 : ¬cond0_1 i) (hc2 : cond0_2 i) (hc3 : ¬cond0_3 i) :
    sout0_B_0 (F := Ideal) c i arg2 harg2 arg3 harg3 arg4 harg4 arg5 harg5 arg6 harg6 arg7 harg7 arg8 harg8 arg9 harg9 arg10 harg10 hc0 hc1 hc2 hc3 x0 x1 x2 x3 x4 x5 xs = k0_pay3 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg2.read_unread, harg3.read_unread, harg10.read_unread, View.ld_unit_zero (S := S512x2048) zeros2, View.ld_unit_zero (S := S512x1408) zeros2, View.ld_unit_zero (S := S1x2048x1408) zeros3]
/-- The last of four points writes the rows' gradient … -/
theorem rows_C (hc0 : ¬cond0_0 i) (hc1 : ¬cond0_1 i) (hc2 : ¬cond0_2 i) (hc3 : cond0_3 i) :
    out0_C_6 (F := Ideal) c i arg2 harg2 arg3 harg3 arg4 harg4 arg5 harg5 arg6 harg6 arg7 harg7 arg8 harg8 arg9 harg9 arg10 harg10 hc0 hc1 hc2 hc3 x0 x1 x2 x3 x4 x5 xo xs = k0_pay7 x0 x1 xs x2 x3 x4 x5 := by
  unfold out0_C_6
  rw [View.read_writes_eq_canon _ _ _ (fun y => cover0_C_6 (y := y) ..)]
  unfold kernelRun0_C
  dsimp only [kernelRun0_C.sl.r, kernelRun0_C.sl.r_1, kernelRun0_C.sl.r_2, kernelRun0_C.sl.r_3]
  rw [View.canon_unit_zero zeros2]
  simp only [View.readAt_eq_ld, harg2.read_unread, harg3.read_unread, harg4.read_unread, harg5.read_unread, harg6.read_unread, harg7.read_unread, harg10.read_unread, View.ld_unit_zero (S := S512x2048) zeros2, View.ld_unit_zero (S := S512x1408) zeros2, View.ld_unit_zero (S := S1x2048) zeros2, View.ld_unit_zero (S := S1x2048x1408) zeros3]
/-- … and adds its rows to the gain's gradient. -/
theorem gain_C (hc0 : ¬cond0_0 i) (hc1 : ¬cond0_1 i) (hc2 : ¬cond0_2 i) (hc3 : cond0_3 i) :
    out0_C_7 (F := Ideal) c i arg2 harg2 arg3 harg3 arg4 harg4 arg5 harg5 arg6 harg6 arg7 harg7 arg8 harg8 arg9 harg9 arg10 harg10 hc0 hc1 hc2 hc3 x0 x1 x2 x3 x4 x5 xo xs
      = k0_pay4 (k0_pay5 x0 x1 xs x2) x3 (k0_pay6 x3) xo := by
  unfold out0_C_7
  rw [View.read_writes_eq_canon _ _ _ (fun y => cover0_C_7 (y := y) ..)]
  unfold kernelRun0_C
  dsimp only [kernelRun0_C.sl.r, kernelRun0_C.sl.r_1, kernelRun0_C.sl.r_2, kernelRun0_C.sl.r_3]
  rw [View.canon_unit_zero zeros2]
  simp only [View.readAt_eq_ld, harg2.read_unread, harg3.read_unread, harg4.read_unread, harg5.read_unread, harg9.read_unread, harg10.read_unread, View.ld_unit_zero (S := S512x2048) zeros2, View.ld_unit_zero (S := S512x1408) zeros2, View.ld_unit_zero (S := S1x2048) zeros2, View.ld_unit_zero (S := S1x2048x1408) zeros3]

end Cert.Ffn.Norm

end
-- ==== Proof.NormReference.lean ====
/- What the reference of the norm's gradient computes, stage by stage, in terms of its arguments' entries. -/
module

public import proofs.«01_k».proof.Proof.NormBlock
public import proofs.«01_k».proof.Proof.Gen.Reference5Ideal.Read

@[expose] public section

set_option maxRecDepth 16384

noncomputable section

namespace Cert.Ffn.Norm

open Idealize.ShloMosaic Cert.Reference5Ideal Cert.Reference5Ideal.Read
open Finset (range)

variable (A : ℕ → ℕ → EReal) (W : ℕ → ℕ → ℕ → EReal) (R X G D : ℕ → ℕ → EReal)

/-- The weights side by side: column `k` is column `k % 1408` of shard `k / 1408`. -/
theorem weights_side (y : S2048x5632.Idx) :
    val_main_v2 (F := Ideal) (ecube W : BF16 S4x2048x1408) y = W ((y 1).1 / 1408) (y 0).1 ((y 1).1 % 1408) := by
  have h0 : (y 0).1 < 2048 := (y 0).isLt
  have h1 : (y 1).1 < 5632 := (y 1).isLt
  rw [val_main_v2_apply, val_main_v1_apply, val_main_v0_apply]
  show W (((y 0).1 * 5632 + (y 1).1) / 1408 % 4) (((y 0).1 * 5632 + (y 1).1) / 5632)
    (((y 0).1 * 5632 + (y 1).1) % 1408) = _
  rw [show ((y 0).1 * 5632 + (y 1).1) / 1408 % 4 = (y 1).1 / 1408 by omega,
    show ((y 0).1 * 5632 + (y 1).1) / 5632 = (y 0).1 by omega,
    show ((y 0).1 * 5632 + (y 1).1) % 1408 = (y 1).1 % 1408 by omega]

/-- A sum from a zero start. -/
theorem sum_from_zero (n : ℕ) (f : ℕ → EReal) :
    Ideal.ofBits .f32 0x00000000#32 + ∑ k : Fin n, f k.1 = ∑ k ∈ range n, f k := by
  rw [Gmlp.ofBits_zero, EReal.coe_zero, zero_add, sum_below]

/-- The cotangent of the normalised rows. -/
abbrev refCot (i j : ℕ) : EReal := R i j + ∑ k ∈ range 5632, A i k * W (k / 1408) j (k % 1408)

theorem ref_v21 :
    val_main_v21 (F := Ideal) (emat A : BF16 S4096x5632) (ecube W : BF16 S4x2048x1408) (emat R : F32 S4096x2048)
      = (emat (refCot A W R) : F32 S4096x2048) := by
  funext y
  rw [val_main_v21_apply, val_main_v20_apply]
  simp only [weights_side, val_main_v19_apply]
  exact congrArg₂ (· + ·) rfl (sum_below 5632 fun k => A (y 0).1 k * W (k / 1408) (y 1).1 (k % 1408))

/-- The mean squares of the rows, plus the small number. -/
theorem ref_v9 : val_main_v9 (F := Ideal) (emat X : F32 S4096x2048) = (emat fun i _ => meanSq (X i) : F32 S4096x1) := by
  funext y
  rw [val_main_v9_apply, val_main_v7_apply, val_main_v8_apply, val_main_cst_1_apply, val_main_v6_apply, val_main_cst_0_apply,
    val_main_v5_apply, val_main_v4_apply, val_main_cst_apply]
  simp only [val_main_v3_apply]
  show Ideal.div (Ideal.ofBits .f32 0x00000000#32 + ∑ k : Fin 2048, X (y 0).1 k.1 * X (y 0).1 k.1) (Ideal.ofBits .f32 0x45000000#32)
    + Ideal.ofBits .f32 0x358637BD#32 = meanSq (X (y 0).1)
  rw [sum_from_zero 2048 fun k => X (y 0).1 k * X (y 0).1 k, Gmlp.ofBits_2048, Gmlp.ofBits_eps]
  rfl

/-- Their reciprocal roots. -/
theorem ref_v10 : val_main_v10 (F := Ideal) (emat X : F32 S4096x2048) = (emat fun i _ => rinv (X i) : F32 S4096x1) := by
  unfold val_main_v10
  rw [ref_v9]
  rfl

/-- The derivative of the reciprocal roots. -/
theorem ref_v13 : val_main_v13 (F := Ideal) (emat X : F32 S4096x2048)
    = (emat fun i _ => ((-(1 / 2) : ℝ) : EReal) * Ideal.div (rinv (X i)) (meanSq (X i)) : F32 S4096x1) := by
  funext y
  rw [val_main_v13_apply, val_main_v12_apply, val_main_cst_2_apply, val_main_v11_apply, ref_v9, ref_v10]
  show Ideal.ofBits .f32 0xBF000000#32 * Ideal.div (rinv (X (y 0).1)) (meanSq (X (y 0).1)) = _
  rw [Gmlp.ofBits_neg_half]
  rfl

theorem ref_v23 :
    val_main_v23 (F := Ideal) (emat A : BF16 S4096x5632) (ecube W : BF16 S4x2048x1408) (emat R : F32 S4096x2048)
        (emat X : F32 S4096x2048)
      = (evec fun j => ∑ p ∈ range 4096, X p j * rinv (X p) * refCot A W R p j : F32 S2048) := by
  funext y
  rw [val_main_v23_apply, val_main_cst_3_apply]
  simp only [val_main_v22_apply, val_main_v15_apply, val_main_v14_apply, ref_v10, ref_v21]
  exact sum_from_zero 4096 fun p => X p (y 0).1 * rinv (X p) * refCot A W R p (y 0).1

/-- The gain's gradient. -/
theorem ref_v24 :
    val_main_v24 (F := Ideal) (emat A : BF16 S4096x5632) (ecube W : BF16 S4x2048x1408) (emat R : F32 S4096x2048)
        (emat X : F32 S4096x2048)
      = (emat fun _ j => ∑ p ∈ range 4096, X p j * rinv (X p) * refCot A W R p j : F32 S1x2048) := by
  funext y
  have h0 : (y 0).1 < 1 := (y 0).isLt
  rw [val_main_v24_apply, ref_v23]
  show ∑ p ∈ range 4096, X p ((y 0).1 * 2048 + (y 1).1) * rinv (X p) * refCot A W R p ((y 0).1 * 2048 + (y 1).1) = _
  rw [show (y 0).1 * 2048 + (y 1).1 = (y 1).1 by omega]
  rfl

/-- The cotangent after the gain. -/
theorem ref_v26 :
    val_main_v26 (F := Ideal) (emat A : BF16 S4096x5632) (ecube W : BF16 S4x2048x1408) (emat R : F32 S4096x2048)
        (emat G : F32 S1x2048)
      = (emat fun i j => refCot A W R i j * G 0 j : F32 S4096x2048) := by
  funext y
  rw [val_main_v26_apply, val_main_v25_apply, ref_v21]
  rfl

/-- A row's products with its cotangent after the gain, summed. -/
abbrev refDot (x g y : ℕ → EReal) : EReal := ∑ k ∈ range 2048, x k * (y k * g k)

theorem ref_v28 :
    val_main_v28 (F := Ideal) (emat A : BF16 S4096x5632) (ecube W : BF16 S4x2048x1408) (emat R : F32 S4096x2048)
        (emat X : F32 S4096x2048) (emat G : F32 S1x2048)
      = (evec fun i => refDot (X i) (G 0) (refCot A W R i) : F32 S4096) := by
  funext y
  rw [val_main_v28_apply, val_main_cst_4_apply]
  simp only [val_main_v27_apply, ref_v26]
  exact sum_from_zero 2048 fun k => X (y 0).1 k * (refCot A W R (y 0).1 k * G 0 k)

theorem ref_v29 :
    val_main_v29 (F := Ideal) (emat A : BF16 S4096x5632) (ecube W : BF16 S4x2048x1408) (emat R : F32 S4096x2048)
        (emat X : F32 S4096x2048) (emat G : F32 S1x2048)
      = (emat fun i _ => refDot (X i) (G 0) (refCot A W R i) : F32 S4096x1) := by
  funext y
  have h1 : (y 1).1 < 1 := (y 1).isLt
  rw [val_main_v29_apply, ref_v28]
  show refDot (X ((y 0).1 * 1 + (y 1).1)) (G 0) (refCot A W R ((y 0).1 * 1 + (y 1).1)) = _
  rw [show (y 0).1 * 1 + (y 1).1 = (y 0).1 by omega]
  rfl

/-- What the row is multiplied by on the way back through its mean square, … -/
def refSlope (x g y : ℕ → EReal) : EReal :=
  Ideal.div (refDot x g y * (((-(1 / 2) : ℝ) : EReal) * Ideal.div (rinv x) (meanSq x))) ((2048 : ℝ) : EReal)
/-- … and the reference's gradient of the row. -/
def refRow (x g y d : ℕ → EReal) (j : ℕ) : EReal :=
  ((d j + y j * g j * rinv x) + x j * refSlope x g y) + refSlope x g y * x j

theorem ref_v37 (y : S4096x2048.Idx) :
    val_main_v37 (F := Ideal) (emat A : BF16 S4096x5632) (ecube W : BF16 S4x2048x1408) (emat R : F32 S4096x2048)
        (emat X : F32 S4096x2048) (emat G : F32 S1x2048) y
      = refSlope (X (y 0).1) (G 0) (refCot A W R (y 0).1) := by
  rw [val_main_v37_apply, val_main_v36_apply, val_main_cst_6_apply, Fin.sum_univ_one, val_main_v35_apply, val_main_v34_apply, val_main_cst_5_apply,
    val_main_v33_apply, ref_v29, ref_v13]
  show Ideal.ofBits .f32 0x00000000#32 + Ideal.div (refDot (X (y 0).1) (G 0) (refCot A W R (y 0).1)
    * (((-(1 / 2) : ℝ) : EReal) * Ideal.div (rinv (X (y 0).1)) (meanSq (X (y 0).1)))) (Ideal.ofBits .f32 0x45000000#32) = _
  rw [Gmlp.ofBits_2048, Gmlp.ofBits_zero, EReal.coe_zero, zero_add]
  rfl

/-- The rows' gradient. -/
theorem ref_v41 :
    val_main_v41 (F := Ideal) (emat A : BF16 S4096x5632) (ecube W : BF16 S4x2048x1408) (emat R : F32 S4096x2048)
        (emat X : F32 S4096x2048) (emat G : F32 S1x2048) (emat D : F32 S4096x2048)
      = (emat fun i j => refRow (X i) (G 0) (refCot A W R i) (D i) j : F32 S4096x2048) := by
  funext y
  rw [val_main_v41_apply, val_main_v40_apply, val_main_v39_apply, val_main_v38_apply, val_main_v32_apply, val_main_v31_apply,
    val_main_v30_apply, ref_v37, ref_v26, ref_v10]
  rfl

end Cert.Ffn.Norm

end
-- ==== Proof.GateNormReference.lean ====
/- What the reference's three results of the gated norm's gradient hold, in terms of its arguments' entries. It splits each
   row into eight heads and goes back through the activation, the gain and the mean square. -/
module

public import proofs.«01_k».proof.Proof.GateNormArray
public import proofs.«01_k».proof.Proof.NormReference
public import proofs.«01_k».proof.Proof.Gen.Reference19Ideal.Read

@[expose] public section

set_option maxRecDepth 16384

noncomputable section

namespace Cert.Ffn.GateNorm

open Idealize.ShloMosaic Cert.Reference19Ideal Cert.Reference19Ideal.Read
open Finset (range)
open Cert.Ffn.Act (logistic)
open Cert.Ffn.Norm (sum_from_zero)

variable (O Z W D : ℕ → ℕ → EReal)

/-- The rows, the projection, the gain and the cotangent as the reference gets them. -/
abbrev inO : F32 S4096x1024 := emat O
abbrev inZ : F32 S4096x5632 := emat Z
abbrev inW : F32 S1x128 := emat W
abbrev inD : F32 S4096x2048 := emat D

/-- Column `128 h + k` of a row of 1024 is entry `k` of head `h`. -/
theorem split_row (i : S4096x8x128.Idx) :
    (((i 0).1 * 8 + (i 1).1) * 128 + (i 2).1) / 1024 = (i 0).1
    ∧ (((i 0).1 * 8 + (i 1).1) * 128 + (i 2).1) % 1024 = 128 * (i 1).1 + (i 2).1 := by
  have h1 : (i 1).1 < 8 := (i 1).isLt
  have h2 : (i 2).1 < 128 := (i 2).isLt
  omega

theorem ref_v2 : val_main_v2 (F := Ideal) (inO O) = (ecube (head O 0) : F32 S4096x8x128) := by
  funext i
  obtain ⟨e0, e1⟩ := split_row i
  rw [val_main_v2_apply]
  refine congrArg₂ O e0 (e1.trans ?_)
  rw [Nat.zero_add]
theorem ref_v19 : val_main_v19 (F := Ideal) (inZ Z) = (ecube (head Z 4352) : F32 S4096x8x128) := by
  funext i
  obtain ⟨e0, e1⟩ := split_row i
  rw [val_main_v19_apply, val_main_v0_apply]
  refine congrArg₂ Z e0 ((congrArg (4352 + ·) e1).trans (Nat.add_assoc ..).symm)
theorem ref_v24 : val_main_v24 (F := Ideal) (inD D) = (ecube (head D 1024) : F32 S4096x8x128) := by
  funext i
  obtain ⟨e0, e1⟩ := split_row i
  rw [val_main_v24_apply, val_main_v23_apply]
  refine congrArg₂ D e0 ((congrArg (1024 + ·) e1).trans (Nat.add_assoc ..).symm)

/-- The mean squares, plus the small number, … -/
theorem ref_v9 : val_main_v9 (F := Ideal) (inO O) = (ecube fun p h _ => meanSq (head O 0 p h) : F32 S4096x8x1) := by
  funext y
  rw [val_main_v9_apply, val_main_v7_apply, val_main_v8_apply, val_main_cst_1_apply, val_main_v6_apply, val_main_cst_0_apply,
    val_main_v5_apply, val_main_v4_apply, val_main_cst_apply]
  simp only [val_main_v3_apply, ref_v2]
  refine congrArg₂ (· + ·) (congrArg₂ Ideal.div (sum_from_zero 128 fun k => head O 0 (y 0).1 (y 1).1 k * head O 0 (y 0).1 (y 1).1 k) ofBits_128)
    Gmlp.ofBits_eps
/-- … and their reciprocal roots. -/
theorem ref_v10 : val_main_v10 (F := Ideal) (inO O) = (ecube fun p h _ => rinv (head O 0 p h) : F32 S4096x8x1) := by
  unfold val_main_v10
  rw [ref_v9]
  rfl
theorem ref_v15 :
    val_main_v15 (F := Ideal) (inO O) = (ecube fun p h k => head O 0 p h k * rinv (head O 0 p h) : F32 S4096x8x128) := by
  funext y
  rw [val_main_v15_apply, val_main_v14_apply, ref_v2, ref_v10]
  rfl
theorem gain_row (i : S128.Idx) : val_main_v1 (F := Ideal) (inW W) i = W 0 (i 0).1 := by
  have h : (i 0).1 < 128 := (i 0).isLt
  rw [val_main_v1_apply]
  exact congrArg (W 0) (Nat.mod_eq_of_lt h)

/-- The logistic function of the gate. -/
theorem ref_v20 : val_main_v20_2 (F := Ideal) (inZ Z) = (ecube fun p h k => logistic (head Z 4352 p h k) : F32 S4096x8x128) := by
  funext i
  rw [val_main_v20_2_apply, val_main_call0_v4_apply, val_main_call0_cst_0_apply, val_main_call0_v3_apply,
    val_main_call0_v2_apply, val_main_call0_cst_apply, val_main_call0_v1_apply, val_main_call0_v0_apply, ref_v19]
  generalize hz : (ecube (head Z 4352) : F32 S4096x8x128) i = z
  show Ideal.div (Ideal.ofBits .f32 0x3F800000#32) (Ideal.ofBits .f32 0x3F800000#32 + Ideal.exp (-z)) = _
  rw [Gmlp.ofBits_one, show -z = 0 - z by rw [sub_eq_add_neg, zero_add], ← hz]
  rfl
/-- The cotangent of the scaled rows. -/
theorem ref_v26 :
    val_main_v26 (F := Ideal) (inZ Z) (inD D) = (ecube fun p h => cot (head D 1024 p h) (head Z 4352 p h) : F32 S4096x8x128) := by
  funext i
  rw [val_main_v26_apply, val_main_v20_0_apply, ref_v24, ref_v19, ref_v20]
  rfl

/-- The reference's gradient of the gate. -/
def refGate (x w d z : ℕ → EReal) (j : ℕ) : EReal :=
  (x j * rinv x * w j * d j) * logistic (z j) + (z j * (x j * rinv x * w j * d j)) * (logistic (z j) * (1 - logistic (z j)))
theorem ref_v27 :
    val_main_v27 (F := Ideal) (inO O) (inZ Z) (inW W) (inD D)
      = (ecube fun p h => refGate (head O 0 p h) (W 0) (head D 1024 p h) (head Z 4352 p h) : F32 S4096x8x128) := by
  funext i
  rw [val_main_v27_apply, val_main_call1_v1_apply, val_main_call1_v2_apply, val_main_call1_v0_apply, val_main_v20_1_apply,
    val_main_call0_v7_apply, val_main_call0_v6_apply, val_main_call0_cst_1_apply, val_main_v25_apply, val_main_v18_apply,
    val_main_v17_apply, val_main_v16_apply, gain_row, ref_v15, ref_v24, ref_v19, ref_v20,
    show (FloatOps.ofBits .f32 0x3F800000#32 : Ideal .f32) = (1 : EReal) from Gmlp.ofBits_one]
  rfl
theorem gate_reference :
    val_main_v50 (F := Ideal) (inO O) (inZ Z) (inW W) (inD D)
      = (emat fun p j => refGate (head O 0 p (j / 128)) (W 0) (head D 1024 p (j / 128)) (head Z 4352 p (j / 128)) (j % 128)
          : BF16 S4096x1024) := by
  funext y
  have h1 : (y 1).1 < 1024 := (y 1).isLt
  rw [val_main_v50_apply, val_main_v28_apply, ref_v27]
  show refGate (head O 0 (((y 0).1 * 1024 + (y 1).1) / 1024) (((y 0).1 * 1024 + (y 1).1) / 128 % 8)) (W 0)
    (head D 1024 (((y 0).1 * 1024 + (y 1).1) / 1024) (((y 0).1 * 1024 + (y 1).1) / 128 % 8))
    (head Z 4352 (((y 0).1 * 1024 + (y 1).1) / 1024) (((y 0).1 * 1024 + (y 1).1) / 128 % 8)) (((y 0).1 * 1024 + (y 1).1) % 128) = _
  rw [show ((y 0).1 * 1024 + (y 1).1) / 1024 = (y 0).1 by omega, show ((y 0).1 * 1024 + (y 1).1) / 128 % 8 = (y 1).1 / 128 by omega,
    show ((y 0).1 * 1024 + (y 1).1) % 128 = (y 1).1 % 128 by omega]
  rfl

/-- A row's products with its cotangent after the gain, summed, … -/
abbrev refDot (x w y : ℕ → EReal) : EReal := ∑ k ∈ range 128, x k * (y k * w k)
/-- … what the row is multiplied by on the way back through its mean square, … -/
def refSlope (x w y : ℕ → EReal) : EReal :=
  Ideal.div (refDot x w y * (((-(1 / 2) : ℝ) : EReal) * Ideal.div (rinv x) (meanSq x))) ((128 : ℝ) : EReal)
/-- … and the reference's gradient of the row. -/
def refRow (x w y : ℕ → EReal) (j : ℕ) : EReal :=
  (y j * w j * rinv x + x j * refSlope x w y) + refSlope x w y * x j

theorem ref_v33 :
    val_main_v33 (F := Ideal) (inZ Z) (inW W) (inD D)
      = (ecube fun p h k => cot (head D 1024 p h) (head Z 4352 p h) k * W 0 k : F32 S4096x8x128) := by
  funext i
  rw [val_main_v33_apply, val_main_v32_apply, val_main_v16_apply, gain_row, ref_v26]
  rfl
theorem ref_v37 :
    val_main_v37 (F := Ideal) (inO O) (inZ Z) (inW W) (inD D)
      = (ecube fun p h _ => refDot (head O 0 p h) (W 0) (cot (head D 1024 p h) (head Z 4352 p h)) : F32 S4096x8x1) := by
  funext y
  have h1 : (y 1).1 < 8 := (y 1).isLt
  have h2 : (y 2).1 < 1 := (y 2).isLt
  rw [val_main_v37_apply, val_main_v36_apply, val_main_cst_5_apply]
  simp only [val_main_v35_apply, ref_v2, ref_v33]
  refine (sum_from_zero 128 fun k => head O 0 ((((y 0).1 * 8 + (y 1).1) * 1 + (y 2).1) / 8) ((((y 0).1 * 8 + (y 1).1) * 1 + (y 2).1) % 8) k
    * (cot (head D 1024 ((((y 0).1 * 8 + (y 1).1) * 1 + (y 2).1) / 8) ((((y 0).1 * 8 + (y 1).1) * 1 + (y 2).1) % 8))
        (head Z 4352 ((((y 0).1 * 8 + (y 1).1) * 1 + (y 2).1) / 8) ((((y 0).1 * 8 + (y 1).1) * 1 + (y 2).1) % 8)) k * W 0 k)).trans ?_
  rw [show (((y 0).1 * 8 + (y 1).1) * 1 + (y 2).1) / 8 = (y 0).1 by omega,
    show (((y 0).1 * 8 + (y 1).1) * 1 + (y 2).1) % 8 = (y 1).1 by omega]
  rfl
theorem ref_v44 :
    val_main_v44 (F := Ideal) (inO O) (inZ Z) (inW W) (inD D)
      = (ecube fun p h _ => refSlope (head O 0 p h) (W 0) (cot (head D 1024 p h) (head Z 4352 p h)) : F32 S4096x8x128) := by
  funext y
  rw [val_main_v44_apply, val_main_v43_apply, val_main_cst_7_apply, Fin.sum_univ_one, val_main_v42_apply, val_main_v41_apply, val_main_cst_6_apply,
    val_main_v40_apply, ref_v37, val_main_v13_apply, val_main_v12_apply, val_main_cst_2_apply, val_main_v11_apply, ref_v9, ref_v10]
  show Ideal.ofBits .f32 0x00000000#32 + Ideal.div (refDot (head O 0 (y 0).1 (y 1).1) (W 0) (cot (head D 1024 (y 0).1 (y 1).1) (head Z 4352 (y 0).1 (y 1).1))
    * (Ideal.ofBits .f32 0xBF000000#32 * Ideal.div (rinv (head O 0 (y 0).1 (y 1).1)) (meanSq (head O 0 (y 0).1 (y 1).1)))) (Ideal.ofBits .f32 0x43000000#32) = _
  rw [ofBits_128, Gmlp.ofBits_neg_half, Gmlp.ofBits_zero, EReal.coe_zero, zero_add]
  rfl
/-- The gradient of the rows. -/
theorem rows_reference :
    val_main_v49 (F := Ideal) (inO O) (inZ Z) (inW W) (inD D)
      = (emat fun p j => refRow (head O 0 p (j / 128)) (W 0) (cot (head D 1024 p (j / 128)) (head Z 4352 p (j / 128))) (j % 128)
          : F32 S4096x1024) := by
  funext y
  have h1 : (y 1).1 < 1024 := (y 1).isLt
  rw [val_main_v49_apply, val_main_v48_apply, val_main_v47_apply, val_main_v46_apply, val_main_v45_apply, val_main_v39_apply, val_main_v38_apply,
    ref_v44, ref_v2, ref_v33, ref_v10]
  show refRow (head O 0 (((y 0).1 * 1024 + (y 1).1) / 1024) (((y 0).1 * 1024 + (y 1).1) / 128 % 8)) (W 0)
    (cot (head D 1024 (((y 0).1 * 1024 + (y 1).1) / 1024) (((y 0).1 * 1024 + (y 1).1) / 128 % 8))
      (head Z 4352 (((y 0).1 * 1024 + (y 1).1) / 1024) (((y 0).1 * 1024 + (y 1).1) / 128 % 8))) (((y 0).1 * 1024 + (y 1).1) % 128) = _
  rw [show ((y 0).1 * 1024 + (y 1).1) / 1024 = (y 0).1 by omega, show ((y 0).1 * 1024 + (y 1).1) / 128 % 8 = (y 1).1 / 128 by omega,
    show ((y 0).1 * 1024 + (y 1).1) % 128 = (y 1).1 % 128 by omega]
  rfl

/-- A sum over the first two of three axes. -/
theorem sum_two {a b d : ℕ} (f : ℕ → ℕ → ℕ → EReal)
    (h : Shape.ReducesTo (⟨3, ![a, b, d]⟩ : Shape) [0, 1] ⟨1, ![d]⟩) (init : Ideal .f32) (h0 : init = (0 : EReal)) :
    Ideal.hostReduceAdd h (ecube f : FVec Ideal ⟨3, ![a, b, d]⟩ .f32) init
      = (evec fun k => ∑ p ∈ range a, ∑ q ∈ range b, f p q k : FVec Ideal ⟨1, ![d]⟩ .f32) := by
  funext j
  show init + ∑ i ∈ Finset.univ.filter (fun i => h.drop i = j), _ = _
  rw [h0, zero_add]
  have e0 : ∀ i : (⟨3, ![a, b, d]⟩ : Shape).Idx, (h.drop i 0).1 = (i 2).1 := fun i => rfl
  have hb : ∑ i ∈ Finset.univ.filter (fun i => h.drop i = j), (ecube f : FVec Ideal ⟨3, ![a, b, d]⟩ .f32) i
      = ∑ p : Fin a × Fin b, f p.1.val p.2.val (j 0).1 := by
    refine Finset.sum_bij' (fun i _ => ((⟨(i 0).1, (i 0).isLt⟩ : Fin a), (⟨(i 1).1, (i 1).isLt⟩ : Fin b)))
      (fun p _ => fun x => match x with
        | ⟨0, _⟩ => (⟨p.1.val, p.1.isLt⟩ : Fin a)
        | ⟨1, _⟩ => (⟨p.2.val, p.2.isLt⟩ : Fin b)
        | ⟨2, _⟩ => (⟨(j 0).1, (j 0).isLt⟩ : Fin d)) ?_ ?_ ?_ ?_ ?_
    · intro i _; exact Finset.mem_univ _
    · intro p _
      refine Finset.mem_filter.mpr ⟨Finset.mem_univ _, ?_⟩
      funext x
      match x with
      | ⟨0, _⟩ => exact Fin.ext rfl
    · intro i hi
      have hj := (Finset.mem_filter.mp hi).2
      subst hj
      funext x
      match x with
      | ⟨0, _⟩ => rfl
      | ⟨1, _⟩ => rfl
      | ⟨2, _⟩ => exact Fin.ext (e0 i)
    · intro p _; rfl
    · intro i hi
      have hj := (Finset.mem_filter.mp hi).2
      subst hj
      exact congrArg (f (i 0).1 (i 1).1) (e0 i).symm
  refine hb.trans (Fintype.sum_prod_type _ |>.trans ?_)
  refine (Finset.sum_congr rfl fun p _ => sum_below b fun q => f p.1 q (j 0).1).trans ?_
  exact sum_below a fun p => ∑ q ∈ range b, f p q (j 0).1

/-- The gradient of the gain. -/
theorem gain_reference :
    val_main_v51 (F := Ideal) (inO O) (inZ Z) (inD D)
      = (emat fun _ j => ∑ p ∈ range 4096, ∑ h ∈ range 8,
          head O 0 p h j * rinv (head O 0 p h) * cot (head D 1024 p h) (head Z 4352 p h) j : F32 S1x128) := by
  have e29 : val_main_v29 (F := Ideal) (inO O) (inZ Z) (inD D) = (ecube fun p h j =>
      head O 0 p h j * rinv (head O 0 p h) * cot (head D 1024 p h) (head Z 4352 p h) j : F32 S4096x8x128) := by
    funext i
    rw [val_main_v29_apply, ref_v15, ref_v26]
    rfl
  have e30 : val_main_v30 (F := Ideal) (inO O) (inZ Z) (inD D) = (evec fun j => ∑ p ∈ range 4096, ∑ h ∈ range 8,
      head O 0 p h j * rinv (head O 0 p h) * cot (head D 1024 p h) (head Z 4352 p h) j : F32 S128) := by
    unfold val_main_v30
    rw [e29]
    exact sum_two _ _ _ Gmlp.ofBits_zero
  generalize (fun j => ∑ p ∈ range 4096, ∑ h ∈ range 8,
      head O 0 p h j * rinv (head O 0 p h) * cot (head D 1024 p h) (head Z 4352 p h) j) = g at e30
  have e31 : val_main_v31 (F := Ideal) (inO O) (inZ Z) (inD D) = (ecube fun _ _ => g : F32 S1x1x128) := by
    funext i
    have h0 : (i 0).1 < 1 := (i 0).isLt
    have h1 : (i 1).1 < 1 := (i 1).isLt
    rw [val_main_v31_apply, e30]
    exact congrArg g (show ((i 0).1 * 1 + (i 1).1) * 128 + (i 2).1 = (i 2).1 by omega)
  have e34 : val_main_v34 (F := Ideal) (inO O) (inZ Z) (inD D) = (evec g : F32 S128) := by
    unfold val_main_v34
    rw [e31]
    refine (sum_two _ _ _ Gmlp.ofBits_zero).trans (congrArg (fun f => (evec f : F32 S128)) (funext fun j => ?_))
    rw [Finset.sum_range_one, Finset.sum_range_one]
  funext y
  rw [val_main_v51_apply, e34]
  rfl

end Cert.Ffn.GateNorm

end
-- ==== Proof.NormArray.lean ====
/- What the two arrays of the norm's gradient hold after the last grid point, in terms of its arguments' entries. Four
   points in a row add up the cotangent of 512 normalised rows; the fourth writes their gradient. The gain's gradient stays
   in place from the first point to the last and so sums over all 4096 rows. -/
module

public import proofs.«01_k».proof.Proof.NormBlock

@[expose] public section

set_option maxRecDepth 16384

noncomputable section

namespace Cert.Ffn.Norm

open Idealize.ShloMosaic TcCoe Tactic Cert.Kernel5Ideal Cert.Kernel5Ideal.Gen
open Finset (range)

variable (m : (ℓ : Loc nD τ sig) → Buf (Elt Ideal) ℓ) (c : Dev nD)
variable (A : ℕ → ℕ → EReal) (W : ℕ → ℕ → ℕ → EReal) (R X G D : ℕ → ℕ → EReal)

/-- The arguments have these entries: the factor's gradient, the weights shard by shard, the rest of the cotangent of the
    normalised rows, the rows, the gain, and the cotangent of the rows themselves. -/
structure Holds : Prop where
  factor : (m ((c : Thread nD τ).loc main_arg0) : BF16 S4096x5632) = (emat A : BF16 S4096x5632)
  weights : (m ((c : Thread nD τ).loc main_arg1) : BF16 S4x2048x1408) = (ecube W : BF16 S4x2048x1408)
  rest : (m ((c : Thread nD τ).loc main_arg2) : F32 S4096x2048) = (emat R : F32 S4096x2048)
  rows : (m ((c : Thread nD τ).loc main_arg3) : F32 S4096x2048) = (emat X : F32 S4096x2048)
  gain : (m ((c : Thread nD τ).loc main_arg4) : F32 S1x2048) = (emat G : F32 S1x2048)
  direct : (m ((c : Thread nD τ).loc main_arg5) : F32 S4096x2048) = (emat D : F32 S4096x2048)

theorem index_0 : ∀ t : Fin cfg0.N, win0_0.index t 0 = t.1 / 4 ∧ win0_0.index t 1 = t.1 % 4 := by decide +kernel
theorem index_1 : ∀ t : Fin cfg0.N, win0_1.index t 0 = t.1 % 4 ∧ win0_1.index t 1 = 0 ∧ win0_1.index t 2 = 0 := by decide +kernel
theorem index_2 : ∀ t : Fin cfg0.N, win0_2.index t 0 = t.1 / 4 ∧ win0_2.index t 1 = 0 := by decide +kernel
theorem index_3 : ∀ t : Fin cfg0.N, win0_3.index t 0 = t.1 / 4 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = t.1 / 4 ∧ win0_5.index t 1 = 0 := by decide +kernel
theorem index_6 : ∀ t : Fin cfg0.N, win0_6.index t 0 = t.1 / 4 ∧ win0_6.index t 1 = 0 := by decide +kernel
theorem index_7 : ∀ t : Fin cfg0.N, win0_7.index t 0 = 0 ∧ win0_7.index t 1 = 0 := by decide +kernel

/-- Point `n`'s rows of an array of rows. -/
abbrev rowsOf (Y : ℕ → ℕ → EReal) (n : ℕ) : ℕ → ℕ → EReal := fun i j => Y (512 * (n / 4) + i) j
/-- Point `n`'s block of the factor's gradient. -/
abbrev blockA (n : ℕ) : ℕ → ℕ → EReal := fun i j => A (512 * (n / 4) + i) (1408 * (n % 4) + j)

variable {m c A W R X G D} (H : Holds m c A W R X G D)
include H

theorem iblk_0 (t : Fin cfg0.N) : iblk m c 0 t = (emat (blockA A t.1) : BF16 S512x1408) := by
  funext y
  unfold iblk
  rw [View.read_apply]
  show V m c main_arg0 _ = _
  rw [V_main_arg0]
  refine (congrFun H.factor _).trans (congrArg₂ (fun p q => A p q) ?_ ?_)
  · show win0_0.index t 0 * 512 + 1 * (y 0).1 = 512 * (t.1 / 4) + (y 0).1; rw [(index_0 t).1]; omega
  · show win0_0.index t 1 * 1408 + 1 * (y 1).1 = 1408 * (t.1 % 4) + (y 1).1; rw [(index_0 t).2]; omega
theorem iblk_1 (t : Fin cfg0.N) : iblk m c 1 t = (ecube fun _ => W (t.1 % 4) : BF16 S1x2048x1408) := by
  funext y
  unfold iblk
  rw [View.read_apply]
  show V m c main_arg1 _ = _
  rw [V_main_arg1]
  refine (congrFun H.weights _).trans ?_
  have hy : (y 0).1 < 1 := (y 0).isLt
  obtain ⟨e0, e1, e2⟩ := index_1 t
  show (W (win0_1.index t 0 * 1 + 1 * (y 0).1) (win0_1.index t 1 * 2048 + 1 * (y 1).1) (win0_1.index t 2 * 1408 + 1 * (y 2).1))
    = W (t.1 % 4) (y 1).1 (y 2).1
  rw [e0, e1, e2, show t.1 % 4 * 1 + 1 * (y 0).1 = t.1 % 4 by omega,
    show 0 * 2048 + 1 * (y 1).1 = (y 1).1 by omega, show 0 * 1408 + 1 * (y 2).1 = (y 2).1 by omega]
theorem iblk_2 (t : Fin cfg0.N) : iblk m c 2 t = (emat (rowsOf R t.1) : F32 S512x2048) := by
  funext y
  unfold iblk
  rw [View.read_apply]
  show V m c main_arg2 _ = _
  rw [V_main_arg2]
  refine (congrFun H.rest _).trans (congrArg₂ (fun p q => R p q) ?_ ?_)
  · show win0_2.index t 0 * 512 + 1 * (y 0).1 = 512 * (t.1 / 4) + (y 0).1; rw [(index_2 t).1]; omega
  · show win0_2.index t 1 * 2048 + 1 * (y 1).1 = (y 1).1; rw [(index_2 t).2]; omega
theorem iblk_3 (t : Fin cfg0.N) : iblk m c 3 t = (emat (rowsOf X t.1) : F32 S512x2048) := by
  funext y
  unfold iblk
  rw [View.read_apply]
  show V m c main_arg3 _ = _
  rw [V_main_arg3]
  refine (congrFun H.rows _).trans (congrArg₂ (fun p q => X p q) ?_ ?_)
  · show win0_3.index t 0 * 512 + 1 * (y 0).1 = 512 * (t.1 / 4) + (y 0).1; rw [(index_3 t).1]; omega
  · show win0_3.index t 1 * 2048 + 1 * (y 1).1 = (y 1).1; rw [(index_3 t).2]; omega
theorem iblk_4 (t : Fin cfg0.N) : iblk m c 4 t = (emat G : F32 S1x2048) := by
  funext y
  unfold iblk
  rw [View.read_apply]
  show V m c main_arg4 _ = _
  rw [V_main_arg4]
  refine (congrFun H.gain _).trans (congrArg₂ (fun p q => G p q) ?_ ?_)
  · show win0_4.index t 0 * 1 + 1 * (y 0).1 = (y 0).1; rw [(index_4 t).1]; omega
  · show win0_4.index t 1 * 2048 + 1 * (y 1).1 = (y 1).1; rw [(index_4 t).2]; omega
theorem iblk_5 (t : Fin cfg0.N) : iblk m c 5 t = (emat (rowsOf D t.1) : F32 S512x2048) := by
  funext y
  unfold iblk
  rw [View.read_apply]
  show V m c main_arg5 _ = _
  rw [V_main_arg5]
  refine (congrFun H.direct _).trans (congrArg₂ (fun p q => D p q) ?_ ?_)
  · show win0_5.index t 0 * 512 + 1 * (y 0).1 = 512 * (t.1 / 4) + (y 0).1; rw [(index_5 t).1]; omega
  · show win0_5.index t 1 * 2048 + 1 * (y 1).1 = (y 1).1; rw [(index_5 t).2]; omega

/-- What is left in place by the first point of four, … -/
theorem kept_first (t : Fin cfg0.N) (ht : t.1 % 4 = 0) :
    (outsAt0 m c t.1 t.isLt).2.2 = (emat (rlines (blockA A t.1) (W (t.1 % 4))) : F32 S512x2048) := by
  by_cases h : t.1 % 32 = 0
  · rw [outsAt0_A m c t h ht (by omega) (by omega)]
    dsimp only
    rw [kept_A, iblk_0 H, iblk_1 H]
    exact first_eq _ _
  · rw [outsAt0_D m c t h ht (by omega) (by omega)]
    dsimp only
    rw [kept_D, iblk_0 H, iblk_1 H]
    exact first_eq _ _
/-- … and by a point in between, given what it found. -/
theorem kept_next (t : Fin cfg0.N) (ht : 1 ≤ t.1 % 4 ∧ t.1 % 4 ≤ 2) (s : ℕ → ℕ → EReal)
    (hs : (outsAt0 m c (t.1 - 1) (before t)).2.2 = (emat s : F32 S512x2048)) :
    (outsAt0 m c t.1 t.isLt).2.2
      = (emat fun i j => s i j + rlines (blockA A t.1) (W (t.1 % 4)) i j : F32 S512x2048) := by
  rw [outsAt0_B m c t (by omega) (by omega) ht (by omega)]
  dsimp only
  rw [kept_B, hs, iblk_0 H, iblk_1 H]
  exact next_eq _ _ _
/-- What the last point of four writes for its rows, … -/
theorem rows_last (t : Fin cfg0.N) (ht : t.1 % 4 = 3) (s : ℕ → ℕ → EReal)
    (hs : (outsAt0 m c (t.1 - 1) (before t)).2.2 = (emat s : F32 S512x2048)) :
    (outsAt0 m c t.1 t.isLt).1
      = (emat fun i j => rowGrad (rowsOf X t.1 i) (G 0) (fun j => s i j + rlines (blockA A t.1) (W (t.1 % 4)) i j + rowsOf R t.1 i j)
          (rowsOf D t.1 i) j : F32 S512x2048) := by
  rw [outsAt0_C m c t (by omega) (by omega) (by omega) ht]
  dsimp only
  rw [rows_C, hs, iblk_0 H, iblk_1 H, iblk_2 H, iblk_3 H, iblk_4 H, iblk_5 H]
  exact row_eq _ _ _ _ _ _ _
/-- … and what it makes of the gain's gradient. -/
theorem gain_last (t : Fin cfg0.N) (ht : t.1 % 4 = 3) (s o : ℕ → ℕ → EReal)
    (hs : (outsAt0 m c (t.1 - 1) (before t)).2.2 = (emat s : F32 S512x2048))
    (ho : (outsAt0 m c (t.1 - 1) (before t)).2.1 = (emat o : F32 S1x2048)) :
    (outsAt0 m c t.1 t.isLt).2.1
      = (emat fun i j => o i j + ∑ k ∈ range 512, gainGrad (rowsOf X t.1 k)
          (fun j => s k j + rlines (blockA A t.1) (W (t.1 % 4)) k j + rowsOf R t.1 k j) j : F32 S1x2048) := by
  rw [outsAt0_C m c t (by omega) (by omega) (by omega) ht]
  dsimp only
  rw [gain_C, hs, ho, iblk_0 H, iblk_1 H, iblk_2 H, iblk_3 H, cot_eq, rinv_eq]
  exact gain_eq _ _ _

omit H in
/-- The gain's gradient starts at zero … -/
theorem gain_start (t : Fin cfg0.N) (ht : t.1 % 32 = 0) :
    (outsAt0 m c t.1 t.isLt).2.1 = (emat fun _ _ => 0 : F32 S1x2048) := by
  rw [outsAt0_A m c t ht (by omega) (by omega) (by omega)]
  dsimp only
  rw [gain_A]
  exact zero_eq
omit H in
/-- … and is left alone by all points but each fourth. -/
theorem gain_same (t : Fin cfg0.N) (h0 : ¬t.1 % 32 = 0) (ht : ¬t.1 % 4 = 3) :
    (outsAt0 m c t.1 t.isLt).2.1 = (outsAt0 m c (t.1 - 1) (before t)).2.1 := by
  by_cases h : t.1 % 4 = 0
  · rw [outsAt0_D m c t h0 h (by omega) ht]
    dsimp only
    unfold out0_D_7
    rfl
  · rw [outsAt0_B m c t h0 h (by omega) ht]
    dsimp only
    unfold out0_B_7
    rfl

variable (A W R X) in
/-- The whole cotangent of the normalised rows. -/
abbrev cot (i j : ℕ) : EReal := ∑ k ∈ range 5632, A i k * W (k / 1408) j (k % 1408) + R i j
variable (A W) in
/-- The product over the columns of the first `r` shards. -/
abbrev part (r i j : ℕ) : EReal := ∑ k ∈ range (1408 * r), A i k * W (k / 1408) j (k % 1408)

omit H in
theorem part_step (n i j : ℕ) :
    part A W (n % 4) (512 * (n / 4) + i) j + rlines (blockA A n) (W (n % 4)) i j = part A W (n % 4 + 1) (512 * (n / 4) + i) j := by
  unfold part
  rw [show 1408 * (n % 4 + 1) = 1408 * (n % 4) + 1408 by omega, Finset.sum_range_add]
  refine congrArg₂ (· + ·) rfl (Finset.sum_congr rfl fun k hk => ?_)
  have hk := Finset.mem_range.mp hk
  rw [show (1408 * (n % 4) + k) / 1408 = n % 4 by omega, show (1408 * (n % 4) + k) % 1408 = k by omega]

/-- What is in place after point `n`: unless it was the last of four, the product over the shards so far; and the gain's
    gradient over the rows so far. -/
theorem state (n : ℕ) : ∀ hn : n < cfg0.N,
    (n % 4 < 3 → (outsAt0 m c n hn).2.2 = (emat fun i j => part A W (n % 4 + 1) (512 * (n / 4) + i) j : F32 S512x2048))
    ∧ (outsAt0 m c n hn).2.1
      = (emat fun _ j => ∑ p ∈ range (512 * ((n + 1) / 4)), gainGrad (X p) (cot A W R p) j : F32 S1x2048) := by
  induction n with
  | zero =>
    intro hn
    refine ⟨fun _ => ?_, ?_⟩
    · rw [kept_first H ⟨0, hn⟩ rfl]
      refine emat_congr fun i _ j _ => ?_
      have := part_step (A := A) (W := W) 0 i j
      refine Eq.trans ?_ this
      show _ = ∑ k ∈ range 0, _ + _
      rw [Finset.sum_range_zero, zero_add]
    · exact (gain_start ⟨0, hn⟩ rfl).trans (emat_congr fun i _ j _ => by simp)
  | succ n ih =>
    intro hn
    have hN : cfg0.N = 32 := N_0
    obtain ⟨h1, h2⟩ := ih (by omega)
    rcases Nat.lt_or_ge ((n + 1) % 4) 3 with h | h
    · refine ⟨fun _ => ?_, ?_⟩
      · by_cases h0 : (n + 1) % 4 = 0
        · rw [kept_first H ⟨n + 1, hn⟩ h0]
          refine emat_congr fun i _ j _ => ?_
          refine Eq.trans ?_ (part_step (A := A) (W := W) (n + 1) i j)
          show _ = ∑ k ∈ range (1408 * ((n + 1) % 4)), _ + _
          rw [h0, Nat.mul_zero, Finset.sum_range_zero, zero_add]
        · rw [kept_next H ⟨n + 1, hn⟩ (by show 1 ≤ (n + 1) % 4 ∧ (n + 1) % 4 ≤ 2; omega) _ (h1 (by omega))]
          refine emat_congr fun i _ j _ => ?_
          refine Eq.trans ?_ (part_step (A := A) (W := W) (n + 1) i j)
          rw [show n % 4 + 1 = (n + 1) % 4 by omega, show n / 4 = (n + 1) / 4 by omega]
      · refine (gain_same ⟨n + 1, hn⟩ (by show ¬(n + 1) % 32 = 0; omega) (by show ¬(n + 1) % 4 = 3; omega)).trans ?_
        refine h2.trans ?_
        rw [show (n + 1 + 1) / 4 = (n + 1) / 4 by omega]
    · have h3 : (n + 1) % 4 = 3 := by omega
      refine ⟨fun h' => by omega, ?_⟩
      rw [gain_last H ⟨n + 1, hn⟩ h3 _ _ (h1 (by omega)) h2]
      refine emat_congr fun i _ j _ => ?_
      rw [show 512 * ((n + 1 + 1) / 4) = 512 * ((n + 1) / 4) + 512 by omega, Finset.sum_range_add]
      refine congrArg₂ (· + ·) rfl (Finset.sum_congr rfl fun k _ => ?_)
      refine congrArg₂ (fun x y => gainGrad x y j) rfl (funext fun j => ?_)
      show part A W (n % 4 + 1) (512 * (n / 4) + k) j + rlines (blockA A (n + 1)) (W ((n + 1) % 4)) k j + rowsOf R (n + 1) k j = _
      rw [show n % 4 + 1 = (n + 1) % 4 by omega, show n / 4 = (n + 1) / 4 by omega, part_step, h3]

/-- The array of the rows' gradient. -/
theorem rows_array :
    (dats m 0 c).arrAt 6 cfg0.N
      = (emat fun i j => rowGrad (X i) (G 0) (cot A W R i) (D i) j : F32 S4096x2048) := by
  have hN : cfg0.N = 32 := N_0
  refine (dats m 0 c).arrAt_eq_of_cover 6 (emat fun i j => rowGrad (X i) (G 0) (cot A W R i) (D i) j : F32 S4096x2048)
    (fun t hf => ?_) fun i => (Kernel5Ideal.Value.covered_iff6 i).2 ?_
  · have ht : t.1 % 4 = 3 := (flush0_6 t).mp hf
    have hs := (state H (t.1 - 1) (before t)).1 (by omega)
    rw [Kernel5Ideal.Value.flushed6, rows_last H t ht _ hs]
    funext y
    rw [View.read_apply]
    show (rowGrad (rowsOf X t.1 (y 0).1) (G 0) (fun j => part A W ((t.1 - 1) % 4 + 1) (512 * ((t.1 - 1) / 4) + (y 0).1) j
          + rlines (blockA A t.1) (W (t.1 % 4)) (y 0).1 j + rowsOf R t.1 (y 0).1 j) (rowsOf D t.1 (y 0).1) (y 1).1)
      = (rowGrad (X (win0_6.index t 0 * 512 + 1 * (y 0).1)) (G 0) (cot A W R (win0_6.index t 0 * 512 + 1 * (y 0).1))
          (D (win0_6.index t 0 * 512 + 1 * (y 0).1)) (win0_6.index t 1 * 2048 + 1 * (y 1).1))
    rw [(index_6 t).1, (index_6 t).2, show t.1 / 4 * 512 + 1 * (y 0).1 = 512 * (t.1 / 4) + (y 0).1 by omega,
      show 0 * 2048 + 1 * (y 1).1 = (y 1).1 by omega, show (t.1 - 1) % 4 + 1 = t.1 % 4 by omega,
      show (t.1 - 1) / 4 = t.1 / 4 by omega]
    refine congrArg (fun y' => (rowGrad _ _ y' _ _)) (funext fun j => ?_)
    rw [part_step, ht]
  · have h0 : (i 0).1 < 4096 := (i 0).isLt
    have h1 : (i 1).1 < 2048 := (i 1).isLt
    omega

/-- The array of the gain's gradient. -/
theorem gain_array :
    (dats m 0 c).arrAt 7 cfg0.N
      = (emat fun _ j => ∑ p ∈ range 4096, gainGrad (X p) (cot A W R p) j : F32 S1x2048) := by
  have hN : cfg0.N = 32 := N_0
  refine (dats m 0 c).arrAt_eq_of_cover 7 (emat fun _ j => ∑ p ∈ range 4096, gainGrad (X p) (cot A W R p) j : F32 S1x2048)
    (fun t hf => ?_) fun i => (Kernel5Ideal.Value.covered_iff7 i).2 ?_
  · have ht : t.1 % 32 = 31 := (flush0_7 t).mp hf
    have hl : t.1 < 32 := lt_of_lt_of_eq t.isLt N_0
    have hs := (state H t.1 t.isLt).2
    rw [show 512 * ((t.1 + 1) / 4) = 4096 by omega] at hs
    rw [Kernel5Ideal.Value.flushed7, hs]
    funext y
    rw [View.read_apply]
    show (∑ p ∈ range 4096, gainGrad (X p) (cot A W R p) (y 1).1)
      = (∑ p ∈ range 4096, gainGrad (X p) (cot A W R p) (win0_7.index t 1 * 2048 + 1 * (y 1).1))
    rw [(index_7 t).2, show 0 * 2048 + 1 * (y 1).1 = (y 1).1 by omega]
  · have h0 : (i 0).1 < 1 := (i 0).isLt
    have h1 : (i 1).1 < 2048 := (i 1).isLt
    omega

end Cert.Ffn.Norm

end
-- ==== Proof.NormValue.lean ====
/- The reference's two gradients of the norm are the arrays the kernel leaves. The reference goes back through the mean
   square twice, once for each factor of the square, and through the reciprocal root by a quotient; the kernel has the cube
   of the reciprocal root. No argument need be finite: the mean square is a positive number or infinite, so the reciprocal
   root is a real number, and what is multiplied by it may be anything. -/
module

public import proofs.«01_k».proof.Proof.NormArray
public import proofs.«01_k».proof.Proof.NormReference

@[expose] public section

set_option maxRecDepth 16384

noncomputable section

namespace Cert.Ffn.Norm

open Idealize.ShloMosaic Cert.Reference5Ideal.Read
open Finset (range)

/-- A square is not negative. -/
theorem square_nonneg (x : EReal) : 0 ≤ x * x := by
  rcases le_total 0 x with h | h
  · exact mul_nonneg h h
  · have h' : 0 ≤ -x := EReal.neg_nonneg.mpr h
    have := mul_nonneg h' h'
    rwa [EReal.neg_mul, mul_comm x (-x), EReal.neg_mul, neg_neg] at this

/-- The reciprocal root of a row is a real number `s`, and over the mean square it is the cube of `s`. -/
theorem rinv_real (x : ℕ → EReal) :
    ∃ s : ℝ, 0 ≤ s ∧ rinv x = (s : EReal) ∧ Ideal.div (rinv x) (meanSq x) = ((s * s * s : ℝ) : EReal) := by
  have hs : 0 ≤ ∑ k ∈ range 2048, x k * x k := Finset.sum_nonneg fun k _ => square_nonneg (x k)
  have he := Gmlp.eps_pos
  unfold rinv
  generalize hv : meanSq x = v
  have hv' : Ideal.div (∑ k ∈ range 2048, x k * x k) ((2048 : ℝ) : EReal) + ((Gmlp.eps : ℝ) : EReal) = v := hv
  rw [Ideal.div_coe (by norm_num)] at hv'
  generalize (∑ k ∈ range 2048, x k * x k) = q at hs hv'
  induction q with
  | bot => exact absurd hs (by simp)
  | top =>
    have : v = ⊤ := by
      rw [← hv', EReal.top_mul_coe_of_pos (by norm_num)]; rfl
    subst this
    refine ⟨0, le_refl _, rfl, ?_⟩
    show Ideal.div 0 ⊤ = _
    unfold Ideal.div
    simp
  | coe q =>
    have hq : 0 ≤ q := EReal.coe_nonneg.mp hs
    have hw : v = ((q * (1 / 2048) + Gmlp.eps : ℝ) : EReal) := by
      rw [← hv', EReal.coe_add, EReal.coe_mul]
    have hp : 0 < q * (1 / 2048) + Gmlp.eps := by positivity
    generalize q * (1 / 2048) + Gmlp.eps = w at hw hp
    subst hw
    refine ⟨(Real.sqrt w)⁻¹, by positivity, ?_, ?_⟩
    · rw [Ideal.rsqrt_coe, if_neg (not_lt.mpr hp.le), if_neg hp.ne']
    · rw [Ideal.rsqrt_coe, if_neg (not_lt.mpr hp.le), if_neg hp.ne', Ideal.div_coe hp.ne', ← EReal.coe_mul]
      have e : (Real.sqrt w)⁻¹ * (Real.sqrt w)⁻¹ = w⁻¹ := by rw [← mul_inv, Real.mul_self_sqrt hp.le]
      rw [e, one_div, mul_comm]

/-- Twice the negative half of a multiple is the negative of the multiple. -/
theorem halves (t : EReal) (k : ℝ) (hk : 0 ≤ k) :
    t * ((-(1 / 2) * k : ℝ) : EReal) + t * ((-(1 / 2) * k : ℝ) : EReal) = -(t * (k : EReal)) := by
  have h2 : (0 : EReal) ≤ ((1 / 2 * k : ℝ) : EReal) := EReal.coe_nonneg.mpr (by positivity)
  have e : t * ((-(1 / 2) * k : ℝ) : EReal) = -(t * ((1 / 2 * k : ℝ) : EReal)) := by
    rw [show (-(1 / 2) * k : ℝ) = -(1 / 2 * k) by ring, EReal.coe_neg, mul_comm t, EReal.neg_mul, mul_comm t]
  rw [e, show t * (k : EReal) = t * ((1 / 2 * k : ℝ) : EReal) + t * ((1 / 2 * k : ℝ) : EReal) by
    rw [← EReal.left_distrib_of_nonneg h2 h2, ← EReal.coe_add]; congr 2; ring]
  generalize t * ((1 / 2 * k : ℝ) : EReal) = u
  induction u with
  | bot => rfl
  | top => rfl
  | coe u => norm_cast; ring

/-- The two forms of a row's gradient. -/
theorem row_forms (x g y d : ℕ → EReal) (j : ℕ) : refRow x g y d j = rowGrad x g y d j := by
  obtain ⟨s, h0, h1, h2⟩ := rinv_real x
  unfold refRow rowGrad refSlope
  rw [h2, h1, show refDot x g y = ∑ k ∈ range 2048, y k * g k * x k from Finset.sum_congr rfl fun k _ => mul_comm _ _]
  generalize (∑ k ∈ range 2048, y k * g k * x k) = t
  generalize y j * g j = v
  generalize x j = x'
  have h2048 : (2048 : ℝ) ≠ 0 := by norm_num
  rw [Ideal.div_coe h2048, Ideal.div_coe h2048]
  have e : x' * (t * (((-(1 / 2) : ℝ) : EReal) * ((s * s * s : ℝ) : EReal)) * ((1 / 2048 : ℝ) : EReal))
      = (x' * t) * ((-(1 / 2) * (s * s * s * (1 / 2048)) : ℝ) : EReal) := by
    rw [mul_assoc t, ← mul_assoc x', ← EReal.coe_mul, ← EReal.coe_mul]
    congr 2; ring
  have f : x' * ((s : EReal) * s * s) * (t * ((1 / 2048 : ℝ) : EReal)) = (x' * t) * ((s * s * s * (1 / 2048) : ℝ) : EReal) := by
    rw [← EReal.coe_mul, ← EReal.coe_mul, mul_mul_mul_comm, ← EReal.coe_mul]
  rw [mul_comm _ x', e, f, add_assoc, halves _ _ (by positivity), sub_eq_add_neg, add_assoc, mul_comm v]
  rw [add_comm (d j), add_assoc]

/-- The two forms of a row's part of the gain's gradient. -/
theorem gain_forms (x y : ℕ → EReal) (j : ℕ) : x j * rinv x * y j = gainGrad x y j := by
  unfold gainGrad
  rw [mul_comm _ (y j), mul_assoc]

/-- The two forms of the cotangent. -/
theorem cot_forms (A : ℕ → ℕ → EReal) (W : ℕ → ℕ → ℕ → EReal) (R : ℕ → ℕ → EReal) (i j : ℕ) : refCot A W R i j = cot A W R i j :=
  add_comm _ _

variable (m : (ℓ : Loc Kernel5Ideal.nD Kernel5Ideal.τ Kernel5Ideal.sig) → Buf (Elt Ideal) ℓ) (c : Dev Kernel5Ideal.nD)

/-- Each argument is the array of its entries. -/
theorem holds_entries : ∃ A W R X G D, Holds m c A W R X G D :=
  ⟨_, _, _, _, _, _, (emat_entry _).symm, (ecube_entry _).symm, (emat_entry _).symm, (emat_entry _).symm, (emat_entry _).symm, (emat_entry _).symm⟩

/-- The reference's gradient of the rows, of the kernel's arguments, is the kernel's array. -/
theorem rows_value :
    val_main_v41 (F := Ideal) (m ((c.tc : Thread Kernel5Ideal.nD Kernel5Ideal.τ).loc Kernel5Ideal.main_arg0))
        (m ((c.tc : Thread Kernel5Ideal.nD Kernel5Ideal.τ).loc Kernel5Ideal.main_arg1))
        (m ((c.tc : Thread Kernel5Ideal.nD Kernel5Ideal.τ).loc Kernel5Ideal.main_arg2))
        (m ((c.tc : Thread Kernel5Ideal.nD Kernel5Ideal.τ).loc Kernel5Ideal.main_arg3))
        (m ((c.tc : Thread Kernel5Ideal.nD Kernel5Ideal.τ).loc Kernel5Ideal.main_arg4))
        (m ((c.tc : Thread Kernel5Ideal.nD Kernel5Ideal.τ).loc Kernel5Ideal.main_arg5))
      = (Kernel5Ideal.Gen.dats m 0 c).arrAt 6 Kernel5Ideal.cfg0.N := by
  obtain ⟨A, W, R, X, G, D, H⟩ := holds_entries m c
  rw [rows_array H]
  refine Eq.trans ?_ ((ref_v41 A W R X G D).trans (emat_congr fun i _ j _ => ?_))
  · exact congr (congr (congr (congr (congr (congrArg (val_main_v41 (F := Ideal)) H.factor) H.weights) H.rest) H.rows) H.gain) H.direct
  · rw [row_forms, show refCot A W R i = cot A W R i from funext fun j => cot_forms A W R i j]

/-- The reference's gradient of the gain, of the kernel's arguments, is the kernel's array. -/
theorem gain_value :
    val_main_v24 (F := Ideal) (m ((c.tc : Thread Kernel5Ideal.nD Kernel5Ideal.τ).loc Kernel5Ideal.main_arg0))
        (m ((c.tc : Thread Kernel5Ideal.nD Kernel5Ideal.τ).loc Kernel5Ideal.main_arg1))
        (m ((c.tc : Thread Kernel5Ideal.nD Kernel5Ideal.τ).loc Kernel5Ideal.main_arg2))
        (m ((c.tc : Thread Kernel5Ideal.nD Kernel5Ideal.τ).loc Kernel5Ideal.main_arg3))
      = (Kernel5Ideal.Gen.dats m 0 c).arrAt 7 Kernel5Ideal.cfg0.N := by
  obtain ⟨A, W, R, X, G, D, H⟩ := holds_entries m c
  rw [gain_array H]
  refine Eq.trans ?_ ((ref_v24 A W R X).trans (emat_congr fun i _ j _ => Finset.sum_congr rfl fun p _ => ?_))
  · exact congr (congr (congr (congrArg (val_main_v24 (F := Ideal)) H.factor) H.weights) H.rest) H.rows
  · rw [← gain_forms, cot_forms]

end Cert.Ffn.Norm

end
-- ==== Proof.ActArray.lean ====
/- What the two arrays of the activation's gradient hold after the last grid point, entry by entry. -/
module

public import proofs.«01_k».proof.Proof.ActBlock

@[expose] public section

set_option maxRecDepth 16384

noncomputable section

namespace Cert.Ffn.Act

open Idealize.ShloMosaic TcCoe Tactic Cert.Kernel2Ideal Cert.Kernel2Ideal.Gen

variable (m : (ℓ : Loc nD τ sig) → Buf (Elt Ideal) ℓ) (c : Dev nD)

/-- The cotangent rows, … -/
def cots : ℕ → ℕ → EReal := entry (φ := .f32) (m ((c : Thread nD τ).loc main_arg0) : F32 S4096x2048)
/-- … the weights, … -/
def weights : ℕ → ℕ → EReal := entry (φ := .bf16) (m ((c : Thread nD τ).loc main_arg1) : BF16 S5632x2048)
/-- … the gate … -/
def gates : ℕ → ℕ → EReal := entry (φ := .bf16) (m ((c : Thread nD τ).loc main_arg2) : BF16 S4096x5632)
/-- … and the factor. -/
def ups : ℕ → ℕ → EReal := entry (φ := .bf16) (m ((c : Thread nD τ).loc main_arg3) : BF16 S4096x5632)

theorem index_0 : ∀ t : Fin cfg0.N, win0_0.index t 0 = t.1 / 11 ∧ win0_0.index t 1 = 0 := by decide +kernel
theorem index_1 : ∀ t : Fin cfg0.N, win0_1.index t 0 = t.1 % 11 ∧ win0_1.index t 1 = 0 := by decide +kernel
theorem index_2 : ∀ t : Fin cfg0.N, win0_2.index t 0 = t.1 / 11 ∧ win0_2.index t 1 = t.1 % 11 := by decide +kernel
theorem index_3 : ∀ t : Fin cfg0.N, win0_3.index t 0 = t.1 / 11 ∧ win0_3.index t 1 = t.1 % 11 := by decide +kernel
theorem index_4 : ∀ t : Fin cfg0.N, win0_4.index t 0 = t.1 / 11 ∧ win0_4.index t 1 = t.1 % 11 := by decide +kernel
theorem index_5 : ∀ t : Fin cfg0.N, win0_5.index t 0 = t.1 / 11 ∧ win0_5.index t 1 = t.1 % 11 := by decide +kernel

/-- The block of cotangent rows at point `n`. -/
abbrev blockF (n : ℕ) : ℕ → ℕ → EReal := fun i j => cots m c (1024 * (n / 11) + i) j
/-- The block of weight rows at point `n`. -/
abbrev blockW (n : ℕ) : ℕ → ℕ → EReal := fun i j => weights m c (512 * (n % 11) + i) j
/-- The block of the gate at point `n`. -/
abbrev blockG (n : ℕ) : ℕ → ℕ → EReal := fun i j => gates m c (1024 * (n / 11) + i) (512 * (n % 11) + j)
/-- The block of the factor at point `n`. -/
abbrev blockU (n : ℕ) : ℕ → ℕ → EReal := fun i j => ups m c (1024 * (n / 11) + i) (512 * (n % 11) + j)

theorem iblk_0 (t : Fin cfg0.N) : iblk m c 0 t = (emat (blockF m c t.1) : F32 S1024x2048) := by
  funext y
  unfold iblk
  rw [View.read_apply]
  show V m c main_arg0 _ = _
  rw [V_main_arg0]
  refine (entry_apply (φ := .f32) (m ((c : Thread nD τ).loc main_arg0) : F32 S4096x2048) _).symm.trans ?_
  refine congrArg₂ (cots m c) ?_ ?_
  · show win0_0.index t 0 * 1024 + 1 * (y 0).1 = _; rw [(index_0 t).1]; omega
  · show win0_0.index t 1 * 2048 + 1 * (y 1).1 = _; rw [(index_0 t).2]; omega
theorem iblk_1 (t : Fin cfg0.N) : iblk m c 1 t = (emat (blockW m c t.1) : BF16 S512x2048) := by
  funext y
  unfold iblk
  rw [View.read_apply]
  show V m c main_arg1 _ = _
  rw [V_main_arg1]
  refine (entry_apply (φ := .bf16) (m ((c : Thread nD τ).loc main_arg1) : BF16 S5632x2048) _).symm.trans ?_
  refine congrArg₂ (weights m c) ?_ ?_
  · show win0_1.index t 0 * 512 + 1 * (y 0).1 = _; rw [(index_1 t).1]; omega
  · show win0_1.index t 1 * 2048 + 1 * (y 1).1 = _; rw [(index_1 t).2]; omega
theorem iblk_2 (t : Fin cfg0.N) : iblk m c 2 t = (emat (blockG m c t.1) : BF16 S1024x512) := by
  funext y
  unfold iblk
  rw [View.read_apply]
  show V m c main_arg2 _ = _
  rw [V_main_arg2]
  refine (entry_apply (φ := .bf16) (m ((c : Thread nD τ).loc main_arg2) : BF16 S4096x5632) _).symm.trans ?_
  refine congrArg₂ (gates m c) ?_ ?_
  · show win0_2.index t 0 * 1024 + 1 * (y 0).1 = _; rw [(index_2 t).1]; omega
  · show win0_2.index t 1 * 512 + 1 * (y 1).1 = _; rw [(index_2 t).2]; omega
theorem iblk_3 (t : Fin cfg0.N) : iblk m c 3 t = (emat (blockU m c t.1) : BF16 S1024x512) := by
  funext y
  unfold iblk
  rw [View.read_apply]
  show V m c main_arg3 _ = _
  rw [V_main_arg3]
  refine (entry_apply (φ := .bf16) (m ((c : Thread nD τ).loc main_arg3) : BF16 S4096x5632) _).symm.trans ?_
  refine congrArg₂ (ups m c) ?_ ?_
  · show win0_3.index t 0 * 1024 + 1 * (y 0).1 = _; rw [(index_3 t).1]; omega
  · show win0_3.index t 1 * 512 + 1 * (y 1).1 = _; rw [(index_3 t).2]; omega

/-- The gradient of the gate. -/
abbrev gateAll (i j : ℕ) : EReal := gateGrad (rowDot (cots m c) (weights m c) i j) (gates m c i j) (ups m c i j)
/-- The gradient of the factor. -/
abbrev upAll (i j : ℕ) : EReal := upGrad (rowDot (cots m c) (weights m c) i j) (gates m c i j)

/-- Every entry of the fifth window's array lies in the block of some point, … -/
theorem cover_4 (i : S4096x5632.Idx) :
    ∃ t : Fin cfg0.N, i ∈ ((View.whole main_v0_0).slice (win0_4.rect t)).set := by
  have hN : cfg0.N = 44 := N_0
  have h0 : (i 0 : Nat) < 4096 := (i 0).isLt
  have h1 : (i 1 : Nat) < 5632 := (i 1).isLt
  have hl : 11 * ((i 0).1 / 1024) + (i 1).1 / 512 < cfg0.N := by omega
  refine ⟨⟨11 * ((i 0).1 / 1024) + (i 1).1 / 512, hl⟩, ?_⟩
  rw [View.set_slice_whole, Rect.mem_set_unit]
  intro a
  match a with
  | ⟨0, _⟩ =>
    show win0_4.index (⟨11 * ((i 0).1 / 1024) + (i 1).1 / 512, hl⟩ : Fin cfg0.N) 0 * 1024 ≤ (i 0 : Nat)
      ∧ (i 0 : Nat) < win0_4.index (⟨11 * ((i 0).1 / 1024) + (i 1).1 / 512, hl⟩ : Fin cfg0.N) 0 * 1024 + 1024
    rw [(index_4 _).1]; dsimp only; omega
  | ⟨1, _⟩ =>
    show win0_4.index (⟨11 * ((i 0).1 / 1024) + (i 1).1 / 512, hl⟩ : Fin cfg0.N) 1 * 512 ≤ (i 1 : Nat)
      ∧ (i 1 : Nat) < win0_4.index (⟨11 * ((i 0).1 / 1024) + (i 1).1 / 512, hl⟩ : Fin cfg0.N) 1 * 512 + 512
    rw [(index_4 _).2]; dsimp only; omega
/-- … and every entry of the sixth's too. -/
theorem cover_5 (i : S4096x5632.Idx) :
    ∃ t : Fin cfg0.N, i ∈ ((View.whole main_v0_1).slice (win0_5.rect t)).set := by
  have hN : cfg0.N = 44 := N_0
  have h0 : (i 0 : Nat) < 4096 := (i 0).isLt
  have h1 : (i 1 : Nat) < 5632 := (i 1).isLt
  have hl : 11 * ((i 0).1 / 1024) + (i 1).1 / 512 < cfg0.N := by omega
  refine ⟨⟨11 * ((i 0).1 / 1024) + (i 1).1 / 512, hl⟩, ?_⟩
  rw [View.set_slice_whole, Rect.mem_set_unit]
  intro a
  match a with
  | ⟨0, _⟩ =>
    show win0_5.index (⟨11 * ((i 0).1 / 1024) + (i 1).1 / 512, hl⟩ : Fin cfg0.N) 0 * 1024 ≤ (i 0 : Nat)
      ∧ (i 0 : Nat) < win0_5.index (⟨11 * ((i 0).1 / 1024) + (i 1).1 / 512, hl⟩ : Fin cfg0.N) 0 * 1024 + 1024
    rw [(index_5 _).1]; dsimp only; omega
  | ⟨1, _⟩ =>
    show win0_5.index (⟨11 * ((i 0).1 / 1024) + (i 1).1 / 512, hl⟩ : Fin cfg0.N) 1 * 512 ≤ (i 1 : Nat)
      ∧ (i 1 : Nat) < win0_5.index (⟨11 * ((i 0).1 / 1024) + (i 1).1 / 512, hl⟩ : Fin cfg0.N) 1 * 512 + 512
    rw [(index_5 _).2]; dsimp only; omega

/-- The array of the gate's gradient after the run. -/
theorem gate_array :
    (dats m 0 c).arrAt 4 cfg0.N = (emat (gateAll m c) : BF16 S4096x5632) := by
  refine (dats m 0 c).arrAt_eq_of_cover 4 (emat (gateAll m c) : BF16 S4096x5632) (fun t _ => ?_)
    fun i => (cover_4 i).imp fun t ht => ⟨flush0_4 t, ht⟩
  rw [Kernel2Ideal.Value.flushed4, iblk_0, iblk_1, iblk_2, iblk_3, out_gate]
  funext y
  rw [View.read_apply]
  show gateGrad (rowDot (blockF m c t.1) (blockW m c t.1) (y 0).1 (y 1).1) (blockG m c t.1 (y 0).1 (y 1).1)
      (blockU m c t.1 (y 0).1 (y 1).1)
    = gateAll m c (win0_4.index t 0 * 1024 + 1 * (y 0).1) (win0_4.index t 1 * 512 + 1 * (y 1).1)
  rw [(index_4 t).1, (index_4 t).2, show t.1 / 11 * 1024 + 1 * (y 0).1 = 1024 * (t.1 / 11) + (y 0).1 by omega,
    show t.1 % 11 * 512 + 1 * (y 1).1 = 512 * (t.1 % 11) + (y 1).1 by omega]

/-- The array of the factor's gradient after the run. -/
theorem up_array :
    (dats m 0 c).arrAt 5 cfg0.N = (emat (upAll m c) : BF16 S4096x5632) := by
  refine (dats m 0 c).arrAt_eq_of_cover 5 (emat (upAll m c) : BF16 S4096x5632) (fun t _ => ?_)
    fun i => (cover_5 i).imp fun t ht => ⟨flush0_5 t, ht⟩
  rw [Kernel2Ideal.Value.flushed5, iblk_0, iblk_1, iblk_2, iblk_3, out_up]
  funext y
  rw [View.read_apply]
  show upGrad (rowDot (blockF m c t.1) (blockW m c t.1) (y 0).1 (y 1).1) (blockG m c t.1 (y 0).1 (y 1).1)
    = upAll m c (win0_5.index t 0 * 1024 + 1 * (y 0).1) (win0_5.index t 1 * 512 + 1 * (y 1).1)
  rw [(index_5 t).1, (index_5 t).2, show t.1 / 11 * 1024 + 1 * (y 0).1 = 1024 * (t.1 / 11) + (y 0).1 by omega,
    show t.1 % 11 * 512 + 1 * (y 1).1 = 512 * (t.1 % 11) + (y 1).1 by omega]

end Cert.Ffn.Act

end
-- ==== Proof.Model.lean ====
/- The real formulas of one chunk of 128 tokens: what the kernel's body computes at one grid point, written over the
   real numbers. A matrix is a function of two natural numbers. -/
module

public import proofs.«01_k».proof.Proof.Ops

@[expose] public section

noncomputable section

namespace Cert.Gmlp

/-- The exact GELU. -/
def gelu (x : ℝ) : ℝ := 1 / 2 * x * (1 + rerf (x * c1))
/-- The derivative of the exact GELU. -/
def slope (x : ℝ) : ℝ := 1 / 2 * (1 + rerf (x * c1)) + x * Real.exp (-(1 / 2) * x * x) * c2

/-- An activated row less its mean. -/
def ctr (z : ℕ → ℕ → ℝ) (i j : ℕ) : ℝ := gelu (z i j) - (∑ k ∈ Finset.range 2048, gelu (z i k)) / 2048
/-- The reciprocal standard deviation of an activated row. -/
def rs (z : ℕ → ℕ → ℝ) (i : ℕ) : ℝ :=
  (Real.sqrt ((∑ k ∈ Finset.range 2048, ctr z i k * ctr z i k) / 2048 + eps))⁻¹
/-- The normalised row. -/
def vhat (z : ℕ → ℕ → ℝ) (i j : ℕ) : ℝ := ctr z i j * rs z i
/-- The normalised row with its gain and shift (given as rows). -/
def lin (vh g : ℕ → ℕ → ℝ) (s : ℕ → ℕ → ℝ) (i j : ℕ) : ℝ := vh i j * g i j + s 0 j
/-- A matrix on and below its diagonal, zero above. -/
def tri (w : ℕ → ℕ → ℝ) (i j : ℕ) : ℝ := if j ≤ i then w i j else 0

/-- The gradient of the gate's first factor in the columns from `o` on. -/
def duPart (o : ℕ) (dg vl w b : ℕ → ℕ → ℝ) (i j : ℕ) : ℝ :=
  dg i (o + j) * ((∑ k ∈ Finset.range 128, w i k * vl k (o + j)) + b i 0)
/-- The gradient of the mixed values in the columns from `o` on. -/
def dmPart (o : ℕ) (dg u : ℕ → ℕ → ℝ) (i j : ℕ) : ℝ := dg i (o + j) * u i (o + j)
/-- The gradient of one mixing matrix, added to what was there. -/
def dwsPart (o : ℕ) (dm vl acc : ℕ → ℕ → ℝ) (i j : ℕ) : ℝ :=
  acc i j + tri (fun i j => ∑ k ∈ Finset.range 256, dm i k * vl j (o + k)) i j
/-- The gradient of one group's bias in its lane, added to what was there. -/
def dbsPart (l : ℕ) (dm acc : ℕ → ℕ → ℝ) (i j : ℕ) : ℝ :=
  acc i j + if j = l then ∑ k ∈ Finset.range 256, dm i k else 0
/-- The gradient of the normalised values of one group. -/
def dvlPart (w dm : ℕ → ℕ → ℝ) (i j : ℕ) : ℝ := ∑ k ∈ Finset.range 128, w k i * dm k j
/-- Eight groups of 256 columns side by side. -/
def glue (f : ℕ → ℕ → ℕ → ℝ) (i j : ℕ) : ℝ := f (j / 256) i (j % 256)
/-- The gradient through the normalisation of a row. -/
def dnorm (r : ℕ → ℕ → ℝ) (vh d g : ℕ → ℕ → ℝ) (i j : ℕ) : ℝ :=
  r i 0 * (d i j * g 0 j - (∑ k ∈ Finset.range 2048, d i k * g 0 k) / 2048
    - vh i j * ((∑ k ∈ Finset.range 2048, d i k * g 0 k * vh i k) / 2048))

/-- The activated first half. -/
def act (z : ℕ → ℕ → ℝ) (i j : ℕ) : ℝ := gelu (z i j)
/-- The normalised second half with its gain and shift, from what stands before the activation. -/
def vln (z g s : ℕ → ℕ → ℝ) : ℕ → ℕ → ℝ := lin (vhat z) (fun _ j => g 0 j) s
/-- Group `q` of the gradient of the gate's first factor. -/
def duOf (d vl : ℕ → ℕ → ℝ) (w : ℕ → ℕ → ℕ → ℝ) (b : ℕ → ℕ → ℝ) (q : ℕ) : ℕ → ℕ → ℝ :=
  duPart (256 * q) d vl (tri (w q)) fun i _ => b i q
/-- Group `q` of the gradient of the normalised values. -/
def dvlOf (d u : ℕ → ℕ → ℝ) (w : ℕ → ℕ → ℕ → ℝ) (q : ℕ) : ℕ → ℕ → ℝ :=
  dvlPart (tri (w q)) (dmPart (256 * q) d u)
/-- Group `q`'s gradient of the mixing matrices, added to what was there. -/
def dwsOf (d u vl : ℕ → ℕ → ℝ) (acc : ℕ → ℕ → ℕ → ℝ) (q : ℕ) : ℕ → ℕ → ℝ :=
  dwsPart (256 * q) (dmPart (256 * q) d u) vl (acc q)
/-- The bias gradients of the first `n` groups, each in its lane. -/
def dbsSum (d u : ℕ → ℕ → ℝ) : ℕ → ℕ → ℕ → ℝ
  | 0 => fun _ _ => 0
  | n + 1 => dbsPart n (dmPart (256 * n) d u) (dbsSum d u n)

/-- Lane `j` of the bias gradients holds group `j`'s. -/
theorem dbsSum_eq (d u : ℕ → ℕ → ℝ) (n i j : ℕ) :
    dbsSum d u n i j = if j < n then ∑ k ∈ Finset.range 256, d i (256 * j + k) * u i (256 * j + k) else 0 := by
  induction n with
  | zero => simp [dbsSum]
  | succ n ih =>
    show dbsSum d u n i j + _ = _
    rw [ih]
    by_cases h : j = n
    · subst h; simp [dmPart]
    · have : (j < n + 1) = (j < n) := propext (by omega)
      simp [h, this]

/-- What one chunk's block of the pre-activation gradient holds: the first half's columns, then the second's. -/
def dzOf (zu zv d lg lb : ℕ → ℕ → ℝ) (w : ℕ → ℕ → ℕ → ℝ) (b : ℕ → ℕ → ℝ) (i j : ℕ) : ℝ :=
  if j < 2048 then glue (duOf d (vln zv lg lb) w b) i j * slope (zu i j)
  else dnorm (fun i _ => rs zv i) (vhat zv) (glue (dvlOf d (act zu) w)) lg i (j - 2048) * slope (zv i (j - 2048))

end Cert.Gmlp

end
-- ==== Proof.Blocks.lean ====
/- What each payload of the kernel's body computes, as a real formula: on blocks of reals every payload gives a
   block of reals, the one the formula says. -/
module

public import proofs.«01_k».proof.Proof.Gen.KernelIdeal.Skeleton
public import proofs.«01_k».proof.Proof.Model

@[expose] public section

noncomputable section

namespace Cert.Gmlp

open Idealize.ShloMosaic Cert.KernelIdeal Cert.KernelIdeal.Gen
open Finset (range)

/-- The kernel's mask keeps a matrix on and below the diagonal. -/
theorem select_pay14 (f g : ℕ → ℕ → ℝ) :
    select k0_pay14 (mat f : F32 S128x128) (mat g) = mat fun i j => if j ≤ i then f i j else g i j := by
  unfold k0_pay14
  exact select_tril f g _ _

/-- The kernel's lane mask keeps one lane. -/
theorem select_lane_pay (l : ℕ) (hl : l < 128) (f g : ℕ → ℕ → ℝ) :
    select (cmpi .eq (iota .tc S128x128 32 [1] iota_S128x128_d1_w32) (broadcast S128x128 (BitVec.ofNat 32 l)))
        (mat f : F32 S128x128) (mat g)
      = mat fun i j => if j = l then f i j else g i j :=
  select_lane l hl f g _

/-- The mask of the first lane. -/
theorem select_lane_zero (f g : ℕ → ℕ → ℝ) :
    select (cmpi .eq (iota .tc S128x128 32 [1] iota_S128x128_d1_w32) (broadcast S128x128 0#32))
        (mat f : F32 S128x128) (mat g)
      = mat fun i j => if j = 0 then f i j else g i j :=
  select_lane_pay 0 (by norm_num) f g

theorem pay1_eq (z d p h : ℕ → ℕ → ℝ) :
    k0_pay1 (F := Ideal) (mat z : F32 S128x2048) (mat d : F32 S128x2048) (mat p : F32 S128x2048) (mat h : F32 S128x2048) = mat fun i j => d i j * (h i j * p i j + z i j * Real.exp (-(1 / 2) * z i j * z i j) * c2) := by
  unfold k0_pay1
  dsimp only
  simp only [addf_mat, mulf_mat, exp_mat, truncf_mat, scalar_neg_half, named_c2, splat_mat (φ := .f32)]

theorem pay2_eq (z d : ℕ → ℕ → ℝ) :
    k0_pay2 (F := Ideal) (mat z : F32 S128x2048) (mat d : F32 S128x2048) = mat fun i j => d i j * slope (z i j) := by
  unfold k0_pay2
  dsimp only
  simp only [addf_mat, mulf_mat, exp_mat, erf_mat, truncf_mat, scalar_half, scalar_neg_half, scalar_one, named_c1, named_c2, splat_mat (φ := .f32)]
  rfl

theorem pay3_eq :
    k0_pay3 (F := Ideal)  = cube fun _ _ _ => 0 := by
  unfold k0_pay3
  dsimp only
  simp only [scalar_zero, splat_cube (φ := .f32)]

theorem pay4_eq :
    k0_pay4 (F := Ideal)  = mat fun _ _ => 0 := by
  unfold k0_pay4
  dsimp only
  simp only [scalar_zero, splat_mat (φ := .f32)]

theorem pay5_eq :
    k0_pay5 (F := Ideal)  = mat fun _ _ => 0 := by
  unfold k0_pay5
  dsimp only
  simp only [scalar_zero, splat_mat (φ := .f32)]

theorem pay6_eq :
    k0_pay6 (F := Ideal)  = mat fun _ _ => 0 := by
  unfold k0_pay6
  dsimp only
  simp only [scalar_zero, splat_mat (φ := .f32)]

theorem pay7_eq (z : ℕ → ℕ → ℝ) :
    k0_pay7 (F := Ideal) (mat z : F32 S128x2048) = mat fun i j => gelu (z i j) := by
  unfold k0_pay7
  dsimp only
  simp only [addf_mat, mulf_mat, erf_mat, scalar_half, scalar_one, named_c1, splat_mat (φ := .f32)]
  rfl

theorem pay8_eq (z : ℕ → ℕ → ℝ) :
    k0_pay8 (F := Ideal) (mat z : F32 S128x2048) = mat (ctr z) := by
  unfold k0_pay8
  dsimp only
  simp only [addf_mat, subf_mat, mulf_mat, erf_mat, divf_mat, scalar_half, scalar_one, scalar_2048, named_c1, splat_mat (φ := .f32), broadcastTo_col, shapeCast_vec_col, rowSum_mat (a := 128) (b := 2048)]
  rfl

theorem pay9_eq (z : ℕ → ℕ → ℝ) : k0_pay9 (F := Ideal) (mat z : F32 S128x2048) = mat fun i _ => rs z i := by
  unfold k0_pay9
  dsimp only
  simp only [pay8_eq, addf_mat, mulf_mat, divf_mat, scalar_2048, scalar_eps, splat_mat (φ := .f32), shapeCast_vec_col, rowSum_mat (a := 128) (b := 2048)]
  rw [rsqrt_mat _ fun i _ => add_pos_of_nonneg_of_pos
    (div_nonneg (Finset.sum_nonneg fun k _ => mul_self_nonneg _) (by norm_num)) eps_pos]
  rfl

theorem pay10_eq (z : ℕ → ℕ → ℝ) :
    k0_pay10 (F := Ideal) (mat z : F32 S128x2048) = mat (vhat z) := by
  unfold k0_pay10
  dsimp only
  simp only [pay8_eq, pay9_eq, mulf_mat, broadcastTo_col]
  rfl

theorem pay11_eq (g : ℕ → ℕ → ℝ) :
    k0_pay11 (F := Ideal) (mat g : F32 S1x2048) = mat fun _ j => g 0 j := by
  unfold k0_pay11
  dsimp only
  simp only [broadcastTo_row]

theorem pay12_eq (v g s : ℕ → ℕ → ℝ) :
    k0_pay12 (F := Ideal) (mat v : F32 S128x2048) (mat g : F32 S128x2048) (mat s : F32 S1x2048) = mat (lin v g s) := by
  unfold k0_pay12
  dsimp only
  simp only [addf_mat, mulf_mat, truncf_mat, broadcastTo_row]
  rfl

theorem pay13_eq (d : ℕ → ℕ → ℝ) :
    k0_pay13 (F := Ideal) (mat d : BF16 S128x2048) = mat d := by
  unfold k0_pay13
  dsimp only
  simp only [extf_mat]

theorem pay15_eq :
    k0_pay15 (F := Ideal)  = mat fun _ _ => 0 := by
  unfold k0_pay15
  dsimp only
  simp only [scalar_zero, splat_mat (φ := .f32)]

theorem pay16_eq (w : ℕ → ℕ → ℕ → ℝ) :
    k0_pay16 (F := Ideal) (cube w : F32 S1x128x128) = mat (tri (w 0)) := by
  unfold k0_pay16
  dsimp only
  simp only [truncf_mat, scalar_zero, splat_mat (φ := .f32), shapeCast_cube_mat, select_pay14]
  rfl

theorem pay17_eq (v g s d b : ℕ → ℕ → ℝ) (w : ℕ → ℕ → ℕ → ℝ) :
    k0_pay17 (F := Ideal) (mat v : F32 S128x2048) (mat g : F32 S128x2048) (mat s : F32 S1x2048) (mat d : BF16 S128x2048) (cube w : F32 S1x128x128) (mat b : F32 S128x1) = mat (duPart 0 d (lin v g s) (tri (w 0)) b) := by
  unfold k0_pay17
  dsimp only
  simp only [pay12_eq, pay13_eq, pay16_eq, addf_mat, mulf_mat, constant_zero, broadcastTo_col, shapeCast_same, slice_mat, matmul_NN]
  rfl

theorem pay18_eq (u d : ℕ → ℕ → ℝ) :
    k0_pay18 (F := Ideal) (mat u : F32 S128x2048) (mat d : BF16 S128x2048) = mat (dmPart 0 d u) := by
  unfold k0_pay18
  dsimp only
  simp only [pay13_eq, mulf_mat, slice_mat]
  rfl

theorem pay19_eq (u d : ℕ → ℕ → ℝ) :
    k0_pay19 (F := Ideal) (mat u : F32 S128x2048) (mat d : BF16 S128x2048) = mat (dmPart 0 d u) := by
  unfold k0_pay19
  dsimp only
  simp only [pay18_eq, truncf_mat]

theorem pay20_eq (u v g s d : ℕ → ℕ → ℝ) (w : ℕ → ℕ → ℕ → ℝ) :
    k0_pay20 (F := Ideal) (mat u : F32 S128x2048) (mat v : F32 S128x2048) (mat g : F32 S128x2048) (mat s : F32 S1x2048) (mat d : BF16 S128x2048) (cube w : F32 S1x128x128) = cube fun _ => dwsPart 0 (dmPart 0 d u) (lin v g s) (w 0) := by
  unfold k0_pay20
  dsimp only
  simp only [pay19_eq, pay12_eq, addf_mat, scalar_zero, splat_mat (φ := .f32), constant_zero, shapeCast_cube_mat, shapeCast_mat_cube, slice_mat, matmul_NT, select_pay14]
  rfl

theorem pay21_eq (a m : ℕ → ℕ → ℝ) :
    k0_pay21 (F := Ideal) (iota .tc S128x128 32 [1] iota_S128x128_d1_w32) (mat a : F32 S128x128) (mat m : F32 S128x256) = mat (dbsPart 0 m a) := by
  unfold k0_pay21
  dsimp only
  simp only [scalar_zero, splat_mat (φ := .f32), broadcastTo_col, shapeCast_same, shapeCast_vec_col, rowSum_mat (a := 128) (b := 256)]
  exact (congrArg _ (select_lane_zero _ _)).trans rfl

theorem pay22_eq (w m : ℕ → ℕ → ℝ) :
    k0_pay22 (F := Ideal) (mat w : BF16 S128x128) (mat m : BF16 S128x256) = mat (dvlPart w m) := by
  unfold k0_pay22
  dsimp only
  simp only [constant_zero, matmul_TN]
  rfl

theorem pay23_eq (w : ℕ → ℕ → ℕ → ℝ) :
    k0_pay23 (F := Ideal) k0_pay14 (cube w : F32 S1x128x128) = mat (tri (w 0)) := by
  unfold k0_pay23
  dsimp only
  simp only [truncf_mat, scalar_zero, splat_mat (φ := .f32), shapeCast_cube_mat, select_pay14]
  rfl

theorem pay24_eq (v d b : ℕ → ℕ → ℝ) (w : ℕ → ℕ → ℕ → ℝ) :
    k0_pay24 (F := Ideal) (mat v : BF16 S128x2048) (mat d : F32 S128x2048) k0_pay14 (cube w : F32 S1x128x128) (mat b : F32 S128x1) = mat (duPart 256 d v (tri (w 0)) b) := by
  unfold k0_pay24
  dsimp only
  simp only [pay23_eq, addf_mat, mulf_mat, constant_zero, broadcastTo_col, shapeCast_same, slice_mat, matmul_NN]
  rfl

theorem pay25_eq (u d : ℕ → ℕ → ℝ) :
    k0_pay25 (F := Ideal) (mat u : F32 S128x2048) (mat d : F32 S128x2048) = mat (dmPart 256 d u) := by
  unfold k0_pay25
  dsimp only
  simp only [mulf_mat, slice_mat]
  rfl

theorem pay26_eq (u d : ℕ → ℕ → ℝ) :
    k0_pay26 (F := Ideal) (mat u : F32 S128x2048) (mat d : F32 S128x2048) = mat (dmPart 256 d u) := by
  unfold k0_pay26
  dsimp only
  simp only [pay25_eq, truncf_mat]

theorem pay27_eq (u v d : ℕ → ℕ → ℝ) (w : ℕ → ℕ → ℕ → ℝ) :
    k0_pay27 (F := Ideal) (mat u : F32 S128x2048) (mat v : BF16 S128x2048) (mat d : F32 S128x2048) k0_pay14 (cube w : F32 S1x128x128) = cube fun _ => dwsPart 256 (dmPart 256 d u) v (w 0) := by
  unfold k0_pay27
  dsimp only
  simp only [pay26_eq, addf_mat, scalar_zero, splat_mat (φ := .f32), constant_zero, shapeCast_cube_mat, shapeCast_mat_cube, slice_mat, matmul_NT, select_pay14]
  rfl

theorem pay31_eq (w : ℕ → ℕ → ℕ → ℝ) :
    k0_pay31 (F := Ideal) k0_pay14 (cube w : F32 S1x128x128) = mat (tri (w 0)) := by
  unfold k0_pay31
  dsimp only
  simp only [truncf_mat, scalar_zero, splat_mat (φ := .f32), shapeCast_cube_mat, select_pay14]
  rfl

theorem pay32_eq (v d b : ℕ → ℕ → ℝ) (w : ℕ → ℕ → ℕ → ℝ) :
    k0_pay32 (F := Ideal) (mat v : BF16 S128x2048) (mat d : F32 S128x2048) k0_pay14 (cube w : F32 S1x128x128) (mat b : F32 S128x1) = mat (duPart 512 d v (tri (w 0)) b) := by
  unfold k0_pay32
  dsimp only
  simp only [pay31_eq, addf_mat, mulf_mat, constant_zero, broadcastTo_col, shapeCast_same, slice_mat, matmul_NN]
  rfl

theorem pay33_eq (u d : ℕ → ℕ → ℝ) :
    k0_pay33 (F := Ideal) (mat u : F32 S128x2048) (mat d : F32 S128x2048) = mat (dmPart 512 d u) := by
  unfold k0_pay33
  dsimp only
  simp only [mulf_mat, slice_mat]
  rfl

theorem pay34_eq (u d : ℕ → ℕ → ℝ) :
    k0_pay34 (F := Ideal) (mat u : F32 S128x2048) (mat d : F32 S128x2048) = mat (dmPart 512 d u) := by
  unfold k0_pay34
  dsimp only
  simp only [pay33_eq, truncf_mat]

theorem pay35_eq (u v d : ℕ → ℕ → ℝ) (w : ℕ → ℕ → ℕ → ℝ) :
    k0_pay35 (F := Ideal) (mat u : F32 S128x2048) (mat v : BF16 S128x2048) (mat d : F32 S128x2048) k0_pay14 (cube w : F32 S1x128x128) = cube fun _ => dwsPart 512 (dmPart 512 d u) v (w 0) := by
  unfold k0_pay35
  dsimp only
  simp only [pay34_eq, addf_mat, scalar_zero, splat_mat (φ := .f32), constant_zero, shapeCast_cube_mat, shapeCast_mat_cube, slice_mat, matmul_NT, select_pay14]
  rfl

theorem pay40_eq (w : ℕ → ℕ → ℕ → ℝ) :
    k0_pay40 (F := Ideal) k0_pay14 (cube w : F32 S1x128x128) = mat (tri (w 0)) := by
  unfold k0_pay40
  dsimp only
  simp only [truncf_mat, scalar_zero, splat_mat (φ := .f32), shapeCast_cube_mat, select_pay14]
  rfl

theorem pay41_eq (v d b : ℕ → ℕ → ℝ) (w : ℕ → ℕ → ℕ → ℝ) :
    k0_pay41 (F := Ideal) (mat v : BF16 S128x2048) (mat d : F32 S128x2048) k0_pay14 (cube w : F32 S1x128x128) (mat b : F32 S128x1) = mat (duPart 768 d v (tri (w 0)) b) := by
  unfold k0_pay41
  dsimp only
  simp only [pay40_eq, addf_mat, mulf_mat, constant_zero, broadcastTo_col, shapeCast_same, slice_mat, matmul_NN]
  rfl

theorem pay42_eq (u d : ℕ → ℕ → ℝ) :
    k0_pay42 (F := Ideal) (mat u : F32 S128x2048) (mat d : F32 S128x2048) = mat (dmPart 768 d u) := by
  unfold k0_pay42
  dsimp only
  simp only [mulf_mat, slice_mat]
  rfl

theorem pay43_eq (u d : ℕ → ℕ → ℝ) :
    k0_pay43 (F := Ideal) (mat u : F32 S128x2048) (mat d : F32 S128x2048) = mat (dmPart 768 d u) := by
  unfold k0_pay43
  dsimp only
  simp only [pay42_eq, truncf_mat]

theorem pay44_eq (u v d : ℕ → ℕ → ℝ) (w : ℕ → ℕ → ℕ → ℝ) :
    k0_pay44 (F := Ideal) (mat u : F32 S128x2048) (mat v : BF16 S128x2048) (mat d : F32 S128x2048) k0_pay14 (cube w : F32 S1x128x128) = cube fun _ => dwsPart 768 (dmPart 768 d u) v (w 0) := by
  unfold k0_pay44
  dsimp only
  simp only [pay43_eq, addf_mat, scalar_zero, splat_mat (φ := .f32), constant_zero, shapeCast_cube_mat, shapeCast_mat_cube, slice_mat, matmul_NT, select_pay14]
  rfl

theorem pay48_eq (w : ℕ → ℕ → ℕ → ℝ) :
    k0_pay48 (F := Ideal) k0_pay14 (cube w : F32 S1x128x128) = mat (tri (w 0)) := by
  unfold k0_pay48
  dsimp only
  simp only [truncf_mat, scalar_zero, splat_mat (φ := .f32), shapeCast_cube_mat, select_pay14]
  rfl

theorem pay49_eq (v d b : ℕ → ℕ → ℝ) (w : ℕ → ℕ → ℕ → ℝ) :
    k0_pay49 (F := Ideal) (mat v : BF16 S128x2048) (mat d : F32 S128x2048) k0_pay14 (cube w : F32 S1x128x128) (mat b : F32 S128x1) = mat (duPart 1024 d v (tri (w 0)) b) := by
  unfold k0_pay49
  dsimp only
  simp only [pay48_eq, addf_mat, mulf_mat, constant_zero, broadcastTo_col, shapeCast_same, slice_mat, matmul_NN]
  rfl

theorem pay50_eq (u d : ℕ → ℕ → ℝ) :
    k0_pay50 (F := Ideal) (mat u : F32 S128x2048) (mat d : F32 S128x2048) = mat (dmPart 1024 d u) := by
  unfold k0_pay50
  dsimp only
  simp only [mulf_mat, slice_mat]
  rfl

theorem pay51_eq (u d : ℕ → ℕ → ℝ) :
    k0_pay51 (F := Ideal) (mat u : F32 S128x2048) (mat d : F32 S128x2048) = mat (dmPart 1024 d u) := by
  unfold k0_pay51
  dsimp only
  simp only [pay50_eq, truncf_mat]

theorem pay52_eq (u v d : ℕ → ℕ → ℝ) (w : ℕ → ℕ → ℕ → ℝ) :
    k0_pay52 (F := Ideal) (mat u : F32 S128x2048) (mat v : BF16 S128x2048) (mat d : F32 S128x2048) k0_pay14 (cube w : F32 S1x128x128) = cube fun _ => dwsPart 1024 (dmPart 1024 d u) v (w 0) := by
  unfold k0_pay52
  dsimp only
  simp only [pay51_eq, addf_mat, scalar_zero, splat_mat (φ := .f32), constant_zero, shapeCast_cube_mat, shapeCast_mat_cube, slice_mat, matmul_NT, select_pay14]
  rfl

theorem pay55_eq (w : ℕ → ℕ → ℕ → ℝ) :
    k0_pay55 (F := Ideal) k0_pay14 (cube w : F32 S1x128x128) = mat (tri (w 0)) := by
  unfold k0_pay55
  dsimp only
  simp only [truncf_mat, scalar_zero, splat_mat (φ := .f32), shapeCast_cube_mat, select_pay14]
  rfl

theorem pay56_eq (v d b : ℕ → ℕ → ℝ) (w : ℕ → ℕ → ℕ → ℝ) :
    k0_pay56 (F := Ideal) (mat v : BF16 S128x2048) (mat d : F32 S128x2048) k0_pay14 (cube w : F32 S1x128x128) (mat b : F32 S128x1) = mat (duPart 1280 d v (tri (w 0)) b) := by
  unfold k0_pay56
  dsimp only
  simp only [pay55_eq, addf_mat, mulf_mat, constant_zero, broadcastTo_col, shapeCast_same, slice_mat, matmul_NN]
  rfl

theorem pay57_eq (u d : ℕ → ℕ → ℝ) :
    k0_pay57 (F := Ideal) (mat u : F32 S128x2048) (mat d : F32 S128x2048) = mat (dmPart 1280 d u) := by
  unfold k0_pay57
  dsimp only
  simp only [mulf_mat, slice_mat]
  rfl

theorem pay58_eq (u d : ℕ → ℕ → ℝ) :
    k0_pay58 (F := Ideal) (mat u : F32 S128x2048) (mat d : F32 S128x2048) = mat (dmPart 1280 d u) := by
  unfold k0_pay58
  dsimp only
  simp only [pay57_eq, truncf_mat]

theorem pay59_eq (u v d : ℕ → ℕ → ℝ) (w : ℕ → ℕ → ℕ → ℝ) :
    k0_pay59 (F := Ideal) (mat u : F32 S128x2048) (mat v : BF16 S128x2048) (mat d : F32 S128x2048) k0_pay14 (cube w : F32 S1x128x128) = cube fun _ => dwsPart 1280 (dmPart 1280 d u) v (w 0) := by
  unfold k0_pay59
  dsimp only
  simp only [pay58_eq, addf_mat, scalar_zero, splat_mat (φ := .f32), constant_zero, shapeCast_cube_mat, shapeCast_mat_cube, slice_mat, matmul_NT, select_pay14]
  rfl

theorem pay62_eq (w : ℕ → ℕ → ℕ → ℝ) :
    k0_pay62 (F := Ideal) k0_pay14 (cube w : F32 S1x128x128) = mat (tri (w 0)) := by
  unfold k0_pay62
  dsimp only
  simp only [truncf_mat, scalar_zero, splat_mat (φ := .f32), shapeCast_cube_mat, select_pay14]
  rfl

theorem pay63_eq (v d b : ℕ → ℕ → ℝ) (w : ℕ → ℕ → ℕ → ℝ) :
    k0_pay63 (F := Ideal) (mat v : BF16 S128x2048) (mat d : F32 S128x2048) k0_pay14 (cube w : F32 S1x128x128) (mat b : F32 S128x1) = mat (duPart 1536 d v (tri (w 0)) b) := by
  unfold k0_pay63
  dsimp only
  simp only [pay62_eq, addf_mat, mulf_mat, constant_zero, broadcastTo_col, shapeCast_same, slice_mat, matmul_NN]
  rfl

theorem pay64_eq (u d : ℕ → ℕ → ℝ) :
    k0_pay64 (F := Ideal) (mat u : F32 S128x2048) (mat d : F32 S128x2048) = mat (dmPart 1536 d u) := by
  unfold k0_pay64
  dsimp only
  simp only [mulf_mat, slice_mat]
  rfl

theorem pay65_eq (u d : ℕ → ℕ → ℝ) :
    k0_pay65 (F := Ideal) (mat u : F32 S128x2048) (mat d : F32 S128x2048) = mat (dmPart 1536 d u) := by
  unfold k0_pay65
  dsimp only
  simp only [pay64_eq, truncf_mat]

theorem pay66_eq (u v d : ℕ → ℕ → ℝ) (w : ℕ → ℕ → ℕ → ℝ) :
    k0_pay66 (F := Ideal) (mat u : F32 S128x2048) (mat v : BF16 S128x2048) (mat d : F32 S128x2048) k0_pay14 (cube w : F32 S1x128x128) = cube fun _ => dwsPart 1536 (dmPart 1536 d u) v (w 0) := by
  unfold k0_pay66
  dsimp only
  simp only [pay65_eq, addf_mat, scalar_zero, splat_mat (φ := .f32), constant_zero, shapeCast_cube_mat, shapeCast_mat_cube, slice_mat, matmul_NT, select_pay14]
  rfl

theorem pay69_eq (w : ℕ → ℕ → ℕ → ℝ) :
    k0_pay69 (F := Ideal) k0_pay14 (cube w : F32 S1x128x128) = mat (tri (w 0)) := by
  unfold k0_pay69
  dsimp only
  simp only [truncf_mat, scalar_zero, splat_mat (φ := .f32), shapeCast_cube_mat, select_pay14]
  rfl

theorem pay70_eq (v d b : ℕ → ℕ → ℝ) (w : ℕ → ℕ → ℕ → ℝ) :
    k0_pay70 (F := Ideal) (mat v : BF16 S128x2048) (mat d : F32 S128x2048) k0_pay14 (cube w : F32 S1x128x128) (mat b : F32 S128x1) = mat (duPart 1792 d v (tri (w 0)) b) := by
  unfold k0_pay70
  dsimp only
  simp only [pay69_eq, addf_mat, mulf_mat, constant_zero, broadcastTo_col, shapeCast_same, slice_mat, matmul_NN]
  rfl

theorem pay71_eq (u d : ℕ → ℕ → ℝ) :
    k0_pay71 (F := Ideal) (mat u : F32 S128x2048) (mat d : F32 S128x2048) = mat (dmPart 1792 d u) := by
  unfold k0_pay71
  dsimp only
  simp only [mulf_mat, slice_mat]
  rfl

theorem pay72_eq (u d : ℕ → ℕ → ℝ) :
    k0_pay72 (F := Ideal) (mat u : F32 S128x2048) (mat d : F32 S128x2048) = mat (dmPart 1792 d u) := by
  unfold k0_pay72
  dsimp only
  simp only [pay71_eq, truncf_mat]

theorem pay73_eq (u v d : ℕ → ℕ → ℝ) (w : ℕ → ℕ → ℕ → ℝ) :
    k0_pay73 (F := Ideal) (mat u : F32 S128x2048) (mat v : BF16 S128x2048) (mat d : F32 S128x2048) k0_pay14 (cube w : F32 S1x128x128) = cube fun _ => dwsPart 1792 (dmPart 1792 d u) v (w 0) := by
  unfold k0_pay73
  dsimp only
  simp only [pay72_eq, addf_mat, scalar_zero, splat_mat (φ := .f32), constant_zero, shapeCast_cube_mat, shapeCast_mat_cube, slice_mat, matmul_NT, select_pay14]
  rfl

theorem pay29_eq (a m : ℕ → ℕ → ℝ) :
    k0_pay29 (F := Ideal) (mat a : F32 S128x128) (mat m : F32 S128x256) (k0_pay28 (iota .tc S128x128 32 [1] iota_S128x128_d1_w32)) = mat (dbsPart 1 m a) := by
  unfold k0_pay29 k0_pay28
  dsimp only
  rw [show (1#32 : BitVec 32) = BitVec.ofNat 32 1 from rfl]
  simp only [select_lane_pay 1 (by norm_num), addf_mat, scalar_zero, splat_mat (φ := .f32), broadcastTo_col, shapeCast_same, shapeCast_vec_col, rowSum_mat (a := 128) (b := 256)]
  rfl

theorem pay37_eq (u d : ℕ → ℕ → ℝ) :
    k0_pay37 (F := Ideal) (mat u : F32 S128x2048) (mat d : F32 S128x2048) = mat fun i _ => ∑ k ∈ range 256, dmPart 512 d u i k := by
  unfold k0_pay37
  dsimp only
  simp only [pay33_eq, shapeCast_vec_col, rowSum_mat (a := 128) (b := 256)]

theorem pay38_eq (a m : ℕ → ℕ → ℝ) :
    k0_pay38 (F := Ideal) (mat a : F32 S128x128) (k0_pay36 (iota .tc S128x128 32 [1] iota_S128x128_d1_w32)) (mat m : F32 S128x1) = mat fun i j => a i j + if j = 2 then m i 0 else 0 := by
  unfold k0_pay38 k0_pay36
  dsimp only
  rw [show (2#32 : BitVec 32) = BitVec.ofNat 32 2 from rfl]
  simp only [select_lane_pay 2 (by norm_num), addf_mat, scalar_zero, splat_mat (φ := .f32), broadcastTo_col, shapeCast_same]

theorem pay46_eq (u d : ℕ → ℕ → ℝ) :
    k0_pay46 (F := Ideal) (mat u : F32 S128x2048) (mat d : F32 S128x2048) = mat fun i _ => ∑ k ∈ range 256, dmPart 768 d u i k := by
  unfold k0_pay46
  dsimp only
  simp only [pay42_eq, broadcastTo_col, shapeCast_same, shapeCast_vec_col, rowSum_mat (a := 128) (b := 256)]

theorem pay53_eq (u d a m : ℕ → ℕ → ℝ) :
    k0_pay53 (F := Ideal) (mat u : F32 S128x2048) (mat d : F32 S128x2048) (iota .tc S128x128 32 [1] iota_S128x128_d1_w32) (mat a : F32 S128x128) (k0_pay45 (iota .tc S128x128 32 [1] iota_S128x128_d1_w32)) (Scalar.ofBits .f32 0x00000000#32) (mat m : F32 S128x128) = mat (dbsPart 4 (dmPart 1024 d u) fun i j => a i j + if j = 3 then m i j else 0) := by
  unfold k0_pay53 k0_pay45
  dsimp only
  rw [show (3#32 : BitVec 32) = BitVec.ofNat 32 3 from rfl]
  rw [show (4#32 : BitVec 32) = BitVec.ofNat 32 4 from rfl]
  simp only [pay50_eq, select_lane_pay 3 (by norm_num), select_lane_pay 4 (by norm_num), addf_mat, scalar_zero, splat_mat (φ := .f32), broadcastTo_col, shapeCast_same, shapeCast_vec_col, rowSum_mat (a := 128) (b := 256)]
  rfl

theorem pay60_eq (u d a : ℕ → ℕ → ℝ) :
    k0_pay60 (F := Ideal) (mat u : F32 S128x2048) (mat d : F32 S128x2048) (iota .tc S128x128 32 [1] iota_S128x128_d1_w32) (mat a : F32 S128x128) = mat (dbsPart 5 (dmPart 1280 d u) a) := by
  unfold k0_pay60
  dsimp only
  rw [show (5#32 : BitVec 32) = BitVec.ofNat 32 5 from rfl]
  simp only [pay57_eq, select_lane_pay 5 (by norm_num), addf_mat, scalar_zero, splat_mat (φ := .f32), broadcastTo_col, shapeCast_same, shapeCast_vec_col, rowSum_mat (a := 128) (b := 256)]
  rfl

theorem pay67_eq (u d a : ℕ → ℕ → ℝ) :
    k0_pay67 (F := Ideal) (mat u : F32 S128x2048) (mat d : F32 S128x2048) (iota .tc S128x128 32 [1] iota_S128x128_d1_w32) (mat a : F32 S128x128) = mat (dbsPart 6 (dmPart 1536 d u) a) := by
  unfold k0_pay67
  dsimp only
  rw [show (6#32 : BitVec 32) = BitVec.ofNat 32 6 from rfl]
  simp only [pay64_eq, select_lane_pay 6 (by norm_num), addf_mat, scalar_zero, splat_mat (φ := .f32), broadcastTo_col, shapeCast_same, shapeCast_vec_col, rowSum_mat (a := 128) (b := 256)]
  rfl

theorem pay75_eq (u d a p : ℕ → ℕ → ℝ) :
    k0_pay75 (F := Ideal) (mat u : F32 S128x2048) (mat d : F32 S128x2048) (iota .tc S128x128 32 [1] iota_S128x128_d1_w32) (mat a : F32 S128x128) (mat p : F32 S128x128) = mat fun i j => p i j + dbsPart 7 (dmPart 1792 d u) a i j := by
  unfold k0_pay75
  dsimp only
  rw [show (7#32 : BitVec 32) = BitVec.ofNat 32 7 from rfl]
  simp only [pay71_eq, select_lane_pay 7 (by norm_num), addf_mat, scalar_zero, splat_mat (φ := .f32), broadcastTo_col, shapeCast_same, shapeCast_vec_col, rowSum_mat (a := 128) (b := 256)]
  rfl

theorem pay30_eq (w m : ℕ → ℕ → ℝ) :
    k0_pay30 (F := Ideal) (mat w : BF16 S128x128) (mat m : BF16 S128x256) = mat (dvlPart w m) := by
  unfold k0_pay30
  dsimp only
  simp only [constant_zero, matmul_TN]
  rfl

theorem pay39_eq (w m : ℕ → ℕ → ℝ) :
    k0_pay39 (F := Ideal) (mat w : BF16 S128x128) (mat m : BF16 S128x256) = mat (dvlPart w m) := by
  unfold k0_pay39
  dsimp only
  simp only [constant_zero, matmul_TN]
  rfl

theorem pay47_eq (w m : ℕ → ℕ → ℝ) :
    k0_pay47 (F := Ideal) (mat w : BF16 S128x128) (mat m : BF16 S128x256) = mat (dvlPart w m) := by
  unfold k0_pay47
  dsimp only
  simp only [constant_zero, matmul_TN]
  rfl

theorem pay54_eq (w m : ℕ → ℕ → ℝ) :
    k0_pay54 (F := Ideal) (mat w : BF16 S128x128) (mat m : BF16 S128x256) = mat (dvlPart w m) := by
  unfold k0_pay54
  dsimp only
  simp only [constant_zero, matmul_TN]
  rfl

theorem pay61_eq (u d : ℕ → ℕ → ℝ) (w : ℕ → ℕ → ℕ → ℝ) :
    k0_pay61 (F := Ideal) (mat u : F32 S128x2048) (mat d : F32 S128x2048) k0_pay14 (cube w : F32 S1x128x128) = mat (dvlPart (tri (w 0)) (dmPart 1280 d u)) := by
  unfold k0_pay61
  dsimp only
  simp only [pay55_eq, pay58_eq, constant_zero, matmul_TN]
  rfl

theorem pay68_eq (u d : ℕ → ℕ → ℝ) (w : ℕ → ℕ → ℕ → ℝ) :
    k0_pay68 (F := Ideal) (mat u : F32 S128x2048) (mat d : F32 S128x2048) k0_pay14 (cube w : F32 S1x128x128) = mat (dvlPart (tri (w 0)) (dmPart 1536 d u)) := by
  unfold k0_pay68
  dsimp only
  simp only [pay62_eq, pay65_eq, constant_zero, matmul_TN]
  rfl

theorem pay74_eq (u d : ℕ → ℕ → ℝ) (w : ℕ → ℕ → ℕ → ℝ) :
    k0_pay74 (F := Ideal) (mat u : F32 S128x2048) (mat d : F32 S128x2048) k0_pay14 (cube w : F32 S1x128x128) = mat (dvlPart (tri (w 0)) (dmPart 1792 d u)) := by
  unfold k0_pay74
  dsimp only
  simp only [pay69_eq, pay72_eq, constant_zero, matmul_TN]
  rfl

theorem pay76_eq (f : ℕ → ℕ → ℕ → ℝ) :
    k0_pay76 (F := Ideal) (mat (f 0) : F32 S128x256) (mat (f 1) : F32 S128x256) (mat (f 2) : F32 S128x256) (mat (f 3) : F32 S128x256) (mat (f 4) : F32 S128x256) (mat (f 5) : F32 S128x256) (mat (f 6) : F32 S128x256) (mat (f 7) : F32 S128x256) = mat (glue f) := by
  unfold k0_pay76
  exact concat_mat f _

theorem pay77_eq (f : ℕ → ℕ → ℕ → ℝ) :
    k0_pay77 (F := Ideal) (mat (f 0) : F32 S128x256) (mat (f 1) : F32 S128x256) (mat (f 2) : F32 S128x256) (mat (f 3) : F32 S128x256) (mat (f 4) : F32 S128x256) (mat (f 5) : F32 S128x256) (mat (f 6) : F32 S128x256) (mat (f 7) : F32 S128x256) = mat (glue f) := by
  unfold k0_pay77
  exact concat_mat f _

theorem pay78_eq (v a : ℕ → ℕ → ℝ) (f : ℕ → ℕ → ℕ → ℝ) :
    k0_pay78 (F := Ideal) (mat v : F32 S128x2048) (mat (f 0) : F32 S128x256) (mat (f 1) : F32 S128x256) (mat (f 2) : F32 S128x256) (mat (f 3) : F32 S128x256) (mat (f 4) : F32 S128x256) (mat (f 5) : F32 S128x256) (mat (f 6) : F32 S128x256) (mat (f 7) : F32 S128x256) (mat a : F32 S1x2048) = mat fun i j => a i j + ∑ k ∈ range 128, glue f k j * v k j := by
  unfold k0_pay78
  dsimp only
  simp only [pay77_eq, addf_mat, mulf_mat, shapeCast_same, shapeCast_vec_row, colSum_mat (a := 128) (b := 2048)]

theorem pay79_eq (a : ℕ → ℕ → ℝ) (f : ℕ → ℕ → ℕ → ℝ) :
    k0_pay79 (F := Ideal) (mat (f 0) : F32 S128x256) (mat (f 1) : F32 S128x256) (mat (f 2) : F32 S128x256) (mat (f 3) : F32 S128x256) (mat (f 4) : F32 S128x256) (mat (f 5) : F32 S128x256) (mat (f 6) : F32 S128x256) (mat (f 7) : F32 S128x256) (mat a : F32 S1x2048) = mat fun i j => a i j + ∑ k ∈ range 128, glue f k j := by
  unfold k0_pay79
  dsimp only
  simp only [pay77_eq, addf_mat, shapeCast_same, shapeCast_vec_row, colSum_mat (a := 128) (b := 2048)]

theorem pay80_eq (r v g : ℕ → ℕ → ℝ) (f : ℕ → ℕ → ℕ → ℝ) :
    k0_pay80 (F := Ideal) (mat r : F32 S128x1) (mat v : F32 S128x2048) (mat g : F32 S1x2048) (mat (f 0) : F32 S128x256) (mat (f 1) : F32 S128x256) (mat (f 2) : F32 S128x256) (mat (f 3) : F32 S128x256) (mat (f 4) : F32 S128x256) (mat (f 5) : F32 S128x256) (mat (f 6) : F32 S128x256) (mat (f 7) : F32 S128x256) = mat (dnorm r v (glue f) g) := by
  unfold k0_pay80
  dsimp only
  simp only [pay77_eq, subf_mat, mulf_mat, divf_mat, scalar_2048, splat_mat (φ := .f32), broadcastTo_col, broadcastTo_row, shapeCast_vec_col, rowSum_mat (a := 128) (b := 2048)]
  rfl

theorem pay81_eq (z : ℕ → ℕ → ℝ) :
    k0_pay81 (F := Ideal) (mat z : F32 S128x2048) = mat fun i j => 1 + rerf (z i j * c1) := by
  unfold k0_pay81
  dsimp only
  simp only [addf_mat, mulf_mat, erf_mat, scalar_one, named_c1, splat_mat (φ := .f32)]

theorem pay82_eq :
    k0_pay82 (F := Ideal)  = mat fun _ _ => 1 / 2 := by
  unfold k0_pay82
  dsimp only
  simp only [scalar_half, splat_mat (φ := .f32)]

end Cert.Gmlp

end
-- ==== Proof.Loads.lean ====
/- What a load of a block of real numbers reads: the whole block, one group of the eight, or one column. -/
module

public import proofs.«01_k».proof.Proof.Blocks
public import proofs.«01_k».proof.Proof.Gen.KernelIdeal.Value
public import Idealize.ShloMosaic.Lib.Pipeline.ValueKit.Tiles

@[expose] public section

set_option maxRecDepth 16384

noncomputable section

namespace Cert.Gmlp

open Idealize.ShloMosaic TcCoe Tactic Cert.KernelIdeal Cert.KernelIdeal.Gen

/-- The offsets of a whole block. -/
theorem hz2 : (![0, 0] : Fin 2 → Nat) = fun _ => 0 := funext fun a => by fin_cases a <;> rfl

/-! ### Loads -/

theorem ld_rows (f : ℕ → ℕ → ℝ) (h) :
    View.ld (Val := Elt Ideal) (e' := .f32) (mat f : F32 S128x2048) (Rect.unit ![0, 0] ![128, 2048] h)
      = (mat f : F32 S128x2048) :=
  View.ld_unit_zero (S := S128x2048) hz2 h _
theorem ld_rows_half (f : ℕ → ℕ → ℝ) (h) :
    View.ld (Val := Elt Ideal) (e' := .bf16) (mat f : BF16 S128x2048) (Rect.unit ![0, 0] ![128, 2048] h)
      = (mat f : BF16 S128x2048) :=
  View.ld_unit_zero (S := S128x2048) hz2 h _
theorem ld_row (f : ℕ → ℕ → ℝ) (h) :
    View.ld (Val := Elt Ideal) (e' := .f32) (mat f : F32 S1x2048) (Rect.unit ![0, 0] ![1, 2048] h) = (mat f : F32 S1x2048) :=
  View.ld_unit_zero (S := S1x2048) hz2 h _
theorem ld_square (f : ℕ → ℕ → ℝ) (h) :
    View.ld (Val := Elt Ideal) (e' := .f32) (mat f : F32 S128x128) (Rect.unit ![0, 0] ![128, 128] h) = (mat f : F32 S128x128) :=
  View.ld_unit_zero (S := S128x128) hz2 h _
/-- One group's matrix out of the eight. -/
theorem ld_slab (w : ℕ → ℕ → ℕ → ℝ) (q : ℕ) (h) :
    View.ld (Val := Elt Ideal) (e' := .f32) (cube w : F32 S8x128x128) (Rect.unit ![q, 0, 0] ![1, 128, 128] h)
      = (cube fun _ => w q : F32 S1x128x128) := by
  have hq : q < 8 := by have := h 0; simpa using this
  funext x
  rw [View.ld_unit_apply_of _ _ _ _ x (ix3 ⟨q, hq⟩ ⟨(x 1).1, (x 1).isLt⟩ ⟨(x 2).1, (x 2).isLt⟩)]
  · rfl
  · intro a
    have h0 : (x 0).1 = 0 := by have : (x 0).1 < 1 := (x 0).isLt; omega
    match a with
    | ⟨0, _⟩ => show q = q + (x 0).1; omega
    | ⟨1, _⟩ => show (x 1).1 = 0 + (x 1).1; omega
    | ⟨2, _⟩ => show (x 2).1 = 0 + (x 2).1; omega
/-- One group's bias, as a column. -/
theorem ld_column (b : ℕ → ℕ → ℝ) (q : ℕ) (h) :
    View.ld (Val := Elt Ideal) (e' := .f32) (mat b : F32 S128x128) (Rect.unit ![0, q] ![128, 1] h)
      = (mat fun i _ => b i q : F32 S128x1) := by
  have hq : q < 128 := by have := h 1; simpa using this
  funext x
  rw [View.ld_unit_apply_of _ _ _ _ x (ix2 ⟨(x 0).1, (x 0).isLt⟩ ⟨q, hq⟩)]
  · rfl
  · intro a
    have h0 : (x 1).1 = 0 := by have : (x 1).1 < 1 := (x 1).isLt; omega
    match a with
    | ⟨0, _⟩ => show (x 0).1 = 0 + (x 0).1; omega
    | ⟨1, _⟩ => show q = q + (x 1).1; omega

end Cert.Gmlp

end
-- ==== Proof.Words.lean ====
/- What the words of the kernel's body hold at one grid point, when its blocks hold real numbers: each is the real
   formula of the model for that step of the chunk. -/
module

public import proofs.«01_k».proof.Proof.Loads

@[expose] public section

set_option maxRecDepth 16384

noncomputable section

namespace Cert.Gmlp

open Idealize.ShloMosaic TcCoe Tactic Cert.KernelIdeal Cert.KernelIdeal.Gen

variable (c : Dev nD) (arg1 : Memref sig .tc .vmem S128x2048 .f32) (harg1 : arg1.IsWhole) (arg2 : Memref sig .tc .vmem S128x2048 .f32) (harg2 : arg2.IsWhole) (arg3 : Memref sig .tc .vmem S128x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x128x128 .f32) (harg6 : arg6.IsWhole) (arg7 : Memref sig .tc .vmem S128x128 .f32) (harg7 : arg7.IsWhole) (arg10 : Memref sig .tc .vmem S128x128 .f32) (harg10 : arg10.IsWhole)
  (zu zv d lg lb b acc : ℕ → ℕ → ℝ) (w : ℕ → ℕ → ℕ → ℝ)

theorem word_r : kernelRun0_B.sl.r (F := Ideal) c arg1 harg1 (mat zu : F32 S128x2048) = (mat zu : F32 S128x2048) := by
  unfold kernelRun0_B.sl.r
  simp only [View.readAt_eq_ld, harg1.read_unread, ld_rows, ld_rows_half, ld_row, ld_square, ld_slab, ld_column]

theorem word_r_1 : kernelRun0_B.sl.r_1 (F := Ideal) c arg2 harg2 (mat zv : F32 S128x2048) = (mat zv : F32 S128x2048) := by
  unfold kernelRun0_B.sl.r_1
  simp only [View.readAt_eq_ld, harg2.read_unread, ld_rows, ld_rows_half, ld_row, ld_square, ld_slab, ld_column]

theorem word_r_2 : kernelRun0_B.sl.r_2 (F := Ideal) c arg1 harg1 (mat zu : F32 S128x2048) = mat (act zu) := by
  unfold kernelRun0_B.sl.r_2
  simp only [View.readAt_eq_ld, harg1.read_unread, ld_rows, ld_rows_half, ld_row, ld_square, ld_slab, ld_column]
  exact pay7_eq ..

theorem word_r_3 : kernelRun0_B.sl.r_3 (F := Ideal) c arg2 harg2 (mat zv : F32 S128x2048) = mat fun i _ => rs zv i := by
  unfold kernelRun0_B.sl.r_3
  simp only [View.readAt_eq_ld, harg2.read_unread, ld_rows, ld_rows_half, ld_row, ld_square, ld_slab, ld_column]
  exact pay9_eq ..

theorem word_r_4 : kernelRun0_B.sl.r_4 (F := Ideal) c arg2 harg2 (mat zv : F32 S128x2048) = mat (vhat zv) := by
  unfold kernelRun0_B.sl.r_4
  simp only [View.readAt_eq_ld, harg2.read_unread, ld_rows, ld_rows_half, ld_row, ld_square, ld_slab, ld_column]
  exact pay10_eq ..

theorem word_r_5 : kernelRun0_B.sl.r_5 (F := Ideal) c arg4 harg4 (mat lg : F32 S1x2048) = (mat lg : F32 S1x2048) := by
  unfold kernelRun0_B.sl.r_5
  simp only [View.readAt_eq_ld, harg4.read_unread, ld_rows, ld_rows_half, ld_row, ld_square, ld_slab, ld_column]

theorem word_r_6 : kernelRun0_B.sl.r_6 (F := Ideal) c arg4 harg4 (mat lg : F32 S1x2048) = mat fun _ j => lg 0 j := by
  unfold kernelRun0_B.sl.r_6
  simp only [View.readAt_eq_ld, harg4.read_unread, ld_rows, ld_rows_half, ld_row, ld_square, ld_slab, ld_column]
  exact pay11_eq ..

theorem word_r_7 : kernelRun0_B.sl.r_7 (F := Ideal) c arg2 harg2 arg4 harg4 arg5 harg5 (mat zv : F32 S128x2048) (mat lg : F32 S1x2048) (mat lb : F32 S1x2048) = mat (vln zv lg lb) := by
  unfold kernelRun0_B.sl.r_7
  simp only [View.readAt_eq_ld, harg5.read_unread, ld_rows, ld_rows_half, ld_row, ld_square, ld_slab, ld_column, word_r_4, word_r_6]
  exact pay12_eq ..

theorem word_r_8 : kernelRun0_B.sl.r_8 (F := Ideal) c arg3 harg3 (mat d : BF16 S128x2048) = mat d := by
  unfold kernelRun0_B.sl.r_8
  simp only [View.readAt_eq_ld, harg3.read_unread, ld_rows, ld_rows_half, ld_row, ld_square, ld_slab, ld_column]
  exact pay13_eq ..

theorem word_r_9 : kernelRun0_B.sl.r_9 (F := Ideal) c arg6 harg6 (cube w : F32 S8x128x128) = mat (tri (w 0)) := by
  unfold kernelRun0_B.sl.r_9
  simp only [View.readAt_eq_ld, harg6.read_unread, ld_rows, ld_rows_half, ld_row, ld_square, ld_slab, ld_column]
  exact pay16_eq ..

theorem word_r_10 : kernelRun0_B.sl.r_10 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 0) := by
  unfold kernelRun0_B.sl.r_10
  simp only [View.readAt_eq_ld, harg3.read_unread, harg5.read_unread, harg6.read_unread, harg7.read_unread, ld_rows, ld_rows_half, ld_row, ld_square, ld_slab, ld_column, word_r_4, word_r_6]
  exact pay17_eq ..

theorem word_r_11 : kernelRun0_B.sl.r_11 (F := Ideal) c arg1 harg1 arg3 harg3 (mat zu : F32 S128x2048) (mat d : BF16 S128x2048) = mat (dmPart (256 * 0) d (act zu)) := by
  unfold kernelRun0_B.sl.r_11
  simp only [View.readAt_eq_ld, harg3.read_unread, ld_rows, ld_rows_half, ld_row, ld_square, ld_slab, ld_column, word_r_2]
  exact pay18_eq ..

theorem word_r_12 : kernelRun0_B.sl.r_12 (F := Ideal) c arg1 harg1 arg3 harg3 (mat zu : F32 S128x2048) (mat d : BF16 S128x2048) = mat (dmPart (256 * 0) d (act zu)) := by
  unfold kernelRun0_B.sl.r_12
  simp only [View.readAt_eq_ld, harg3.read_unread, ld_rows, ld_rows_half, ld_row, ld_square, ld_slab, ld_column, word_r_2]
  exact pay19_eq ..

theorem word_r_13 : kernelRun0_B.sl.r_13 (F := Ideal) c arg1 harg1 arg3 harg3 (mat zu : F32 S128x2048) (mat d : BF16 S128x2048) = mat (dbsSum d (act zu) 1) := by
  unfold kernelRun0_B.sl.r_13 kernelRun0_B.sl.v49
  simp only [word_r_11, pay15_eq]
  exact pay21_eq ..

theorem word_r_14 : kernelRun0_B.sl.r_14 (F := Ideal) c arg1 harg1 arg3 harg3 arg6 harg6 (mat zu : F32 S128x2048) (mat d : BF16 S128x2048) (cube w : F32 S8x128x128) = mat (dvlOf d (act zu) w 0) := by
  unfold kernelRun0_B.sl.r_14
  simp only [word_r_9, word_r_12]
  exact pay22_eq ..

theorem word_r_15 : kernelRun0_B.sl.r_15 (F := Ideal) c arg6 harg6 (cube w : F32 S8x128x128) = mat (tri (w 1)) := by
  unfold kernelRun0_B.sl.r_15
  simp only [View.readAt_eq_ld, harg6.read_unread, ld_rows, ld_rows_half, ld_row, ld_square, ld_slab, ld_column]
  exact pay23_eq ..

theorem word_r_16 : kernelRun0_B.sl.r_16 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 1) := by
  unfold kernelRun0_B.sl.r_16
  simp only [View.readAt_eq_ld, harg6.read_unread, harg7.read_unread, ld_rows, ld_rows_half, ld_row, ld_square, ld_slab, ld_column, word_r_7, word_r_8]
  exact pay24_eq ..

theorem word_r_17 : kernelRun0_B.sl.r_17 (F := Ideal) c arg1 harg1 arg3 harg3 (mat zu : F32 S128x2048) (mat d : BF16 S128x2048) = mat (dmPart (256 * 1) d (act zu)) := by
  unfold kernelRun0_B.sl.r_17
  simp only [word_r_2, word_r_8]
  exact pay25_eq ..

theorem word_r_18 : kernelRun0_B.sl.r_18 (F := Ideal) c arg1 harg1 arg3 harg3 (mat zu : F32 S128x2048) (mat d : BF16 S128x2048) = mat (dmPart (256 * 1) d (act zu)) := by
  unfold kernelRun0_B.sl.r_18
  simp only [word_r_2, word_r_8]
  exact pay26_eq ..

theorem word_r_19 : kernelRun0_B.sl.r_19 (F := Ideal) c arg1 harg1 arg3 harg3 (mat zu : F32 S128x2048) (mat d : BF16 S128x2048) = mat (dbsSum d (act zu) 2) := by
  unfold kernelRun0_B.sl.r_19 kernelRun0_B.sl.v49
  simp only [word_r_13, word_r_17]
  exact pay29_eq ..

theorem word_r_20 : kernelRun0_B.sl.r_20 (F := Ideal) c arg1 harg1 arg3 harg3 arg6 harg6 (mat zu : F32 S128x2048) (mat d : BF16 S128x2048) (cube w : F32 S8x128x128) = mat (dvlOf d (act zu) w 1) := by
  unfold kernelRun0_B.sl.r_20
  simp only [word_r_15, word_r_18]
  exact pay30_eq ..

theorem word_r_21 : kernelRun0_B.sl.r_21 (F := Ideal) c arg6 harg6 (cube w : F32 S8x128x128) = mat (tri (w 2)) := by
  unfold kernelRun0_B.sl.r_21
  simp only [View.readAt_eq_ld, harg6.read_unread, ld_rows, ld_rows_half, ld_row, ld_square, ld_slab, ld_column]
  exact pay31_eq ..

theorem word_r_22 : kernelRun0_B.sl.r_22 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 2) := by
  unfold kernelRun0_B.sl.r_22
  simp only [View.readAt_eq_ld, harg6.read_unread, harg7.read_unread, ld_rows, ld_rows_half, ld_row, ld_square, ld_slab, ld_column, word_r_7, word_r_8]
  exact pay32_eq ..

theorem word_r_23 : kernelRun0_B.sl.r_23 (F := Ideal) c arg1 harg1 arg3 harg3 (mat zu : F32 S128x2048) (mat d : BF16 S128x2048) = mat (dmPart (256 * 2) d (act zu)) := by
  unfold kernelRun0_B.sl.r_23
  simp only [word_r_2, word_r_8]
  exact pay34_eq ..

theorem word_r_24 : kernelRun0_B.sl.r_24 (F := Ideal) c arg1 harg1 arg3 harg3 (mat zu : F32 S128x2048) (mat d : BF16 S128x2048) = mat fun i _ => ∑ k ∈ Finset.range 256, dmPart (256 * 2) d (act zu) i k := by
  unfold kernelRun0_B.sl.r_24
  simp only [word_r_2, word_r_8]
  exact pay37_eq ..

theorem word_r_25 : kernelRun0_B.sl.r_25 (F := Ideal) c arg1 harg1 arg3 harg3 (mat zu : F32 S128x2048) (mat d : BF16 S128x2048) = mat (dbsSum d (act zu) 3) := by
  unfold kernelRun0_B.sl.r_25 kernelRun0_B.sl.v49
  simp only [word_r_19, word_r_24]
  exact pay38_eq ..

theorem word_r_26 : kernelRun0_B.sl.r_26 (F := Ideal) c arg1 harg1 arg3 harg3 arg6 harg6 (mat zu : F32 S128x2048) (mat d : BF16 S128x2048) (cube w : F32 S8x128x128) = mat (dvlOf d (act zu) w 2) := by
  unfold kernelRun0_B.sl.r_26
  simp only [word_r_21, word_r_23]
  exact pay39_eq ..

theorem word_r_27 : kernelRun0_B.sl.r_27 (F := Ideal) c arg6 harg6 (cube w : F32 S8x128x128) = mat (tri (w 3)) := by
  unfold kernelRun0_B.sl.r_27
  simp only [View.readAt_eq_ld, harg6.read_unread, ld_rows, ld_rows_half, ld_row, ld_square, ld_slab, ld_column]
  exact pay40_eq ..

theorem word_r_28 : kernelRun0_B.sl.r_28 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 3) := by
  unfold kernelRun0_B.sl.r_28
  simp only [View.readAt_eq_ld, harg6.read_unread, harg7.read_unread, ld_rows, ld_rows_half, ld_row, ld_square, ld_slab, ld_column, word_r_7, word_r_8]
  exact pay41_eq ..

theorem word_r_29 : kernelRun0_B.sl.r_29 (F := Ideal) c arg1 harg1 arg3 harg3 (mat zu : F32 S128x2048) (mat d : BF16 S128x2048) = mat (dmPart (256 * 3) d (act zu)) := by
  unfold kernelRun0_B.sl.r_29
  simp only [word_r_2, word_r_8]
  exact pay43_eq ..

theorem word_r_30 : kernelRun0_B.sl.r_30 (F := Ideal) c arg1 harg1 arg3 harg3 (mat zu : F32 S128x2048) (mat d : BF16 S128x2048) = mat fun i _ => ∑ k ∈ Finset.range 256, dmPart (256 * 3) d (act zu) i k := by
  unfold kernelRun0_B.sl.r_30
  simp only [word_r_2, word_r_8]
  exact pay46_eq ..

theorem word_r_31 : kernelRun0_B.sl.r_31 (F := Ideal) c arg1 harg1 arg3 harg3 arg6 harg6 (mat zu : F32 S128x2048) (mat d : BF16 S128x2048) (cube w : F32 S8x128x128) = mat (dvlOf d (act zu) w 3) := by
  unfold kernelRun0_B.sl.r_31
  simp only [word_r_27, word_r_29]
  exact pay47_eq ..

theorem word_r_32 : kernelRun0_B.sl.r_32 (F := Ideal) c arg6 harg6 (cube w : F32 S8x128x128) = mat (tri (w 4)) := by
  unfold kernelRun0_B.sl.r_32
  simp only [View.readAt_eq_ld, harg6.read_unread, ld_rows, ld_rows_half, ld_row, ld_square, ld_slab, ld_column]
  exact pay48_eq ..

theorem word_r_33 : kernelRun0_B.sl.r_33 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 4) := by
  unfold kernelRun0_B.sl.r_33
  simp only [View.readAt_eq_ld, harg6.read_unread, harg7.read_unread, ld_rows, ld_rows_half, ld_row, ld_square, ld_slab, ld_column, word_r_7, word_r_8]
  exact pay49_eq ..

theorem word_r_34 : kernelRun0_B.sl.r_34 (F := Ideal) c arg1 harg1 arg3 harg3 (mat zu : F32 S128x2048) (mat d : BF16 S128x2048) = mat (dmPart (256 * 4) d (act zu)) := by
  unfold kernelRun0_B.sl.r_34
  simp only [word_r_2, word_r_8]
  exact pay51_eq ..

theorem word_r_35 : kernelRun0_B.sl.r_35 (F := Ideal) c arg1 harg1 arg3 harg3 (mat zu : F32 S128x2048) (mat d : BF16 S128x2048) = mat (dbsSum d (act zu) 5) := by
  unfold kernelRun0_B.sl.r_35 kernelRun0_B.sl.v49 kernelRun0_B.sl.cst_89
  simp only [word_r_2, word_r_8, word_r_25, word_r_30]
  exact pay53_eq ..

theorem word_r_36 : kernelRun0_B.sl.r_36 (F := Ideal) c arg1 harg1 arg3 harg3 arg6 harg6 (mat zu : F32 S128x2048) (mat d : BF16 S128x2048) (cube w : F32 S8x128x128) = mat (dvlOf d (act zu) w 4) := by
  unfold kernelRun0_B.sl.r_36
  simp only [word_r_32, word_r_34]
  exact pay54_eq ..

theorem word_r_37 : kernelRun0_B.sl.r_37 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 5) := by
  unfold kernelRun0_B.sl.r_37
  simp only [View.readAt_eq_ld, harg6.read_unread, harg7.read_unread, ld_rows, ld_rows_half, ld_row, ld_square, ld_slab, ld_column, word_r_7, word_r_8]
  exact pay56_eq ..

theorem word_r_38 : kernelRun0_B.sl.r_38 (F := Ideal) c arg1 harg1 arg3 harg3 (mat zu : F32 S128x2048) (mat d : BF16 S128x2048) = mat (dbsSum d (act zu) 6) := by
  unfold kernelRun0_B.sl.r_38 kernelRun0_B.sl.v49
  simp only [word_r_2, word_r_8, word_r_35]
  exact pay60_eq ..

theorem word_r_39 : kernelRun0_B.sl.r_39 (F := Ideal) c arg1 harg1 arg3 harg3 arg6 harg6 (mat zu : F32 S128x2048) (mat d : BF16 S128x2048) (cube w : F32 S8x128x128) = mat (dvlOf d (act zu) w 5) := by
  unfold kernelRun0_B.sl.r_39
  simp only [View.readAt_eq_ld, harg6.read_unread, ld_rows, ld_rows_half, ld_row, ld_square, ld_slab, ld_column, word_r_2, word_r_8]
  exact pay61_eq ..

theorem word_r_40 : kernelRun0_B.sl.r_40 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 6) := by
  unfold kernelRun0_B.sl.r_40
  simp only [View.readAt_eq_ld, harg6.read_unread, harg7.read_unread, ld_rows, ld_rows_half, ld_row, ld_square, ld_slab, ld_column, word_r_7, word_r_8]
  exact pay63_eq ..

theorem word_r_41 : kernelRun0_B.sl.r_41 (F := Ideal) c arg1 harg1 arg3 harg3 (mat zu : F32 S128x2048) (mat d : BF16 S128x2048) = mat (dbsSum d (act zu) 7) := by
  unfold kernelRun0_B.sl.r_41 kernelRun0_B.sl.v49
  simp only [word_r_2, word_r_8, word_r_38]
  exact pay67_eq ..

theorem word_r_42 : kernelRun0_B.sl.r_42 (F := Ideal) c arg1 harg1 arg3 harg3 arg6 harg6 (mat zu : F32 S128x2048) (mat d : BF16 S128x2048) (cube w : F32 S8x128x128) = mat (dvlOf d (act zu) w 6) := by
  unfold kernelRun0_B.sl.r_42
  simp only [View.readAt_eq_ld, harg6.read_unread, ld_rows, ld_rows_half, ld_row, ld_square, ld_slab, ld_column, word_r_2, word_r_8]
  exact pay68_eq ..

theorem word_r_43 : kernelRun0_B.sl.r_43 (F := Ideal) c arg6 harg6 (cube w : F32 S8x128x128) = (cube fun _ => w 7 : F32 S1x128x128) := by
  unfold kernelRun0_B.sl.r_43
  simp only [View.readAt_eq_ld, harg6.read_unread, ld_rows, ld_rows_half, ld_row, ld_square, ld_slab, ld_column]

theorem word_r_44 : kernelRun0_B.sl.r_44 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (duOf d (vln zv lg lb) w b 7) := by
  unfold kernelRun0_B.sl.r_44
  simp only [View.readAt_eq_ld, harg7.read_unread, ld_rows, ld_rows_half, ld_row, ld_square, ld_slab, ld_column, word_r_7, word_r_8, word_r_43]
  exact pay70_eq ..

theorem word_r_45 : kernelRun0_B.sl.r_45 (F := Ideal) c arg1 harg1 arg3 harg3 arg6 harg6 (mat zu : F32 S128x2048) (mat d : BF16 S128x2048) (cube w : F32 S8x128x128) = mat (dvlOf d (act zu) w 7) := by
  unfold kernelRun0_B.sl.r_45
  simp only [word_r_2, word_r_8, word_r_43]
  exact pay74_eq ..

theorem word_r_46 : kernelRun0_B.sl.r_46 (F := Ideal) c arg1 harg1 arg3 harg3 arg10 harg10 (mat zu : F32 S128x2048) (mat d : BF16 S128x2048) (mat acc : F32 S128x128) = mat fun i j => acc i j + dbsSum d (act zu) 8 i j := by
  unfold kernelRun0_B.sl.r_46 kernelRun0_B.sl.v49
  simp only [View.readAt_eq_ld, harg10.read_unread, ld_rows, ld_rows_half, ld_row, ld_square, ld_slab, ld_column, word_r_2, word_r_8, word_r_41]
  exact pay75_eq ..

theorem word_r_47 : kernelRun0_B.sl.r_47 (F := Ideal) c arg2 harg2 arg3 harg3 arg4 harg4 arg5 harg5 arg6 harg6 arg7 harg7 (mat zv : F32 S128x2048) (mat d : BF16 S128x2048) (mat lg : F32 S1x2048) (mat lb : F32 S1x2048) (cube w : F32 S8x128x128) (mat b : F32 S128x128) = mat (glue (duOf d (vln zv lg lb) w b)) := by
  unfold kernelRun0_B.sl.r_47
  simp only [word_r_10, word_r_16, word_r_22, word_r_28, word_r_33, word_r_37, word_r_40, word_r_44]
  exact pay76_eq (duOf d (vln zv lg lb) w b)

theorem word_r_48 : kernelRun0_B.sl.r_48 (F := Ideal) c arg1 harg1 arg2 harg2 arg3 harg3 arg4 harg4 arg6 harg6 (mat zu : F32 S128x2048) (mat zv : F32 S128x2048) (mat d : BF16 S128x2048) (mat lg : F32 S1x2048) (cube w : F32 S8x128x128) = mat (dnorm (fun i _ => rs zv i) (vhat zv) (glue (dvlOf d (act zu) w)) lg) := by
  unfold kernelRun0_B.sl.r_48
  simp only [word_r_3, word_r_4, word_r_5, word_r_14, word_r_20, word_r_26, word_r_31, word_r_36, word_r_39, word_r_42, word_r_45]
  exact pay80_eq _ _ _ (dvlOf d (act zu) w)

end Cert.Gmlp

end
-- ==== Proof.Stores.lean ====
/- What a buffer holds after the stores of one grid point: eight groups stored one by one, or two halves side by side. -/
module

public import proofs.«01_k».proof.Proof.Words

@[expose] public section

set_option maxRecDepth 16384

noncomputable section

namespace Cert.Gmlp

open Idealize.ShloMosaic TcCoe Tactic Cert.KernelIdeal Cert.KernelIdeal.Gen

/-- A store of group `q` decides what group `q` holds and leaves the others. -/
theorem canon_slab (q : ℕ) (f : ℕ → ℕ → ℝ) (h) (L : List (View.Piece (Elt Ideal) S8x128x128 .f32)) (y : S8x128x128.Idx) :
    View.canon (⟨Rect.unit ![q, 0, 0] ![1, 128, 128] h, (cube fun _ => f : F32 S1x128x128)⟩ :: L) y
      = if (y 0).1 = q then ((f (y 1).1 (y 2).1 : ℝ) : EReal) else View.canon L y := by
  by_cases hq : (y 0).1 = q
  · rw [if_pos hq]
    have hy : y = (Rect.unit (s := S8x128x128) ![q, 0, 0] ![1, 128, 128] h).emb
        (ix3 ⟨0, Nat.one_pos⟩ ⟨(y 1).1, (y 1).isLt⟩ ⟨(y 2).1, (y 2).isLt⟩) := by
      funext a
      apply Fin.ext
      match a with
      | ⟨0, _⟩ => show (y 0).1 = q + 1 * 0; omega
      | ⟨1, _⟩ => show (y 1).1 = 0 + 1 * (y 1).1; omega
      | ⟨2, _⟩ => show (y 2).1 = 0 + 1 * (y 2).1; omega
    conv_lhs => rw [hy]
    rw [View.canon_cons_emb]
    rfl
  · rw [if_neg hq, View.canon_cons_of_not_mem]
    intro hm
    have hm' : y ∈ (Rect.unit (s := S8x128x128) ![q, 0, 0] ![1, 128, 128] h).set := hm
    rw [Rect.mem_set_unit] at hm'
    have h0 := hm' 0
    have h1 : ((![q, 0, 0] : Fin 3 → ℕ) 0) = q := rfl
    have h2 : ((![1, 128, 128] : Fin 3 → ℕ) 0) = 1 := rfl
    rw [h1, h2] at h0
    omega

/-- Eight groups stored one by one, over anything. -/
theorem canon_eight (f : ℕ → ℕ → ℕ → ℝ) (h0 h1 h2 h3 h4 h5 h6 h7) (L : List (View.Piece (Elt Ideal) S8x128x128 .f32)) :
    View.canon (⟨Rect.unit ![7, 0, 0] ![1, 128, 128] h7, (cube fun _ => f 7 : F32 S1x128x128)⟩
      :: ⟨Rect.unit ![6, 0, 0] ![1, 128, 128] h6, (cube fun _ => f 6 : F32 S1x128x128)⟩
      :: ⟨Rect.unit ![5, 0, 0] ![1, 128, 128] h5, (cube fun _ => f 5 : F32 S1x128x128)⟩
      :: ⟨Rect.unit ![4, 0, 0] ![1, 128, 128] h4, (cube fun _ => f 4 : F32 S1x128x128)⟩
      :: ⟨Rect.unit ![3, 0, 0] ![1, 128, 128] h3, (cube fun _ => f 3 : F32 S1x128x128)⟩
      :: ⟨Rect.unit ![2, 0, 0] ![1, 128, 128] h2, (cube fun _ => f 2 : F32 S1x128x128)⟩
      :: ⟨Rect.unit ![1, 0, 0] ![1, 128, 128] h1, (cube fun _ => f 1 : F32 S1x128x128)⟩
      :: ⟨Rect.unit ![0, 0, 0] ![1, 128, 128] h0, (cube fun _ => f 0 : F32 S1x128x128)⟩ :: L)
      = (cube f : F32 S8x128x128) := by
  funext y
  simp only [canon_slab]
  have hy : (y 0).1 < 8 := (y 0).isLt
  show _ = ((f (y 0).1 (y 1).1 (y 2).1 : ℝ) : EReal)
  generalize (y 0).1 = k at hy ⊢
  interval_cases k <;> rfl

/-- Two halves of 2048 columns stored side by side. -/
theorem canon_halves (f g : ℕ → ℕ → ℝ) (h0 h1) :
    View.canon [(⟨Rect.unit ![0, 2048] ![128, 2048] h1, (mat f : BF16 S128x2048)⟩ : View.Piece (Elt Ideal) S128x4096 .bf16),
      ⟨Rect.unit ![0, 0] ![128, 2048] h0, (mat g : BF16 S128x2048)⟩]
      = (mat fun i j => if j < 2048 then g i j else f i (j - 2048) : BF16 S128x4096) := by
  funext y
  have h4 : (y 1).1 < 4096 := (y 1).isLt
  by_cases hq : (y 1).1 < 2048
  · rw [View.canon_cons_of_not_mem]
    · have hy : y = (Rect.unit (s := S128x4096) ![0, 0] ![128, 2048] h0).emb
          (ix2 ⟨(y 0).1, (y 0).isLt⟩ ⟨(y 1).1, hq⟩) := by
        funext a
        apply Fin.ext
        match a with
        | ⟨0, _⟩ => show (y 0).1 = 0 + 1 * (y 0).1; omega
        | ⟨1, _⟩ => show (y 1).1 = 0 + 1 * (y 1).1; omega
      conv_lhs => rw [hy]
      rw [View.canon_cons_emb]
      show ((g (y 0).1 (y 1).1 : ℝ) : EReal) = (((if (y 1).1 < 2048 then g (y 0).1 (y 1).1 else f (y 0).1 ((y 1).1 - 2048)) : ℝ) : EReal)
      rw [if_pos hq]
    · intro hm
      have hm' : y ∈ (Rect.unit (s := S128x4096) ![0, 2048] ![128, 2048] h1).set := hm
      rw [Rect.mem_set_unit] at hm'
      have h0 := (hm' 1).1
      have h3 : ((![0, 2048] : Fin 2 → ℕ) 1) = 2048 := rfl
      rw [h3] at h0
      omega
  · have hy : y = (Rect.unit (s := S128x4096) ![0, 2048] ![128, 2048] h1).emb
        (ix2 ⟨(y 0).1, (y 0).isLt⟩ ⟨(y 1).1 - 2048, by show _ < 2048; omega⟩) := by
      funext a
      apply Fin.ext
      match a with
      | ⟨0, _⟩ => show (y 0).1 = 0 + 1 * (y 0).1; omega
      | ⟨1, _⟩ => show (y 1).1 = 2048 + 1 * ((y 1).1 - 2048); omega
    conv_lhs => rw [hy]
    rw [View.canon_cons_emb]
    show ((f (y 0).1 ((y 1).1 - 2048) : ℝ) : EReal) = (((if (y 1).1 < 2048 then g (y 0).1 (y 1).1 else f (y 0).1 ((y 1).1 - 2048)) : ℝ) : EReal)
    rw [if_neg hq]

end Cert.Gmlp

end
-- ==== Proof.Cases.lean ====
/- What one grid point leaves in each output's block, when its blocks hold real numbers: at the first grid point over
   zero, at a later one over what the point before left. -/
module

public import proofs.«01_k».proof.Proof.Stores
public import Idealize.ShloMosaic.Lib.Pipeline.ReadBack

@[expose] public section

set_option maxRecDepth 16384

noncomputable section

namespace Cert.Gmlp

open Idealize.ShloMosaic TcCoe Tactic Cert.KernelIdeal Cert.KernelIdeal.Gen
open Finset (range)

variable (c : Dev nD) (i : grid0.Coords) (arg1 : Memref sig .tc .vmem S128x2048 .f32) (harg1 : arg1.IsWhole) (arg2 : Memref sig .tc .vmem S128x2048 .f32) (harg2 : arg2.IsWhole) (arg3 : Memref sig .tc .vmem S128x2048 .bf16) (harg3 : arg3.IsWhole) (arg4 : Memref sig .tc .vmem S1x2048 .f32) (harg4 : arg4.IsWhole) (arg5 : Memref sig .tc .vmem S1x2048 .f32) (harg5 : arg5.IsWhole) (arg6 : Memref sig .tc .vmem S8x128x128 .f32) (harg6 : arg6.IsWhole) (arg7 : Memref sig .tc .vmem S128x128 .f32) (harg7 : arg7.IsWhole) (arg8 : Memref sig .tc .vmem S128x4096 .bf16) (harg8 : arg8.IsWhole) (arg9 : Memref sig .tc .vmem S8x128x128 .f32) (harg9 : arg9.IsWhole) (arg10 : Memref sig .tc .vmem S128x128 .f32) (harg10 : arg10.IsWhole) (arg11 : Memref sig .tc .vmem S1x2048 .f32) (harg11 : arg11.IsWhole) (arg12 : Memref sig .tc .vmem S1x2048 .f32) (harg12 : arg12.IsWhole)
variable (x0 : Vec Ideal S128x2048 .f32) (x1 : Vec Ideal S128x2048 .f32) (x2 : Vec Ideal S128x2048 .bf16) (x3 : Vec Ideal S1x2048 .f32) (x4 : Vec Ideal S1x2048 .f32) (x5 : Vec Ideal S8x128x128 .f32) (x6 : Vec Ideal S128x128 .f32)

/-! ### The first point's words are the later points' -/

theorem same_r : kernelRun0_A.sl.r (F := Ideal) = kernelRun0_B.sl.r := rfl
theorem same_r_1 : kernelRun0_A.sl.r_1 (F := Ideal) = kernelRun0_B.sl.r_1 := rfl
theorem same_r_2 : kernelRun0_A.sl.r_2 (F := Ideal) = kernelRun0_B.sl.r_2 := rfl
theorem same_r_4 : kernelRun0_A.sl.r_4 (F := Ideal) = kernelRun0_B.sl.r_4 := rfl
theorem same_r_6 : kernelRun0_A.sl.r_6 (F := Ideal) = kernelRun0_B.sl.r_6 := rfl
theorem same_r_7 : kernelRun0_A.sl.r_7 (F := Ideal) = kernelRun0_B.sl.r_7 := rfl
theorem same_r_8 : kernelRun0_A.sl.r_8 (F := Ideal) = kernelRun0_B.sl.r_8 := rfl
theorem same_r_14 : kernelRun0_A.sl.r_14 (F := Ideal) = kernelRun0_B.sl.r_14 := rfl
theorem same_r_20 : kernelRun0_A.sl.r_20 (F := Ideal) = kernelRun0_B.sl.r_20 := rfl
theorem same_r_26 : kernelRun0_A.sl.r_26 (F := Ideal) = kernelRun0_B.sl.r_26 := rfl
theorem same_r_31 : kernelRun0_A.sl.r_31 (F := Ideal) = kernelRun0_B.sl.r_31 := rfl
theorem same_r_36 : kernelRun0_A.sl.r_36 (F := Ideal) = kernelRun0_B.sl.r_36 := rfl
theorem same_r_39 : kernelRun0_A.sl.r_39 (F := Ideal) = kernelRun0_B.sl.r_39 := rfl
theorem same_r_42 : kernelRun0_A.sl.r_42 (F := Ideal) = kernelRun0_B.sl.r_42 := rfl
theorem same_r_45 : kernelRun0_A.sl.r_45 (F := Ideal) = kernelRun0_B.sl.r_45 := rfl
theorem same_r_41 : kernelRun0_A.sl.r_41 (F := Ideal) = kernelRun0_B.sl.r_41 := rfl
theorem same_r_47 : kernelRun0_A.sl.r_47 (F := Ideal) = kernelRun0_B.sl.r_47 := rfl
theorem same_r_48 : kernelRun0_A.sl.r_48 (F := Ideal) = kernelRun0_B.sl.r_48 := rfl
theorem same_r_49 : kernelRun0_A.sl.r_49 (F := Ideal) = kernelRun0_B.sl.r_49 := rfl

/-! ### At the first point the accumulators are read back as zero -/

theorem zero_0 : kernelRun0_A.sl.v68 (F := Ideal) c arg9 = (cube fun _ _ _ => 0 : F32 S1x128x128) := by
  unfold kernelRun0_A.sl.v68
  unfold kernelRun0_A.sl.H8_1
  rw [View.readCov_fill _ _ _ _ _ (fun a => by fin_cases a <;> rfl), pay3_eq]
  exact ld_slab _ _ _

theorem zero_1 : kernelRun0_A.sl.v105 (F := Ideal) c arg1 harg1 arg2 harg2 arg3 harg3 arg4 harg4 arg5 harg5 arg9 x0 x1 x2 x3 x4 = (cube fun _ _ _ => 0 : F32 S1x128x128) := by
  unfold kernelRun0_A.sl.v105 kernelRun0_A.sl.H8_2 kernelRun0_A.sl.H8_1
  rw [View.readCov_skip _ _ _ _ _ (by decide)]
  rw [View.readCov_fill _ _ _ _ _ (fun a => by fin_cases a <;> rfl), pay3_eq]
  exact ld_slab _ _ _

theorem zero_2 : kernelRun0_A.sl.v142 (F := Ideal) c arg1 harg1 arg2 harg2 arg3 harg3 arg4 harg4 arg5 harg5 arg9 x0 x1 x2 x3 x4 = (cube fun _ _ _ => 0 : F32 S1x128x128) := by
  unfold kernelRun0_A.sl.v142 kernelRun0_A.sl.H8_3 kernelRun0_A.sl.H8_2 kernelRun0_A.sl.H8_1
  iterate 2 rw [View.readCov_skip _ _ _ _ _ (by decide)]
  rw [View.readCov_fill _ _ _ _ _ (fun a => by fin_cases a <;> rfl), pay3_eq]
  exact ld_slab _ _ _

theorem zero_3 : kernelRun0_A.sl.v179 (F := Ideal) c arg1 harg1 arg2 harg2 arg3 harg3 arg4 harg4 arg5 harg5 arg9 x0 x1 x2 x3 x4 = (cube fun _ _ _ => 0 : F32 S1x128x128) := by
  unfold kernelRun0_A.sl.v179 kernelRun0_A.sl.H8_4 kernelRun0_A.sl.H8_3 kernelRun0_A.sl.H8_2 kernelRun0_A.sl.H8_1
  iterate 3 rw [View.readCov_skip _ _ _ _ _ (by decide)]
  rw [View.readCov_fill _ _ _ _ _ (fun a => by fin_cases a <;> rfl), pay3_eq]
  exact ld_slab _ _ _

theorem zero_4 : kernelRun0_A.sl.v216 (F := Ideal) c arg1 harg1 arg2 harg2 arg3 harg3 arg4 harg4 arg5 harg5 arg9 x0 x1 x2 x3 x4 = (cube fun _ _ _ => 0 : F32 S1x128x128) := by
  unfold kernelRun0_A.sl.v216 kernelRun0_A.sl.H8_5 kernelRun0_A.sl.H8_4 kernelRun0_A.sl.H8_3 kernelRun0_A.sl.H8_2 kernelRun0_A.sl.H8_1
  iterate 4 rw [View.readCov_skip _ _ _ _ _ (by decide)]
  rw [View.readCov_fill _ _ _ _ _ (fun a => by fin_cases a <;> rfl), pay3_eq]
  exact ld_slab _ _ _

theorem zero_5 : kernelRun0_A.sl.v253 (F := Ideal) c arg1 harg1 arg2 harg2 arg3 harg3 arg4 harg4 arg5 harg5 arg9 x0 x1 x2 x3 x4 = (cube fun _ _ _ => 0 : F32 S1x128x128) := by
  unfold kernelRun0_A.sl.v253 kernelRun0_A.sl.H8_6 kernelRun0_A.sl.H8_5 kernelRun0_A.sl.H8_4 kernelRun0_A.sl.H8_3 kernelRun0_A.sl.H8_2 kernelRun0_A.sl.H8_1
  iterate 5 rw [View.readCov_skip _ _ _ _ _ (by decide)]
  rw [View.readCov_fill _ _ _ _ _ (fun a => by fin_cases a <;> rfl), pay3_eq]
  exact ld_slab _ _ _

theorem zero_6 : kernelRun0_A.sl.v290 (F := Ideal) c arg1 harg1 arg2 harg2 arg3 harg3 arg4 harg4 arg5 harg5 arg9 x0 x1 x2 x3 x4 = (cube fun _ _ _ => 0 : F32 S1x128x128) := by
  unfold kernelRun0_A.sl.v290 kernelRun0_A.sl.H8_7 kernelRun0_A.sl.H8_6 kernelRun0_A.sl.H8_5 kernelRun0_A.sl.H8_4 kernelRun0_A.sl.H8_3 kernelRun0_A.sl.H8_2 kernelRun0_A.sl.H8_1
  iterate 6 rw [View.readCov_skip _ _ _ _ _ (by decide)]
  rw [View.readCov_fill _ _ _ _ _ (fun a => by fin_cases a <;> rfl), pay3_eq]
  exact ld_slab _ _ _

theorem zero_7 : kernelRun0_A.sl.v327 (F := Ideal) c arg1 harg1 arg2 harg2 arg3 harg3 arg4 harg4 arg5 harg5 arg9 x0 x1 x2 x3 x4 = (cube fun _ _ _ => 0 : F32 S1x128x128) := by
  unfold kernelRun0_A.sl.v327 kernelRun0_A.sl.H8_8 kernelRun0_A.sl.H8_7 kernelRun0_A.sl.H8_6 kernelRun0_A.sl.H8_5 kernelRun0_A.sl.H8_4 kernelRun0_A.sl.H8_3 kernelRun0_A.sl.H8_2 kernelRun0_A.sl.H8_1
  iterate 7 rw [View.readCov_skip _ _ _ _ _ (by decide)]
  rw [View.readCov_fill _ _ _ _ _ (fun a => by fin_cases a <;> rfl), pay3_eq]
  exact ld_slab _ _ _

theorem zero_out9 : kernelRun0_A.sl.v347 (F := Ideal) c arg10 = (mat fun _ _ => 0 : F32 S128x128) := by
  unfold kernelRun0_A.sl.v347 kernelRun0_A.sl.H9_1
  rw [View.readCov_unit_zero (S := S128x128) _ hz2]
  exact pay4_eq

theorem zero_out10 : kernelRun0_A.sl.v353 (F := Ideal) c arg11 = (mat fun _ _ => 0 : F32 S1x2048) := by
  unfold kernelRun0_A.sl.v353 kernelRun0_A.sl.H10_1
  rw [View.readCov_unit_zero (S := S1x2048) _ hz2]
  exact pay5_eq

theorem zero_out11 : kernelRun0_A.sl.v360 (F := Ideal) c arg12 = (mat fun _ _ => 0 : F32 S1x2048) := by
  unfold kernelRun0_A.sl.v360 kernelRun0_A.sl.H11_1
  rw [View.readCov_unit_zero (S := S1x2048) _ hz2]
  exact pay6_eq

/-! ### The blocks -/

variable (zu zv d lg lb b : ℕ → ℕ → ℝ) (w : ℕ → ℕ → ℕ → ℝ)
variable (a8 : ℕ → ℕ → ℕ → ℝ) (a9 a10 a11 : ℕ → ℕ → ℝ)

theorem out_B_7 (hc0 : ¬cond0_0 i) :
    out0_B_7 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) (cube a8 : F32 S8x128x128) (mat a9 : F32 S128x128) (mat a10 : F32 S1x2048) (mat a11 : F32 S1x2048) = (mat (dzOf zu zv d lg lb w b) : BF16 S128x4096) := by
  unfold out0_B_7
  rw [View.read_writes_eq_canon _ _ _ (fun y => cover0_B_7 (y := y) ..)]
  unfold kernelRun0_B
  dsimp only
  simp only [word_r, word_r_1, word_r_2, word_r_4, word_r_6, word_r_7, word_r_8, word_r_14, word_r_20, word_r_26, word_r_31, word_r_36, word_r_39, word_r_42, word_r_45, word_r_41, word_r_47, word_r_48]
  unfold kernelRun0_B.sl.r_49
  simp only [word_r, pay81_eq, pay82_eq, pay1_eq, pay2_eq]
  exact canon_halves _ _ _ _

theorem out_B_8 (hc0 : ¬cond0_0 i) :
    out0_B_8 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) (cube a8 : F32 S8x128x128) (mat a9 : F32 S128x128) (mat a10 : F32 S1x2048) (mat a11 : F32 S1x2048) = (cube (dwsOf d (act zu) (vln zv lg lb) a8) : F32 S8x128x128) := by
  unfold out0_B_8
  rw [View.read_writes_eq_canon _ _ _ (fun y => cover0_B_8 (y := y) ..)]
  unfold kernelRun0_B
  dsimp only
  unfold kernelRun0_B.sl.v105 kernelRun0_B.sl.v142 kernelRun0_B.sl.v179 kernelRun0_B.sl.v216 kernelRun0_B.sl.v253 kernelRun0_B.sl.v290 kernelRun0_B.sl.v327
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_rows, ld_rows_half, ld_row, ld_square, ld_slab, word_r, word_r_1, word_r_2, word_r_4, word_r_6, word_r_7, word_r_8, word_r_14, word_r_20, word_r_26, word_r_31, word_r_36, word_r_39, word_r_42, word_r_45, word_r_41, word_r_47, word_r_48, pay20_eq, pay27_eq, pay35_eq, pay44_eq, pay52_eq, pay59_eq, pay66_eq, pay73_eq]
  exact canon_eight (dwsOf d (act zu) (vln zv lg lb) a8) _ _ _ _ _ _ _ _ []

theorem out_B_9 (hc0 : ¬cond0_0 i) :
    out0_B_9 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) (cube a8 : F32 S8x128x128) (mat a9 : F32 S128x128) (mat a10 : F32 S1x2048) (mat a11 : F32 S1x2048) = (mat fun i j => a9 i j + dbsSum d (act zu) 8 i j : F32 S128x128) := by
  unfold out0_B_9
  rw [View.read_writes_eq_canon _ _ _ (fun y => cover0_B_9 (y := y) ..)]
  unfold kernelRun0_B
  dsimp only
  rw [View.canon_unit_zero hz2]
  exact word_r_46 ..

theorem out_B_10 (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) (cube a8 : F32 S8x128x128) (mat a9 : F32 S128x128) (mat a10 : F32 S1x2048) (mat a11 : F32 S1x2048) = (mat fun i j => a10 i j + ∑ k ∈ range 128, glue (dvlOf d (act zu) w) k j * vhat zv k j : F32 S1x2048) := by
  unfold out0_B_10
  rw [View.read_writes_eq_canon _ _ _ (fun y => cover0_B_10 (y := y) ..)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_rows, ld_rows_half, ld_row, ld_square, ld_slab, word_r, word_r_1, word_r_2, word_r_4, word_r_6, word_r_7, word_r_8, word_r_14, word_r_20, word_r_26, word_r_31, word_r_36, word_r_39, word_r_42, word_r_45, word_r_41, word_r_47, word_r_48]
  exact pay78_eq (vhat zv) _ (dvlOf d (act zu) w)

theorem out_B_11 (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) (cube a8 : F32 S8x128x128) (mat a9 : F32 S128x128) (mat a10 : F32 S1x2048) (mat a11 : F32 S1x2048) = (mat fun i j => a11 i j + ∑ k ∈ range 128, glue (dvlOf d (act zu) w) k j : F32 S1x2048) := by
  unfold out0_B_11
  rw [View.read_writes_eq_canon _ _ _ (fun y => cover0_B_11 (y := y) ..)]
  unfold kernelRun0_B
  dsimp only
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, ld_rows, ld_rows_half, ld_row, ld_square, ld_slab, word_r, word_r_1, word_r_2, word_r_4, word_r_6, word_r_7, word_r_8, word_r_14, word_r_20, word_r_26, word_r_31, word_r_36, word_r_39, word_r_42, word_r_45, word_r_41, word_r_47, word_r_48]
  exact pay79_eq _ (dvlOf d (act zu) w)

theorem out_A_7 (hc0 : cond0_0 i) :
    out0_A_7 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) = (mat (dzOf zu zv d lg lb w b) : BF16 S128x4096) := by
  unfold out0_A_7
  rw [View.read_writes_eq_canon _ _ _ (fun y => cover0_A_7 (y := y) ..)]
  unfold kernelRun0_A
  dsimp only
  simp only [same_r, same_r_1, same_r_2, same_r_4, same_r_6, same_r_7, same_r_8, same_r_14, same_r_20, same_r_26, same_r_31, same_r_36, same_r_39, same_r_42, same_r_45, same_r_41, same_r_47, same_r_48, same_r_49, word_r, word_r_1, word_r_2, word_r_4, word_r_6, word_r_7, word_r_8, word_r_14, word_r_20, word_r_26, word_r_31, word_r_36, word_r_39, word_r_42, word_r_45, word_r_41, word_r_47, word_r_48]
  unfold kernelRun0_B.sl.r_49
  simp only [word_r, pay81_eq, pay82_eq, pay1_eq, pay2_eq]
  exact canon_halves _ _ _ _

theorem out_A_8 (hc0 : cond0_0 i) :
    out0_A_8 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) = (cube (dwsOf d (act zu) (vln zv lg lb) fun _ _ _ => 0) : F32 S8x128x128) := by
  unfold out0_A_8
  rw [View.read_writes_eq_canon _ _ _ (fun y => cover0_A_8 (y := y) ..)]
  unfold kernelRun0_A
  dsimp only
  unfold kernelRun0_A.sl.H8_8 kernelRun0_A.sl.H8_7 kernelRun0_A.sl.H8_6 kernelRun0_A.sl.H8_5 kernelRun0_A.sl.H8_4 kernelRun0_A.sl.H8_3 kernelRun0_A.sl.H8_2 kernelRun0_A.sl.H8_1
  simp only [zero_0, zero_1, zero_2, zero_3, zero_4, zero_5, zero_6, zero_7, same_r, same_r_1, same_r_2, same_r_4, same_r_6, same_r_7, same_r_8, same_r_14, same_r_20, same_r_26, same_r_31, same_r_36, same_r_39, same_r_42, same_r_45, same_r_41, same_r_47, same_r_48, same_r_49, View.readAt_eq_ld, harg1.read_unread, harg2.read_unread, harg3.read_unread, harg4.read_unread, harg5.read_unread, harg6.read_unread, harg7.read_unread, harg8.read_unread, harg9.read_unread, harg10.read_unread, harg11.read_unread, harg12.read_unread, ld_rows, ld_rows_half, ld_row, ld_square, ld_slab, word_r, word_r_1, word_r_2, word_r_4, word_r_6, word_r_7, word_r_8, word_r_14, word_r_20, word_r_26, word_r_31, word_r_36, word_r_39, word_r_42, word_r_45, word_r_41, word_r_47, word_r_48, pay20_eq, pay27_eq, pay35_eq, pay44_eq, pay52_eq, pay59_eq, pay66_eq, pay73_eq]
  exact canon_eight (dwsOf d (act zu) (vln zv lg lb) fun _ _ _ => 0) _ _ _ _ _ _ _ _ _

theorem out_A_9 (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) = (mat fun i j => 0 + dbsSum d (act zu) 8 i j : F32 S128x128) := by
  unfold out0_A_9
  rw [View.read_writes_eq_canon _ _ _ (fun y => cover0_A_9 (y := y) ..)]
  unfold kernelRun0_A
  dsimp only
  unfold kernelRun0_A.sl.H9_1
  rw [View.canon_cons_unit_zero (S := S128x128) hz2]
  unfold kernelRun0_A.sl.r_46
  simp only [same_r_2, same_r_8, same_r_41, zero_out9, word_r_2, word_r_8, word_r_41]
  exact pay75_eq ..

theorem out_A_10 (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) = (mat fun i j => 0 + ∑ k ∈ range 128, glue (dvlOf d (act zu) w) k j * vhat zv k j : F32 S1x2048) := by
  unfold out0_A_10
  rw [View.read_writes_eq_canon _ _ _ (fun y => cover0_A_10 (y := y) ..)]
  unfold kernelRun0_A
  dsimp only
  unfold kernelRun0_A.sl.H10_1
  rw [View.canon_cons_unit_zero (S := S1x2048) hz2]
  simp only [same_r, same_r_1, same_r_2, same_r_4, same_r_6, same_r_7, same_r_8, same_r_14, same_r_20, same_r_26, same_r_31, same_r_36, same_r_39, same_r_42, same_r_45, same_r_41, same_r_47, same_r_48, same_r_49, zero_out10, View.readAt_eq_ld, harg1.read_unread, harg2.read_unread, harg3.read_unread, harg4.read_unread, harg5.read_unread, harg6.read_unread, harg7.read_unread, harg8.read_unread, harg9.read_unread, harg10.read_unread, harg11.read_unread, harg12.read_unread, ld_rows, ld_rows_half, ld_row, ld_square, ld_slab, word_r, word_r_1, word_r_2, word_r_4, word_r_6, word_r_7, word_r_8, word_r_14, word_r_20, word_r_26, word_r_31, word_r_36, word_r_39, word_r_42, word_r_45, word_r_41, word_r_47, word_r_48]
  exact pay78_eq (vhat zv) _ (dvlOf d (act zu) w)

theorem out_A_11 (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 hc0
      (mat zu : F32 S128x2048) (mat zv : F32 S128x2048) (mat d : BF16 S128x2048) (mat lg : F32 S1x2048) (mat lb : F32 S1x2048) (cube w : F32 S8x128x128) (mat b : F32 S128x128) = (mat fun i j => 0 + ∑ k ∈ range 128, glue (dvlOf d (act zu) w) k j : F32 S1x2048) := by
  unfold out0_A_11
  rw [View.read_writes_eq_canon _ _ _ (fun y => cover0_A_11 (y := y) ..)]
  unfold kernelRun0_A
  dsimp only
  unfold kernelRun0_A.sl.H11_1
  rw [View.canon_cons_unit_zero (S := S1x2048) hz2]
  simp only [same_r, same_r_1, same_r_2, same_r_4, same_r_6, same_r_7, same_r_8, same_r_14, same_r_20, same_r_26, same_r_31, same_r_36, same_r_39, same_r_42, same_r_45, same_r_41, same_r_47, same_r_48, same_r_49, zero_out11, View.readAt_eq_ld, harg1.read_unread, harg2.read_unread, harg3.read_unread, harg4.read_unread, harg5.read_unread, harg6.read_unread, harg7.read_unread, harg8.read_unread, harg9.read_unread, harg10.read_unread, harg11.read_unread, harg12.read_unread, ld_rows, ld_rows_half, ld_row, ld_square, ld_slab, word_r, word_r_1, word_r_2, word_r_4, word_r_6, word_r_7, word_r_8, word_r_14, word_r_20, word_r_26, word_r_31, word_r_36, word_r_39, word_r_42, word_r_45, word_r_41, word_r_47, word_r_48]
  exact pay79_eq _ (dvlOf d (act zu) w)

end Cert.Gmlp

end
-- ==== Proof.Pad.lean ====
/- The transposed array of eight rows, padded with zeros to 128 lanes, as both programs write it. -/
module

public import proofs.«01_k».proof.Proof.Ops
public import Idealize.ShloMosaic.Lib.KernelVsHost

@[expose] public section

noncomputable section

namespace Cert.Gmlp

open Idealize.ShloMosaic Cert.KernelIdeal Cert.KernelIdeal.Gen

/-- The biases as the kernel takes them: transposed, and with zeros in the lanes after the eighth. -/
abbrev biasT (B : ℕ → ℕ → ℝ) : ℕ → ℕ → ℝ := fun i j => if j < 8 then B j i else 0

/-- The transpose of the biases padded with zeros, entry by entry. -/
theorem pad_bias (B : ℕ → ℕ → ℝ) (v : Vec Ideal S_ .f32) (hv : v = fun _ => 0) :
    pad S128x128 ![0, 0] ![0, 120] ![0, 0]
      (transpose S128x8 [1, 0] (mat B : F32 S8x128) transposes_S8x128_S128x8_1_0 : F32 S128x8)
      v pads_S128x8_S128x128_000_01200 h_S_ = (mat (biasT B) : F32 S128x128) := by
  subst hv
  funext y
  by_cases hj : (y 1).1 < 8
  · rw [pad_apply_of_inside _ _ _ _ _ _ _ y (fun a => match a with
      | ⟨0, _⟩ => (⟨(y 0).1, (y 0).isLt⟩ : Fin 128)
      | ⟨1, _⟩ => (⟨(y 1).1, hj⟩ : Fin 8)) (fun a => by match a with | ⟨0, _⟩ => simp | ⟨1, _⟩ => simp)]
    rw [transpose_apply (k := fun a => match a with
      | ⟨0, _⟩ => (⟨(y 1).1, hj⟩ : Fin 8)
      | ⟨1, _⟩ => (⟨(y 0).1, (y 0).isLt⟩ : Fin 128)) (hk := fun a => by match a with | ⟨0, _⟩ => rfl | ⟨1, _⟩ => rfl)]
    unfold mat biasT
    rw [if_pos hj]
  · rw [pad_apply_of_not_inside _ _ _ _ _ _ _ y 1 (by
      rintro ⟨-, -, h⟩
      have h' : ((y 1).1 - 0) / 1 < 8 := h
      omega)]
    unfold mat biasT
    rw [if_neg hj]; rfl

/-- The integer zero converted is the real zero. -/
theorem zero_scalar : (sitofp .f32 (constantI S_ 32 0#32) : F32 S_) = fun _ => 0 := by
  funext y
  show (((0#32 : BitVec 32).toInt : ℝ) : EReal) = 0
  simp

end Cert.Gmlp

end
-- ==== Proof.Inputs.lean ====
/- What each input block holds at a grid point, when the arguments hold real numbers: the rows 128 t, 128 t + 1, … of
   the activations and the incoming gradient, and the whole of the four parameter arrays. -/
module

public import proofs.«01_k».proof.Proof.Cases
public import proofs.«01_k».proof.Proof.Pad

@[expose] public section

set_option maxRecDepth 16384

noncomputable section

namespace Cert.Gmlp

open Idealize.ShloMosaic TcCoe Tactic Cert.KernelIdeal Cert.KernelIdeal.Gen

variable (m : (ℓ : Loc nD τ sig) → Buf (Elt Ideal) ℓ) (c : Dev nD)

/-- The six arguments of the call on one device hold the real arrays `Z D lg lb W B`. -/
structure Holds (Z D lg lb : ℕ → ℕ → ℝ) (W : ℕ → ℕ → ℕ → ℝ) (B : ℕ → ℕ → ℝ) : Prop where
  z : m ((c : Thread nD τ).loc main_arg0) = (mat Z : F32 S4096x4096)
  d : m ((c : Thread nD τ).loc main_arg1) = (mat D : BF16 S4096x2048)
  lg' : m ((c : Thread nD τ).loc main_arg2) = (mat lg : F32 S1x2048)
  lb' : m ((c : Thread nD τ).loc main_arg3) = (mat lb : F32 S1x2048)
  w : m ((c : Thread nD τ).loc main_arg4) = (cube W : F32 S8x128x128)
  b : m ((c : Thread nD τ).loc main_arg5) = (mat B : F32 S8x128)

theorem index_0 : ∀ t : Fin cfg0.N, win0_0.index t 0 = t.1 ∧ win0_0.index t 1 = 0 := by decide +kernel
theorem index_1 : ∀ t : Fin cfg0.N, win0_1.index t 0 = t.1 ∧ win0_1.index t 1 = 1 := by decide +kernel
theorem index_2 : ∀ t : Fin cfg0.N, win0_2.index t 0 = t.1 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = 0 ∧ win0_5.index t 1 = 0 ∧ win0_5.index t 2 = 0 := by
  decide +kernel
theorem index_6 : ∀ t : Fin cfg0.N, win0_6.index t 0 = 0 ∧ win0_6.index t 1 = 0 := by decide +kernel

variable {m c} {Z D lg lb : ℕ → ℕ → ℝ} {W : ℕ → ℕ → ℕ → ℝ} {B : ℕ → ℕ → ℝ}

/-- The rows of the first half of the activations at point `t`. -/
abbrev zuAt (Z : ℕ → ℕ → ℝ) (n : ℕ) : ℕ → ℕ → ℝ := fun i j => Z (128 * n + i) j
/-- The rows of the second half of the activations at point `t`. -/
abbrev zvAt (Z : ℕ → ℕ → ℝ) (n : ℕ) : ℕ → ℕ → ℝ := fun i j => Z (128 * n + i) (2048 + j)
theorem iblk_0 (h : Holds m c Z D lg lb W B) (t : Fin cfg0.N) :
    iblk m c 0 t = (mat (zuAt Z t.1) : F32 S128x2048) := by
  funext y
  unfold iblk
  rw [View.read_apply]
  show V m c main_arg0 _ = _
  rw [V_main_arg0]
  show (m ((c : Thread nD τ).loc main_arg0) : F32 S4096x4096) _ = _
  rw [h.z]
  unfold mat
  refine congrArg Real.toEReal (congrArg₂ Z ?_ ?_)
  · show win0_0.index t 0 * 128 + 1 * (y 0).1 = _; rw [(index_0 t).1]; omega
  · show win0_0.index t 1 * 2048 + 1 * (y 1).1 = _; rw [(index_0 t).2]; omega

theorem iblk_1 (h : Holds m c Z D lg lb W B) (t : Fin cfg0.N) :
    iblk m c 1 t = (mat (zvAt Z t.1) : F32 S128x2048) := by
  funext y
  unfold iblk
  rw [View.read_apply]
  show V m c main_arg0 _ = _
  rw [V_main_arg0]
  show (m ((c : Thread nD τ).loc main_arg0) : F32 S4096x4096) _ = _
  rw [h.z]
  unfold mat
  refine congrArg Real.toEReal (congrArg₂ Z ?_ ?_)
  · show win0_1.index t 0 * 128 + 1 * (y 0).1 = _; rw [(index_1 t).1]; omega
  · show win0_1.index t 1 * 2048 + 1 * (y 1).1 = _; rw [(index_1 t).2]; omega

theorem iblk_2 (h : Holds m c Z D lg lb W B) (t : Fin cfg0.N) :
    iblk m c 2 t = (mat (zuAt D t.1) : BF16 S128x2048) := by
  funext y
  unfold iblk
  rw [View.read_apply]
  show V m c main_arg1 _ = _
  rw [V_main_arg1]
  show (m ((c : Thread nD τ).loc main_arg1) : BF16 S4096x2048) _ = _
  rw [h.d]
  unfold mat
  refine congrArg Real.toEReal (congrArg₂ D ?_ ?_)
  · show win0_2.index t 0 * 128 + 1 * (y 0).1 = _; rw [(index_2 t).1]; omega
  · show win0_2.index t 1 * 2048 + 1 * (y 1).1 = _; rw [(index_2 t).2]; omega

theorem iblk_3 (h : Holds m c Z D lg lb W B) (t : Fin cfg0.N) :
    iblk m c 3 t = (mat lg : F32 S1x2048) := by
  funext y
  unfold iblk
  rw [View.read_apply]
  show V m c main_arg2 _ = _
  rw [V_main_arg2]
  show (m ((c : Thread nD τ).loc main_arg2) : F32 S1x2048) _ = _
  rw [h.lg']
  unfold mat
  refine congrArg Real.toEReal (congrArg₂ lg ?_ ?_)
  · show win0_3.index t 0 * 1 + 1 * (y 0).1 = _; rw [(index_3 t).1]; omega
  · show win0_3.index t 1 * 2048 + 1 * (y 1).1 = _; rw [(index_3 t).2]; omega

theorem iblk_4 (h : Holds m c Z D lg lb W B) (t : Fin cfg0.N) :
    iblk m c 4 t = (mat lb : F32 S1x2048) := by
  funext y
  unfold iblk
  rw [View.read_apply]
  show V m c main_arg3 _ = _
  rw [V_main_arg3]
  show (m ((c : Thread nD τ).loc main_arg3) : F32 S1x2048) _ = _
  rw [h.lb']
  unfold mat
  refine congrArg Real.toEReal (congrArg₂ lb ?_ ?_)
  · show win0_4.index t 0 * 1 + 1 * (y 0).1 = _; rw [(index_4 t).1]; omega
  · show win0_4.index t 1 * 2048 + 1 * (y 1).1 = _; rw [(index_4 t).2]; omega

theorem iblk_5 (h : Holds m c Z D lg lb W B) (t : Fin cfg0.N) :
    iblk m c 5 t = (cube W : F32 S8x128x128) := by
  funext y
  unfold iblk
  rw [View.read_apply]
  show V m c main_arg4 _ = _
  rw [V_main_arg4]
  show (m ((c : Thread nD τ).loc main_arg4) : F32 S8x128x128) _ = _
  rw [h.w]
  unfold cube
  refine congrArg Real.toEReal ?_
  have e : ∀ {p q r p' q' r' : ℕ}, p = p' → q = q' → r = r' → W p q r = W p' q' r' := by
    rintro _ _ _ _ _ _ rfl rfl rfl; rfl
  refine e ?_ ?_ ?_
  · show win0_5.index t 0 * 8 + 1 * (y 0).1 = _; rw [(index_5 t).1]; omega
  · show win0_5.index t 1 * 128 + 1 * (y 1).1 = _; rw [(index_5 t).2.1]; omega
  · show win0_5.index t 2 * 128 + 1 * (y 2).1 = _; rw [(index_5 t).2.2]; omega

theorem iblk_6 (h : Holds m c Z D lg lb W B) (t : Fin cfg0.N) :
    iblk m c 6 t = (mat (biasT B) : F32 S128x128) := by
  have e : V m c main_v1 = (mat (biasT B) : F32 S128x128) := by
    unfold V
    simp only [hostOps0, hostOps0_1, List.flatten_cons, List.flatten_nil, List.append_nil, List.cons_append,
      List.nil_append]
    after_results
    show pad S128x128 (![0, 0] : Fin S128x8.rank → ℕ) (![0, 120] : Fin S128x8.rank → ℕ) (![0, 0] : Fin S128x8.rank → ℕ)
      (transpose S128x8 [1, 0] (m ((c : Thread nD τ).loc main_arg5) : F32 S8x128)
        transposes_S8x128_S128x8_1_0 : F32 S128x8)
      (sitofp .f32 (constantI S_ 32 0#32) : F32 S_) pads_S128x8_S128x128_000_01200 h_S_ = _
    rw [h.b]
    exact pad_bias B _ zero_scalar
  funext y
  unfold iblk
  rw [View.read_apply]
  show (V m c main_v1 : F32 S128x128) _ = _
  rw [e]
  unfold mat
  refine congrArg Real.toEReal (congrArg₂ (biasT B) ?_ ?_)
  · show win0_6.index t 0 * 128 + 1 * (y 0).1 = _; rw [(index_6 t).1]; omega
  · show win0_6.index t 1 * 128 + 1 * (y 1).1 = _; rw [(index_6 t).2]; omega

end Cert.Gmlp
-- ==== Proof.Finite.lean ====
/- The precondition read: an array whose absolute values are all below infinity holds real numbers, so each argument of
the call is a nat-indexed array of reals. -/
module

public import proofs.«01_k».proof.Defs
public import proofs.«01_k».proof.Proof.Inputs
public import proofs.«01_k».proof.Proof.Gen.Pre_finite

@[expose] public section

noncomputable section

namespace Cert.Gmlp

open Idealize.ShloMosaic

/-- A value whose absolute value is below infinity is a real number. -/
theorem real_of_below (x : EReal) (h : Ideal.cmp .olt (max x (-x)) (Ideal.ofBits .f32 0x7F800000#32) = 1#1) :
    ((x.toReal : ℝ) : EReal) = x := by
  rw [ofBits_inf] at h
  have hlt : max x (-x) < ⊤ := by
    by_contra hn
    have : Ideal.cmp .olt (max x (-x)) ⊤ = 0#1 := by simp [Ideal.cmp, hn]
    rw [this] at h
    exact absurd h (by decide)
  refine EReal.coe_toReal (fun hx => ?_) (fun hx => ?_)
  · subst hx; simp at hlt
  · subst hx; simp at hlt

variable {φ : FTy}

/-- A matrix of such values is a matrix of reals. -/
theorem exists_mat {a b : ℕ} (x : FVec Ideal ⟨2, ![a, b]⟩ φ)
    (h : ∀ i, Ideal.cmp .olt (max (x i : EReal) (-x i)) (Ideal.ofBits .f32 0x7F800000#32) = 1#1) :
    ∃ f : ℕ → ℕ → ℝ, x = (mat f : FVec Ideal ⟨2, ![a, b]⟩ φ) := by
  refine ⟨fun r j => if hr : r < a then if hj : j < b then
    (x (fun q => match q with | ⟨0, _⟩ => (⟨r, hr⟩ : Fin a) | ⟨1, _⟩ => (⟨j, hj⟩ : Fin b)) : EReal).toReal else 0 else 0, ?_⟩
  funext i
  have e : (fun q => match q with
      | ⟨0, _⟩ => (⟨(i 0).1, (i 0).isLt⟩ : Fin a)
      | ⟨1, _⟩ => (⟨(i 1).1, (i 1).isLt⟩ : Fin b) : (⟨2, ![a, b]⟩ : Shape).Idx) = i :=
    funext fun q => match q with | ⟨0, _⟩ => rfl | ⟨1, _⟩ => rfl
  show x i = ((if hr : (i 0).1 < a then _ else _ : ℝ) : EReal)
  rw [dif_pos (show (i 0).1 < a from (i 0).isLt), dif_pos (show (i 1).1 < b from (i 1).isLt), e]
  exact (real_of_below _ (h i)).symm

/-- … and a stack of such matrices a stack of matrices of reals. -/
theorem exists_cube {a b c : ℕ} (x : FVec Ideal ⟨3, ![a, b, c]⟩ φ)
    (h : ∀ i, Ideal.cmp .olt (max (x i : EReal) (-x i)) (Ideal.ofBits .f32 0x7F800000#32) = 1#1) :
    ∃ f : ℕ → ℕ → ℕ → ℝ, x = (cube f : FVec Ideal ⟨3, ![a, b, c]⟩ φ) := by
  refine ⟨fun r j k => if hr : r < a then if hj : j < b then if hk : k < c then
    (x (fun q => match q with
      | ⟨0, _⟩ => (⟨r, hr⟩ : Fin a) | ⟨1, _⟩ => (⟨j, hj⟩ : Fin b) | ⟨2, _⟩ => (⟨k, hk⟩ : Fin c)) : EReal).toReal
    else 0 else 0 else 0, ?_⟩
  funext i
  have e : (fun q => match q with
      | ⟨0, _⟩ => (⟨(i 0).1, (i 0).isLt⟩ : Fin a)
      | ⟨1, _⟩ => (⟨(i 1).1, (i 1).isLt⟩ : Fin b)
      | ⟨2, _⟩ => (⟨(i 2).1, (i 2).isLt⟩ : Fin c) : (⟨3, ![a, b, c]⟩ : Shape).Idx) = i :=
    funext fun q => match q with | ⟨0, _⟩ => rfl | ⟨1, _⟩ => rfl | ⟨2, _⟩ => rfl
  show x i = ((if hr : (i 0).1 < a then _ else _ : ℝ) : EReal)
  rw [dif_pos (show (i 0).1 < a from (i 0).isLt), dif_pos (show (i 1).1 < b from (i 1).isLt),
    dif_pos (show (i 2).1 < c from (i 2).isLt), e]
  exact (real_of_below _ (h i)).symm

/-- Under the precondition each device's arguments hold real arrays. -/
theorem holds_of_finite (m : (ℓ : Loc KernelIdeal.nD KernelIdeal.τ KernelIdeal.sig) → Buf (Elt Ideal) ℓ)
    (hm : Cert.Pre_KernelIdeal_finite m) (c : Dev KernelIdeal.nD) :
    ∃ Z D lg lb W B, Holds m c Z D lg lb W B := by
  obtain ⟨h0, h1, h2, h3, h4, h5⟩ := hm c
  obtain ⟨Z, hZ⟩ := exists_mat _ fun i => congrFun h0 i
  obtain ⟨D, hD⟩ := exists_mat (φ := .bf16) _ fun i => congrFun h1 i
  obtain ⟨lg, hlg⟩ := exists_mat _ fun i => congrFun h2 i
  obtain ⟨lb, hlb⟩ := exists_mat _ fun i => congrFun h3 i
  obtain ⟨W, hW⟩ := exists_cube _ fun i => congrFun h4 i
  obtain ⟨B, hB⟩ := exists_mat _ fun i => congrFun h5 i
  exact ⟨Z, D, lg, lb, W, B, hZ, hD, hlg, hlb, hW, hB⟩

end Cert.Gmlp

end
-- ==== Proof.ActValue.lean ====
/- The reference's two gradients are the arrays the kernel leaves. The factor's gradient needs the order of a product
   changed only. The gate's differs by a distribution of a product over a sum, so the arguments must hold real numbers. -/
module

public import proofs.«01_k».proof.Proof.ActArray
public import proofs.«01_k».proof.Proof.Finite
public import proofs.«01_k».proof.Proof.Gen.Reference2Ideal.Read
public import proofs.«01_k».proof.Proof.Gen.Pre_down_finite

@[expose] public section

set_option maxRecDepth 16384

noncomputable section

namespace Cert.Ffn.Act

open Idealize.ShloMosaic Cert.Reference2Ideal.Read

/-- The logistic function of a real number is a real number. -/
theorem logistic_real (x : ℝ) : ∃ s : ℝ, logistic ((x : ℝ) : EReal) = ((s : ℝ) : EReal) := by
  refine ⟨1 / (1 + Real.exp (0 - x)), ?_⟩
  have h : (1 + Real.exp (0 - x)) ≠ 0 := by positivity
  unfold logistic
  rw [show (0 : EReal) - ((x : ℝ) : EReal) = ((0 - x : ℝ) : EReal) from (EReal.coe_sub 0 x).symm, Ideal.exp_coe,
    show (1 : EReal) = ((1 : ℝ) : EReal) from rfl, ← EReal.coe_add, Ideal.div_coe h, ← EReal.coe_mul, one_mul]

/-- The two forms of the gate's gradient agree on real numbers. -/
theorem gate_forms (d g u : ℝ) :
    ((d : EReal) * u) * logistic g + ((g : EReal) * ((d : EReal) * u)) * (logistic g * (1 - logistic g)) = gateGrad d g u := by
  obtain ⟨s, hs⟩ := logistic_real g
  unfold gateGrad
  rw [hs, show (1 : EReal) = ((1 : ℝ) : EReal) from rfl]
  simp only [← EReal.coe_mul, ← EReal.coe_add, ← EReal.coe_sub]
  exact congrArg _ (by ring)

/-- The two forms of the factor's gradient. -/
theorem up_forms (d g : EReal) : (g * logistic g) * d = upGrad d g := mul_comm _ _

/-- A sum of products of real numbers is a real number. -/
theorem rowDot_real (f w : ℕ → ℕ → ℝ) (i j : ℕ) :
    rowDot (fun i j => (f i j : EReal)) (fun i j => (w i j : EReal)) i j = ((∑ k ∈ Finset.range 2048, f i k * w j k : ℝ) : EReal) := by
  unfold rowDot
  simp only [← EReal.coe_mul]
  rw [← Gmlp.coe_sum, ← sum_below]

variable (x0 : F32 Reference2Ideal.S4096x2048) (x1 : BF16 Reference2Ideal.S5632x2048)
variable (x2 x3 : BF16 Reference2Ideal.S4096x5632)

/-- The reference's logistic function. -/
theorem logistic_apply (i : Reference2Ideal.S4096x5632.Idx) :
    val_main_v2_2 (F := Ideal) x2 i = logistic (x2 i) := by
  rw [val_main_v2_2_apply, val_main_call0_v4_apply, val_main_call0_cst_0_apply, val_main_call0_v3_apply,
    val_main_call0_v2_apply, val_main_call0_cst_apply, val_main_call0_v1_apply, val_main_call0_v0_apply, val_main_v0_apply]
  show Ideal.div (Ideal.ofBits .f32 0x3F800000#32) (Ideal.ofBits .f32 0x3F800000#32 + Ideal.exp (-(x2 i))) = _
  unfold logistic
  rw [Gmlp.ofBits_one, show (0 : EReal) - x2 i = -(x2 i) by rw [sub_eq_add_neg, zero_add]]
  rfl

/-- The reference's product. -/
theorem dot_apply (i : Reference2Ideal.S4096x5632.Idx) :
    val_main_v6 (F := Ideal) x0 x1 i = rowDot (entry x0) (entry x1) (i 0).1 (i 1).1 := by
  rw [val_main_v6_apply]
  refine (Finset.sum_congr rfl fun k _ => ?_).trans
    (sum_below 2048 fun k => entry x0 (i 0).1 k * entry x1 (i 1).1 k)
  rw [val_main_v4_apply]
  exact congrArg₂ (· * ·) (entry_apply x0 _).symm (entry_apply x1 _).symm

/-- The reference's gradient of the factor. -/
theorem up_reference :
    val_main_v11 (F := Ideal) x0 x1 x2
      = (emat fun i j => upGrad (rowDot (entry x0) (entry x1) i j) (entry x2 i j) : BF16 Reference2Ideal.S4096x5632) := by
  funext i
  rw [val_main_v11_apply, val_main_v7_apply, val_main_v2_0_apply, val_main_v0_apply, logistic_apply, dot_apply]
  show (x2 i * logistic (x2 i)) * _ = upGrad _ (entry x2 (i 0).1 (i 1).1)
  rw [entry_apply x2 i]
  exact up_forms _ _

/-- The reference's gradient of the gate, when the arguments hold real numbers. -/
theorem gate_reference (h0 : ∀ i j, ∃ r : ℝ, entry x0 i j = r) (h1 : ∀ i j, ∃ r : ℝ, entry x1 i j = r)
    (h2 : ∀ i, ∃ r : ℝ, x2 i = (r : EReal)) (h3 : ∀ i, ∃ r : ℝ, x3 i = (r : EReal)) :
    val_main_v10 (F := Ideal) x0 x1 x2 x3
      = (emat fun i j => gateGrad (rowDot (entry x0) (entry x1) i j) (entry x2 i j) (entry x3 i j) : BF16 Reference2Ideal.S4096x5632) := by
  funext i
  choose f hf using h0
  choose w hw using h1
  rw [val_main_v10_apply, val_main_v9_apply, val_main_call1_v1_apply, val_main_call1_v2_apply, val_main_call1_v0_apply,
    val_main_v2_1_apply, val_main_call0_v7_apply, val_main_call0_v6_apply, val_main_call0_cst_1_apply, val_main_v8_apply,
    val_main_v0_apply, val_main_v1_apply, logistic_apply, dot_apply]
  show (rowDot (entry x0) (entry x1) (i 0).1 (i 1).1 * x3 i) * logistic (x2 i)
      + (x2 i * (rowDot (entry x0) (entry x1) (i 0).1 (i 1).1 * x3 i)) * (logistic (x2 i) * (Ideal.ofBits .f32 0x3F800000#32 - logistic (x2 i)))
    = gateGrad (rowDot (entry x0) (entry x1) (i 0).1 (i 1).1) (entry x2 (i 0).1 (i 1).1) (entry x3 (i 0).1 (i 1).1)
  rw [entry_apply x2 i, entry_apply x3 i, Gmlp.ofBits_one, show entry x0 = (fun i j => (f i j : EReal)) from funext fun _ => funext fun _ => hf _ _,
    show entry x1 = (fun i j => (w i j : EReal)) from funext fun _ => funext fun _ => hw _ _, rowDot_real]
  obtain ⟨g, hg⟩ := h2 i
  obtain ⟨u, hu⟩ := h3 i
  rw [hg, hu]
  exact gate_forms _ g u

/-- An array of values below infinity holds real numbers. -/
theorem reals {a b : ℕ} {φ : FTy} (x : FVec Ideal ⟨2, ![a, b]⟩ φ)
    (h : ∀ i, Ideal.cmp .olt (max (x i : EReal) (-x i)) (Ideal.ofBits .f32 0x7F800000#32) = 1#1) (i) : ∃ r : ℝ, x i = (r : EReal) :=
  ⟨_, (Gmlp.real_of_below _ (h i)).symm⟩
/-- … and so do its entries read by natural numbers. -/
theorem entry_reals {a b : ℕ} {φ : FTy} (x : FVec Ideal ⟨2, ![a, b]⟩ φ) (h : ∀ i, ∃ r : ℝ, x i = (r : EReal)) (i j : ℕ) :
    ∃ r : ℝ, entry x i j = (r : EReal) := by
  unfold entry
  split
  · split
    · exact h _
    · exact ⟨0, rfl⟩
  · exact ⟨0, rfl⟩

variable (m : (ℓ : Loc Kernel2Ideal.nD Kernel2Ideal.τ Kernel2Ideal.sig) → Buf (Elt Ideal) ℓ)

/-- The reference's gradient of the gate of the kernel's arguments is the kernel's array, under the precondition. -/
theorem gate_value (hm : Cert.Pre_Kernel2Ideal_down_finite m) (c : Dev Kernel2Ideal.nD) :
    val_main_v10 (F := Ideal) (m ((c.tc : Thread Kernel2Ideal.nD Kernel2Ideal.τ).loc Kernel2Ideal.main_arg0))
        (m ((c.tc : Thread Kernel2Ideal.nD Kernel2Ideal.τ).loc Kernel2Ideal.main_arg1))
        (m ((c.tc : Thread Kernel2Ideal.nD Kernel2Ideal.τ).loc Kernel2Ideal.main_arg2))
        (m ((c.tc : Thread Kernel2Ideal.nD Kernel2Ideal.τ).loc Kernel2Ideal.main_arg3))
      = (Kernel2Ideal.Gen.dats m 0 c).arrAt 4 Kernel2Ideal.cfg0.N := by
  obtain ⟨h0, h1, h2, h3⟩ := hm c
  rw [gate_array]
  exact gate_reference _ _ _ _ (entry_reals _ (reals (φ := .f32) _ fun i => congrFun h0 i)) (entry_reals _ (reals (φ := .bf16) _ fun i => congrFun h1 i))
    (reals (φ := .bf16) _ fun i => congrFun h2 i) (reals (φ := .bf16) _ fun i => congrFun h3 i)

/-- The reference's gradient of the factor of the kernel's arguments is the kernel's array. -/
theorem up_value (c : Dev Kernel2Ideal.nD) :
    val_main_v11 (F := Ideal) (m ((c.tc : Thread Kernel2Ideal.nD Kernel2Ideal.τ).loc Kernel2Ideal.main_arg0))
        (m ((c.tc : Thread Kernel2Ideal.nD Kernel2Ideal.τ).loc Kernel2Ideal.main_arg1))
        (m ((c.tc : Thread Kernel2Ideal.nD Kernel2Ideal.τ).loc Kernel2Ideal.main_arg2))
      = (Kernel2Ideal.Gen.dats m 0 c).arrAt 5 Kernel2Ideal.cfg0.N := by
  rw [up_array]
  exact up_reference _ _ _

end Cert.Ffn.Act

end
-- ==== Proof.GateNormValue.lean ====
/- The reference's three results of the gated norm's gradient are the arrays the kernel leaves. The reciprocal root of the
   mean square is a real number whatever the rows are, and so is each normalised row, so only the gate's gradient needs an
   assumption: its two forms differ by a product distributed over a sum. -/
module

public import proofs.«01_k».proof.Proof.GateNormReference
public import proofs.«01_k».proof.Proof.NormValue
public import proofs.«01_k».proof.Proof.ActValue
public import proofs.«01_k».proof.Proof.Gen.Pre_gate_norm_finite

@[expose] public section

set_option maxRecDepth 16384

noncomputable section

namespace Cert.Ffn.GateNorm

open Idealize.ShloMosaic Cert.Reference19Ideal.Read
open Finset (range)
open Cert.Ffn.Act (logistic logistic_real reals entry_reals)
open Cert.Ffn.Norm (square_nonneg halves)
open Cert.Kernel19Ideal (nD τ sig main_arg0 main_arg1 main_arg2 main_arg3 cfg0)
open Cert.Kernel19Ideal.Gen (dats)

/-- The reciprocal root of a row is a real number `s`, over the mean square it is the cube of `s`, and the normalised row
    is real. -/
theorem rinv_real (x : ℕ → EReal) :
    ∃ s : ℝ, 0 ≤ s ∧ rinv x = (s : EReal) ∧ Ideal.div (rinv x) (meanSq x) = ((s * s * s : ℝ) : EReal)
      ∧ ∀ j < 128, ∃ r : ℝ, x j * rinv x = (r : EReal) := by
  have hs : 0 ≤ ∑ k ∈ range 128, x k * x k := Finset.sum_nonneg fun k _ => square_nonneg (x k)
  have hj : ∀ j < 128, x j * x j ≤ ∑ k ∈ range 128, x k * x k := fun j h =>
    Finset.single_le_sum (f := fun k => x k * x k) (fun k _ => square_nonneg (x k)) (Finset.mem_range.mpr h)
  have he := Gmlp.eps_pos
  unfold rinv
  generalize hv : meanSq x = v
  have hv' : Ideal.div (∑ k ∈ range 128, x k * x k) ((128 : ℝ) : EReal) + ((Gmlp.eps : ℝ) : EReal) = v := hv
  rw [Ideal.div_coe (by norm_num)] at hv'
  generalize (∑ k ∈ range 128, x k * x k) = q at hs hv' hj
  induction q with
  | bot => exact absurd hs (by simp)
  | top =>
    have : v = ⊤ := by
      rw [← hv', EReal.top_mul_coe_of_pos (by norm_num)]; rfl
    subst this
    refine ⟨0, le_refl _, rfl, ?_, fun j _ => ⟨0, mul_zero _⟩⟩
    show Ideal.div 0 ⊤ = _
    unfold Ideal.div
    simp
  | coe q =>
    have hq : 0 ≤ q := EReal.coe_nonneg.mp hs
    have hw : v = ((q * (1 / 128) + Gmlp.eps : ℝ) : EReal) := by
      rw [← hv', EReal.coe_add, EReal.coe_mul]
    have hp : 0 < q * (1 / 128) + Gmlp.eps := by positivity
    generalize q * (1 / 128) + Gmlp.eps = w at hw hp
    subst hw
    have hr : Ideal.rsqrt ((w : ℝ) : EReal) = (((Real.sqrt w)⁻¹ : ℝ) : EReal) := by
      rw [Ideal.rsqrt_coe, if_neg (not_lt.mpr hp.le), if_neg hp.ne']
    refine ⟨(Real.sqrt w)⁻¹, by positivity, hr, ?_, fun j h => ?_⟩
    · rw [hr, Ideal.div_coe hp.ne', ← EReal.coe_mul]
      have e : (Real.sqrt w)⁻¹ * (Real.sqrt w)⁻¹ = w⁻¹ := by rw [← mul_inv, Real.mul_self_sqrt hp.le]
      rw [e, one_div, mul_comm]
    · rw [hr]
      have := hj j h
      generalize x j = y at this
      induction y with
      | bot => exact absurd this (by simp)
      | top => exact absurd this (by simp)
      | coe y => exact ⟨_, (EReal.coe_mul _ _).symm⟩

/-- The two forms of a row's gradient. -/
theorem row_forms (x w y : ℕ → EReal) (j : ℕ) : refRow x w y j = rowGrad x w y j := by
  obtain ⟨s, h0, h1, h2, -⟩ := rinv_real x
  unfold refRow rowGrad refSlope
  rw [h2, h1, show refDot x w y = ∑ k ∈ range 128, y k * w k * x k from Finset.sum_congr rfl fun k _ => mul_comm _ _]
  generalize (∑ k ∈ range 128, y k * w k * x k) = t
  generalize y j * w j = v
  generalize x j = x'
  have h128 : (128 : ℝ) ≠ 0 := by norm_num
  rw [Ideal.div_coe h128, Ideal.div_coe h128]
  have e : x' * (t * (((-(1 / 2) : ℝ) : EReal) * ((s * s * s : ℝ) : EReal)) * ((1 / 128 : ℝ) : EReal))
      = (x' * t) * ((-(1 / 2) * (s * s * s * (1 / 128)) : ℝ) : EReal) := by
    rw [mul_assoc t, ← mul_assoc x', ← EReal.coe_mul, ← EReal.coe_mul]
    congr 2; ring
  have f : x' * ((s : EReal) * s * s) * (t * ((1 / 128 : ℝ) : EReal)) = (x' * t) * ((s * s * s * (1 / 128) : ℝ) : EReal) := by
    rw [← EReal.coe_mul, ← EReal.coe_mul, mul_mul_mul_comm, ← EReal.coe_mul]
  rw [mul_comm _ x', e, f, add_assoc, halves _ _ (by positivity), sub_eq_add_neg, mul_comm v]

/-- The logistic function at the two infinities. -/
theorem logistic_bot : logistic ⊥ = 0 := by
  unfold Cert.Ffn.Act.logistic
  rw [show (0 : EReal) - ⊥ = ⊤ from rfl, show Ideal.exp ⊤ = ⊤ from rfl, show (1 : EReal) + ⊤ = ⊤ from rfl]
  unfold Ideal.div
  simp
theorem logistic_top : logistic ⊤ = 1 := by
  unfold Cert.Ffn.Act.logistic
  rw [show (0 : EReal) - ⊤ = ⊥ from rfl, show Ideal.exp ⊥ = 0 from rfl, add_zero, show (1 : EReal) = ((1 : ℝ) : EReal) from rfl,
    Ideal.div_coe one_ne_zero, ← EReal.coe_mul]
  norm_num

/-- The two forms of the gate's gradient, when the gain and the cotangent are real; the gate may be infinite. -/
theorem gate_forms (x w d z : ℕ → EReal) (j : ℕ) (hj : j < 128) (hw : ∃ r : ℝ, w j = r) (hd : ∃ r : ℝ, d j = r) :
    refGate x w d z j = gateGrad x w d z j := by
  obtain ⟨-, -, -, -, hn⟩ := rinv_real x
  obtain ⟨n, hn⟩ := hn j hj
  obtain ⟨w', hw⟩ := hw
  obtain ⟨d', hd⟩ := hd
  unfold refGate gateGrad
  rw [hn, hw, hd]
  generalize z j = y
  induction y with
  | bot => rw [logistic_bot]; simp
  | top =>
    rw [logistic_top, show (1 : EReal) - 1 = 0 by rw [show (1 : EReal) = ((1 : ℝ) : EReal) from rfl, ← EReal.coe_sub]; simp]
    simp only [mul_zero, mul_one, add_zero]
    rw [mul_comm _ (d' : EReal), mul_assoc]
  | coe y =>
    obtain ⟨s, hs⟩ := logistic_real y
    rw [hs, show (1 : EReal) = ((1 : ℝ) : EReal) from rfl]
    simp only [← EReal.coe_mul, ← EReal.coe_add, ← EReal.coe_sub]
    exact congrArg _ (by ring)

variable (m : (ℓ : Loc nD τ sig) → Buf (Elt Ideal) ℓ) (c : Dev nD)

/-- Each argument is the array of its entries. -/
theorem holds_entries :
    Holds m c (entry (φ := .f32) (m ((c.tc : Thread nD τ).loc main_arg0) : F32 Kernel19Ideal.S4096x1024))
      (entry (φ := .f32) (m ((c.tc : Thread nD τ).loc main_arg1) : F32 Kernel19Ideal.S4096x5632))
      (entry (φ := .f32) (m ((c.tc : Thread nD τ).loc main_arg2) : F32 Kernel19Ideal.S1x128))
      (entry (φ := .f32) (m ((c.tc : Thread nD τ).loc main_arg3) : F32 Kernel19Ideal.S4096x2048)) :=
  ⟨(emat_entry _).symm, (emat_entry _).symm, (emat_entry _).symm, (emat_entry _).symm⟩

/-- The reference's gradient of the rows, of the kernel's arguments, is the kernel's array. -/
theorem rows_value :
    val_main_v49 (F := Ideal) (m ((c.tc : Thread nD τ).loc main_arg0)) (m ((c.tc : Thread nD τ).loc main_arg1))
        (m ((c.tc : Thread nD τ).loc main_arg2)) (m ((c.tc : Thread nD τ).loc main_arg3))
      = (dats m 0 c).arrAt 4 cfg0.N := by
  have H := holds_entries m c
  rw [rows_array H]
  refine Eq.trans ?_ ((rows_reference _ _ _ _).trans (emat_congr fun i _ j _ => row_forms _ _ _ _))
  exact congr (congr (congr (congrArg (val_main_v49 (F := Ideal)) H.rows) H.gate) H.gain) H.cotangent

/-- The reference's gradient of the gate, likewise, under the precondition. -/
theorem gate_value (hm : Cert.Pre_Kernel19Ideal_gate_norm_finite m) :
    val_main_v50 (F := Ideal) (m ((c.tc : Thread nD τ).loc main_arg0)) (m ((c.tc : Thread nD τ).loc main_arg1))
        (m ((c.tc : Thread nD τ).loc main_arg2)) (m ((c.tc : Thread nD τ).loc main_arg3))
      = (dats m 0 c).arrAt 5 cfg0.N := by
  obtain ⟨h0, h1⟩ := hm c
  have H := holds_entries m c
  have hd : ∀ p < 4096, ∀ j < 1024, ∃ r : ℝ, entry (φ := .f32) (m ((c.tc : Thread nD τ).loc main_arg3) : F32 Kernel19Ideal.S4096x2048) p (1024 + j) = r := by
    intro p hp j hj
    obtain ⟨r, hr⟩ := reals (φ := .f32) (val_main_v23 (F := Ideal) (m ((c.tc : Thread nD τ).loc main_arg3))) (fun i => congrFun h1 i) (ix2 ⟨p, hp⟩ ⟨j, hj⟩)
    refine ⟨r, Eq.trans ?_ hr⟩
    rw [val_main_v23_apply]
    unfold entry
    rw [dif_pos hp, dif_pos (show 1024 + j < 2048 by omega)]
    refine congrArg _ (funext fun a => ?_)
    match a with
    | ⟨0, _⟩ => rfl
    | ⟨1, _⟩ => rfl
  rw [gate_array H]
  refine Eq.trans ?_ ((gate_reference _ _ _ _).trans (emat_congr fun i hi j hj => gate_forms _ _ _ _ _ (Nat.mod_lt _ (by norm_num))
    (entry_reals _ (reals (φ := .f32) _ fun i => congrFun h0 i) _ _) ?_))
  rotate_left
  · show ∃ r : ℝ, entry _ i (1024 + 128 * (j / 128) + j % 128) = (r : EReal)
    rw [Nat.add_assoc, Nat.div_add_mod]
    exact hd i hi j hj
  exact congr (congr (congr (congrArg (val_main_v50 (F := Ideal)) H.rows) H.gate) H.gain) H.cotangent

/-- The reference's gradient of the gain. -/
theorem gain_value :
    val_main_v51 (F := Ideal) (m ((c.tc : Thread nD τ).loc main_arg0)) (m ((c.tc : Thread nD τ).loc main_arg1))
        (m ((c.tc : Thread nD τ).loc main_arg3))
      = (dats m 0 c).arrAt 6 cfg0.N := by
  have H := holds_entries m c
  rw [gain_array H]
  refine Eq.trans ?_ ((gain_reference _ _ _).trans (emat_congr fun i _ j _ => Finset.sum_congr rfl fun p _ => Finset.sum_congr rfl fun h _ => mul_comm _ _))
  exact congr (congr (congrArg (val_main_v51 (F := Ideal)) H.rows) H.gate) H.cotangent

end Cert.Ffn.GateNorm

end
-- ==== Proof.GatesBlock.lean ====
/- What one grid point of the gates' gradient computes, of its blocks' entries: 512 rows, 128 lanes. Lanes 0 to 7 hold the
   write gate, lanes 8 to 15 the decay. The gradient of the rows is stored; those of the decay's two parameters are added up. -/
module

public import proofs.«01_k».proof.Proof.EntryOps
public import proofs.«01_k».proof.Proof.ActBlock
public import proofs.«01_k».proof.Proof.Gen.Kernel20Ideal.Value

@[expose] public section

set_option maxRecDepth 16384

noncomputable section

namespace Cert.Ffn.Gates

open Idealize.ShloMosaic TcCoe Tactic Cert.Kernel20Ideal Cert.Kernel20Ideal.Gen
open Cert.Ffn.Act (logistic)

/-- The logarithm of `1 + exp z`, in the form that doesn't overflow. -/
def softplus (z : EReal) : EReal := max z 0 + Ideal.log (1 + Ideal.exp (0 - max z (-z)))
/-- The gradient of the decay's sum, from the cotangent `d`, the decay's parameter `a` and the sum `z`. -/
abbrev sumGrad (d a z : EReal) : EReal := d * (0 - Ideal.exp a) * logistic z
/-- One row's part of the gradient of the decay's parameter. -/
abbrev logGrad (d a z : EReal) : EReal := d * (0 - Ideal.exp a) * softplus z
/-- The gradient of the write gate's projection `x`. -/
abbrev gateGrad (d x : EReal) : EReal := d * logistic x * (1 - logistic x)

theorem first_lanes (f g : ℕ → ℕ → EReal) :
    select k0_pay7 (emat f : F32 S512x128) (emat g : F32 S512x128)
      = (emat fun i j => if j < 8 then f i j else g i j : F32 S512x128) := by
  have h : ∀ j : Fin 128, Scalar.cmpi .slt (BitVec.ofNat 32 (0 * 128 + j.1)) 8#32 = if j.1 < 8 then 1#1 else 0#1 := by decide +kernel
  funext i
  show Scalar.select (Scalar.cmpi .slt (BitVec.ofNat 32 (0 * 128 + (i 1).1)) 8#32) (f (i 0).1 (i 1).1) (g (i 0).1 (i 1).1)
    = if (i 1).1 < 8 then f (i 0).1 (i 1).1 else g (i 0).1 (i 1).1
  rw [h (i 1)]
  by_cases hj : (i 1).1 < 8
  · rw [if_pos hj, if_pos hj]; rfl
  · rw [if_neg hj, if_neg hj]; rfl
theorem second_lanes (f : ℕ → ℕ → EReal) :
    select k0_pay8 (emat f : F32 S512x128) (broadcast S512x128 (Scalar.ofBits .f32 0x00000000#32 : Ideal .f32))
      = (emat fun i j => if 8 ≤ j ∧ j < 16 then f i j else 0 : F32 S512x128) := by
  have h : ∀ j : Fin 128, Scalar.andi (Scalar.cmpi .sge (BitVec.ofNat 32 (0 * 128 + j.1)) 8#32) (Scalar.cmpi .slt (BitVec.ofNat 32 (0 * 128 + j.1)) 16#32)
      = if 8 ≤ j.1 ∧ j.1 < 16 then 1#1 else 0#1 := by decide +kernel
  funext i
  show Scalar.select (Scalar.andi (Scalar.cmpi .sge (BitVec.ofNat 32 (0 * 128 + (i 1).1)) 8#32) (Scalar.cmpi .slt (BitVec.ofNat 32 (0 * 128 + (i 1).1)) 16#32))
      (f (i 0).1 (i 1).1) (Ideal.ofBits .f32 0x00000000#32)
    = if 8 ≤ (i 1).1 ∧ (i 1).1 < 16 then f (i 0).1 (i 1).1 else 0
  rw [h (i 1), Gmlp.ofBits_zero]
  by_cases hj : 8 ≤ (i 1).1 ∧ (i 1).1 < 16
  · rw [if_pos hj, if_pos hj]; rfl
  · rw [if_neg hj, if_neg hj]; rfl

variable (x a b d : ℕ → ℕ → EReal)

theorem zero_eq : k0_pay5 (F := Ideal) = (emat fun _ _ => 0 : F32 S1x128) :=
  funext fun _ => Gmlp.ofBits_zero
theorem logistic_eq : k0_pay9 (F := Ideal) (emat x : F32 S512x128) = (emat fun i j => logistic (x i j) : F32 S512x128) := by
  funext i
  show Ideal.div (Ideal.ofBits .f32 0x3F800000#32)
    (Ideal.ofBits .f32 0x3F800000#32 + Ideal.exp (Ideal.ofBits .f32 0x00000000#32 - x (i 0).1 (i 1).1)) = _
  rw [Gmlp.ofBits_one, Gmlp.ofBits_zero]
  rfl
theorem sum_eq : k0_pay10 (F := Ideal) (emat x : F32 S512x128) (emat b : F32 S1x128)
    = (emat fun i j => x i j + b 0 j : F32 S512x128) := by
  unfold k0_pay10
  dsimp only
  rw [shapeCast_self, repeat_row, addf_emat]
theorem rate_eq : k0_pay11 (F := Ideal) (emat a : F32 S1x128) = (emat fun i j => 0 - Ideal.exp (a i j) : F32 S1x128) := by
  unfold k0_pay11
  dsimp only
  rw [shapeCast_self]
  funext i
  show Ideal.ofBits .f32 0x00000000#32 - Ideal.exp (a (i 0).1 (i 1).1) = _
  rw [Gmlp.ofBits_zero]
  rfl
theorem scaled_eq : k0_pay12 (F := Ideal) (emat d : F32 S512x128) (emat a : F32 S1x128)
    = (emat fun i j => d i j * (0 - Ideal.exp (a 0 j)) : F32 S512x128) := by
  unfold k0_pay12
  dsimp only
  rw [rate_eq, repeat_row, mulf_emat]
theorem slope_eq : k0_pay13 (F := Ideal) (emat x : F32 S512x128) (emat b : F32 S1x128)
    = (emat fun i j => logistic (x i j + b 0 j) : F32 S512x128) :=
  (congrArg (k0_pay9 (F := Ideal)) (sum_eq x b)).trans (logistic_eq _)

/-- What the rows' gradient is in each lane of the decay, … -/
abbrev decay (i j : ℕ) : EReal := if 8 ≤ j ∧ j < 16 then sumGrad (d i j) (a 0 j) (x i j + b 0 j) else 0
/-- … in all lanes, … -/
abbrev lanes (i j : ℕ) : EReal := if j < 8 then gateGrad (d i j) (x i j) else decay x a b d i j
/-- … and one row's part of the gradient of the decay's parameter. -/
abbrev logs (i j : ℕ) : EReal := if 8 ≤ j ∧ j < 16 then logGrad (d i j) (a 0 j) (x i j + b 0 j) else 0

theorem decay_eq :
    k0_pay1 (F := Ideal) k0_pay8 (k0_pay12 (emat d : F32 S512x128) (emat a : F32 S1x128))
        (k0_pay13 (emat x : F32 S512x128) (emat b : F32 S1x128))
      = (emat (decay x a b d) : F32 S512x128) := by
  unfold k0_pay1
  dsimp only
  rw [scaled_eq, slope_eq, mulf_emat, second_lanes]
theorem row_eq :
    k0_pay2 (F := Ideal) (emat d : F32 S512x128) k0_pay7 k0_pay8 (k0_pay9 (emat x : F32 S512x128))
        (k0_pay12 (emat d : F32 S512x128) (emat a : F32 S1x128))
        (k0_pay13 (emat x : F32 S512x128) (emat b : F32 S1x128))
      = (emat (lanes x a b d) : BF16 S512x128) := by
  unfold k0_pay2
  dsimp only
  rw [decay_eq, logistic_eq, mulf_emat, show (Scalar.ofBits .f32 0x3F800000#32 : Ideal .f32) = (1 : EReal) from Gmlp.ofBits_one,
    splat_emat, subf_emat, mulf_emat, first_lanes]
  rfl
theorem bias_eq (s : ℕ → ℕ → EReal) :
    k0_pay3 (F := Ideal) k0_pay8 (k0_pay12 (emat d : F32 S512x128) (emat a : F32 S1x128))
        (k0_pay13 (emat x : F32 S512x128) (emat b : F32 S1x128)) (emat s : F32 S1x128)
      = (emat fun i j => s i j + ∑ k ∈ Finset.range 512, decay x a b d k j : F32 S1x128) := by
  unfold k0_pay3
  dsimp only
  rw [decay_eq, sum_cols, row_of, shapeCast_self, addf_emat]
theorem softplus_eq (z : ℕ → ℕ → EReal) :
    addf (maximumf (emat z : F32 S512x128) (broadcast S512x128 (Scalar.ofBits .f32 0x00000000#32 : Ideal .f32)))
        (log (addf (broadcast S512x128 (Scalar.ofBits .f32 0x3F800000#32 : Ideal .f32))
          (exp (subf (broadcast S512x128 (Scalar.ofBits .f32 0x00000000#32 : Ideal .f32)) (absf (emat z : F32 S512x128))))))
      = (emat fun i j => softplus (z i j) : F32 S512x128) := by
  funext i
  show max (z (i 0).1 (i 1).1) (Ideal.ofBits .f32 0x00000000#32) + Ideal.log (Ideal.ofBits .f32 0x3F800000#32
    + Ideal.exp (Ideal.ofBits .f32 0x00000000#32 - max (z (i 0).1 (i 1).1) (-(z (i 0).1 (i 1).1)))) = _
  rw [Gmlp.ofBits_one, Gmlp.ofBits_zero]
  rfl
theorem log_eq (s : ℕ → ℕ → EReal) :
    k0_pay4 (F := Ideal) (emat d : F32 S512x128) k0_pay8
        (k0_pay10 (emat x : F32 S512x128) (emat b : F32 S1x128)) (k0_pay11 (emat a : F32 S1x128))
        (emat s : F32 S1x128)
      = (emat fun i j => s i j + ∑ k ∈ Finset.range 512, logs x a b d k j : F32 S1x128) := by
  unfold k0_pay4
  dsimp only
  rw [sum_eq, rate_eq, repeat_row, mulf_emat, softplus_eq, mulf_emat, second_lanes, sum_cols, row_of, shapeCast_self, addf_emat]

variable (c : Dev nD) (i : grid0.Coords) (arg1 : Memref sig .tc .vmem S512x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S512x128 .f32) (harg4 : arg4.IsWhole) (arg5 : Memref sig .tc .vmem S512x128 .bf16) (harg5 : arg5.IsWhole) (arg6 : Memref sig .tc .vmem S1x128 .f32) (harg6 : arg6.IsWhole) (arg7 : Memref sig .tc .vmem S1x128 .f32) (harg7 : arg7.IsWhole)
variable (x0 : Vec Ideal S512x128 .f32) (x1 x2 : Vec Ideal S1x128 .f32) (x3 : Vec Ideal S512x128 .f32) (xa xb : Vec Ideal S1x128 .f32)

/-- The projection's gradient, at the first point … -/
theorem row_A (hc0 : cond0_0 i) :
    out0_A_4 (F := Ideal) c i arg1 harg1 arg2 harg2 arg3 harg3 arg4 harg4 arg5 harg5 arg6 harg6 arg7 harg7 hc0 x0 x1 x2 x3 = k0_pay2 x3 k0_pay7 k0_pay8 (k0_pay9 x0) (k0_pay12 x3 x1) (k0_pay13 x0 x2) := by
  unfold out0_A_4
  rw [View.read_writes_eq_canon _ _ _ (fun y => cover0_A_4 (y := y) ..)]
  unfold kernelRun0_A
  dsimp only [kernelRun0_A.sl.r, kernelRun0_A.sl.r_1, kernelRun0_A.sl.r_2, kernelRun0_A.sl.r_3, kernelRun0_A.sl.r_4, kernelRun0_A.sl.r_5]
  rw [View.canon_unit_zero zeros2]
  simp only [View.readAt_eq_ld, harg1.read_unread, harg2.read_unread, harg3.read_unread, harg4.read_unread, View.ld_unit_zero (S := S512x128) zeros2, View.ld_unit_zero (S := S1x128) zeros2]
/-- … and at the others. -/
theorem row_B (hc0 : ¬cond0_0 i) :
    out0_B_4 (F := Ideal) c i arg1 harg1 arg2 harg2 arg3 harg3 arg4 harg4 arg5 harg5 arg6 harg6 arg7 harg7 hc0 x0 x1 x2 x3 xa xb = k0_pay2 x3 k0_pay7 k0_pay8 (k0_pay9 x0) (k0_pay12 x3 x1) (k0_pay13 x0 x2) := by
  unfold out0_B_4
  rw [View.read_writes_eq_canon _ _ _ (fun y => cover0_B_4 (y := y) ..)]
  unfold kernelRun0_B
  dsimp only [kernelRun0_B.sl.r, kernelRun0_B.sl.r_1, kernelRun0_B.sl.r_2, kernelRun0_B.sl.r_3, kernelRun0_B.sl.r_4, kernelRun0_B.sl.r_5]
  rw [View.canon_unit_zero zeros2]
  simp only [View.readAt_eq_ld, harg1.read_unread, harg2.read_unread, harg3.read_unread, harg4.read_unread, View.ld_unit_zero (S := S512x128) zeros2, View.ld_unit_zero (S := S1x128) zeros2]
/-- The first point clears the decay's gradient before it adds its rows … -/
theorem log_A (hc0 : cond0_0 i) :
    out0_A_5 (F := Ideal) c i arg1 harg1 arg2 harg2 arg3 harg3 arg4 harg4 arg5 harg5 arg6 harg6 arg7 harg7 hc0 x0 x1 x2 x3 = k0_pay4 x3 k0_pay8 (k0_pay10 x0 x2) (k0_pay11 x1) (k0_pay5 (F := Ideal)) := by
  unfold out0_A_5
  rw [View.read_writes_eq_canon _ _ _ (fun y => cover0_A_5 (y := y) ..)]
  unfold kernelRun0_A
  dsimp only [kernelRun0_A.sl.r, kernelRun0_A.sl.r_1, kernelRun0_A.sl.r_2, kernelRun0_A.sl.r_3, kernelRun0_A.sl.r_4, kernelRun0_A.sl.r_5]
  rw [View.canon_cons_unit_zero (S := S1x128) zeros2]
  unfold kernelRun0_A.sl.v54 kernelRun0_A.sl.H5_1
  rw [View.readCov_fill _ _ _ _ _ (fun a => by fin_cases a <;> rfl)]
  simp only [View.readAt_eq_ld, harg1.read_unread, harg2.read_unread, harg3.read_unread, harg4.read_unread, harg6.read_unread, View.ld_unit_zero (S := S512x128) zeros2, View.ld_unit_zero (S := S1x128) zeros2]
/-- … and the others add theirs to what is there. -/
theorem log_B (hc0 : ¬cond0_0 i) :
    out0_B_5 (F := Ideal) c i arg1 harg1 arg2 harg2 arg3 harg3 arg4 harg4 arg5 harg5 arg6 harg6 arg7 harg7 hc0 x0 x1 x2 x3 xa xb = k0_pay4 x3 k0_pay8 (k0_pay10 x0 x2) (k0_pay11 x1) xa := by
  unfold out0_B_5
  rw [View.read_writes_eq_canon _ _ _ (fun y => cover0_B_5 (y := y) ..)]
  unfold kernelRun0_B
  dsimp only [kernelRun0_B.sl.r, kernelRun0_B.sl.r_1, kernelRun0_B.sl.r_2, kernelRun0_B.sl.r_3, kernelRun0_B.sl.r_4, kernelRun0_B.sl.r_5]
  rw [View.canon_unit_zero zeros2]
  simp only [View.readAt_eq_ld, harg1.read_unread, harg2.read_unread, harg3.read_unread, harg4.read_unread, harg6.read_unread, View.ld_unit_zero (S := S512x128) zeros2, View.ld_unit_zero (S := S1x128) zeros2]
/-- The bias's gradient, at the first point … -/
theorem bias_A (hc0 : cond0_0 i) :
    out0_A_6 (F := Ideal) c i arg1 harg1 arg2 harg2 arg3 harg3 arg4 harg4 arg5 harg5 arg6 harg6 arg7 harg7 hc0 x0 x1 x2 x3 = k0_pay3 k0_pay8 (k0_pay12 x3 x1) (k0_pay13 x0 x2) (k0_pay6 (F := Ideal)) := by
  unfold out0_A_6
  rw [View.read_writes_eq_canon _ _ _ (fun y => cover0_A_6 (y := y) ..)]
  unfold kernelRun0_A
  dsimp only [kernelRun0_A.sl.r, kernelRun0_A.sl.r_1, kernelRun0_A.sl.r_2, kernelRun0_A.sl.r_3, kernelRun0_A.sl.r_4, kernelRun0_A.sl.r_5]
  rw [View.canon_cons_unit_zero (S := S1x128) zeros2]
  unfold kernelRun0_A.sl.v48 kernelRun0_A.sl.H6_1
  rw [View.readCov_fill _ _ _ _ _ (fun a => by fin_cases a <;> rfl)]
  simp only [View.readAt_eq_ld, harg1.read_unread, harg2.read_unread, harg3.read_unread, harg4.read_unread, harg7.read_unread, View.ld_unit_zero (S := S512x128) zeros2, View.ld_unit_zero (S := S1x128) zeros2]
/-- … and at the others. -/
theorem bias_B (hc0 : ¬cond0_0 i) :
    out0_B_6 (F := Ideal) c i arg1 harg1 arg2 harg2 arg3 harg3 arg4 harg4 arg5 harg5 arg6 harg6 arg7 harg7 hc0 x0 x1 x2 x3 xa xb = k0_pay3 k0_pay8 (k0_pay12 x3 x1) (k0_pay13 x0 x2) xb := by
  unfold out0_B_6
  rw [View.read_writes_eq_canon _ _ _ (fun y => cover0_B_6 (y := y) ..)]
  unfold kernelRun0_B
  dsimp only [kernelRun0_B.sl.r, kernelRun0_B.sl.r_1, kernelRun0_B.sl.r_2, kernelRun0_B.sl.r_3, kernelRun0_B.sl.r_4, kernelRun0_B.sl.r_5]
  rw [View.canon_unit_zero zeros2]
  simp only [View.readAt_eq_ld, harg1.read_unread, harg2.read_unread, harg3.read_unread, harg4.read_unread, harg7.read_unread, View.ld_unit_zero (S := S512x128) zeros2, View.ld_unit_zero (S := S1x128) zeros2]

end Cert.Ffn.Gates

end
-- ==== Proof.GatesArray.lean ====
/- What the three arrays of the gates' gradient hold after the last grid point, in terms of its arguments' entries. Each
   point has 512 rows; the gates' lanes begin at column 5376 of the projection. The two parameters of the decay stand in
   lanes 8 to 15 of a row of zeros, and so do their gradients, which stay in place from the first point to the last. -/
module

public import proofs.«01_k».proof.Proof.GatesBlock
public import proofs.«01_k».proof.Proof.Pad

@[expose] public section

set_option maxRecDepth 16384

noncomputable section

namespace Cert.Ffn.Gates

open Idealize.ShloMosaic TcCoe Tactic Cert.Kernel20Ideal Cert.Kernel20Ideal.Gen
open Finset (range)

variable (m : (ℓ : Loc nD τ sig) → Buf (Elt Ideal) ℓ) (c : Dev nD)
variable (X A B D : ℕ → ℕ → EReal)

/-- The arguments have these entries: the projection, the decay's two parameters, the cotangent. -/
structure Holds : Prop where
  proj : (m ((c : Thread nD τ).loc main_arg0) : F32 S4096x5632) = (emat X : F32 S4096x5632)
  log : (m ((c : Thread nD τ).loc main_arg1) : F32 S1x8) = (emat A : F32 S1x8)
  bias : (m ((c : Thread nD τ).loc main_arg2) : F32 S1x8) = (emat B : F32 S1x8)
  cotangent : (m ((c : Thread nD τ).loc main_arg3) : F32 S4096x128) = (emat D : F32 S4096x128)

/-- Eight columns in lanes 8 to 15 of a row of 128, with zeros around them. -/
abbrev placed (f : ℕ → ℕ → EReal) (i j : ℕ) : EReal := if 8 ≤ j ∧ j < 16 then f i (j - 8) else 0
theorem pad_row (f : ℕ → ℕ → EReal) (v : Vec Ideal S_ .f32) (hv : v = fun _ => 0) :
    pad S1x128 ![0, 8] ![0, 112] ![0, 0] (emat f : F32 S1x8) v pads_S1x8_S1x128_000_81120 h_S_
      = (emat (placed f) : F32 S1x128) := by
  subst hv
  funext y
  have h0 : (y 0).1 < 1 := (y 0).isLt
  by_cases hj : 8 ≤ (y 1).1 ∧ (y 1).1 < 16
  · have hs : (y 1).1 - 8 < 8 := by omega
    have hk : ∀ a : Fin S1x8.rank, (y (Fin.cast (rfl : S1x8.rank = S1x128.rank) a)).1
        = (![0, 8] : Fin S1x8.rank → ℕ) a
          + ((ix2 (⟨(y 0).1, h0⟩ : Fin 1) (⟨(y 1).1 - 8, hs⟩ : Fin 8) : S1x8.Idx) a).1 * ((![0, 0] : Fin S1x8.rank → ℕ) a + 1) := by
      intro a
      match a with
      | ⟨0, _⟩ => show (y 0).1 = 0 + (y 0).1 * (0 + 1); omega
      | ⟨1, _⟩ => show (y 1).1 = 8 + ((y 1).1 - 8) * (0 + 1); omega
    rw [pad_apply_of_inside _ _ _ _ _ _ _ y _ hk]
    exact (if_pos hj).symm
  · rw [pad_apply_of_not_inside _ _ _ _ _ _ _ y 1 (by
      rintro ⟨h, -, h'⟩
      have h1 : 8 ≤ (y 1).1 := h
      have h2 : ((y 1).1 - 8) / 1 < 8 := h'
      omega)]
    exact (if_neg hj).symm

theorem index_0 : ∀ t : Fin cfg0.N, win0_0.index t 0 = t.1 ∧ win0_0.index t 1 = 42 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = t.1 ∧ win0_3.index t 1 = 0 := by decide +kernel
theorem index_4 : ∀ t : Fin cfg0.N, win0_4.index t 0 = t.1 ∧ win0_4.index t 1 = 0 := by decide +kernel
theorem index_5 : ∀ t : Fin cfg0.N, win0_5.index t 0 = 0 ∧ win0_5.index t 1 = 0 := by decide +kernel
theorem index_6 : ∀ t : Fin cfg0.N, win0_6.index t 0 = 0 ∧ win0_6.index t 1 = 0 := by decide +kernel

/-- The gates' lanes of the projection. -/
abbrev gates (p j : ℕ) : EReal := X p (5376 + j)
/-- The gradient of a row's lanes, … -/
abbrev lanesAt (p j : ℕ) : EReal := lanes (gates X) (placed A) (placed B) D p j
/-- … its part of the bias's gradient, … -/
abbrev biasAt (p j : ℕ) : EReal := decay (gates X) (placed A) (placed B) D p j
/-- … and of the gradient of the decay's parameter. -/
abbrev logAt (p j : ℕ) : EReal := logs (gates X) (placed A) (placed B) D p j

variable {m c X A B D} (H : Holds m c X A B D)
include H

theorem iblk_0 (t : Fin cfg0.N) : iblk m c 0 t = (emat fun i => gates X (512 * t.1 + i) : F32 S512x128) := by
  funext y
  unfold iblk
  rw [View.read_apply]
  show V m c main_arg0 _ = _
  rw [V_main_arg0]
  refine (congrFun H.proj _).trans (congrArg₂ (fun p q => X p q) ?_ ?_)
  · show win0_0.index t 0 * 512 + 1 * (y 0).1 = 512 * t.1 + (y 0).1; rw [(index_0 t).1]; omega
  · show win0_0.index t 1 * 128 + 1 * (y 1).1 = 5376 + (y 1).1; rw [(index_0 t).2]; omega
theorem iblk_3 (t : Fin cfg0.N) : iblk m c 3 t = (emat fun i => D (512 * t.1 + i) : F32 S512x128) := by
  funext y
  unfold iblk
  rw [View.read_apply]
  show V m c main_arg3 _ = _
  rw [V_main_arg3]
  refine (congrFun H.cotangent _).trans (congrArg₂ (fun p q => D p q) ?_ ?_)
  · show win0_3.index t 0 * 512 + 1 * (y 0).1 = 512 * t.1 + (y 0).1; rw [(index_3 t).1]; omega
  · show win0_3.index t 1 * 128 + 1 * (y 1).1 = (y 1).1; rw [(index_3 t).2]; omega
theorem iblk_1 (t : Fin cfg0.N) : iblk m c 1 t = (emat (placed A) : F32 S1x128) := by
  have e : V m c main_v0 = (emat (placed A) : F32 S1x128) := by
    unfold V
    simp only [hostOps0, hostOps0_1, hostOps0_2, hostOps0_3, List.flatten_cons, List.flatten_nil, List.append_nil, List.cons_append,
      List.nil_append]
    after_results
    show pad S1x128 (![0, 8] : Fin S1x8.rank → ℕ) (![0, 112] : Fin S1x8.rank → ℕ) (![0, 0] : Fin S1x8.rank → ℕ)
      (m ((c : Thread nD τ).loc main_arg1) : F32 S1x8)
      (sitofp .f32 (constantI S_ 32 0#32) : F32 S_) pads_S1x8_S1x128_000_81120 h_S_ = _
    rw [H.log]
    exact pad_row A _ Gmlp.zero_scalar
  funext y
  unfold iblk
  rw [View.read_apply]
  show (V m c main_v0 : F32 S1x128) _ = _
  rw [e]
  refine congrArg₂ (fun p q => placed A p q) ?_ ?_
  · show win0_1.index t 0 * 1 + 1 * (y 0).1 = (y 0).1; rw [(index_1 t).1]; omega
  · show win0_1.index t 1 * 128 + 1 * (y 1).1 = (y 1).1; rw [(index_1 t).2]; omega
theorem iblk_2 (t : Fin cfg0.N) : iblk m c 2 t = (emat (placed B) : F32 S1x128) := by
  have e : V m c main_v1 = (emat (placed B) : F32 S1x128) := by
    unfold V
    simp only [hostOps0, hostOps0_1, hostOps0_2, hostOps0_3, List.flatten_cons, List.flatten_nil, List.append_nil, List.cons_append,
      List.nil_append]
    after_results
    show pad S1x128 (![0, 8] : Fin S1x8.rank → ℕ) (![0, 112] : Fin S1x8.rank → ℕ) (![0, 0] : Fin S1x8.rank → ℕ)
      (m ((c : Thread nD τ).loc main_arg2) : F32 S1x8)
      (sitofp .f32 (constantI S_ 32 0#32) : F32 S_) pads_S1x8_S1x128_000_81120 h_S_ = _
    rw [H.bias]
    exact pad_row B _ Gmlp.zero_scalar
  funext y
  unfold iblk
  rw [View.read_apply]
  show (V m c main_v1 : F32 S1x128) _ = _
  rw [e]
  refine congrArg₂ (fun p q => placed B p q) ?_ ?_
  · show win0_2.index t 0 * 1 + 1 * (y 0).1 = (y 0).1; rw [(index_2 t).1]; omega
  · show win0_2.index t 1 * 128 + 1 * (y 1).1 = (y 1).1; rw [(index_2 t).2]; omega

/-- What each point writes for its rows. -/
theorem row_at (t : Fin cfg0.N) :
    (outsAt0 m c t.1 t.isLt).1 = (emat fun i => lanesAt X A B D (512 * t.1 + i) : BF16 S512x128) := by
  by_cases h : t.1 % 8 = 0
  · rw [outsAt0_A m c t h]
    dsimp only
    rw [row_A, iblk_0 H, iblk_1 H, iblk_2 H, iblk_3 H]
    exact row_eq _ _ _ _
  · rw [outsAt0_B m c t h]
    dsimp only
    rw [row_B, iblk_0 H, iblk_1 H, iblk_2 H, iblk_3 H]
    exact row_eq _ _ _ _
/-- The gradient of the decay's parameter after point `n`: the sum over the points so far. -/
theorem log_state (n : ℕ) : ∀ hn : n < cfg0.N,
    (outsAt0 m c n hn).2.1
      = (emat fun _ j => ∑ q ∈ range (n + 1), ∑ k ∈ range 512, logAt X A B D (512 * q + k) j : F32 S1x128) := by
  induction n with
  | zero =>
    intro hn
    rw [outsAt0_A m c ⟨0, hn⟩ rfl]
    dsimp only
    rw [log_A, iblk_0 H, iblk_1 H, iblk_2 H, iblk_3 H, zero_eq, log_eq]
    refine emat_congr fun i _ j _ => ?_
    rw [Finset.sum_range_one, zero_add]
  | succ n ih =>
    intro hn
    have hN : cfg0.N = 8 := N_0
    rw [outsAt0_B m c ⟨n + 1, hn⟩ (by show ¬(n + 1) % 8 = 0; omega)]
    dsimp only
    rw [log_B, iblk_0 H, iblk_1 H, iblk_2 H, iblk_3 H]
    refine (congrArg (k0_pay4 (F := Ideal) _ _ _ _) (ih (by omega))).trans ((log_eq _ _ _ _ _).trans ?_)
    refine emat_congr fun i _ j _ => ?_
    rw [Finset.sum_range_succ _ (n + 1)]
/-- The bias's gradient, likewise. -/
theorem bias_state (n : ℕ) : ∀ hn : n < cfg0.N,
    (outsAt0 m c n hn).2.2
      = (emat fun _ j => ∑ q ∈ range (n + 1), ∑ k ∈ range 512, biasAt X A B D (512 * q + k) j : F32 S1x128) := by
  induction n with
  | zero =>
    intro hn
    rw [outsAt0_A m c ⟨0, hn⟩ rfl]
    dsimp only
    rw [bias_A, iblk_0 H, iblk_1 H, iblk_2 H, iblk_3 H, show k0_pay6 (F := Ideal) = _ from zero_eq, bias_eq]
    refine emat_congr fun i _ j _ => ?_
    rw [Finset.sum_range_one, zero_add]
  | succ n ih =>
    intro hn
    have hN : cfg0.N = 8 := N_0
    rw [outsAt0_B m c ⟨n + 1, hn⟩ (by show ¬(n + 1) % 8 = 0; omega)]
    dsimp only
    rw [bias_B, iblk_0 H, iblk_1 H, iblk_2 H, iblk_3 H]
    refine (congrArg (k0_pay3 (F := Ideal) _ _ _) (ih (by omega))).trans ((bias_eq _ _ _ _ _).trans ?_)
    refine emat_congr fun i _ j _ => ?_
    rw [Finset.sum_range_succ _ (n + 1)]

omit H in
theorem cover_4 (i : S4096x128.Idx) : ∃ t : Fin cfg0.N, i ∈ ((View.whole main_v2_0).slice (win0_4.rect t)).set := by
  have hN : cfg0.N = 8 := N_0
  have h0 : (i 0 : Nat) < 4096 := (i 0).isLt
  have h1 : (i 1 : Nat) < 128 := (i 1).isLt
  have hl : (i 0).1 / 512 < cfg0.N := by omega
  refine ⟨⟨_, hl⟩, ?_⟩
  rw [View.set_slice_whole, Rect.mem_set_unit]
  intro a
  match a with
  | ⟨0, _⟩ =>
    show win0_4.index (⟨_, hl⟩ : Fin cfg0.N) 0 * 512 ≤ (i 0 : Nat) ∧ (i 0 : Nat) < win0_4.index (⟨_, hl⟩ : Fin cfg0.N) 0 * 512 + 512
    rw [(index_4 _).1]; dsimp only; omega
  | ⟨1, _⟩ =>
    show win0_4.index (⟨_, hl⟩ : Fin cfg0.N) 1 * 128 ≤ (i 1 : Nat) ∧ (i 1 : Nat) < win0_4.index (⟨_, hl⟩ : Fin cfg0.N) 1 * 128 + 128
    rw [(index_4 _).2]; omega
/-- The array of the rows' gradient. -/
theorem row_array : (dats m 0 c).arrAt 4 cfg0.N = (emat (lanesAt X A B D) : BF16 S4096x128) := by
  refine (dats m 0 c).arrAt_eq_of_cover 4 (emat (lanesAt X A B D) : BF16 S4096x128)
    (fun t hf => ?_) fun i => (cover_4 i).imp fun t ht => ⟨flush0_4 t, ht⟩
  rw [Kernel20Ideal.Value.flushed4, row_at H t]
  funext y
  rw [View.read_apply]
  show lanesAt X A B D (512 * t.1 + (y 0).1) (y 1).1
      = lanesAt X A B D (win0_4.index t 0 * 512 + 1 * (y 0).1) (win0_4.index t 1 * 128 + 1 * (y 1).1)
  rw [(index_4 t).1, (index_4 t).2, show t.1 * 512 + 1 * (y 0).1 = 512 * t.1 + (y 0).1 by omega,
      show 0 * 128 + 1 * (y 1).1 = (y 1).1 by omega]

omit H in
theorem by_points (f : ℕ → EReal) : ∑ q ∈ range 8, ∑ k ∈ range 512, f (512 * q + k) = ∑ p ∈ range 4096, f p := by
  rw [show 4096 = 8 * 512 from rfl, Finset.sum_range_mul_split]
  refine Finset.sum_congr rfl fun q _ => Finset.sum_congr rfl fun k _ => congrArg f ?_
  omega
omit H in
theorem cover_5 (i : S1x128.Idx) (hl : 7 < cfg0.N) : i ∈ ((View.whole main_v2_1).slice (win0_5.rect ⟨7, hl⟩)).set := by
  have h0 : (i 0 : Nat) < 1 := (i 0).isLt
  have h1 : (i 1 : Nat) < 128 := (i 1).isLt
  rw [View.set_slice_whole, Rect.mem_set_unit]
  intro a
  match a with
  | ⟨0, _⟩ =>
    show win0_5.index (⟨7, hl⟩ : Fin cfg0.N) 0 * 1 ≤ (i 0 : Nat) ∧ (i 0 : Nat) < win0_5.index (⟨7, hl⟩ : Fin cfg0.N) 0 * 1 + 1
    rw [(index_5 _).1]; omega
  | ⟨1, _⟩ =>
    show win0_5.index (⟨7, hl⟩ : Fin cfg0.N) 1 * 128 ≤ (i 1 : Nat) ∧ (i 1 : Nat) < win0_5.index (⟨7, hl⟩ : Fin cfg0.N) 1 * 128 + 128
    rw [(index_5 _).2]; omega
theorem log_array :
    (dats m 0 c).arrAt 5 cfg0.N = (emat fun _ j => ∑ p ∈ range 4096, logAt X A B D p j : F32 S1x128) := by
  have hN : cfg0.N = 8 := N_0
  refine (dats m 0 c).arrAt_eq_of_cover 5 (emat fun _ j => ∑ p ∈ range 4096, logAt X A B D p j : F32 S1x128)
    (fun t hf => ?_) fun i => ⟨⟨7, by omega⟩, (flush0_5 _).mpr rfl, cover_5 i _⟩
  have ht : t.1 % 8 = 7 := (flush0_5 t).mp hf
  have hl : t.1 < 8 := lt_of_lt_of_eq t.isLt N_0
  have hs := log_state H t.1 t.isLt
  rw [show t.1 + 1 = 8 by omega] at hs
  rw [Kernel20Ideal.Value.flushed5, hs]
  funext y
  rw [View.read_apply]
  refine (by_points fun p => logAt X A B D p (y 1).1).trans ?_
  show _ = (∑ p ∈ range 4096, logAt X A B D p (win0_5.index t 1 * 128 + 1 * (y 1).1))
  rw [(index_5 t).2, show 0 * 128 + 1 * (y 1).1 = (y 1).1 by omega]
omit H in
theorem cover_6 (i : S1x128.Idx) (hl : 7 < cfg0.N) : i ∈ ((View.whole main_v2_2).slice (win0_6.rect ⟨7, hl⟩)).set := by
  have h0 : (i 0 : Nat) < 1 := (i 0).isLt
  have h1 : (i 1 : Nat) < 128 := (i 1).isLt
  rw [View.set_slice_whole, Rect.mem_set_unit]
  intro a
  match a with
  | ⟨0, _⟩ =>
    show win0_6.index (⟨7, hl⟩ : Fin cfg0.N) 0 * 1 ≤ (i 0 : Nat) ∧ (i 0 : Nat) < win0_6.index (⟨7, hl⟩ : Fin cfg0.N) 0 * 1 + 1
    rw [(index_6 _).1]; omega
  | ⟨1, _⟩ =>
    show win0_6.index (⟨7, hl⟩ : Fin cfg0.N) 1 * 128 ≤ (i 1 : Nat) ∧ (i 1 : Nat) < win0_6.index (⟨7, hl⟩ : Fin cfg0.N) 1 * 128 + 128
    rw [(index_6 _).2]; omega
theorem bias_array :
    (dats m 0 c).arrAt 6 cfg0.N = (emat fun _ j => ∑ p ∈ range 4096, biasAt X A B D p j : F32 S1x128) := by
  have hN : cfg0.N = 8 := N_0
  refine (dats m 0 c).arrAt_eq_of_cover 6 (emat fun _ j => ∑ p ∈ range 4096, biasAt X A B D p j : F32 S1x128)
    (fun t hf => ?_) fun i => ⟨⟨7, by omega⟩, (flush0_6 _).mpr rfl, cover_6 i _⟩
  have ht : t.1 % 8 = 7 := (flush0_6 t).mp hf
  have hl : t.1 < 8 := lt_of_lt_of_eq t.isLt N_0
  have hs := bias_state H t.1 t.isLt
  rw [show t.1 + 1 = 8 by omega] at hs
  rw [Kernel20Ideal.Value.flushed6, hs]
  funext y
  rw [View.read_apply]
  refine (by_points fun p => biasAt X A B D p (y 1).1).trans ?_
  show _ = (∑ p ∈ range 4096, biasAt X A B D p (win0_6.index t 1 * 128 + 1 * (y 1).1))
  rw [(index_6 t).2, show 0 * 128 + 1 * (y 1).1 = (y 1).1 by omega]

end Cert.Ffn.Gates

end
-- ==== Proof.GatesReference.lean ====
/- What the reference's three results of the gates' gradient hold, in terms of its arguments' entries. It takes the eight
   columns of each gate out, goes back through the logistic function and the softplus, and puts the lanes together. -/
module

public import proofs.«01_k».proof.Proof.GatesArray
public import proofs.«01_k».proof.Proof.GateNormValue
public import proofs.«01_k».proof.Proof.Gen.Reference20Ideal.Read

@[expose] public section

set_option maxRecDepth 16384

noncomputable section

namespace Cert.Ffn.Gates

open Idealize.ShloMosaic Cert.Reference20Ideal Cert.Reference20Ideal.Read
open Finset (range)
open Cert.Ffn.Act (logistic)
open Cert.Ffn.Norm (sum_from_zero)

theorem max_coe (x y : ℝ) : max (x : EReal) (y : EReal) = ((max x y : ℝ) : EReal) := (EReal.coe_strictMono.monotone.map_max).symm
theorem logistic_coe (x : ℝ) : logistic (x : EReal) = ((1 / (1 + Real.exp (0 - x)) : ℝ) : EReal) := by
  have h : (1 + Real.exp (0 - x)) ≠ 0 := by positivity
  unfold Ffn.Act.logistic
  rw [show (0 : EReal) - ((x : ℝ) : EReal) = ((0 - x : ℝ) : EReal) from (EReal.coe_sub 0 x).symm, Ideal.exp_coe,
    show (1 : EReal) = ((1 : ℝ) : EReal) from rfl, ← EReal.coe_add, Ideal.div_coe h, ← EReal.coe_mul, one_mul]
theorem softplus_coe (x : ℝ) : softplus (x : EReal) = ((max x 0 + Real.log (1 + Real.exp (0 - max x (-x))) : ℝ) : EReal) := by
  have h : ¬ 1 + Real.exp (0 - max x (-x)) ≤ 0 := not_le.mpr (by positivity)
  unfold softplus
  rw [show -((x : ℝ) : EReal) = ((-x : ℝ) : EReal) from (EReal.coe_neg x).symm, max_coe,
    show (0 : EReal) = ((0 : ℝ) : EReal) from rfl, max_coe, ← EReal.coe_sub, Ideal.exp_coe, show (1 : EReal) = ((1 : ℝ) : EReal) from rfl,
    ← EReal.coe_add, Ideal.log_coe, if_neg h, ← EReal.coe_add]
theorem softplus_bot : softplus ⊥ = 0 := by
  unfold softplus
  rw [show -(⊥ : EReal) = ⊤ from rfl, max_eq_right bot_le, max_eq_right (bot_le : (⊥ : EReal) ≤ ⊤), show (0 : EReal) - ⊤ = ⊥ from rfl,
    show Ideal.exp ⊥ = 0 from rfl, add_zero, zero_add, show (1 : EReal) = ((1 : ℝ) : EReal) from rfl, Ideal.log_coe, if_neg (by norm_num),
    Real.log_one]
  rfl
theorem softplus_top : softplus ⊤ = ⊤ := by
  unfold softplus
  rw [show -(⊤ : EReal) = ⊥ from rfl, max_eq_left le_top, max_eq_left (bot_le : (⊥ : EReal) ≤ ⊤), show (0 : EReal) - ⊤ = ⊥ from rfl,
    show Ideal.exp ⊥ = 0 from rfl, add_zero, show (1 : EReal) = ((1 : ℝ) : EReal) from rfl, Ideal.log_coe, if_neg (by norm_num),
    Real.log_one]
  rfl

/-- The reference's derivative of the softplus is the logistic function. -/
theorem slope_form (z : EReal) :
    Ideal.exp ((if z = ⊤ then 0 else z) - (if softplus z = ⊤ then 0 else softplus z)) = logistic z := by
  induction z with
  | bot => rw [softplus_bot, if_neg (by simp), if_neg (by simp), sub_zero, Ffn.GateNorm.logistic_bot]; rfl
  | top =>
    rw [softplus_top, if_pos rfl, sub_zero, Ffn.GateNorm.logistic_top, show (0 : EReal) = ((0 : ℝ) : EReal) from rfl,
      Ideal.exp_coe, Real.exp_zero]
    rfl
  | coe x =>
    rw [softplus_coe, if_neg (EReal.coe_ne_top _), if_neg (EReal.coe_ne_top _), ← EReal.coe_sub, Ideal.exp_coe, logistic_coe]
    refine congrArg _ ?_
    have hp : 0 < 1 + Real.exp (0 - max x (-x)) := by positivity
    rw [← sub_sub, Real.exp_sub, Real.exp_log hp]
    rcases le_total 0 x with h | h
    · rw [max_eq_left h, max_eq_left (by linarith), sub_self, Real.exp_zero]
    · rw [max_eq_right h, max_eq_right (by linarith), sub_zero, sub_neg_eq_add, zero_add, zero_sub, Real.exp_neg]
      have := Real.exp_pos x
      field_simp
      ring

variable (X A B D : ℕ → ℕ → EReal)

/-- The projection, the decay's two parameters and the cotangent as the reference gets them. -/
abbrev inX : F32 S4096x5632 := emat X
abbrev inA : F32 S1x8 := emat A
abbrev inB : F32 S1x8 := emat B
abbrev inD : F32 S4096x128 := emat D

/-- The decay's sum. -/
abbrev sumAt (p j : ℕ) : EReal := X p (5384 + j) + B 0 j

theorem ref_v9 : val_main_v9 (F := Ideal) (inX X) = (emat fun p j => logistic (X p (5376 + j)) : F32 S4096x8) := by
  funext i
  rw [val_main_v9_apply, val_main_v8_apply, val_main_cst_0_apply, val_main_v7_apply, val_main_v6_apply, val_main_cst_apply,
    val_main_v5_apply, val_main_v4_apply, val_main_v0_apply]
  show Ideal.div (Ideal.ofBits .f32 0x3F800000#32) (Ideal.ofBits .f32 0x3F800000#32 + Ideal.exp (-X (i 0).1 (5376 + (i 1).1))) = _
  rw [Gmlp.ofBits_one, show -X (i 0).1 (5376 + (i 1).1) = 0 - X (i 0).1 (5376 + (i 1).1) by rw [sub_eq_add_neg, zero_add]]
  rfl
theorem ref_v36 :
    val_main_v36 (F := Ideal) (inX X) (inD D) = (emat fun p j => gateGrad (D p j) (X p (5376 + j)) : F32 S4096x8) := by
  funext i
  rw [val_main_v36_apply, val_main_v12_apply, val_main_v11_apply, val_main_v10_apply, val_main_cst_1_apply, val_main_v22_apply, ref_v9,
    show (FloatOps.ofBits .f32 0x3F800000#32 : Ideal .f32) = (1 : EReal) from Gmlp.ofBits_one]
  show D (i 0).1 (i 1).1 * (logistic (X (i 0).1 (5376 + (i 1).1)) * (1 - logistic (X (i 0).1 (5376 + (i 1).1)))) = _
  rw [← mul_assoc]
  rfl
theorem ref_v17 : val_main_v17 (F := Ideal) (inX X) (inB B) = (emat (sumAt X B) : F32 S4096x8) := by
  funext i
  have h1 : (i 1).1 < 8 := (i 1).isLt
  rw [val_main_v17_apply, val_main_v16_apply, val_main_v15_apply, val_main_v3_apply, val_main_v1_apply]
  refine congrArg₂ (· + ·) rfl (congrArg (B 0) (Nat.mod_eq_of_lt h1))
theorem ref_v18 : val_main_v18_0 (F := Ideal) (inX X) (inB B) = (emat fun p j => softplus (sumAt X B p j) : F32 S4096x8) := by
  funext i
  rw [val_main_v18_0_apply, val_main_call0_v4_apply, val_main_call0_v6_apply, val_main_call0_v11_apply, val_main_call0_v10_apply,
    val_main_call0_v9_apply, val_main_call0_v8_apply, val_main_call0_v7_apply, val_main_call0_v3_apply, val_main_call0_v1_apply,
    val_main_call0_v5_apply, val_main_call0_v2_apply, val_main_call0_v0_apply, val_main_call0_cst_apply, ref_v17]
  show _ = softplus ((emat (sumAt X B) : F32 S4096x8) i)
  generalize (emat (sumAt X B) : F32 S4096x8) i = z
  show Scalar.select (Ideal.cmp .une (z - Ideal.ofBits .f32 0x00000000#32) (z - Ideal.ofBits .f32 0x00000000#32)) (z + Ideal.ofBits .f32 0x00000000#32)
    (max z (Ideal.ofBits .f32 0x00000000#32) + Ideal.log (1 + Ideal.exp (-(max (z - Ideal.ofBits .f32 0x00000000#32) (-(z - Ideal.ofBits .f32 0x00000000#32)))))) = _
  rw [Gmlp.ofBits_zero, EReal.coe_zero, sub_zero, show Ideal.cmp .une z z = 0#1 by simp [Ideal.cmp],
    show -(max z (-z)) = 0 - max z (-z) by rw [sub_eq_add_neg, zero_add]]
  rfl
theorem ref_slope : val_main_v18_1 (F := Ideal) (inX X) (inB B) = (emat fun p j => logistic (sumAt X B p j) : F32 S4096x8) := by
  funext i
  rw [val_main_v18_1_apply, val_main_call0_v21_apply, val_main_call0_v16_apply, val_main_call0_v20_apply, val_main_call0_v14_apply,
    val_main_call0_v15_apply, val_main_call0_v18_apply, val_main_call0_v19_apply, val_main_call0_v13_apply, val_main_call0_v17_apply,
    val_main_call0_cst_0_apply, val_main_call0_cst_1_apply, val_main_call0_cst_2_apply, val_main_call0_cst_3_apply, ref_v18, ref_v17]
  show _ = logistic (sumAt X B (i 0).1 (i 1).1)
  rw [← slope_form]
  show Ideal.exp (Scalar.select (Ideal.cmp .oeq (sumAt X B (i 0).1 (i 1).1) (Ideal.ofBits .f32 0x7F800000#32)) (Ideal.ofBits .f32 0x00000000#32) (sumAt X B (i 0).1 (i 1).1)
    - Scalar.select (Ideal.cmp .oeq (softplus (sumAt X B (i 0).1 (i 1).1)) (Ideal.ofBits .f32 0x7F800000#32)) (Ideal.ofBits .f32 0x00000000#32) (softplus (sumAt X B (i 0).1 (i 1).1))) = _
  have hs : ∀ w : EReal, Scalar.select (Ideal.cmp .oeq w (Ideal.ofBits .f32 0x7F800000#32)) (Ideal.ofBits .f32 0x00000000#32) w = if w = ⊤ then 0 else w := by
    intro w
    rw [Gmlp.ofBits_zero, EReal.coe_zero, show Ideal.ofBits .f32 0x7F800000#32 = (⊤ : EReal) by simp [Ideal.ofBits, Ideal.ieee]]
    unfold Scalar.select Ideal.cmp
    by_cases h : w = ⊤ <;> simp [h]
  rw [hs, hs]

theorem ref_v30 :
    val_main_v30 (F := Ideal) (inX X) (inA A) (inB B) (inD D)
      = (emat fun p j => sumGrad (D p (8 + j)) (A 0 j) (sumAt X B p j) : F32 S4096x8) := by
  funext i
  have h1 : (i 1).1 < 8 := (i 1).isLt
  rw [val_main_v30_apply, val_main_v25_apply, val_main_v24_apply, val_main_v19_apply, val_main_v14_apply, val_main_v13_apply,
    val_main_v2_apply, val_main_v23_apply, ref_slope]
  show -(Ideal.exp (A 0 ((i 1).1 % 8))) * D (i 0).1 (8 + (i 1).1) * logistic (sumAt X B (i 0).1 (i 1).1) = _
  rw [Nat.mod_eq_of_lt h1, mul_comm (-(Ideal.exp (A 0 (i 1).1))),
    show -(Ideal.exp (A 0 (i 1).1)) = 0 - Ideal.exp (A 0 (i 1).1) by rw [sub_eq_add_neg, zero_add]]
  rfl

/-- The gradient of the rows' lanes. -/
theorem row_reference :
    val_main_v39 (F := Ideal) (inX X) (inA A) (inB B) (inD D)
      = (emat fun p j => if j < 8 then gateGrad (D p j) (X p (5376 + j))
          else if 8 ≤ j ∧ j < 16 then sumGrad (D p (8 + (j - 8))) (A 0 (j - 8)) (sumAt X B p (j - 8)) else 0 : BF16 S4096x128) := by
  funext y
  have hy : (y 1).1 < 128 := (y 1).isLt
  have h0 : (y 0).1 < 4096 := (y 0).isLt
  rw [val_main_v39_apply]
  show val_main_v38 (F := Ideal) (inX X) (inA A) (inB B) (inD D) y = (if (y 1).1 < 8 then gateGrad (D (y 0).1 (y 1).1) (X (y 0).1 (5376 + (y 1).1))
          else if 8 ≤ (y 1).1 ∧ (y 1).1 < 16 then sumGrad (D (y 0).1 (8 + ((y 1).1 - 8))) (A 0 ((y 1).1 - 8)) (sumAt X B (y 0).1 ((y 1).1 - 8)) else 0)
  unfold val_main_v38
  rw [ref_v36, ref_v30]
  by_cases h8 : (y 1).1 < 8
  · rw [if_pos h8, concatenate_apply_piece 1 _ _ y 0 (by show 0 < 3; decide) S4096x8 _ rfl rfl 0 rfl (ix2 (⟨(y 0).1, h0⟩ : Fin 4096) (⟨(y 1).1, h8⟩ : Fin 8))
      (fun b hb => by match b with
        | ⟨0, _⟩ => rfl
        | ⟨1, _⟩ => exact absurd rfl hb) (by show 0 + (y 1).1 = (y 1).1; omega)]
    rfl
  · rw [if_neg h8]
    by_cases h16 : (y 1).1 < 16
    · have hs : (y 1).1 - 8 < 8 := by omega
      rw [if_pos ⟨by omega, h16⟩, concatenate_apply_piece 1 _ _ y 1 (by show 1 < 3; decide) S4096x8 _ rfl rfl 8 rfl (ix2 (⟨(y 0).1, h0⟩ : Fin 4096) (⟨(y 1).1 - 8, hs⟩ : Fin 8))
        (fun b hb => by match b with
          | ⟨0, _⟩ => rfl
          | ⟨1, _⟩ => exact absurd rfl hb) (by show 8 + ((y 1).1 - 8) = (y 1).1; omega)]
      rfl
    · have hs : (y 1).1 - 16 < 112 := by omega
      rw [if_neg (fun h => h16 h.2), concatenate_apply_piece 1 _ _ y 2 (by show 2 < 3; decide) S4096x112 _ rfl rfl 16 rfl (ix2 (⟨(y 0).1, h0⟩ : Fin 4096) (⟨(y 1).1 - 16, hs⟩ : Fin 112))
        (fun b hb => by match b with
          | ⟨0, _⟩ => rfl
          | ⟨1, _⟩ => exact absurd rfl hb) (by show 16 + ((y 1).1 - 16) = (y 1).1; omega)]
      rw [val_main_v37_apply, val_main_cst_6_apply]
      exact Gmlp.ofBits_zero

/-- The bias's gradient. -/
theorem bias_reference :
    val_main_v43 (F := Ideal) (inX X) (inA A) (inB B) (inD D)
      = (emat (placed fun _ j => ∑ p ∈ range 4096, sumGrad (D p (8 + j)) (A 0 j) (sumAt X B p j)) : F32 S1x128) := by
  have e : val_main_v42 (F := Ideal) (inX X) (inA A) (inB B) (inD D)
      = (emat fun _ j => ∑ p ∈ range 4096, sumGrad (D p (8 + j)) (A 0 j) (sumAt X B p j) : F32 S1x8) := by
    funext i
    rw [val_main_v42_apply, val_main_v33_apply, val_main_cst_5_apply, Fin.sum_univ_one, val_main_v32_apply, val_main_v31_apply, val_main_cst_4_apply]
    simp only [ref_v30]
    show Ideal.ofBits .f32 0x00000000#32 + (Ideal.ofBits .f32 0x00000000#32
      + ∑ k : Fin 4096, sumGrad (D k.1 (8 + (0 * 8 + (i 1).1))) (A 0 (0 * 8 + (i 1).1)) (sumAt X B k.1 (0 * 8 + (i 1).1))) = _
    rw [sum_from_zero 4096 fun k => sumGrad (D k (8 + (0 * 8 + (i 1).1))) (A 0 (0 * 8 + (i 1).1)) (sumAt X B k (0 * 8 + (i 1).1)),
      Gmlp.ofBits_zero, EReal.coe_zero, zero_add, show 0 * 8 + (i 1).1 = (i 1).1 by omega]
    rfl
  unfold val_main_v43
  rw [e]
  exact pad_row _ _ Gmlp.zero_scalar
/-- The gradient of the decay's parameter. -/
theorem log_reference :
    val_main_v41 (F := Ideal) (inX X) (inA A) (inB B) (inD D)
      = (emat (placed fun _ j => -(∑ p ∈ range 4096, D p (8 + j) * softplus (sumAt X B p j)) * Ideal.exp (A 0 j)) : F32 S1x128) := by
  have e26 : val_main_v26 (F := Ideal) (inX X) (inB B) (inD D) = (emat fun p j => D p (8 + j) * softplus (sumAt X B p j) : F32 S4096x8) := by
    funext i
    rw [val_main_v26_apply, val_main_v23_apply, ref_v18]
    rfl
  have e : val_main_v40 (F := Ideal) (inX X) (inA A) (inB B) (inD D)
      = (emat fun _ j => -(∑ p ∈ range 4096, D p (8 + j) * softplus (sumAt X B p j)) * Ideal.exp (A 0 j) : F32 S1x8) := by
    funext i
    have h1 : (i 1).1 < 8 := (i 1).isLt
    rw [val_main_v40_apply, val_main_v35_apply, val_main_v34_apply, val_main_v13_apply, val_main_v2_apply, val_main_v29_apply, val_main_cst_3_apply,
      Fin.sum_univ_one, val_main_v28_apply, val_main_v27_apply, val_main_cst_2_apply]
    simp only [e26]
    show -(Ideal.ofBits .f32 0x00000000#32 + (Ideal.ofBits .f32 0x00000000#32
      + ∑ k : Fin 4096, D k.1 (8 + (0 * 8 + (i 1).1)) * softplus (sumAt X B k.1 (0 * 8 + (i 1).1)))) * Ideal.exp (A 0 ((i 1).1 % 8)) = _
    rw [sum_from_zero 4096 fun k => D k (8 + (0 * 8 + (i 1).1)) * softplus (sumAt X B k (0 * 8 + (i 1).1)),
      Gmlp.ofBits_zero, EReal.coe_zero, zero_add, show 0 * 8 + (i 1).1 = (i 1).1 by omega, Nat.mod_eq_of_lt h1]
    rfl
  unfold val_main_v41
  rw [e]
  exact pad_row _ _ Gmlp.zero_scalar

end Cert.Ffn.Gates

end
-- ==== Proof.GatesValue.lean ====
/- The reference's three results of the gates' gradient are the arrays the kernel leaves. Only the gradient of the decay's
   parameter needs an assumption: the reference multiplies a sum over the rows, the kernel its terms. -/
module

public import proofs.«01_k».proof.Proof.GatesReference
public import proofs.«01_k».proof.Proof.Gen.Pre_gates_finite

@[expose] public section

set_option maxRecDepth 16384

noncomputable section

namespace Cert.Ffn.Gates

open Idealize.ShloMosaic Cert.Reference20Ideal.Read
open Finset (range)
open Cert.Ffn.Act (logistic reals entry_reals)
open Cert.Kernel20Ideal (nD τ sig main_arg0 main_arg1 main_arg2 main_arg3 cfg0)
open Cert.Kernel20Ideal.Gen (dats)

/-- The two forms of the gradient of the decay's parameter, of real numbers. -/
theorem log_forms (n : ℕ) (d z : ℕ → EReal) (a : ℝ) (hd : ∀ p < n, ∃ r : ℝ, d p = r) (hz : ∀ p < n, ∃ r : ℝ, z p = r) :
    ∃ r : ℝ, ∑ p ∈ range n, d p * softplus (z p) = r
      ∧ ∑ p ∈ range n, logGrad (d p) a (z p) = ((-r * Real.exp a : ℝ) : EReal) := by
  induction n with
  | zero => exact ⟨0, by simp, by simp⟩
  | succ n ih =>
    obtain ⟨r, h1, h2⟩ := ih (fun p hp => hd p (by omega)) fun p hp => hz p (by omega)
    obtain ⟨d', hd⟩ := hd n (by omega)
    obtain ⟨z', hz⟩ := hz n (by omega)
    have hs := softplus_coe z'
    generalize max z' 0 + Real.log (1 + Real.exp (0 - max z' (-z'))) = s at hs
    refine ⟨r + d' * s, ?_, ?_⟩
    · rw [Finset.sum_range_succ, h1, hd, hz, hs, EReal.coe_add, EReal.coe_mul]
    · rw [Finset.sum_range_succ, h2, hd, hz]
      unfold logGrad
      rw [hs, Ideal.exp_coe, show (0 : EReal) = ((0 : ℝ) : EReal) from rfl, ← EReal.coe_sub, ← EReal.coe_mul, ← EReal.coe_mul, ← EReal.coe_add]
      exact congrArg _ (by ring)

variable (m : (ℓ : Loc nD τ sig) → Buf (Elt Ideal) ℓ) (c : Dev nD)

/-- Each argument is the array of its entries. -/
theorem holds_entries :
    Holds m c (entry (φ := .f32) (m ((c.tc : Thread nD τ).loc main_arg0) : F32 Kernel20Ideal.S4096x5632))
      (entry (φ := .f32) (m ((c.tc : Thread nD τ).loc main_arg1) : F32 Kernel20Ideal.S1x8))
      (entry (φ := .f32) (m ((c.tc : Thread nD τ).loc main_arg2) : F32 Kernel20Ideal.S1x8))
      (entry (φ := .f32) (m ((c.tc : Thread nD τ).loc main_arg3) : F32 Kernel20Ideal.S4096x128)) :=
  ⟨(emat_entry _).symm, (emat_entry _).symm, (emat_entry _).symm, (emat_entry _).symm⟩

/-- Lane `j` of the decay is its column `j - 8`. -/
theorem lane_sum (X B : ℕ → ℕ → EReal) (p j : ℕ) (hj : 8 ≤ j ∧ j < 16) : gates X p j + placed B 0 j = sumAt X B p (j - 8) :=
  congrArg₂ (· + ·) (congrArg (X p) (by omega)) (if_pos hj)

/-- The entries of the rows' gradient, as the reference and as the kernel has them. -/
theorem row_entries (X A B D : ℕ → ℕ → EReal) (p j : ℕ) :
    (if j < 8 then gateGrad (D p j) (X p (5376 + j))
        else if 8 ≤ j ∧ j < 16 then sumGrad (D p (8 + (j - 8))) (A 0 (j - 8)) (sumAt X B p (j - 8)) else 0) = lanesAt X A B D p j := by
  unfold lanesAt lanes decay
  by_cases hj : 8 ≤ j ∧ j < 16
  · rw [if_pos hj, if_pos hj, lane_sum _ _ _ _ hj, show 8 + (j - 8) = j by omega, show placed A 0 j = _ from if_pos hj]
  · rw [if_neg hj, if_neg hj]

/-- The entries of the bias's gradient. -/
theorem bias_entries (X A B D : ℕ → ℕ → EReal) (i j : ℕ) :
    placed (fun _ j => ∑ p ∈ range 4096, sumGrad (D p (8 + j)) (A 0 j) (sumAt X B p j)) i j
      = ∑ p ∈ range 4096, biasAt X A B D p j := by
  by_cases hj : 8 ≤ j ∧ j < 16
  · refine (if_pos hj).trans (Finset.sum_congr rfl fun p _ => Eq.trans ?_ (if_pos hj).symm)
    rw [lane_sum _ _ _ _ hj, show 8 + (j - 8) = j by omega, show placed A 0 j = _ from if_pos hj]
  · exact (if_neg hj).trans (Finset.sum_eq_zero fun p _ => if_neg hj).symm

/-- The reference's gradient of the rows, of the kernel's arguments, is the kernel's array. -/
theorem row_value :
    val_main_v39 (F := Ideal) (m ((c.tc : Thread nD τ).loc main_arg0)) (m ((c.tc : Thread nD τ).loc main_arg1))
        (m ((c.tc : Thread nD τ).loc main_arg2)) (m ((c.tc : Thread nD τ).loc main_arg3))
      = (dats m 0 c).arrAt 4 cfg0.N := by
  have H := holds_entries m c
  rw [row_array H]
  refine Eq.trans ?_ ((row_reference _ _ _ _).trans (emat_congr fun i _ j _ => row_entries _ _ _ _ i j))
  exact congr (congr (congr (congrArg (val_main_v39 (F := Ideal)) H.proj) H.log) H.bias) H.cotangent

/-- The reference's gradient of the bias. -/
theorem bias_value :
    val_main_v43 (F := Ideal) (m ((c.tc : Thread nD τ).loc main_arg0)) (m ((c.tc : Thread nD τ).loc main_arg1))
        (m ((c.tc : Thread nD τ).loc main_arg2)) (m ((c.tc : Thread nD τ).loc main_arg3))
      = (dats m 0 c).arrAt 6 cfg0.N := by
  have H := holds_entries m c
  rw [bias_array H]
  refine Eq.trans ?_ ((bias_reference _ _ _ _).trans (emat_congr fun i _ j _ => bias_entries _ _ _ _ i j))
  exact congr (congr (congr (congrArg (val_main_v43 (F := Ideal)) H.proj) H.log) H.bias) H.cotangent

/-- The entries of the gradient of the decay's parameter. -/
theorem log_entries (X A B D : ℕ → ℕ → EReal) (hx : ∀ p < 4096, ∀ j < 8, ∃ r : ℝ, X p (5384 + j) = r)
    (hd : ∀ p < 4096, ∀ j < 8, ∃ r : ℝ, D p (8 + j) = r) (ha : ∀ i j, ∃ r : ℝ, A i j = r) (hb : ∀ i j, ∃ r : ℝ, B i j = r) (i j : ℕ) :
    placed (fun _ j => -(∑ p ∈ range 4096, D p (8 + j) * softplus (sumAt X B p j)) * Ideal.exp (A 0 j)) i j
      = ∑ p ∈ range 4096, logAt X A B D p j := by
  by_cases hj : 8 ≤ j ∧ j < 16
  · obtain ⟨a, ha⟩ := ha 0 (j - 8)
    obtain ⟨b, hb⟩ := hb 0 (j - 8)
    obtain ⟨r, e1, e2⟩ := log_forms 4096 (fun p => D p (8 + (j - 8))) (fun p => sumAt X B p (j - 8)) a
      (fun p hp => hd p hp _ (by omega)) fun p hp => by
        obtain ⟨x, hx⟩ := hx p hp (j - 8) (by omega)
        exact ⟨x + b, by show X p (5384 + (j - 8)) + B 0 (j - 8) = _; rw [hx, hb, EReal.coe_add]⟩
    refine (if_pos hj).trans ?_
    show -(∑ p ∈ range 4096, D p (8 + (j - 8)) * softplus (sumAt X B p (j - 8))) * Ideal.exp (A 0 (j - 8)) = _
    rw [e1, ha, Ideal.exp_coe, ← EReal.coe_neg, ← EReal.coe_mul, ← e2]
    refine Finset.sum_congr rfl fun p _ => Eq.trans ?_ (if_pos hj).symm
    rw [lane_sum _ _ _ _ hj, show 8 + (j - 8) = j by omega, show placed A 0 j = _ from if_pos hj, ha]
  · refine (if_neg hj).trans (Finset.sum_eq_zero fun p _ => if_neg hj).symm

/-- The reference's gradient of the decay's parameter, under the precondition. -/
theorem log_value (hm : Cert.Pre_Kernel20Ideal_gates_finite m) :
    val_main_v41 (F := Ideal) (m ((c.tc : Thread nD τ).loc main_arg0)) (m ((c.tc : Thread nD τ).loc main_arg1))
        (m ((c.tc : Thread nD τ).loc main_arg2)) (m ((c.tc : Thread nD τ).loc main_arg3))
      = (dats m 0 c).arrAt 5 cfg0.N := by
  obtain ⟨h0, h1, h2, h3⟩ := hm c
  have H := holds_entries m c
  have hx : ∀ p < 4096, ∀ j < 8, ∃ r : ℝ, entry (φ := .f32) (m ((c.tc : Thread nD τ).loc main_arg0) : F32 Kernel20Ideal.S4096x5632) p (5384 + j) = r := by
    intro p hp j hj
    obtain ⟨r, hr⟩ := reals (φ := .f32) (val_main_v1 (F := Ideal) (m ((c.tc : Thread nD τ).loc main_arg0))) (fun i => congrFun h0 i) (ix2 ⟨p, hp⟩ ⟨j, hj⟩)
    refine ⟨r, Eq.trans ?_ hr⟩
    rw [val_main_v1_apply]
    unfold entry
    rw [dif_pos hp, dif_pos (show 5384 + j < 5632 by omega)]
    refine congrArg _ (funext fun a => ?_)
    match a with
    | ⟨0, _⟩ => rfl
    | ⟨1, _⟩ => rfl
  have hd : ∀ p < 4096, ∀ j < 8, ∃ r : ℝ, entry (φ := .f32) (m ((c.tc : Thread nD τ).loc main_arg3) : F32 Kernel20Ideal.S4096x128) p (8 + j) = r := by
    intro p hp j hj
    obtain ⟨r, hr⟩ := reals (φ := .f32) (val_main_v23 (F := Ideal) (m ((c.tc : Thread nD τ).loc main_arg3))) (fun i => congrFun h3 i) (ix2 ⟨p, hp⟩ ⟨j, hj⟩)
    refine ⟨r, Eq.trans ?_ hr⟩
    rw [val_main_v23_apply]
    unfold entry
    rw [dif_pos hp, dif_pos (show 8 + j < 128 by omega)]
    refine congrArg _ (funext fun a => ?_)
    match a with
    | ⟨0, _⟩ => rfl
    | ⟨1, _⟩ => rfl
  rw [log_array H]
  refine Eq.trans ?_ ((log_reference _ _ _ _).trans (emat_congr fun i _ j _ => log_entries _ _ _ _ hx hd
    (entry_reals _ (reals (φ := .f32) _ fun i => congrFun h1 i)) (entry_reals _ (reals (φ := .f32) _ fun i => congrFun h2 i)) i j))
  exact congr (congr (congr (congrArg (val_main_v41 (F := Ideal)) H.proj) H.log) H.bias) H.cotangent

end Cert.Ffn.Gates

end
-- ==== Proof.Accum.lean ====
/- The running sums over the grid: after point `n` the block of the pre-activation gradient holds that point's rows,
   and the four blocks of parameter gradients hold the sums over the points so far. -/
module

public import proofs.«01_k».proof.Proof.Inputs

@[expose] public section

set_option maxRecDepth 16384

noncomputable section

namespace Cert.Gmlp

open Idealize.ShloMosaic TcCoe Tactic Cert.KernelIdeal Cert.KernelIdeal.Gen
open Finset (range)

/-- The mixing matrices' gradient from chunk `n`. -/
def dwsTerm (Z D lg lb : ℕ → ℕ → ℝ) (n q i j : ℕ) : ℝ :=
  tri (fun i j => ∑ k ∈ range 256, dmPart (256 * q) (zuAt D n) (act (zuAt Z n)) i k
    * vln (zvAt Z n) lg lb j (256 * q + k)) i j
/-- The biases' gradient from chunk `n`, one lane per group. -/
def dbsTerm (Z D : ℕ → ℕ → ℝ) (n i j : ℕ) : ℝ := dbsSum (zuAt D n) (act (zuAt Z n)) 8 i j
/-- The gradient of the normalised, scaled and shifted values of chunk `n`. -/
def dvlAt (Z D : ℕ → ℕ → ℝ) (W : ℕ → ℕ → ℕ → ℝ) (n : ℕ) : ℕ → ℕ → ℝ :=
  glue (dvlOf (zuAt D n) (act (zuAt Z n)) W)
/-- The gain's gradient from chunk `n`. -/
def dlgTerm (Z D : ℕ → ℕ → ℝ) (W : ℕ → ℕ → ℕ → ℝ) (n j : ℕ) : ℝ :=
  ∑ k ∈ range 128, dvlAt Z D W n k j * vhat (zvAt Z n) k j
/-- The shift's gradient from chunk `n`. -/
def dlbTerm (Z D : ℕ → ℕ → ℝ) (W : ℕ → ℕ → ℕ → ℝ) (n j : ℕ) : ℝ :=
  ∑ k ∈ range 128, dvlAt Z D W n k j
/-- The pre-activation gradient of chunk `n`. -/
def dzAt (Z D lg lb : ℕ → ℕ → ℝ) (W : ℕ → ℕ → ℕ → ℝ) (B : ℕ → ℕ → ℝ) (n : ℕ) : ℕ → ℕ → ℝ :=
  dzOf (zuAt Z n) (zvAt Z n) (zuAt D n) lg lb W (biasT B)

variable {m : (ℓ : Loc nD τ sig) → Buf (Elt Ideal) ℓ} {c : Dev nD}
variable {Z D lg lb : ℕ → ℕ → ℝ} {W : ℕ → ℕ → ℕ → ℝ} {B : ℕ → ℕ → ℝ}

/-- What the five output blocks hold after point `n`. -/
theorem outs_eq (h : Holds m c Z D lg lb W B) (n : ℕ) (hn : n < cfg0.N) :
    outsAt0 m c n hn =
      ((mat (dzAt Z D lg lb W B n) : BF16 S128x4096),
       (cube fun q i j => ∑ k ∈ range (n + 1), dwsTerm Z D lg lb k q i j : F32 S8x128x128),
       (mat fun i j => ∑ k ∈ range (n + 1), dbsTerm Z D k i j : F32 S128x128),
       (mat fun _ j => ∑ k ∈ range (n + 1), dlgTerm Z D W k j : F32 S1x2048),
       (mat fun _ j => ∑ k ∈ range (n + 1), dlbTerm Z D W k j : F32 S1x2048)) := by
  have hN : cfg0.N = 32 := N_0
  induction n with
  | zero =>
    refine (outsAt0_A m c ⟨0, hn⟩ rfl).trans ?_
    simp only [iblk_0 h, iblk_1 h, iblk_2 h, iblk_3 h, iblk_4 h, iblk_5 h, iblk_6 h]
    refine congrArg₂ Prod.mk ?_ (congrArg₂ Prod.mk ?_ (congrArg₂ Prod.mk ?_ (congrArg₂ Prod.mk ?_ ?_)))
    · exact out_A_7 ..
    · refine (out_A_8 ..).trans (cube_congr fun q _ i _ j _ => ?_)
      rw [zero_add, Finset.sum_range_one]; exact zero_add _
    · refine (out_A_9 ..).trans (mat_congr fun i _ j _ => ?_)
      rw [zero_add, zero_add, Finset.sum_range_one]; rfl
    · refine (out_A_10 ..).trans (mat_congr fun i _ j _ => ?_)
      rw [zero_add, zero_add, Finset.sum_range_one]; rfl
    · refine (out_A_11 ..).trans (mat_congr fun i _ j _ => ?_)
      rw [zero_add, zero_add, Finset.sum_range_one]; rfl
  | succ n ih =>
    refine (outsAt0_B m c ⟨n + 1, hn⟩ (by show ¬ (n + 1) % 32 = 0; omega)).trans ?_
    have ih' := ih (by omega)
    simp only [Nat.add_sub_cancel, ih']
    simp only [iblk_0 h, iblk_1 h, iblk_2 h, iblk_3 h, iblk_4 h, iblk_5 h, iblk_6 h]
    refine congrArg₂ Prod.mk ?_ (congrArg₂ Prod.mk ?_ (congrArg₂ Prod.mk ?_ (congrArg₂ Prod.mk ?_ ?_)))
    · exact out_B_7 ..
    · refine (out_B_8 ..).trans (cube_congr fun q _ i _ j _ => ?_)
      exact (Finset.sum_range_succ _ _).symm
    · refine (out_B_9 ..).trans (mat_congr fun i _ j _ => ?_)
      exact (Finset.sum_range_succ _ _).symm
    · refine (out_B_10 ..).trans (mat_congr fun i _ j _ => ?_)
      exact (Finset.sum_range_succ _ _).symm
    · refine (out_B_11 ..).trans (mat_congr fun i _ j _ => ?_)
      exact (Finset.sum_range_succ _ _).symm

end Cert.Gmlp

end
-- ==== Proof.Arrays.lean ====
/- What the five result arrays hold after the last grid point, when the arguments hold real numbers. -/
module

public import proofs.«01_k».proof.Proof.Accum

@[expose] public section

set_option maxRecDepth 16384

noncomputable section

namespace Cert.Gmlp

open Idealize.ShloMosaic TcCoe Tactic Cert.KernelIdeal Cert.KernelIdeal.Gen
open Finset (range)

variable {m : (ℓ : Loc nD τ sig) → Buf (Elt Ideal) ℓ} {c : Dev nD}
variable {Z D lg lb : ℕ → ℕ → ℝ} {W : ℕ → ℕ → ℕ → ℝ} {B : ℕ → ℕ → ℝ}

theorem index_7 : ∀ t : Fin cfg0.N, win0_7.index t 0 = t.1 ∧ win0_7.index t 1 = 0 := by decide +kernel
theorem index_8 : ∀ t : Fin cfg0.N, win0_8.index t 0 = 0 ∧ win0_8.index t 1 = 0 ∧ win0_8.index t 2 = 0 := by
  decide +kernel
theorem index_9 : ∀ t : Fin cfg0.N, win0_9.index t 0 = 0 ∧ win0_9.index t 1 = 0 := by decide +kernel
theorem index_10 : ∀ t : Fin cfg0.N, win0_10.index t 0 = 0 ∧ win0_10.index t 1 = 0 := by decide +kernel
theorem index_11 : ∀ t : Fin cfg0.N, win0_11.index t 0 = 0 ∧ win0_11.index t 1 = 0 := by decide +kernel

/-- The whole pre-activation gradient: row `r` is row `r % 128` of chunk `r / 128`. -/
def dzAll (Z D lg lb : ℕ → ℕ → ℝ) (W : ℕ → ℕ → ℕ → ℝ) (B : ℕ → ℕ → ℝ) (r j : ℕ) : ℝ :=
  dzAt Z D lg lb W B (r / 128) (r % 128) j

theorem arr_7 (h : Holds m c Z D lg lb W B) :
    (dats m 0 c).arrAt 7 cfg0.N
      = (mat (dzAll Z D lg lb W B) : BF16 S4096x4096) := by
  have hN : cfg0.N = 32 := N_0
  refine (dats m 0 c).arrAt_eq_of_cover 7 (mat (dzAll Z D lg lb W B) : BF16 S4096x4096)
    (fun t _ => ?_) fun i => ?_
  · rw [KernelIdeal.Value.flushed7, outs_eq h]
    funext y
    have hy : (y 0).1 < 128 := (y 0).isLt
    rw [View.read_apply]
    show ((dzAt Z D lg lb W B t.1 (y 0).1 (y 1).1 : ℝ) : EReal)
      = ((dzAll Z D lg lb W B (win0_7.index t 0 * 128 + 1 * (y 0).1) (win0_7.index t 1 * 4096 + 1 * (y 1).1) : ℝ) : EReal)
    rw [(index_7 t).1, (index_7 t).2]
    unfold dzAll
    rw [show (t.1 * 128 + 1 * (y 0).1) / 128 = t.1 by omega,
      show (t.1 * 128 + 1 * (y 0).1) % 128 = (y 0).1 by omega, show 0 * 4096 + 1 * (y 1).1 = (y 1).1 by omega]
  · have h0 : (i 0 : Nat) < 4096 := (i 0).isLt
    have h1 : (i 1 : Nat) < 4096 := (i 1).isLt
    have hl : (i 0).1 / 128 < cfg0.N := by omega
    refine ⟨⟨(i 0).1 / 128, hl⟩, flush0_7 _, ?_⟩
    show i ∈ ((View.whole main_v2_0).slice (win0_7.rect (⟨(i 0).1 / 128, hl⟩ : Fin cfg0.N))).set
    rw [View.set_slice_whole, Rect.mem_set_unit]
    intro a
    match a with
    | ⟨0, _⟩ =>
      show win0_7.index (⟨(i 0).1 / 128, hl⟩ : Fin cfg0.N) 0 * 128 ≤ (i 0 : Nat)
        ∧ (i 0 : Nat) < win0_7.index (⟨(i 0).1 / 128, hl⟩ : Fin cfg0.N) 0 * 128 + 128
      rw [(index_7 _).1]; dsimp only; omega
    | ⟨1, _⟩ =>
      show win0_7.index (⟨(i 0).1 / 128, hl⟩ : Fin cfg0.N) 1 * 4096 ≤ (i 1 : Nat)
        ∧ (i 1 : Nat) < win0_7.index (⟨(i 0).1 / 128, hl⟩ : Fin cfg0.N) 1 * 4096 + 4096
      rw [(index_7 _).2]; omega

theorem arr_8 (h : Holds m c Z D lg lb W B) :
    (dats m 0 c).arrAt 8 cfg0.N = (cube fun q i j => ∑ k ∈ range 32, dwsTerm Z D lg lb k q i j : F32 S8x128x128) := by
  have hN : cfg0.N = 32 := N_0
  refine (dats m 0 c).arrAt_eq_of_cover 8 (cube fun q i j => ∑ k ∈ range 32, dwsTerm Z D lg lb k q i j : F32 S8x128x128) (fun t hf => ?_) fun i => ?_
  · have ht : t.1 = 31 := by have := (flush0_8 t).mp hf; have := t.isLt; omega
    rw [KernelIdeal.Value.flushed8, outs_eq h]
    funext y
    rw [View.read_apply]
    show (((∑ k ∈ range (t.1 + 1), dwsTerm Z D lg lb k (y 0).1 (y 1).1 (y 2).1) : ℝ) : EReal) = (((∑ k ∈ range (32), dwsTerm Z D lg lb k (win0_8.index t 0 * 8 + 1 * (y 0).1) (win0_8.index t 1 * 128 + 1 * (y 1).1) (win0_8.index t 2 * 128 + 1 * (y 2).1)) : ℝ) : EReal)
    rw [ht, (index_8 t).1, (index_8 t).2.1, (index_8 t).2.2, show 0 * 8 + 1 * (y 0).1 = (y 0).1 by omega, show 0 * 128 + 1 * (y 1).1 = (y 1).1 by omega, show 0 * 128 + 1 * (y 2).1 = (y 2).1 by omega]
  · have hl : 31 < cfg0.N := by omega
    refine ⟨⟨31, hl⟩, (flush0_8 _).mpr rfl, ?_⟩
    show i ∈ ((View.whole main_v2_1).slice (win0_8.rect (⟨31, hl⟩ : Fin cfg0.N))).set
    rw [View.set_slice_whole, Rect.mem_set_unit]
    intro a
    match a with
    | ⟨0, _⟩ =>
      have := (i 0).isLt
      show win0_8.index (⟨31, hl⟩ : Fin cfg0.N) 0 * 8 ≤ (i 0 : Nat)
        ∧ (i 0 : Nat) < win0_8.index (⟨31, hl⟩ : Fin cfg0.N) 0 * 8 + 8
      rw [(index_8 _).1]
      exact ⟨by omega, by rw [Nat.zero_mul, Nat.zero_add]; exact (i 0).isLt⟩
    | ⟨1, _⟩ =>
      have := (i 1).isLt
      show win0_8.index (⟨31, hl⟩ : Fin cfg0.N) 1 * 128 ≤ (i 1 : Nat)
        ∧ (i 1 : Nat) < win0_8.index (⟨31, hl⟩ : Fin cfg0.N) 1 * 128 + 128
      rw [(index_8 _).2.1]
      exact ⟨by omega, by rw [Nat.zero_mul, Nat.zero_add]; exact (i 1).isLt⟩
    | ⟨2, _⟩ =>
      have := (i 2).isLt
      show win0_8.index (⟨31, hl⟩ : Fin cfg0.N) 2 * 128 ≤ (i 2 : Nat)
        ∧ (i 2 : Nat) < win0_8.index (⟨31, hl⟩ : Fin cfg0.N) 2 * 128 + 128
      rw [(index_8 _).2.2]
      exact ⟨by omega, by rw [Nat.zero_mul, Nat.zero_add]; exact (i 2).isLt⟩

theorem arr_9 (h : Holds m c Z D lg lb W B) :
    (dats m 0 c).arrAt 9 cfg0.N = (mat fun i j => ∑ k ∈ range 32, dbsTerm Z D k i j : F32 S128x128) := by
  have hN : cfg0.N = 32 := N_0
  refine (dats m 0 c).arrAt_eq_of_cover 9 (mat fun i j => ∑ k ∈ range 32, dbsTerm Z D k i j : F32 S128x128) (fun t hf => ?_) fun i => ?_
  · have ht : t.1 = 31 := by have := (flush0_9 t).mp hf; have := t.isLt; omega
    rw [KernelIdeal.Value.flushed9, outs_eq h]
    funext y
    rw [View.read_apply]
    show (((∑ k ∈ range (t.1 + 1), dbsTerm Z D k (y 0).1 (y 1).1) : ℝ) : EReal) = (((∑ k ∈ range (32), dbsTerm Z D k (win0_9.index t 0 * 128 + 1 * (y 0).1) (win0_9.index t 1 * 128 + 1 * (y 1).1)) : ℝ) : EReal)
    rw [ht, (index_9 t).1, (index_9 t).2, show 0 * 128 + 1 * (y 0).1 = (y 0).1 by omega, show 0 * 128 + 1 * (y 1).1 = (y 1).1 by omega]
  · have hl : 31 < cfg0.N := by omega
    refine ⟨⟨31, hl⟩, (flush0_9 _).mpr rfl, ?_⟩
    show i ∈ ((View.whole main_v2_2).slice (win0_9.rect (⟨31, hl⟩ : Fin cfg0.N))).set
    rw [View.set_slice_whole, Rect.mem_set_unit]
    intro a
    match a with
    | ⟨0, _⟩ =>
      have := (i 0).isLt
      show win0_9.index (⟨31, hl⟩ : Fin cfg0.N) 0 * 128 ≤ (i 0 : Nat)
        ∧ (i 0 : Nat) < win0_9.index (⟨31, hl⟩ : Fin cfg0.N) 0 * 128 + 128
      rw [(index_9 _).1]
      exact ⟨by omega, by rw [Nat.zero_mul, Nat.zero_add]; exact (i 0).isLt⟩
    | ⟨1, _⟩ =>
      have := (i 1).isLt
      show win0_9.index (⟨31, hl⟩ : Fin cfg0.N) 1 * 128 ≤ (i 1 : Nat)
        ∧ (i 1 : Nat) < win0_9.index (⟨31, hl⟩ : Fin cfg0.N) 1 * 128 + 128
      rw [(index_9 _).2]
      exact ⟨by omega, by rw [Nat.zero_mul, Nat.zero_add]; exact (i 1).isLt⟩

theorem arr_10 (h : Holds m c Z D lg lb W B) :
    (dats m 0 c).arrAt 10 cfg0.N = (mat fun _ j => ∑ k ∈ range 32, dlgTerm Z D W k j : F32 S1x2048) := by
  have hN : cfg0.N = 32 := N_0
  refine (dats m 0 c).arrAt_eq_of_cover 10 (mat fun _ j => ∑ k ∈ range 32, dlgTerm Z D W k j : F32 S1x2048) (fun t hf => ?_) fun i => ?_
  · have ht : t.1 = 31 := by have := (flush0_10 t).mp hf; have := t.isLt; omega
    rw [KernelIdeal.Value.flushed10, outs_eq h]
    funext y
    rw [View.read_apply]
    show (((∑ k ∈ range (t.1 + 1), dlgTerm Z D W k (y 1).1) : ℝ) : EReal) = (((∑ k ∈ range (32), dlgTerm Z D W k (win0_10.index t 1 * 2048 + 1 * (y 1).1)) : ℝ) : EReal)
    rw [ht, (index_10 t).2, show 0 * 2048 + 1 * (y 1).1 = (y 1).1 by omega]
  · have hl : 31 < cfg0.N := by omega
    refine ⟨⟨31, hl⟩, (flush0_10 _).mpr rfl, ?_⟩
    show i ∈ ((View.whole main_v2_3).slice (win0_10.rect (⟨31, hl⟩ : Fin cfg0.N))).set
    rw [View.set_slice_whole, Rect.mem_set_unit]
    intro a
    match a with
    | ⟨0, _⟩ =>
      have := (i 0).isLt
      show win0_10.index (⟨31, hl⟩ : Fin cfg0.N) 0 * 1 ≤ (i 0 : Nat)
        ∧ (i 0 : Nat) < win0_10.index (⟨31, hl⟩ : Fin cfg0.N) 0 * 1 + 1
      rw [(index_10 _).1]
      exact ⟨by omega, by rw [Nat.zero_mul, Nat.zero_add]; exact (i 0).isLt⟩
    | ⟨1, _⟩ =>
      have := (i 1).isLt
      show win0_10.index (⟨31, hl⟩ : Fin cfg0.N) 1 * 2048 ≤ (i 1 : Nat)
        ∧ (i 1 : Nat) < win0_10.index (⟨31, hl⟩ : Fin cfg0.N) 1 * 2048 + 2048
      rw [(index_10 _).2]
      exact ⟨by omega, by rw [Nat.zero_mul, Nat.zero_add]; exact (i 1).isLt⟩

theorem arr_11 (h : Holds m c Z D lg lb W B) :
    (dats m 0 c).arrAt 11 cfg0.N = (mat fun _ j => ∑ k ∈ range 32, dlbTerm Z D W k j : F32 S1x2048) := by
  have hN : cfg0.N = 32 := N_0
  refine (dats m 0 c).arrAt_eq_of_cover 11 (mat fun _ j => ∑ k ∈ range 32, dlbTerm Z D W k j : F32 S1x2048) (fun t hf => ?_) fun i => ?_
  · have ht : t.1 = 31 := by have := (flush0_11 t).mp hf; have := t.isLt; omega
    rw [KernelIdeal.Value.flushed11, outs_eq h]
    funext y
    rw [View.read_apply]
    show (((∑ k ∈ range (t.1 + 1), dlbTerm Z D W k (y 1).1) : ℝ) : EReal) = (((∑ k ∈ range (32), dlbTerm Z D W k (win0_11.index t 1 * 2048 + 1 * (y 1).1)) : ℝ) : EReal)
    rw [ht, (index_11 t).2, show 0 * 2048 + 1 * (y 1).1 = (y 1).1 by omega]
  · have hl : 31 < cfg0.N := by omega
    refine ⟨⟨31, hl⟩, (flush0_11 _).mpr rfl, ?_⟩
    show i ∈ ((View.whole main_v2_4).slice (win0_11.rect (⟨31, hl⟩ : Fin cfg0.N))).set
    rw [View.set_slice_whole, Rect.mem_set_unit]
    intro a
    match a with
    | ⟨0, _⟩ =>
      have := (i 0).isLt
      show win0_11.index (⟨31, hl⟩ : Fin cfg0.N) 0 * 1 ≤ (i 0 : Nat)
        ∧ (i 0 : Nat) < win0_11.index (⟨31, hl⟩ : Fin cfg0.N) 0 * 1 + 1
      rw [(index_11 _).1]
      exact ⟨by omega, by rw [Nat.zero_mul, Nat.zero_add]; exact (i 0).isLt⟩
    | ⟨1, _⟩ =>
      have := (i 1).isLt
      show win0_11.index (⟨31, hl⟩ : Fin cfg0.N) 1 * 2048 ≤ (i 1 : Nat)
        ∧ (i 1 : Nat) < win0_11.index (⟨31, hl⟩ : Fin cfg0.N) 1 * 2048 + 2048
      rw [(index_11 _).2]
      exact ⟨by omega, by rw [Nat.zero_mul, Nat.zero_add]; exact (i 1).isLt⟩

end Cert.Gmlp

end
-- ==== Proof.RefForward.lean ====
/- What the reference's forward part computes when its arguments hold real numbers: the activation of both halves and
   the normalisation of the second, stage by stage. -/
module

public import proofs.«01_k».proof.Proof.Model
public import proofs.«01_k».proof.Proof.Gen.ReferenceIdeal.Read

@[expose] public section

noncomputable section

namespace Cert.Gmlp

open Idealize.ShloMosaic Idealize.ShloMosaic.TcCoe Cert.ReferenceIdeal Cert.ReferenceIdeal.Gen Cert.ReferenceIdeal.Read
open Finset (range)

variable (Z D lg lb : ℕ → ℕ → ℝ) (W : ℕ → ℕ → ℕ → ℝ) (B : ℕ → ℕ → ℝ)

/-- The second half of the columns. -/
def half (Z : ℕ → ℕ → ℝ) (r j : ℕ) : ℝ := Z r (2048 + j)

/-- The host's square root of two. -/
theorem s2 (i : S_.Idx) : val_main_v2 (F := Ideal) i = ((Real.sqrt 2 : ℝ) : EReal) := by
  rw [val_main_v2_apply, val_main_cst_0_apply]
  show Ideal.sqrt (Ideal.ofBits .f32 0x40000000#32) = _
  rw [ofBits_two, Ideal.sqrt_coe, if_neg (by norm_num)]

/-- Division of a real by a nonzero real. -/
theorem div_real (x y : ℝ) (h : y ≠ 0) : Ideal.div ((x : ℝ) : EReal) ((y : ℝ) : EReal) = ((x / y : ℝ) : EReal) := by
  rw [Ideal.div_coe h, ← EReal.coe_mul, mul_one_div]

/-- Two over the square root of π, with π as four times the arctangent of one. -/
theorem s9 (i : S_.Idx) : val_main_v9 (F := Ideal) i = ((2 / Real.sqrt Real.pi : ℝ) : EReal) := by
  rw [val_main_v9_apply, val_main_cst_3_apply, val_main_v8_apply, val_main_v6_apply, val_main_cst_2_apply,
    val_main_v5_apply, val_main_cst_1_apply]
  show Ideal.div (Ideal.ofBits .f32 0x40000000#32)
    (Ideal.sqrt (Ideal.ofBits .f32 0x40800000#32 * Ideal.atan (Ideal.ofBits .f32 0x3F800000#32))) = _
  rw [ofBits_two, ofBits_four, ofBits_one, Ideal.atan_coe, ← EReal.coe_mul, Real.arctan_one,
    show (4 : ℝ) * (Real.pi / 4) = Real.pi by ring, Ideal.sqrt_coe, if_neg (not_lt.mpr Real.pi_pos.le),
    div_real _ _ (Real.sqrt_pos.mpr Real.pi_pos).ne']

/-- A sum over a range from a zero start, over the ideal values. -/
theorem zero_sum (n : ℕ) (f : ℕ → ℝ) :
    Ideal.ofBits .f32 0x00000000#32 + ∑ k : Fin n, ((f k.1 : ℝ) : EReal)
      = ((∑ k ∈ range n, f k : ℝ) : EReal) := by
  rw [ofBits_zero, coe_sum, ← EReal.coe_add, zero_add]

theorem s1 : val_main_v1 (F := Ideal) (mat Z : F32 S4096x4096) = (mat fun r j => 1 / 2 * Z r j : F32 S4096x4096) := by
  funext i
  rw [val_main_v1_apply, val_main_v0_apply, val_main_cst_apply]
  show Ideal.ofBits .f32 0x3F000000#32 * _ = _
  rw [ofBits_half]; rfl

theorem s4 : val_main_v4 (F := Ideal) (mat Z : F32 S4096x4096) = (mat fun r j => Z r j * c1 : F32 S4096x4096) := by
  funext i
  rw [val_main_v4_apply, val_main_v3_apply, s2]
  show Ideal.div ((Z (i 0).1 (i 1).1 : ℝ) : EReal) _ = _
  rw [div_real _ _ (by positivity), div_eq_mul_inv]; rfl

theorem s7 : val_main_v7 (F := Ideal) (mat Z : F32 S4096x4096) = (mat fun r j => rerf (Z r j * c1) : F32 S4096x4096) := by
  unfold val_main_v7
  rw [s4]; rfl

theorem s12 : val_main_v12 (F := Ideal) (mat Z : F32 S4096x4096) = (mat fun r j => Real.exp (-(Z r j * c1 * (Z r j * c1))) : F32 S4096x4096) := by
  unfold val_main_v12 val_main_v11 val_main_v10
  rw [s4]; rfl

theorem s14 : val_main_v14 (F := Ideal) (mat Z : F32 S4096x4096) = (mat fun r j => 1 + rerf (Z r j * c1) : F32 S4096x4096) := by
  funext i
  rw [val_main_v14_apply, val_main_v13_apply, val_main_cst_4_apply, s7]
  show Ideal.ofBits .f32 0x3F800000#32 + _ = _
  rw [ofBits_one]; rfl

/-- The activation. -/
theorem s15 : val_main_v15 (F := Ideal) (mat Z : F32 S4096x4096) = (mat (act Z) : F32 S4096x4096) := by
  unfold val_main_v15
  rw [s1, s14]; rfl

theorem s16 : val_main_v16 (F := Ideal) (mat Z : F32 S4096x4096) = (mat (act Z) : F32 S4096x2048) := by
  funext i
  rw [val_main_v16_apply, s15]; rfl

theorem s17 : val_main_v17 (F := Ideal) (mat Z : F32 S4096x4096) = (mat (act (half Z)) : F32 S4096x2048) := by
  funext i
  rw [val_main_v17_apply, s15]; rfl

theorem s18 : val_main_v18 (F := Ideal) (mat Z : F32 S4096x4096) = (vec fun r => ∑ k ∈ range 2048, act (half Z) r k : F32 S4096) := by
  funext i
  rw [val_main_v18_apply, s17, val_main_cst_5_apply]
  exact zero_sum 2048 fun k => act (half Z) (i 0).1 k

/-- The mean of a row. -/
theorem s21 : val_main_v21 (F := Ideal) (mat Z : F32 S4096x4096) = (mat fun r _ => (∑ k ∈ range 2048, act (half Z) r k) / 2048 : F32 S4096x1) := by
  funext i
  rw [val_main_v21_apply, val_main_v20_apply, val_main_cst_6_apply, val_main_v19_apply, s18]
  show Ideal.div (((∑ k ∈ range 2048, act (half Z) (i 0).1 k : ℝ)) : EReal) (Ideal.ofBits .f32 0x45000000#32) = _
  rw [ofBits_2048, div_real _ _ (by norm_num)]; rfl

/-- The row less its mean. -/
theorem s23 : val_main_v23 (F := Ideal) (mat Z : F32 S4096x4096) = (mat (ctr (half Z)) : F32 S4096x2048) := by
  funext i
  rw [val_main_v23_apply, val_main_v22_apply, s17, s21]; rfl

theorem s32 : val_main_v32 (F := Ideal) (mat Z : F32 S4096x4096) = (mat (ctr (half Z)) : F32 S4096x2048) := by
  funext i
  rw [val_main_v32_apply, val_main_v31_apply, s17, s21]; rfl

theorem s26 : val_main_v26 (F := Ideal) (mat Z : F32 S4096x4096) = (mat fun r j => 2 * ctr (half Z) r j : F32 S4096x2048) := by
  funext i
  rw [val_main_v26_apply, val_main_v25_apply, val_main_cst_7_apply, s23]
  show Ideal.ofBits .f32 0x40000000#32 * _ = _
  rw [ofBits_two]; rfl

theorem s24 : val_main_v24 (F := Ideal) (mat Z : F32 S4096x4096) = (mat fun r j => ctr (half Z) r j * ctr (half Z) r j : F32 S4096x2048) := by
  unfold val_main_v24
  rw [s23]; rfl

theorem s27 : val_main_v27 (F := Ideal) (mat Z : F32 S4096x4096) = (vec fun r => ∑ k ∈ range 2048, ctr (half Z) r k * ctr (half Z) r k : F32 S4096) := by
  funext i
  rw [val_main_v27_apply, s24, val_main_cst_8_apply]
  exact zero_sum 2048 fun k => ctr (half Z) (i 0).1 k * ctr (half Z) (i 0).1 k

/-- The variance of a row, with the small constant. -/
def vare (Z : ℕ → ℕ → ℝ) (r : ℕ) : ℝ := (∑ k ∈ range 2048, ctr Z r k * ctr Z r k) / 2048 + eps
theorem vare_pos (Z : ℕ → ℕ → ℝ) (r : ℕ) : 0 < vare Z r :=
  add_pos_of_nonneg_of_pos (div_nonneg (Finset.sum_nonneg fun _ _ => mul_self_nonneg _) (by norm_num)) eps_pos

theorem s34 : val_main_v34 (F := Ideal) (mat Z : F32 S4096x4096) = (mat fun r _ => vare (half Z) r : F32 S4096x1) := by
  funext i
  rw [val_main_v34_apply, val_main_v33_apply, val_main_cst_10_apply, val_main_v30_apply, val_main_v29_apply,
    val_main_cst_9_apply, val_main_v28_apply, s27]
  show Ideal.div (((∑ k ∈ range 2048, ctr (half Z) (i 0).1 k * ctr (half Z) (i 0).1 k : ℝ)) : EReal)
    (Ideal.ofBits .f32 0x45000000#32) + Ideal.ofBits .f32 0x358637BD#32 = _
  rw [ofBits_2048, ofBits_eps, div_real _ _ (by norm_num)]; rfl

/-- The reciprocal standard deviation. -/
theorem s35 : val_main_v35 (F := Ideal) (mat Z : F32 S4096x4096) = (mat fun r _ => rs (half Z) r : F32 S4096x1) := by
  funext i
  rw [val_main_v35_apply, s34]
  show Ideal.rsqrt ((vare (half Z) (i 0).1 : ℝ) : EReal) = _
  rw [Ideal.rsqrt_coe, if_neg (not_lt.mpr (vare_pos _ _).le), if_neg (vare_pos _ _).ne']; rfl

theorem s38 : val_main_v38 (F := Ideal) (mat Z : F32 S4096x4096) = (mat fun r _ => -(1 / 2) * (rs (half Z) r / vare (half Z) r) : F32 S4096x1) := by
  funext i
  rw [val_main_v38_apply, val_main_v37_apply, val_main_cst_11_apply, val_main_v36_apply, s35, s34]
  show Ideal.ofBits .f32 0xBF000000#32
    * Ideal.div ((rs (half Z) (i 0).1 : ℝ) : EReal) ((vare (half Z) (i 0).1 : ℝ) : EReal) = _
  rw [ofBits_neg_half, div_real _ _ (vare_pos _ _).ne']; rfl

/-- The normalised row. -/
theorem s40 : val_main_v40 (F := Ideal) (mat Z : F32 S4096x4096) = (mat (vhat (half Z)) : F32 S4096x2048) := by
  funext i
  rw [val_main_v40_apply, val_main_v39_apply, s32, s35]; rfl

/-- … with its gain and shift. -/
theorem s44 : val_main_v44 (F := Ideal) (mat Z : F32 S4096x4096) (mat lg : F32 S1x2048) (mat lb : F32 S1x2048) = (mat (vln (half Z) lg lb) : F32 S4096x2048) := by
  funext i
  rw [val_main_v44_apply, val_main_v43_apply, val_main_v42_apply, val_main_v41_apply, s40]; rfl

end Cert.Gmlp

end
-- ==== Proof.RefMix.lean ====
/- What the reference's mixing and its cotangents hold: the mixed rows, the gradients of the weights and of the
biases, and the cotangent of the normalised rows. -/
module

public import proofs.«01_k».proof.Proof.RefForward
public import proofs.«01_k».proof.Proof.Pad
public import Idealize.ShloMosaic.Lib.TwoAxisContraction

@[expose] public section

noncomputable section

namespace Cert.Gmlp

open Idealize.ShloMosaic Cert.ReferenceIdeal Cert.ReferenceIdeal.Gen Cert.ReferenceIdeal.Read
open Finset (range)

variable (Z D lg lb : ℕ → ℕ → ℝ) (W : ℕ → ℕ → ℕ → ℝ) (B : ℕ → ℕ → ℝ)

/-- The row-major place of a column of a group and of a row of a block. -/
theorem flat_row (n s g c : ℕ) (hs : s < 128) (hg : g < 8) (hc : c < 256) :
    (((n * 128 + s) * 8 + g) * 256 + c) / 2048 = 128 * n + s
      ∧ (((n * 128 + s) * 8 + g) * 256 + c) % 2048 = 256 * g + c := by omega
theorem flat_quad (r j : ℕ) (hr : r < 4096) (hj : j < 2048) :
    (r * 2048 + j) / 262144 = r / 128 ∧ (r * 2048 + j) / 2048 % 128 = r % 128
      ∧ (r * 2048 + j) / 256 % 8 = j / 256 ∧ (r * 2048 + j) % 256 = j % 256 := by omega

/-- A sum of reals over a range, over the ideal values. -/
theorem coe_range (n : ℕ) (f : ℕ → ℝ) :
    ∑ k ∈ range n, ((f k : ℝ) : EReal) = ((∑ k ∈ range n, f k : ℝ) : EReal) := by
  rw [← coe_sum, Finset.sum_range]

/-- A rank-four array of reals, its entries a function of the four coordinates. -/
def quad {a b c d : ℕ} (f : ℕ → ℕ → ℕ → ℕ → ℝ) : FVec Ideal ⟨4, ![a, b, c, d]⟩ .f32 :=
  fun i => ((f (i 0).1 (i 1).1 (i 2).1 (i 3).1 : ℝ) : EReal)

theorem quad_congr {a b c d : ℕ} {f g : ℕ → ℕ → ℕ → ℕ → ℝ}
    (h : ∀ n < a, ∀ s < b, ∀ q < c, ∀ k < d, f n s q k = g n s q k) :
    (quad f : FVec Ideal ⟨4, ![a, b, c, d]⟩ .f32) = quad g := by
  funext i
  show ((f _ _ _ _ : ℝ) : EReal) = ((g _ _ _ _ : ℝ) : EReal)
  rw [h _ (i 0).isLt _ (i 1).isLt _ (i 2).isLt _ (i 3).isLt]

/-- A sum over the first and the last of four axes. -/
theorem sum_outer {a b c d : ℕ} (f : ℕ → ℕ → ℕ → ℕ → ℝ)
    (h : Shape.ReducesTo (⟨4, ![a, b, c, d]⟩ : Shape) [0, 3] ⟨2, ![b, c]⟩) (init : Ideal .f32) (h0 : init = 0) :
    Ideal.hostReduceAdd h (quad f : FVec Ideal ⟨4, ![a, b, c, d]⟩ .f32) init
      = (mat fun s g => ∑ n ∈ range a, ∑ k ∈ range d, f n s g k : FVec Ideal ⟨2, ![b, c]⟩ .f32) := by
  funext j
  show init + ∑ i ∈ Finset.univ.filter (fun i => h.drop i = j), _ = _
  rw [h0, zero_add]
  have e0 : ∀ i : (⟨4, ![a, b, c, d]⟩ : Shape).Idx, (h.drop i 0).1 = (i 1).1 := fun i => rfl
  have e1 : ∀ i : (⟨4, ![a, b, c, d]⟩ : Shape).Idx, (h.drop i 1).1 = (i 2).1 := fun i => rfl
  have hb : ∑ i ∈ Finset.univ.filter (fun i => h.drop i = j), (quad f : FVec Ideal ⟨4, ![a, b, c, d]⟩ .f32) i
      = ∑ p : Fin a × Fin d, ((f p.1.val (j 0).1 (j 1).1 p.2.val : ℝ) : EReal) := by
    refine Finset.sum_bij' (fun i _ => ((⟨(i 0).1, (i 0).isLt⟩ : Fin a), (⟨(i 3).1, (i 3).isLt⟩ : Fin d)))
      (fun p _ => fun x => match x with
        | ⟨0, _⟩ => (⟨p.1.val, p.1.isLt⟩ : Fin a)
        | ⟨1, _⟩ => (⟨(j 0).1, (j 0).isLt⟩ : Fin b)
        | ⟨2, _⟩ => (⟨(j 1).1, (j 1).isLt⟩ : Fin c)
        | ⟨3, _⟩ => (⟨p.2.val, p.2.isLt⟩ : Fin d)) ?_ ?_ ?_ ?_ ?_
    · intro i _; exact Finset.mem_univ _
    · intro p _
      refine Finset.mem_filter.mpr ⟨Finset.mem_univ _, ?_⟩
      funext x
      match x with
      | ⟨0, _⟩ => exact Fin.ext rfl
      | ⟨1, _⟩ => exact Fin.ext rfl
    · intro i hi
      have hj := (Finset.mem_filter.mp hi).2
      subst hj
      funext x
      match x with
      | ⟨0, _⟩ => rfl
      | ⟨1, _⟩ => exact Fin.ext (e0 i)
      | ⟨2, _⟩ => exact Fin.ext (e1 i)
      | ⟨3, _⟩ => rfl
    · intro p _; rfl
    · intro i hi
      have hj := (Finset.mem_filter.mp hi).2
      subst hj
      rw [e0, e1]; rfl
  rw [hb, Fintype.sum_prod_type]
  show ∑ n : Fin a, ∑ k : Fin d, ((f n.1 (j 0).1 (j 1).1 k.1 : ℝ) : EReal) = _
  simp only [coe_sum d]
  rw [coe_sum a fun n => ∑ k ∈ range d, f n (j 0).1 (j 1).1 k]; rfl

/-! ### The triangle -/

/-- Where the row is not before the column. -/
theorem keep_tril {α : Type} (i : S8x128x128.Idx) (a b : α) :
    Scalar.select (val_main_v46_1 (F := Ideal) i) a b = if (i 2).1 ≤ (i 1).1 then a else b := by
  have key : ∀ x < 128, ∀ y < 128, ((BitVec.ofNat 32 y).sle (BitVec.ofNat 32 x)) = decide (y ≤ x) := by
    intro x hx y hy
    have toInt : ∀ z < 128, (BitVec.ofNat 32 z).toInt = (z : ℤ) := by
      intro z hz
      have hz' : (BitVec.ofNat 32 z).toNat = z := by rw [BitVec.toNat_ofNat]; omega
      rw [BitVec.toInt_eq_toNat_of_lt (by omega), hz']
    rw [BitVec.sle_eq_decide, toInt y hy, toInt x hx]
    exact decide_eq_decide.mpr Nat.cast_le
  rw [val_main_v46_1_apply, val_main_call0_v4_apply, val_main_call0_v2_apply, val_main_call0_v0_apply,
    val_main_call0_v1_apply, val_main_call0_c_apply, val_main_call0_v3_apply]
  show Scalar.select (BitVec.ofBool ((BitVec.ofNat 32 (i 2).1).sle (BitVec.ofNat 32 (i 1).1 + 0#32))) _ _ = _
  rw [BitVec.add_zero, key _ (i 1).isLt _ (i 2).isLt]
  by_cases h : (i 2).1 ≤ (i 1).1
  · simp [Scalar.select, h]
  · simp [Scalar.select, h]

/-- The mixing weights on and below the diagonal. -/
theorem s46 : val_main_v46_0 (F := Ideal) (cube W : F32 S8x128x128) = (cube fun g => tri (W g) : F32 S8x128x128) := by
  funext i
  rw [val_main_v46_0_apply, keep_tril, val_main_call0_v6_apply, val_main_call0_cst_apply]
  show (if (i 2).1 ≤ (i 1).1 then ((W (i 0).1 (i 1).1 (i 2).1 : ℝ) : EReal) else Ideal.ofBits .f32 0x00000000#32)
    = ((tri (W (i 0).1) (i 1).1 (i 2).1 : ℝ) : EReal)
  unfold tri
  rw [ofBits_zero, apply_ite Real.toEReal]

theorem s45 : val_main_v45 (F := Ideal) (mat Z : F32 S4096x4096) (mat lg : F32 S1x2048) (mat lb : F32 S1x2048) = (quad fun n s g c => vln (half Z) lg lb (128 * n + s) (256 * g + c) : F32 S32x128x8x256) := by
  funext i
  rw [val_main_v45_apply, s44]
  obtain ⟨h1, h2⟩ := flat_row (i 0).1 (i 1).1 (i 2).1 (i 3).1 (i 1).isLt (i 2).isLt (i 3).isLt
  show ((vln (half Z) lg lb (((((i 0).1 * 128 + (i 1).1) * 8 + (i 2).1) * 256 + (i 3).1) / 2048)
    (((((i 0).1 * 128 + (i 1).1) * 8 + (i 2).1) * 256 + (i 3).1) % 2048) : ℝ) : EReal) = _
  rw [h1, h2]; rfl

/-- The mixed rows without their bias. -/
def mixq (Z lg lb : ℕ → ℕ → ℝ) (W : ℕ → ℕ → ℕ → ℝ) (n t g c : ℕ) : ℝ :=
  ∑ k ∈ range 128, vln (half Z) lg lb (128 * n + k) (256 * g + c) * tri (W g) t k

theorem s48 : val_main_v48 (F := Ideal) (mat Z : F32 S4096x4096) (mat lg : F32 S1x2048) (mat lb : F32 S1x2048) (cube W : F32 S8x128x128) = (quad (mixq Z lg lb W) : F32 S32x128x8x256) := by
  funext i
  rw [val_main_v48_apply, val_main_v47_apply, s45, s46]
  exact coe_sum 128 fun k => vln (half Z) lg lb (128 * (i 0).1 + k) (256 * (i 2).1 + (i 3).1) * tri (W (i 2).1) (i 1).1 k

theorem s51 : val_main_v51 (F := Ideal) (mat B : F32 S8x128) = (quad fun _ t g _ => B g t : F32 S32x128x8x256) := by
  funext i
  rw [val_main_v51_apply, val_main_v50_apply, val_main_v49_apply]; rfl

theorem s52 : val_main_v52 (F := Ideal) (mat Z : F32 S4096x4096) (mat lg : F32 S1x2048) (mat lb : F32 S1x2048) (cube W : F32 S8x128x128) (mat B : F32 S8x128) = (quad fun n t g c => mixq Z lg lb W n t g c + B g t : F32 S32x128x8x256) := by
  unfold val_main_v52
  rw [s48, s51]; rfl

/-- The mixed rows. -/
theorem s53 : val_main_v53 (F := Ideal) (mat Z : F32 S4096x4096) (mat lg : F32 S1x2048) (mat lb : F32 S1x2048) (cube W : F32 S8x128x128) (mat B : F32 S8x128) = (mat fun r j => mixq Z lg lb W (r / 128) (r % 128) (j / 256) (j % 256) + B (j / 256) (r % 128) : F32 S4096x2048) := by
  funext i
  rw [val_main_v53_apply, s52]
  obtain ⟨h1, h2, h3, h4⟩ := flat_quad (i 0).1 (i 1).1 (i 0).isLt (i 1).isLt
  show ((mixq Z lg lb W (((i 0).1 * 2048 + (i 1).1) / 262144) (((i 0).1 * 2048 + (i 1).1) / 2048 % 128) (((i 0).1 * 2048 + (i 1).1) / 256 % 8) (((i 0).1 * 2048 + (i 1).1) % 256) + B (((i 0).1 * 2048 + (i 1).1) / 256 % 8) (((i 0).1 * 2048 + (i 1).1) / 2048 % 128) : ℝ) : EReal) = _
  rw [h1, h2, h3, h4]; rfl

/-- The cotangent of the mixed rows. -/
theorem s56 : val_main_v56 (F := Ideal) (mat Z : F32 S4096x4096) (mat D : BF16 S4096x2048) = (mat fun r j => act Z r j * D r j : F32 S4096x2048) := by
  unfold val_main_v56 val_main_v55
  rw [s16]; rfl

/-- The cotangent of the mixed rows, and of the first half. -/
def dmix (Z D : ℕ → ℕ → ℝ) (r j : ℕ) : ℝ := act Z r j * D r j
def duR (Z D lg lb : ℕ → ℕ → ℝ) (W : ℕ → ℕ → ℕ → ℝ) (B : ℕ → ℕ → ℝ) (r j : ℕ) : ℝ :=
  D r j * (mixq Z lg lb W (r / 128) (r % 128) (j / 256) (j % 256) + B (j / 256) (r % 128))

theorem s57 : val_main_v57 (F := Ideal) (mat Z : F32 S4096x4096) (mat D : BF16 S4096x2048) (mat lg : F32 S1x2048) (mat lb : F32 S1x2048) (cube W : F32 S8x128x128) (mat B : F32 S8x128) = (mat (duR Z D lg lb W B) : F32 S4096x2048) := by
  unfold val_main_v57 val_main_v55
  rw [s53]; rfl

theorem s58 : val_main_v58 (F := Ideal) (mat Z : F32 S4096x4096) (mat D : BF16 S4096x2048) = (quad fun n s g c => dmix Z D (128 * n + s) (256 * g + c) : F32 S32x128x8x256) := by
  funext i
  rw [val_main_v58_apply, s56]
  obtain ⟨h1, h2⟩ := flat_row (i 0).1 (i 1).1 (i 2).1 (i 3).1 (i 1).isLt (i 2).isLt (i 3).isLt
  show ((dmix Z D (((((i 0).1 * 128 + (i 1).1) * 8 + (i 2).1) * 256 + (i 3).1) / 2048)
    (((((i 0).1 * 128 + (i 1).1) * 8 + (i 2).1) * 256 + (i 3).1) % 2048) : ℝ) : EReal) = _
  rw [h1, h2]; rfl

/-- The gradient of the biases. -/
def dbR (Z D : ℕ → ℕ → ℝ) (g s : ℕ) : ℝ :=
  ∑ n ∈ range 32, ∑ c ∈ range 256, dmix Z D (128 * n + s) (256 * g + c)

theorem s59 : val_main_v59 (F := Ideal) (mat Z : F32 S4096x4096) (mat D : BF16 S4096x2048) = (mat fun s g => dbR Z D g s : F32 S128x8) := by
  unfold val_main_v59
  rw [s58]
  exact sum_outer (fun n s g c => dmix Z D (128 * n + s) (256 * g + c)) _ _ ofBits_zero

theorem s60 : val_main_v60 (F := Ideal) (mat Z : F32 S4096x4096) (mat D : BF16 S4096x2048) = (quad fun _ s g _ => dbR Z D g s : F32 S1x128x8x1) := by
  funext i
  rw [val_main_v60_apply, s59]
  have h0 : (i 0).1 < 1 := (i 0).isLt
  have h1 : (i 1).1 < 128 := (i 1).isLt
  have h2 : (i 2).1 < 8 := (i 2).isLt
  have h3 : (i 3).1 < 1 := (i 3).isLt
  show ((dbR Z D _ _ : ℝ) : EReal) = ((dbR Z D (i 2).1 (i 1).1 : ℝ) : EReal)
  congr 2 <;> simp only [idx_main_v60] <;> omega

theorem s61 : val_main_v61 (F := Ideal) (mat Z : F32 S4096x4096) (mat D : BF16 S4096x2048) = (mat fun s g => dbR Z D g s : F32 S128x8) := by
  unfold val_main_v61
  rw [s60]
  refine (sum_outer (fun _ s g _ => dbR Z D g s) _ _ ofBits_zero).trans ?_
  exact mat_congr fun s _ g _ => by simp only [Finset.sum_range_one]

theorem s62 : val_main_v62 (F := Ideal) (mat Z : F32 S4096x4096) (mat D : BF16 S4096x2048) = (mat (dbR Z D) : F32 S8x128) := by
  funext i
  rw [val_main_v62_apply, s61]; rfl

/-- The gradient of the biases as the second result has it. -/
theorem s113 : val_main_v113 (F := Ideal) (mat Z : F32 S4096x4096) (mat D : BF16 S4096x2048) = (mat (biasT (dbR Z D)) : F32 S128x128) := by
  unfold val_main_v113 val_main_v112
  rw [s62]
  have hv : val_main_call2_v0 (F := Ideal) = fun _ => 0 := zero_scalar
  generalize val_main_call2_v0 (F := Ideal) = v at hv ⊢
  exact pad_bias (dbR Z D) v hv

theorem s63 : val_main_v63 (F := Ideal) (mat Z : F32 S4096x4096) (mat D : BF16 S4096x2048) = (quad fun g n c s => dmix Z D (128 * n + s) (256 * g + c) : F32 S8x32x256x128) := by
  funext i
  rw [val_main_v63_apply, s58]; rfl

/-- The product over the blocks and the columns of a group, and the coordinates its factors are read at. -/
abbrev dwDims := dot_S8x32x256x128_S32x128x8x256_S8x128x128_12_03_3_1_0_2
theorem dw_lhs_0 (i : S8x128x128.Idx) (q : dwDims.contr.Idx) :
    (dwDims.lhsIdx i q 0).1 = (i 0).1 := by
  unfold DotDims.lhsIdx
  rw [dif_pos (show (0 : Fin S8x32x256x128.rank) ∈ dwDims.lhsBatch by decide)]
  rfl
theorem dw_lhs_1 (i : S8x128x128.Idx) (q : dwDims.contr.Idx) :
    (dwDims.lhsIdx i q 1).1 = (q ⟨0, by decide⟩).1 := by
  unfold DotDims.lhsIdx
  rw [dif_neg (show ¬(1 : Fin S8x32x256x128.rank) ∈ dwDims.lhsBatch by decide),
    dif_neg (show ¬(1 : Fin S8x32x256x128.rank) ∈ dwDims.lhsNonContracting by decide)]
  rfl
theorem dw_lhs_2 (i : S8x128x128.Idx) (q : dwDims.contr.Idx) :
    (dwDims.lhsIdx i q 2).1 = (q ⟨1, by decide⟩).1 := by
  unfold DotDims.lhsIdx
  rw [dif_neg (show ¬(2 : Fin S8x32x256x128.rank) ∈ dwDims.lhsBatch by decide),
    dif_neg (show ¬(2 : Fin S8x32x256x128.rank) ∈ dwDims.lhsNonContracting by decide)]
  rfl
theorem dw_lhs_3 (i : S8x128x128.Idx) (q : dwDims.contr.Idx) :
    (dwDims.lhsIdx i q 3).1 = (i 1).1 := by
  unfold DotDims.lhsIdx
  rw [dif_neg (show ¬(3 : Fin S8x32x256x128.rank) ∈ dwDims.lhsBatch by decide),
    dif_pos (show (3 : Fin S8x32x256x128.rank) ∈ dwDims.lhsNonContracting by decide)]
  rfl
theorem dw_rhs_0 (i : S8x128x128.Idx) (q : dwDims.contr.Idx) :
    (dwDims.rhsIdx i q 0).1 = (q ⟨0, by decide⟩).1 := by
  unfold DotDims.rhsIdx
  rw [dif_neg (show ¬(0 : Fin S32x128x8x256.rank) ∈ dwDims.rhsBatch by decide),
    dif_neg (show ¬(0 : Fin S32x128x8x256.rank) ∈ dwDims.rhsNonContracting by decide)]
  rfl
theorem dw_rhs_1 (i : S8x128x128.Idx) (q : dwDims.contr.Idx) :
    (dwDims.rhsIdx i q 1).1 = (i 2).1 := by
  unfold DotDims.rhsIdx
  rw [dif_neg (show ¬(1 : Fin S32x128x8x256.rank) ∈ dwDims.rhsBatch by decide),
    dif_pos (show (1 : Fin S32x128x8x256.rank) ∈ dwDims.rhsNonContracting by decide)]
  rfl
theorem dw_rhs_2 (i : S8x128x128.Idx) (q : dwDims.contr.Idx) :
    (dwDims.rhsIdx i q 2).1 = (i 0).1 := by
  unfold DotDims.rhsIdx
  rw [dif_pos (show (2 : Fin S32x128x8x256.rank) ∈ dwDims.rhsBatch by decide)]
  rfl
theorem dw_rhs_3 (i : S8x128x128.Idx) (q : dwDims.contr.Idx) :
    (dwDims.rhsIdx i q 3).1 = (q ⟨1, by decide⟩).1 := by
  unfold DotDims.rhsIdx
  rw [dif_neg (show ¬(3 : Fin S32x128x8x256.rank) ∈ dwDims.rhsBatch by decide),
    dif_neg (show ¬(3 : Fin S32x128x8x256.rank) ∈ dwDims.rhsNonContracting by decide)]
  rfl

/-- The product of two four-axis arrays over two of their axes. -/
theorem dw_dot (f h : ℕ → ℕ → ℕ → ℕ → ℝ) :
    (Host.dotGeneral dwDims none (quad f : F32 S8x32x256x128) (quad h : F32 S32x128x8x256) :
        F32 S8x128x128)
      = cube fun g s t => ∑ n ∈ range 32, ∑ c ∈ range 256, f g n c s * h n t g c := by
  funext i
  simp only [Host.dotGeneral]
  rw [Ideal.dotGeneral_apply, ValueIdx.sum_contr2 dwDims 32 256 rfl rfl rfl]
  have e : ∀ (n : Fin 32) (c : Fin 256),
      (quad f : F32 S8x32x256x128) (dwDims.lhsIdx i ((ValueIdx.contrEquiv2 dwDims 32 256 rfl rfl rfl).symm (n, c)))
        * (quad h : F32 S32x128x8x256) (dwDims.rhsIdx i ((ValueIdx.contrEquiv2 dwDims 32 256 rfl rfl rfl).symm (n, c)))
      = ((f (i 0).1 n.1 c.1 (i 1).1 * h n.1 (i 2).1 (i 0).1 c.1 : ℝ) : EReal) := by
    intro n c
    have h0 := ValueIdx.contrEquiv2_symm_val0 dwDims 32 256 rfl rfl rfl (n, c)
    have h1 := ValueIdx.contrEquiv2_symm_val1 dwDims 32 256 rfl rfl rfl (n, c)
    generalize (ValueIdx.contrEquiv2 dwDims 32 256 rfl rfl rfl).symm (n, c) = q at h0 h1 ⊢
    unfold quad
    rw [dw_lhs_0, dw_lhs_1, dw_lhs_2, dw_lhs_3, dw_rhs_0, dw_rhs_1, dw_rhs_2, dw_rhs_3, h0, h1, EReal.coe_mul]
  rw [Finset.sum_congr rfl fun n _ => Finset.sum_congr rfl fun c _ => e n c]
  rw [Finset.sum_congr rfl fun (n : Fin 32) _ =>
    coe_sum 256 fun c => f (i 0).1 n.1 c (i 1).1 * h n.1 (i 2).1 (i 0).1 c]
  exact coe_sum 32 fun n => ∑ c ∈ range 256, f (i 0).1 n c (i 1).1 * h n (i 2).1 (i 0).1 c

/-- The gradient of the mixing weights before the triangle is kept. -/
def dwR (Z D lg lb : ℕ → ℕ → ℝ) (g s t : ℕ) : ℝ :=
  ∑ n ∈ range 32, ∑ c ∈ range 256,
    dmix Z D (128 * n + s) (256 * g + c) * vln (half Z) lg lb (128 * n + t) (256 * g + c)

theorem s64 : val_main_v64 (F := Ideal) (mat Z : F32 S4096x4096) (mat D : BF16 S4096x2048) (mat lg : F32 S1x2048) (mat lb : F32 S1x2048) = (cube (dwR Z D lg lb) : F32 S8x128x128) := by
  unfold val_main_v64
  rw [s63, s45]
  exact dw_dot _ _

/-- The gradient of the mixing weights. -/
theorem s67 : val_main_v67 (F := Ideal) (mat Z : F32 S4096x4096) (mat D : BF16 S4096x2048) (mat lg : F32 S1x2048) (mat lb : F32 S1x2048) = (cube fun g => tri (dwR Z D lg lb g) : F32 S8x128x128) := by
  funext i
  rw [val_main_v67_apply, keep_tril, val_main_call1_v0_apply, val_main_call1_cst_apply, s64]
  show (if (i 2).1 ≤ (i 1).1 then ((dwR Z D lg lb (i 0).1 (i 1).1 (i 2).1 : ℝ) : EReal)
    else Ideal.ofBits .f32 0x00000000#32) = ((tri (dwR Z D lg lb (i 0).1) (i 1).1 (i 2).1 : ℝ) : EReal)
  unfold tri
  rw [ofBits_zero, apply_ite Real.toEReal]

/-- The cotangent of the normalised rows, by block and group. -/
def dvq (Z D : ℕ → ℕ → ℝ) (W : ℕ → ℕ → ℕ → ℝ) (n t g c : ℕ) : ℝ :=
  ∑ k ∈ range 128, dmix Z D (128 * n + k) (256 * g + c) * tri (W g) k t

theorem s66 : val_main_v66 (F := Ideal) (mat Z : F32 S4096x4096) (mat D : BF16 S4096x2048) (cube W : F32 S8x128x128) = (quad (dvq Z D W) : F32 S32x128x8x256) := by
  funext i
  rw [val_main_v66_apply, val_main_v65_apply, s63, s46]
  exact coe_sum 128 fun k => dmix Z D (128 * (i 0).1 + k) (256 * (i 2).1 + (i 3).1) * tri (W (i 2).1) k (i 1).1

/-- The cotangent of the normalised rows. -/
def dvlR (Z D : ℕ → ℕ → ℝ) (W : ℕ → ℕ → ℕ → ℝ) (r j : ℕ) : ℝ := dvq Z D W (r / 128) (r % 128) (j / 256) (j % 256)

theorem s68 : val_main_v68 (F := Ideal) (mat Z : F32 S4096x4096) (mat D : BF16 S4096x2048) (cube W : F32 S8x128x128) = (mat (dvlR Z D W) : F32 S4096x2048) := by
  funext i
  rw [val_main_v68_apply, s66]
  obtain ⟨h1, h2, h3, h4⟩ := flat_quad (i 0).1 (i 1).1 (i 0).isLt (i 1).isLt
  show ((dvq Z D W (((i 0).1 * 2048 + (i 1).1) / 262144) (((i 0).1 * 2048 + (i 1).1) / 2048 % 128)
    (((i 0).1 * 2048 + (i 1).1) / 256 % 8) (((i 0).1 * 2048 + (i 1).1) % 256) : ℝ) : EReal) = _
  rw [h1, h2, h3, h4]; rfl

end Cert.Gmlp

end
-- ==== Proof.RefBackward.lean ====
/- What the reference's backward part holds: the gradients of the gain and of the shift, the cotangent brought back
through the normalisation, and the gradient of the rows before the activation. -/
module

public import proofs.«01_k».proof.Proof.RefMix

@[expose] public section

noncomputable section

namespace Cert.Gmlp

open Idealize.ShloMosaic Cert.ReferenceIdeal Cert.ReferenceIdeal.Gen Cert.ReferenceIdeal.Read
open Finset (range)

variable (Z D lg lb : ℕ → ℕ → ℝ) (W : ℕ → ℕ → ℕ → ℝ) (B : ℕ → ℕ → ℝ)

/-- The places of a column and of a row written as flat arrays. -/
theorem flat_col (x y : ℕ) (h : y < 1) : x * 1 + y = x := by omega
theorem flat_one (x y : ℕ) (h : x < 1) : x * 2048 + y = y := by omega

/-- The gradients of the shift and of the gain. -/
def dlbR (Z D : ℕ → ℕ → ℝ) (W : ℕ → ℕ → ℕ → ℝ) (j : ℕ) : ℝ := ∑ r ∈ range 4096, dvlR Z D W r j
def dlgR (Z D : ℕ → ℕ → ℝ) (W : ℕ → ℕ → ℕ → ℝ) (j : ℕ) : ℝ :=
  ∑ r ∈ range 4096, vhat (half Z) r j * dvlR Z D W r j

theorem s69 : val_main_v69 (F := Ideal) (mat Z : F32 S4096x4096) (mat D : BF16 S4096x2048) (cube W : F32 S8x128x128) = (vec (dlbR Z D W) : F32 S2048) := by
  funext i
  rw [val_main_v69_apply, s68, val_main_cst_14_apply]
  exact zero_sum 4096 fun r => dvlR Z D W r (i 0).1

/-- The gradient of the shift. -/
theorem s70 : val_main_v70 (F := Ideal) (mat Z : F32 S4096x4096) (mat D : BF16 S4096x2048) (cube W : F32 S8x128x128) = (mat fun _ j => dlbR Z D W j : F32 S1x2048) := by
  funext i
  rw [val_main_v70_apply, s69]
  show ((dlbR Z D W ((i 0).1 * 2048 + (i 1).1) : ℝ) : EReal) = _
  rw [flat_one _ _ (i 0).isLt]; rfl

theorem s71 : val_main_v71 (F := Ideal) (mat Z : F32 S4096x4096) (mat D : BF16 S4096x2048) (cube W : F32 S8x128x128) = (mat fun r j => vhat (half Z) r j * dvlR Z D W r j : F32 S4096x2048) := by
  unfold val_main_v71
  rw [s40, s68]; rfl

theorem s72 : val_main_v72 (F := Ideal) (mat Z : F32 S4096x4096) (mat D : BF16 S4096x2048) (cube W : F32 S8x128x128) = (vec (dlgR Z D W) : F32 S2048) := by
  funext i
  rw [val_main_v72_apply, s71, val_main_cst_15_apply]
  exact zero_sum 4096 fun r => vhat (half Z) r (i 0).1 * dvlR Z D W r (i 0).1

/-- The gradient of the gain. -/
theorem s73 : val_main_v73 (F := Ideal) (mat Z : F32 S4096x4096) (mat D : BF16 S4096x2048) (cube W : F32 S8x128x128) = (mat fun _ j => dlgR Z D W j : F32 S1x2048) := by
  funext i
  rw [val_main_v73_apply, s72]
  show ((dlgR Z D W ((i 0).1 * 2048 + (i 1).1) : ℝ) : EReal) = _
  rw [flat_one _ _ (i 0).isLt]; rfl

/-! ### Back through the normalisation -/

/-- The cotangent with its gain. -/
def dvh (Z D lg : ℕ → ℕ → ℝ) (W : ℕ → ℕ → ℕ → ℝ) (r j : ℕ) : ℝ := dvlR Z D W r j * lg 0 j

/-- What reaches the variance of a row. -/
def toVar (Z D lg : ℕ → ℕ → ℝ) (W : ℕ → ℕ → ℕ → ℝ) (r : ℕ) : ℝ :=
  (∑ k ∈ range 2048, ctr (half Z) r k * dvh Z D lg W r k) * (-(1 / 2) * (rs (half Z) r / vare (half Z) r))

/-- What reaches an entry of a row through the variance. -/
def viaVar (Z D lg : ℕ → ℕ → ℝ) (W : ℕ → ℕ → ℕ → ℝ) (r j : ℕ) : ℝ := toVar Z D lg W r / 2048 * (2 * ctr (half Z) r j)

/-- What reaches the mean of a row. -/
def toMean (Z D lg : ℕ → ℕ → ℝ) (W : ℕ → ℕ → ℕ → ℝ) (r : ℕ) : ℝ :=
  (∑ k ∈ range 2048, -(dvh Z D lg W r k * rs (half Z) r)) + ∑ k ∈ range 2048, -viaVar Z D lg W r k

/-- The cotangent of the second half of the activation. -/
def dvR (Z D lg : ℕ → ℕ → ℝ) (W : ℕ → ℕ → ℕ → ℝ) (r j : ℕ) : ℝ := dvh Z D lg W r j * rs (half Z) r + viaVar Z D lg W r j + toMean Z D lg W r / 2048

theorem s75 : val_main_v75 (F := Ideal) (mat Z : F32 S4096x4096) (mat D : BF16 S4096x2048) (mat lg : F32 S1x2048) (cube W : F32 S8x128x128) = (mat (dvh Z D lg W) : F32 S4096x2048) := by
  funext i
  rw [val_main_v75_apply, val_main_v74_apply, s68]; rfl

theorem s76 : val_main_v76 (F := Ideal) (mat Z : F32 S4096x4096) (mat D : BF16 S4096x2048) (mat lg : F32 S1x2048) (cube W : F32 S8x128x128) = (mat fun r j => ctr (half Z) r j * dvh Z D lg W r j : F32 S4096x2048) := by
  unfold val_main_v76
  rw [s32, s75]; rfl

theorem s77 : val_main_v77 (F := Ideal) (mat Z : F32 S4096x4096) (mat D : BF16 S4096x2048) (mat lg : F32 S1x2048) (cube W : F32 S8x128x128) = (vec fun r => ∑ k ∈ range 2048, ctr (half Z) r k * dvh Z D lg W r k : F32 S4096) := by
  funext i
  rw [val_main_v77_apply, s76, val_main_cst_16_apply]
  exact zero_sum 2048 fun k => ctr (half Z) (i 0).1 k * dvh Z D lg W (i 0).1 k

theorem s78 : val_main_v78 (F := Ideal) (mat Z : F32 S4096x4096) (mat D : BF16 S4096x2048) (mat lg : F32 S1x2048) (cube W : F32 S8x128x128) = (mat fun r _ => ∑ k ∈ range 2048, ctr (half Z) r k * dvh Z D lg W r k : F32 S4096x1) := by
  funext i
  rw [val_main_v78_apply, s77]
  show (((fun r => ∑ k ∈ range 2048, ctr (half Z) r k * dvh Z D lg W r k) ((i 0).1 * 1 + (i 1).1) : ℝ) : EReal) = _
  rw [flat_col _ _ (i 1).isLt]; rfl

theorem s80 : val_main_v80 (F := Ideal) (mat Z : F32 S4096x4096) (mat D : BF16 S4096x2048) (mat lg : F32 S1x2048) (cube W : F32 S8x128x128) = (mat fun r j => dvh Z D lg W r j * rs (half Z) r : F32 S4096x2048) := by
  funext i
  rw [val_main_v80_apply, val_main_v79_apply, s75, s35]; rfl

theorem s81 : val_main_v81 (F := Ideal) (mat Z : F32 S4096x4096) (mat D : BF16 S4096x2048) (mat lg : F32 S1x2048) (cube W : F32 S8x128x128) = (mat fun r _ => toVar Z D lg W r : F32 S4096x1) := by
  unfold val_main_v81
  rw [s78, s38]; rfl

theorem s82 : val_main_v82 (F := Ideal) (mat Z : F32 S4096x4096) (mat D : BF16 S4096x2048) (mat lg : F32 S1x2048) (cube W : F32 S8x128x128) = (mat fun r j => -(dvh Z D lg W r j * rs (half Z) r) : F32 S4096x2048) := by
  unfold val_main_v82
  rw [s80]; rfl

theorem s83 : val_main_v83 (F := Ideal) (mat Z : F32 S4096x4096) (mat D : BF16 S4096x2048) (mat lg : F32 S1x2048) (cube W : F32 S8x128x128) = (vec fun r => ∑ k ∈ range 2048, -(dvh Z D lg W r k * rs (half Z) r) : F32 S4096) := by
  funext i
  rw [val_main_v83_apply, s82, val_main_cst_17_apply]
  exact zero_sum 2048 fun k => -(dvh Z D lg W (i 0).1 k * rs (half Z) (i 0).1)

theorem s84 : val_main_v84 (F := Ideal) (mat Z : F32 S4096x4096) (mat D : BF16 S4096x2048) (mat lg : F32 S1x2048) (cube W : F32 S8x128x128) = (mat fun r _ => ∑ k ∈ range 2048, -(dvh Z D lg W r k * rs (half Z) r) : F32 S4096x1) := by
  funext i
  rw [val_main_v84_apply, s83]
  show (((fun r => ∑ k ∈ range 2048, -(dvh Z D lg W r k * rs (half Z) r)) ((i 0).1 * 1 + (i 1).1) : ℝ) : EReal) = _
  rw [flat_col _ _ (i 1).isLt]; rfl

theorem s86 : val_main_v86 (F := Ideal) (mat Z : F32 S4096x4096) (mat D : BF16 S4096x2048) (mat lg : F32 S1x2048) (cube W : F32 S8x128x128) = (mat fun r _ => toVar Z D lg W r / 2048 : F32 S4096x1) := by
  funext i
  rw [val_main_v86_apply, s81, val_main_v85_apply, val_main_cst_18_apply]
  show Ideal.div ((toVar Z D lg W (i 0).1 : ℝ) : EReal) (Ideal.ofBits .f32 0x45000000#32) = _
  rw [ofBits_2048, div_real _ _ (by norm_num)]; rfl

theorem s87 : val_main_v87 (F := Ideal) (mat Z : F32 S4096x4096) (mat D : BF16 S4096x2048) (mat lg : F32 S1x2048) (cube W : F32 S8x128x128) = (vec fun r => toVar Z D lg W r / 2048 : F32 S4096) := by
  funext i
  rw [val_main_v87_apply, s86, val_main_cst_19_apply]
  refine (zero_sum 1 fun _ => toVar Z D lg W (i 0).1 / 2048).trans ?_
  rw [Finset.sum_range_one]; rfl

theorem s89 : val_main_v89 (F := Ideal) (mat Z : F32 S4096x4096) (mat D : BF16 S4096x2048) (mat lg : F32 S1x2048) (cube W : F32 S8x128x128) = (mat (viaVar Z D lg W) : F32 S4096x2048) := by
  funext i
  rw [val_main_v89_apply, val_main_v88_apply, s87, s26]; rfl

theorem s90 : val_main_v90 (F := Ideal) (mat Z : F32 S4096x4096) (mat D : BF16 S4096x2048) (mat lg : F32 S1x2048) (cube W : F32 S8x128x128) = (mat fun r j => -viaVar Z D lg W r j : F32 S4096x2048) := by
  unfold val_main_v90
  rw [s89]; rfl

theorem s91 : val_main_v91 (F := Ideal) (mat Z : F32 S4096x4096) (mat D : BF16 S4096x2048) (mat lg : F32 S1x2048) (cube W : F32 S8x128x128) = (vec fun r => ∑ k ∈ range 2048, -viaVar Z D lg W r k : F32 S4096) := by
  funext i
  rw [val_main_v91_apply, s90, val_main_cst_20_apply]
  exact zero_sum 2048 fun k => -viaVar Z D lg W (i 0).1 k

theorem s92 : val_main_v92 (F := Ideal) (mat Z : F32 S4096x4096) (mat D : BF16 S4096x2048) (mat lg : F32 S1x2048) (cube W : F32 S8x128x128) = (mat fun r _ => ∑ k ∈ range 2048, -viaVar Z D lg W r k : F32 S4096x1) := by
  funext i
  rw [val_main_v92_apply, s91]
  show (((fun r => ∑ k ∈ range 2048, -viaVar Z D lg W r k) ((i 0).1 * 1 + (i 1).1) : ℝ) : EReal) = _
  rw [flat_col _ _ (i 1).isLt]; rfl

theorem s94 : val_main_v94 (F := Ideal) (mat Z : F32 S4096x4096) (mat D : BF16 S4096x2048) (mat lg : F32 S1x2048) (cube W : F32 S8x128x128) = (mat fun r _ => toMean Z D lg W r : F32 S4096x1) := by
  unfold val_main_v94
  rw [s84, s92]; rfl

theorem s96 : val_main_v96 (F := Ideal) (mat Z : F32 S4096x4096) (mat D : BF16 S4096x2048) (mat lg : F32 S1x2048) (cube W : F32 S8x128x128) = (mat fun r _ => toMean Z D lg W r / 2048 : F32 S4096x1) := by
  funext i
  rw [val_main_v96_apply, s94, val_main_v95_apply, val_main_cst_21_apply]
  show Ideal.div ((toMean Z D lg W (i 0).1 : ℝ) : EReal) (Ideal.ofBits .f32 0x45000000#32) = _
  rw [ofBits_2048, div_real _ _ (by norm_num)]; rfl

theorem s97 : val_main_v97 (F := Ideal) (mat Z : F32 S4096x4096) (mat D : BF16 S4096x2048) (mat lg : F32 S1x2048) (cube W : F32 S8x128x128) = (vec fun r => toMean Z D lg W r / 2048 : F32 S4096) := by
  funext i
  rw [val_main_v97_apply, s96, val_main_cst_22_apply]
  refine (zero_sum 1 fun _ => toMean Z D lg W (i 0).1 / 2048).trans ?_
  rw [Finset.sum_range_one]; rfl

theorem s99 : val_main_v99 (F := Ideal) (mat Z : F32 S4096x4096) (mat D : BF16 S4096x2048) (mat lg : F32 S1x2048) (cube W : F32 S8x128x128) = (mat (dvR Z D lg W) : F32 S4096x2048) := by
  funext i
  rw [val_main_v99_apply, val_main_v93_apply, val_main_v98_apply, s80, s89, s97]; rfl

/-- The cotangent of the activation, its halves side by side. -/
def dact (Z D lg lb : ℕ → ℕ → ℝ) (W : ℕ → ℕ → ℕ → ℝ) (B : ℕ → ℕ → ℝ) (r j : ℕ) : ℝ :=
  if j < 2048 then duR Z D lg lb W B r j else dvR Z D lg W r (j - 2048)

/-- The two halves side by side. -/
theorem halves (f g : ℕ → ℕ → ℝ) :
    concatenate S4096x4096 1 [⟨S4096x2048, (mat f : F32 S4096x2048)⟩,
        ⟨S4096x2048, (mat g : F32 S4096x2048)⟩] concatenates_S4096x2048_S4096x2048_S4096x4096_d1
      = (mat fun r j => if j < 2048 then f r j else g r (j - 2048) : F32 S4096x4096) := by
  funext i
  have hi : (i 1).1 < 4096 := (i 1).isLt
  by_cases h : (i 1).1 < 2048
  · rw [concatenate_pair_apply_left (t := S4096x4096) (s₁ := S4096x2048) (s₂ := S4096x2048) 1 (mat f) (mat g)
      concatenates_S4096x2048_S4096x2048_S4096x4096_d1 i rfl (fun a => match a with
        | ⟨0, _⟩ => (⟨(i 0).1, (i 0).isLt⟩ : Fin 4096)
        | ⟨1, _⟩ => (⟨(i 1).1, h⟩ : Fin 2048)) (fun a => by match a with | ⟨0, _⟩ => rfl | ⟨1, _⟩ => rfl)]
    show ((f (i 0).1 (i 1).1 : ℝ) : EReal)
      = ((if (i 1).1 < 2048 then f (i 0).1 (i 1).1 else g (i 0).1 ((i 1).1 - 2048) : ℝ) : EReal)
    rw [if_pos h]
  · rw [concatenate_pair_apply_right (t := S4096x4096) (s₁ := S4096x2048) (s₂ := S4096x2048) 1 (mat f) (mat g)
      concatenates_S4096x2048_S4096x2048_S4096x4096_d1 i rfl rfl (fun a => match a with
        | ⟨0, _⟩ => (⟨(i 0).1, (i 0).isLt⟩ : Fin 4096)
        | ⟨1, _⟩ => (⟨(i 1).1 - 2048, by omega⟩ : Fin 2048))
      (fun a => by match a with | ⟨0, _⟩ => intro _; rfl | ⟨1, _⟩ => intro hne; exact absurd rfl hne)
      (by show (i 1).1 - 2048 + 2048 = (i 1).1; omega)]
    show ((g (i 0).1 ((i 1).1 - 2048) : ℝ) : EReal)
      = ((if (i 1).1 < 2048 then f (i 0).1 (i 1).1 else g (i 0).1 ((i 1).1 - 2048) : ℝ) : EReal)
    rw [if_neg h]

theorem s100 : val_main_v100 (F := Ideal) (mat Z : F32 S4096x4096) (mat D : BF16 S4096x2048) (mat lg : F32 S1x2048) (mat lb : F32 S1x2048) (cube W : F32 S8x128x128) (mat B : F32 S8x128) = (mat (dact Z D lg lb W B) : F32 S4096x4096) := by
  unfold val_main_v100
  rw [s57, s99]
  exact halves _ _

theorem s101 : val_main_v101 (F := Ideal) (mat Z : F32 S4096x4096) (mat D : BF16 S4096x2048) (mat lg : F32 S1x2048) (mat lb : F32 S1x2048) (cube W : F32 S8x128x128) (mat B : F32 S8x128) = (mat fun r j => 1 / 2 * Z r j * dact Z D lg lb W B r j : F32 S4096x4096) := by
  unfold val_main_v101
  rw [s1, s100]; rfl

theorem s102 : val_main_v102 (F := Ideal) (mat Z : F32 S4096x4096) (mat D : BF16 S4096x2048) (mat lg : F32 S1x2048) (mat lb : F32 S1x2048) (cube W : F32 S8x128x128) (mat B : F32 S8x128) = (mat fun r j => dact Z D lg lb W B r j * (1 + rerf (Z r j * c1)) : F32 S4096x4096) := by
  unfold val_main_v102
  rw [s100, s14]; rfl

theorem s103 : val_main_v103 (F := Ideal) (mat Z : F32 S4096x4096) (mat D : BF16 S4096x2048) (mat lg : F32 S1x2048) (mat lb : F32 S1x2048) (cube W : F32 S8x128x128) (mat B : F32 S8x128) = (mat fun r j => 1 / 2 * Z r j * dact Z D lg lb W B r j * Real.exp (-(Z r j * c1 * (Z r j * c1))) : F32 S4096x4096) := by
  unfold val_main_v103
  rw [s101, s12]; rfl

theorem s105 : val_main_v105 (F := Ideal) (mat Z : F32 S4096x4096) (mat D : BF16 S4096x2048) (mat lg : F32 S1x2048) (mat lb : F32 S1x2048) (cube W : F32 S8x128x128) (mat B : F32 S8x128) = (mat fun r j => 1 / 2 * Z r j * dact Z D lg lb W B r j * Real.exp (-(Z r j * c1 * (Z r j * c1))) * (2 / Real.sqrt Real.pi) : F32 S4096x4096) := by
  funext i
  rw [val_main_v105_apply, val_main_v104_apply, s103, s9]; rfl

theorem s107 : val_main_v107 (F := Ideal) (mat Z : F32 S4096x4096) (mat D : BF16 S4096x2048) (mat lg : F32 S1x2048) (mat lb : F32 S1x2048) (cube W : F32 S8x128x128) (mat B : F32 S8x128) = (mat fun r j => 1 / 2 * Z r j * dact Z D lg lb W B r j * Real.exp (-(Z r j * c1 * (Z r j * c1))) * (2 / Real.sqrt Real.pi) / Real.sqrt 2 : F32 S4096x4096) := by
  funext i
  rw [val_main_v107_apply, val_main_v106_apply, s105, s2]
  show Ideal.div ((1 / 2 * Z (i 0).1 (i 1).1 * dact Z D lg lb W B (i 0).1 (i 1).1 * Real.exp (-(Z (i 0).1 (i 1).1 * c1 * (Z (i 0).1 (i 1).1 * c1))) * (2 / Real.sqrt Real.pi) : ℝ) : EReal) _ = _
  rw [div_real _ _ (by positivity)]; rfl

theorem s109 : val_main_v109 (F := Ideal) (mat Z : F32 S4096x4096) (mat D : BF16 S4096x2048) (mat lg : F32 S1x2048) (mat lb : F32 S1x2048) (cube W : F32 S8x128x128) (mat B : F32 S8x128) = (mat fun r j => 1 / 2 * (dact Z D lg lb W B r j * (1 + rerf (Z r j * c1))) : F32 S4096x4096) := by
  funext i
  rw [val_main_v109_apply, val_main_v108_apply, val_main_cst_23_apply, s102]
  show Ideal.ofBits .f32 0x3F000000#32 * _ = _
  rw [ofBits_half]; rfl

/-- The gradient of the rows before the activation, as the reference has it. -/
def dzR (Z D lg lb : ℕ → ℕ → ℝ) (W : ℕ → ℕ → ℕ → ℝ) (B : ℕ → ℕ → ℝ) (r j : ℕ) : ℝ :=
  1 / 2 * Z r j * dact Z D lg lb W B r j * Real.exp (-(Z r j * c1 * (Z r j * c1))) * (2 / Real.sqrt Real.pi) / Real.sqrt 2
    + 1 / 2 * (dact Z D lg lb W B r j * (1 + rerf (Z r j * c1)))

theorem s111 : val_main_v111 (F := Ideal) (mat Z : F32 S4096x4096) (mat D : BF16 S4096x2048) (mat lg : F32 S1x2048) (mat lb : F32 S1x2048) (cube W : F32 S8x128x128) (mat B : F32 S8x128) = (mat (dzR Z D lg lb W B) : BF16 S4096x4096) := by
  unfold val_main_v111 val_main_v110
  rw [s107, s109]; rfl

end Cert.Gmlp

end
-- ==== Proof.Equation.lean ====
/- The equation, over the reals: what the kernel's blocks add up to is what the reference's formulas say. The second
term of the reference's mean vanishes (a centred row sums to zero), the reciprocal standard deviation over the variance
is its cube, and the reference's derivative of the error function is the kernel's density. -/
module

public import proofs.«01_k».proof.Proof.Accum
public import proofs.«01_k».proof.Proof.RefBackward

@[expose] public section

noncomputable section

namespace Cert.Gmlp

variable (Z D lg lb : ℕ → ℕ → ℝ) (W : ℕ → ℕ → ℕ → ℝ) (B : ℕ → ℕ → ℝ)

/-- A row of chunk `n` and a column of group `q`. -/
theorem place (n t j : ℕ) (ht : t < 128) :
    (128 * n + t) / 128 = n ∧ (128 * n + t) % 128 = t ∧ 256 * (j / 256) + j % 256 = j := by omega

/-! ### The mixing weights, the biases, the gain and the shift -/

theorem dw_eq (q i j : ℕ) :
    ∑ n ∈ Finset.range 32, dwsTerm Z D lg lb n q i j = tri (dwR Z D lg lb q) i j := by
  unfold dwsTerm tri
  by_cases h : j ≤ i
  · simp only [if_pos h]
    refine Finset.sum_congr rfl fun n _ => Finset.sum_congr rfl fun k _ => ?_
    show D (128 * n + i) (256 * q + k) * act Z (128 * n + i) (256 * q + k) * vln (half Z) lg lb (128 * n + j) (256 * q + k)
      = act Z (128 * n + i) (256 * q + k) * D (128 * n + i) (256 * q + k) * vln (half Z) lg lb (128 * n + j) (256 * q + k)
    ring
  · simp only [if_neg h, Finset.sum_const_zero]

theorem db_eq (i j : ℕ) : ∑ n ∈ Finset.range 32, dbsTerm Z D n i j = biasT (dbR Z D) i j := by
  unfold dbsTerm biasT
  simp only [dbsSum_eq]
  by_cases h : j < 8
  · simp only [if_pos h]
    refine Finset.sum_congr rfl fun n _ => Finset.sum_congr rfl fun k _ => ?_
    exact mul_comm (D (128 * n + i) (256 * j + k)) (act Z (128 * n + i) (256 * j + k))
  · simp only [if_neg h, Finset.sum_const_zero]

/-- Chunk `n` of the cotangent of the normalised rows. -/
theorem dvl_eq (n t j : ℕ) (ht : t < 128) : dvlAt Z D W n t j = dvlR Z D W (128 * n + t) j := by
  obtain ⟨h1, h2, -⟩ := place n t j ht
  unfold dvlR
  rw [h1, h2]
  show ∑ k ∈ Finset.range 128, tri (W (j / 256)) k t
      * (D (128 * n + k) (256 * (j / 256) + j % 256) * act Z (128 * n + k) (256 * (j / 256) + j % 256))
    = ∑ k ∈ Finset.range 128, act Z (128 * n + k) (256 * (j / 256) + j % 256) * D (128 * n + k) (256 * (j / 256) + j % 256)
      * tri (W (j / 256)) k t
  refine Finset.sum_congr rfl fun k _ => ?_
  ring

theorem dlb_eq (j : ℕ) : ∑ n ∈ Finset.range 32, dlbTerm Z D W n j = dlbR Z D W j := by
  unfold dlbR dlbTerm
  rw [show 4096 = 32 * 128 from rfl, Finset.sum_range_mul_split]
  refine Finset.sum_congr rfl fun n _ => Finset.sum_congr rfl fun t ht => ?_
  rw [dvl_eq Z D W n t j (Finset.mem_range.mp ht), mul_comm n 128]

theorem dlg_eq (j : ℕ) : ∑ n ∈ Finset.range 32, dlgTerm Z D W n j = dlgR Z D W j := by
  unfold dlgR dlgTerm
  rw [show 4096 = 32 * 128 from rfl, Finset.sum_range_mul_split]
  refine Finset.sum_congr rfl fun n _ => Finset.sum_congr rfl fun t ht => ?_
  rw [dvl_eq Z D W n t j (Finset.mem_range.mp ht), mul_comm n 128, mul_comm]; rfl

/-! ### Back through the normalisation -/

/-- A centred row sums to zero. -/
theorem ctr_sum (z : ℕ → ℕ → ℝ) (r : ℕ) : ∑ k ∈ Finset.range 2048, ctr z r k = 0 := by
  unfold ctr
  rw [Finset.sum_sub_distrib, Finset.sum_const, Finset.card_range, nsmul_eq_mul]
  push_cast
  ring

theorem rs_over (z : ℕ → ℕ → ℝ) (r : ℕ) : rs z r / vare z r = rs z r * rs z r * rs z r := by
  have h : rs z r * rs z r = (vare z r)⁻¹ := by
    show (Real.sqrt (vare z r))⁻¹ * (Real.sqrt (vare z r))⁻¹ = _
    rw [← mul_inv, Real.mul_self_sqrt (vare_pos z r).le]
  rw [h, div_eq_mul_inv, mul_comm]

/-- The reference's three ways back are the kernel's one formula. -/
theorem dv_eq (r j : ℕ) :
    dvR Z D lg W r j = rs (half Z) r * (dvh Z D lg W r j - (∑ k ∈ Finset.range 2048, dvh Z D lg W r k) / 2048
      - vhat (half Z) r j * ((∑ k ∈ Finset.range 2048, dvh Z D lg W r k * vhat (half Z) r k) / 2048)) := by
  have hv : ∑ k ∈ Finset.range 2048, dvh Z D lg W r k * vhat (half Z) r k
      = (∑ k ∈ Finset.range 2048, ctr (half Z) r k * dvh Z D lg W r k) * rs (half Z) r := by
    rw [Finset.sum_mul]
    exact Finset.sum_congr rfl fun k _ => by unfold vhat; ring
  have h1 : ∑ k ∈ Finset.range 2048, -(dvh Z D lg W r k * rs (half Z) r)
      = -((∑ k ∈ Finset.range 2048, dvh Z D lg W r k) * rs (half Z) r) := by
    rw [Finset.sum_neg_distrib, Finset.sum_mul]
  have h2 : ∑ k ∈ Finset.range 2048, -viaVar Z D lg W r k = 0 := by
    rw [Finset.sum_neg_distrib]
    unfold viaVar
    rw [← Finset.mul_sum, ← Finset.mul_sum, ctr_sum]
    ring
  unfold dvR toMean
  rw [h1, h2, hv]
  unfold viaVar toVar vhat
  rw [rs_over]
  ring

/-! ### The activation -/

theorem slope_eq (z d : ℝ) :
    1 / 2 * z * d * Real.exp (-(z * c1 * (z * c1))) * (2 / Real.sqrt Real.pi) / Real.sqrt 2
      + 1 / 2 * (d * (1 + rerf (z * c1))) = d * slope z := by
  have h2 : Real.sqrt 2 * Real.sqrt 2 = 2 := Real.mul_self_sqrt (by norm_num)
  have hc : c1 * c1 = 1 / 2 := by
    unfold c1
    rw [← mul_inv, h2]; norm_num
  have he : -(z * c1 * (z * c1)) = -(1 / 2) * z * z := by linear_combination (-(z * z)) * hc
  have hd : (2 / Real.sqrt Real.pi) / Real.sqrt 2 = 2 * c2 := by
    unfold c2
    rw [Real.sqrt_mul (by norm_num), mul_inv, div_div, div_eq_mul_inv, mul_inv]
    ring
  unfold slope
  rw [he, mul_div_assoc, hd]
  ring

/-! ### The whole gradient -/

theorem dz_chunk (n t j : ℕ) (ht : t < 128) : dzAt Z D lg lb W B n t j = dzR Z D lg lb W B (128 * n + t) j := by
  unfold dzR
  rw [slope_eq]
  unfold dzAt dzOf dact
  by_cases hj : j < 2048
  · rw [if_pos hj, if_pos hj]
    obtain ⟨h1, h2, h3⟩ := place n t j ht
    have hq : j / 256 < 8 := by omega
    unfold duR mixq
    rw [h1, h2, h3]
    show D (128 * n + t) (256 * (j / 256) + j % 256)
        * ((∑ k ∈ Finset.range 128, tri (W (j / 256)) t k * vln (half Z) lg lb (128 * n + k) (256 * (j / 256) + j % 256))
          + biasT B t (j / 256)) * slope (Z (128 * n + t) j) = _
    unfold biasT
    rw [if_pos hq, h3]
    congr 3
    exact Finset.sum_congr rfl fun k _ => mul_comm _ _
  · rw [if_neg hj, if_neg hj, dv_eq]
    have hd : ∀ k, dvlAt Z D W n t k * lg 0 k = dvh Z D lg W (128 * n + t) k := fun k => by
      rw [dvl_eq Z D W n t k ht]; rfl
    have hj' : 2048 + (j - 2048) = j := by omega
    show rs (half Z) (128 * n + t) * (dvlAt Z D W n t (j - 2048) * lg 0 (j - 2048)
        - (∑ k ∈ Finset.range 2048, dvlAt Z D W n t k * lg 0 k) / 2048
        - vhat (half Z) (128 * n + t) (j - 2048)
          * ((∑ k ∈ Finset.range 2048, dvlAt Z D W n t k * lg 0 k * vhat (half Z) (128 * n + t) k) / 2048))
      * slope (Z (128 * n + t) (2048 + (j - 2048))) = _
    simp only [hd]
    rw [hj']

theorem dz_eq (r j : ℕ) : dzAt Z D lg lb W B (r / 128) (r % 128) j = dzR Z D lg lb W B r j := by
  rw [dz_chunk Z D lg lb W B _ _ _ (Nat.mod_lt _ (by norm_num)), Nat.div_add_mod]

end Cert.Gmlp

end
-- ==== Proof.Values.lean ====
/- The two runs' results are the same five arrays: the kernel's pipeline arrays on one side, the reference's stages on
the other, both read as arrays of reals. -/
module

public import proofs.«01_k».proof.Proof.Arrays
public import proofs.«01_k».proof.Proof.Equation

@[expose] public section

noncomputable section

namespace Cert.Gmlp

open Idealize.ShloMosaic Idealize.ShloMosaic.TcCoe Cert.KernelIdeal Cert.KernelIdeal.Gen
open Cert.ReferenceIdeal.Read (val_main_v111 val_main_v67 val_main_v113 val_main_v73 val_main_v70)

variable {m : (ℓ : Loc nD τ sig) → Buf (Elt Ideal) ℓ} {c : Dev nD}
variable {Z D lg lb : ℕ → ℕ → ℝ} {W : ℕ → ℕ → ℕ → ℝ} {B : ℕ → ℕ → ℝ}

/-- The gradient of the rows before the activation. -/
theorem value_dz (h : Holds m c Z D lg lb W B) :
    (val_main_v111 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) : BF16 S4096x4096)
      = (dats m 0 c).arrAt 7 cfg0.N := by
  rw [h.z, h.d, h.lg', h.lb', h.w, h.b, arr_7 h]
  refine (s111 Z D lg lb W B).trans ?_
  exact mat_congr fun r _ j _ => (dz_eq Z D lg lb W B r j).symm

/-- The gradient of the mixing weights. -/
theorem value_dw (h : Holds m c Z D lg lb W B) :
    (val_main_v67 (F := Ideal) (m ((c : Thread nD τ).loc main_arg0)) (m ((c : Thread nD τ).loc main_arg1))
        (m ((c : Thread nD τ).loc main_arg2)) (m ((c : Thread nD τ).loc main_arg3)) : F32 S8x128x128)
      = (dats m 0 c).arrAt 8 cfg0.N := by
  rw [h.z, h.d, h.lg', h.lb', arr_8 h]
  refine (s67 Z D lg lb).trans ?_
  exact cube_congr fun q _ i _ j _ => (dw_eq Z D lg lb q i j).symm

/-- The gradient of the biases. -/
theorem value_db (h : Holds m c Z D lg lb W B) :
    (val_main_v113 (F := Ideal) (m ((c : Thread nD τ).loc main_arg0)) (m ((c : Thread nD τ).loc main_arg1)) :
        F32 S128x128)
      = (dats m 0 c).arrAt 9 cfg0.N := by
  rw [h.z, h.d, arr_9 h]
  refine (s113 Z D).trans ?_
  exact mat_congr fun i _ j _ => (db_eq Z D i j).symm

/-- The gradient of the gain. -/
theorem value_dlg (h : Holds m c Z D lg lb W B) :
    (val_main_v73 (F := Ideal) (m ((c : Thread nD τ).loc main_arg0)) (m ((c : Thread nD τ).loc main_arg1))
        (m ((c : Thread nD τ).loc main_arg4)) : F32 S1x2048)
      = (dats m 0 c).arrAt 10 cfg0.N := by
  rw [h.z, h.d, h.w, arr_10 h]
  refine (s73 Z D W).trans ?_
  exact mat_congr fun _ _ j _ => (dlg_eq Z D W j).symm

/-- The gradient of the shift. -/
theorem value_dlb (h : Holds m c Z D lg lb W B) :
    (val_main_v70 (F := Ideal) (m ((c : Thread nD τ).loc main_arg0)) (m ((c : Thread nD τ).loc main_arg1))
        (m ((c : Thread nD τ).loc main_arg4)) : F32 S1x2048)
      = (dats m 0 c).arrAt 11 cfg0.N := by
  rw [h.z, h.d, h.w, arr_11 h]
  refine (s70 Z D W).trans ?_
  exact mat_congr fun _ _ j _ => (dlb_eq Z D W j).symm

end Cert.Gmlp

end
-- ==== Proof.OddInWeightBlock.lean ====
/- What one grid point of the weight gradient of layer 1's projection computes: the product of its block of hidden
   rows, transposed, with its block of cotangent rows, stored first, then added, and on the last of four points written out. -/
module

public import proofs.«01_k».proof.Proof.Entries
public import proofs.«01_k».proof.Proof.Gen.Kernel7Ideal.Value
public import Idealize.ShloMosaic.Lib.Pipeline.ReadBack
public import Idealize.ShloMosaic.Lib.Pipeline.ValueKit.Tiles

@[expose] public section

set_option maxRecDepth 16384

noncomputable section

namespace Cert.Ffn.OddIn

open Idealize.ShloMosaic TcCoe Tactic Cert.Kernel7Ideal Cert.Kernel7Ideal.Gen

/-- Column `i` of the first block against column `j` of the second. -/
abbrev cols (f g : ℕ → ℕ → EReal) (i j : ℕ) : EReal := ∑ k ∈ Finset.range 1024, f k i * g k j

theorem product (f g : ℕ → ℕ → EReal) :
    matmul dot_S1024x1024_S1024x1024_S1024x1024_0_0_1_1_n_n none (emat f : BF16 S1024x1024)
        (emat g : BF16 S1024x1024) (emat fun _ _ => 0)
      = emat (cols f g) := by
  funext i
  pointwise
  exact (congrArg₂ (· + ·) rfl (sum_below 1024 fun k => f k (i 0).1 * g k (i 1).1)).trans (zero_add _)

theorem first_eq (f g : ℕ → ℕ → EReal) :
    k0_pay1 (F := Ideal) (emat f : BF16 S1024x1024) (emat g : BF16 S1024x1024) = emat (cols f g) := by
  unfold k0_pay1
  dsimp only
  rw [constant_zero, product]
  exact shapeCast_self _ _
theorem next_eq (f g s : ℕ → ℕ → EReal) :
    k0_pay2 (F := Ideal) (emat f : BF16 S1024x1024) (emat g : BF16 S1024x1024) (emat s : F32 S1024x1024)
      = emat fun i j => s i j + cols f g i j := by
  unfold k0_pay2
  dsimp only
  rw [constant_zero, product]
  exact shapeCast_self _ _
theorem last_eq (f g s : ℕ → ℕ → EReal) :
    k0_pay3 (F := Ideal) (emat f : BF16 S1024x1024) (emat g : BF16 S1024x1024) (emat s : F32 S1024x1024)
      = ecube fun _ i j => s i j + cols f g i j := by
  unfold k0_pay3
  dsimp only
  rw [constant_zero, product]
  exact stack_one (φ := .bf16) (fun i j => s i j + cols f g i j) _

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024x1024 .bf16) (harg5 : arg5.IsWhole) (arg6 : Memref sig .tc .vmem S1024x1024 .f32) (harg6 : arg6.IsWhole)
variable (x0 : Vec Ideal S1024x1024 .bf16) (x1 : Vec Ideal S1024x1024 .bf16) (xs : Vec Ideal S1024x1024 .f32)

/-- The first of four points stores its product. -/
theorem kept_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x1024) zeros2]

/-- The two points after it add theirs. -/
theorem kept_B (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg6.read_unread, View.ld_unit_zero (S := S1024x1024) zeros2]

/-- The last adds its own and writes the sum out. -/
theorem out_C (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  rw [View.read_writes_eq_canon _ _ _ (fun y => cover0_C_2 (y := y) ..)]
  unfold kernelRun0_C
  dsimp only
  rw [View.canon_unit_zero zeros3]
  simp only [View.readAt_eq_ld, harg3.read_unread, harg4.read_unread, harg6.read_unread, View.ld_unit_zero (S := S1024x1024) zeros2]

end Cert.Ffn.OddIn

end
-- ==== Proof.OddInWeightArray.lean ====
/- What the array of the weight gradient of layer 1's projection holds after the last grid point: entry (q, i, j) is the
   sum over all token rows of column `i` of the hidden rows against column `1024 q + j` of the cotangent rows. -/
module

public import proofs.«01_k».proof.Proof.OddInWeightBlock

@[expose] public section

set_option maxRecDepth 16384

noncomputable section

namespace Cert.Ffn.OddIn

open Idealize.ShloMosaic TcCoe Tactic Cert.Kernel7Ideal Cert.Kernel7Ideal.Gen

variable (m : (ℓ : Loc nD τ sig) → Buf (Elt Ideal) ℓ) (c : Dev nD)

/-- The hidden rows. -/
def rowsA : ℕ → ℕ → EReal := entry (φ := .bf16) (m ((c : Thread nD τ).loc main_arg0) : BF16 S4096x2048)
/-- The cotangent rows. -/
def rowsB : ℕ → ℕ → EReal := entry (φ := .bf16) (m ((c : Thread nD τ).loc main_arg1) : BF16 S4096x4096)

theorem index_0 : ∀ t : Fin cfg0.N, win0_0.index t 0 = t.1 % 4 ∧ win0_0.index t 1 = t.1 / 16 := by decide +kernel
theorem index_1 : ∀ t : Fin cfg0.N, win0_1.index t 0 = t.1 % 4 ∧ win0_1.index t 1 = t.1 / 4 % 4 := by decide +kernel
theorem index_2 : ∀ t : Fin cfg0.N, win0_2.index t 0 = t.1 / 4 % 4 ∧ win0_2.index t 1 = t.1 / 16 ∧ win0_2.index t 2 = 0 := by
  decide +kernel

/-- The block of hidden rows at point `n`. -/
abbrev blockA (n : ℕ) : ℕ → ℕ → EReal := fun i j => rowsA m c (1024 * (n % 4) + i) (1024 * (n / 16) + j)
/-- The block of cotangent rows at point `n`. -/
abbrev blockB (n : ℕ) : ℕ → ℕ → EReal := fun i j => rowsB m c (1024 * (n % 4) + i) (1024 * (n / 4 % 4) + j)

theorem iblk_0 (t : Fin cfg0.N) : iblk m c 0 t = (emat (blockA m c t.1) : BF16 S1024x1024) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rowsA m c) ?_ ?_
  · show win0_0.index t 0 * 1024 + 1 * (y 0).1 = _; rw [(index_0 t).1]; omega
  · show win0_0.index t 1 * 1024 + 1 * (y 1).1 = _; rw [(index_0 t).2]; omega
theorem iblk_1 (t : Fin cfg0.N) : iblk m c 1 t = (emat (blockB m c t.1) : BF16 S1024x1024) := by
  funext y
  unfold iblk
  rw [View.read_apply]
  show V m c main_arg1 _ = _
  rw [V_main_arg1]
  refine (entry_apply (φ := .bf16) (m ((c : Thread nD τ).loc main_arg1) : BF16 S4096x4096) _).symm.trans ?_
  refine congrArg₂ (rowsB m c) ?_ ?_
  · show win0_1.index t 0 * 1024 + 1 * (y 0).1 = _; rw [(index_1 t).1]; omega
  · show win0_1.index t 1 * 1024 + 1 * (y 1).1 = _; rw [(index_1 t).2]; omega

/-- The product of point `n`'s blocks. -/
abbrev term (n : ℕ) : ℕ → ℕ → EReal := cols (blockA m c n) (blockB m c n)

/-- What the running sum holds after the first of four points, … -/
theorem kept_0 (t : Fin cfg0.N) (ht : t.1 % 4 = 0) :
    (outsAt0 m c t.1 t.isLt).2 = (emat (term m c t.1) : F32 S1024x1024) := by
  rw [outsAt0_A m c t ht (by omega) (by omega)]
  dsimp only
  rw [kept_A, iblk_0, iblk_1]
  exact first_eq _ _
/-- … after a point in between, given what it held before, … -/
theorem kept_next (t : Fin cfg0.N) (ht : 1 ≤ t.1 % 4 ∧ t.1 % 4 ≤ 2) (s : ℕ → ℕ → EReal)
    (hs : (outsAt0 m c (t.1 - 1) (before t)).2 = (emat s : F32 S1024x1024)) :
    (outsAt0 m c t.1 t.isLt).2 = (emat fun i j => s i j + term m c t.1 i j : F32 S1024x1024) := by
  rw [outsAt0_B m c t (by omega) ht (by omega)]
  dsimp only
  rw [kept_B, hs, iblk_0, iblk_1]
  exact next_eq _ _ _
/-- … and what the last point writes out. -/
theorem out_last (t : Fin cfg0.N) (ht : t.1 % 4 = 3) (s : ℕ → ℕ → EReal)
    (hs : (outsAt0 m c (t.1 - 1) (before t)).2 = (emat s : F32 S1024x1024)) :
    (outsAt0 m c t.1 t.isLt).1 = (ecube fun _ i j => s i j + term m c t.1 i j : BF16 S1x1024x1024) := by
  rw [outsAt0_C m c t (by omega) (by omega) ht]
  dsimp only
  rw [out_C, hs, iblk_0, iblk_1]
  exact last_eq _ _ _

/-- The fourth of four points writes out the sum of the four products. -/
theorem out_sum (q : ℕ) (hq : 4 * q + 3 < cfg0.N) :
    (outsAt0 m c (4 * q + 3) hq).1 = (ecube fun _ i j => ((term m c (4 * q) i j + term m c (4 * q + 1) i j)
      + term m c (4 * q + 2) i j) + term m c (4 * q + 3) i j : BF16 S1x1024x1024) := by
  have h0 := kept_0 m c ⟨4 * q, by omega⟩ (by show 4 * q % 4 = 0; omega)
  have h1 := kept_next m c ⟨4 * q + 1, by omega⟩ (by show 1 ≤ (4 * q + 1) % 4 ∧ (4 * q + 1) % 4 ≤ 2; omega) _ h0
  have h2 := kept_next m c ⟨4 * q + 2, by omega⟩ (by show 1 ≤ (4 * q + 2) % 4 ∧ (4 * q + 2) % 4 ≤ 2; omega) _ h1
  exact out_last m c ⟨4 * q + 3, hq⟩ (by show (4 * q + 3) % 4 = 3; omega) _ h2

/-- The sum over all token rows. -/
abbrev gradient (q i j : ℕ) : EReal := ∑ k ∈ Finset.range 4096, rowsA m c k i * rowsB m c k (1024 * q + j)

theorem sum_eq (q i j : ℕ) :
    ((term m c (4 * q) i j + term m c (4 * q + 1) i j) + term m c (4 * q + 2) i j) + term m c (4 * q + 3) i j
      = gradient m c (q % 4) (1024 * (q / 4) + i) j := by
  have e : ∀ r < 4, term m c (4 * q + r) i j = ∑ k ∈ Finset.range 1024,
      rowsA m c (1024 * r + k) (1024 * (q / 4) + i) * rowsB m c (1024 * r + k) (1024 * (q % 4) + j) := by
    intro r hr
    show ∑ k ∈ Finset.range 1024, rowsA m c (1024 * ((4 * q + r) % 4) + k) (1024 * ((4 * q + r) / 16) + i)
      * rowsB m c (1024 * ((4 * q + r) % 4) + k) (1024 * ((4 * q + r) / 4 % 4) + j) = _
    rw [show (4 * q + r) % 4 = r by omega, show (4 * q + r) / 16 = q / 4 by omega, show (4 * q + r) / 4 % 4 = q % 4 by omega]
  rw [show term m c (4 * q) i j = _ from e 0 (by omega), e 1 (by omega), e 2 (by omega), e 3 (by omega)]
  exact four_stretches 1024 fun k => rowsA m c k (1024 * (q / 4) + i) * rowsB m c k (1024 * (q % 4) + j)

/-- The array after the run. -/
theorem array_eq :
    (dats m 0 c).arrAt 2 cfg0.N = (ecube (gradient m c) : BF16 S4x2048x1024) := by
  have hN : cfg0.N = 32 := N_0
  refine (dats m 0 c).arrAt_eq_of_cover 2 (ecube (gradient m c) : BF16 S4x2048x1024) (fun t hf => ?_)
    fun i => (Kernel7Ideal.Value.covered_iff2 i).2 ?_
  · have ht : t.1 % 4 = 3 := (flush0_2 t).mp hf
    obtain ⟨q, hq⟩ : ∃ q, t.1 = 4 * q + 3 := ⟨t.1 / 4, by omega⟩
    obtain ⟨n, hn⟩ := t
    subst hq
    rw [Kernel7Ideal.Value.flushed2]
    show (cfg0.win 2).cut _ (outsAt0 m c (4 * q + 3) hn).1 = _
    rw [out_sum]
    funext y
    have hy : (y 0).1 < 1 := (y 0).isLt
    rw [View.read_apply]
    obtain ⟨e0, e1, e2⟩ := index_2 ⟨4 * q + 3, hn⟩
    show ((term m c (4 * q) (y 1).1 (y 2).1 + term m c (4 * q + 1) (y 1).1 (y 2).1)
        + term m c (4 * q + 2) (y 1).1 (y 2).1) + term m c (4 * q + 3) (y 1).1 (y 2).1
      = gradient m c (win0_2.index ⟨4 * q + 3, hn⟩ 0 * 1 + 1 * (y 0).1)
          (win0_2.index ⟨4 * q + 3, hn⟩ 1 * 1024 + 1 * (y 1).1) (win0_2.index ⟨4 * q + 3, hn⟩ 2 * 1024 + 1 * (y 2).1)
    rw [sum_eq, e0, e1, e2]
    dsimp only
    rw [show (4 * q + 3) / 4 % 4 * 1 + 1 * (y 0).1 = q % 4 by omega,
      show (4 * q + 3) / 16 * 1024 + 1 * (y 1).1 = 1024 * (q / 4) + (y 1).1 by omega,
      show 0 * 1024 + 1 * (y 2).1 = (y 2).1 by omega]
  · have h0 : (i 0).1 < 4 := (i 0).isLt
    have h1 : (i 1).1 < 2048 := (i 1).isLt
    have h2 : (i 2).1 < 1024 := (i 2).isLt
    omega

end Cert.Ffn.OddIn

end
-- ==== Proof.OddInWeightValue.lean ====
/- The reference's weight gradient, cut into the four shards of 1024 columns, is the array the kernel leaves. -/
module

public import proofs.«01_k».proof.Proof.OddInWeightArray
public import proofs.«01_k».proof.Proof.Gen.Reference7Ideal.Read

@[expose] public section

set_option maxRecDepth 16384

noncomputable section

namespace Cert.Ffn.OddIn

open Idealize.ShloMosaic Cert.Reference7Ideal.Read

/-- The reference's result, entry by entry. -/
theorem reference_eq (x0 : BF16 Reference7Ideal.S4096x2048) (x1 : BF16 Reference7Ideal.S4096x4096) :
    val_main_v8 (F := Ideal) x0 x1
      = (ecube fun q i j => ∑ k ∈ Finset.range 4096, entry x0 k i * entry x1 k (1024 * q + j) : BF16 Reference7Ideal.S4x2048x1024) := by
  funext y
  have h0 : (y 0).1 < 4 := (y 0).isLt
  have h1 : (y 1).1 < 2048 := (y 1).isLt
  have h2 : (y 2).1 < 1024 := (y 2).isLt
  show val_main_v7 (F := Ideal) x0 x1 y = ∑ k ∈ Finset.range 4096, entry x0 k (y 1).1 * entry x1 k (1024 * (y 0).1 + (y 2).1)
  rw [val_main_v7_apply, val_main_v6_apply, val_main_v5_apply, val_main_v4_apply, ← sum_below 4096]
  refine Finset.sum_congr rfl fun k _ => ?_
  show (x1 _ : EReal) * x0 _ = _
  rw [← entry_apply x0, ← entry_apply x1, mul_comm]
  refine congrArg₂ (· * ·) (congrArg₂ (entry x0) rfl ?_) (congrArg₂ (entry x1) rfl ?_)
  · show (((y 1).1 * 4 + (y 0).1) * 1024 + (y 2).1) / 4096 = _; omega
  · show (((y 1).1 * 4 + (y 0).1) * 1024 + (y 2).1) % 4096 = _; omega

end Cert.Ffn.OddIn

end
-- ==== Proof.OutWeightBlock.lean ====
/- What one grid point of the output projection's weight gradient computes: the product of its block of mixed
   rows, transposed, with its block of cotangent rows, stored first, then added, and on the last of four points written out. -/
module

public import proofs.«01_k».proof.Proof.Entries
public import proofs.«01_k».proof.Proof.Gen.Kernel8Ideal.Value
public import Idealize.ShloMosaic.Lib.Pipeline.ReadBack
public import Idealize.ShloMosaic.Lib.Pipeline.ValueKit.Tiles

@[expose] public section

set_option maxRecDepth 16384

noncomputable section

namespace Cert.Ffn.Out

open Idealize.ShloMosaic TcCoe Tactic Cert.Kernel8Ideal Cert.Kernel8Ideal.Gen

/-- Column `i` of the first block against column `j` of the second. -/
abbrev cols (f g : ℕ → ℕ → EReal) (i j : ℕ) : EReal := ∑ k ∈ Finset.range 1024, f k i * g k j

theorem product (f g : ℕ → ℕ → EReal) :
    matmul dot_S1024x1024_S1024x1024_S1024x1024_0_0_1_1_n_n none (emat f : BF16 S1024x1024)
        (emat g : BF16 S1024x1024) (emat fun _ _ => 0)
      = emat (cols f g) := by
  funext i
  pointwise
  exact (congrArg₂ (· + ·) rfl (sum_below 1024 fun k => f k (i 0).1 * g k (i 1).1)).trans (zero_add _)

theorem first_eq (f g : ℕ → ℕ → EReal) :
    k0_pay1 (F := Ideal) (emat f : BF16 S1024x1024) (emat g : F32 S1024x1024) = emat (cols f g) := by
  unfold k0_pay1
  dsimp only
  rw [truncf_emat, constant_zero, product]
  exact shapeCast_self _ _
theorem next_eq (f g s : ℕ → ℕ → EReal) :
    k0_pay2 (F := Ideal) (emat f : BF16 S1024x1024) (emat g : F32 S1024x1024) (emat s : F32 S1024x1024)
      = emat fun i j => s i j + cols f g i j := by
  unfold k0_pay2
  dsimp only
  rw [truncf_emat, constant_zero, product]
  exact shapeCast_self _ _
theorem last_eq (f g s : ℕ → ℕ → EReal) :
    k0_pay3 (F := Ideal) (emat f : BF16 S1024x1024) (emat g : F32 S1024x1024) (emat s : F32 S1024x1024)
      = ecube fun _ i j => s i j + cols f g i j := by
  unfold k0_pay3
  dsimp only
  rw [truncf_emat, constant_zero, product]
  exact stack_one (φ := .bf16) (fun i j => s i j + cols f g i j) _

variable (c : Dev nD) (i : grid0.Coords) (arg3 : Memref sig .tc .vmem S1024x1024 .bf16) (harg3 : arg3.IsWhole) (arg4 : Memref sig .tc .vmem S1024x1024 .f32) (harg4 : arg4.IsWhole) (arg5 : Memref sig .tc .vmem S1x1024x1024 .bf16) (harg5 : arg5.IsWhole) (arg6 : Memref sig .tc .vmem S1024x1024 .f32) (harg6 : arg6.IsWhole)
variable (x0 : Vec Ideal S1024x1024 .bf16) (x1 : Vec Ideal S1024x1024 .f32) (xs : Vec Ideal S1024x1024 .f32)

/-- The first of four points stores its product. -/
theorem kept_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x1024) zeros2]

/-- The two points after it add theirs. -/
theorem kept_B (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg6.read_unread, View.ld_unit_zero (S := S1024x1024) zeros2]

/-- The last adds its own and writes the sum out. -/
theorem out_C (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  rw [View.read_writes_eq_canon _ _ _ (fun y => cover0_C_2 (y := y) ..)]
  unfold kernelRun0_C
  dsimp only
  rw [View.canon_unit_zero zeros3]
  simp only [View.readAt_eq_ld, harg3.read_unread, harg4.read_unread, harg6.read_unread, View.ld_unit_zero (S := S1024x1024) zeros2]

end Cert.Ffn.Out

end
-- ==== Proof.OutWeightArray.lean ====
/- What the array of the output projection's weight gradient holds after the last grid point: entry (0, i, j) is the sum
   over all token rows of column `i` of the mixed rows against column `j` of the cotangent rows. -/
module

public import proofs.«01_k».proof.Proof.OutWeightBlock

@[expose] public section

set_option maxRecDepth 16384

noncomputable section

namespace Cert.Ffn.Out

open Idealize.ShloMosaic TcCoe Tactic Cert.Kernel8Ideal Cert.Kernel8Ideal.Gen

variable (m : (ℓ : Loc nD τ sig) → Buf (Elt Ideal) ℓ) (c : Dev nD)

/-- The mixed rows. -/
def rowsA : ℕ → ℕ → EReal := entry (φ := .bf16) (m ((c : Thread nD τ).loc main_arg0) : BF16 S4096x2048)
/-- The cotangent rows. -/
def rowsB : ℕ → ℕ → EReal := entry (φ := .f32) (m ((c : Thread nD τ).loc main_arg1) : F32 S4096x2048)

theorem index_0 : ∀ t : Fin cfg0.N, win0_0.index t 0 = t.1 % 4 ∧ win0_0.index t 1 = t.1 / 8 := by decide +kernel
theorem index_1 : ∀ t : Fin cfg0.N, win0_1.index t 0 = t.1 % 4 ∧ win0_1.index t 1 = t.1 / 4 % 2 := by decide +kernel
theorem index_2 : ∀ t : Fin cfg0.N, win0_2.index t 0 = 0 ∧ win0_2.index t 1 = t.1 / 8 ∧ win0_2.index t 2 = t.1 / 4 % 2 := by
  decide +kernel

/-- The block of mixed rows at point `n`. -/
abbrev blockA (n : ℕ) : ℕ → ℕ → EReal := fun i j => rowsA m c (1024 * (n % 4) + i) (1024 * (n / 8) + j)
/-- The block of cotangent rows at point `n`. -/
abbrev blockB (n : ℕ) : ℕ → ℕ → EReal := fun i j => rowsB m c (1024 * (n % 4) + i) (1024 * (n / 4 % 2) + j)

theorem iblk_0 (t : Fin cfg0.N) : iblk m c 0 t = (emat (blockA m c t.1) : BF16 S1024x1024) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rowsA m c) ?_ ?_
  · show win0_0.index t 0 * 1024 + 1 * (y 0).1 = _; rw [(index_0 t).1]; omega
  · show win0_0.index t 1 * 1024 + 1 * (y 1).1 = _; rw [(index_0 t).2]; omega
theorem iblk_1 (t : Fin cfg0.N) : iblk m c 1 t = (emat (blockB m c t.1) : F32 S1024x1024) := by
  funext y
  unfold iblk
  rw [View.read_apply]
  show V m c main_arg1 _ = _
  rw [V_main_arg1]
  refine (entry_apply (φ := .f32) (m ((c : Thread nD τ).loc main_arg1) : F32 S4096x2048) _).symm.trans ?_
  refine congrArg₂ (rowsB m c) ?_ ?_
  · show win0_1.index t 0 * 1024 + 1 * (y 0).1 = _; rw [(index_1 t).1]; omega
  · show win0_1.index t 1 * 1024 + 1 * (y 1).1 = _; rw [(index_1 t).2]; omega

/-- The product of point `n`'s blocks. -/
abbrev term (n : ℕ) : ℕ → ℕ → EReal := cols (blockA m c n) (blockB m c n)

/-- What the running sum holds after the first of four points, … -/
theorem kept_0 (t : Fin cfg0.N) (ht : t.1 % 4 = 0) :
    (outsAt0 m c t.1 t.isLt).2 = (emat (term m c t.1) : F32 S1024x1024) := by
  rw [outsAt0_A m c t ht (by omega) (by omega)]
  dsimp only
  rw [kept_A, iblk_0, iblk_1]
  exact first_eq _ _
/-- … after a point in between, given what it held before, … -/
theorem kept_next (t : Fin cfg0.N) (ht : 1 ≤ t.1 % 4 ∧ t.1 % 4 ≤ 2) (s : ℕ → ℕ → EReal)
    (hs : (outsAt0 m c (t.1 - 1) (before t)).2 = (emat s : F32 S1024x1024)) :
    (outsAt0 m c t.1 t.isLt).2 = (emat fun i j => s i j + term m c t.1 i j : F32 S1024x1024) := by
  rw [outsAt0_B m c t (by omega) ht (by omega)]
  dsimp only
  rw [kept_B, hs, iblk_0, iblk_1]
  exact next_eq _ _ _
/-- … and what the last point writes out. -/
theorem out_last (t : Fin cfg0.N) (ht : t.1 % 4 = 3) (s : ℕ → ℕ → EReal)
    (hs : (outsAt0 m c (t.1 - 1) (before t)).2 = (emat s : F32 S1024x1024)) :
    (outsAt0 m c t.1 t.isLt).1 = (ecube fun _ i j => s i j + term m c t.1 i j : BF16 S1x1024x1024) := by
  rw [outsAt0_C m c t (by omega) (by omega) ht]
  dsimp only
  rw [out_C, hs, iblk_0, iblk_1]
  exact last_eq _ _ _

/-- The fourth of four points writes out the sum of the four products. -/
theorem out_sum (q : ℕ) (hq : 4 * q + 3 < cfg0.N) :
    (outsAt0 m c (4 * q + 3) hq).1 = (ecube fun _ i j => ((term m c (4 * q) i j + term m c (4 * q + 1) i j)
      + term m c (4 * q + 2) i j) + term m c (4 * q + 3) i j : BF16 S1x1024x1024) := by
  have h0 := kept_0 m c ⟨4 * q, by omega⟩ (by show 4 * q % 4 = 0; omega)
  have h1 := kept_next m c ⟨4 * q + 1, by omega⟩ (by show 1 ≤ (4 * q + 1) % 4 ∧ (4 * q + 1) % 4 ≤ 2; omega) _ h0
  have h2 := kept_next m c ⟨4 * q + 2, by omega⟩ (by show 1 ≤ (4 * q + 2) % 4 ∧ (4 * q + 2) % 4 ≤ 2; omega) _ h1
  exact out_last m c ⟨4 * q + 3, hq⟩ (by show (4 * q + 3) % 4 = 3; omega) _ h2

/-- The sum over all token rows. -/
abbrev gradient (i j : ℕ) : EReal := ∑ k ∈ Finset.range 4096, rowsA m c k i * rowsB m c k j

theorem sum_eq (q i j : ℕ) :
    ((term m c (4 * q) i j + term m c (4 * q + 1) i j) + term m c (4 * q + 2) i j) + term m c (4 * q + 3) i j
      = gradient m c (1024 * (q / 2) + i) (1024 * (q % 2) + j) := by
  have e : ∀ r < 4, term m c (4 * q + r) i j = ∑ k ∈ Finset.range 1024,
      rowsA m c (1024 * r + k) (1024 * (q / 2) + i) * rowsB m c (1024 * r + k) (1024 * (q % 2) + j) := by
    intro r hr
    show ∑ k ∈ Finset.range 1024, rowsA m c (1024 * ((4 * q + r) % 4) + k) (1024 * ((4 * q + r) / 8) + i)
      * rowsB m c (1024 * ((4 * q + r) % 4) + k) (1024 * ((4 * q + r) / 4 % 2) + j) = _
    rw [show (4 * q + r) % 4 = r by omega, show (4 * q + r) / 8 = q / 2 by omega, show (4 * q + r) / 4 % 2 = q % 2 by omega]
  rw [show term m c (4 * q) i j = _ from e 0 (by omega), e 1 (by omega), e 2 (by omega), e 3 (by omega)]
  exact four_stretches 1024 fun k => rowsA m c k (1024 * (q / 2) + i) * rowsB m c k (1024 * (q % 2) + j)

/-- The array after the run. -/
theorem array_eq :
    (dats m 0 c).arrAt 2 cfg0.N = (ecube fun _ => gradient m c : BF16 S1x2048x2048) := by
  have hN : cfg0.N = 16 := N_0
  refine (dats m 0 c).arrAt_eq_of_cover 2 (ecube fun _ => gradient m c : BF16 S1x2048x2048) (fun t hf => ?_)
    fun i => (Kernel8Ideal.Value.covered_iff2 i).2 ?_
  · have ht : t.1 % 4 = 3 := (flush0_2 t).mp hf
    obtain ⟨q, hq⟩ : ∃ q, t.1 = 4 * q + 3 := ⟨t.1 / 4, by omega⟩
    obtain ⟨n, hn⟩ := t
    subst hq
    rw [Kernel8Ideal.Value.flushed2]
    show (cfg0.win 2).cut _ (outsAt0 m c (4 * q + 3) hn).1 = _
    rw [out_sum]
    funext y
    have hy : (y 0).1 < 1 := (y 0).isLt
    rw [View.read_apply]
    obtain ⟨e0, e1, e2⟩ := index_2 ⟨4 * q + 3, hn⟩
    show ((term m c (4 * q) (y 1).1 (y 2).1 + term m c (4 * q + 1) (y 1).1 (y 2).1)
        + term m c (4 * q + 2) (y 1).1 (y 2).1) + term m c (4 * q + 3) (y 1).1 (y 2).1
      = gradient m c (win0_2.index ⟨4 * q + 3, hn⟩ 1 * 1024 + 1 * (y 1).1)
          (win0_2.index ⟨4 * q + 3, hn⟩ 2 * 1024 + 1 * (y 2).1)
    rw [sum_eq, e1, e2]
    dsimp only
    rw [show (4 * q + 3) / 8 * 1024 + 1 * (y 1).1 = 1024 * (q / 2) + (y 1).1 by omega,
      show (4 * q + 3) / 4 % 2 * 1024 + 1 * (y 2).1 = 1024 * (q % 2) + (y 2).1 by omega]
  · have h0 : (i 0).1 < 1 := (i 0).isLt
    have h1 : (i 1).1 < 2048 := (i 1).isLt
    have h2 : (i 2).1 < 2048 := (i 2).isLt
    omega

end Cert.Ffn.Out

end
-- ==== Proof.OutWeightValue.lean ====
/- The reference's weight gradient of the output projection is the array the kernel leaves. -/
module

public import proofs.«01_k».proof.Proof.OutWeightArray
public import proofs.«01_k».proof.Proof.Gen.Reference8Ideal.Read

@[expose] public section

set_option maxRecDepth 16384

noncomputable section

namespace Cert.Ffn.Out

open Idealize.ShloMosaic Cert.Reference8Ideal.Read

/-- The reference's result, entry by entry. -/
theorem reference_eq (x0 : BF16 Reference8Ideal.S4096x2048) (x1 : F32 Reference8Ideal.S4096x2048) :
    val_main_v6 (F := Ideal) x0 x1
      = (ecube fun _ i j => ∑ k ∈ Finset.range 4096, entry x0 k i * entry x1 k j : BF16 Reference8Ideal.S1x2048x2048) := by
  funext y
  show val_main_v5 (F := Ideal) x0 x1 y = ∑ k ∈ Finset.range 4096, entry x0 k (y 1).1 * entry x1 k (y 2).1
  rw [val_main_v5_apply, val_main_v4_apply, val_main_v3_apply, ← sum_below 4096]
  refine Finset.sum_congr rfl fun k _ => ?_
  show (x1 _ : EReal) * x0 _ = _
  rw [← entry_apply x0, ← entry_apply x1, mul_comm]

end Cert.Ffn.Out

end
-- ==== Proof.EvenInWeightBlock.lean ====
/- What one grid point of the weight gradient of layer 0's projection computes: the product of its block of gated
   rows, transposed, with its block of hidden rows, stored first, then added, and on the last of four points written out. -/
module

public import proofs.«01_k».proof.Proof.Entries
public import proofs.«01_k».proof.Proof.Gen.Kernel9Ideal.Value
public import Idealize.ShloMosaic.Lib.Pipeline.ReadBack
public import Idealize.ShloMosaic.Lib.Pipeline.ValueKit.Tiles

@[expose] public section

set_option maxRecDepth 16384

noncomputable section

namespace Cert.Ffn.EvenIn

open Idealize.ShloMosaic TcCoe Tactic Cert.Kernel9Ideal Cert.Kernel9Ideal.Gen

/-- Column `i` of the first block against column `j` of the second. -/
abbrev cols (f g : ℕ → ℕ → EReal) (i j : ℕ) : EReal := ∑ k ∈ Finset.range 1024, f k i * g k j

theorem product (f g : ℕ → ℕ → EReal) :
    matmul dot_S1024x1408_S1024x1024_S1408x1024_0_0_1_1_n_n none (emat f : BF16 S1024x1408)
        (emat g : BF16 S1024x1024) (emat fun _ _ => 0)
      = emat (cols f g) := by
  funext i
  pointwise
  exact (congrArg₂ (· + ·) rfl (sum_below 1024 fun k => f k (i 0).1 * g k (i 1).1)).trans (zero_add _)

theorem first_eq (f g : ℕ → ℕ → EReal) :
    k0_pay1 (F := Ideal) (emat f : BF16 S1024x1408) (emat g : BF16 S1024x1024) = emat (cols f g) := by
  unfold k0_pay1
  dsimp only
  rw [constant_zero, product]
  exact shapeCast_self _ _
theorem next_eq (f g s : ℕ → ℕ → EReal) :
    k0_pay2 (F := Ideal) (emat f : BF16 S1024x1408) (emat g : BF16 S1024x1024) (emat s : F32 S1408x1024)
      = emat fun i j => s i j + cols f g i j := by
  unfold k0_pay2
  dsimp only
  rw [constant_zero, product]
  exact shapeCast_self _ _
theorem last_eq (f g s : ℕ → ℕ → EReal) :
    k0_pay3 (F := Ideal) (emat f : BF16 S1024x1408) (emat g : BF16 S1024x1024) (emat s : F32 S1408x1024)
      = ecube fun _ i j => s i j + cols f g i j := by
  unfold k0_pay3
  dsimp only
  rw [constant_zero, product]
  exact stack_one (φ := .bf16) (fun i j => s i j + cols f g i j) _

variable (c : Dev nD) (i : grid0.Coords) (arg3 : Memref sig .tc .vmem S1024x1408 .bf16) (harg3 : arg3.IsWhole) (arg4 : Memref sig .tc .vmem S1024x1024 .bf16) (harg4 : arg4.IsWhole) (arg5 : Memref sig .tc .vmem S1x1408x1024 .bf16) (harg5 : arg5.IsWhole) (arg6 : Memref sig .tc .vmem S1408x1024 .f32) (harg6 : arg6.IsWhole)
variable (x0 : Vec Ideal S1024x1408 .bf16) (x1 : Vec Ideal S1024x1024 .bf16) (xs : Vec Ideal S1408x1024 .f32)

/-- The first of four points stores its product. -/
theorem kept_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x1024) zeros2, View.ld_unit_zero (S := S1024x1408) zeros2, View.ld_unit_zero (S := S1408x1024) zeros2]

/-- The two points after it add theirs. -/
theorem kept_B (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg6.read_unread, View.ld_unit_zero (S := S1024x1024) zeros2, View.ld_unit_zero (S := S1024x1408) zeros2, View.ld_unit_zero (S := S1408x1024) zeros2]

/-- The last adds its own and writes the sum out. -/
theorem out_C (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  rw [View.read_writes_eq_canon _ _ _ (fun y => cover0_C_2 (y := y) ..)]
  unfold kernelRun0_C
  dsimp only
  rw [View.canon_unit_zero zeros3]
  simp only [View.readAt_eq_ld, harg3.read_unread, harg4.read_unread, harg6.read_unread, View.ld_unit_zero (S := S1024x1024) zeros2, View.ld_unit_zero (S := S1024x1408) zeros2, View.ld_unit_zero (S := S1408x1024) zeros2]

end Cert.Ffn.EvenIn

end
-- ==== Proof.EvenInWeightArray.lean ====
/- What the array of the weight gradient of layer 0's projection holds after the last grid point: entry (0, i, j) is the sum
   over all token rows of column `i` of the projected cotangents against column `j` of the hidden rows. -/
module

public import proofs.«01_k».proof.Proof.EvenInWeightBlock

@[expose] public section

set_option maxRecDepth 16384

noncomputable section

namespace Cert.Ffn.EvenIn

open Idealize.ShloMosaic TcCoe Tactic Cert.Kernel9Ideal Cert.Kernel9Ideal.Gen

variable (m : (ℓ : Loc nD τ sig) → Buf (Elt Ideal) ℓ) (c : Dev nD)

/-- The projected cotangents. -/
def rowsA : ℕ → ℕ → EReal := entry (φ := .bf16) (m ((c : Thread nD τ).loc main_arg0) : BF16 S4096x5632)
/-- The hidden rows. -/
def rowsB : ℕ → ℕ → EReal := entry (φ := .bf16) (m ((c : Thread nD τ).loc main_arg1) : BF16 S4096x2048)

theorem index_0 : ∀ t : Fin cfg0.N, win0_0.index t 0 = t.1 % 4 ∧ win0_0.index t 1 = t.1 / 8 := by decide +kernel
theorem index_1 : ∀ t : Fin cfg0.N, win0_1.index t 0 = t.1 % 4 ∧ win0_1.index t 1 = t.1 / 4 % 2 := by decide +kernel
theorem index_2 : ∀ t : Fin cfg0.N, win0_2.index t 0 = 0 ∧ win0_2.index t 1 = t.1 / 8 ∧ win0_2.index t 2 = t.1 / 4 % 2 := by
  decide +kernel

/-- The block of projected cotangents at point `n`. -/
abbrev blockA (n : ℕ) : ℕ → ℕ → EReal := fun i j => rowsA m c (1024 * (n % 4) + i) (1408 * (n / 8) + j)
/-- The block of hidden rows at point `n`. -/
abbrev blockB (n : ℕ) : ℕ → ℕ → EReal := fun i j => rowsB m c (1024 * (n % 4) + i) (1024 * (n / 4 % 2) + j)

theorem iblk_0 (t : Fin cfg0.N) : iblk m c 0 t = (emat (blockA m c t.1) : BF16 S1024x1408) := by
  funext y
  unfold iblk
  rw [View.read_apply]
  show V m c main_arg0 _ = _
  rw [V_main_arg0]
  refine (entry_apply (φ := .bf16) (m ((c : Thread nD τ).loc main_arg0) : BF16 S4096x5632) _).symm.trans ?_
  refine congrArg₂ (rowsA m c) ?_ ?_
  · show win0_0.index t 0 * 1024 + 1 * (y 0).1 = _; rw [(index_0 t).1]; omega
  · show win0_0.index t 1 * 1408 + 1 * (y 1).1 = _; rw [(index_0 t).2]; omega
theorem iblk_1 (t : Fin cfg0.N) : iblk m c 1 t = (emat (blockB m c t.1) : BF16 S1024x1024) := by
  funext y
  unfold iblk
  rw [View.read_apply]
  show V m c main_arg1 _ = _
  rw [V_main_arg1]
  refine (entry_apply (φ := .bf16) (m ((c : Thread nD τ).loc main_arg1) : BF16 S4096x2048) _).symm.trans ?_
  refine congrArg₂ (rowsB m c) ?_ ?_
  · show win0_1.index t 0 * 1024 + 1 * (y 0).1 = _; rw [(index_1 t).1]; omega
  · show win0_1.index t 1 * 1024 + 1 * (y 1).1 = _; rw [(index_1 t).2]; omega

/-- The product of point `n`'s blocks. -/
abbrev term (n : ℕ) : ℕ → ℕ → EReal := cols (blockA m c n) (blockB m c n)

/-- What the running sum holds after the first of four points, … -/
theorem kept_0 (t : Fin cfg0.N) (ht : t.1 % 4 = 0) :
    (outsAt0 m c t.1 t.isLt).2 = (emat (term m c t.1) : F32 S1408x1024) := by
  rw [outsAt0_A m c t ht (by omega) (by omega)]
  dsimp only
  rw [kept_A, iblk_0, iblk_1]
  exact first_eq _ _
/-- … after a point in between, given what it held before, … -/
theorem kept_next (t : Fin cfg0.N) (ht : 1 ≤ t.1 % 4 ∧ t.1 % 4 ≤ 2) (s : ℕ → ℕ → EReal)
    (hs : (outsAt0 m c (t.1 - 1) (before t)).2 = (emat s : F32 S1408x1024)) :
    (outsAt0 m c t.1 t.isLt).2 = (emat fun i j => s i j + term m c t.1 i j : F32 S1408x1024) := by
  rw [outsAt0_B m c t (by omega) ht (by omega)]
  dsimp only
  rw [kept_B, hs, iblk_0, iblk_1]
  exact next_eq _ _ _
/-- … and what the last point writes out. -/
theorem out_last (t : Fin cfg0.N) (ht : t.1 % 4 = 3) (s : ℕ → ℕ → EReal)
    (hs : (outsAt0 m c (t.1 - 1) (before t)).2 = (emat s : F32 S1408x1024)) :
    (outsAt0 m c t.1 t.isLt).1 = (ecube fun _ i j => s i j + term m c t.1 i j : BF16 S1x1408x1024) := by
  rw [outsAt0_C m c t (by omega) (by omega) ht]
  dsimp only
  rw [out_C, hs, iblk_0, iblk_1]
  exact last_eq _ _ _

/-- The fourth of four points writes out the sum of the four products. -/
theorem out_sum (q : ℕ) (hq : 4 * q + 3 < cfg0.N) :
    (outsAt0 m c (4 * q + 3) hq).1 = (ecube fun _ i j => ((term m c (4 * q) i j + term m c (4 * q + 1) i j)
      + term m c (4 * q + 2) i j) + term m c (4 * q + 3) i j : BF16 S1x1408x1024) := by
  have h0 := kept_0 m c ⟨4 * q, by omega⟩ (by show 4 * q % 4 = 0; omega)
  have h1 := kept_next m c ⟨4 * q + 1, by omega⟩ (by show 1 ≤ (4 * q + 1) % 4 ∧ (4 * q + 1) % 4 ≤ 2; omega) _ h0
  have h2 := kept_next m c ⟨4 * q + 2, by omega⟩ (by show 1 ≤ (4 * q + 2) % 4 ∧ (4 * q + 2) % 4 ≤ 2; omega) _ h1
  exact out_last m c ⟨4 * q + 3, hq⟩ (by show (4 * q + 3) % 4 = 3; omega) _ h2

/-- The sum over all token rows. -/
abbrev gradient (i j : ℕ) : EReal := ∑ k ∈ Finset.range 4096, rowsA m c k i * rowsB m c k j

theorem sum_eq (q i j : ℕ) :
    ((term m c (4 * q) i j + term m c (4 * q + 1) i j) + term m c (4 * q + 2) i j) + term m c (4 * q + 3) i j
      = gradient m c (1408 * (q / 2) + i) (1024 * (q % 2) + j) := by
  have e : ∀ r < 4, term m c (4 * q + r) i j = ∑ k ∈ Finset.range 1024,
      rowsA m c (1024 * r + k) (1408 * (q / 2) + i) * rowsB m c (1024 * r + k) (1024 * (q % 2) + j) := by
    intro r hr
    show ∑ k ∈ Finset.range 1024, rowsA m c (1024 * ((4 * q + r) % 4) + k) (1408 * ((4 * q + r) / 8) + i)
      * rowsB m c (1024 * ((4 * q + r) % 4) + k) (1024 * ((4 * q + r) / 4 % 2) + j) = _
    rw [show (4 * q + r) % 4 = r by omega, show (4 * q + r) / 8 = q / 2 by omega, show (4 * q + r) / 4 % 2 = q % 2 by omega]
  rw [show term m c (4 * q) i j = _ from e 0 (by omega), e 1 (by omega), e 2 (by omega), e 3 (by omega)]
  exact four_stretches 1024 fun k => rowsA m c k (1408 * (q / 2) + i) * rowsB m c k (1024 * (q % 2) + j)

/-- The array after the run. -/
theorem array_eq :
    (dats m 0 c).arrAt 2 cfg0.N = (ecube fun _ => gradient m c : BF16 S1x5632x2048) := by
  have hN : cfg0.N = 32 := N_0
  refine (dats m 0 c).arrAt_eq_of_cover 2 (ecube fun _ => gradient m c : BF16 S1x5632x2048) (fun t hf => ?_)
    fun i => (Kernel9Ideal.Value.covered_iff2 i).2 ?_
  · have ht : t.1 % 4 = 3 := (flush0_2 t).mp hf
    obtain ⟨q, hq⟩ : ∃ q, t.1 = 4 * q + 3 := ⟨t.1 / 4, by omega⟩
    obtain ⟨n, hn⟩ := t
    subst hq
    rw [Kernel9Ideal.Value.flushed2]
    show (cfg0.win 2).cut _ (outsAt0 m c (4 * q + 3) hn).1 = _
    rw [out_sum]
    funext y
    have hy : (y 0).1 < 1 := (y 0).isLt
    rw [View.read_apply]
    obtain ⟨e0, e1, e2⟩ := index_2 ⟨4 * q + 3, hn⟩
    show ((term m c (4 * q) (y 1).1 (y 2).1 + term m c (4 * q + 1) (y 1).1 (y 2).1)
        + term m c (4 * q + 2) (y 1).1 (y 2).1) + term m c (4 * q + 3) (y 1).1 (y 2).1
      = gradient m c (win0_2.index ⟨4 * q + 3, hn⟩ 1 * 1408 + 1 * (y 1).1)
          (win0_2.index ⟨4 * q + 3, hn⟩ 2 * 1024 + 1 * (y 2).1)
    rw [sum_eq, e1, e2]
    dsimp only
    rw [show (4 * q + 3) / 8 * 1408 + 1 * (y 1).1 = 1408 * (q / 2) + (y 1).1 by omega,
      show (4 * q + 3) / 4 % 2 * 1024 + 1 * (y 2).1 = 1024 * (q % 2) + (y 2).1 by omega]
  · have h0 : (i 0).1 < 1 := (i 0).isLt
    have h1 : (i 1).1 < 5632 := (i 1).isLt
    have h2 : (i 2).1 < 2048 := (i 2).isLt
    omega

end Cert.Ffn.EvenIn

end
-- ==== Proof.EvenInWeightValue.lean ====
/- The reference's weight gradient of layer 0's projection is the array the kernel leaves. -/
module

public import proofs.«01_k».proof.Proof.EvenInWeightArray
public import proofs.«01_k».proof.Proof.Gen.Reference9Ideal.Read

@[expose] public section

set_option maxRecDepth 16384

noncomputable section

namespace Cert.Ffn.EvenIn

open Idealize.ShloMosaic Cert.Reference9Ideal.Read

/-- The reference's result, entry by entry. -/
theorem reference_eq (x0 : BF16 Reference9Ideal.S4096x5632) (x1 : BF16 Reference9Ideal.S4096x2048) :
    val_main_v9 (F := Ideal) x0 x1
      = (ecube fun _ i j => ∑ k ∈ Finset.range 4096, entry x0 k i * entry x1 k j : BF16 Reference9Ideal.S1x5632x2048) := by
  funext y
  show val_main_v8 (F := Ideal) x0 x1 y = ∑ k ∈ Finset.range 4096, entry x0 k (y 1).1 * entry x1 k (y 2).1
  rw [val_main_v8_apply, val_main_v7_apply, val_main_v6_apply, val_main_v5_apply, ← sum_below 4096]
  refine Finset.sum_congr rfl fun k _ => ?_
  show (x0 _ : EReal) * x1 _ = _
  rw [← entry_apply x0, ← entry_apply x1]

end Cert.Ffn.EvenIn

end
-- ==== Proof.GatedCotangentBlock.lean ====
/- What one grid point of the cotangent of the gated rows computes: its block of rows against its block of weight rows, the whole inner dimension at once. -/
module

public import proofs.«01_k».proof.Proof.Entries
public import proofs.«01_k».proof.Proof.Gen.Kernel10Ideal.Value
public import Idealize.ShloMosaic.Lib.Pipeline.ReadBack
public import Idealize.ShloMosaic.Lib.Pipeline.ValueKit.Tiles

@[expose] public section

set_option maxRecDepth 16384

noncomputable section

namespace Cert.Ffn.Gated

open Idealize.ShloMosaic TcCoe Tactic Cert.Kernel10Ideal Cert.Kernel10Ideal.Gen

/-- Row `i` of the first block against row `j` of the second. -/
abbrev rowDot (f w : ℕ → ℕ → EReal) (i j : ℕ) : EReal := ∑ k ∈ Finset.range 2048, f i k * w j k

theorem product (f w : ℕ → ℕ → EReal) :
    matmul dot_S1024x2048_S1024x2048_S1024x1024_1_1_0_0_n_n none (emat f : BF16 S1024x2048)
        (emat w : BF16 S1024x2048) (emat fun _ _ => 0)
      = emat (rowDot f w) := by
  funext i
  pointwise
  exact (congrArg₂ (· + ·) rfl (sum_below 2048 fun k => f (i 0).1 k * w (i 1).1 k)).trans (zero_add _)

theorem value_eq (f w : ℕ → ℕ → EReal) :
    k0_pay1 (F := Ideal) (emat f : F32 S1024x2048) (ecube fun _ => w : BF16 S1x1024x2048)
      = (emat (rowDot f w) : BF16 S1024x1024) := by
  unfold k0_pay1
  dsimp only
  rw [constant_zero, truncf_emat, unstack_one (φ := .bf16) w shapeCasts_S1x1024x2048_S1024x2048, product]
  rfl

variable (c : Dev nD) (i : grid0.Coords) (arg3 : Memref sig .tc .vmem S1024x2048 .f32) (harg3 : arg3.IsWhole) (arg4 : Memref sig .tc .vmem S1x1024x2048 .bf16) (harg4 : arg4.IsWhole) (arg5 : Memref sig .tc .vmem S1024x1024 .bf16) (harg5 : arg5.IsWhole) (arg6 : Memref sig .tc .vmem S1024x1024 .f32) (harg6 : arg6.IsWhole)
variable (x0 : Vec Ideal S1024x2048 .f32) (x1 : Vec Ideal S1x1024x2048 .bf16)

/-- The block written out. -/
theorem out_block :
    out0_A_2 (F := Ideal) c i arg3 harg3 arg4 harg4 arg5 harg5 arg6 harg6 x0 x1 = k0_pay1 x0 x1 := by
  unfold out0_A_2
  rw [View.read_writes_eq_canon _ _ _ (fun y => cover0_A_2 (y := y) ..)]
  unfold kernelRun0_A
  dsimp only
  rw [View.canon_unit_zero zeros2]
  simp only [View.readAt_eq_ld, harg3.read_unread, harg4.read_unread, View.ld_unit_zero (S := S1024x2048) zeros2, View.ld_unit_zero (S := S1x1024x2048) zeros3]

end Cert.Ffn.Gated

end
-- ==== Proof.GatedCotangentArray.lean ====
/- What the array of the cotangent of the gated rows holds after the last grid point, entry by entry. -/
module

public import proofs.«01_k».proof.Proof.GatedCotangentBlock

@[expose] public section

set_option maxRecDepth 16384

noncomputable section

namespace Cert.Ffn.Gated

open Idealize.ShloMosaic TcCoe Tactic Cert.Kernel10Ideal Cert.Kernel10Ideal.Gen

variable (m : (ℓ : Loc nD τ sig) → Buf (Elt Ideal) ℓ) (c : Dev nD)

/-- The rows, … -/
def rows : ℕ → ℕ → EReal := entry (φ := .f32) (m ((c : Thread nD τ).loc main_arg0) : F32 S4096x2048)
/-- … and the weights. -/
def weights : ℕ → ℕ → EReal := entry (φ := .bf16) (m ((c : Thread nD τ).loc main_arg1) : BF16 S2048x2048)

theorem index_0 : ∀ t : Fin cfg0.N, win0_0.index t 0 = t.1 / 2 ∧ win0_0.index t 1 = 0 := by decide +kernel
theorem index_1 : ∀ t : Fin cfg0.N, win0_1.index t 0 = 0 ∧ win0_1.index t 1 = t.1 % 2 ∧ win0_1.index t 2 = 0 := by decide +kernel
theorem index_2 : ∀ t : Fin cfg0.N, win0_2.index t 0 = t.1 / 2 ∧ win0_2.index t 1 = t.1 % 2 := by decide +kernel

/-- The block of rows at point `n`. -/
abbrev blockF (n : ℕ) : ℕ → ℕ → EReal := fun i j => rows m c (1024 * (n / 2) + i) j
/-- The block of weights at point `n`. -/
abbrev blockW (n : ℕ) : ℕ → ℕ → EReal := fun i j => weights m c (1024 * (n % 2) + i) j

theorem iblk_0 (t : Fin cfg0.N) : iblk m c 0 t = (emat (blockF m c t.1) : F32 S1024x2048) := by
  funext y
  unfold iblk
  rw [View.read_apply]
  show V m c main_arg0 _ = _
  rw [V_main_arg0]
  refine (entry_apply (φ := .f32) (m ((c : Thread nD τ).loc main_arg0) : F32 S4096x2048) _).symm.trans ?_
  refine congrArg₂ (rows m c) ?_ ?_
  · show win0_0.index t 0 * 1024 + 1 * (y 0).1 = _; rw [(index_0 t).1]; omega
  · show win0_0.index t 1 * 2048 + 1 * (y 1).1 = _; rw [(index_0 t).2]; omega
/-- The weights as a stack of one, as the host makes them. -/
theorem stacked : V m c main_v0 = (ecube fun _ => weights m c : BF16 S1x2048x2048) := by
  unfold V
  simp only [hostOps0, List.flatten_cons, List.flatten_nil, List.append_nil, List.cons_append, List.nil_append]
  after_results
  funext y
  refine Eq.trans ?_ (entry_apply (φ := .bf16) (m ((c : Thread nD τ).loc main_arg1) : BF16 S2048x2048)
    (ix2 ⟨(y 1).1, (y 1).isLt⟩ ⟨(y 2).1, (y 2).isLt⟩)).symm
  exact congrArg (m ((c : Thread nD τ).loc main_arg1) : BF16 S2048x2048)
    (funext fun a => match a with | ⟨0, _⟩ => rfl | ⟨1, _⟩ => rfl)
theorem iblk_1 (t : Fin cfg0.N) : iblk m c 1 t = (ecube fun _ => blockW m c t.1 : BF16 S1x1024x2048) := by
  funext y
  unfold iblk
  rw [View.read_apply]
  show (V m c main_v0 : BF16 S1x2048x2048) _ = _
  rw [stacked]
  refine congrArg₂ (weights m c) ?_ ?_
  · show win0_1.index t 1 * 1024 + 1 * (y 1).1 = _; rw [(index_1 t).2.1]; omega
  · show win0_1.index t 2 * 2048 + 1 * (y 2).1 = _; rw [(index_1 t).2.2]; omega

/-- The product of all of them. -/
abbrev all (i j : ℕ) : EReal := ∑ k ∈ Finset.range 2048, rows m c i k * weights m c j k

/-- Every entry of the third window's array lies in the block of some point. -/
theorem cover_2 (i : S4096x2048.Idx) :
    ∃ t : Fin cfg0.N, i ∈ ((View.whole main_v1).slice (win0_2.rect t)).set := by
  have hN : cfg0.N = 8 := N_0
  have h0 : (i 0 : Nat) < 4096 := (i 0).isLt
  have h1 : (i 1 : Nat) < 2048 := (i 1).isLt
  have hl : 2 * ((i 0).1 / 1024) + (i 1).1 / 1024 < cfg0.N := by omega
  refine ⟨⟨2 * ((i 0).1 / 1024) + (i 1).1 / 1024, hl⟩, ?_⟩
  rw [View.set_slice_whole, Rect.mem_set_unit]
  intro a
  match a with
  | ⟨0, _⟩ =>
    show win0_2.index (⟨2 * ((i 0).1 / 1024) + (i 1).1 / 1024, hl⟩ : Fin cfg0.N) 0 * 1024 ≤ (i 0 : Nat)
      ∧ (i 0 : Nat) < win0_2.index (⟨2 * ((i 0).1 / 1024) + (i 1).1 / 1024, hl⟩ : Fin cfg0.N) 0 * 1024 + 1024
    rw [(index_2 _).1]; dsimp only; omega
  | ⟨1, _⟩ =>
    show win0_2.index (⟨2 * ((i 0).1 / 1024) + (i 1).1 / 1024, hl⟩ : Fin cfg0.N) 1 * 1024 ≤ (i 1 : Nat)
      ∧ (i 1 : Nat) < win0_2.index (⟨2 * ((i 0).1 / 1024) + (i 1).1 / 1024, hl⟩ : Fin cfg0.N) 1 * 1024 + 1024
    rw [(index_2 _).2]; dsimp only; omega

/-- The array after the run. -/
theorem array_eq :
    (dats m 0 c).arrAt 2 cfg0.N = (emat (all m c) : BF16 S4096x2048) := by
  refine (dats m 0 c).arrAt_eq_of_cover 2 (emat (all m c) : BF16 S4096x2048) (fun t _ => ?_)
    fun i => (cover_2 i).imp fun t ht => ⟨flush0_2 t, ht⟩
  rw [Kernel10Ideal.Value.flushed2_A, out_block, iblk_0, iblk_1, value_eq]
  funext y
  have h1 : (y 1).1 < 1024 := (y 1).isLt
  rw [View.read_apply]
  show rowDot (blockF m c t.1) (blockW m c t.1) (y 0).1 (y 1).1
    = all m c (win0_2.index t 0 * 1024 + 1 * (y 0).1) (win0_2.index t 1 * 1024 + 1 * (y 1).1)
  rw [(index_2 t).1, (index_2 t).2, show t.1 / 2 * 1024 + 1 * (y 0).1 = 1024 * (t.1 / 2) + (y 0).1 by omega,
    show t.1 % 2 * 1024 + 1 * (y 1).1 = 1024 * (t.1 % 2) + (y 1).1 by omega]

end Cert.Ffn.Gated

end
-- ==== Proof.GatedCotangentValue.lean ====
/- The reference of the cotangent of the gated rows, entry by entry: the same as what the kernel leaves. -/
module

public import proofs.«01_k».proof.Proof.GatedCotangentArray
public import proofs.«01_k».proof.Proof.Gen.Reference10Ideal.Read

@[expose] public section

set_option maxRecDepth 16384

noncomputable section

namespace Cert.Ffn.Gated

open Idealize.ShloMosaic Cert.Reference10Ideal.Read

/-- The reference's result, entry by entry. -/
theorem reference_eq (x0 : F32 Reference10Ideal.S4096x2048) (x1 : BF16 Reference10Ideal.S2048x2048) :
    val_main_v4 (F := Ideal) x0 x1
      = (emat fun i j => ∑ k ∈ Finset.range 2048, entry x0 i k * entry x1 j k : BF16 Reference10Ideal.S4096x2048) := by
  funext y
  show val_main_v3 (F := Ideal) x0 x1 y = ∑ k ∈ Finset.range 2048, entry x0 (y 0).1 k * entry x1 (y 1).1 k
  rw [val_main_v3_apply, ← sum_below 2048]
  refine Finset.sum_congr rfl fun k _ => ?_
  show (x0 _ : EReal) * x1 _ = _
  exact congrArg₂ (· * ·) (entry_apply x0 _).symm (entry_apply x1 _).symm

end Cert.Ffn.Gated

end
-- ==== Proof.MixCotangentBlock.lean ====
/- What one grid point of the cotangent of the mixed rows computes: its block of rows against its block of weight rows, the whole inner dimension at once. -/
module

public import proofs.«01_k».proof.Proof.Entries
public import proofs.«01_k».proof.Proof.Gen.Kernel11Ideal.Value
public import Idealize.ShloMosaic.Lib.Pipeline.ReadBack
public import Idealize.ShloMosaic.Lib.Pipeline.ValueKit.Tiles

@[expose] public section

set_option maxRecDepth 16384

noncomputable section

namespace Cert.Ffn.Mix

open Idealize.ShloMosaic TcCoe Tactic Cert.Kernel11Ideal Cert.Kernel11Ideal.Gen

/-- Row `i` of the first block against row `j` of the second. -/
abbrev rowDot (f w : ℕ → ℕ → EReal) (i j : ℕ) : EReal := ∑ k ∈ Finset.range 2048, f i k * w j k

theorem product (f w : ℕ → ℕ → EReal) :
    matmul dot_S1024x2048_S1024x2048_S1024x1024_1_1_0_0_n_n none (emat f : BF16 S1024x2048)
        (emat w : BF16 S1024x2048) (emat fun _ _ => 0)
      = emat (rowDot f w) := by
  funext i
  pointwise
  exact (congrArg₂ (· + ·) rfl (sum_below 2048 fun k => f (i 0).1 k * w (i 1).1 k)).trans (zero_add _)

theorem value_eq (f w : ℕ → ℕ → EReal) :
    k0_pay1 (F := Ideal) (emat f : F32 S1024x2048) (ecube fun _ => w : BF16 S1x1024x2048)
      = (emat (rowDot f w) : F32 S1024x1024) := by
  unfold k0_pay1
  dsimp only
  rw [constant_zero, truncf_emat, unstack_one (φ := .bf16) w shapeCasts_S1x1024x2048_S1024x2048, product]

variable (c : Dev nD) (i : grid0.Coords) (arg3 : Memref sig .tc .vmem S1024x2048 .f32) (harg3 : arg3.IsWhole) (arg4 : Memref sig .tc .vmem S1x1024x2048 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x2048 .f32) (x1 : Vec Ideal S1x1024x2048 .bf16)

/-- The block written out. -/
theorem out_block :
    out0_A_2 (F := Ideal) c i arg3 harg3 arg4 harg4 arg5 harg5 arg6 harg6 x0 x1 = k0_pay1 x0 x1 := by
  unfold out0_A_2
  rw [View.read_writes_eq_canon _ _ _ (fun y => cover0_A_2 (y := y) ..)]
  unfold kernelRun0_A
  dsimp only
  rw [View.canon_unit_zero zeros2]
  simp only [View.readAt_eq_ld, harg3.read_unread, harg4.read_unread, View.ld_unit_zero (S := S1024x2048) zeros2, View.ld_unit_zero (S := S1x1024x2048) zeros3]

end Cert.Ffn.Mix

end
-- ==== Proof.MixCotangentArray.lean ====
/- What the array of the cotangent of the mixed rows holds after the last grid point, entry by entry. -/
module

public import proofs.«01_k».proof.Proof.MixCotangentBlock

@[expose] public section

set_option maxRecDepth 16384

noncomputable section

namespace Cert.Ffn.Mix

open Idealize.ShloMosaic TcCoe Tactic Cert.Kernel11Ideal Cert.Kernel11Ideal.Gen

variable (m : (ℓ : Loc nD τ sig) → Buf (Elt Ideal) ℓ) (c : Dev nD)

/-- The rows, … -/
def rows : ℕ → ℕ → EReal := entry (φ := .f32) (m ((c : Thread nD τ).loc main_arg0) : F32 S4096x2048)
/-- … and the weights. -/
def weights : ℕ → ℕ → EReal := entry (φ := .bf16) (m ((c : Thread nD τ).loc main_arg1) : BF16 S2048x2048)

theorem index_0 : ∀ t : Fin cfg0.N, win0_0.index t 0 = t.1 / 2 ∧ win0_0.index t 1 = 0 := by decide +kernel
theorem index_1 : ∀ t : Fin cfg0.N, win0_1.index t 0 = 0 ∧ win0_1.index t 1 = t.1 % 2 ∧ win0_1.index t 2 = 0 := by decide +kernel
theorem index_2 : ∀ t : Fin cfg0.N, win0_2.index t 0 = t.1 / 2 ∧ win0_2.index t 1 = t.1 % 2 := by decide +kernel

/-- The block of rows at point `n`. -/
abbrev blockF (n : ℕ) : ℕ → ℕ → EReal := fun i j => rows m c (1024 * (n / 2) + i) j
/-- The block of weights at point `n`. -/
abbrev blockW (n : ℕ) : ℕ → ℕ → EReal := fun i j => weights m c (1024 * (n % 2) + i) j

theorem iblk_0 (t : Fin cfg0.N) : iblk m c 0 t = (emat (blockF m c t.1) : F32 S1024x2048) := by
  funext y
  unfold iblk
  rw [View.read_apply]
  show V m c main_arg0 _ = _
  rw [V_main_arg0]
  refine (entry_apply (φ := .f32) (m ((c : Thread nD τ).loc main_arg0) : F32 S4096x2048) _).symm.trans ?_
  refine congrArg₂ (rows m c) ?_ ?_
  · show win0_0.index t 0 * 1024 + 1 * (y 0).1 = _; rw [(index_0 t).1]; omega
  · show win0_0.index t 1 * 2048 + 1 * (y 1).1 = _; rw [(index_0 t).2]; omega
/-- The weights as a stack of one, as the host makes them. -/
theorem stacked : V m c main_v0 = (ecube fun _ => weights m c : BF16 S1x2048x2048) := by
  unfold V
  simp only [hostOps0, List.flatten_cons, List.flatten_nil, List.append_nil, List.cons_append, List.nil_append]
  after_results
  funext y
  refine Eq.trans ?_ (entry_apply (φ := .bf16) (m ((c : Thread nD τ).loc main_arg1) : BF16 S2048x2048)
    (ix2 ⟨(y 1).1, (y 1).isLt⟩ ⟨(y 2).1, (y 2).isLt⟩)).symm
  exact congrArg (m ((c : Thread nD τ).loc main_arg1) : BF16 S2048x2048)
    (funext fun a => match a with | ⟨0, _⟩ => rfl | ⟨1, _⟩ => rfl)
theorem iblk_1 (t : Fin cfg0.N) : iblk m c 1 t = (ecube fun _ => blockW m c t.1 : BF16 S1x1024x2048) := by
  funext y
  unfold iblk
  rw [View.read_apply]
  show (V m c main_v0 : BF16 S1x2048x2048) _ = _
  rw [stacked]
  refine congrArg₂ (weights m c) ?_ ?_
  · show win0_1.index t 1 * 1024 + 1 * (y 1).1 = _; rw [(index_1 t).2.1]; omega
  · show win0_1.index t 2 * 2048 + 1 * (y 2).1 = _; rw [(index_1 t).2.2]; omega

/-- The product of all of them. -/
abbrev all (i j : ℕ) : EReal := ∑ k ∈ Finset.range 2048, rows m c i k * weights m c j k

/-- Every entry of the third window's array lies in the block of some point. -/
theorem cover_2 (i : S4096x2048.Idx) :
    ∃ t : Fin cfg0.N, i ∈ ((View.whole main_v1).slice (win0_2.rect t)).set := by
  have hN : cfg0.N = 8 := N_0
  have h0 : (i 0 : Nat) < 4096 := (i 0).isLt
  have h1 : (i 1 : Nat) < 2048 := (i 1).isLt
  have hl : 2 * ((i 0).1 / 1024) + (i 1).1 / 1024 < cfg0.N := by omega
  refine ⟨⟨2 * ((i 0).1 / 1024) + (i 1).1 / 1024, hl⟩, ?_⟩
  rw [View.set_slice_whole, Rect.mem_set_unit]
  intro a
  match a with
  | ⟨0, _⟩ =>
    show win0_2.index (⟨2 * ((i 0).1 / 1024) + (i 1).1 / 1024, hl⟩ : Fin cfg0.N) 0 * 1024 ≤ (i 0 : Nat)
      ∧ (i 0 : Nat) < win0_2.index (⟨2 * ((i 0).1 / 1024) + (i 1).1 / 1024, hl⟩ : Fin cfg0.N) 0 * 1024 + 1024
    rw [(index_2 _).1]; dsimp only; omega
  | ⟨1, _⟩ =>
    show win0_2.index (⟨2 * ((i 0).1 / 1024) + (i 1).1 / 1024, hl⟩ : Fin cfg0.N) 1 * 1024 ≤ (i 1 : Nat)
      ∧ (i 1 : Nat) < win0_2.index (⟨2 * ((i 0).1 / 1024) + (i 1).1 / 1024, hl⟩ : Fin cfg0.N) 1 * 1024 + 1024
    rw [(index_2 _).2]; dsimp only; omega

/-- The array after the run. -/
theorem array_eq :
    (dats m 0 c).arrAt 2 cfg0.N = (emat (all m c) : F32 S4096x2048) := by
  refine (dats m 0 c).arrAt_eq_of_cover 2 (emat (all m c) : F32 S4096x2048) (fun t _ => ?_)
    fun i => (cover_2 i).imp fun t ht => ⟨flush0_2 t, ht⟩
  rw [Kernel11Ideal.Value.flushed2_A, out_block, iblk_0, iblk_1, value_eq]
  funext y
  have h1 : (y 1).1 < 1024 := (y 1).isLt
  rw [View.read_apply]
  show rowDot (blockF m c t.1) (blockW m c t.1) (y 0).1 (y 1).1
    = all m c (win0_2.index t 0 * 1024 + 1 * (y 0).1) (win0_2.index t 1 * 1024 + 1 * (y 1).1)
  rw [(index_2 t).1, (index_2 t).2, show t.1 / 2 * 1024 + 1 * (y 0).1 = 1024 * (t.1 / 2) + (y 0).1 by omega,
    show t.1 % 2 * 1024 + 1 * (y 1).1 = 1024 * (t.1 % 2) + (y 1).1 by omega]

end Cert.Ffn.Mix

end
-- ==== Proof.MixCotangentValue.lean ====
/- The reference of the cotangent of the mixed rows, entry by entry: the same as what the kernel leaves. -/
module

public import proofs.«01_k».proof.Proof.MixCotangentArray
public import proofs.«01_k».proof.Proof.Gen.Reference11Ideal.Read

@[expose] public section

set_option maxRecDepth 16384

noncomputable section

namespace Cert.Ffn.Mix

open Idealize.ShloMosaic Cert.Reference11Ideal.Read

/-- The reference's result, entry by entry. -/
theorem reference_eq (x0 : F32 Reference11Ideal.S4096x2048) (x1 : BF16 Reference11Ideal.S2048x2048) :
    val_main_v3 (F := Ideal) x0 x1
      = (emat fun i j => ∑ k ∈ Finset.range 2048, entry x0 i k * entry x1 j k : F32 Reference11Ideal.S4096x2048) := by
  funext y
  show val_main_v3 (F := Ideal) x0 x1 y = ∑ k ∈ Finset.range 2048, entry x0 (y 0).1 k * entry x1 (y 1).1 k
  rw [val_main_v3_apply, ← sum_below 2048]
  refine Finset.sum_congr rfl fun k _ => ?_
  show (x0 _ : EReal) * x1 _ = _
  exact congrArg₂ (· * ·) (entry_apply x0 _).symm (entry_apply x1 _).symm

end Cert.Ffn.Mix

end
-- ==== Proof.OddNormBlock.lean ====
/- What one grid point of the norm's gradient in the odd layer's backward pass computes, of its blocks' entries: its product
   is stored, then added up; the last of four points goes back through the norm, adds the cotangent of the rows themselves,
   and adds its rows to the gain's gradient. The functions of one row are those of the feed-forward's norm. -/
module

public import proofs.«01_k».proof.Proof.NormBlock
public import proofs.«01_k».proof.Proof.Gen.Kernel12Ideal.Value

@[expose] public section

set_option maxRecDepth 16384

noncomputable section

namespace Cert.Ffn.OddNorm

open Idealize.ShloMosaic TcCoe Tactic Cert.Kernel12Ideal Cert.Kernel12Ideal.Gen
open Cert.Ffn.Norm (meanSq rinv rowGrad gainGrad)

/-- Row `i` of the first block against row `j` of the second. -/
abbrev rlines (f g : ℕ → ℕ → EReal) (i j : ℕ) : EReal := ∑ k ∈ Finset.range 1024, f i k * g j k
/-- The cotangent of the normalised rows: the whole product. -/
abbrev cot (A : ℕ → ℕ → EReal) (W : ℕ → ℕ → ℕ → EReal) (i j : ℕ) : EReal := ∑ k ∈ Finset.range 4096, A i k * W (k / 1024) j (k % 1024)

theorem product (f g : ℕ → ℕ → EReal) :
    matmul dot_S512x1024_S2048x1024_S512x2048_1_1_0_0_n_n none (emat f : BF16 S512x1024)
        (emat g : BF16 S2048x1024) (emat fun _ _ => 0)
      = emat (rlines f g) := by
  funext i
  pointwise
  exact (congrArg₂ (· + ·) rfl (sum_below 1024 fun k => f (i 0).1 k * g (i 1).1 k)).trans (zero_add _)

theorem unstack (g : ℕ → ℕ → EReal) :
    shapeCast S2048x1024 (ecube fun _ => g : BF16 S1x2048x1024) shapeCasts_S1x2048x1024_S2048x1024 = (emat g : BF16 S2048x1024) :=
  unstack_one _ _

theorem zero_eq : k0_pay1 (F := Ideal) = (emat fun _ _ => 0 : F32 S1x2048) := by
  unfold k0_pay1
  exact funext fun _ => Gmlp.ofBits_zero
theorem first_eq (f g : ℕ → ℕ → EReal) :
    k0_pay2 (F := Ideal) (emat f : BF16 S512x1024) (ecube fun _ => g : BF16 S1x2048x1024) = (emat (rlines f g) : F32 S512x2048) := by
  unfold k0_pay2
  dsimp only
  rw [unstack, constant_zero, product]
  exact shapeCast_self _ _
theorem next_eq (f g s : ℕ → ℕ → EReal) :
    k0_pay3 (F := Ideal) (emat f : BF16 S512x1024) (ecube fun _ => g : BF16 S1x2048x1024) (emat s : F32 S512x2048)
      = (emat fun i j => s i j + rlines f g i j : F32 S512x2048) := by
  unfold k0_pay3
  dsimp only
  rw [unstack, constant_zero, product, addf_emat]
  exact shapeCast_self _ _
/-- The whole cotangent of the normalised rows. -/
theorem cot_eq (f g s : ℕ → ℕ → EReal) :
    k0_pay5 (F := Ideal) (emat f : BF16 S512x1024) (ecube fun _ => g : BF16 S1x2048x1024) (emat s : F32 S512x2048)
      = (emat fun i j => s i j + rlines f g i j : F32 S512x2048) := by
  unfold k0_pay5
  dsimp only
  rw [unstack, constant_zero, product]
  exact addf_emat _ _
theorem rinv_eq (x : ℕ → ℕ → EReal) :
    k0_pay6 (F := Ideal) (emat x : F32 S512x2048) = (emat fun i _ => rinv (x i) : F32 S512x1) := by
  unfold k0_pay6
  dsimp only
  rw [mulf_emat, sum_rows, column_of, Gmlp.scalar_2048, Gmlp.scalar_eps, splat_emat, splat_emat, divf_emat, addf_emat, rsqrt_emat]
  rfl
theorem row_eq (f w s x g d : ℕ → ℕ → EReal) :
    k0_pay7 (F := Ideal) (emat f : BF16 S512x1024) (ecube fun _ => w : BF16 S1x2048x1024) (emat s : F32 S512x2048)
        (emat x : F32 S512x2048) (emat g : F32 S1x2048) (emat d : F32 S512x2048)
      = (emat fun i j => rowGrad (x i) (g 0) (fun j => s i j + rlines f w i j) (d i) j : F32 S512x2048) := by
  unfold k0_pay7
  dsimp only
  rw [cot_eq, rinv_eq, repeat_row, repeat_col, mulf_emat, mulf_emat, mulf_emat, mulf_emat, repeat_col, mulf_emat, mulf_emat,
    sum_rows, column_of, Gmlp.scalar_2048, splat_emat, divf_emat, repeat_col, mulf_emat, subf_emat, addf_emat]
  rfl
theorem gain_eq (y x o : ℕ → ℕ → EReal) :
    k0_pay4 (F := Ideal) (emat y : F32 S512x2048) (emat x : F32 S512x2048) (emat fun i _ => rinv (x i) : F32 S512x1) (emat o : F32 S1x2048)
      = (emat fun i j => o i j + ∑ k ∈ Finset.range 512, gainGrad (x k) (y k) j : F32 S1x2048) := by
  unfold k0_pay4
  dsimp only
  rw [mulf_emat, repeat_col, mulf_emat, sum_cols, row_of, shapeCast_self]
  exact addf_emat _ _

variable (c : Dev nD) (i : grid0.Coords) (arg2 : Memref sig .tc .vmem S512x1024 .bf16) (harg2 : arg2.IsWhole) (arg3 : Memref sig .tc .vmem S1x2048x1024 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S512x2048 .f32) (harg9 : arg9.IsWhole)
variable (x0 : Vec Ideal S512x1024 .bf16) (x1 : Vec Ideal S1x2048x1024 .bf16) (x2 : Vec Ideal S512x2048 .f32) (x3 : Vec Ideal S1x2048 .f32) (x4 : Vec Ideal S512x2048 .f32) (xo : Vec Ideal S1x2048 .f32) (xs : Vec Ideal S512x2048 .f32)

/-- The very first point clears the gain's gradient … -/
theorem gain_A (hc0 : cond0_0 i) (hc1 : cond0_1 i) (hc2 : ¬cond0_2 i) (hc3 : ¬cond0_3 i) :
    out0_A_6 (F := Ideal) c i arg2 harg2 arg3 harg3 arg4 harg4 arg5 harg5 arg6 harg6 arg7 harg7 arg8 harg8 arg9 harg9 hc0 hc1 hc2 hc3 x0 x1 x2 x3 x4 = k0_pay1 (F := Ideal) := by
  unfold out0_A_6
  rw [View.read_writes_eq_canon _ _ _ (fun y => cover0_A_6 (y := y) ..)]
  unfold kernelRun0_A
  dsimp only
  rw [View.canon_unit_zero zeros2]
/-- … and stores its product. -/
theorem kept_A (hc0 : cond0_0 i) (hc1 : cond0_1 i) (hc2 : ¬cond0_2 i) (hc3 : ¬cond0_3 i) :
    sout0_A_0 (F := Ideal) c i arg2 harg2 arg3 harg3 arg4 harg4 arg5 harg5 arg6 harg6 arg7 harg7 arg8 harg8 arg9 harg9 hc0 hc1 hc2 hc3 x0 x1 x2 x3 x4 = k0_pay2 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg2.read_unread, harg3.read_unread, View.ld_unit_zero (S := S512x2048) zeros2, View.ld_unit_zero (S := S512x1024) zeros2, View.ld_unit_zero (S := S1x2048x1024) zeros3]
/-- The other first points store their product. -/
theorem kept_D (hc0 : ¬cond0_0 i) (hc1 : cond0_1 i) (hc2 : ¬cond0_2 i) (hc3 : ¬cond0_3 i) :
    sout0_D_0 (F := Ideal) c i arg2 harg2 arg3 harg3 arg4 harg4 arg5 harg5 arg6 harg6 arg7 harg7 arg8 harg8 arg9 harg9 hc0 hc1 hc2 hc3 x0 x1 x2 x3 x4 = k0_pay2 x0 x1 := by
  unfold sout0_D_0
  rw [View.read_writes_eq_canon _ _ _ (fun y => scover0_D_0 (y := y) ..)]
  unfold kernelRun0_D
  dsimp only
  rw [View.canon_unit_zero zeros2]
  simp only [View.readAt_eq_ld, harg2.read_unread, harg3.read_unread, View.ld_unit_zero (S := S512x2048) zeros2, View.ld_unit_zero (S := S512x1024) zeros2, View.ld_unit_zero (S := S1x2048x1024) zeros3]
/-- The points in between add theirs. -/
theorem kept_B (hc0 : ¬cond0_0 i) (hc1 : ¬cond0_1 i) (hc2 : cond0_2 i) (hc3 : ¬cond0_3 i) :
    sout0_B_0 (F := Ideal) c i arg2 harg2 arg3 harg3 arg4 harg4 arg5 harg5 arg6 harg6 arg7 harg7 arg8 harg8 arg9 harg9 hc0 hc1 hc2 hc3 x0 x1 x2 x3 x4 xs = k0_pay3 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg2.read_unread, harg3.read_unread, harg9.read_unread, View.ld_unit_zero (S := S512x2048) zeros2, View.ld_unit_zero (S := S512x1024) zeros2, View.ld_unit_zero (S := S1x2048x1024) zeros3]
/-- The last of four points writes the rows' gradient … -/
theorem rows_C (hc0 : ¬cond0_0 i) (hc1 : ¬cond0_1 i) (hc2 : ¬cond0_2 i) (hc3 : cond0_3 i) :
    out0_C_5 (F := Ideal) c i arg2 harg2 arg3 harg3 arg4 harg4 arg5 harg5 arg6 harg6 arg7 harg7 arg8 harg8 arg9 harg9 hc0 hc1 hc2 hc3 x0 x1 x2 x3 x4 xo xs = k0_pay7 x0 x1 xs x2 x3 x4 := by
  unfold out0_C_5
  rw [View.read_writes_eq_canon _ _ _ (fun y => cover0_C_5 (y := y) ..)]
  unfold kernelRun0_C
  dsimp only [kernelRun0_C.sl.r, kernelRun0_C.sl.r_1, kernelRun0_C.sl.r_2, kernelRun0_C.sl.r_3]
  rw [View.canon_unit_zero zeros2]
  simp only [View.readAt_eq_ld, harg2.read_unread, harg3.read_unread, harg4.read_unread, harg5.read_unread, harg6.read_unread, harg9.read_unread, View.ld_unit_zero (S := S512x2048) zeros2, View.ld_unit_zero (S := S512x1024) zeros2, View.ld_unit_zero (S := S1x2048) zeros2, View.ld_unit_zero (S := S1x2048x1024) zeros3]
/-- … and adds its rows to the gain's gradient. -/
theorem gain_C (hc0 : ¬cond0_0 i) (hc1 : ¬cond0_1 i) (hc2 : ¬cond0_2 i) (hc3 : cond0_3 i) :
    out0_C_6 (F := Ideal) c i arg2 harg2 arg3 harg3 arg4 harg4 arg5 harg5 arg6 harg6 arg7 harg7 arg8 harg8 arg9 harg9 hc0 hc1 hc2 hc3 x0 x1 x2 x3 x4 xo xs
      = k0_pay4 (k0_pay5 x0 x1 xs) x2 (k0_pay6 x2) xo := by
  unfold out0_C_6
  rw [View.read_writes_eq_canon _ _ _ (fun y => cover0_C_6 (y := y) ..)]
  unfold kernelRun0_C
  dsimp only [kernelRun0_C.sl.r, kernelRun0_C.sl.r_1, kernelRun0_C.sl.r_2, kernelRun0_C.sl.r_3]
  rw [View.canon_unit_zero zeros2]
  simp only [View.readAt_eq_ld, harg2.read_unread, harg3.read_unread, harg4.read_unread, harg8.read_unread, harg9.read_unread, View.ld_unit_zero (S := S512x2048) zeros2, View.ld_unit_zero (S := S512x1024) zeros2, View.ld_unit_zero (S := S1x2048) zeros2, View.ld_unit_zero (S := S1x2048x1024) zeros3]

end Cert.Ffn.OddNorm

end
-- ==== Proof.OddNormArray.lean ====
/- What the two arrays of the norm's gradient in the odd layer's backward pass hold after the last grid point, in terms of
   its arguments' entries. Four points in a row add up the cotangent of 512 normalised rows, one shard of the weights each;
   the fourth writes the rows' gradient. The gain's gradient stays in place from the first point to the last and so sums
   over all 4096 rows. -/
module

public import proofs.«01_k».proof.Proof.OddNormBlock

@[expose] public section

set_option maxRecDepth 16384

noncomputable section

namespace Cert.Ffn.OddNorm

open Idealize.ShloMosaic TcCoe Tactic Cert.Kernel12Ideal Cert.Kernel12Ideal.Gen
open Finset (range)
open Cert.Ffn.Norm (meanSq rinv rowGrad gainGrad)

variable (m : (ℓ : Loc nD τ sig) → Buf (Elt Ideal) ℓ) (c : Dev nD)
variable (A : ℕ → ℕ → EReal) (W : ℕ → ℕ → ℕ → EReal) (X G D : ℕ → ℕ → EReal)

/-- The arguments have these entries: the cotangent of the projection, its weights shard by shard, the rows, the gain, and the
    cotangent of the rows themselves. -/
structure Holds : Prop where
  factor : (m ((c : Thread nD τ).loc main_arg0) : BF16 S4096x4096) = (emat A : BF16 S4096x4096)
  weights : (m ((c : Thread nD τ).loc main_arg1) : BF16 S4x2048x1024) = (ecube W : BF16 S4x2048x1024)
  rows : (m ((c : Thread nD τ).loc main_arg2) : F32 S4096x2048) = (emat X : F32 S4096x2048)
  gain : (m ((c : Thread nD τ).loc main_arg3) : F32 S1x2048) = (emat G : F32 S1x2048)
  direct : (m ((c : Thread nD τ).loc main_arg4) : F32 S4096x2048) = (emat D : F32 S4096x2048)

theorem index_0 : ∀ t : Fin cfg0.N, win0_0.index t 0 = t.1 / 4 ∧ win0_0.index t 1 = t.1 % 4 := by decide +kernel
theorem index_1 : ∀ t : Fin cfg0.N, win0_1.index t 0 = t.1 % 4 ∧ win0_1.index t 1 = 0 ∧ win0_1.index t 2 = 0 := by decide +kernel
theorem index_2 : ∀ t : Fin cfg0.N, win0_2.index t 0 = t.1 / 4 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = t.1 / 4 ∧ win0_4.index t 1 = 0 := by decide +kernel
theorem index_5 : ∀ t : Fin cfg0.N, win0_5.index t 0 = t.1 / 4 ∧ win0_5.index t 1 = 0 := by decide +kernel
theorem index_6 : ∀ t : Fin cfg0.N, win0_6.index t 0 = 0 ∧ win0_6.index t 1 = 0 := by decide +kernel

/-- Point `n`'s rows of an array of rows. -/
abbrev rowsOf (Y : ℕ → ℕ → EReal) (n : ℕ) : ℕ → ℕ → EReal := fun i j => Y (512 * (n / 4) + i) j
/-- Point `n`'s block of the projection's cotangent. -/
abbrev blockA (n : ℕ) : ℕ → ℕ → EReal := fun i j => A (512 * (n / 4) + i) (1024 * (n % 4) + j)

variable {m c A W X G D} (H : Holds m c A W X G D)
include H

theorem iblk_0 (t : Fin cfg0.N) : iblk m c 0 t = (emat (blockA A t.1) : BF16 S512x1024) := by
  funext y
  unfold iblk
  rw [View.read_apply]
  show V m c main_arg0 _ = _
  rw [V_main_arg0]
  refine (congrFun H.factor _).trans (congrArg₂ (fun p q => A p q) ?_ ?_)
  · show win0_0.index t 0 * 512 + 1 * (y 0).1 = 512 * (t.1 / 4) + (y 0).1; rw [(index_0 t).1]; omega
  · show win0_0.index t 1 * 1024 + 1 * (y 1).1 = 1024 * (t.1 % 4) + (y 1).1; rw [(index_0 t).2]; omega
theorem iblk_1 (t : Fin cfg0.N) : iblk m c 1 t = (ecube fun _ => W (t.1 % 4) : BF16 S1x2048x1024) := by
  funext y
  unfold iblk
  rw [View.read_apply]
  show V m c main_arg1 _ = _
  rw [V_main_arg1]
  refine (congrFun H.weights _).trans ?_
  have hy : (y 0).1 < 1 := (y 0).isLt
  obtain ⟨e0, e1, e2⟩ := index_1 t
  show (W (win0_1.index t 0 * 1 + 1 * (y 0).1) (win0_1.index t 1 * 2048 + 1 * (y 1).1) (win0_1.index t 2 * 1024 + 1 * (y 2).1))
    = W (t.1 % 4) (y 1).1 (y 2).1
  rw [e0, e1, e2, show t.1 % 4 * 1 + 1 * (y 0).1 = t.1 % 4 by omega,
    show 0 * 2048 + 1 * (y 1).1 = (y 1).1 by omega, show 0 * 1024 + 1 * (y 2).1 = (y 2).1 by omega]
theorem iblk_2 (t : Fin cfg0.N) : iblk m c 2 t = (emat (rowsOf X t.1) : F32 S512x2048) := by
  funext y
  unfold iblk
  rw [View.read_apply]
  show V m c main_arg2 _ = _
  rw [V_main_arg2]
  refine (congrFun H.rows _).trans (congrArg₂ (fun p q => X p q) ?_ ?_)
  · show win0_2.index t 0 * 512 + 1 * (y 0).1 = 512 * (t.1 / 4) + (y 0).1; rw [(index_2 t).1]; omega
  · show win0_2.index t 1 * 2048 + 1 * (y 1).1 = (y 1).1; rw [(index_2 t).2]; omega
theorem iblk_3 (t : Fin cfg0.N) : iblk m c 3 t = (emat G : F32 S1x2048) := by
  funext y
  unfold iblk
  rw [View.read_apply]
  show V m c main_arg3 _ = _
  rw [V_main_arg3]
  refine (congrFun H.gain _).trans (congrArg₂ (fun p q => G p q) ?_ ?_)
  · show win0_3.index t 0 * 1 + 1 * (y 0).1 = (y 0).1; rw [(index_3 t).1]; omega
  · show win0_3.index t 1 * 2048 + 1 * (y 1).1 = (y 1).1; rw [(index_3 t).2]; omega
theorem iblk_4 (t : Fin cfg0.N) : iblk m c 4 t = (emat (rowsOf D t.1) : F32 S512x2048) := by
  funext y
  unfold iblk
  rw [View.read_apply]
  show V m c main_arg4 _ = _
  rw [V_main_arg4]
  refine (congrFun H.direct _).trans (congrArg₂ (fun p q => D p q) ?_ ?_)
  · show win0_4.index t 0 * 512 + 1 * (y 0).1 = 512 * (t.1 / 4) + (y 0).1; rw [(index_4 t).1]; omega
  · show win0_4.index t 1 * 2048 + 1 * (y 1).1 = (y 1).1; rw [(index_4 t).2]; omega

/-- What is left in place by the first point of four, … -/
theorem kept_first (t : Fin cfg0.N) (ht : t.1 % 4 = 0) :
    (outsAt0 m c t.1 t.isLt).2.2 = (emat (rlines (blockA A t.1) (W (t.1 % 4))) : F32 S512x2048) := by
  by_cases h : t.1 % 32 = 0
  · rw [outsAt0_A m c t h ht (by omega) (by omega)]
    dsimp only
    rw [kept_A, iblk_0 H, iblk_1 H]
    exact first_eq _ _
  · rw [outsAt0_D m c t h ht (by omega) (by omega)]
    dsimp only
    rw [kept_D, iblk_0 H, iblk_1 H]
    exact first_eq _ _
/-- … and by a point in between, given what it found. -/
theorem kept_next (t : Fin cfg0.N) (ht : 1 ≤ t.1 % 4 ∧ t.1 % 4 ≤ 2) (s : ℕ → ℕ → EReal)
    (hs : (outsAt0 m c (t.1 - 1) (before t)).2.2 = (emat s : F32 S512x2048)) :
    (outsAt0 m c t.1 t.isLt).2.2
      = (emat fun i j => s i j + rlines (blockA A t.1) (W (t.1 % 4)) i j : F32 S512x2048) := by
  rw [outsAt0_B m c t (by omega) (by omega) ht (by omega)]
  dsimp only
  rw [kept_B, hs, iblk_0 H, iblk_1 H]
  exact next_eq _ _ _
/-- What the last point of four writes for its rows, … -/
theorem rows_last (t : Fin cfg0.N) (ht : t.1 % 4 = 3) (s : ℕ → ℕ → EReal)
    (hs : (outsAt0 m c (t.1 - 1) (before t)).2.2 = (emat s : F32 S512x2048)) :
    (outsAt0 m c t.1 t.isLt).1
      = (emat fun i j => rowGrad (rowsOf X t.1 i) (G 0) (fun j => s i j + rlines (blockA A t.1) (W (t.1 % 4)) i j)
          (rowsOf D t.1 i) j : F32 S512x2048) := by
  rw [outsAt0_C m c t (by omega) (by omega) (by omega) ht]
  dsimp only
  rw [rows_C, hs, iblk_0 H, iblk_1 H, iblk_2 H, iblk_3 H, iblk_4 H]
  exact row_eq _ _ _ _ _ _
/-- … and what it makes of the gain's gradient. -/
theorem gain_last (t : Fin cfg0.N) (ht : t.1 % 4 = 3) (s o : ℕ → ℕ → EReal)
    (hs : (outsAt0 m c (t.1 - 1) (before t)).2.2 = (emat s : F32 S512x2048))
    (ho : (outsAt0 m c (t.1 - 1) (before t)).2.1 = (emat o : F32 S1x2048)) :
    (outsAt0 m c t.1 t.isLt).2.1
      = (emat fun i j => o i j + ∑ k ∈ range 512, gainGrad (rowsOf X t.1 k)
          (fun j => s k j + rlines (blockA A t.1) (W (t.1 % 4)) k j) j : F32 S1x2048) := by
  rw [outsAt0_C m c t (by omega) (by omega) (by omega) ht]
  dsimp only
  rw [gain_C, hs, ho, iblk_0 H, iblk_1 H, iblk_2 H, cot_eq, rinv_eq]
  exact gain_eq _ _ _

omit H in
/-- The gain's gradient starts at zero … -/
theorem gain_start (t : Fin cfg0.N) (ht : t.1 % 32 = 0) :
    (outsAt0 m c t.1 t.isLt).2.1 = (emat fun _ _ => 0 : F32 S1x2048) := by
  rw [outsAt0_A m c t ht (by omega) (by omega) (by omega)]
  dsimp only
  rw [gain_A]
  exact zero_eq
omit H in
/-- … and is left alone by all points but each fourth. -/
theorem gain_same (t : Fin cfg0.N) (h0 : ¬t.1 % 32 = 0) (ht : ¬t.1 % 4 = 3) :
    (outsAt0 m c t.1 t.isLt).2.1 = (outsAt0 m c (t.1 - 1) (before t)).2.1 := by
  by_cases h : t.1 % 4 = 0
  · rw [outsAt0_D m c t h0 h (by omega) ht]
    dsimp only
    unfold out0_D_6
    rfl
  · rw [outsAt0_B m c t h0 h (by omega) ht]
    dsimp only
    unfold out0_B_6
    rfl

variable (A W) in
/-- The product over the columns of the first `r` shards. -/
abbrev part (r i j : ℕ) : EReal := ∑ k ∈ range (1024 * r), A i k * W (k / 1024) j (k % 1024)

omit H in
theorem part_step (n i j : ℕ) :
    part A W (n % 4) (512 * (n / 4) + i) j + rlines (blockA A n) (W (n % 4)) i j = part A W (n % 4 + 1) (512 * (n / 4) + i) j := by
  unfold part
  rw [show 1024 * (n % 4 + 1) = 1024 * (n % 4) + 1024 by omega, Finset.sum_range_add]
  refine congrArg₂ (· + ·) rfl (Finset.sum_congr rfl fun k hk => ?_)
  have hk := Finset.mem_range.mp hk
  rw [show (1024 * (n % 4) + k) / 1024 = n % 4 by omega, show (1024 * (n % 4) + k) % 1024 = k by omega]

/-- What is in place after point `n`: unless it was the last of four, the product over the shards so far; and the gain's
    gradient over the rows so far. -/
theorem state (n : ℕ) : ∀ hn : n < cfg0.N,
    (n % 4 < 3 → (outsAt0 m c n hn).2.2 = (emat fun i j => part A W (n % 4 + 1) (512 * (n / 4) + i) j : F32 S512x2048))
    ∧ (outsAt0 m c n hn).2.1
      = (emat fun _ j => ∑ p ∈ range (512 * ((n + 1) / 4)), gainGrad (X p) (cot A W p) j : F32 S1x2048) := by
  induction n with
  | zero =>
    intro hn
    refine ⟨fun _ => ?_, ?_⟩
    · rw [kept_first H ⟨0, hn⟩ rfl]
      refine emat_congr fun i _ j _ => ?_
      have := part_step (A := A) (W := W) 0 i j
      refine Eq.trans ?_ this
      show _ = ∑ k ∈ range 0, _ + _
      rw [Finset.sum_range_zero, zero_add]
    · exact (gain_start ⟨0, hn⟩ rfl).trans (emat_congr fun i _ j _ => by simp)
  | succ n ih =>
    intro hn
    have hN : cfg0.N = 32 := N_0
    obtain ⟨h1, h2⟩ := ih (by omega)
    rcases Nat.lt_or_ge ((n + 1) % 4) 3 with h | h
    · refine ⟨fun _ => ?_, ?_⟩
      · by_cases h0 : (n + 1) % 4 = 0
        · rw [kept_first H ⟨n + 1, hn⟩ h0]
          refine emat_congr fun i _ j _ => ?_
          refine Eq.trans ?_ (part_step (A := A) (W := W) (n + 1) i j)
          show _ = ∑ k ∈ range (1024 * ((n + 1) % 4)), _ + _
          rw [h0, Nat.mul_zero, Finset.sum_range_zero, zero_add]
        · rw [kept_next H ⟨n + 1, hn⟩ (by show 1 ≤ (n + 1) % 4 ∧ (n + 1) % 4 ≤ 2; omega) _ (h1 (by omega))]
          refine emat_congr fun i _ j _ => ?_
          refine Eq.trans ?_ (part_step (A := A) (W := W) (n + 1) i j)
          rw [show n % 4 + 1 = (n + 1) % 4 by omega, show n / 4 = (n + 1) / 4 by omega]
      · refine (gain_same ⟨n + 1, hn⟩ (by show ¬(n + 1) % 32 = 0; omega) (by show ¬(n + 1) % 4 = 3; omega)).trans ?_
        refine h2.trans ?_
        rw [show (n + 1 + 1) / 4 = (n + 1) / 4 by omega]
    · have h3 : (n + 1) % 4 = 3 := by omega
      refine ⟨fun h' => by omega, ?_⟩
      rw [gain_last H ⟨n + 1, hn⟩ h3 _ _ (h1 (by omega)) h2]
      refine emat_congr fun i _ j _ => ?_
      rw [show 512 * ((n + 1 + 1) / 4) = 512 * ((n + 1) / 4) + 512 by omega, Finset.sum_range_add]
      refine congrArg₂ (· + ·) rfl (Finset.sum_congr rfl fun k _ => ?_)
      refine congrArg₂ (fun x y => gainGrad x y j) rfl (funext fun j => ?_)
      show part A W (n % 4 + 1) (512 * (n / 4) + k) j + rlines (blockA A (n + 1)) (W ((n + 1) % 4)) k j = _
      rw [show n % 4 + 1 = (n + 1) % 4 by omega, show n / 4 = (n + 1) / 4 by omega, part_step, h3]

/-- The array of the rows' gradient. -/
theorem rows_array :
    (dats m 0 c).arrAt 5 cfg0.N
      = (emat fun i j => rowGrad (X i) (G 0) (cot A W i) (D i) j : F32 S4096x2048) := by
  have hN : cfg0.N = 32 := N_0
  refine (dats m 0 c).arrAt_eq_of_cover 5 (emat fun i j => rowGrad (X i) (G 0) (cot A W i) (D i) j : F32 S4096x2048)
    (fun t hf => ?_) fun i => (Kernel12Ideal.Value.covered_iff5 i).2 ?_
  · have ht : t.1 % 4 = 3 := (flush0_5 t).mp hf
    have hs := (state H (t.1 - 1) (before t)).1 (by omega)
    rw [Kernel12Ideal.Value.flushed5, rows_last H t ht _ hs]
    funext y
    rw [View.read_apply]
    show (rowGrad (rowsOf X t.1 (y 0).1) (G 0) (fun j => part A W ((t.1 - 1) % 4 + 1) (512 * ((t.1 - 1) / 4) + (y 0).1) j
          + rlines (blockA A t.1) (W (t.1 % 4)) (y 0).1 j) (rowsOf D t.1 (y 0).1) (y 1).1)
      = (rowGrad (X (win0_5.index t 0 * 512 + 1 * (y 0).1)) (G 0) (cot A W (win0_5.index t 0 * 512 + 1 * (y 0).1))
          (D (win0_5.index t 0 * 512 + 1 * (y 0).1)) (win0_5.index t 1 * 2048 + 1 * (y 1).1))
    rw [(index_5 t).1, (index_5 t).2, show t.1 / 4 * 512 + 1 * (y 0).1 = 512 * (t.1 / 4) + (y 0).1 by omega,
      show 0 * 2048 + 1 * (y 1).1 = (y 1).1 by omega, show (t.1 - 1) % 4 + 1 = t.1 % 4 by omega,
      show (t.1 - 1) / 4 = t.1 / 4 by omega]
    refine congrArg (fun y' => (rowGrad _ _ y' _ _)) (funext fun j => ?_)
    rw [part_step, ht]
  · have h0 : (i 0).1 < 4096 := (i 0).isLt
    have h1 : (i 1).1 < 2048 := (i 1).isLt
    omega

/-- The array of the gain's gradient. -/
theorem gain_array :
    (dats m 0 c).arrAt 6 cfg0.N
      = (emat fun _ j => ∑ p ∈ range 4096, gainGrad (X p) (cot A W p) j : F32 S1x2048) := by
  have hN : cfg0.N = 32 := N_0
  refine (dats m 0 c).arrAt_eq_of_cover 6 (emat fun _ j => ∑ p ∈ range 4096, gainGrad (X p) (cot A W p) j : F32 S1x2048)
    (fun t hf => ?_) fun i => (Kernel12Ideal.Value.covered_iff6 i).2 ?_
  · have ht : t.1 % 32 = 31 := (flush0_6 t).mp hf
    have hl : t.1 < 32 := lt_of_lt_of_eq t.isLt N_0
    have hs := (state H t.1 t.isLt).2
    rw [show 512 * ((t.1 + 1) / 4) = 4096 by omega] at hs
    rw [Kernel12Ideal.Value.flushed6, hs]
    funext y
    rw [View.read_apply]
    show (∑ p ∈ range 4096, gainGrad (X p) (cot A W p) (y 1).1)
      = (∑ p ∈ range 4096, gainGrad (X p) (cot A W p) (win0_6.index t 1 * 2048 + 1 * (y 1).1))
    rw [(index_6 t).2, show 0 * 2048 + 1 * (y 1).1 = (y 1).1 by omega]
  · have h0 : (i 0).1 < 1 := (i 0).isLt
    have h1 : (i 1).1 < 2048 := (i 1).isLt
    omega

end Cert.Ffn.OddNorm

end
-- ==== Proof.OddNormReference.lean ====
/- What the reference of the norm's gradient in the odd layer's backward pass computes, stage by stage, in terms of its arguments' entries. -/
module

public import proofs.«01_k».proof.Proof.NormValue
public import proofs.«01_k».proof.Proof.OddNormBlock
public import proofs.«01_k».proof.Proof.Gen.Reference12Ideal.Read

@[expose] public section

set_option maxRecDepth 16384

noncomputable section

namespace Cert.Ffn.OddNorm

open Idealize.ShloMosaic Cert.Reference12Ideal Cert.Reference12Ideal.Read
open Cert.Ffn.Norm (meanSq rinv sum_from_zero refDot refSlope refRow)

variable (A : ℕ → ℕ → EReal) (W : ℕ → ℕ → ℕ → EReal) (X G D : ℕ → ℕ → EReal)

/-- The weights side by side: column `k` is column `k % 1024` of shard `k / 1024`. -/
theorem weights_side (y : S2048x4096.Idx) :
    val_main_v2 (F := Ideal) (ecube W : BF16 S4x2048x1024) y = W ((y 1).1 / 1024) (y 0).1 ((y 1).1 % 1024) := by
  have h0 : (y 0).1 < 2048 := (y 0).isLt
  have h1 : (y 1).1 < 4096 := (y 1).isLt
  rw [val_main_v2_apply, val_main_v1_apply, val_main_v0_apply]
  show W (((y 0).1 * 4096 + (y 1).1) / 1024 % 4) (((y 0).1 * 4096 + (y 1).1) / 4096)
    (((y 0).1 * 4096 + (y 1).1) % 1024) = _
  rw [show ((y 0).1 * 4096 + (y 1).1) / 1024 % 4 = (y 1).1 / 1024 by omega,
    show ((y 0).1 * 4096 + (y 1).1) / 4096 = (y 0).1 by omega,
    show ((y 0).1 * 4096 + (y 1).1) % 1024 = (y 1).1 % 1024 by omega]

/-- The cotangent of the normalised rows. -/
theorem ref_v20 :
    val_main_v20 (F := Ideal) (emat A : BF16 S4096x4096) (ecube W : BF16 S4x2048x1024) = (emat (cot A W) : F32 S4096x2048) := by
  funext y
  rw [val_main_v20_apply]
  simp only [weights_side, val_main_v19_apply]
  exact sum_below 4096 fun k => A (y 0).1 k * W (k / 1024) (y 1).1 (k % 1024)

/-- The mean squares of the rows, plus the small number. -/
theorem ref_v9 : val_main_v9 (F := Ideal) (emat X : F32 S4096x2048) = (emat fun i _ => meanSq (X i) : F32 S4096x1) := by
  funext y
  rw [val_main_v9_apply, val_main_v7_apply, val_main_v8_apply, val_main_cst_1_apply, val_main_v6_apply, val_main_cst_0_apply,
    val_main_v5_apply, val_main_v4_apply, val_main_cst_apply]
  simp only [val_main_v3_apply]
  show Ideal.div (Ideal.ofBits .f32 0x00000000#32 + ∑ k : Fin 2048, X (y 0).1 k.1 * X (y 0).1 k.1) (Ideal.ofBits .f32 0x45000000#32)
    + Ideal.ofBits .f32 0x358637BD#32 = meanSq (X (y 0).1)
  rw [sum_from_zero 2048 fun k => X (y 0).1 k * X (y 0).1 k, Gmlp.ofBits_2048, Gmlp.ofBits_eps]
  rfl

/-- Their reciprocal roots. -/
theorem ref_v10 : val_main_v10 (F := Ideal) (emat X : F32 S4096x2048) = (emat fun i _ => rinv (X i) : F32 S4096x1) := by
  unfold val_main_v10
  rw [ref_v9]
  rfl

/-- The derivative of the reciprocal roots. -/
theorem ref_v13 : val_main_v13 (F := Ideal) (emat X : F32 S4096x2048)
    = (emat fun i _ => ((-(1 / 2) : ℝ) : EReal) * Ideal.div (rinv (X i)) (meanSq (X i)) : F32 S4096x1) := by
  funext y
  rw [val_main_v13_apply, val_main_v12_apply, val_main_cst_2_apply, val_main_v11_apply, ref_v9, ref_v10]
  show Ideal.ofBits .f32 0xBF000000#32 * Ideal.div (rinv (X (y 0).1)) (meanSq (X (y 0).1)) = _
  rw [Gmlp.ofBits_neg_half]
  rfl

theorem ref_v22 :
    val_main_v22 (F := Ideal) (emat A : BF16 S4096x4096) (ecube W : BF16 S4x2048x1024)
        (emat X : F32 S4096x2048)
      = (evec fun j => ∑ p ∈ Finset.range 4096, X p j * rinv (X p) * cot A W p j : F32 S2048) := by
  funext y
  rw [val_main_v22_apply, val_main_cst_3_apply]
  simp only [val_main_v21_apply, val_main_v15_apply, val_main_v14_apply, ref_v10, ref_v20]
  exact sum_from_zero 4096 fun p => X p (y 0).1 * rinv (X p) * cot A W p (y 0).1

/-- The gain's gradient. -/
theorem ref_v23 :
    val_main_v23 (F := Ideal) (emat A : BF16 S4096x4096) (ecube W : BF16 S4x2048x1024)
        (emat X : F32 S4096x2048)
      = (emat fun _ j => ∑ p ∈ Finset.range 4096, X p j * rinv (X p) * cot A W p j : F32 S1x2048) := by
  funext y
  have h0 : (y 0).1 < 1 := (y 0).isLt
  rw [val_main_v23_apply, ref_v22]
  show ∑ p ∈ Finset.range 4096, X p ((y 0).1 * 2048 + (y 1).1) * rinv (X p) * cot A W p ((y 0).1 * 2048 + (y 1).1) = _
  rw [show (y 0).1 * 2048 + (y 1).1 = (y 1).1 by omega]
  rfl

/-- The cotangent after the gain. -/
theorem ref_v25 :
    val_main_v25 (F := Ideal) (emat A : BF16 S4096x4096) (ecube W : BF16 S4x2048x1024)
        (emat G : F32 S1x2048)
      = (emat fun i j => cot A W i j * G 0 j : F32 S4096x2048) := by
  funext y
  rw [val_main_v25_apply, val_main_v24_apply, ref_v20]
  rfl

theorem ref_v27 :
    val_main_v27 (F := Ideal) (emat A : BF16 S4096x4096) (ecube W : BF16 S4x2048x1024)
        (emat X : F32 S4096x2048) (emat G : F32 S1x2048)
      = (evec fun i => refDot (X i) (G 0) (cot A W i) : F32 S4096) := by
  funext y
  rw [val_main_v27_apply, val_main_cst_4_apply]
  simp only [val_main_v26_apply, ref_v25]
  exact sum_from_zero 2048 fun k => X (y 0).1 k * (cot A W (y 0).1 k * G 0 k)

theorem ref_v28 :
    val_main_v28 (F := Ideal) (emat A : BF16 S4096x4096) (ecube W : BF16 S4x2048x1024)
        (emat X : F32 S4096x2048) (emat G : F32 S1x2048)
      = (emat fun i _ => refDot (X i) (G 0) (cot A W i) : F32 S4096x1) := by
  funext y
  have h1 : (y 1).1 < 1 := (y 1).isLt
  rw [val_main_v28_apply, ref_v27]
  show refDot (X ((y 0).1 * 1 + (y 1).1)) (G 0) (cot A W ((y 0).1 * 1 + (y 1).1)) = _
  rw [show (y 0).1 * 1 + (y 1).1 = (y 0).1 by omega]
  rfl

theorem ref_v36 (y : S4096x2048.Idx) :
    val_main_v36 (F := Ideal) (emat A : BF16 S4096x4096) (ecube W : BF16 S4x2048x1024)
        (emat X : F32 S4096x2048) (emat G : F32 S1x2048) y
      = refSlope (X (y 0).1) (G 0) (cot A W (y 0).1) := by
  rw [val_main_v36_apply, val_main_v35_apply, val_main_cst_6_apply, Fin.sum_univ_one, val_main_v34_apply, val_main_v33_apply, val_main_cst_5_apply,
    val_main_v32_apply, ref_v28, ref_v13]
  show Ideal.ofBits .f32 0x00000000#32 + Ideal.div (refDot (X (y 0).1) (G 0) (cot A W (y 0).1)
    * (((-(1 / 2) : ℝ) : EReal) * Ideal.div (rinv (X (y 0).1)) (meanSq (X (y 0).1)))) (Ideal.ofBits .f32 0x45000000#32) = _
  rw [Gmlp.ofBits_2048, Gmlp.ofBits_zero, EReal.coe_zero, zero_add]
  rfl

/-- The rows' gradient. -/
theorem ref_v40 :
    val_main_v40 (F := Ideal) (emat A : BF16 S4096x4096) (ecube W : BF16 S4x2048x1024)
        (emat X : F32 S4096x2048) (emat G : F32 S1x2048) (emat D : F32 S4096x2048)
      = (emat fun i j => refRow (X i) (G 0) (cot A W i) (D i) j : F32 S4096x2048) := by
  funext y
  rw [val_main_v40_apply, val_main_v39_apply, val_main_v38_apply, val_main_v37_apply, val_main_v31_apply, val_main_v30_apply,
    val_main_v29_apply, ref_v36, ref_v25, ref_v10]
  rfl

end Cert.Ffn.OddNorm

end
-- ==== Proof.OddNormValue.lean ====
/- The reference's two gradients of the norm in the odd layer's backward pass are the arrays the kernel leaves. The two
   forms of a row's gradient agree as for the feed-forward's norm; no argument need be finite. -/
module

public import proofs.«01_k».proof.Proof.OddNormArray
public import proofs.«01_k».proof.Proof.OddNormReference

@[expose] public section

set_option maxRecDepth 16384

noncomputable section

namespace Cert.Ffn.OddNorm

open Idealize.ShloMosaic Cert.Reference12Ideal.Read
open Cert.Ffn.Norm (row_forms gain_forms)

variable (m : (ℓ : Loc Kernel12Ideal.nD Kernel12Ideal.τ Kernel12Ideal.sig) → Buf (Elt Ideal) ℓ) (c : Dev Kernel12Ideal.nD)

/-- Each argument is the array of its entries. -/
theorem holds_entries : ∃ A W X G D, Holds m c A W X G D :=
  ⟨_, _, _, _, _, (emat_entry _).symm, (ecube_entry _).symm, (emat_entry _).symm, (emat_entry _).symm, (emat_entry _).symm⟩

/-- The reference's gradient of the rows, of the kernel's arguments, is the kernel's array. -/
theorem rows_value :
    val_main_v40 (F := Ideal) (m ((c.tc : Thread Kernel12Ideal.nD Kernel12Ideal.τ).loc Kernel12Ideal.main_arg0))
        (m ((c.tc : Thread Kernel12Ideal.nD Kernel12Ideal.τ).loc Kernel12Ideal.main_arg1))
        (m ((c.tc : Thread Kernel12Ideal.nD Kernel12Ideal.τ).loc Kernel12Ideal.main_arg2))
        (m ((c.tc : Thread Kernel12Ideal.nD Kernel12Ideal.τ).loc Kernel12Ideal.main_arg3))
        (m ((c.tc : Thread Kernel12Ideal.nD Kernel12Ideal.τ).loc Kernel12Ideal.main_arg4))
      = (Kernel12Ideal.Gen.dats m 0 c).arrAt 5 Kernel12Ideal.cfg0.N := by
  obtain ⟨A, W, X, G, D, H⟩ := holds_entries m c
  rw [rows_array H]
  refine Eq.trans ?_ ((ref_v40 A W X G D).trans (emat_congr fun i _ j _ => row_forms _ _ _ _ _))
  exact congr (congr (congr (congr (congrArg (val_main_v40 (F := Ideal)) H.factor) H.weights) H.rows) H.gain) H.direct

/-- The reference's gradient of the gain, of the kernel's arguments, is the kernel's array. -/
theorem gain_value :
    val_main_v23 (F := Ideal) (m ((c.tc : Thread Kernel12Ideal.nD Kernel12Ideal.τ).loc Kernel12Ideal.main_arg0))
        (m ((c.tc : Thread Kernel12Ideal.nD Kernel12Ideal.τ).loc Kernel12Ideal.main_arg1))
        (m ((c.tc : Thread Kernel12Ideal.nD Kernel12Ideal.τ).loc Kernel12Ideal.main_arg2))
      = (Kernel12Ideal.Gen.dats m 0 c).arrAt 6 Kernel12Ideal.cfg0.N := by
  obtain ⟨A, W, X, G, D, H⟩ := holds_entries m c
  rw [gain_array H]
  refine Eq.trans ?_ ((ref_v23 A W X).trans (emat_congr fun i _ j _ => Finset.sum_congr rfl fun p _ => gain_forms _ _ _))
  exact congr (congr (congrArg (val_main_v23 (F := Ideal)) H.factor) H.weights) H.rows

end Cert.Ffn.OddNorm

end
-- ==== Proof.EvenNormBlock.lean ====
/- What one grid point of the norm's gradient in the even layer's backward pass computes, of its blocks' entries: its product
   is stored, then added up; the last of eleven points goes back through the norm, adds the cotangent of the rows themselves,
   and adds its rows to the gain's gradient. The functions of one row are those of the feed-forward's norm. -/
module

public import proofs.«01_k».proof.Proof.NormBlock
public import proofs.«01_k».proof.Proof.Gen.Kernel13Ideal.Value

@[expose] public section

set_option maxRecDepth 16384

noncomputable section

namespace Cert.Ffn.EvenNorm

open Idealize.ShloMosaic TcCoe Tactic Cert.Kernel13Ideal Cert.Kernel13Ideal.Gen
open Cert.Ffn.Norm (meanSq rinv rowGrad gainGrad)

/-- Row `i` of the first block against column `j` of the second. -/
abbrev rlines (f g : ℕ → ℕ → EReal) (i j : ℕ) : EReal := ∑ k ∈ Finset.range 512, f i k * g k j
/-- The cotangent of the normalised rows: the whole product. -/
abbrev cot (A : ℕ → ℕ → EReal) (W : ℕ → ℕ → EReal) (i j : ℕ) : EReal := ∑ k ∈ Finset.range 5632, A i k * W k j

theorem product (f g : ℕ → ℕ → EReal) :
    matmul dot_S512x512_S512x2048_S512x2048_1_0_0_1_n_n none (emat f : BF16 S512x512)
        (emat g : BF16 S512x2048) (emat fun _ _ => 0)
      = emat (rlines f g) := by
  funext i
  pointwise
  exact (congrArg₂ (· + ·) rfl (sum_below 512 fun k => f (i 0).1 k * g k (i 1).1)).trans (zero_add _)

theorem unstack (g : ℕ → ℕ → EReal) :
    shapeCast S512x2048 (ecube fun _ => g : BF16 S1x512x2048) shapeCasts_S1x512x2048_S512x2048 = (emat g : BF16 S512x2048) :=
  unstack_one _ _

theorem zero_eq : k0_pay1 (F := Ideal) = (emat fun _ _ => 0 : F32 S1x2048) := by
  unfold k0_pay1
  exact funext fun _ => Gmlp.ofBits_zero
theorem first_eq (f g : ℕ → ℕ → EReal) :
    k0_pay2 (F := Ideal) (emat f : BF16 S512x512) (ecube fun _ => g : BF16 S1x512x2048) = (emat (rlines f g) : F32 S512x2048) := by
  unfold k0_pay2
  dsimp only
  rw [unstack, constant_zero, product]
  exact shapeCast_self _ _
theorem next_eq (f g s : ℕ → ℕ → EReal) :
    k0_pay3 (F := Ideal) (emat f : BF16 S512x512) (ecube fun _ => g : BF16 S1x512x2048) (emat s : F32 S512x2048)
      = (emat fun i j => s i j + rlines f g i j : F32 S512x2048) := by
  unfold k0_pay3
  dsimp only
  rw [unstack, constant_zero, product, addf_emat]
  exact shapeCast_self _ _
/-- The whole cotangent of the normalised rows. -/
theorem cot_eq (f g s : ℕ → ℕ → EReal) :
    k0_pay5 (F := Ideal) (emat f : BF16 S512x512) (ecube fun _ => g : BF16 S1x512x2048) (emat s : F32 S512x2048)
      = (emat fun i j => s i j + rlines f g i j : F32 S512x2048) := by
  unfold k0_pay5
  dsimp only
  rw [unstack, constant_zero, product]
  exact addf_emat _ _
theorem rinv_eq (x : ℕ → ℕ → EReal) :
    k0_pay6 (F := Ideal) (emat x : F32 S512x2048) = (emat fun i _ => rinv (x i) : F32 S512x1) := by
  unfold k0_pay6
  dsimp only
  rw [mulf_emat, sum_rows, column_of, Gmlp.scalar_2048, Gmlp.scalar_eps, splat_emat, splat_emat, divf_emat, addf_emat, rsqrt_emat]
  rfl
theorem row_eq (f w s x g d : ℕ → ℕ → EReal) :
    k0_pay7 (F := Ideal) (emat f : BF16 S512x512) (ecube fun _ => w : BF16 S1x512x2048) (emat s : F32 S512x2048)
        (emat x : F32 S512x2048) (emat g : F32 S1x2048) (emat d : F32 S512x2048)
      = (emat fun i j => rowGrad (x i) (g 0) (fun j => s i j + rlines f w i j) (d i) j : F32 S512x2048) := by
  unfold k0_pay7
  dsimp only
  rw [cot_eq, rinv_eq, repeat_row, repeat_col, mulf_emat, mulf_emat, mulf_emat, mulf_emat, repeat_col, mulf_emat, mulf_emat,
    sum_rows, column_of, Gmlp.scalar_2048, splat_emat, divf_emat, repeat_col, mulf_emat, subf_emat, addf_emat]
  rfl
theorem gain_eq (y x o : ℕ → ℕ → EReal) :
    k0_pay4 (F := Ideal) (emat y : F32 S512x2048) (emat x : F32 S512x2048) (emat fun i _ => rinv (x i) : F32 S512x1) (emat o : F32 S1x2048)
      = (emat fun i j => o i j + ∑ k ∈ Finset.range 512, gainGrad (x k) (y k) j : F32 S1x2048) := by
  unfold k0_pay4
  dsimp only
  rw [mulf_emat, repeat_col, mulf_emat, sum_cols, row_of, shapeCast_self]
  exact addf_emat _ _

variable (c : Dev nD) (i : grid0.Coords) (arg2 : Memref sig .tc .vmem S512x512 .bf16) (harg2 : arg2.IsWhole) (arg3 : Memref sig .tc .vmem S1x512x2048 .bf16) (harg3 : arg3.IsWhole) (arg4 : Memref sig .tc .vmem S512x2048 .f32) (harg4 : arg4.IsWhole) (arg5 : Memref sig .tc .vmem S1x2048 .f32) (harg5 : arg5.IsWhole) (arg6 : Memref sig .tc .vmem S512x2048 .f32) (harg6 : arg6.IsWhole) (arg7 : Memref sig .tc .vmem S512x2048 .f32) (harg7 : arg7.IsWhole) (arg8 : Memref sig .tc .vmem S1x2048 .f32) (harg8 : arg8.IsWhole) (arg9 : Memref sig .tc .vmem S512x2048 .f32) (harg9 : arg9.IsWhole)
variable (x0 : Vec Ideal S512x512 .bf16) (x1 : Vec Ideal S1x512x2048 .bf16) (x2 : Vec Ideal S512x2048 .f32) (x3 : Vec Ideal S1x2048 .f32) (x4 : Vec Ideal S512x2048 .f32) (xo : Vec Ideal S1x2048 .f32) (xs : Vec Ideal S512x2048 .f32)

/-- The very first point clears the gain's gradient … -/
theorem gain_A (hc0 : cond0_0 i) (hc1 : cond0_1 i) (hc2 : ¬cond0_2 i) (hc3 : ¬cond0_3 i) :
    out0_A_6 (F := Ideal) c i arg2 harg2 arg3 harg3 arg4 harg4 arg5 harg5 arg6 harg6 arg7 harg7 arg8 harg8 arg9 harg9 hc0 hc1 hc2 hc3 x0 x1 x2 x3 x4 = k0_pay1 (F := Ideal) := by
  unfold out0_A_6
  rw [View.read_writes_eq_canon _ _ _ (fun y => cover0_A_6 (y := y) ..)]
  unfold kernelRun0_A
  dsimp only
  rw [View.canon_unit_zero zeros2]
/-- … and stores its product. -/
theorem kept_A (hc0 : cond0_0 i) (hc1 : cond0_1 i) (hc2 : ¬cond0_2 i) (hc3 : ¬cond0_3 i) :
    sout0_A_0 (F := Ideal) c i arg2 harg2 arg3 harg3 arg4 harg4 arg5 harg5 arg6 harg6 arg7 harg7 arg8 harg8 arg9 harg9 hc0 hc1 hc2 hc3 x0 x1 x2 x3 x4 = k0_pay2 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg2.read_unread, harg3.read_unread, View.ld_unit_zero (S := S512x2048) zeros2, View.ld_unit_zero (S := S512x512) zeros2, View.ld_unit_zero (S := S1x512x2048) zeros3]
/-- The other first points store their product. -/
theorem kept_D (hc0 : ¬cond0_0 i) (hc1 : cond0_1 i) (hc2 : ¬cond0_2 i) (hc3 : ¬cond0_3 i) :
    sout0_D_0 (F := Ideal) c i arg2 harg2 arg3 harg3 arg4 harg4 arg5 harg5 arg6 harg6 arg7 harg7 arg8 harg8 arg9 harg9 hc0 hc1 hc2 hc3 x0 x1 x2 x3 x4 = k0_pay2 x0 x1 := by
  unfold sout0_D_0
  rw [View.read_writes_eq_canon _ _ _ (fun y => scover0_D_0 (y := y) ..)]
  unfold kernelRun0_D
  dsimp only
  rw [View.canon_unit_zero zeros2]
  simp only [View.readAt_eq_ld, harg2.read_unread, harg3.read_unread, View.ld_unit_zero (S := S512x2048) zeros2, View.ld_unit_zero (S := S512x512) zeros2, View.ld_unit_zero (S := S1x512x2048) zeros3]
/-- The points in between add theirs. -/
theorem kept_B (hc0 : ¬cond0_0 i) (hc1 : ¬cond0_1 i) (hc2 : cond0_2 i) (hc3 : ¬cond0_3 i) :
    sout0_B_0 (F := Ideal) c i arg2 harg2 arg3 harg3 arg4 harg4 arg5 harg5 arg6 harg6 arg7 harg7 arg8 harg8 arg9 harg9 hc0 hc1 hc2 hc3 x0 x1 x2 x3 x4 xs = k0_pay3 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg2.read_unread, harg3.read_unread, harg9.read_unread, View.ld_unit_zero (S := S512x2048) zeros2, View.ld_unit_zero (S := S512x512) zeros2, View.ld_unit_zero (S := S1x512x2048) zeros3]
/-- The last of eleven points writes the rows' gradient … -/
theorem rows_C (hc0 : ¬cond0_0 i) (hc1 : ¬cond0_1 i) (hc2 : ¬cond0_2 i) (hc3 : cond0_3 i) :
    out0_C_5 (F := Ideal) c i arg2 harg2 arg3 harg3 arg4 harg4 arg5 harg5 arg6 harg6 arg7 harg7 arg8 harg8 arg9 harg9 hc0 hc1 hc2 hc3 x0 x1 x2 x3 x4 xo xs = k0_pay7 x0 x1 xs x2 x3 x4 := by
  unfold out0_C_5
  rw [View.read_writes_eq_canon _ _ _ (fun y => cover0_C_5 (y := y) ..)]
  unfold kernelRun0_C
  dsimp only [kernelRun0_C.sl.r, kernelRun0_C.sl.r_1, kernelRun0_C.sl.r_2, kernelRun0_C.sl.r_3]
  rw [View.canon_unit_zero zeros2]
  simp only [View.readAt_eq_ld, harg2.read_unread, harg3.read_unread, harg4.read_unread, harg5.read_unread, harg6.read_unread, harg9.read_unread, View.ld_unit_zero (S := S512x2048) zeros2, View.ld_unit_zero (S := S512x512) zeros2, View.ld_unit_zero (S := S1x2048) zeros2, View.ld_unit_zero (S := S1x512x2048) zeros3]
/-- … and adds its rows to the gain's gradient. -/
theorem gain_C (hc0 : ¬cond0_0 i) (hc1 : ¬cond0_1 i) (hc2 : ¬cond0_2 i) (hc3 : cond0_3 i) :
    out0_C_6 (F := Ideal) c i arg2 harg2 arg3 harg3 arg4 harg4 arg5 harg5 arg6 harg6 arg7 harg7 arg8 harg8 arg9 harg9 hc0 hc1 hc2 hc3 x0 x1 x2 x3 x4 xo xs
      = k0_pay4 (k0_pay5 x0 x1 xs) x2 (k0_pay6 x2) xo := by
  unfold out0_C_6
  rw [View.read_writes_eq_canon _ _ _ (fun y => cover0_C_6 (y := y) ..)]
  unfold kernelRun0_C
  dsimp only [kernelRun0_C.sl.r, kernelRun0_C.sl.r_1, kernelRun0_C.sl.r_2, kernelRun0_C.sl.r_3]
  rw [View.canon_unit_zero zeros2]
  simp only [View.readAt_eq_ld, harg2.read_unread, harg3.read_unread, harg4.read_unread, harg8.read_unread, harg9.read_unread, View.ld_unit_zero (S := S512x2048) zeros2, View.ld_unit_zero (S := S512x512) zeros2, View.ld_unit_zero (S := S1x2048) zeros2, View.ld_unit_zero (S := S1x512x2048) zeros3]

end Cert.Ffn.EvenNorm

end
-- ==== Proof.EvenNormArray.lean ====
/- What the two arrays of the norm's gradient in the even layer's backward pass hold after the last grid point, in terms of
   its arguments' entries. Eleven points in a row add up the cotangent of 512 normalised rows, 512 rows of the weights each;
   the eleventh writes the rows' gradient. The gain's gradient stays in place from the first point to the last and so sums
   over all 4096 rows. -/
module

public import proofs.«01_k».proof.Proof.EvenNormBlock

@[expose] public section

set_option maxRecDepth 16384

noncomputable section

namespace Cert.Ffn.EvenNorm

open Idealize.ShloMosaic TcCoe Tactic Cert.Kernel13Ideal Cert.Kernel13Ideal.Gen
open Finset (range)
open Cert.Ffn.Norm (meanSq rinv rowGrad gainGrad)

variable (m : (ℓ : Loc nD τ sig) → Buf (Elt Ideal) ℓ) (c : Dev nD)
variable (A : ℕ → ℕ → EReal) (W : ℕ → ℕ → EReal) (X G D : ℕ → ℕ → EReal)

/-- The arguments have these entries: the cotangent of the projection, its weights, the rows, the gain, and the
    cotangent of the rows themselves. -/
structure Holds : Prop where
  factor : (m ((c : Thread nD τ).loc main_arg0) : BF16 S4096x5632) = (emat A : BF16 S4096x5632)
  weights : (m ((c : Thread nD τ).loc main_arg1) : BF16 S5632x2048) = (emat W : BF16 S5632x2048)
  rows : (m ((c : Thread nD τ).loc main_arg2) : F32 S4096x2048) = (emat X : F32 S4096x2048)
  gain : (m ((c : Thread nD τ).loc main_arg3) : F32 S1x2048) = (emat G : F32 S1x2048)
  direct : (m ((c : Thread nD τ).loc main_arg4) : F32 S4096x2048) = (emat D : F32 S4096x2048)

theorem index_0 : ∀ t : Fin cfg0.N, win0_0.index t 0 = t.1 / 11 ∧ win0_0.index t 1 = t.1 % 11 := by decide +kernel
theorem index_1 : ∀ t : Fin cfg0.N, win0_1.index t 0 = 0 ∧ win0_1.index t 1 = t.1 % 11 ∧ win0_1.index t 2 = 0 := by decide +kernel
theorem index_2 : ∀ t : Fin cfg0.N, win0_2.index t 0 = t.1 / 11 ∧ win0_2.index t 1 = 0 := by decide +kernel
theorem index_3 : ∀ t : Fin cfg0.N, win0_3.index t 0 = 0 ∧ win0_3.index t 1 = 0 := by decide +kernel
theorem index_4 : ∀ t : Fin cfg0.N, win0_4.index t 0 = t.1 / 11 ∧ win0_4.index t 1 = 0 := by decide +kernel
theorem index_5 : ∀ t : Fin cfg0.N, win0_5.index t 0 = t.1 / 11 ∧ win0_5.index t 1 = 0 := by decide +kernel
theorem index_6 : ∀ t : Fin cfg0.N, win0_6.index t 0 = 0 ∧ win0_6.index t 1 = 0 := by decide +kernel

/-- Point `n`'s rows of an array of rows. -/
abbrev rowsOf (Y : ℕ → ℕ → EReal) (n : ℕ) : ℕ → ℕ → EReal := fun i j => Y (512 * (n / 11) + i) j
/-- Point `n`'s block of the projection's cotangent. -/
abbrev blockA (n : ℕ) : ℕ → ℕ → EReal := fun i j => A (512 * (n / 11) + i) (512 * (n % 11) + j)

/-- Point `n`'s block of the weights. -/
abbrev blockW (n : ℕ) : ℕ → ℕ → EReal := fun i j => W (512 * (n % 11) + i) j

variable {m c A W X G D} (H : Holds m c A W X G D)
include H

theorem iblk_0 (t : Fin cfg0.N) : iblk m c 0 t = (emat (blockA A t.1) : BF16 S512x512) := by
  funext y
  unfold iblk
  rw [View.read_apply]
  show V m c main_arg0 _ = _
  rw [V_main_arg0]
  refine (congrFun H.factor _).trans (congrArg₂ (fun p q => A p q) ?_ ?_)
  · show win0_0.index t 0 * 512 + 1 * (y 0).1 = 512 * (t.1 / 11) + (y 0).1; rw [(index_0 t).1]; omega
  · show win0_0.index t 1 * 512 + 1 * (y 1).1 = 512 * (t.1 % 11) + (y 1).1; rw [(index_0 t).2]; omega
/-- The weights as a stack of one, as the host makes them. -/
theorem stacked : V m c main_v0 = (ecube fun _ => W : BF16 S1x5632x2048) := by
  unfold V
  simp only [hostOps0, List.flatten_cons, List.flatten_nil, List.append_nil, List.cons_append, List.nil_append]
  after_results
  funext y
  refine Eq.trans ?_ (congrFun H.weights (ix2 ⟨(y 1).1, (y 1).isLt⟩ ⟨(y 2).1, (y 2).isLt⟩))
  exact congrArg (m ((c : Thread nD τ).loc main_arg1) : BF16 S5632x2048)
    (funext fun a => match a with | ⟨0, _⟩ => rfl | ⟨1, _⟩ => rfl)
theorem iblk_1 (t : Fin cfg0.N) : iblk m c 1 t = (ecube fun _ => blockW W t.1 : BF16 S1x512x2048) := by
  funext y
  unfold iblk
  rw [View.read_apply]
  show (V m c main_v0 : BF16 S1x5632x2048) _ = _
  rw [stacked H]
  refine congrArg₂ (fun p q => W p q) ?_ ?_
  · show win0_1.index t 1 * 512 + 1 * (y 1).1 = _; rw [(index_1 t).2.1]; omega
  · show win0_1.index t 2 * 2048 + 1 * (y 2).1 = _; rw [(index_1 t).2.2]; omega
theorem iblk_2 (t : Fin cfg0.N) : iblk m c 2 t = (emat (rowsOf X t.1) : F32 S512x2048) := by
  funext y
  unfold iblk
  rw [View.read_apply]
  show V m c main_arg2 _ = _
  rw [V_main_arg2]
  refine (congrFun H.rows _).trans (congrArg₂ (fun p q => X p q) ?_ ?_)
  · show win0_2.index t 0 * 512 + 1 * (y 0).1 = 512 * (t.1 / 11) + (y 0).1; rw [(index_2 t).1]; omega
  · show win0_2.index t 1 * 2048 + 1 * (y 1).1 = (y 1).1; rw [(index_2 t).2]; omega
theorem iblk_3 (t : Fin cfg0.N) : iblk m c 3 t = (emat G : F32 S1x2048) := by
  funext y
  unfold iblk
  rw [View.read_apply]
  show V m c main_arg3 _ = _
  rw [V_main_arg3]
  refine (congrFun H.gain _).trans (congrArg₂ (fun p q => G p q) ?_ ?_)
  · show win0_3.index t 0 * 1 + 1 * (y 0).1 = (y 0).1; rw [(index_3 t).1]; omega
  · show win0_3.index t 1 * 2048 + 1 * (y 1).1 = (y 1).1; rw [(index_3 t).2]; omega
theorem iblk_4 (t : Fin cfg0.N) : iblk m c 4 t = (emat (rowsOf D t.1) : F32 S512x2048) := by
  funext y
  unfold iblk
  rw [View.read_apply]
  show V m c main_arg4 _ = _
  rw [V_main_arg4]
  refine (congrFun H.direct _).trans (congrArg₂ (fun p q => D p q) ?_ ?_)
  · show win0_4.index t 0 * 512 + 1 * (y 0).1 = 512 * (t.1 / 11) + (y 0).1; rw [(index_4 t).1]; omega
  · show win0_4.index t 1 * 2048 + 1 * (y 1).1 = (y 1).1; rw [(index_4 t).2]; omega

/-- What is left in place by the first point of eleven, … -/
theorem kept_first (t : Fin cfg0.N) (ht : t.1 % 11 = 0) :
    (outsAt0 m c t.1 t.isLt).2.2 = (emat (rlines (blockA A t.1) (blockW W t.1)) : F32 S512x2048) := by
  by_cases h : t.1 % 88 = 0
  · rw [outsAt0_A m c t h ht (by omega) (by omega)]
    dsimp only
    rw [kept_A, iblk_0 H, iblk_1 H]
    exact first_eq _ _
  · rw [outsAt0_D m c t h ht (by omega) (by omega)]
    dsimp only
    rw [kept_D, iblk_0 H, iblk_1 H]
    exact first_eq _ _
/-- … and by a point in between, given what it found. -/
theorem kept_next (t : Fin cfg0.N) (ht : 1 ≤ t.1 % 11 ∧ t.1 % 11 ≤ 9) (s : ℕ → ℕ → EReal)
    (hs : (outsAt0 m c (t.1 - 1) (before t)).2.2 = (emat s : F32 S512x2048)) :
    (outsAt0 m c t.1 t.isLt).2.2
      = (emat fun i j => s i j + rlines (blockA A t.1) (blockW W t.1) i j : F32 S512x2048) := by
  rw [outsAt0_B m c t (by omega) (by omega) ht (by omega)]
  dsimp only
  rw [kept_B, hs, iblk_0 H, iblk_1 H]
  exact next_eq _ _ _
/-- What the last point of eleven writes for its rows, … -/
theorem rows_last (t : Fin cfg0.N) (ht : t.1 % 11 = 10) (s : ℕ → ℕ → EReal)
    (hs : (outsAt0 m c (t.1 - 1) (before t)).2.2 = (emat s : F32 S512x2048)) :
    (outsAt0 m c t.1 t.isLt).1
      = (emat fun i j => rowGrad (rowsOf X t.1 i) (G 0) (fun j => s i j + rlines (blockA A t.1) (blockW W t.1) i j)
          (rowsOf D t.1 i) j : F32 S512x2048) := by
  rw [outsAt0_C m c t (by omega) (by omega) (by omega) ht]
  dsimp only
  rw [rows_C, hs, iblk_0 H, iblk_1 H, iblk_2 H, iblk_3 H, iblk_4 H]
  exact row_eq _ _ _ _ _ _
/-- … and what it makes of the gain's gradient. -/
theorem gain_last (t : Fin cfg0.N) (ht : t.1 % 11 = 10) (s o : ℕ → ℕ → EReal)
    (hs : (outsAt0 m c (t.1 - 1) (before t)).2.2 = (emat s : F32 S512x2048))
    (ho : (outsAt0 m c (t.1 - 1) (before t)).2.1 = (emat o : F32 S1x2048)) :
    (outsAt0 m c t.1 t.isLt).2.1
      = (emat fun i j => o i j + ∑ k ∈ range 512, gainGrad (rowsOf X t.1 k)
          (fun j => s k j + rlines (blockA A t.1) (blockW W t.1) k j) j : F32 S1x2048) := by
  rw [outsAt0_C m c t (by omega) (by omega) (by omega) ht]
  dsimp only
  rw [gain_C, hs, ho, iblk_0 H, iblk_1 H, iblk_2 H, cot_eq, rinv_eq]
  exact gain_eq _ _ _

omit H in
/-- The gain's gradient starts at zero … -/
theorem gain_start (t : Fin cfg0.N) (ht : t.1 % 88 = 0) :
    (outsAt0 m c t.1 t.isLt).2.1 = (emat fun _ _ => 0 : F32 S1x2048) := by
  rw [outsAt0_A m c t ht (by omega) (by omega) (by omega)]
  dsimp only
  rw [gain_A]
  exact zero_eq
omit H in
/-- … and is left alone by all points but each eleventh. -/
theorem gain_same (t : Fin cfg0.N) (h0 : ¬t.1 % 88 = 0) (ht : ¬t.1 % 11 = 10) :
    (outsAt0 m c t.1 t.isLt).2.1 = (outsAt0 m c (t.1 - 1) (before t)).2.1 := by
  by_cases h : t.1 % 11 = 0
  · rw [outsAt0_D m c t h0 h (by omega) ht]
    dsimp only
    unfold out0_D_6
    rfl
  · rw [outsAt0_B m c t h0 h (by omega) ht]
    dsimp only
    unfold out0_B_6
    rfl

variable (A W) in
/-- The product over the first `512 * r` inner indices. -/
abbrev part (r i j : ℕ) : EReal := ∑ k ∈ range (512 * r), A i k * W k j

omit H in
theorem part_step (n i j : ℕ) :
    part A W (n % 11) (512 * (n / 11) + i) j + rlines (blockA A n) (blockW W n) i j = part A W (n % 11 + 1) (512 * (n / 11) + i) j := by
  unfold part
  rw [show 512 * (n % 11 + 1) = 512 * (n % 11) + 512 by omega, Finset.sum_range_add]

/-- What is in place after point `n`: unless it was the last of eleven, the product over the inner indices so far; and the gain's
    gradient over the rows so far. -/
theorem state (n : ℕ) : ∀ hn : n < cfg0.N,
    (n % 11 < 10 → (outsAt0 m c n hn).2.2 = (emat fun i j => part A W (n % 11 + 1) (512 * (n / 11) + i) j : F32 S512x2048))
    ∧ (outsAt0 m c n hn).2.1
      = (emat fun _ j => ∑ p ∈ range (512 * ((n + 1) / 11)), gainGrad (X p) (cot A W p) j : F32 S1x2048) := by
  induction n with
  | zero =>
    intro hn
    refine ⟨fun _ => ?_, ?_⟩
    · rw [kept_first H ⟨0, hn⟩ rfl]
      refine emat_congr fun i _ j _ => ?_
      have := part_step (A := A) (W := W) 0 i j
      refine Eq.trans ?_ this
      show _ = ∑ k ∈ range 0, _ + _
      rw [Finset.sum_range_zero, zero_add]
    · exact (gain_start ⟨0, hn⟩ rfl).trans (emat_congr fun i _ j _ => by simp)
  | succ n ih =>
    intro hn
    have hN : cfg0.N = 88 := N_0
    obtain ⟨h1, h2⟩ := ih (by omega)
    rcases Nat.lt_or_ge ((n + 1) % 11) 10 with h | h
    · refine ⟨fun _ => ?_, ?_⟩
      · by_cases h0 : (n + 1) % 11 = 0
        · rw [kept_first H ⟨n + 1, hn⟩ h0]
          refine emat_congr fun i _ j _ => ?_
          refine Eq.trans ?_ (part_step (A := A) (W := W) (n + 1) i j)
          show _ = ∑ k ∈ range (512 * ((n + 1) % 11)), _ + _
          rw [h0, Nat.mul_zero, Finset.sum_range_zero, zero_add]
        · rw [kept_next H ⟨n + 1, hn⟩ (by show 1 ≤ (n + 1) % 11 ∧ (n + 1) % 11 ≤ 9; omega) _ (h1 (by omega))]
          refine emat_congr fun i _ j _ => ?_
          refine Eq.trans ?_ (part_step (A := A) (W := W) (n + 1) i j)
          rw [show n % 11 + 1 = (n + 1) % 11 by omega, show n / 11 = (n + 1) / 11 by omega]
      · refine (gain_same ⟨n + 1, hn⟩ (by show ¬(n + 1) % 88 = 0; omega) (by show ¬(n + 1) % 11 = 10; omega)).trans ?_
        refine h2.trans ?_
        rw [show (n + 1 + 1) / 11 = (n + 1) / 11 by omega]
    · have h3 : (n + 1) % 11 = 10 := by omega
      refine ⟨fun h' => by omega, ?_⟩
      rw [gain_last H ⟨n + 1, hn⟩ h3 _ _ (h1 (by omega)) h2]
      refine emat_congr fun i _ j _ => ?_
      rw [show 512 * ((n + 1 + 1) / 11) = 512 * ((n + 1) / 11) + 512 by omega, Finset.sum_range_add]
      refine congrArg₂ (· + ·) rfl (Finset.sum_congr rfl fun k _ => ?_)
      refine congrArg₂ (fun x y => gainGrad x y j) rfl (funext fun j => ?_)
      show part A W (n % 11 + 1) (512 * (n / 11) + k) j + rlines (blockA A (n + 1)) (blockW W (n + 1)) k j = _
      rw [show n % 11 + 1 = (n + 1) % 11 by omega, show n / 11 = (n + 1) / 11 by omega, part_step, h3]

/-- The array of the rows' gradient. -/
theorem rows_array :
    (dats m 0 c).arrAt 5 cfg0.N
      = (emat fun i j => rowGrad (X i) (G 0) (cot A W i) (D i) j : F32 S4096x2048) := by
  have hN : cfg0.N = 88 := N_0
  refine (dats m 0 c).arrAt_eq_of_cover 5 (emat fun i j => rowGrad (X i) (G 0) (cot A W i) (D i) j : F32 S4096x2048)
    (fun t hf => ?_) fun i => (Kernel13Ideal.Value.covered_iff5 i).2 ?_
  · have ht : t.1 % 11 = 10 := (flush0_5 t).mp hf
    have hs := (state H (t.1 - 1) (before t)).1 (by omega)
    rw [Kernel13Ideal.Value.flushed5, rows_last H t ht _ hs]
    funext y
    rw [View.read_apply]
    show (rowGrad (rowsOf X t.1 (y 0).1) (G 0) (fun j => part A W ((t.1 - 1) % 11 + 1) (512 * ((t.1 - 1) / 11) + (y 0).1) j
          + rlines (blockA A t.1) (blockW W t.1) (y 0).1 j) (rowsOf D t.1 (y 0).1) (y 1).1)
      = (rowGrad (X (win0_5.index t 0 * 512 + 1 * (y 0).1)) (G 0) (cot A W (win0_5.index t 0 * 512 + 1 * (y 0).1))
          (D (win0_5.index t 0 * 512 + 1 * (y 0).1)) (win0_5.index t 1 * 2048 + 1 * (y 1).1))
    rw [(index_5 t).1, (index_5 t).2, show t.1 / 11 * 512 + 1 * (y 0).1 = 512 * (t.1 / 11) + (y 0).1 by omega,
      show 0 * 2048 + 1 * (y 1).1 = (y 1).1 by omega, show (t.1 - 1) % 11 + 1 = t.1 % 11 by omega,
      show (t.1 - 1) / 11 = t.1 / 11 by omega]
    refine congrArg (fun y' => (rowGrad _ _ y' _ _)) (funext fun j => ?_)
    rw [part_step, ht]
  · have h0 : (i 0).1 < 4096 := (i 0).isLt
    have h1 : (i 1).1 < 2048 := (i 1).isLt
    omega

/-- The array of the gain's gradient. -/
theorem gain_array :
    (dats m 0 c).arrAt 6 cfg0.N
      = (emat fun _ j => ∑ p ∈ range 4096, gainGrad (X p) (cot A W p) j : F32 S1x2048) := by
  have hN : cfg0.N = 88 := N_0
  refine (dats m 0 c).arrAt_eq_of_cover 6 (emat fun _ j => ∑ p ∈ range 4096, gainGrad (X p) (cot A W p) j : F32 S1x2048)
    (fun t hf => ?_) fun i => (Kernel13Ideal.Value.covered_iff6 i).2 ?_
  · have ht : t.1 % 88 = 87 := (flush0_6 t).mp hf
    have hl : t.1 < 88 := lt_of_lt_of_eq t.isLt N_0
    have hs := (state H t.1 t.isLt).2
    rw [show 512 * ((t.1 + 1) / 11) = 4096 by omega] at hs
    rw [Kernel13Ideal.Value.flushed6, hs]
    funext y
    rw [View.read_apply]
    show (∑ p ∈ range 4096, gainGrad (X p) (cot A W p) (y 1).1)
      = (∑ p ∈ range 4096, gainGrad (X p) (cot A W p) (win0_6.index t 1 * 2048 + 1 * (y 1).1))
    rw [(index_6 t).2, show 0 * 2048 + 1 * (y 1).1 = (y 1).1 by omega]
  · have h0 : (i 0).1 < 1 := (i 0).isLt
    have h1 : (i 1).1 < 2048 := (i 1).isLt
    omega

end Cert.Ffn.EvenNorm

end
-- ==== Proof.EvenNormReference.lean ====
/- What the reference of the norm's gradient in the even layer's backward pass computes, stage by stage, in terms of its arguments' entries. -/
module

public import proofs.«01_k».proof.Proof.NormValue
public import proofs.«01_k».proof.Proof.EvenNormBlock
public import proofs.«01_k».proof.Proof.Gen.Reference13Ideal.Read

@[expose] public section

set_option maxRecDepth 16384

noncomputable section

namespace Cert.Ffn.EvenNorm

open Idealize.ShloMosaic Cert.Reference13Ideal Cert.Reference13Ideal.Read
open Cert.Ffn.Norm (meanSq rinv sum_from_zero refDot refSlope refRow)

variable (A : ℕ → ℕ → EReal) (W : ℕ → ℕ → EReal) (X G D : ℕ → ℕ → EReal)

/-- The weights transposed. -/
theorem weights_side (y : S2048x5632.Idx) :
    val_main_v1 (F := Ideal) (emat W : BF16 S5632x2048) y = W (y 1).1 (y 0).1 := by
  rw [val_main_v1_apply, val_main_v0_apply]
  rfl

/-- The cotangent of the normalised rows. -/
theorem ref_v19 :
    val_main_v19 (F := Ideal) (emat A : BF16 S4096x5632) (emat W : BF16 S5632x2048) = (emat (cot A W) : F32 S4096x2048) := by
  funext y
  rw [val_main_v19_apply]
  simp only [weights_side, val_main_v18_apply]
  exact sum_below 5632 fun k => A (y 0).1 k * W k (y 1).1

/-- The mean squares of the rows, plus the small number. -/
theorem ref_v8 : val_main_v8 (F := Ideal) (emat X : F32 S4096x2048) = (emat fun i _ => meanSq (X i) : F32 S4096x1) := by
  funext y
  rw [val_main_v8_apply, val_main_v6_apply, val_main_v7_apply, val_main_cst_1_apply, val_main_v5_apply, val_main_cst_0_apply,
    val_main_v4_apply, val_main_v3_apply, val_main_cst_apply]
  simp only [val_main_v2_apply]
  show Ideal.div (Ideal.ofBits .f32 0x00000000#32 + ∑ k : Fin 2048, X (y 0).1 k.1 * X (y 0).1 k.1) (Ideal.ofBits .f32 0x45000000#32)
    + Ideal.ofBits .f32 0x358637BD#32 = meanSq (X (y 0).1)
  rw [sum_from_zero 2048 fun k => X (y 0).1 k * X (y 0).1 k, Gmlp.ofBits_2048, Gmlp.ofBits_eps]
  rfl

/-- Their reciprocal roots. -/
theorem ref_v9 : val_main_v9 (F := Ideal) (emat X : F32 S4096x2048) = (emat fun i _ => rinv (X i) : F32 S4096x1) := by
  unfold val_main_v9
  rw [ref_v8]
  rfl

/-- The derivative of the reciprocal roots. -/
theorem ref_v12 : val_main_v12 (F := Ideal) (emat X : F32 S4096x2048)
    = (emat fun i _ => ((-(1 / 2) : ℝ) : EReal) * Ideal.div (rinv (X i)) (meanSq (X i)) : F32 S4096x1) := by
  funext y
  rw [val_main_v12_apply, val_main_v11_apply, val_main_cst_2_apply, val_main_v10_apply, ref_v8, ref_v9]
  show Ideal.ofBits .f32 0xBF000000#32 * Ideal.div (rinv (X (y 0).1)) (meanSq (X (y 0).1)) = _
  rw [Gmlp.ofBits_neg_half]
  rfl

theorem ref_v21 :
    val_main_v21 (F := Ideal) (emat A : BF16 S4096x5632) (emat W : BF16 S5632x2048)
        (emat X : F32 S4096x2048)
      = (evec fun j => ∑ p ∈ Finset.range 4096, X p j * rinv (X p) * cot A W p j : F32 S2048) := by
  funext y
  rw [val_main_v21_apply, val_main_cst_3_apply]
  simp only [val_main_v20_apply, val_main_v14_apply, val_main_v13_apply, ref_v9, ref_v19]
  exact sum_from_zero 4096 fun p => X p (y 0).1 * rinv (X p) * cot A W p (y 0).1

/-- The gain's gradient. -/
theorem ref_v22 :
    val_main_v22 (F := Ideal) (emat A : BF16 S4096x5632) (emat W : BF16 S5632x2048)
        (emat X : F32 S4096x2048)
      = (emat fun _ j => ∑ p ∈ Finset.range 4096, X p j * rinv (X p) * cot A W p j : F32 S1x2048) := by
  funext y
  have h0 : (y 0).1 < 1 := (y 0).isLt
  rw [val_main_v22_apply, ref_v21]
  show ∑ p ∈ Finset.range 4096, X p ((y 0).1 * 2048 + (y 1).1) * rinv (X p) * cot A W p ((y 0).1 * 2048 + (y 1).1) = _
  rw [show (y 0).1 * 2048 + (y 1).1 = (y 1).1 by omega]
  rfl

/-- The cotangent after the gain. -/
theorem ref_v24 :
    val_main_v24 (F := Ideal) (emat A : BF16 S4096x5632) (emat W : BF16 S5632x2048)
        (emat G : F32 S1x2048)
      = (emat fun i j => cot A W i j * G 0 j : F32 S4096x2048) := by
  funext y
  rw [val_main_v24_apply, val_main_v23_apply, ref_v19]
  rfl

theorem ref_v26 :
    val_main_v26 (F := Ideal) (emat A : BF16 S4096x5632) (emat W : BF16 S5632x2048)
        (emat X : F32 S4096x2048) (emat G : F32 S1x2048)
      = (evec fun i => refDot (X i) (G 0) (cot A W i) : F32 S4096) := by
  funext y
  rw [val_main_v26_apply, val_main_cst_4_apply]
  simp only [val_main_v25_apply, ref_v24]
  exact sum_from_zero 2048 fun k => X (y 0).1 k * (cot A W (y 0).1 k * G 0 k)

theorem ref_v27 :
    val_main_v27 (F := Ideal) (emat A : BF16 S4096x5632) (emat W : BF16 S5632x2048)
        (emat X : F32 S4096x2048) (emat G : F32 S1x2048)
      = (emat fun i _ => refDot (X i) (G 0) (cot A W i) : F32 S4096x1) := by
  funext y
  have h1 : (y 1).1 < 1 := (y 1).isLt
  rw [val_main_v27_apply, ref_v26]
  show refDot (X ((y 0).1 * 1 + (y 1).1)) (G 0) (cot A W ((y 0).1 * 1 + (y 1).1)) = _
  rw [show (y 0).1 * 1 + (y 1).1 = (y 0).1 by omega]
  rfl

theorem ref_v35 (y : S4096x2048.Idx) :
    val_main_v35 (F := Ideal) (emat A : BF16 S4096x5632) (emat W : BF16 S5632x2048)
        (emat X : F32 S4096x2048) (emat G : F32 S1x2048) y
      = refSlope (X (y 0).1) (G 0) (cot A W (y 0).1) := by
  rw [val_main_v35_apply, val_main_v34_apply, val_main_cst_6_apply, Fin.sum_univ_one, val_main_v33_apply, val_main_v32_apply, val_main_cst_5_apply,
    val_main_v31_apply, ref_v27, ref_v12]
  show Ideal.ofBits .f32 0x00000000#32 + Ideal.div (refDot (X (y 0).1) (G 0) (cot A W (y 0).1)
    * (((-(1 / 2) : ℝ) : EReal) * Ideal.div (rinv (X (y 0).1)) (meanSq (X (y 0).1)))) (Ideal.ofBits .f32 0x45000000#32) = _
  rw [Gmlp.ofBits_2048, Gmlp.ofBits_zero, EReal.coe_zero, zero_add]
  rfl

/-- The rows' gradient. -/
theorem ref_v39 :
    val_main_v39 (F := Ideal) (emat A : BF16 S4096x5632) (emat W : BF16 S5632x2048)
        (emat X : F32 S4096x2048) (emat G : F32 S1x2048) (emat D : F32 S4096x2048)
      = (emat fun i j => refRow (X i) (G 0) (cot A W i) (D i) j : F32 S4096x2048) := by
  funext y
  rw [val_main_v39_apply, val_main_v38_apply, val_main_v37_apply, val_main_v36_apply, val_main_v30_apply, val_main_v29_apply,
    val_main_v28_apply, ref_v35, ref_v24, ref_v9]
  rfl

end Cert.Ffn.EvenNorm

end
-- ==== Proof.EvenNormValue.lean ====
/- The reference's two gradients of the norm in the even layer's backward pass are the arrays the kernel leaves. The two
   forms of a row's gradient agree as for the feed-forward's norm; no argument need be finite. -/
module

public import proofs.«01_k».proof.Proof.EvenNormArray
public import proofs.«01_k».proof.Proof.EvenNormReference

@[expose] public section

set_option maxRecDepth 16384

noncomputable section

namespace Cert.Ffn.EvenNorm

open Idealize.ShloMosaic Cert.Reference13Ideal.Read
open Cert.Ffn.Norm (row_forms gain_forms)

variable (m : (ℓ : Loc Kernel13Ideal.nD Kernel13Ideal.τ Kernel13Ideal.sig) → Buf (Elt Ideal) ℓ) (c : Dev Kernel13Ideal.nD)

/-- Each argument is the array of its entries. -/
theorem holds_entries : ∃ A W X G D, Holds m c A W X G D :=
  ⟨_, _, _, _, _, (emat_entry _).symm, (emat_entry _).symm, (emat_entry _).symm, (emat_entry _).symm, (emat_entry _).symm⟩

/-- The reference's gradient of the rows, of the kernel's arguments, is the kernel's array. -/
theorem rows_value :
    val_main_v39 (F := Ideal) (m ((c.tc : Thread Kernel13Ideal.nD Kernel13Ideal.τ).loc Kernel13Ideal.main_arg0))
        (m ((c.tc : Thread Kernel13Ideal.nD Kernel13Ideal.τ).loc Kernel13Ideal.main_arg1))
        (m ((c.tc : Thread Kernel13Ideal.nD Kernel13Ideal.τ).loc Kernel13Ideal.main_arg2))
        (m ((c.tc : Thread Kernel13Ideal.nD Kernel13Ideal.τ).loc Kernel13Ideal.main_arg3))
        (m ((c.tc : Thread Kernel13Ideal.nD Kernel13Ideal.τ).loc Kernel13Ideal.main_arg4))
      = (Kernel13Ideal.Gen.dats m 0 c).arrAt 5 Kernel13Ideal.cfg0.N := by
  obtain ⟨A, W, X, G, D, H⟩ := holds_entries m c
  rw [rows_array H]
  refine Eq.trans ?_ ((ref_v39 A W X G D).trans (emat_congr fun i _ j _ => row_forms _ _ _ _ _))
  exact congr (congr (congr (congr (congrArg (val_main_v39 (F := Ideal)) H.factor) H.weights) H.rows) H.gain) H.direct

/-- The reference's gradient of the gain, of the kernel's arguments, is the kernel's array. -/
theorem gain_value :
    val_main_v22 (F := Ideal) (m ((c.tc : Thread Kernel13Ideal.nD Kernel13Ideal.τ).loc Kernel13Ideal.main_arg0))
        (m ((c.tc : Thread Kernel13Ideal.nD Kernel13Ideal.τ).loc Kernel13Ideal.main_arg1))
        (m ((c.tc : Thread Kernel13Ideal.nD Kernel13Ideal.τ).loc Kernel13Ideal.main_arg2))
      = (Kernel13Ideal.Gen.dats m 0 c).arrAt 6 Kernel13Ideal.cfg0.N := by
  obtain ⟨A, W, X, G, D, H⟩ := holds_entries m c
  rw [gain_array H]
  refine Eq.trans ?_ ((ref_v22 A W X).trans (emat_congr fun i _ j _ => Finset.sum_congr rfl fun p _ => gain_forms _ _ _))
  exact congr (congr (congrArg (val_main_v22 (F := Ideal)) H.factor) H.weights) H.rows

end Cert.Ffn.EvenNorm

end
-- ==== Proof.GateUpBlock.lean ====
/- What one grid point of the feed-forward's gate and factor computes: its block of rows against its two blocks of weight columns, and the first product's
   activation times the second. -/
module

public import proofs.«01_k».proof.Proof.Entries
public import proofs.«01_k».proof.Proof.Gen.Kernel14Ideal.Value
public import Idealize.ShloMosaic.Lib.Pipeline.ReadBack
public import Idealize.ShloMosaic.Lib.Pipeline.ValueKit.Tiles

@[expose] public section

set_option maxRecDepth 16384

noncomputable section

namespace Cert.Ffn.GateUp

open Idealize.ShloMosaic TcCoe Tactic Cert.Kernel14Ideal Cert.Kernel14Ideal.Gen

/-- The gate's activation: an extended real times its logistic function. -/
def act (x : EReal) : EReal := x * Ideal.div 1 (1 + Ideal.exp (0 - x))

/-- Row `i` of the first block against column `j` of the second. -/
abbrev rowDot (f w : ℕ → ℕ → EReal) (i j : ℕ) : EReal := ∑ k ∈ Finset.range 2048, f i k * w k j

theorem product (f w : ℕ → ℕ → EReal) :
    matmul dot_S512x2048_S2048x1408_S512x1408_1_0_0_1_n_n none (emat f : BF16 S512x2048)
        (emat w : BF16 S2048x1408) (emat fun _ _ => 0)
      = emat (rowDot f w) := by
  funext i
  pointwise
  exact (congrArg₂ (· + ·) rfl (sum_below 2048 fun k => f (i 0).1 k * w k (i 1).1)).trans (zero_add _)

theorem gate_eq (f w : ℕ → ℕ → EReal) :
    k0_pay1 (F := Ideal) (emat f : BF16 S512x2048) (ecube fun _ => w : BF16 S1x2048x1408)
      = (emat (rowDot f w) : F32 S512x1408) := by
  unfold k0_pay1
  dsimp only
  rw [constant_zero, unstack_one (φ := .bf16) w shapeCasts_S1x2048x1408_S2048x1408, product]
theorem up_eq (f u : ℕ → ℕ → EReal) :
    k0_pay2 (F := Ideal) (emat f : BF16 S512x2048) (ecube fun _ => u : BF16 S1x2048x1408)
      = (emat (rowDot f u) : F32 S512x1408) := by
  unfold k0_pay2
  dsimp only
  rw [constant_zero, unstack_one (φ := .bf16) u shapeCasts_S1x2048x1408_S2048x1408, product]

theorem splat_one : broadcast S512x1408 (Scalar.ofBits .f32 0x3F800000#32 : Ideal .f32) = (emat fun _ _ => 1 : F32 S512x1408) :=
  funext fun _ => Gmlp.ofBits_one
theorem splat_zero : broadcast S512x1408 (Scalar.ofBits .f32 0x00000000#32 : Ideal .f32) = (emat fun _ _ => 0 : F32 S512x1408) :=
  funext fun _ => Gmlp.ofBits_zero

theorem act_eq (f w u : ℕ → ℕ → EReal) :
    k0_pay5 (F := Ideal) (emat f : BF16 S512x2048) (ecube fun _ => w : BF16 S1x2048x1408) (ecube fun _ => u : BF16 S1x2048x1408)
      = (emat fun i j => act (rowDot f w i j) * rowDot f u i j : BF16 S512x1408) := by
  unfold k0_pay5
  dsimp only
  rw [gate_eq, up_eq, splat_one, splat_zero]
  rfl

variable (c : Dev nD) (i : grid0.Coords) (arg3 : Memref sig .tc .vmem S512x2048 .bf16) (harg3 : arg3.IsWhole) (arg4 : Memref sig .tc .vmem S1x2048x1408 .bf16) (harg4 : arg4.IsWhole) (arg5 : Memref sig .tc .vmem S1x2048x1408 .bf16) (harg5 : arg5.IsWhole) (arg6 : Memref sig .tc .vmem S512x1408 .bf16) (harg6 : arg6.IsWhole) (arg7 : Memref sig .tc .vmem S512x1408 .bf16) (harg7 : arg7.IsWhole) (arg8 : Memref sig .tc .vmem S512x1408 .bf16) (harg8 : arg8.IsWhole) (arg9 : Memref sig .tc .vmem S8x128 .f32) (harg9 : arg9.IsWhole) (arg10 : Memref sig .tc .vmem S8x128 .f32) (harg10 : arg10.IsWhole)
variable (x0 : Vec Ideal S512x2048 .bf16) (x1 : Vec Ideal S1x2048x1408 .bf16) (x2 : Vec Ideal S1x2048x1408 .bf16)

/-- The gate written out. -/
theorem out_gate :
    out0_A_3 (F := Ideal) c i arg3 harg3 arg4 harg4 arg5 harg5 arg6 harg6 arg7 harg7 arg8 harg8 arg9 harg9 arg10 harg10 x0 x1 x2 = k0_pay3 x0 x1 := by
  unfold out0_A_3
  rw [View.read_writes_eq_canon _ _ _ (fun y => cover0_A_3 (y := y) ..)]
  unfold kernelRun0_A
  dsimp only
  rw [View.canon_unit_zero zeros2]
  simp only [View.readAt_eq_ld, harg3.read_unread, harg4.read_unread, harg5.read_unread, View.ld_unit_zero (S := S512x2048) zeros2, View.ld_unit_zero (S := S1x2048x1408) zeros3]

/-- The factor written out. -/
theorem out_factor :
    out0_A_4 (F := Ideal) c i arg3 harg3 arg4 harg4 arg5 harg5 arg6 harg6 arg7 harg7 arg8 harg8 arg9 harg9 arg10 harg10 x0 x1 x2 = k0_pay4 x0 x2 := by
  unfold out0_A_4
  rw [View.read_writes_eq_canon _ _ _ (fun y => cover0_A_4 (y := y) ..)]
  unfold kernelRun0_A
  dsimp only
  rw [View.canon_unit_zero zeros2]
  simp only [View.readAt_eq_ld, harg3.read_unread, harg4.read_unread, harg5.read_unread, View.ld_unit_zero (S := S512x2048) zeros2, View.ld_unit_zero (S := S1x2048x1408) zeros3]

/-- The product written out. -/
theorem out_product :
    out0_A_5 (F := Ideal) c i arg3 harg3 arg4 harg4 arg5 harg5 arg6 harg6 arg7 harg7 arg8 harg8 arg9 harg9 arg10 harg10 x0 x1 x2 = k0_pay5 x0 x1 x2 := by
  unfold out0_A_5
  rw [View.read_writes_eq_canon _ _ _ (fun y => cover0_A_5 (y := y) ..)]
  unfold kernelRun0_A
  dsimp only
  rw [View.canon_unit_zero zeros2]
  simp only [View.readAt_eq_ld, harg3.read_unread, harg4.read_unread, harg5.read_unread, View.ld_unit_zero (S := S512x2048) zeros2, View.ld_unit_zero (S := S1x2048x1408) zeros3]

end Cert.Ffn.GateUp

end
-- ==== Proof.GateUpArray.lean ====
/- What the three arrays of the feed-forward's gate and factor hold after the last grid point, entry by entry. -/
module

public import proofs.«01_k».proof.Proof.GateUpBlock

@[expose] public section

set_option maxRecDepth 16384

noncomputable section

namespace Cert.Ffn.GateUp

open Idealize.ShloMosaic TcCoe Tactic Cert.Kernel14Ideal Cert.Kernel14Ideal.Gen

variable (m : (ℓ : Loc nD τ sig) → Buf (Elt Ideal) ℓ) (c : Dev nD)

/-- The rows, … -/
def rows : ℕ → ℕ → EReal := entry (φ := .bf16) (m ((c : Thread nD τ).loc main_arg0) : BF16 S4096x2048)
/-- … the gate's weights in four parts … -/
def weights : ℕ → ℕ → ℕ → EReal := entry3 (φ := .bf16) (m ((c : Thread nD τ).loc main_arg1) : BF16 S4x2048x1408)
/-- … and the factor's. -/
def weights2 : ℕ → ℕ → ℕ → EReal := entry3 (φ := .bf16) (m ((c : Thread nD τ).loc main_arg2) : BF16 S4x2048x1408)

theorem index_0 : ∀ t : Fin cfg0.N, win0_0.index t 0 = t.1 / 4 ∧ win0_0.index t 1 = 0 := by decide +kernel
theorem index_1 : ∀ t : Fin cfg0.N, win0_1.index t 0 = t.1 % 4 ∧ win0_1.index t 1 = 0 ∧ win0_1.index t 2 = 0 := by decide +kernel
theorem index_2 : ∀ t : Fin cfg0.N, win0_2.index t 0 = t.1 % 4 ∧ win0_2.index t 1 = 0 ∧ win0_2.index t 2 = 0 := by decide +kernel
theorem index_3 : ∀ t : Fin cfg0.N, win0_3.index t 0 = t.1 / 4 ∧ win0_3.index t 1 = t.1 % 4 := by decide +kernel
theorem index_4 : ∀ t : Fin cfg0.N, win0_4.index t 0 = t.1 / 4 ∧ win0_4.index t 1 = t.1 % 4 := by decide +kernel
theorem index_5 : ∀ t : Fin cfg0.N, win0_5.index t 0 = t.1 / 4 ∧ win0_5.index t 1 = t.1 % 4 := by decide +kernel

/-- The block of rows at point `n`. -/
abbrev blockF (n : ℕ) : ℕ → ℕ → EReal := fun i j => rows m c (512 * (n / 4) + i) j
/-- The block of the gate's weights at point `n`. -/
abbrev blockW (n : ℕ) : ℕ → ℕ → EReal := fun i j => weights m c (n % 4) i j
/-- The block of the factor's weights at point `n`. -/
abbrev blockU (n : ℕ) : ℕ → ℕ → EReal := fun i j => weights2 m c (n % 4) i j

theorem iblk_0 (t : Fin cfg0.N) : iblk m c 0 t = (emat (blockF m c t.1) : BF16 S512x2048) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rows m c) ?_ ?_
  · show win0_0.index t 0 * 512 + 1 * (y 0).1 = _; rw [(index_0 t).1]; omega
  · show win0_0.index t 1 * 2048 + 1 * (y 1).1 = _; rw [(index_0 t).2]; omega
theorem iblk_1 (t : Fin cfg0.N) : iblk m c 1 t = (ecube fun _ => blockW m c t.1 : BF16 S1x2048x1408) := by
  funext y
  have hy : (y 0).1 < 1 := (y 0).isLt
  unfold iblk
  rw [View.read_apply]
  show V m c main_arg1 _ = _
  rw [V_main_arg1]
  refine (entry3_apply (φ := .bf16) (m ((c : Thread nD τ).loc main_arg1) : BF16 S4x2048x1408) _).symm.trans ?_
  have e : ∀ a a' b b' d d' : ℕ, a = a' → b = b' → d = d' → weights m c a b d = weights m c a' b' d' := by
    rintro _ _ _ _ _ _ rfl rfl rfl; rfl
  refine e _ _ _ _ _ _ ?_ ?_ ?_
  · show win0_1.index t 0 * 1 + 1 * (y 0).1 = _; rw [(index_1 t).1]; omega
  · show win0_1.index t 1 * 2048 + 1 * (y 1).1 = _; rw [(index_1 t).2.1]; omega
  · show win0_1.index t 2 * 1408 + 1 * (y 2).1 = _; rw [(index_1 t).2.2]; omega
theorem iblk_2 (t : Fin cfg0.N) : iblk m c 2 t = (ecube fun _ => blockU m c t.1 : BF16 S1x2048x1408) := by
  funext y
  have hy : (y 0).1 < 1 := (y 0).isLt
  unfold iblk
  rw [View.read_apply]
  show V m c main_arg2 _ = _
  rw [V_main_arg2]
  refine (entry3_apply (φ := .bf16) (m ((c : Thread nD τ).loc main_arg2) : BF16 S4x2048x1408) _).symm.trans ?_
  have e : ∀ a a' b b' d d' : ℕ, a = a' → b = b' → d = d' → weights2 m c a b d = weights2 m c a' b' d' := by
    rintro _ _ _ _ _ _ rfl rfl rfl; rfl
  refine e _ _ _ _ _ _ ?_ ?_ ?_
  · show win0_2.index t 0 * 1 + 1 * (y 0).1 = _; rw [(index_2 t).1]; omega
  · show win0_2.index t 1 * 2048 + 1 * (y 1).1 = _; rw [(index_2 t).2.1]; omega
  · show win0_2.index t 2 * 1408 + 1 * (y 2).1 = _; rw [(index_2 t).2.2]; omega

/-- The gate, … -/
abbrev gateAll (i j : ℕ) : EReal := ∑ k ∈ Finset.range 2048, rows m c i k * weights m c (j / 1408) k (j % 1408)
/-- … the factor … -/
abbrev upAll (i j : ℕ) : EReal := ∑ k ∈ Finset.range 2048, rows m c i k * weights2 m c (j / 1408) k (j % 1408)
/-- … and the product of the gate's activation with the factor. -/
abbrev actAll (i j : ℕ) : EReal := act (gateAll m c i j) * upAll m c i j

/-- Every entry of the fourth window's array lies in the block of some point. -/
theorem cover_3 (i : S4096x5632.Idx) :
    ∃ t : Fin cfg0.N, i ∈ ((View.whole main_v0_0).slice (win0_3.rect t)).set := by
  have hN : cfg0.N = 32 := N_0
  have h0 : (i 0 : Nat) < 4096 := (i 0).isLt
  have h1 : (i 1 : Nat) < 5632 := (i 1).isLt
  have hl : 4 * ((i 0).1 / 512) + (i 1).1 / 1408 < cfg0.N := by omega
  refine ⟨⟨4 * ((i 0).1 / 512) + (i 1).1 / 1408, hl⟩, ?_⟩
  rw [View.set_slice_whole, Rect.mem_set_unit]
  intro a
  match a with
  | ⟨0, _⟩ =>
    show win0_3.index (⟨4 * ((i 0).1 / 512) + (i 1).1 / 1408, hl⟩ : Fin cfg0.N) 0 * 512 ≤ (i 0 : Nat)
      ∧ (i 0 : Nat) < win0_3.index (⟨4 * ((i 0).1 / 512) + (i 1).1 / 1408, hl⟩ : Fin cfg0.N) 0 * 512 + 512
    rw [(index_3 _).1]; dsimp only; omega
  | ⟨1, _⟩ =>
    show win0_3.index (⟨4 * ((i 0).1 / 512) + (i 1).1 / 1408, hl⟩ : Fin cfg0.N) 1 * 1408 ≤ (i 1 : Nat)
      ∧ (i 1 : Nat) < win0_3.index (⟨4 * ((i 0).1 / 512) + (i 1).1 / 1408, hl⟩ : Fin cfg0.N) 1 * 1408 + 1408
    rw [(index_3 _).2]; dsimp only; omega
/-- Every entry of the fifth window's array lies in the block of some point. -/
theorem cover_4 (i : S4096x5632.Idx) :
    ∃ t : Fin cfg0.N, i ∈ ((View.whole main_v0_1).slice (win0_4.rect t)).set := by
  have hN : cfg0.N = 32 := N_0
  have h0 : (i 0 : Nat) < 4096 := (i 0).isLt
  have h1 : (i 1 : Nat) < 5632 := (i 1).isLt
  have hl : 4 * ((i 0).1 / 512) + (i 1).1 / 1408 < cfg0.N := by omega
  refine ⟨⟨4 * ((i 0).1 / 512) + (i 1).1 / 1408, hl⟩, ?_⟩
  rw [View.set_slice_whole, Rect.mem_set_unit]
  intro a
  match a with
  | ⟨0, _⟩ =>
    show win0_4.index (⟨4 * ((i 0).1 / 512) + (i 1).1 / 1408, hl⟩ : Fin cfg0.N) 0 * 512 ≤ (i 0 : Nat)
      ∧ (i 0 : Nat) < win0_4.index (⟨4 * ((i 0).1 / 512) + (i 1).1 / 1408, hl⟩ : Fin cfg0.N) 0 * 512 + 512
    rw [(index_4 _).1]; dsimp only; omega
  | ⟨1, _⟩ =>
    show win0_4.index (⟨4 * ((i 0).1 / 512) + (i 1).1 / 1408, hl⟩ : Fin cfg0.N) 1 * 1408 ≤ (i 1 : Nat)
      ∧ (i 1 : Nat) < win0_4.index (⟨4 * ((i 0).1 / 512) + (i 1).1 / 1408, hl⟩ : Fin cfg0.N) 1 * 1408 + 1408
    rw [(index_4 _).2]; dsimp only; omega
/-- Every entry of the sixth window's array lies in the block of some point. -/
theorem cover_5 (i : S4096x5632.Idx) :
    ∃ t : Fin cfg0.N, i ∈ ((View.whole main_v0_2).slice (win0_5.rect t)).set := by
  have hN : cfg0.N = 32 := N_0
  have h0 : (i 0 : Nat) < 4096 := (i 0).isLt
  have h1 : (i 1 : Nat) < 5632 := (i 1).isLt
  have hl : 4 * ((i 0).1 / 512) + (i 1).1 / 1408 < cfg0.N := by omega
  refine ⟨⟨4 * ((i 0).1 / 512) + (i 1).1 / 1408, hl⟩, ?_⟩
  rw [View.set_slice_whole, Rect.mem_set_unit]
  intro a
  match a with
  | ⟨0, _⟩ =>
    show win0_5.index (⟨4 * ((i 0).1 / 512) + (i 1).1 / 1408, hl⟩ : Fin cfg0.N) 0 * 512 ≤ (i 0 : Nat)
      ∧ (i 0 : Nat) < win0_5.index (⟨4 * ((i 0).1 / 512) + (i 1).1 / 1408, hl⟩ : Fin cfg0.N) 0 * 512 + 512
    rw [(index_5 _).1]; dsimp only; omega
  | ⟨1, _⟩ =>
    show win0_5.index (⟨4 * ((i 0).1 / 512) + (i 1).1 / 1408, hl⟩ : Fin cfg0.N) 1 * 1408 ≤ (i 1 : Nat)
      ∧ (i 1 : Nat) < win0_5.index (⟨4 * ((i 0).1 / 512) + (i 1).1 / 1408, hl⟩ : Fin cfg0.N) 1 * 1408 + 1408
    rw [(index_5 _).2]; dsimp only; omega

/-- The gate's array after the run. -/
theorem gate_array :
    (dats m 0 c).arrAt 3 cfg0.N = (emat (gateAll m c) : BF16 S4096x5632) := by
  refine (dats m 0 c).arrAt_eq_of_cover 3 (emat (gateAll m c) : BF16 S4096x5632) (fun t _ => ?_)
    fun i => (cover_3 i).imp fun t ht => ⟨flush0_3 t, ht⟩
  rw [Kernel14Ideal.Value.flushed3_A, out_gate, iblk_0, iblk_1, show k0_pay3 (F := Ideal) (emat (blockF m c t.1) : BF16 S512x2048) (ecube fun _ => blockW m c t.1 : BF16 S1x2048x1408) = (emat (rowDot (blockF m c t.1) (blockW m c t.1)) : BF16 S512x1408) from congrArg (fun x : F32 S512x1408 => truncf .bf16 x bitsLt_bf16_f32) (gate_eq _ _)]
  funext y
  have h1 : (y 1).1 < 1408 := (y 1).isLt
  rw [View.read_apply]
  show rowDot (blockF m c t.1) (blockW m c t.1) (y 0).1 (y 1).1
    = gateAll m c (win0_3.index t 0 * 512 + 1 * (y 0).1) (win0_3.index t 1 * 1408 + 1 * (y 1).1)
  rw [(index_3 t).1, (index_3 t).2, show t.1 / 4 * 512 + 1 * (y 0).1 = 512 * (t.1 / 4) + (y 0).1 by omega,
    show t.1 % 4 * 1408 + 1 * (y 1).1 = 1408 * (t.1 % 4) + (y 1).1 by omega]
  unfold gateAll rowDot
  rw [show (1408 * (t.1 % 4) + (y 1).1) / 1408 = t.1 % 4 by omega, show (1408 * (t.1 % 4) + (y 1).1) % 1408 = (y 1).1 by omega]

/-- The factor's array after the run. -/
theorem up_array :
    (dats m 0 c).arrAt 4 cfg0.N = (emat (upAll m c) : BF16 S4096x5632) := by
  refine (dats m 0 c).arrAt_eq_of_cover 4 (emat (upAll m c) : BF16 S4096x5632) (fun t _ => ?_)
    fun i => (cover_4 i).imp fun t ht => ⟨flush0_4 t, ht⟩
  rw [Kernel14Ideal.Value.flushed4_A, out_factor, iblk_0, iblk_2, show k0_pay4 (F := Ideal) (emat (blockF m c t.1) : BF16 S512x2048) (ecube fun _ => blockU m c t.1 : BF16 S1x2048x1408) = (emat (rowDot (blockF m c t.1) (blockU m c t.1)) : BF16 S512x1408) from congrArg (fun x : F32 S512x1408 => truncf .bf16 x bitsLt_bf16_f32) (up_eq _ _)]
  funext y
  have h1 : (y 1).1 < 1408 := (y 1).isLt
  rw [View.read_apply]
  show rowDot (blockF m c t.1) (blockU m c t.1) (y 0).1 (y 1).1
    = upAll m c (win0_4.index t 0 * 512 + 1 * (y 0).1) (win0_4.index t 1 * 1408 + 1 * (y 1).1)
  rw [(index_4 t).1, (index_4 t).2, show t.1 / 4 * 512 + 1 * (y 0).1 = 512 * (t.1 / 4) + (y 0).1 by omega,
    show t.1 % 4 * 1408 + 1 * (y 1).1 = 1408 * (t.1 % 4) + (y 1).1 by omega]
  unfold upAll rowDot
  rw [show (1408 * (t.1 % 4) + (y 1).1) / 1408 = t.1 % 4 by omega, show (1408 * (t.1 % 4) + (y 1).1) % 1408 = (y 1).1 by omega]

/-- The product's array after the run. -/
theorem act_array :
    (dats m 0 c).arrAt 5 cfg0.N = (emat (actAll m c) : BF16 S4096x5632) := by
  refine (dats m 0 c).arrAt_eq_of_cover 5 (emat (actAll m c) : BF16 S4096x5632) (fun t _ => ?_)
    fun i => (cover_5 i).imp fun t ht => ⟨flush0_5 t, ht⟩
  rw [Kernel14Ideal.Value.flushed5_A, out_product, iblk_0, iblk_1, iblk_2, act_eq]
  funext y
  have h1 : (y 1).1 < 1408 := (y 1).isLt
  rw [View.read_apply]
  show act (rowDot (blockF m c t.1) (blockW m c t.1) (y 0).1 (y 1).1) * rowDot (blockF m c t.1) (blockU m c t.1) (y 0).1 (y 1).1
    = actAll m c (win0_5.index t 0 * 512 + 1 * (y 0).1) (win0_5.index t 1 * 1408 + 1 * (y 1).1)
  rw [(index_5 t).1, (index_5 t).2, show t.1 / 4 * 512 + 1 * (y 0).1 = 512 * (t.1 / 4) + (y 0).1 by omega,
    show t.1 % 4 * 1408 + 1 * (y 1).1 = 1408 * (t.1 % 4) + (y 1).1 by omega]
  unfold actAll gateAll upAll rowDot
  rw [show (1408 * (t.1 % 4) + (y 1).1) / 1408 = t.1 % 4 by omega, show (1408 * (t.1 % 4) + (y 1).1) % 1408 = (y 1).1 by omega]

end Cert.Ffn.GateUp

end
-- ==== Proof.GateUpValue.lean ====
/- The reference of the feed-forward's gate and factor, entry by entry: the same as what the kernel leaves. -/
module

public import proofs.«01_k».proof.Proof.GateUpArray
public import proofs.«01_k».proof.Proof.Gen.Reference14Ideal.Read

@[expose] public section

set_option maxRecDepth 16384

noncomputable section

namespace Cert.Ffn.GateUp

open Idealize.ShloMosaic Cert.Reference14Ideal.Read
open Finset (range)

/-- The reference's gate, entry by entry. -/
theorem gate_dot (x0 : BF16 Reference14Ideal.S4096x2048) (x1 : BF16 Reference14Ideal.S4x2048x1408) :
    val_main_v4 (F := Ideal) x0 x1
      = (emat fun i j => ∑ k ∈ range 2048, entry x0 i k * entry3 x1 (j / 1408) k (j % 1408) : F32 Reference14Ideal.S4096x5632) := by
  funext y
  have h1 : (y 1).1 < 5632 := (y 1).isLt
  show _ = ∑ k ∈ range 2048, entry x0 (y 0).1 k * entry3 x1 ((y 1).1 / 1408) k ((y 1).1 % 1408)
  rw [val_main_v4_apply, ← sum_below 2048]
  refine Finset.sum_congr rfl fun k _ => ?_
  rw [val_main_v3_apply, val_main_v2_apply]
  show (x0 _ : EReal) * x1 _ = _
  have e : ∀ a a' b b' d d' : ℕ, a = a' → b = b' → d = d' → entry3 x1 a b d = entry3 x1 a' b' d' := by
    rintro _ _ _ _ _ _ rfl rfl rfl; rfl
  rw [← entry_apply x0, ← entry3_apply x1]
  refine congrArg₂ (· * ·) (congrArg₂ (entry x0) rfl rfl) (e _ _ _ _ _ _ ?_ ?_ ?_)
  · show (k.1 * 5632 + (y 1).1) / 1408 % 4 = _; omega
  · show (k.1 * 5632 + (y 1).1) / 5632 = _; omega
  · show (k.1 * 5632 + (y 1).1) % 1408 = _; omega
/-- The reference's factor, entry by entry. -/
theorem up_dot (x0 : BF16 Reference14Ideal.S4096x2048) (x2 : BF16 Reference14Ideal.S4x2048x1408) :
    val_main_v8 (F := Ideal) x0 x2
      = (emat fun i j => ∑ k ∈ range 2048, entry x0 i k * entry3 x2 (j / 1408) k (j % 1408) : F32 Reference14Ideal.S4096x5632) := by
  funext y
  have h1 : (y 1).1 < 5632 := (y 1).isLt
  show _ = ∑ k ∈ range 2048, entry x0 (y 0).1 k * entry3 x2 ((y 1).1 / 1408) k ((y 1).1 % 1408)
  rw [val_main_v8_apply, ← sum_below 2048]
  refine Finset.sum_congr rfl fun k _ => ?_
  rw [val_main_v7_apply, val_main_v6_apply]
  show (x0 _ : EReal) * x2 _ = _
  have e : ∀ a a' b b' d d' : ℕ, a = a' → b = b' → d = d' → entry3 x2 a b d = entry3 x2 a' b' d' := by
    rintro _ _ _ _ _ _ rfl rfl rfl; rfl
  rw [← entry_apply x0, ← entry3_apply x2]
  refine congrArg₂ (· * ·) (congrArg₂ (entry x0) rfl rfl) (e _ _ _ _ _ _ ?_ ?_ ?_)
  · show (k.1 * 5632 + (y 1).1) / 1408 % 4 = _; omega
  · show (k.1 * 5632 + (y 1).1) / 5632 = _; omega
  · show (k.1 * 5632 + (y 1).1) % 1408 = _; omega

variable (x0 : BF16 Reference14Ideal.S4096x2048) (x1 x2 : BF16 Reference14Ideal.S4x2048x1408)

/-- The reference's activation of `g` times `u`. -/
theorem act_form (g u : EReal) :
    (g * Ideal.div (Ideal.ofBits .f32 0x3F800000#32) (Ideal.ofBits .f32 0x3F800000#32 + Ideal.exp (-g))) * u = act g * u := by
  unfold act
  rw [Gmlp.ofBits_one, EReal.coe_one, show (0 : EReal) - g = -g by rw [sub_eq_add_neg, zero_add]]

/-- The reference's gate as written out. -/
theorem gate_reference :
    val_main_v11 (F := Ideal) x0 x1
      = (emat fun i j => ∑ k ∈ range 2048, entry x0 i k * entry3 x1 (j / 1408) k (j % 1408) : BF16 Reference14Ideal.S4096x5632) :=
  gate_dot x0 x1
/-- The reference's factor as written out. -/
theorem up_reference :
    val_main_v12 (F := Ideal) x0 x2
      = (emat fun i j => ∑ k ∈ range 2048, entry x0 i k * entry3 x2 (j / 1408) k (j % 1408) : BF16 Reference14Ideal.S4096x5632) :=
  up_dot x0 x2
/-- The reference's product of the gate's activation with the factor. -/
theorem act_reference :
    val_main_v13 (F := Ideal) x0 x1 x2
      = (emat fun i j => act (∑ k ∈ range 2048, entry x0 i k * entry3 x1 (j / 1408) k (j % 1408))
          * ∑ k ∈ range 2048, entry x0 i k * entry3 x2 (j / 1408) k (j % 1408) : BF16 Reference14Ideal.S4096x5632) := by
  funext y
  rw [val_main_v13_apply, val_main_v10_apply, val_main_v9_apply, val_main_call0_v5_apply, val_main_call0_v4_apply,
    val_main_call0_cst_0_apply, val_main_call0_v3_apply, val_main_call0_v2_apply, val_main_call0_cst_apply,
    val_main_call0_v1_apply, val_main_call0_v0_apply, gate_dot, up_dot]
  exact act_form (∑ k ∈ range 2048, entry x0 (y 0).1 k * entry3 x1 ((y 1).1 / 1408) k ((y 1).1 % 1408))
    (∑ k ∈ range 2048, entry x0 (y 0).1 k * entry3 x2 ((y 1).1 / 1408) k ((y 1).1 % 1408))

end Cert.Ffn.GateUp

end
-- ==== Proof.DownForwardBlock.lean ====
/- What one grid point of the feed-forward's down-projection computes: the product of its block of gated rows with its
   block of weights, stored first, then added, and on the last of eleven points written out with the rows added. -/
module

public import proofs.«01_k».proof.Proof.Entries
public import proofs.«01_k».proof.Proof.Gen.Kernel15Ideal.Value
public import Idealize.ShloMosaic.Lib.Pipeline.ReadBack
public import Idealize.ShloMosaic.Lib.Pipeline.ValueKit.Tiles

@[expose] public section

set_option maxRecDepth 16384

noncomputable section

namespace Cert.Ffn.DownFw

open Idealize.ShloMosaic TcCoe Tactic Cert.Kernel15Ideal Cert.Kernel15Ideal.Gen

/-- Row `i` of the first block against column `j` of the second. -/
abbrev rowDot (f w : ℕ → ℕ → EReal) (i j : ℕ) : EReal := ∑ k ∈ Finset.range 512, f i k * w k j

theorem product (f w : ℕ → ℕ → EReal) :
    matmul dot_S1024x512_S512x2048_S1024x2048_1_0_0_1_n_n none (emat f : BF16 S1024x512)
        (emat w : BF16 S512x2048) (emat fun _ _ => 0)
      = emat (rowDot f w) := by
  funext i
  pointwise
  exact (congrArg₂ (· + ·) rfl (sum_below 512 fun k => f (i 0).1 k * w k (i 1).1)).trans (zero_add _)

theorem first_eq (f w : ℕ → ℕ → EReal) :
    k0_pay1 (F := Ideal) (emat f : BF16 S1024x512) (ecube fun _ => w : BF16 S1x512x2048)
      = (emat (rowDot f w) : F32 S1024x2048) := by
  unfold k0_pay1
  dsimp only
  rw [constant_zero, unstack_one (φ := .bf16) w shapeCasts_S1x512x2048_S512x2048, product]
  exact shapeCast_self _ _
theorem next_eq (f w s : ℕ → ℕ → EReal) :
    k0_pay2 (F := Ideal) (emat f : BF16 S1024x512) (ecube fun _ => w : BF16 S1x512x2048)
        (emat s : F32 S1024x2048)
      = (emat fun i j => s i j + rowDot f w i j : F32 S1024x2048) := by
  unfold k0_pay2
  dsimp only
  rw [constant_zero, unstack_one (φ := .bf16) w shapeCasts_S1x512x2048_S512x2048, product]
  exact shapeCast_self _ _
theorem last_eq (f w s r : ℕ → ℕ → EReal) :
    k0_pay3 (F := Ideal) (emat f : BF16 S1024x512) (ecube fun _ => w : BF16 S1x512x2048)
        (emat s : F32 S1024x2048) (emat r : F32 S1024x2048)
      = (emat fun i j => (s i j + rowDot f w i j) + r i j : F32 S1024x2048) := by
  unfold k0_pay3
  dsimp only
  rw [constant_zero, unstack_one (φ := .bf16) w shapeCasts_S1x512x2048_S512x2048, product]
  rfl

variable (c : Dev nD) (i : grid0.Coords) (arg3 : Memref sig .tc .vmem S1024x512 .bf16) (harg3 : arg3.IsWhole) (arg4 : Memref sig .tc .vmem S1x512x2048 .bf16) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S1024x2048 .f32) (harg7 : arg7.IsWhole)
variable (x0 : Vec Ideal S1024x512 .bf16) (x1 : Vec Ideal S1x512x2048 .bf16) (x2 : Vec Ideal S1024x2048 .f32) (xs : Vec Ideal S1024x2048 .f32)

/-- The first of eleven points stores its product. -/
theorem kept_A (hc0 : cond0_0 i) (hc1 : ¬cond0_1 i) (hc2 : ¬cond0_2 i) :
    sout0_A_0 (F := Ideal) c i arg3 harg3 arg4 harg4 arg5 harg5 arg6 harg6 arg7 harg7 hc0 hc1 hc2 x0 x1 x2 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x512) zeros2,
    View.ld_unit_zero (S := S1x512x2048) zeros3]

/-- The nine points after it add theirs. -/
theorem kept_B (hc0 : ¬cond0_0 i) (hc1 : cond0_1 i) (hc2 : ¬cond0_2 i) :
    sout0_B_0 (F := Ideal) c i arg3 harg3 arg4 harg4 arg5 harg5 arg6 harg6 arg7 harg7 hc0 hc1 hc2 x0 x1 x2 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg7.read_unread, View.ld_unit_zero (S := S1024x512) zeros2,
    View.ld_unit_zero (S := S1x512x2048) zeros3, View.ld_unit_zero (S := S1024x2048) zeros2]

/-- The last adds its own and the rows, and writes the sum out. -/
theorem out_C (hc0 : ¬cond0_0 i) (hc1 : ¬cond0_1 i) (hc2 : cond0_2 i) :
    out0_C_3 (F := Ideal) c i arg3 harg3 arg4 harg4 arg5 harg5 arg6 harg6 arg7 harg7 hc0 hc1 hc2 x0 x1 x2 xs = k0_pay3 x0 x1 xs x2 := by
  unfold out0_C_3
  rw [View.read_writes_eq_canon _ _ _ (fun y => cover0_C_3 (y := y) ..)]
  unfold kernelRun0_C
  dsimp only
  rw [View.canon_unit_zero zeros2]
  simp only [View.readAt_eq_ld, harg3.read_unread, harg4.read_unread, harg5.read_unread, harg7.read_unread,
    View.ld_unit_zero (S := S1024x512) zeros2, View.ld_unit_zero (S := S1x512x2048) zeros3, View.ld_unit_zero (S := S1024x2048) zeros2]

end Cert.Ffn.DownFw

end
-- ==== Proof.DownForwardArray.lean ====
/- What the array of the feed-forward's down-projection holds after the last grid point, entry by entry. Eleven points in a
   row add up the products over 512 inner indices each; the eleventh writes 1024 rows. -/
module

public import proofs.«01_k».proof.Proof.DownForwardBlock

@[expose] public section

set_option maxRecDepth 16384

noncomputable section

namespace Cert.Ffn.DownFw

open Idealize.ShloMosaic TcCoe Tactic Cert.Kernel15Ideal Cert.Kernel15Ideal.Gen
open Finset (range)

variable (m : (ℓ : Loc nD τ sig) → Buf (Elt Ideal) ℓ) (c : Dev nD)

/-- The gated rows, … -/
def rows : ℕ → ℕ → EReal := entry (φ := .bf16) (m ((c : Thread nD τ).loc main_arg0) : BF16 S4096x5632)
/-- … the weights … -/
def weights : ℕ → ℕ → EReal := entry (φ := .bf16) (m ((c : Thread nD τ).loc main_arg1) : BF16 S5632x2048)
/-- … and the rows added. -/
def added : ℕ → ℕ → EReal := entry (φ := .f32) (m ((c : Thread nD τ).loc main_arg2) : F32 S4096x2048)

theorem index_0 : ∀ t : Fin cfg0.N, win0_0.index t 0 = t.1 / 11 ∧ win0_0.index t 1 = t.1 % 11 := by decide +kernel
theorem index_1 : ∀ t : Fin cfg0.N, win0_1.index t 0 = 0 ∧ win0_1.index t 1 = t.1 % 11 ∧ win0_1.index t 2 = 0 := by decide +kernel
theorem index_2 : ∀ t : Fin cfg0.N, win0_2.index t 0 = t.1 / 11 ∧ win0_2.index t 1 = 0 := by decide +kernel
theorem index_3 : ∀ t : Fin cfg0.N, win0_3.index t 0 = t.1 / 11 ∧ win0_3.index t 1 = 0 := by decide +kernel

/-- The block of gated rows at point `n`. -/
abbrev blockF (n : ℕ) : ℕ → ℕ → EReal := fun i j => rows m c (1024 * (n / 11) + i) (512 * (n % 11) + j)
/-- The block of weights at point `n`. -/
abbrev blockW (n : ℕ) : ℕ → ℕ → EReal := fun i j => weights m c (512 * (n % 11) + i) j
/-- The block of the rows added at point `n`. -/
abbrev blockR (n : ℕ) : ℕ → ℕ → EReal := fun i j => added m c (1024 * (n / 11) + i) j

theorem iblk_0 (t : Fin cfg0.N) : iblk m c 0 t = (emat (blockF m c t.1) : BF16 S1024x512) := by
  funext y
  unfold iblk
  rw [View.read_apply]
  show V m c main_arg0 _ = _
  rw [V_main_arg0]
  refine (entry_apply (φ := .bf16) (m ((c : Thread nD τ).loc main_arg0) : BF16 S4096x5632) _).symm.trans ?_
  refine congrArg₂ (rows m c) ?_ ?_
  · show win0_0.index t 0 * 1024 + 1 * (y 0).1 = _; rw [(index_0 t).1]; omega
  · show win0_0.index t 1 * 512 + 1 * (y 1).1 = _; rw [(index_0 t).2]; omega
/-- The weights as a stack of one, as the host makes them. -/
theorem stacked : V m c main_v0 = (ecube fun _ => weights m c : BF16 S1x5632x2048) := by
  unfold V
  simp only [hostOps0, List.flatten_cons, List.flatten_nil, List.append_nil, List.cons_append, List.nil_append]
  after_results
  funext y
  refine Eq.trans ?_ (entry_apply (φ := .bf16) (m ((c : Thread nD τ).loc main_arg1) : BF16 S5632x2048)
    (ix2 ⟨(y 1).1, (y 1).isLt⟩ ⟨(y 2).1, (y 2).isLt⟩)).symm
  exact congrArg (m ((c : Thread nD τ).loc main_arg1) : BF16 S5632x2048)
    (funext fun a => match a with | ⟨0, _⟩ => rfl | ⟨1, _⟩ => rfl)
theorem iblk_1 (t : Fin cfg0.N) : iblk m c 1 t = (ecube fun _ => blockW m c t.1 : BF16 S1x512x2048) := by
  funext y
  unfold iblk
  rw [View.read_apply]
  show (V m c main_v0 : BF16 S1x5632x2048) _ = _
  rw [stacked]
  refine congrArg₂ (weights m c) ?_ ?_
  · show win0_1.index t 1 * 512 + 1 * (y 1).1 = _; rw [(index_1 t).2.1]; omega
  · show win0_1.index t 2 * 2048 + 1 * (y 2).1 = _; rw [(index_1 t).2.2]; omega
theorem iblk_2 (t : Fin cfg0.N) : iblk m c 2 t = (emat (blockR m c t.1) : F32 S1024x2048) := by
  funext y
  unfold iblk
  rw [View.read_apply]
  show V m c main_arg2 _ = _
  rw [V_main_arg2]
  refine (entry_apply (φ := .f32) (m ((c : Thread nD τ).loc main_arg2) : F32 S4096x2048) _).symm.trans ?_
  refine congrArg₂ (added m c) ?_ ?_
  · show win0_2.index t 0 * 1024 + 1 * (y 0).1 = _; rw [(index_2 t).1]; omega
  · show win0_2.index t 1 * 2048 + 1 * (y 1).1 = _; rw [(index_2 t).2]; omega

/-- The product of point `n`'s blocks. -/
abbrev term (n : ℕ) : ℕ → ℕ → EReal := rowDot (blockF m c n) (blockW m c n)
/-- The product over the first `512 * r` inner indices. -/
abbrev part (r i j : ℕ) : EReal := ∑ k ∈ range (512 * r), rows m c i k * weights m c k j

theorem part_step (n i j : ℕ) :
    part m c (n % 11) (1024 * (n / 11) + i) j + term m c n i j = part m c (n % 11 + 1) (1024 * (n / 11) + i) j := by
  unfold part
  rw [show 512 * (n % 11 + 1) = 512 * (n % 11) + 512 by omega, Finset.sum_range_add]

/-- What is in place after the first of eleven points, … -/
theorem kept_first (t : Fin cfg0.N) (ht : t.1 % 11 = 0) :
    (outsAt0 m c t.1 t.isLt).2 = (emat (term m c t.1) : F32 S1024x2048) := by
  rw [outsAt0_A m c t ht (by omega) (by omega)]
  dsimp only
  rw [kept_A, iblk_0, iblk_1]
  exact first_eq _ _
/-- … after a point in between, given what it found, … -/
theorem kept_next (t : Fin cfg0.N) (ht : 1 ≤ t.1 % 11 ∧ t.1 % 11 ≤ 9) (s : ℕ → ℕ → EReal)
    (hs : (outsAt0 m c (t.1 - 1) (before t)).2 = (emat s : F32 S1024x2048)) :
    (outsAt0 m c t.1 t.isLt).2 = (emat fun i j => s i j + term m c t.1 i j : F32 S1024x2048) := by
  rw [outsAt0_B m c t (by omega) ht (by omega)]
  dsimp only
  rw [kept_B, hs, iblk_0, iblk_1]
  exact next_eq _ _ _
/-- … and what the last point writes out. -/
theorem out_last (t : Fin cfg0.N) (ht : t.1 % 11 = 10) (s : ℕ → ℕ → EReal)
    (hs : (outsAt0 m c (t.1 - 1) (before t)).2 = (emat s : F32 S1024x2048)) :
    (outsAt0 m c t.1 t.isLt).1
      = (emat fun i j => (s i j + term m c t.1 i j) + blockR m c t.1 i j : F32 S1024x2048) := by
  rw [outsAt0_C m c t (by omega) (by omega) ht]
  dsimp only
  rw [out_C, hs, iblk_0, iblk_1, iblk_2]
  exact last_eq _ _ _ _

/-- After any point but the last of eleven the sum over the inner indices so far is in place. -/
theorem state (n : ℕ) : ∀ hn : n < cfg0.N, n % 11 < 10 →
    (outsAt0 m c n hn).2 = (emat fun i j => part m c (n % 11 + 1) (1024 * (n / 11) + i) j : F32 S1024x2048) := by
  induction n with
  | zero =>
    intro hn _
    rw [kept_first m c ⟨0, hn⟩ rfl]
    refine emat_congr fun i _ j _ => ?_
    refine Eq.trans ?_ (part_step m c 0 i j)
    show _ = ∑ k ∈ range 0, _ + _
    rw [Finset.sum_range_zero, zero_add]
  | succ n ih =>
    intro hn h
    by_cases h0 : (n + 1) % 11 = 0
    · rw [kept_first m c ⟨n + 1, hn⟩ h0]
      refine emat_congr fun i _ j _ => ?_
      refine Eq.trans ?_ (part_step m c (n + 1) i j)
      show _ = ∑ k ∈ range (512 * ((n + 1) % 11)), _ + _
      rw [h0, Nat.mul_zero, Finset.sum_range_zero, zero_add]
    · rw [kept_next m c ⟨n + 1, hn⟩ (by show 1 ≤ (n + 1) % 11 ∧ (n + 1) % 11 ≤ 9; omega) _ (ih (by omega) (by omega))]
      refine emat_congr fun i _ j _ => ?_
      refine Eq.trans ?_ (part_step m c (n + 1) i j)
      rw [show n % 11 + 1 = (n + 1) % 11 by omega, show n / 11 = (n + 1) / 11 by omega]

/-- The whole product, and the rows added. -/
abbrev all (i j : ℕ) : EReal := (∑ k ∈ range 5632, rows m c i k * weights m c k j) + added m c i j

/-- What a last point writes out. -/
theorem out_eq (t : Fin cfg0.N) (ht : t.1 % 11 = 10) :
    (outsAt0 m c t.1 t.isLt).1 = (emat fun i j => all m c (1024 * (t.1 / 11) + i) j : F32 S1024x2048) := by
  rw [out_last m c t ht _ (state m c (t.1 - 1) (before t) (by omega))]
  refine emat_congr fun i _ j _ => ?_
  refine congrArg (· + added m c (1024 * (t.1 / 11) + i) j) ?_
  have e := part_step m c t.1 i j
  rw [show (t.1 - 1) % 11 + 1 = t.1 % 11 by omega, show (t.1 - 1) / 11 = t.1 / 11 by omega]
  refine e.trans ?_
  rw [ht]

/-- Every entry of the array lies in the block that some last point writes out. -/
theorem cover_3 (i : S4096x2048.Idx) :
    ∃ t : Fin cfg0.N, (cfg0.win 3).flush t = true ∧ i ∈ ((View.whole main_v1).slice (win0_3.rect t)).set := by
  have hN : cfg0.N = 44 := N_0
  have h0 : (i 0 : Nat) < 4096 := (i 0).isLt
  have h1 : (i 1 : Nat) < 2048 := (i 1).isLt
  have hl : 11 * ((i 0).1 / 1024) + 10 < cfg0.N := by omega
  refine ⟨⟨11 * ((i 0).1 / 1024) + 10, hl⟩, (flush0_3 _).mpr (by show (11 * ((i 0).1 / 1024) + 10) % 11 = 10; omega), ?_⟩
  rw [View.set_slice_whole, Rect.mem_set_unit]
  intro a
  match a with
  | ⟨0, _⟩ =>
    show win0_3.index (⟨11 * ((i 0).1 / 1024) + 10, hl⟩ : Fin cfg0.N) 0 * 1024 ≤ (i 0 : Nat)
      ∧ (i 0 : Nat) < win0_3.index (⟨11 * ((i 0).1 / 1024) + 10, hl⟩ : Fin cfg0.N) 0 * 1024 + 1024
    rw [(index_3 _).1]; dsimp only; omega
  | ⟨1, _⟩ =>
    show win0_3.index (⟨11 * ((i 0).1 / 1024) + 10, hl⟩ : Fin cfg0.N) 1 * 2048 ≤ (i 1 : Nat)
      ∧ (i 1 : Nat) < win0_3.index (⟨11 * ((i 0).1 / 1024) + 10, hl⟩ : Fin cfg0.N) 1 * 2048 + 2048
    rw [(index_3 _).2]; omega

/-- The array after the run. -/
theorem array_eq :
    (dats m 0 c).arrAt 3 cfg0.N = (emat (all m c) : F32 S4096x2048) := by
  refine (dats m 0 c).arrAt_eq_of_cover 3 (emat (all m c) : F32 S4096x2048) (fun t hf => ?_)
    fun i => cover_3 i
  · have ht : t.1 % 11 = 10 := (flush0_3 t).mp hf
    rw [Kernel15Ideal.Value.flushed3, out_eq m c t ht]
    funext y
    rw [View.read_apply]
    show all m c (1024 * (t.1 / 11) + (y 0).1) (y 1).1
      = all m c (win0_3.index t 0 * 1024 + 1 * (y 0).1) (win0_3.index t 1 * 2048 + 1 * (y 1).1)
    rw [(index_3 t).1, (index_3 t).2, show t.1 / 11 * 1024 + 1 * (y 0).1 = 1024 * (t.1 / 11) + (y 0).1 by omega,
      show 0 * 2048 + 1 * (y 1).1 = (y 1).1 by omega]

end Cert.Ffn.DownFw

end
-- ==== Proof.DownForwardValue.lean ====
/- The reference of the feed-forward's down-projection, entry by entry: the same as what the kernel leaves. -/
module

public import proofs.«01_k».proof.Proof.DownForwardArray
public import proofs.«01_k».proof.Proof.Gen.Reference15Ideal.Read

@[expose] public section

set_option maxRecDepth 16384

noncomputable section

namespace Cert.Ffn.DownFw

open Idealize.ShloMosaic Cert.Reference15Ideal.Read

/-- The reference's result, entry by entry. -/
theorem reference_eq (x0 : BF16 Reference15Ideal.S4096x5632) (x1 : BF16 Reference15Ideal.S5632x2048)
    (x2 : F32 Reference15Ideal.S4096x2048) :
    val_main_v3 (F := Ideal) x0 x1 x2
      = (emat fun i j => (∑ k ∈ Finset.range 5632, entry x0 i k * entry x1 k j) + entry x2 i j : F32 Reference15Ideal.S4096x2048) := by
  funext y
  show (x2 y : EReal) + val_main_v2 (F := Ideal) x0 x1 y = (∑ k ∈ Finset.range 5632, entry x0 (y 0).1 k * entry x1 k (y 1).1) + entry x2 (y 0).1 (y 1).1
  rw [entry_apply x2 y, add_comm]
  refine congrArg (· + x2 y) ?_
  rw [val_main_v2_apply, ← sum_below 5632]
  refine Finset.sum_congr rfl fun k _ => ?_
  show (x0 _ : EReal) * x1 _ = _
  exact congrArg₂ (· * ·) (entry_apply x0 _).symm (entry_apply x1 _).symm

end Cert.Ffn.DownFw

end
-- ==== Proof.EvenInForwardBlock.lean ====
/- What one grid point of layer 0's input projection computes: its block of rows against its block of weight rows, the whole inner dimension at once. -/
module

public import proofs.«01_k».proof.Proof.Entries
public import proofs.«01_k».proof.Proof.Gen.Kernel16Ideal.Value
public import Idealize.ShloMosaic.Lib.Pipeline.ReadBack
public import Idealize.ShloMosaic.Lib.Pipeline.ValueKit.Tiles

@[expose] public section

set_option maxRecDepth 16384

noncomputable section

namespace Cert.Ffn.EvenFw

open Idealize.ShloMosaic TcCoe Tactic Cert.Kernel16Ideal Cert.Kernel16Ideal.Gen

/-- Row `i` of the first block against row `j` of the second. -/
abbrev rowDot (f w : ℕ → ℕ → EReal) (i j : ℕ) : EReal := ∑ k ∈ Finset.range 2048, f i k * w j k

theorem product (f w : ℕ → ℕ → EReal) :
    matmul dot_S1024x2048_S512x2048_S1024x512_1_1_0_0_n_n none (emat f : BF16 S1024x2048)
        (emat w : BF16 S512x2048) (emat fun _ _ => 0)
      = emat (rowDot f w) := by
  funext i
  pointwise
  exact (congrArg₂ (· + ·) rfl (sum_below 2048 fun k => f (i 0).1 k * w (i 1).1 k)).trans (zero_add _)

theorem value_eq (f w : ℕ → ℕ → EReal) :
    k0_pay1 (F := Ideal) (emat f : BF16 S1024x2048) (ecube fun _ => w : BF16 S1x512x2048)
      = (emat (rowDot f w) : F32 S1024x512) := by
  unfold k0_pay1
  dsimp only
  rw [constant_zero, unstack_one (φ := .bf16) w shapeCasts_S1x512x2048_S512x2048, product]

variable (c : Dev nD) (i : grid0.Coords) (arg3 : Memref sig .tc .vmem S1024x2048 .bf16) (harg3 : arg3.IsWhole) (arg4 : Memref sig .tc .vmem S1x512x2048 .bf16) (harg4 : arg4.IsWhole) (arg5 : Memref sig .tc .vmem S1024x512 .f32) (harg5 : arg5.IsWhole) (arg6 : Memref sig .tc .vmem S1024x512 .f32) (harg6 : arg6.IsWhole)
variable (x0 : Vec Ideal S1024x2048 .bf16) (x1 : Vec Ideal S1x512x2048 .bf16)

/-- The block written out. -/
theorem out_block :
    out0_A_2 (F := Ideal) c i arg3 harg3 arg4 harg4 arg5 harg5 arg6 harg6 x0 x1 = k0_pay1 x0 x1 := by
  unfold out0_A_2
  rw [View.read_writes_eq_canon _ _ _ (fun y => cover0_A_2 (y := y) ..)]
  unfold kernelRun0_A
  dsimp only
  rw [View.canon_unit_zero zeros2]
  simp only [View.readAt_eq_ld, harg3.read_unread, harg4.read_unread, View.ld_unit_zero (S := S1024x2048) zeros2, View.ld_unit_zero (S := S1x512x2048) zeros3]

end Cert.Ffn.EvenFw

end
-- ==== Proof.EvenInForwardArray.lean ====
/- What the array of layer 0's input projection holds after the last grid point, entry by entry. -/
module

public import proofs.«01_k».proof.Proof.EvenInForwardBlock

@[expose] public section

set_option maxRecDepth 16384

noncomputable section

namespace Cert.Ffn.EvenFw

open Idealize.ShloMosaic TcCoe Tactic Cert.Kernel16Ideal Cert.Kernel16Ideal.Gen

variable (m : (ℓ : Loc nD τ sig) → Buf (Elt Ideal) ℓ) (c : Dev nD)

/-- The rows, … -/
def rows : ℕ → ℕ → EReal := entry (φ := .bf16) (m ((c : Thread nD τ).loc main_arg0) : BF16 S4096x2048)
/-- … and the weights. -/
def weights : ℕ → ℕ → EReal := entry (φ := .bf16) (m ((c : Thread nD τ).loc main_arg1) : BF16 S5632x2048)

theorem index_0 : ∀ t : Fin cfg0.N, win0_0.index t 0 = t.1 / 11 ∧ win0_0.index t 1 = 0 := by decide +kernel
theorem index_1 : ∀ t : Fin cfg0.N, win0_1.index t 0 = 0 ∧ win0_1.index t 1 = t.1 % 11 ∧ win0_1.index t 2 = 0 := by decide +kernel
theorem index_2 : ∀ t : Fin cfg0.N, win0_2.index t 0 = t.1 / 11 ∧ win0_2.index t 1 = t.1 % 11 := by decide +kernel

/-- The block of rows at point `n`. -/
abbrev blockF (n : ℕ) : ℕ → ℕ → EReal := fun i j => rows m c (1024 * (n / 11) + i) j
/-- The block of weights at point `n`. -/
abbrev blockW (n : ℕ) : ℕ → ℕ → EReal := fun i j => weights m c (512 * (n % 11) + i) j

theorem iblk_0 (t : Fin cfg0.N) : iblk m c 0 t = (emat (blockF m c t.1) : BF16 S1024x2048) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rows m c) ?_ ?_
  · show win0_0.index t 0 * 1024 + 1 * (y 0).1 = _; rw [(index_0 t).1]; omega
  · show win0_0.index t 1 * 2048 + 1 * (y 1).1 = _; rw [(index_0 t).2]; omega
/-- The weights as a stack of one, as the host makes them. -/
theorem stacked : V m c main_v0 = (ecube fun _ => weights m c : BF16 S1x5632x2048) := by
  unfold V
  simp only [hostOps0, List.flatten_cons, List.flatten_nil, List.append_nil, List.cons_append, List.nil_append]
  after_results
  funext y
  refine Eq.trans ?_ (entry_apply (φ := .bf16) (m ((c : Thread nD τ).loc main_arg1) : BF16 S5632x2048)
    (ix2 ⟨(y 1).1, (y 1).isLt⟩ ⟨(y 2).1, (y 2).isLt⟩)).symm
  exact congrArg (m ((c : Thread nD τ).loc main_arg1) : BF16 S5632x2048)
    (funext fun a => match a with | ⟨0, _⟩ => rfl | ⟨1, _⟩ => rfl)
theorem iblk_1 (t : Fin cfg0.N) : iblk m c 1 t = (ecube fun _ => blockW m c t.1 : BF16 S1x512x2048) := by
  funext y
  unfold iblk
  rw [View.read_apply]
  show (V m c main_v0 : BF16 S1x5632x2048) _ = _
  rw [stacked]
  refine congrArg₂ (weights m c) ?_ ?_
  · show win0_1.index t 1 * 512 + 1 * (y 1).1 = _; rw [(index_1 t).2.1]; omega
  · show win0_1.index t 2 * 2048 + 1 * (y 2).1 = _; rw [(index_1 t).2.2]; omega

/-- The product of all of them. -/
abbrev all (i j : ℕ) : EReal := ∑ k ∈ Finset.range 2048, rows m c i k * weights m c j k

/-- Every entry of the third window's array lies in the block of some point. -/
theorem cover_2 (i : S4096x5632.Idx) :
    ∃ t : Fin cfg0.N, i ∈ ((View.whole main_v1).slice (win0_2.rect t)).set := by
  have hN : cfg0.N = 44 := N_0
  have h0 : (i 0 : Nat) < 4096 := (i 0).isLt
  have h1 : (i 1 : Nat) < 5632 := (i 1).isLt
  have hl : 11 * ((i 0).1 / 1024) + (i 1).1 / 512 < cfg0.N := by omega
  refine ⟨⟨11 * ((i 0).1 / 1024) + (i 1).1 / 512, hl⟩, ?_⟩
  rw [View.set_slice_whole, Rect.mem_set_unit]
  intro a
  match a with
  | ⟨0, _⟩ =>
    show win0_2.index (⟨11 * ((i 0).1 / 1024) + (i 1).1 / 512, hl⟩ : Fin cfg0.N) 0 * 1024 ≤ (i 0 : Nat)
      ∧ (i 0 : Nat) < win0_2.index (⟨11 * ((i 0).1 / 1024) + (i 1).1 / 512, hl⟩ : Fin cfg0.N) 0 * 1024 + 1024
    rw [(index_2 _).1]; dsimp only; omega
  | ⟨1, _⟩ =>
    show win0_2.index (⟨11 * ((i 0).1 / 1024) + (i 1).1 / 512, hl⟩ : Fin cfg0.N) 1 * 512 ≤ (i 1 : Nat)
      ∧ (i 1 : Nat) < win0_2.index (⟨11 * ((i 0).1 / 1024) + (i 1).1 / 512, hl⟩ : Fin cfg0.N) 1 * 512 + 512
    rw [(index_2 _).2]; dsimp only; omega

/-- The array after the run. -/
theorem array_eq :
    (dats m 0 c).arrAt 2 cfg0.N = (emat (all m c) : F32 S4096x5632) := by
  refine (dats m 0 c).arrAt_eq_of_cover 2 (emat (all m c) : F32 S4096x5632) (fun t _ => ?_)
    fun i => (cover_2 i).imp fun t ht => ⟨flush0_2 t, ht⟩
  rw [Kernel16Ideal.Value.flushed2_A, out_block, iblk_0, iblk_1, value_eq]
  funext y
  have h1 : (y 1).1 < 512 := (y 1).isLt
  rw [View.read_apply]
  show rowDot (blockF m c t.1) (blockW m c t.1) (y 0).1 (y 1).1
    = all m c (win0_2.index t 0 * 1024 + 1 * (y 0).1) (win0_2.index t 1 * 512 + 1 * (y 1).1)
  rw [(index_2 t).1, (index_2 t).2, show t.1 / 11 * 1024 + 1 * (y 0).1 = 1024 * (t.1 / 11) + (y 0).1 by omega,
    show t.1 % 11 * 512 + 1 * (y 1).1 = 512 * (t.1 % 11) + (y 1).1 by omega]

end Cert.Ffn.EvenFw

end
-- ==== Proof.EvenInForwardValue.lean ====
/- The reference of layer 0's input projection, entry by entry: the same as what the kernel leaves. -/
module

public import proofs.«01_k».proof.Proof.EvenInForwardArray
public import proofs.«01_k».proof.Proof.Gen.Reference16Ideal.Read

@[expose] public section

set_option maxRecDepth 16384

noncomputable section

namespace Cert.Ffn.EvenFw

open Idealize.ShloMosaic Cert.Reference16Ideal.Read

/-- The reference's result, entry by entry. -/
theorem reference_eq (x0 : BF16 Reference16Ideal.S4096x2048) (x1 : BF16 Reference16Ideal.S5632x2048) :
    val_main_v3 (F := Ideal) x0 x1
      = (emat fun i j => ∑ k ∈ Finset.range 2048, entry x0 i k * entry x1 j k : F32 Reference16Ideal.S4096x5632) := by
  funext y
  show val_main_v3 (F := Ideal) x0 x1 y = ∑ k ∈ Finset.range 2048, entry x0 (y 0).1 k * entry x1 (y 1).1 k
  rw [val_main_v3_apply, ← sum_below 2048]
  refine Finset.sum_congr rfl fun k _ => ?_
  rw [val_main_v2_apply]
  show (x0 _ : EReal) * x1 _ = _
  exact congrArg₂ (· * ·) (entry_apply x0 _).symm (entry_apply x1 _).symm

end Cert.Ffn.EvenFw

end
-- ==== Proof.OutForwardBlock.lean ====
/- What one grid point of the output projection computes: its block of rows against its block of weight columns, the whole inner dimension at once, and its
   block of the rows added. -/
module

public import proofs.«01_k».proof.Proof.Entries
public import proofs.«01_k».proof.Proof.Gen.Kernel17Ideal.Value
public import Idealize.ShloMosaic.Lib.Pipeline.ReadBack
public import Idealize.ShloMosaic.Lib.Pipeline.ValueKit.Tiles

@[expose] public section

set_option maxRecDepth 16384

noncomputable section

namespace Cert.Ffn.OutFw

open Idealize.ShloMosaic TcCoe Tactic Cert.Kernel17Ideal Cert.Kernel17Ideal.Gen

/-- Row `i` of the first block against column `j` of the second. -/
abbrev rowDot (f w : ℕ → ℕ → EReal) (i j : ℕ) : EReal := ∑ k ∈ Finset.range 2048, f i k * w k j

theorem product (f w : ℕ → ℕ → EReal) :
    matmul dot_S1024x2048_S2048x1024_S1024x1024_1_0_0_1_n_n none (emat f : BF16 S1024x2048)
        (emat w : BF16 S2048x1024) (emat fun _ _ => 0)
      = emat (rowDot f w) := by
  funext i
  pointwise
  exact (congrArg₂ (· + ·) rfl (sum_below 2048 fun k => f (i 0).1 k * w k (i 1).1)).trans (zero_add _)

theorem value_eq (f w r : ℕ → ℕ → EReal) :
    k0_pay1 (F := Ideal) (emat f : BF16 S1024x2048) (ecube fun _ => w : BF16 S1x2048x1024) (emat r : F32 S1024x1024)
      = (emat fun i j => rowDot f w i j + r i j : F32 S1024x1024) := by
  unfold k0_pay1
  dsimp only
  rw [constant_zero, unstack_one (φ := .bf16) w shapeCasts_S1x2048x1024_S2048x1024, product]
  rfl

variable (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
variable (x0 : Vec Ideal S1024x2048 .bf16) (x1 : Vec Ideal S1x2048x1024 .bf16) (x2 : Vec Ideal S1024x1024 .f32)

/-- The block written out. -/
theorem out_block :
    out0_A_3 (F := Ideal) c i arg3 harg3 arg4 harg4 arg5 harg5 arg6 harg6 arg7 harg7 x0 x1 x2 = k0_pay1 x0 x1 x2 := by
  unfold out0_A_3
  rw [View.read_writes_eq_canon _ _ _ (fun y => cover0_A_3 (y := y) ..)]
  unfold kernelRun0_A
  dsimp only
  rw [View.canon_unit_zero zeros2]
  simp only [View.readAt_eq_ld, harg3.read_unread, harg4.read_unread, harg5.read_unread, View.ld_unit_zero (S := S1024x2048) zeros2, View.ld_unit_zero (S := S1x2048x1024) zeros3, View.ld_unit_zero (S := S1024x1024) zeros2]

end Cert.Ffn.OutFw

end
-- ==== Proof.OutForwardArray.lean ====
/- What the array of the output projection holds after the last grid point, entry by entry. -/
module

public import proofs.«01_k».proof.Proof.OutForwardBlock

@[expose] public section

set_option maxRecDepth 16384

noncomputable section

namespace Cert.Ffn.OutFw

open Idealize.ShloMosaic TcCoe Tactic Cert.Kernel17Ideal Cert.Kernel17Ideal.Gen

variable (m : (ℓ : Loc nD τ sig) → Buf (Elt Ideal) ℓ) (c : Dev nD)

/-- The rows, … -/
def rows : ℕ → ℕ → EReal := entry (φ := .bf16) (m ((c : Thread nD τ).loc main_arg0) : BF16 S4096x2048)
/-- … the weights … -/
def weights : ℕ → ℕ → EReal := entry (φ := .bf16) (m ((c : Thread nD τ).loc main_arg1) : BF16 S2048x2048)
/-- … and the rows added. -/
def added : ℕ → ℕ → EReal := entry (φ := .f32) (m ((c : Thread nD τ).loc main_arg2) : F32 S4096x2048)

theorem index_0 : ∀ t : Fin cfg0.N, win0_0.index t 0 = t.1 / 2 ∧ win0_0.index t 1 = 0 := by decide +kernel
theorem index_1 : ∀ t : Fin cfg0.N, win0_1.index t 0 = 0 ∧ win0_1.index t 1 = 0 ∧ win0_1.index t 2 = t.1 % 2 := by decide +kernel
theorem index_2 : ∀ t : Fin cfg0.N, win0_2.index t 0 = t.1 / 2 ∧ win0_2.index t 1 = t.1 % 2 := by decide +kernel
theorem index_3 : ∀ t : Fin cfg0.N, win0_3.index t 0 = t.1 / 2 ∧ win0_3.index t 1 = t.1 % 2 := by decide +kernel

/-- The block of rows at point `n`. -/
abbrev blockF (n : ℕ) : ℕ → ℕ → EReal := fun i j => rows m c (1024 * (n / 2) + i) j
/-- The block of weights at point `n`. -/
abbrev blockW (n : ℕ) : ℕ → ℕ → EReal := fun i j => weights m c i (1024 * (n % 2) + j)
/-- The block of the rows added at point `n`. -/
abbrev blockR (n : ℕ) : ℕ → ℕ → EReal := fun i j => added m c (1024 * (n / 2) + i) (1024 * (n % 2) + j)

theorem iblk_0 (t : Fin cfg0.N) : iblk m c 0 t = (emat (blockF m c t.1) : BF16 S1024x2048) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rows m c) ?_ ?_
  · show win0_0.index t 0 * 1024 + 1 * (y 0).1 = _; rw [(index_0 t).1]; omega
  · show win0_0.index t 1 * 2048 + 1 * (y 1).1 = _; rw [(index_0 t).2]; omega
/-- The weights as a stack of one, as the host makes them. -/
theorem stacked : V m c main_v0 = (ecube fun _ => weights m c : BF16 S1x2048x2048) := by
  unfold V
  simp only [hostOps0, List.flatten_cons, List.flatten_nil, List.append_nil, List.cons_append, List.nil_append]
  after_results
  funext y
  refine Eq.trans ?_ (entry_apply (φ := .bf16) (m ((c : Thread nD τ).loc main_arg1) : BF16 S2048x2048)
    (ix2 ⟨(y 1).1, (y 1).isLt⟩ ⟨(y 2).1, (y 2).isLt⟩)).symm
  exact congrArg (m ((c : Thread nD τ).loc main_arg1) : BF16 S2048x2048)
    (funext fun a => match a with | ⟨0, _⟩ => rfl | ⟨1, _⟩ => rfl)
theorem iblk_1 (t : Fin cfg0.N) : iblk m c 1 t = (ecube fun _ => blockW m c t.1 : BF16 S1x2048x1024) := by
  funext y
  unfold iblk
  rw [View.read_apply]
  show (V m c main_v0 : BF16 S1x2048x2048) _ = _
  rw [stacked]
  refine congrArg₂ (weights m c) ?_ ?_
  · show win0_1.index t 1 * 2048 + 1 * (y 1).1 = _; rw [(index_1 t).2.1]; omega
  · show win0_1.index t 2 * 1024 + 1 * (y 2).1 = _; rw [(index_1 t).2.2]; omega
theorem iblk_2 (t : Fin cfg0.N) : iblk m c 2 t = (emat (blockR m c t.1) : F32 S1024x1024) := by
  funext y
  unfold iblk
  rw [View.read_apply]
  show V m c main_arg2 _ = _
  rw [V_main_arg2]
  refine (entry_apply (φ := .f32) (m ((c : Thread nD τ).loc main_arg2) : F32 S4096x2048) _).symm.trans ?_
  refine congrArg₂ (added m c) ?_ ?_
  · show win0_2.index t 0 * 1024 + 1 * (y 0).1 = _; rw [(index_2 t).1]; omega
  · show win0_2.index t 1 * 1024 + 1 * (y 1).1 = _; rw [(index_2 t).2]; omega

/-- The product of all of them, and the rows added. -/
abbrev all (i j : ℕ) : EReal := (∑ k ∈ Finset.range 2048, rows m c i k * weights m c k j) + added m c i j

/-- Every entry of the fourth window's array lies in the block of some point. -/
theorem cover_3 (i : S4096x2048.Idx) :
    ∃ t : Fin cfg0.N, i ∈ ((View.whole main_v1).slice (win0_3.rect t)).set := by
  have hN : cfg0.N = 8 := N_0
  have h0 : (i 0 : Nat) < 4096 := (i 0).isLt
  have h1 : (i 1 : Nat) < 2048 := (i 1).isLt
  have hl : 2 * ((i 0).1 / 1024) + (i 1).1 / 1024 < cfg0.N := by omega
  refine ⟨⟨2 * ((i 0).1 / 1024) + (i 1).1 / 1024, hl⟩, ?_⟩
  rw [View.set_slice_whole, Rect.mem_set_unit]
  intro a
  match a with
  | ⟨0, _⟩ =>
    show win0_3.index (⟨2 * ((i 0).1 / 1024) + (i 1).1 / 1024, hl⟩ : Fin cfg0.N) 0 * 1024 ≤ (i 0 : Nat)
      ∧ (i 0 : Nat) < win0_3.index (⟨2 * ((i 0).1 / 1024) + (i 1).1 / 1024, hl⟩ : Fin cfg0.N) 0 * 1024 + 1024
    rw [(index_3 _).1]; dsimp only; omega
  | ⟨1, _⟩ =>
    show win0_3.index (⟨2 * ((i 0).1 / 1024) + (i 1).1 / 1024, hl⟩ : Fin cfg0.N) 1 * 1024 ≤ (i 1 : Nat)
      ∧ (i 1 : Nat) < win0_3.index (⟨2 * ((i 0).1 / 1024) + (i 1).1 / 1024, hl⟩ : Fin cfg0.N) 1 * 1024 + 1024
    rw [(index_3 _).2]; dsimp only; omega

/-- The array after the run. -/
theorem array_eq :
    (dats m 0 c).arrAt 3 cfg0.N = (emat (all m c) : F32 S4096x2048) := by
  refine (dats m 0 c).arrAt_eq_of_cover 3 (emat (all m c) : F32 S4096x2048) (fun t _ => ?_)
    fun i => (cover_3 i).imp fun t ht => ⟨flush0_3 t, ht⟩
  rw [Kernel17Ideal.Value.flushed3_A, out_block, iblk_0, iblk_1, iblk_2, value_eq]
  funext y
  have h1 : (y 1).1 < 1024 := (y 1).isLt
  rw [View.read_apply]
  show rowDot (blockF m c t.1) (blockW m c t.1) (y 0).1 (y 1).1 + blockR m c t.1 (y 0).1 (y 1).1
    = all m c (win0_3.index t 0 * 1024 + 1 * (y 0).1) (win0_3.index t 1 * 1024 + 1 * (y 1).1)
  rw [(index_3 t).1, (index_3 t).2, show t.1 / 2 * 1024 + 1 * (y 0).1 = 1024 * (t.1 / 2) + (y 0).1 by omega,
    show t.1 % 2 * 1024 + 1 * (y 1).1 = 1024 * (t.1 % 2) + (y 1).1 by omega]

end Cert.Ffn.OutFw

end
-- ==== Proof.OutForwardValue.lean ====
/- The reference of the output projection, entry by entry: the same as what the kernel leaves. -/
module

public import proofs.«01_k».proof.Proof.OutForwardArray
public import proofs.«01_k».proof.Proof.Gen.Reference17Ideal.Read

@[expose] public section

set_option maxRecDepth 16384

noncomputable section

namespace Cert.Ffn.OutFw

open Idealize.ShloMosaic Cert.Reference17Ideal.Read

/-- The reference's result, entry by entry. -/
theorem reference_eq (x0 : BF16 Reference17Ideal.S4096x2048) (x1 : BF16 Reference17Ideal.S2048x2048) (x2 : F32 Reference17Ideal.S4096x2048) :
    val_main_v3 (F := Ideal) x0 x1 x2
      = (emat fun i j => (∑ k ∈ Finset.range 2048, entry x0 i k * entry x1 k j) + entry x2 i j : F32 Reference17Ideal.S4096x2048) := by
  funext y
  show (x2 y : EReal) + val_main_v2 (F := Ideal) x0 x1 y = (∑ k ∈ Finset.range 2048, entry x0 (y 0).1 k * entry x1 k (y 1).1) + entry x2 (y 0).1 (y 1).1
  rw [entry_apply x2 y, add_comm]
  refine congrArg (· + x2 y) ?_
  rw [val_main_v2_apply, ← sum_below 2048]
  refine Finset.sum_congr rfl fun k _ => ?_
  show (x0 _ : EReal) * x1 _ = _
  exact congrArg₂ (· * ·) (entry_apply x0 _).symm (entry_apply x1 _).symm

end Cert.Ffn.OutFw

end
-- ==== Proof.OddInForwardBlock.lean ====
/- What one grid point of layer 1's input projection computes: its block of rows against its block of weight columns, the whole inner dimension at once. -/
module

public import proofs.«01_k».proof.Proof.Entries
public import proofs.«01_k».proof.Proof.Gen.Kernel18Ideal.Value
public import Idealize.ShloMosaic.Lib.Pipeline.ReadBack
public import Idealize.ShloMosaic.Lib.Pipeline.ValueKit.Tiles

@[expose] public section

set_option maxRecDepth 16384

noncomputable section

namespace Cert.Ffn.OddFw

open Idealize.ShloMosaic TcCoe Tactic Cert.Kernel18Ideal Cert.Kernel18Ideal.Gen

/-- Row `i` of the first block against column `j` of the second. -/
abbrev rowDot (f w : ℕ → ℕ → EReal) (i j : ℕ) : EReal := ∑ k ∈ Finset.range 2048, f i k * w k j

theorem product (f w : ℕ → ℕ → EReal) :
    matmul dot_S1024x2048_S2048x1024_S1024x1024_1_0_0_1_n_n none (emat f : BF16 S1024x2048)
        (emat w : BF16 S2048x1024) (emat fun _ _ => 0)
      = emat (rowDot f w) := by
  funext i
  pointwise
  exact (congrArg₂ (· + ·) rfl (sum_below 2048 fun k => f (i 0).1 k * w k (i 1).1)).trans (zero_add _)

theorem value_eq (f w : ℕ → ℕ → EReal) :
    k0_pay1 (F := Ideal) (emat f : BF16 S1024x2048) (ecube fun _ => w : BF16 S1x2048x1024)
      = (emat (rowDot f w) : F32 S1024x1024) := by
  unfold k0_pay1
  dsimp only
  rw [constant_zero, unstack_one (φ := .bf16) w shapeCasts_S1x2048x1024_S2048x1024, product]

variable (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x2048 .bf16) (x1 : Vec Ideal S1x2048x1024 .bf16)

/-- The block written out. -/
theorem out_block :
    out0_A_2 (F := Ideal) c i arg3 harg3 arg4 harg4 arg5 harg5 arg6 harg6 x0 x1 = k0_pay1 x0 x1 := by
  unfold out0_A_2
  rw [View.read_writes_eq_canon _ _ _ (fun y => cover0_A_2 (y := y) ..)]
  unfold kernelRun0_A
  dsimp only
  rw [View.canon_unit_zero zeros2]
  simp only [View.readAt_eq_ld, harg3.read_unread, harg4.read_unread, View.ld_unit_zero (S := S1024x2048) zeros2, View.ld_unit_zero (S := S1x2048x1024) zeros3]

end Cert.Ffn.OddFw

end
-- ==== Proof.OddInForwardArray.lean ====
/- What the array of layer 1's input projection holds after the last grid point, entry by entry. -/
module

public import proofs.«01_k».proof.Proof.OddInForwardBlock

@[expose] public section

set_option maxRecDepth 16384

noncomputable section

namespace Cert.Ffn.OddFw

open Idealize.ShloMosaic TcCoe Tactic Cert.Kernel18Ideal Cert.Kernel18Ideal.Gen

variable (m : (ℓ : Loc nD τ sig) → Buf (Elt Ideal) ℓ) (c : Dev nD)

/-- The rows, … -/
def rows : ℕ → ℕ → EReal := entry (φ := .bf16) (m ((c : Thread nD τ).loc main_arg0) : BF16 S4096x2048)
/-- … and the weights in four parts. -/
def weights : ℕ → ℕ → ℕ → EReal := entry3 (φ := .bf16) (m ((c : Thread nD τ).loc main_arg1) : BF16 S4x2048x1024)

theorem index_0 : ∀ t : Fin cfg0.N, win0_0.index t 0 = t.1 / 4 ∧ win0_0.index t 1 = 0 := by decide +kernel
theorem index_1 : ∀ t : Fin cfg0.N, win0_1.index t 0 = t.1 % 4 ∧ win0_1.index t 1 = 0 ∧ win0_1.index t 2 = 0 := by decide +kernel
theorem index_2 : ∀ t : Fin cfg0.N, win0_2.index t 0 = t.1 / 4 ∧ win0_2.index t 1 = t.1 % 4 := by decide +kernel

/-- The block of rows at point `n`. -/
abbrev blockF (n : ℕ) : ℕ → ℕ → EReal := fun i j => rows m c (1024 * (n / 4) + i) j
/-- The block of weights at point `n`. -/
abbrev blockW (n : ℕ) : ℕ → ℕ → EReal := fun i j => weights m c (n % 4) i j

theorem iblk_0 (t : Fin cfg0.N) : iblk m c 0 t = (emat (blockF m c t.1) : BF16 S1024x2048) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rows m c) ?_ ?_
  · show win0_0.index t 0 * 1024 + 1 * (y 0).1 = _; rw [(index_0 t).1]; omega
  · show win0_0.index t 1 * 2048 + 1 * (y 1).1 = _; rw [(index_0 t).2]; omega
theorem iblk_1 (t : Fin cfg0.N) : iblk m c 1 t = (ecube fun _ => blockW m c t.1 : BF16 S1x2048x1024) := by
  funext y
  have hy : (y 0).1 < 1 := (y 0).isLt
  unfold iblk
  rw [View.read_apply]
  show V m c main_arg1 _ = _
  rw [V_main_arg1]
  refine (entry3_apply (φ := .bf16) (m ((c : Thread nD τ).loc main_arg1) : BF16 S4x2048x1024) _).symm.trans ?_
  have e : ∀ a a' b b' d d' : ℕ, a = a' → b = b' → d = d' → weights m c a b d = weights m c a' b' d' := by
    rintro _ _ _ _ _ _ rfl rfl rfl; rfl
  refine e _ _ _ _ _ _ ?_ ?_ ?_
  · show win0_1.index t 0 * 1 + 1 * (y 0).1 = _; rw [(index_1 t).1]; omega
  · show win0_1.index t 1 * 2048 + 1 * (y 1).1 = _; rw [(index_1 t).2.1]; omega
  · show win0_1.index t 2 * 1024 + 1 * (y 2).1 = _; rw [(index_1 t).2.2]; omega

/-- The product of all of them. -/
abbrev all (i j : ℕ) : EReal := ∑ k ∈ Finset.range 2048, rows m c i k * weights m c (j / 1024) k (j % 1024)

/-- Every entry of the third window's array lies in the block of some point. -/
theorem cover_2 (i : S4096x4096.Idx) :
    ∃ t : Fin cfg0.N, i ∈ ((View.whole main_v0).slice (win0_2.rect t)).set := by
  have hN : cfg0.N = 16 := N_0
  have h0 : (i 0 : Nat) < 4096 := (i 0).isLt
  have h1 : (i 1 : Nat) < 4096 := (i 1).isLt
  have hl : 4 * ((i 0).1 / 1024) + (i 1).1 / 1024 < cfg0.N := by omega
  refine ⟨⟨4 * ((i 0).1 / 1024) + (i 1).1 / 1024, hl⟩, ?_⟩
  rw [View.set_slice_whole, Rect.mem_set_unit]
  intro a
  match a with
  | ⟨0, _⟩ =>
    show win0_2.index (⟨4 * ((i 0).1 / 1024) + (i 1).1 / 1024, hl⟩ : Fin cfg0.N) 0 * 1024 ≤ (i 0 : Nat)
      ∧ (i 0 : Nat) < win0_2.index (⟨4 * ((i 0).1 / 1024) + (i 1).1 / 1024, hl⟩ : Fin cfg0.N) 0 * 1024 + 1024
    rw [(index_2 _).1]; dsimp only; omega
  | ⟨1, _⟩ =>
    show win0_2.index (⟨4 * ((i 0).1 / 1024) + (i 1).1 / 1024, hl⟩ : Fin cfg0.N) 1 * 1024 ≤ (i 1 : Nat)
      ∧ (i 1 : Nat) < win0_2.index (⟨4 * ((i 0).1 / 1024) + (i 1).1 / 1024, hl⟩ : Fin cfg0.N) 1 * 1024 + 1024
    rw [(index_2 _).2]; dsimp only; omega

/-- The array after the run. -/
theorem array_eq :
    (dats m 0 c).arrAt 2 cfg0.N = (emat (all m c) : F32 S4096x4096) := by
  refine (dats m 0 c).arrAt_eq_of_cover 2 (emat (all m c) : F32 S4096x4096) (fun t _ => ?_)
    fun i => (cover_2 i).imp fun t ht => ⟨flush0_2 t, ht⟩
  rw [Kernel18Ideal.Value.flushed2_A, out_block, iblk_0, iblk_1, value_eq]
  funext y
  have h1 : (y 1).1 < 1024 := (y 1).isLt
  rw [View.read_apply]
  show rowDot (blockF m c t.1) (blockW m c t.1) (y 0).1 (y 1).1
    = all m c (win0_2.index t 0 * 1024 + 1 * (y 0).1) (win0_2.index t 1 * 1024 + 1 * (y 1).1)
  rw [(index_2 t).1, (index_2 t).2, show t.1 / 4 * 1024 + 1 * (y 0).1 = 1024 * (t.1 / 4) + (y 0).1 by omega,
    show t.1 % 4 * 1024 + 1 * (y 1).1 = 1024 * (t.1 % 4) + (y 1).1 by omega]
  unfold all rowDot
  rw [show (1024 * (t.1 % 4) + (y 1).1) / 1024 = t.1 % 4 by omega, show (1024 * (t.1 % 4) + (y 1).1) % 1024 = (y 1).1 by omega]

end Cert.Ffn.OddFw

end
-- ==== Proof.OddInForwardValue.lean ====
/- The reference of layer 1's input projection, entry by entry: the same as what the kernel leaves. -/
module

public import proofs.«01_k».proof.Proof.OddInForwardArray
public import proofs.«01_k».proof.Proof.Gen.Reference18Ideal.Read

@[expose] public section

set_option maxRecDepth 16384

noncomputable section

namespace Cert.Ffn.OddFw

open Idealize.ShloMosaic Cert.Reference18Ideal.Read

/-- The reference's result, entry by entry. -/
theorem reference_eq (x0 : BF16 Reference18Ideal.S4096x2048) (x1 : BF16 Reference18Ideal.S4x2048x1024) :
    val_main_v4 (F := Ideal) x0 x1
      = (emat fun i j => ∑ k ∈ Finset.range 2048, entry x0 i k * entry3 x1 (j / 1024) k (j % 1024) : F32 Reference18Ideal.S4096x4096) := by
  funext y
  have h1 : (y 1).1 < 4096 := (y 1).isLt
  show _ = ∑ k ∈ Finset.range 2048, entry x0 (y 0).1 k * entry3 x1 ((y 1).1 / 1024) k ((y 1).1 % 1024)
  rw [val_main_v4_apply, ← sum_below 2048]
  refine Finset.sum_congr rfl fun k _ => ?_
  rw [val_main_v3_apply, val_main_v2_apply]
  show (x0 _ : EReal) * x1 _ = _
  have e : ∀ a a' b b' d d' : ℕ, a = a' → b = b' → d = d' → entry3 x1 a b d = entry3 x1 a' b' d' := by
    rintro _ _ _ _ _ _ rfl rfl rfl; rfl
  rw [← entry_apply x0, ← entry3_apply x1]
  refine congrArg₂ (· * ·) (congrArg₂ (entry x0) rfl rfl) (e _ _ _ _ _ _ ?_ ?_ ?_)
  · show (k.1 * 4096 + (y 1).1) / 1024 % 4 = _; omega
  · show (k.1 * 4096 + (y 1).1) / 4096 = _; omega
  · show (k.1 * 4096 + (y 1).1) % 1024 = _; omega

end Cert.Ffn.OddFw

end
-- ==== Proof.WeightBlock.lean ====
/- What one grid point of the up- and gate-projection's weight gradient computes: the product of its block of hidden
   rows, transposed, with its block of cotangent rows, stored first, then added, and on the last of four points written out. -/
module

public import proofs.«01_k».proof.Proof.Entries
public import proofs.«01_k».proof.Proof.Gen.Kernel3Ideal.Value
public import Idealize.ShloMosaic.Lib.Pipeline.ReadBack
public import Idealize.ShloMosaic.Lib.Pipeline.ValueKit.Tiles

@[expose] public section

set_option maxRecDepth 16384

noncomputable section

namespace Cert.Ffn.Weight

open Idealize.ShloMosaic TcCoe Tactic Cert.Kernel3Ideal Cert.Kernel3Ideal.Gen

/-- Column `i` of the first block against column `j` of the second. -/
abbrev cols (f g : ℕ → ℕ → EReal) (i j : ℕ) : EReal := ∑ k ∈ Finset.range 1024, f k i * g k j

theorem product (f g : ℕ → ℕ → EReal) :
    matmul dot_S1024x1024_S1024x1408_S1024x1408_0_0_1_1_n_n none (emat f : BF16 S1024x1024)
        (emat g : BF16 S1024x1408) (emat fun _ _ => 0)
      = emat (cols f g) := by
  funext i
  pointwise
  exact (congrArg₂ (· + ·) rfl (sum_below 1024 fun k => f k (i 0).1 * g k (i 1).1)).trans (zero_add _)

theorem first_eq (f g : ℕ → ℕ → EReal) :
    k0_pay1 (F := Ideal) (emat f : BF16 S1024x1024) (emat g : BF16 S1024x1408) = emat (cols f g) := by
  unfold k0_pay1
  dsimp only
  rw [constant_zero, product]
  exact shapeCast_self _ _
theorem next_eq (f g s : ℕ → ℕ → EReal) :
    k0_pay2 (F := Ideal) (emat f : BF16 S1024x1024) (emat g : BF16 S1024x1408) (emat s : F32 S1024x1408)
      = emat fun i j => s i j + cols f g i j := by
  unfold k0_pay2
  dsimp only
  rw [constant_zero, product]
  exact shapeCast_self _ _
theorem last_eq (f g s : ℕ → ℕ → EReal) :
    k0_pay3 (F := Ideal) (emat f : BF16 S1024x1024) (emat g : BF16 S1024x1408) (emat s : F32 S1024x1408)
      = ecube fun _ i j => s i j + cols f g i j := by
  unfold k0_pay3
  dsimp only
  rw [constant_zero, product]
  exact stack_one (φ := .bf16) (fun i j => s i j + cols f g i j) _

variable (c : Dev nD) (i : grid0.Coords) (arg3 : Memref sig .tc .vmem S1024x1024 .bf16) (harg3 : arg3.IsWhole) (arg4 : Memref sig .tc .vmem S1024x1408 .bf16) (harg4 : arg4.IsWhole) (arg5 : Memref sig .tc .vmem S1x1024x1408 .bf16) (harg5 : arg5.IsWhole) (arg6 : Memref sig .tc .vmem S1024x1408 .f32) (harg6 : arg6.IsWhole)
variable (x0 : Vec Ideal S1024x1024 .bf16) (x1 : Vec Ideal S1024x1408 .bf16) (xs : Vec Ideal S1024x1408 .f32)

/-- The first of four points stores its product. -/
theorem kept_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x1024) zeros2, View.ld_unit_zero (S := S1024x1408) zeros2]

/-- The two points after it add theirs. -/
theorem kept_B (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg6.read_unread, View.ld_unit_zero (S := S1024x1024) zeros2, View.ld_unit_zero (S := S1024x1408) zeros2]

/-- The last adds its own and writes the sum out. -/
theorem out_C (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  rw [View.read_writes_eq_canon _ _ _ (fun y => cover0_C_2 (y := y) ..)]
  unfold kernelRun0_C
  dsimp only
  rw [View.canon_unit_zero zeros3]
  simp only [View.readAt_eq_ld, harg3.read_unread, harg4.read_unread, harg6.read_unread, View.ld_unit_zero (S := S1024x1024) zeros2, View.ld_unit_zero (S := S1024x1408) zeros2]

end Cert.Ffn.Weight

end
-- ==== Proof.WeightArray.lean ====
/- What the array of the up- and gate-projection's weight gradient holds after the last grid point: entry (q, i, j) is the
   sum over all token rows of column `i` of the hidden rows against column `1408 q + j` of the cotangent rows. -/
module

public import proofs.«01_k».proof.Proof.WeightBlock

@[expose] public section

set_option maxRecDepth 16384

noncomputable section

namespace Cert.Ffn.Weight

open Idealize.ShloMosaic TcCoe Tactic Cert.Kernel3Ideal Cert.Kernel3Ideal.Gen

variable (m : (ℓ : Loc nD τ sig) → Buf (Elt Ideal) ℓ) (c : Dev nD)

/-- The hidden rows. -/
def rowsA : ℕ → ℕ → EReal := entry (φ := .bf16) (m ((c : Thread nD τ).loc main_arg0) : BF16 S4096x2048)
/-- The cotangent rows. -/
def rowsB : ℕ → ℕ → EReal := entry (φ := .bf16) (m ((c : Thread nD τ).loc main_arg1) : BF16 S4096x5632)

theorem index_0 : ∀ t : Fin cfg0.N, win0_0.index t 0 = t.1 % 4 ∧ win0_0.index t 1 = t.1 / 16 := by decide +kernel
theorem index_1 : ∀ t : Fin cfg0.N, win0_1.index t 0 = t.1 % 4 ∧ win0_1.index t 1 = t.1 / 4 % 4 := by decide +kernel
theorem index_2 : ∀ t : Fin cfg0.N, win0_2.index t 0 = t.1 / 4 % 4 ∧ win0_2.index t 1 = t.1 / 16 ∧ win0_2.index t 2 = 0 := by
  decide +kernel

/-- The block of hidden rows at point `n`. -/
abbrev blockA (n : ℕ) : ℕ → ℕ → EReal := fun i j => rowsA m c (1024 * (n % 4) + i) (1024 * (n / 16) + j)
/-- The block of cotangent rows at point `n`. -/
abbrev blockB (n : ℕ) : ℕ → ℕ → EReal := fun i j => rowsB m c (1024 * (n % 4) + i) (1408 * (n / 4 % 4) + j)

theorem iblk_0 (t : Fin cfg0.N) : iblk m c 0 t = (emat (blockA m c t.1) : BF16 S1024x1024) := by
  funext y
  unfold iblk
  rw [View.read_apply]
  show V m c main_arg0 _ = _
  rw [V_main_arg0]
  refine (entry_apply (φ := .bf16) (m ((c : Thread nD τ).loc main_arg0) : BF16 S4096x2048) _).symm.trans ?_
  refine congrArg₂ (rowsA m c) ?_ ?_
  · show win0_0.index t 0 * 1024 + 1 * (y 0).1 = _; rw [(index_0 t).1]; omega
  · show win0_0.index t 1 * 1024 + 1 * (y 1).1 = _; rw [(index_0 t).2]; omega
theorem iblk_1 (t : Fin cfg0.N) : iblk m c 1 t = (emat (blockB m c t.1) : BF16 S1024x1408) := by
  funext y
  unfold iblk
  rw [View.read_apply]
  show V m c main_arg1 _ = _
  rw [V_main_arg1]
  refine (entry_apply (φ := .bf16) (m ((c : Thread nD τ).loc main_arg1) : BF16 S4096x5632) _).symm.trans ?_
  refine congrArg₂ (rowsB m c) ?_ ?_
  · show win0_1.index t 0 * 1024 + 1 * (y 0).1 = _; rw [(index_1 t).1]; omega
  · show win0_1.index t 1 * 1408 + 1 * (y 1).1 = _; rw [(index_1 t).2]; omega

/-- The product of point `n`'s blocks. -/
abbrev term (n : ℕ) : ℕ → ℕ → EReal := cols (blockA m c n) (blockB m c n)

/-- What the running sum holds after the first of four points, … -/
theorem kept_0 (t : Fin cfg0.N) (ht : t.1 % 4 = 0) :
    (outsAt0 m c t.1 t.isLt).2 = (emat (term m c t.1) : F32 S1024x1408) := by
  rw [outsAt0_A m c t ht (by omega) (by omega)]
  dsimp only
  rw [kept_A, iblk_0, iblk_1]
  exact first_eq _ _
/-- … after a point in between, given what it held before, … -/
theorem kept_next (t : Fin cfg0.N) (ht : 1 ≤ t.1 % 4 ∧ t.1 % 4 ≤ 2) (s : ℕ → ℕ → EReal)
    (hs : (outsAt0 m c (t.1 - 1) (before t)).2 = (emat s : F32 S1024x1408)) :
    (outsAt0 m c t.1 t.isLt).2 = (emat fun i j => s i j + term m c t.1 i j : F32 S1024x1408) := by
  rw [outsAt0_B m c t (by omega) ht (by omega)]
  dsimp only
  rw [kept_B, hs, iblk_0, iblk_1]
  exact next_eq _ _ _
/-- … and what the last point writes out. -/
theorem out_last (t : Fin cfg0.N) (ht : t.1 % 4 = 3) (s : ℕ → ℕ → EReal)
    (hs : (outsAt0 m c (t.1 - 1) (before t)).2 = (emat s : F32 S1024x1408)) :
    (outsAt0 m c t.1 t.isLt).1 = (ecube fun _ i j => s i j + term m c t.1 i j : BF16 S1x1024x1408) := by
  rw [outsAt0_C m c t (by omega) (by omega) ht]
  dsimp only
  rw [out_C, hs, iblk_0, iblk_1]
  exact last_eq _ _ _

/-- The fourth of four points writes out the sum of the four products. -/
theorem out_sum (q : ℕ) (hq : 4 * q + 3 < cfg0.N) :
    (outsAt0 m c (4 * q + 3) hq).1 = (ecube fun _ i j => ((term m c (4 * q) i j + term m c (4 * q + 1) i j)
      + term m c (4 * q + 2) i j) + term m c (4 * q + 3) i j : BF16 S1x1024x1408) := by
  have h0 := kept_0 m c ⟨4 * q, by omega⟩ (by show 4 * q % 4 = 0; omega)
  have h1 := kept_next m c ⟨4 * q + 1, by omega⟩ (by show 1 ≤ (4 * q + 1) % 4 ∧ (4 * q + 1) % 4 ≤ 2; omega) _ h0
  have h2 := kept_next m c ⟨4 * q + 2, by omega⟩ (by show 1 ≤ (4 * q + 2) % 4 ∧ (4 * q + 2) % 4 ≤ 2; omega) _ h1
  exact out_last m c ⟨4 * q + 3, hq⟩ (by show (4 * q + 3) % 4 = 3; omega) _ h2

/-- The sum over all token rows. -/
abbrev gradient (q i j : ℕ) : EReal := ∑ k ∈ Finset.range 4096, rowsA m c k i * rowsB m c k (1408 * q + j)

theorem sum_eq (q i j : ℕ) :
    ((term m c (4 * q) i j + term m c (4 * q + 1) i j) + term m c (4 * q + 2) i j) + term m c (4 * q + 3) i j
      = gradient m c (q % 4) (1024 * (q / 4) + i) j := by
  have e : ∀ r < 4, term m c (4 * q + r) i j = ∑ k ∈ Finset.range 1024,
      rowsA m c (1024 * r + k) (1024 * (q / 4) + i) * rowsB m c (1024 * r + k) (1408 * (q % 4) + j) := by
    intro r hr
    show ∑ k ∈ Finset.range 1024, rowsA m c (1024 * ((4 * q + r) % 4) + k) (1024 * ((4 * q + r) / 16) + i)
      * rowsB m c (1024 * ((4 * q + r) % 4) + k) (1408 * ((4 * q + r) / 4 % 4) + j) = _
    rw [show (4 * q + r) % 4 = r by omega, show (4 * q + r) / 16 = q / 4 by omega, show (4 * q + r) / 4 % 4 = q % 4 by omega]
  rw [show term m c (4 * q) i j = _ from e 0 (by omega), e 1 (by omega), e 2 (by omega), e 3 (by omega)]
  exact four_stretches 1024 fun k => rowsA m c k (1024 * (q / 4) + i) * rowsB m c k (1408 * (q % 4) + j)

/-- The array after the run. -/
theorem array_eq :
    (dats m 0 c).arrAt 2 cfg0.N = (ecube (gradient m c) : BF16 S4x2048x1408) := by
  have hN : cfg0.N = 32 := N_0
  refine (dats m 0 c).arrAt_eq_of_cover 2 (ecube (gradient m c) : BF16 S4x2048x1408) (fun t hf => ?_)
    fun i => (Kernel3Ideal.Value.covered_iff2 i).2 ?_
  · have ht : t.1 % 4 = 3 := (flush0_2 t).mp hf
    obtain ⟨q, hq⟩ : ∃ q, t.1 = 4 * q + 3 := ⟨t.1 / 4, by omega⟩
    obtain ⟨n, hn⟩ := t
    subst hq
    rw [Kernel3Ideal.Value.flushed2]
    show (cfg0.win 2).cut _ (outsAt0 m c (4 * q + 3) hn).1 = _
    rw [out_sum]
    funext y
    have hy : (y 0).1 < 1 := (y 0).isLt
    rw [View.read_apply]
    obtain ⟨e0, e1, e2⟩ := index_2 ⟨4 * q + 3, hn⟩
    show ((term m c (4 * q) (y 1).1 (y 2).1 + term m c (4 * q + 1) (y 1).1 (y 2).1)
        + term m c (4 * q + 2) (y 1).1 (y 2).1) + term m c (4 * q + 3) (y 1).1 (y 2).1
      = gradient m c (win0_2.index ⟨4 * q + 3, hn⟩ 0 * 1 + 1 * (y 0).1)
          (win0_2.index ⟨4 * q + 3, hn⟩ 1 * 1024 + 1 * (y 1).1) (win0_2.index ⟨4 * q + 3, hn⟩ 2 * 1408 + 1 * (y 2).1)
    rw [sum_eq, e0, e1, e2]
    dsimp only
    rw [show (4 * q + 3) / 4 % 4 * 1 + 1 * (y 0).1 = q % 4 by omega,
      show (4 * q + 3) / 16 * 1024 + 1 * (y 1).1 = 1024 * (q / 4) + (y 1).1 by omega,
      show 0 * 1408 + 1 * (y 2).1 = (y 2).1 by omega]
  · have h0 : (i 0).1 < 4 := (i 0).isLt
    have h1 : (i 1).1 < 2048 := (i 1).isLt
    have h2 : (i 2).1 < 1408 := (i 2).isLt
    omega

end Cert.Ffn.Weight

end
-- ==== Proof.WeightValue.lean ====
/- The reference's weight gradient, cut into the four shards of 1408 columns, is the array the kernel leaves. -/
module

public import proofs.«01_k».proof.Proof.WeightArray
public import proofs.«01_k».proof.Proof.Gen.Reference3Ideal.Read

@[expose] public section

set_option maxRecDepth 16384

noncomputable section

namespace Cert.Ffn.Weight

open Idealize.ShloMosaic Cert.Reference3Ideal.Read

/-- The reference's result, entry by entry. -/
theorem reference_eq (x0 : BF16 Reference3Ideal.S4096x2048) (x1 : BF16 Reference3Ideal.S4096x5632) :
    val_main_v8 (F := Ideal) x0 x1
      = (ecube fun q i j => ∑ k ∈ Finset.range 4096, entry x0 k i * entry x1 k (1408 * q + j) : BF16 Reference3Ideal.S4x2048x1408) := by
  funext y
  have h0 : (y 0).1 < 4 := (y 0).isLt
  have h1 : (y 1).1 < 2048 := (y 1).isLt
  have h2 : (y 2).1 < 1408 := (y 2).isLt
  show val_main_v7 (F := Ideal) x0 x1 y = ∑ k ∈ Finset.range 4096, entry x0 k (y 1).1 * entry x1 k (1408 * (y 0).1 + (y 2).1)
  rw [val_main_v7_apply, val_main_v6_apply, val_main_v5_apply, val_main_v4_apply, ← sum_below 4096]
  refine Finset.sum_congr rfl fun k _ => ?_
  show (x1 _ : EReal) * x0 _ = _
  rw [← entry_apply x0, ← entry_apply x1, mul_comm]
  refine congrArg₂ (· * ·) (congrArg₂ (entry x0) rfl ?_) (congrArg₂ (entry x1) rfl ?_)
  · show (((y 1).1 * 4 + (y 0).1) * 1408 + (y 2).1) / 5632 = _; omega
  · show (((y 1).1 * 4 + (y 0).1) * 1408 + (y 2).1) % 5632 = _; omega

end Cert.Ffn.Weight

end
-- ==== Proof.DownWeightBlock.lean ====
/- What one grid point of the down-projection's weight gradient computes: the product of its block of gated
   rows, transposed, with its block of cotangent rows, stored first, then added, and on the last of four points written out. -/
module

public import proofs.«01_k».proof.Proof.Entries
public import proofs.«01_k».proof.Proof.Gen.Kernel4Ideal.Value
public import Idealize.ShloMosaic.Lib.Pipeline.ReadBack
public import Idealize.ShloMosaic.Lib.Pipeline.ValueKit.Tiles

@[expose] public section

set_option maxRecDepth 16384

noncomputable section

namespace Cert.Ffn.Down

open Idealize.ShloMosaic TcCoe Tactic Cert.Kernel4Ideal Cert.Kernel4Ideal.Gen

/-- Column `i` of the first block against column `j` of the second. -/
abbrev cols (f g : ℕ → ℕ → EReal) (i j : ℕ) : EReal := ∑ k ∈ Finset.range 1024, f k i * g k j

theorem product (f g : ℕ → ℕ → EReal) :
    matmul dot_S1024x1408_S1024x1024_S1408x1024_0_0_1_1_n_n none (emat f : BF16 S1024x1408)
        (emat g : BF16 S1024x1024) (emat fun _ _ => 0)
      = emat (cols f g) := by
  funext i
  pointwise
  exact (congrArg₂ (· + ·) rfl (sum_below 1024 fun k => f k (i 0).1 * g k (i 1).1)).trans (zero_add _)

theorem first_eq (f g : ℕ → ℕ → EReal) :
    k0_pay1 (F := Ideal) (emat f : BF16 S1024x1408) (emat g : F32 S1024x1024) = emat (cols f g) := by
  unfold k0_pay1
  dsimp only
  rw [truncf_emat, constant_zero, product]
  exact shapeCast_self _ _
theorem next_eq (f g s : ℕ → ℕ → EReal) :
    k0_pay2 (F := Ideal) (emat f : BF16 S1024x1408) (emat g : F32 S1024x1024) (emat s : F32 S1408x1024)
      = emat fun i j => s i j + cols f g i j := by
  unfold k0_pay2
  dsimp only
  rw [truncf_emat, constant_zero, product]
  exact shapeCast_self _ _
theorem last_eq (f g s : ℕ → ℕ → EReal) :
    k0_pay3 (F := Ideal) (emat f : BF16 S1024x1408) (emat g : F32 S1024x1024) (emat s : F32 S1408x1024)
      = ecube fun _ i j => s i j + cols f g i j := by
  unfold k0_pay3
  dsimp only
  rw [truncf_emat, constant_zero, product]
  exact stack_one (φ := .bf16) (fun i j => s i j + cols f g i j) _

variable (c : Dev nD) (i : grid0.Coords) (arg3 : Memref sig .tc .vmem S1024x1408 .bf16) (harg3 : arg3.IsWhole) (arg4 : Memref sig .tc .vmem S1024x1024 .f32) (harg4 : arg4.IsWhole) (arg5 : Memref sig .tc .vmem S1x1408x1024 .bf16) (harg5 : arg5.IsWhole) (arg6 : Memref sig .tc .vmem S1408x1024 .f32) (harg6 : arg6.IsWhole)
variable (x0 : Vec Ideal S1024x1408 .bf16) (x1 : Vec Ideal S1024x1024 .f32) (xs : Vec Ideal S1408x1024 .f32)

/-- The first of four points stores its product. -/
theorem kept_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x1024) zeros2, View.ld_unit_zero (S := S1024x1408) zeros2, View.ld_unit_zero (S := S1408x1024) zeros2]

/-- The two points after it add theirs. -/
theorem kept_B (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg6.read_unread, View.ld_unit_zero (S := S1024x1024) zeros2, View.ld_unit_zero (S := S1024x1408) zeros2, View.ld_unit_zero (S := S1408x1024) zeros2]

/-- The last adds its own and writes the sum out. -/
theorem out_C (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  rw [View.read_writes_eq_canon _ _ _ (fun y => cover0_C_2 (y := y) ..)]
  unfold kernelRun0_C
  dsimp only
  rw [View.canon_unit_zero zeros3]
  simp only [View.readAt_eq_ld, harg3.read_unread, harg4.read_unread, harg6.read_unread, View.ld_unit_zero (S := S1024x1024) zeros2, View.ld_unit_zero (S := S1024x1408) zeros2, View.ld_unit_zero (S := S1408x1024) zeros2]

end Cert.Ffn.Down

end
-- ==== Proof.DownWeightArray.lean ====
/- What the array of the down-projection's weight gradient holds after the last grid point: entry (0, i, j) is the sum
   over all token rows of column `i` of the gated rows against column `j` of the cotangent rows. -/
module

public import proofs.«01_k».proof.Proof.DownWeightBlock

@[expose] public section

set_option maxRecDepth 16384

noncomputable section

namespace Cert.Ffn.Down

open Idealize.ShloMosaic TcCoe Tactic Cert.Kernel4Ideal Cert.Kernel4Ideal.Gen

variable (m : (ℓ : Loc nD τ sig) → Buf (Elt Ideal) ℓ) (c : Dev nD)

/-- The gated rows. -/
def rowsA : ℕ → ℕ → EReal := entry (φ := .bf16) (m ((c : Thread nD τ).loc main_arg0) : BF16 S4096x5632)
/-- The cotangent rows. -/
def rowsB : ℕ → ℕ → EReal := entry (φ := .f32) (m ((c : Thread nD τ).loc main_arg1) : F32 S4096x2048)

theorem index_0 : ∀ t : Fin cfg0.N, win0_0.index t 0 = t.1 % 4 ∧ win0_0.index t 1 = t.1 / 8 := by decide +kernel
theorem index_1 : ∀ t : Fin cfg0.N, win0_1.index t 0 = t.1 % 4 ∧ win0_1.index t 1 = t.1 / 4 % 2 := by decide +kernel
theorem index_2 : ∀ t : Fin cfg0.N, win0_2.index t 0 = 0 ∧ win0_2.index t 1 = t.1 / 8 ∧ win0_2.index t 2 = t.1 / 4 % 2 := by
  decide +kernel

/-- The block of gated rows at point `n`. -/
abbrev blockA (n : ℕ) : ℕ → ℕ → EReal := fun i j => rowsA m c (1024 * (n % 4) + i) (1408 * (n / 8) + j)
/-- The block of cotangent rows at point `n`. -/
abbrev blockB (n : ℕ) : ℕ → ℕ → EReal := fun i j => rowsB m c (1024 * (n % 4) + i) (1024 * (n / 4 % 2) + j)

theorem iblk_0 (t : Fin cfg0.N) : iblk m c 0 t = (emat (blockA m c t.1) : BF16 S1024x1408) := by
  funext y
  unfold iblk
  rw [View.read_apply]
  show V m c main_arg0 _ = _
  rw [V_main_arg0]
  refine (entry_apply (φ := .bf16) (m ((c : Thread nD τ).loc main_arg0) : BF16 S4096x5632) _).symm.trans ?_
  refine congrArg₂ (rowsA m c) ?_ ?_
  · show win0_0.index t 0 * 1024 + 1 * (y 0).1 = _; rw [(index_0 t).1]; omega
  · show win0_0.index t 1 * 1408 + 1 * (y 1).1 = _; rw [(index_0 t).2]; omega
theorem iblk_1 (t : Fin cfg0.N) : iblk m c 1 t = (emat (blockB m c t.1) : F32 S1024x1024) := by
  funext y
  unfold iblk
  rw [View.read_apply]
  show V m c main_arg1 _ = _
  rw [V_main_arg1]
  refine (entry_apply (φ := .f32) (m ((c : Thread nD τ).loc main_arg1) : F32 S4096x2048) _).symm.trans ?_
  refine congrArg₂ (rowsB m c) ?_ ?_
  · show win0_1.index t 0 * 1024 + 1 * (y 0).1 = _; rw [(index_1 t).1]; omega
  · show win0_1.index t 1 * 1024 + 1 * (y 1).1 = _; rw [(index_1 t).2]; omega

/-- The product of point `n`'s blocks. -/
abbrev term (n : ℕ) : ℕ → ℕ → EReal := cols (blockA m c n) (blockB m c n)

/-- What the running sum holds after the first of four points, … -/
theorem kept_0 (t : Fin cfg0.N) (ht : t.1 % 4 = 0) :
    (outsAt0 m c t.1 t.isLt).2 = (emat (term m c t.1) : F32 S1408x1024) := by
  rw [outsAt0_A m c t ht (by omega) (by omega)]
  dsimp only
  rw [kept_A, iblk_0, iblk_1]
  exact first_eq _ _
/-- … after a point in between, given what it held before, … -/
theorem kept_next (t : Fin cfg0.N) (ht : 1 ≤ t.1 % 4 ∧ t.1 % 4 ≤ 2) (s : ℕ → ℕ → EReal)
    (hs : (outsAt0 m c (t.1 - 1) (before t)).2 = (emat s : F32 S1408x1024)) :
    (outsAt0 m c t.1 t.isLt).2 = (emat fun i j => s i j + term m c t.1 i j : F32 S1408x1024) := by
  rw [outsAt0_B m c t (by omega) ht (by omega)]
  dsimp only
  rw [kept_B, hs, iblk_0, iblk_1]
  exact next_eq _ _ _
/-- … and what the last point writes out. -/
theorem out_last (t : Fin cfg0.N) (ht : t.1 % 4 = 3) (s : ℕ → ℕ → EReal)
    (hs : (outsAt0 m c (t.1 - 1) (before t)).2 = (emat s : F32 S1408x1024)) :
    (outsAt0 m c t.1 t.isLt).1 = (ecube fun _ i j => s i j + term m c t.1 i j : BF16 S1x1408x1024) := by
  rw [outsAt0_C m c t (by omega) (by omega) ht]
  dsimp only
  rw [out_C, hs, iblk_0, iblk_1]
  exact last_eq _ _ _

/-- The fourth of four points writes out the sum of the four products. -/
theorem out_sum (q : ℕ) (hq : 4 * q + 3 < cfg0.N) :
    (outsAt0 m c (4 * q + 3) hq).1 = (ecube fun _ i j => ((term m c (4 * q) i j + term m c (4 * q + 1) i j)
      + term m c (4 * q + 2) i j) + term m c (4 * q + 3) i j : BF16 S1x1408x1024) := by
  have h0 := kept_0 m c ⟨4 * q, by omega⟩ (by show 4 * q % 4 = 0; omega)
  have h1 := kept_next m c ⟨4 * q + 1, by omega⟩ (by show 1 ≤ (4 * q + 1) % 4 ∧ (4 * q + 1) % 4 ≤ 2; omega) _ h0
  have h2 := kept_next m c ⟨4 * q + 2, by omega⟩ (by show 1 ≤ (4 * q + 2) % 4 ∧ (4 * q + 2) % 4 ≤ 2; omega) _ h1
  exact out_last m c ⟨4 * q + 3, hq⟩ (by show (4 * q + 3) % 4 = 3; omega) _ h2

/-- The sum over all token rows. -/
abbrev gradient (i j : ℕ) : EReal := ∑ k ∈ Finset.range 4096, rowsA m c k i * rowsB m c k j

theorem sum_eq (q i j : ℕ) :
    ((term m c (4 * q) i j + term m c (4 * q + 1) i j) + term m c (4 * q + 2) i j) + term m c (4 * q + 3) i j
      = gradient m c (1408 * (q / 2) + i) (1024 * (q % 2) + j) := by
  have e : ∀ r < 4, term m c (4 * q + r) i j = ∑ k ∈ Finset.range 1024,
      rowsA m c (1024 * r + k) (1408 * (q / 2) + i) * rowsB m c (1024 * r + k) (1024 * (q % 2) + j) := by
    intro r hr
    show ∑ k ∈ Finset.range 1024, rowsA m c (1024 * ((4 * q + r) % 4) + k) (1408 * ((4 * q + r) / 8) + i)
      * rowsB m c (1024 * ((4 * q + r) % 4) + k) (1024 * ((4 * q + r) / 4 % 2) + j) = _
    rw [show (4 * q + r) % 4 = r by omega, show (4 * q + r) / 8 = q / 2 by omega, show (4 * q + r) / 4 % 2 = q % 2 by omega]
  rw [show term m c (4 * q) i j = _ from e 0 (by omega), e 1 (by omega), e 2 (by omega), e 3 (by omega)]
  exact four_stretches 1024 fun k => rowsA m c k (1408 * (q / 2) + i) * rowsB m c k (1024 * (q % 2) + j)

/-- The array after the run. -/
theorem array_eq :
    (dats m 0 c).arrAt 2 cfg0.N = (ecube fun _ => gradient m c : BF16 S1x5632x2048) := by
  have hN : cfg0.N = 32 := N_0
  refine (dats m 0 c).arrAt_eq_of_cover 2 (ecube fun _ => gradient m c : BF16 S1x5632x2048) (fun t hf => ?_)
    fun i => (Kernel4Ideal.Value.covered_iff2 i).2 ?_
  · have ht : t.1 % 4 = 3 := (flush0_2 t).mp hf
    obtain ⟨q, hq⟩ : ∃ q, t.1 = 4 * q + 3 := ⟨t.1 / 4, by omega⟩
    obtain ⟨n, hn⟩ := t
    subst hq
    rw [Kernel4Ideal.Value.flushed2]
    show (cfg0.win 2).cut _ (outsAt0 m c (4 * q + 3) hn).1 = _
    rw [out_sum]
    funext y
    have hy : (y 0).1 < 1 := (y 0).isLt
    rw [View.read_apply]
    obtain ⟨e0, e1, e2⟩ := index_2 ⟨4 * q + 3, hn⟩
    show ((term m c (4 * q) (y 1).1 (y 2).1 + term m c (4 * q + 1) (y 1).1 (y 2).1)
        + term m c (4 * q + 2) (y 1).1 (y 2).1) + term m c (4 * q + 3) (y 1).1 (y 2).1
      = gradient m c (win0_2.index ⟨4 * q + 3, hn⟩ 1 * 1408 + 1 * (y 1).1)
          (win0_2.index ⟨4 * q + 3, hn⟩ 2 * 1024 + 1 * (y 2).1)
    rw [sum_eq, e1, e2]
    dsimp only
    rw [show (4 * q + 3) / 8 * 1408 + 1 * (y 1).1 = 1408 * (q / 2) + (y 1).1 by omega,
      show (4 * q + 3) / 4 % 2 * 1024 + 1 * (y 2).1 = 1024 * (q % 2) + (y 2).1 by omega]
  · have h0 : (i 0).1 < 1 := (i 0).isLt
    have h1 : (i 1).1 < 5632 := (i 1).isLt
    have h2 : (i 2).1 < 2048 := (i 2).isLt
    omega

end Cert.Ffn.Down

end
-- ==== Proof.DownWeightValue.lean ====
/- The reference's weight gradient of the down-projection is the array the kernel leaves. -/
module

public import proofs.«01_k».proof.Proof.DownWeightArray
public import proofs.«01_k».proof.Proof.Gen.Reference4Ideal.Read

@[expose] public section

set_option maxRecDepth 16384

noncomputable section

namespace Cert.Ffn.Down

open Idealize.ShloMosaic Cert.Reference4Ideal.Read

/-- The reference's result, entry by entry. -/
theorem reference_eq (x0 : BF16 Reference4Ideal.S4096x5632) (x1 : F32 Reference4Ideal.S4096x2048) :
    val_main_v6 (F := Ideal) x0 x1
      = (ecube fun _ i j => ∑ k ∈ Finset.range 4096, entry x0 k i * entry x1 k j : BF16 Reference4Ideal.S1x5632x2048) := by
  funext y
  show val_main_v5 (F := Ideal) x0 x1 y = ∑ k ∈ Finset.range 4096, entry x0 k (y 1).1 * entry x1 k (y 2).1
  rw [val_main_v5_apply, val_main_v4_apply, val_main_v3_apply, ← sum_below 4096]
  refine Finset.sum_congr rfl fun k _ => ?_
  show (x1 _ : EReal) * x0 _ = _
  rw [← entry_apply x0, ← entry_apply x1, mul_comm]

end Cert.Ffn.Down

end
-- ==== Proof.InputBlock.lean ====
/- What one grid point of the hidden rows' gradient computes: the product of its block of cotangent rows with its block of
   weights, transposed, stored first, then added, and on the last of four points written out. -/
module

public import proofs.«01_k».proof.Proof.Entries
public import proofs.«01_k».proof.Proof.Gen.Kernel6Ideal.Value
public import Idealize.ShloMosaic.Lib.Pipeline.ReadBack
public import Idealize.ShloMosaic.Lib.Pipeline.ValueKit.Tiles

@[expose] public section

set_option maxRecDepth 16384

noncomputable section

namespace Cert.Ffn.Input

open Idealize.ShloMosaic TcCoe Tactic Cert.Kernel6Ideal Cert.Kernel6Ideal.Gen

/-- Row `i` of the first block against row `j` of the second. -/
abbrev lines (f g : ℕ → ℕ → EReal) (i j : ℕ) : EReal := ∑ k ∈ Finset.range 1408, f i k * g j k

theorem product (f g : ℕ → ℕ → EReal) :
    matmul dot_S1024x1408_S1024x1408_S1024x1024_1_1_0_0_n_n none (emat f : BF16 S1024x1408)
        (emat g : BF16 S1024x1408) (emat fun _ _ => 0)
      = emat (lines f g) := by
  funext i
  pointwise
  exact (congrArg₂ (· + ·) rfl (sum_below 1408 fun k => f (i 0).1 k * g (i 1).1 k)).trans (zero_add _)

theorem unstack (g : ℕ → ℕ → EReal) :
    shapeCast S1024x1408 (ecube fun _ => g : BF16 S1x1024x1408) shapeCasts_S1x1024x1408_S1024x1408 = (emat g : BF16 S1024x1408) :=
  unstack_one g _

theorem first_eq (f g : ℕ → ℕ → EReal) :
    k0_pay1 (F := Ideal) (emat f : BF16 S1024x1408) (ecube fun _ => g : BF16 S1x1024x1408) = emat (lines f g) := by
  unfold k0_pay1
  dsimp only
  rw [unstack, constant_zero, product]
  exact shapeCast_self _ _
theorem next_eq (f g s : ℕ → ℕ → EReal) :
    k0_pay2 (F := Ideal) (emat f : BF16 S1024x1408) (ecube fun _ => g : BF16 S1x1024x1408) (emat s : F32 S1024x1024)
      = emat fun i j => s i j + lines f g i j := by
  unfold k0_pay2
  dsimp only
  rw [unstack, constant_zero, product]
  exact shapeCast_self _ _
theorem last_eq (f g s : ℕ → ℕ → EReal) :
    k0_pay3 (F := Ideal) (emat f : BF16 S1024x1408) (ecube fun _ => g : BF16 S1x1024x1408) (emat s : F32 S1024x1024)
      = emat fun i j => s i j + lines f g i j := by
  unfold k0_pay3
  dsimp only
  rw [unstack, constant_zero, product]
  exact addf_emat s (lines f g)

variable (c : Dev nD) (i : grid0.Coords) (arg3 : Memref sig .tc .vmem S1024x1408 .bf16) (harg3 : arg3.IsWhole) (arg4 : Memref sig .tc .vmem S1x1024x1408 .bf16) (harg4 : arg4.IsWhole) (arg5 : Memref sig .tc .vmem S1024x1024 .f32) (harg5 : arg5.IsWhole) (arg6 : Memref sig .tc .vmem S1024x1024 .f32) (harg6 : arg6.IsWhole)
variable (x0 : Vec Ideal S1024x1408 .bf16) (x1 : Vec Ideal S1x1024x1408 .bf16) (xs : Vec Ideal S1024x1024 .f32)

/-- The first of four points stores its product. -/
theorem kept_A (hc0 : cond0_0 i) (hc1 : ¬cond0_1 i) (hc2 : ¬cond0_2 i) :
    sout0_A_0 (F := Ideal) c i arg3 harg3 arg4 harg4 arg5 harg5 arg6 harg6 hc0 hc1 hc2 x0 x1 = k0_pay1 x0 x1 := by
  unfold sout0_A_0
  rw [View.read_writes_eq_canon _ _ _ (fun y => scover0_A_0 (y := y) ..)]
  unfold kernelRun0_A
  dsimp only
  rw [View.canon_unit_zero zeros2]
  simp only [View.readAt_eq_ld, harg3.read_unread, harg4.read_unread, View.ld_unit_zero (S := S1024x1024) zeros2, View.ld_unit_zero (S := S1024x1408) zeros2, View.ld_unit_zero (S := S1x1024x1408) zeros3]

/-- The two points after it add theirs. -/
theorem kept_B (hc0 : ¬cond0_0 i) (hc1 : cond0_1 i) (hc2 : ¬cond0_2 i) :
    sout0_B_0 (F := Ideal) c i arg3 harg3 arg4 harg4 arg5 harg5 arg6 harg6 hc0 hc1 hc2 x0 x1 xs = k0_pay2 x0 x1 xs := by
  unfold sout0_B_0
  rw [View.read_writes_eq_canon _ _ _ (fun y => scover0_B_0 (y := y) ..)]
  unfold kernelRun0_B
  dsimp only
  rw [View.canon_unit_zero zeros2]
  simp only [View.readAt_eq_ld, harg3.read_unread, harg4.read_unread, harg6.read_unread, View.ld_unit_zero (S := S1024x1024) zeros2, View.ld_unit_zero (S := S1024x1408) zeros2, View.ld_unit_zero (S := S1x1024x1408) zeros3]

/-- The last adds its own and writes the sum out. -/
theorem out_C (hc0 : ¬cond0_0 i) (hc1 : ¬cond0_1 i) (hc2 : cond0_2 i) :
    out0_C_2 (F := Ideal) c i arg3 harg3 arg4 harg4 arg5 harg5 arg6 harg6 hc0 hc1 hc2 x0 x1 xs = k0_pay3 x0 x1 xs := by
  unfold out0_C_2
  rw [View.read_writes_eq_canon _ _ _ (fun y => cover0_C_2 (y := y) ..)]
  unfold kernelRun0_C
  dsimp only
  rw [View.canon_unit_zero zeros2]
  simp only [View.readAt_eq_ld, harg3.read_unread, harg4.read_unread, harg6.read_unread, View.ld_unit_zero (S := S1024x1024) zeros2, View.ld_unit_zero (S := S1024x1408) zeros2, View.ld_unit_zero (S := S1x1024x1408) zeros3]

end Cert.Ffn.Input

end
-- ==== Proof.InputArray.lean ====
/- What the array of the hidden rows' gradient holds after the last grid point: entry (i, j) is the sum over all 5632
   columns of row `i` of the cotangents against row `j` of the weights, whose columns lie in four shards. -/
module

public import proofs.«01_k».proof.Proof.InputBlock

@[expose] public section

set_option maxRecDepth 16384

noncomputable section

namespace Cert.Ffn.Input

open Idealize.ShloMosaic TcCoe Tactic Cert.Kernel6Ideal Cert.Kernel6Ideal.Gen

variable (m : (ℓ : Loc nD τ sig) → Buf (Elt Ideal) ℓ) (c : Dev nD)

/-- The cotangent rows. -/
def rowsA : ℕ → ℕ → EReal := entry (φ := .bf16) (m ((c : Thread nD τ).loc main_arg0) : BF16 S4096x5632)
/-- The weights, shard by shard. -/
def shards : ℕ → ℕ → ℕ → EReal := entry3 (φ := .bf16) (m ((c : Thread nD τ).loc main_arg1) : BF16 S4x2048x1408)

theorem index_0 : ∀ t : Fin cfg0.N, win0_0.index t 0 = t.1 / 8 ∧ win0_0.index t 1 = t.1 % 4 := by decide +kernel
theorem index_1 : ∀ t : Fin cfg0.N, win0_1.index t 0 = t.1 % 4 ∧ win0_1.index t 1 = t.1 / 4 % 2 ∧ win0_1.index t 2 = 0 := by decide +kernel
theorem index_2 : ∀ t : Fin cfg0.N, win0_2.index t 0 = t.1 / 8 ∧ win0_2.index t 1 = t.1 / 4 % 2 := by
  decide +kernel

/-- The block of cotangent rows at point `n`. -/
abbrev blockA (n : ℕ) : ℕ → ℕ → EReal := fun i j => rowsA m c (1024 * (n / 8) + i) (1408 * (n % 4) + j)
/-- The block of weights at point `n`. -/
abbrev blockB (n : ℕ) : ℕ → ℕ → EReal := fun i j => shards m c (n % 4) (1024 * (n / 4 % 2) + i) j

theorem iblk_0 (t : Fin cfg0.N) : iblk m c 0 t = (emat (blockA m c t.1) : BF16 S1024x1408) := by
  funext y
  unfold iblk
  rw [View.read_apply]
  show V m c main_arg0 _ = _
  rw [V_main_arg0]
  refine (entry_apply (φ := .bf16) (m ((c : Thread nD τ).loc main_arg0) : BF16 S4096x5632) _).symm.trans ?_
  refine congrArg₂ (rowsA m c) ?_ ?_
  · show win0_0.index t 0 * 1024 + 1 * (y 0).1 = _; rw [(index_0 t).1]; omega
  · show win0_0.index t 1 * 1408 + 1 * (y 1).1 = _; rw [(index_0 t).2]; omega
theorem iblk_1 (t : Fin cfg0.N) : iblk m c 1 t = (ecube fun _ => blockB m c t.1 : BF16 S1x1024x1408) := by
  funext y
  unfold iblk
  rw [View.read_apply]
  show V m c main_arg1 _ = _
  rw [V_main_arg1]
  refine (entry3_apply (φ := .bf16) (m ((c : Thread nD τ).loc main_arg1) : BF16 S4x2048x1408) _).symm.trans ?_
  have hy : (y 0).1 < 1 := (y 0).isLt
  obtain ⟨e0, e1, e2⟩ := index_1 t
  show shards m c (win0_1.index t 0 * 1 + 1 * (y 0).1) (win0_1.index t 1 * 1024 + 1 * (y 1).1) (win0_1.index t 2 * 1408 + 1 * (y 2).1)
    = shards m c (t.1 % 4) (1024 * (t.1 / 4 % 2) + (y 1).1) (y 2).1
  rw [e0, e1, e2, show t.1 % 4 * 1 + 1 * (y 0).1 = t.1 % 4 by omega,
    show t.1 / 4 % 2 * 1024 + 1 * (y 1).1 = 1024 * (t.1 / 4 % 2) + (y 1).1 by omega,
    show 0 * 1408 + 1 * (y 2).1 = (y 2).1 by omega]

/-- The product of point `n`'s blocks. -/
abbrev term (n : ℕ) : ℕ → ℕ → EReal := lines (blockA m c n) (blockB m c n)

/-- What the running sum holds after the first of four points, … -/
theorem kept_0 (t : Fin cfg0.N) (ht : t.1 % 4 = 0) :
    (outsAt0 m c t.1 t.isLt).2 = (emat (term m c t.1) : F32 S1024x1024) := by
  rw [outsAt0_A m c t ht (by omega) (by omega)]
  dsimp only
  rw [kept_A, iblk_0, iblk_1]
  exact first_eq _ _
/-- … after a point in between, given what it held before, … -/
theorem kept_next (t : Fin cfg0.N) (ht : 1 ≤ t.1 % 4 ∧ t.1 % 4 ≤ 2) (s : ℕ → ℕ → EReal)
    (hs : (outsAt0 m c (t.1 - 1) (before t)).2 = (emat s : F32 S1024x1024)) :
    (outsAt0 m c t.1 t.isLt).2 = (emat fun i j => s i j + term m c t.1 i j : F32 S1024x1024) := by
  rw [outsAt0_B m c t (by omega) ht (by omega)]
  dsimp only
  rw [kept_B, hs, iblk_0, iblk_1]
  exact next_eq _ _ _
/-- … and what the last point writes out. -/
theorem out_last (t : Fin cfg0.N) (ht : t.1 % 4 = 3) (s : ℕ → ℕ → EReal)
    (hs : (outsAt0 m c (t.1 - 1) (before t)).2 = (emat s : F32 S1024x1024)) :
    (outsAt0 m c t.1 t.isLt).1 = (emat fun i j => s i j + term m c t.1 i j : F32 S1024x1024) := by
  rw [outsAt0_C m c t (by omega) (by omega) ht]
  dsimp only
  rw [out_C, hs, iblk_0, iblk_1]
  exact last_eq _ _ _

/-- The fourth of four points writes out the sum of the four products. -/
theorem out_sum (q : ℕ) (hq : 4 * q + 3 < cfg0.N) :
    (outsAt0 m c (4 * q + 3) hq).1 = (emat fun i j => ((term m c (4 * q) i j + term m c (4 * q + 1) i j)
      + term m c (4 * q + 2) i j) + term m c (4 * q + 3) i j : F32 S1024x1024) := by
  have h0 := kept_0 m c ⟨4 * q, by omega⟩ (by show 4 * q % 4 = 0; omega)
  have h1 := kept_next m c ⟨4 * q + 1, by omega⟩ (by show 1 ≤ (4 * q + 1) % 4 ∧ (4 * q + 1) % 4 ≤ 2; omega) _ h0
  have h2 := kept_next m c ⟨4 * q + 2, by omega⟩ (by show 1 ≤ (4 * q + 2) % 4 ∧ (4 * q + 2) % 4 ≤ 2; omega) _ h1
  exact out_last m c ⟨4 * q + 3, hq⟩ (by show (4 * q + 3) % 4 = 3; omega) _ h2

/-- The sum over all columns. -/
abbrev gradient (i j : ℕ) : EReal := ∑ k ∈ Finset.range 5632, rowsA m c i k * shards m c (k / 1408) j (k % 1408)

theorem sum_eq (q i j : ℕ) :
    ((term m c (4 * q) i j + term m c (4 * q + 1) i j) + term m c (4 * q + 2) i j) + term m c (4 * q + 3) i j
      = gradient m c (1024 * (q / 2) + i) (1024 * (q % 2) + j) := by
  have e : ∀ r < 4, term m c (4 * q + r) i j = ∑ k ∈ Finset.range 1408,
      rowsA m c (1024 * (q / 2) + i) (1408 * r + k) * shards m c ((1408 * r + k) / 1408) (1024 * (q % 2) + j) ((1408 * r + k) % 1408) := by
    intro r hr
    show ∑ k ∈ Finset.range 1408, rowsA m c (1024 * ((4 * q + r) / 8) + i) (1408 * ((4 * q + r) % 4) + k)
      * shards m c ((4 * q + r) % 4) (1024 * ((4 * q + r) / 4 % 2) + j) k = _
    rw [show (4 * q + r) % 4 = r by omega, show (4 * q + r) / 8 = q / 2 by omega, show (4 * q + r) / 4 % 2 = q % 2 by omega]
    refine Finset.sum_congr rfl fun k hk => ?_
    have hk := Finset.mem_range.mp hk
    rw [show (1408 * r + k) / 1408 = r by omega, show (1408 * r + k) % 1408 = k by omega]
  rw [show term m c (4 * q) i j = _ from e 0 (by omega), e 1 (by omega), e 2 (by omega), e 3 (by omega)]
  exact four_stretches 1408 fun k => rowsA m c (1024 * (q / 2) + i) k * shards m c (k / 1408) (1024 * (q % 2) + j) (k % 1408)

/-- The array after the run. -/
theorem array_eq :
    (dats m 0 c).arrAt 2 cfg0.N = (emat (gradient m c) : F32 S4096x2048) := by
  have hN : cfg0.N = 32 := N_0
  refine (dats m 0 c).arrAt_eq_of_cover 2 (emat (gradient m c) : F32 S4096x2048) (fun t hf => ?_)
    fun i => (Kernel6Ideal.Value.covered_iff2 i).2 ?_
  · have ht : t.1 % 4 = 3 := (flush0_2 t).mp hf
    obtain ⟨q, hq⟩ : ∃ q, t.1 = 4 * q + 3 := ⟨t.1 / 4, by omega⟩
    obtain ⟨n, hn⟩ := t
    subst hq
    rw [Kernel6Ideal.Value.flushed2]
    show (cfg0.win 2).cut _ (outsAt0 m c (4 * q + 3) hn).1 = _
    rw [out_sum]
    funext y
    rw [View.read_apply]
    obtain ⟨e0, e1⟩ := index_2 ⟨4 * q + 3, hn⟩
    show ((term m c (4 * q) (y 0).1 (y 1).1 + term m c (4 * q + 1) (y 0).1 (y 1).1)
        + term m c (4 * q + 2) (y 0).1 (y 1).1) + term m c (4 * q + 3) (y 0).1 (y 1).1
      = gradient m c (win0_2.index ⟨4 * q + 3, hn⟩ 0 * 1024 + 1 * (y 0).1)
          (win0_2.index ⟨4 * q + 3, hn⟩ 1 * 1024 + 1 * (y 1).1)
    rw [sum_eq, e0, e1]
    dsimp only
    rw [show (4 * q + 3) / 8 * 1024 + 1 * (y 0).1 = 1024 * (q / 2) + (y 0).1 by omega,
      show (4 * q + 3) / 4 % 2 * 1024 + 1 * (y 1).1 = 1024 * (q % 2) + (y 1).1 by omega]
  · have h0 : (i 0).1 < 4096 := (i 0).isLt
    have h1 : (i 1).1 < 2048 := (i 1).isLt
    omega

end Cert.Ffn.Input

end
-- ==== Proof.InputValue.lean ====
/- The reference's gradient of the hidden rows is the array the kernel leaves. -/
module

public import proofs.«01_k».proof.Proof.InputArray
public import proofs.«01_k».proof.Proof.Gen.Reference6Ideal.Read

@[expose] public section

set_option maxRecDepth 16384

noncomputable section

namespace Cert.Ffn.Input

open Idealize.ShloMosaic Cert.Reference6Ideal.Read

/-- The weights side by side: column `k` of the whole matrix is column `k % 1408` of shard `k / 1408`. -/
theorem weights_apply (x1 : BF16 Reference6Ideal.S4x2048x1408) (y : Reference6Ideal.S2048x5632.Idx) :
    val_main_v2 (F := Ideal) x1 y = entry3 x1 ((y 1).1 / 1408) (y 0).1 ((y 1).1 % 1408) := by
  have h0 : (y 0).1 < 2048 := (y 0).isLt
  have h1 : (y 1).1 < 5632 := (y 1).isLt
  rw [val_main_v2_apply, val_main_v1_apply]
  refine (entry3_apply x1 _).symm.trans ?_
  show entry3 x1 (((y 0).1 * 5632 + (y 1).1) / 1408 % 4) (((y 0).1 * 5632 + (y 1).1) / 5632)
    (((y 0).1 * 5632 + (y 1).1) % 1408) = _
  rw [show ((y 0).1 * 5632 + (y 1).1) / 1408 % 4 = (y 1).1 / 1408 by omega,
    show ((y 0).1 * 5632 + (y 1).1) / 5632 = (y 0).1 by omega,
    show ((y 0).1 * 5632 + (y 1).1) % 1408 = (y 1).1 % 1408 by omega]

/-- The reference's result, entry by entry. -/
theorem reference_eq (x0 : BF16 Reference6Ideal.S4096x5632) (x1 : BF16 Reference6Ideal.S4x2048x1408) :
    val_main_v6 (F := Ideal) x0 x1
      = (emat fun i j => ∑ k ∈ Finset.range 5632, entry x0 i k * entry3 x1 (k / 1408) j (k % 1408) : F32 Reference6Ideal.S4096x2048) := by
  funext y
  rw [val_main_v6_apply]
  refine (Finset.sum_congr rfl fun k _ => ?_).trans
    (sum_below 5632 fun k => entry x0 (y 0).1 k * entry3 x1 (k / 1408) (y 1).1 (k % 1408))
  rw [weights_apply]
  exact congrArg₂ (· * ·) (entry_apply x0 _).symm rfl

end Cert.Ffn.Input

end
-- ==== Proof.lean ====
/- The certificate of the gMLP backward call and of the backward calls of the feed-forward block: it assembles the frames, the idealisation and the values. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Gen.Pre_finite
public import proofs.«01_k».proof.Proof.Gen.Pre_down_finite
public import proofs.«01_k».proof.Proof.Gen.Pre_gate_norm_finite
public import proofs.«01_k».proof.Proof.Gen.Pre_gates_finite
public import proofs.«01_k».proof.Proof.GateNormValue
public import proofs.«01_k».proof.Proof.GatesValue
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel19.Frame
public import proofs.«01_k».proof.Proof.Gen.Kernel18Ideal.Value
public import proofs.«01_k».proof.Proof.Gen.Kernel19Ideal.Value
public import proofs.«01_k».proof.Proof.Gen.Reference18Ideal.Read
public import proofs.«01_k».proof.Proof.Gen.Reference19Ideal.Read
public import proofs.«01_k».proof.Proof.Gen.Kernel18.Frame
public import proofs.«01_k».proof.Proof.Gen.Kernel20.Frame
public import proofs.«01_k».proof.Proof.Gen.Kernel18Ideal.Value
public import proofs.«01_k».proof.Proof.Gen.Kernel20Ideal.Value
public import proofs.«01_k».proof.Proof.Gen.Reference18Ideal.Read
public import proofs.«01_k».proof.Proof.Gen.Reference20Ideal.Read
public import proofs.«01_k».proof.Proof.Values
public import proofs.«01_k».proof.Proof.Finite
public import proofs.«01_k».proof.Proof.OddInWeightValue
public import proofs.«01_k».proof.Proof.OutWeightValue
public import proofs.«01_k».proof.Proof.EvenInWeightValue
public import proofs.«01_k».proof.Proof.GatedCotangentValue
public import proofs.«01_k».proof.Proof.MixCotangentValue
public import proofs.«01_k».proof.Proof.OddNormValue
public import proofs.«01_k».proof.Proof.EvenNormValue
public import proofs.«01_k».proof.Proof.GateUpValue
public import proofs.«01_k».proof.Proof.DownForwardValue
public import proofs.«01_k».proof.Proof.EvenInForwardValue
public import proofs.«01_k».proof.Proof.OutForwardValue
public import proofs.«01_k».proof.Proof.OddInForwardValue
public import proofs.«01_k».proof.Proof.WeightValue
public import proofs.«01_k».proof.Proof.DownWeightValue
public import proofs.«01_k».proof.Proof.InputValue
public import proofs.«01_k».proof.Proof.ActValue
public import proofs.«01_k».proof.Proof.NormValue

@[expose] public section

noncomputable section

namespace Cert.Proof

open Idealize.ShloMosaic Idealize.SL.Sem

/-- The reference, written with host operations alone, runs and leaves its arguments as they were. -/
theorem reference_frame : Cert.quiescent_ReferenceIdeal := fun m ρ _ =>
  (θ_run ReferenceIdeal.defs _ _).mono
    (fun r h => ⟨fun c => (h c).2.2.2.2.2, sem_eq_zero_of_no_sems (by decide) r.2⟩)
    (ReferenceIdeal.Value.run (F := Ideal) m ρ)

/-- On finite arguments the kernel and the reference return the same five arrays. -/
theorem values : Cert.algebraic_KernelIdeal_ReferenceIdeal_pre_finite := by
  intro m g m' g' hm ha
  refine ⟨fun c => (KernelIdeal.Gen.dats m 0 c).arrAt 7 KernelIdeal.cfg0.N,
    fun c => (KernelIdeal.Gen.dats m 0 c).arrAt 8 KernelIdeal.cfg0.N,
    fun c => (KernelIdeal.Gen.dats m 0 c).arrAt 9 KernelIdeal.cfg0.N,
    fun c => (KernelIdeal.Gen.dats m 0 c).arrAt 10 KernelIdeal.cfg0.N,
    fun c => (KernelIdeal.Gen.dats m 0 c).arrAt 11 KernelIdeal.cfg0.N,
    KernelIdeal.Value.run_blocks m g, ?_⟩
  refine (θ_run ReferenceIdeal.defs _ _).mono (fun r h c => ?_) (ReferenceIdeal.Value.run (F := Ideal) m' g')
  obtain ⟨Z, D, lg, lb, W, B, hh⟩ := Gmlp.holds_of_finite m hm c
  obtain ⟨a0, a1, a2, a3, a4, a5⟩ := ha c
  obtain ⟨r0, r1, r2, r3, r4, kept⟩ := h c
  refine ⟨r0.trans ?_, r1.trans ?_, r2.trans ?_, r3.trans ?_, r4.trans ?_, kept⟩
  · rw [ReferenceIdeal.Read.val_main_v111_eq, a0, a1, a2, a3, a4, a5]
    exact Gmlp.value_dz hh
  · rw [ReferenceIdeal.Read.val_main_v67_eq, a0, a1, a2, a3]
    exact Gmlp.value_dw hh
  · rw [ReferenceIdeal.Read.val_main_v113_eq, a0, a1]
    exact Gmlp.value_db hh
  · rw [ReferenceIdeal.Read.val_main_v73_eq, a0, a1, a4]
    exact Gmlp.value_dlg hh
  · rw [ReferenceIdeal.Read.val_main_v70_eq, a0, a1, a4]
    exact Gmlp.value_dlb hh

/-- The reference of the activation's gradients runs and leaves its arguments as they were. -/
theorem reference2_frame : Cert.quiescent_Reference2Ideal := fun m ρ _ =>
  (θ_run Reference2Ideal.defs _ _).mono
    (fun r h => ⟨fun c => (h c).2.2, sem_eq_zero_of_no_sems (by decide) r.2⟩)
    (Reference2Ideal.Value.run (F := Ideal) m ρ)

/-- The kernel and the reference return the same gradients of the gate and of the factor, when the arguments are finite. -/
theorem values2 : Cert.algebraic_Kernel2Ideal_Reference2Ideal_pre_down_finite := by
  intro m g m' g' hm ha
  refine ⟨fun c => (Kernel2Ideal.Gen.dats m 0 c).arrAt 4 Kernel2Ideal.cfg0.N,
    fun c => (Kernel2Ideal.Gen.dats m 0 c).arrAt 5 Kernel2Ideal.cfg0.N, Kernel2Ideal.Value.run_blocks m g, ?_⟩
  refine (θ_run Reference2Ideal.defs _ _).mono (fun r h c => ?_) (Reference2Ideal.Value.run (F := Ideal) m' g')
  obtain ⟨a0, a1, a2, a3⟩ := ha c
  refine ⟨(h c).1.trans ?_, (h c).2.1.trans ?_, (h c).2.2⟩
  · rw [Reference2Ideal.Read.val_main_v10_eq, a0, a1, a2, a3]
    exact Ffn.Act.gate_value m hm c
  · rw [Reference2Ideal.Read.val_main_v11_eq, a0, a1, a2]
    exact Ffn.Act.up_value m c
/-- The reference of the up- and gate-projection's weight gradient runs and leaves its arguments as they were. -/
theorem reference3_frame : Cert.quiescent_Reference3Ideal := fun m ρ _ =>
  (θ_run Reference3Ideal.defs _ _).mono
    (fun r h => ⟨fun c => (h c).2, sem_eq_zero_of_no_sems (by decide) r.2⟩)
    (Reference3Ideal.Value.run (F := Ideal) m ρ)

/-- The kernel and the reference return the same weight gradient, whatever the arguments are. -/
theorem values3 : Cert.algebraic_Kernel3Ideal_Reference3Ideal := by
  intro m g m' g' _ ha
  refine ⟨fun c => (Kernel3Ideal.Gen.dats m 0 c).arrAt 2 Kernel3Ideal.cfg0.N, Kernel3Ideal.Value.run_blocks m g, ?_⟩
  refine (θ_run Reference3Ideal.defs _ _).mono (fun r h c => ?_) (Reference3Ideal.Value.run (F := Ideal) m' g')
  obtain ⟨a0, a1⟩ := ha c
  refine ⟨(h c).1.trans ?_, (h c).2⟩
  rw [Reference3Ideal.Read.val_main_v8_eq, a0, a1]
  exact (Ffn.Weight.reference_eq _ _).trans (Ffn.Weight.array_eq m c).symm

/-- The reference of the down-projection's weight gradient runs and leaves its arguments as they were. -/
theorem reference4_frame : Cert.quiescent_Reference4Ideal := fun m ρ _ =>
  (θ_run Reference4Ideal.defs _ _).mono
    (fun r h => ⟨fun c => (h c).2, sem_eq_zero_of_no_sems (by decide) r.2⟩)
    (Reference4Ideal.Value.run (F := Ideal) m ρ)

/-- The kernel and the reference return the same weight gradient, whatever the arguments are. -/
theorem values4 : Cert.algebraic_Kernel4Ideal_Reference4Ideal := by
  intro m g m' g' _ ha
  refine ⟨fun c => (Kernel4Ideal.Gen.dats m 0 c).arrAt 2 Kernel4Ideal.cfg0.N, Kernel4Ideal.Value.run_blocks m g, ?_⟩
  refine (θ_run Reference4Ideal.defs _ _).mono (fun r h c => ?_) (Reference4Ideal.Value.run (F := Ideal) m' g')
  obtain ⟨a0, a1⟩ := ha c
  refine ⟨(h c).1.trans ?_, (h c).2⟩
  rw [Reference4Ideal.Read.val_main_v6_eq, a0, a1]
  exact (Ffn.Down.reference_eq _ _).trans (Ffn.Down.array_eq m c).symm

/-- The reference of the hidden rows' gradient runs and leaves its arguments as they were. -/
theorem reference6_frame : Cert.quiescent_Reference6Ideal := fun m ρ _ =>
  (θ_run Reference6Ideal.defs _ _).mono
    (fun r h => ⟨fun c => (h c).2, sem_eq_zero_of_no_sems (by decide) r.2⟩)
    (Reference6Ideal.Value.run (F := Ideal) m ρ)

/-- The kernel and the reference return the same gradient of the hidden rows, whatever the arguments are. -/
theorem values6 : Cert.algebraic_Kernel6Ideal_Reference6Ideal := by
  intro m g m' g' _ ha
  refine ⟨fun c => (Kernel6Ideal.Gen.dats m 0 c).arrAt 2 Kernel6Ideal.cfg0.N, Kernel6Ideal.Value.run_blocks m g, ?_⟩
  refine (θ_run Reference6Ideal.defs _ _).mono (fun r h c => ?_) (Reference6Ideal.Value.run (F := Ideal) m' g')
  obtain ⟨a0, a1⟩ := ha c
  refine ⟨(h c).1.trans ?_, (h c).2⟩
  rw [Reference6Ideal.Read.val_main_v6_eq, a0, a1]
  exact (Ffn.Input.reference_eq _ _).trans (Ffn.Input.array_eq m c).symm

/-- The reference of the norm's gradients runs and leaves its arguments as they were. -/
theorem reference5_frame : Cert.quiescent_Reference5Ideal := fun m ρ _ =>
  (θ_run Reference5Ideal.defs _ _).mono
    (fun r h => ⟨fun c => (h c).2.2, sem_eq_zero_of_no_sems (by decide) r.2⟩)
    (Reference5Ideal.Value.run (F := Ideal) m ρ)

/-- The kernel and its reference compute the same gradients of the block's input and of the norm's gain. -/
theorem values5 : Cert.algebraic_Kernel5Ideal_Reference5Ideal := by
  intro m g m' g' _ ha
  refine ⟨fun c => (Kernel5Ideal.Gen.dats m 0 c).arrAt 6 Kernel5Ideal.cfg0.N,
    fun c => (Kernel5Ideal.Gen.dats m 0 c).arrAt 7 Kernel5Ideal.cfg0.N, Kernel5Ideal.Value.run_blocks m g, ?_⟩
  refine (θ_run Reference5Ideal.defs _ _).mono (fun r h c => ?_) (Reference5Ideal.Value.run (F := Ideal) m' g')
  obtain ⟨a0, a1, a2, a3, a4, a5⟩ := ha c
  refine ⟨(h c).1.trans ?_, (h c).2.1.trans ?_, (h c).2.2⟩
  · rw [Reference5Ideal.Read.val_main_v41_eq, a0, a1, a2, a3, a4, a5]
    exact Ffn.Norm.rows_value m c
  · rw [Reference5Ideal.Read.val_main_v24_eq, a0, a1, a2, a3]
    exact Ffn.Norm.gain_value m c

/-- The reference of layer 1's input weight gradient runs and leaves its arguments as they were. -/
theorem reference7_frame : Cert.quiescent_Reference7Ideal := fun m ρ _ =>
  (θ_run Reference7Ideal.defs _ _).mono
    (fun r h => ⟨fun c => (h c).2, sem_eq_zero_of_no_sems (by decide) r.2⟩)
    (Reference7Ideal.Value.run (F := Ideal) m ρ)

/-- The kernel and its reference compute the same weight gradient of layer 1's input projection, whatever the arguments are. -/
theorem values7 : Cert.algebraic_Kernel7Ideal_Reference7Ideal := by
  intro m g m' g' _ ha
  refine ⟨fun c => (Kernel7Ideal.Gen.dats m 0 c).arrAt 2 Kernel7Ideal.cfg0.N, Kernel7Ideal.Value.run_blocks m g, ?_⟩
  refine (θ_run Reference7Ideal.defs _ _).mono (fun r h c => ?_) (Reference7Ideal.Value.run (F := Ideal) m' g')
  obtain ⟨a0, a1⟩ := ha c
  refine ⟨(h c).1.trans ?_, (h c).2⟩
  rw [Reference7Ideal.Read.val_main_v8_eq, a0, a1]
  exact (Ffn.OddIn.reference_eq _ _).trans (Ffn.OddIn.array_eq m c).symm

/-- The reference of the output projection's weight gradient runs and leaves its arguments as they were. -/
theorem reference8_frame : Cert.quiescent_Reference8Ideal := fun m ρ _ =>
  (θ_run Reference8Ideal.defs _ _).mono
    (fun r h => ⟨fun c => (h c).2, sem_eq_zero_of_no_sems (by decide) r.2⟩)
    (Reference8Ideal.Value.run (F := Ideal) m ρ)

/-- The kernel and its reference compute the same weight gradient of the output projection, whatever the arguments are. -/
theorem values8 : Cert.algebraic_Kernel8Ideal_Reference8Ideal := by
  intro m g m' g' _ ha
  refine ⟨fun c => (Kernel8Ideal.Gen.dats m 0 c).arrAt 2 Kernel8Ideal.cfg0.N, Kernel8Ideal.Value.run_blocks m g, ?_⟩
  refine (θ_run Reference8Ideal.defs _ _).mono (fun r h c => ?_) (Reference8Ideal.Value.run (F := Ideal) m' g')
  obtain ⟨a0, a1⟩ := ha c
  refine ⟨(h c).1.trans ?_, (h c).2⟩
  rw [Reference8Ideal.Read.val_main_v6_eq, a0, a1]
  exact (Ffn.Out.reference_eq _ _).trans (Ffn.Out.array_eq m c).symm

/-- The reference of layer 0's input weight gradient runs and leaves its arguments as they were. -/
theorem reference9_frame : Cert.quiescent_Reference9Ideal := fun m ρ _ =>
  (θ_run Reference9Ideal.defs _ _).mono
    (fun r h => ⟨fun c => (h c).2, sem_eq_zero_of_no_sems (by decide) r.2⟩)
    (Reference9Ideal.Value.run (F := Ideal) m ρ)

/-- The kernel and its reference compute the same weight gradient of layer 0's input projection, whatever the arguments are. -/
theorem values9 : Cert.algebraic_Kernel9Ideal_Reference9Ideal := by
  intro m g m' g' _ ha
  refine ⟨fun c => (Kernel9Ideal.Gen.dats m 0 c).arrAt 2 Kernel9Ideal.cfg0.N, Kernel9Ideal.Value.run_blocks m g, ?_⟩
  refine (θ_run Reference9Ideal.defs _ _).mono (fun r h c => ?_) (Reference9Ideal.Value.run (F := Ideal) m' g')
  obtain ⟨a0, a1⟩ := ha c
  refine ⟨(h c).1.trans ?_, (h c).2⟩
  rw [Reference9Ideal.Read.val_main_v9_eq, a0, a1]
  exact (Ffn.EvenIn.reference_eq _ _).trans (Ffn.EvenIn.array_eq m c).symm

/-- The reference of the cotangent of the gated rows runs and leaves its arguments as they were. -/
theorem reference10_frame : Cert.quiescent_Reference10Ideal := fun m ρ _ =>
  (θ_run Reference10Ideal.defs _ _).mono
    (fun r h => ⟨fun c => (h c).2, sem_eq_zero_of_no_sems (by decide) r.2⟩)
    (Reference10Ideal.Value.run (F := Ideal) m ρ)

/-- The kernel and its reference compute the same cotangent of the gated rows, whatever the arguments are. -/
theorem values10 : Cert.algebraic_Kernel10Ideal_Reference10Ideal := by
  intro m g m' g' _ ha
  refine ⟨fun c => (Kernel10Ideal.Gen.dats m 0 c).arrAt 2 Kernel10Ideal.cfg0.N, Kernel10Ideal.Value.run_blocks m g, ?_⟩
  refine (θ_run Reference10Ideal.defs _ _).mono (fun r h c => ?_) (Reference10Ideal.Value.run (F := Ideal) m' g')
  obtain ⟨a0, a1⟩ := ha c
  refine ⟨(h c).1.trans ?_, (h c).2⟩
  rw [Reference10Ideal.Read.val_main_v4_eq, a0, a1]
  exact (Ffn.Gated.reference_eq _ _).trans (Ffn.Gated.array_eq m c).symm

/-- The reference of the cotangent of the mixed rows runs and leaves its arguments as they were. -/
theorem reference11_frame : Cert.quiescent_Reference11Ideal := fun m ρ _ =>
  (θ_run Reference11Ideal.defs _ _).mono
    (fun r h => ⟨fun c => (h c).2, sem_eq_zero_of_no_sems (by decide) r.2⟩)
    (Reference11Ideal.Value.run (F := Ideal) m ρ)

/-- The kernel and its reference compute the same cotangent of the mixed rows, whatever the arguments are. -/
theorem values11 : Cert.algebraic_Kernel11Ideal_Reference11Ideal := by
  intro m g m' g' _ ha
  refine ⟨fun c => (Kernel11Ideal.Gen.dats m 0 c).arrAt 2 Kernel11Ideal.cfg0.N, Kernel11Ideal.Value.run_blocks m g, ?_⟩
  refine (θ_run Reference11Ideal.defs _ _).mono (fun r h c => ?_) (Reference11Ideal.Value.run (F := Ideal) m' g')
  obtain ⟨a0, a1⟩ := ha c
  refine ⟨(h c).1.trans ?_, (h c).2⟩
  rw [Reference11Ideal.Read.val_main_v3_eq, a0, a1]
  exact (Ffn.Mix.reference_eq _ _).trans (Ffn.Mix.array_eq m c).symm

/-- The reference of the gradients of layer 1's norm runs and leaves its arguments as they were. -/
theorem reference12_frame : Cert.quiescent_Reference12Ideal := fun m ρ _ =>
  (θ_run Reference12Ideal.defs _ _).mono
    (fun r h => ⟨fun c => (h c).2.2, sem_eq_zero_of_no_sems (by decide) r.2⟩)
    (Reference12Ideal.Value.run (F := Ideal) m ρ)

/-- The kernel and its reference compute the same gradients of layer 1's hidden rows and of its norm's gain, whatever the arguments are. -/
theorem values12 : Cert.algebraic_Kernel12Ideal_Reference12Ideal := by
  intro m g m' g' _ ha
  refine ⟨fun c => (Kernel12Ideal.Gen.dats m 0 c).arrAt 5 Kernel12Ideal.cfg0.N,
    fun c => (Kernel12Ideal.Gen.dats m 0 c).arrAt 6 Kernel12Ideal.cfg0.N, Kernel12Ideal.Value.run_blocks m g, ?_⟩
  refine (θ_run Reference12Ideal.defs _ _).mono (fun r h c => ?_) (Reference12Ideal.Value.run (F := Ideal) m' g')
  obtain ⟨a0, a1, a2, a3, a4⟩ := ha c
  refine ⟨(h c).1.trans ?_, (h c).2.1.trans ?_, (h c).2.2⟩
  · rw [Reference12Ideal.Read.val_main_v40_eq, a0, a1, a2, a3, a4]
    exact Ffn.OddNorm.rows_value m c
  · rw [Reference12Ideal.Read.val_main_v23_eq, a0, a1, a2]
    exact Ffn.OddNorm.gain_value m c

/-- The reference of the gradients of layer 0's norm runs and leaves its arguments as they were. -/
theorem reference13_frame : Cert.quiescent_Reference13Ideal := fun m ρ _ =>
  (θ_run Reference13Ideal.defs _ _).mono
    (fun r h => ⟨fun c => (h c).2.2, sem_eq_zero_of_no_sems (by decide) r.2⟩)
    (Reference13Ideal.Value.run (F := Ideal) m ρ)

/-- The kernel and its reference compute the same gradients of layer 0's input rows and of its norm's gain, whatever the arguments are. -/
theorem values13 : Cert.algebraic_Kernel13Ideal_Reference13Ideal := by
  intro m g m' g' _ ha
  refine ⟨fun c => (Kernel13Ideal.Gen.dats m 0 c).arrAt 5 Kernel13Ideal.cfg0.N,
    fun c => (Kernel13Ideal.Gen.dats m 0 c).arrAt 6 Kernel13Ideal.cfg0.N, Kernel13Ideal.Value.run_blocks m g, ?_⟩
  refine (θ_run Reference13Ideal.defs _ _).mono (fun r h c => ?_) (Reference13Ideal.Value.run (F := Ideal) m' g')
  obtain ⟨a0, a1, a2, a3, a4⟩ := ha c
  refine ⟨(h c).1.trans ?_, (h c).2.1.trans ?_, (h c).2.2⟩
  · rw [Reference13Ideal.Read.val_main_v39_eq, a0, a1, a2, a3, a4]
    exact Ffn.EvenNorm.rows_value m c
  · rw [Reference13Ideal.Read.val_main_v22_eq, a0, a1, a2]
    exact Ffn.EvenNorm.gain_value m c

/-- The reference of the feed-forward's gate and factor runs and leaves its arguments as they were. -/
theorem reference14_frame : Cert.quiescent_Reference14Ideal := fun m ρ _ =>
  (θ_run Reference14Ideal.defs _ _).mono
    (fun r h => ⟨fun c => (h c).2.2.2, sem_eq_zero_of_no_sems (by decide) r.2⟩)
    (Reference14Ideal.Value.run (F := Ideal) m ρ)

/-- The kernel and its reference compute the same gate, the same factor and the same product of the gate's activation with the factor, whatever the arguments are. -/
theorem values14 : Cert.algebraic_Kernel14Ideal_Reference14Ideal := by
  intro m g m' g' _ ha
  refine ⟨fun c => (Kernel14Ideal.Gen.dats m 0 c).arrAt 3 Kernel14Ideal.cfg0.N,
    fun c => (Kernel14Ideal.Gen.dats m 0 c).arrAt 4 Kernel14Ideal.cfg0.N,
    fun c => (Kernel14Ideal.Gen.dats m 0 c).arrAt 5 Kernel14Ideal.cfg0.N, Kernel14Ideal.Value.run_blocks m g, ?_⟩
  refine (θ_run Reference14Ideal.defs _ _).mono (fun r h c => ?_) (Reference14Ideal.Value.run (F := Ideal) m' g')
  obtain ⟨a0, a1, a2⟩ := ha c
  refine ⟨(h c).1.trans ?_, (h c).2.1.trans ?_, (h c).2.2.1.trans ?_, (h c).2.2.2⟩
  · rw [Reference14Ideal.Read.val_main_v11_eq, a0, a1]
    exact (Ffn.GateUp.gate_reference _ _).trans (Ffn.GateUp.gate_array m c).symm
  · rw [Reference14Ideal.Read.val_main_v12_eq, a0, a2]
    exact (Ffn.GateUp.up_reference _ _).trans (Ffn.GateUp.up_array m c).symm
  · rw [Reference14Ideal.Read.val_main_v13_eq, a0, a1, a2]
    exact (Ffn.GateUp.act_reference _ _ _).trans (Ffn.GateUp.act_array m c).symm

/-- The reference of the feed-forward's down-projection runs and leaves its arguments as they were. -/
theorem reference15_frame : Cert.quiescent_Reference15Ideal := fun m ρ _ =>
  (θ_run Reference15Ideal.defs _ _).mono
    (fun r h => ⟨fun c => (h c).2, sem_eq_zero_of_no_sems (by decide) r.2⟩)
    (Reference15Ideal.Value.run (F := Ideal) m ρ)

/-- The kernel and its reference compute the same rows after the feed-forward, whatever the arguments are. -/
theorem values15 : Cert.algebraic_Kernel15Ideal_Reference15Ideal := by
  intro m g m' g' _ ha
  refine ⟨fun c => (Kernel15Ideal.Gen.dats m 0 c).arrAt 3 Kernel15Ideal.cfg0.N, Kernel15Ideal.Value.run_blocks m g, ?_⟩
  refine (θ_run Reference15Ideal.defs _ _).mono (fun r h c => ?_) (Reference15Ideal.Value.run (F := Ideal) m' g')
  obtain ⟨a0, a1, a2⟩ := ha c
  refine ⟨(h c).1.trans ?_, (h c).2⟩
  rw [Reference15Ideal.Read.val_main_v3_eq, a0, a1, a2]
  exact (Ffn.DownFw.reference_eq _ _ _).trans (Ffn.DownFw.array_eq m c).symm

/-- The reference of layer 0's input projection runs and leaves its arguments as they were. -/
theorem reference16_frame : Cert.quiescent_Reference16Ideal := fun m ρ _ =>
  (θ_run Reference16Ideal.defs _ _).mono
    (fun r h => ⟨fun c => (h c).2, sem_eq_zero_of_no_sems (by decide) r.2⟩)
    (Reference16Ideal.Value.run (F := Ideal) m ρ)

/-- The kernel and its reference compute the same rows of layer 0's input projection, whatever the arguments are. -/
theorem values16 : Cert.algebraic_Kernel16Ideal_Reference16Ideal := by
  intro m g m' g' _ ha
  refine ⟨fun c => (Kernel16Ideal.Gen.dats m 0 c).arrAt 2 Kernel16Ideal.cfg0.N, Kernel16Ideal.Value.run_blocks m g, ?_⟩
  refine (θ_run Reference16Ideal.defs _ _).mono (fun r h c => ?_) (Reference16Ideal.Value.run (F := Ideal) m' g')
  obtain ⟨a0, a1⟩ := ha c
  refine ⟨(h c).1.trans ?_, (h c).2⟩
  rw [Reference16Ideal.Read.val_main_v3_eq, a0, a1]
  exact (Ffn.EvenFw.reference_eq _ _).trans (Ffn.EvenFw.array_eq m c).symm

/-- The reference of the output projection runs and leaves its arguments as they were. -/
theorem reference17_frame : Cert.quiescent_Reference17Ideal := fun m ρ _ =>
  (θ_run Reference17Ideal.defs _ _).mono
    (fun r h => ⟨fun c => (h c).2, sem_eq_zero_of_no_sems (by decide) r.2⟩)
    (Reference17Ideal.Value.run (F := Ideal) m ρ)

/-- The kernel and its reference compute the same rows after the output projection, whatever the arguments are. -/
theorem values17 : Cert.algebraic_Kernel17Ideal_Reference17Ideal := by
  intro m g m' g' _ ha
  refine ⟨fun c => (Kernel17Ideal.Gen.dats m 0 c).arrAt 3 Kernel17Ideal.cfg0.N, Kernel17Ideal.Value.run_blocks m g, ?_⟩
  refine (θ_run Reference17Ideal.defs _ _).mono (fun r h c => ?_) (Reference17Ideal.Value.run (F := Ideal) m' g')
  obtain ⟨a0, a1, a2⟩ := ha c
  refine ⟨(h c).1.trans ?_, (h c).2⟩
  rw [Reference17Ideal.Read.val_main_v3_eq, a0, a1, a2]
  exact (Ffn.OutFw.reference_eq _ _ _).trans (Ffn.OutFw.array_eq m c).symm

/-- The reference of layer 1's input projection runs and leaves its arguments as they were. -/
theorem reference18_frame : Cert.quiescent_Reference18Ideal := fun m ρ _ =>
  (θ_run Reference18Ideal.defs _ _).mono
    (fun r h => ⟨fun c => (h c).2, sem_eq_zero_of_no_sems (by decide) r.2⟩)
    (Reference18Ideal.Value.run (F := Ideal) m ρ)

/-- The kernel and its reference compute the same rows of layer 1's input projection, whatever the arguments are. -/
theorem values18 : Cert.algebraic_Kernel18Ideal_Reference18Ideal := by
  intro m g m' g' _ ha
  refine ⟨fun c => (Kernel18Ideal.Gen.dats m 0 c).arrAt 2 Kernel18Ideal.cfg0.N, Kernel18Ideal.Value.run_blocks m g, ?_⟩
  refine (θ_run Reference18Ideal.defs _ _).mono (fun r h c => ?_) (Reference18Ideal.Value.run (F := Ideal) m' g')
  obtain ⟨a0, a1⟩ := ha c
  refine ⟨(h c).1.trans ?_, (h c).2⟩
  rw [Reference18Ideal.Read.val_main_v4_eq, a0, a1]
  exact (Ffn.OddFw.reference_eq _ _).trans (Ffn.OddFw.array_eq m c).symm

/-- The reference of the gated norm's gradients runs and leaves its arguments as they were. -/
theorem reference19_frame : Cert.quiescent_Reference19Ideal := fun m ρ _ =>
  (θ_run Reference19Ideal.defs _ _).mono
    (fun r h => ⟨fun c => (h c).2.2.2, sem_eq_zero_of_no_sems (by decide) r.2⟩)
    (Reference19Ideal.Value.run (F := Ideal) m ρ)

/-- The kernel and the reference return the same gradients of the rows, of the gate and of the gain, when the gain and the
    cotangent are finite; the rows and the gate may be anything. -/
theorem values19 : Cert.algebraic_Kernel19Ideal_Reference19Ideal_pre_gate_norm_finite := by
  intro m g m' g' hm ha
  refine ⟨fun c => (Kernel19Ideal.Gen.dats m 0 c).arrAt 4 Kernel19Ideal.cfg0.N,
    fun c => (Kernel19Ideal.Gen.dats m 0 c).arrAt 5 Kernel19Ideal.cfg0.N,
    fun c => (Kernel19Ideal.Gen.dats m 0 c).arrAt 6 Kernel19Ideal.cfg0.N, Kernel19Ideal.Value.run_blocks m g, ?_⟩
  refine (θ_run Reference19Ideal.defs _ _).mono (fun r h c => ?_) (Reference19Ideal.Value.run (F := Ideal) m' g')
  obtain ⟨a0, a1, a2, a3⟩ := ha c
  refine ⟨(h c).1.trans ?_, (h c).2.1.trans ?_, (h c).2.2.1.trans ?_, (h c).2.2.2⟩
  · rw [Reference19Ideal.Read.val_main_v49_eq, a0, a1, a2, a3]
    exact Ffn.GateNorm.rows_value m c
  · rw [Reference19Ideal.Read.val_main_v50_eq, a0, a1, a2, a3]
    exact Ffn.GateNorm.gate_value m c hm
  · rw [Reference19Ideal.Read.val_main_v51_eq, a0, a1, a3]
    exact Ffn.GateNorm.gain_value m c

/-- The reference of the gates' gradients runs and leaves its arguments as they were. -/
theorem reference20_frame : Cert.quiescent_Reference20Ideal := fun m ρ _ =>
  (θ_run Reference20Ideal.defs _ _).mono
    (fun r h => ⟨fun c => (h c).2.2.2, sem_eq_zero_of_no_sems (by decide) r.2⟩)
    (Reference20Ideal.Value.run (F := Ideal) m ρ)

/-- The kernel and the reference return the same gradients of the projected rows' gate columns, of the decay's parameter and
    of its bias, when the decay's arguments and cotangent are finite. -/
theorem values20 : Cert.algebraic_Kernel20Ideal_Reference20Ideal_pre_gates_finite := by
  intro m g m' g' hm ha
  refine ⟨fun c => (Kernel20Ideal.Gen.dats m 0 c).arrAt 4 Kernel20Ideal.cfg0.N,
    fun c => (Kernel20Ideal.Gen.dats m 0 c).arrAt 5 Kernel20Ideal.cfg0.N,
    fun c => (Kernel20Ideal.Gen.dats m 0 c).arrAt 6 Kernel20Ideal.cfg0.N, Kernel20Ideal.Value.run_blocks m g, ?_⟩
  refine (θ_run Reference20Ideal.defs _ _).mono (fun r h c => ?_) (Reference20Ideal.Value.run (F := Ideal) m' g')
  obtain ⟨a0, a1, a2, a3⟩ := ha c
  refine ⟨(h c).1.trans ?_, (h c).2.1.trans ?_, (h c).2.2.1.trans ?_, (h c).2.2.2⟩
  · rw [Reference20Ideal.Read.val_main_v39_eq, a0, a1, a2, a3]
    exact Ffn.Gates.row_value m c
  · rw [Reference20Ideal.Read.val_main_v41_eq, a0, a1, a2, a3]
    exact Ffn.Gates.log_value m c hm
  · rw [Reference20Ideal.Read.val_main_v43_eq, a0, a1, a2, a3]
    exact Ffn.Gates.bias_value m c

theorem claim : Cert.Claim := ⟨Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel6.Gen.facts, Kernel6Ideal.Gen.facts, Reference6Ideal.Gen.facts,
  Kernel5.Gen.facts, Kernel5Ideal.Gen.facts, Reference5Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Pre_finite.Gen.facts, Pre_down_finite.Gen.facts, Pre_gate_norm_finite.Gen.facts, Pre_gates_finite.Gen.facts,
  fun m ρ _ => Kernel.Gen.frame m ρ,
  fun m ρ _ => KernelIdeal.Gen.frame m ρ,
  fun m ρ _ => KernelIdeal.Gen.frame m ρ,
  reference_frame,
  fun m ρ _ => reference_frame m ρ trivial,
  fun m ρ _ => Kernel2.Gen.frame m ρ,
  fun m ρ _ => Kernel2Ideal.Gen.frame m ρ,
  fun m ρ _ => Kernel2Ideal.Gen.frame m ρ,
  reference2_frame,
  fun m ρ _ => reference2_frame m ρ trivial,
  fun m ρ _ => Kernel3.Gen.frame m ρ,
  fun m ρ _ => Kernel3Ideal.Gen.frame m ρ,
  reference3_frame,
  fun m ρ _ => Kernel4.Gen.frame m ρ,
  fun m ρ _ => Kernel4Ideal.Gen.frame m ρ,
  reference4_frame,
  fun m ρ _ => Kernel6.Gen.frame m ρ,
  fun m ρ _ => Kernel6Ideal.Gen.frame m ρ,
  reference6_frame,
  fun m ρ _ => Kernel5.Gen.frame m ρ,
  fun m ρ _ => Kernel5Ideal.Gen.frame m ρ,
  reference5_frame,
  fun m ρ _ => Kernel7.Gen.frame m ρ,
  fun m ρ _ => Kernel7Ideal.Gen.frame m ρ,
  reference7_frame,
  fun m ρ _ => Kernel8.Gen.frame m ρ,
  fun m ρ _ => Kernel8Ideal.Gen.frame m ρ,
  reference8_frame,
  fun m ρ _ => Kernel9.Gen.frame m ρ,
  fun m ρ _ => Kernel9Ideal.Gen.frame m ρ,
  reference9_frame,
  fun m ρ _ => Kernel10.Gen.frame m ρ,
  fun m ρ _ => Kernel10Ideal.Gen.frame m ρ,
  reference10_frame,
  fun m ρ _ => Kernel11.Gen.frame m ρ,
  fun m ρ _ => Kernel11Ideal.Gen.frame m ρ,
  reference11_frame,
  fun m ρ _ => Kernel12.Gen.frame m ρ,
  fun m ρ _ => Kernel12Ideal.Gen.frame m ρ,
  reference12_frame,
  fun m ρ _ => Kernel13.Gen.frame m ρ,
  fun m ρ _ => Kernel13Ideal.Gen.frame m ρ,
  reference13_frame,
  fun m ρ _ => Kernel14.Gen.frame m ρ,
  fun m ρ _ => Kernel14Ideal.Gen.frame m ρ,
  reference14_frame,
  fun m ρ _ => Kernel15.Gen.frame m ρ,
  fun m ρ _ => Kernel15Ideal.Gen.frame m ρ,
  reference15_frame,
  fun m ρ _ => Kernel16.Gen.frame m ρ,
  fun m ρ _ => Kernel16Ideal.Gen.frame m ρ,
  reference16_frame,
  fun m ρ _ => Kernel17.Gen.frame m ρ,
  fun m ρ _ => Kernel17Ideal.Gen.frame m ρ,
  reference17_frame,
  fun m ρ _ => Kernel18.Gen.frame m ρ,
  fun m ρ _ => Kernel18Ideal.Gen.frame m ρ,
  reference18_frame,
  fun m ρ _ => Kernel19.Gen.frame m ρ,
  fun m ρ _ => Kernel19Ideal.Gen.frame m ρ,
  fun m ρ _ => Kernel19Ideal.Gen.frame m ρ,
  reference19_frame,
  fun m ρ _ => reference19_frame m ρ trivial,
  fun m ρ _ => Kernel20.Gen.frame m ρ,
  fun m ρ _ => Kernel20Ideal.Gen.frame m ρ,
  fun m ρ _ => Kernel20Ideal.Gen.frame m ρ,
  reference20_frame,
  fun m ρ _ => reference20_frame m ρ trivial,
  ⟨IdealRules.named_const.statement KernelIdeal.κ "inv_sqrt2" .f32 0x3F3504F3#32 (((Real.sqrt 2)⁻¹ : ℝ) : EReal) rfl,
   IdealRules.named_const.statement KernelIdeal.κ "inv_sqrt2pi" .f32 0x3ECC422A#32 (((Real.sqrt (2 * Real.pi))⁻¹ : ℝ) : EReal) rfl⟩,
  values,
  trivial, values2,
  trivial, values3,
  trivial, values4,
  trivial, values6,
  trivial, values5,
  trivial, values7,
  trivial, values8,
  trivial, values9,
  trivial, values10,
  trivial, values11,
  trivial, values12,
  trivial, values13,
  trivial, values14,
  trivial, values15,
  trivial, values16,
  trivial, values17,
  trivial, values18,
  trivial, values19,
  trivial, values20⟩

end Cert.Proof

end
